-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_InProjPrompt (m : (ℓ : Loc Cert.InProjPrompt.nD Cert.InProjPrompt.τ Cert.InProjPrompt.sig) → Buf (Elt Bits) ℓ) : Prop :=
  True

def Pre_InProjPromptIdeal (m : (ℓ : Loc Cert.InProjPromptIdeal.nD Cert.InProjPromptIdeal.τ Cert.InProjPromptIdeal.sig) → Buf (Elt Ideal) ℓ) : Prop :=
  True

def Pre_InProjPromptReferenceIdeal (m : (ℓ : Loc Cert.InProjPromptReferenceIdeal.nD Cert.InProjPromptReferenceIdeal.τ Cert.InProjPromptReferenceIdeal.sig) → Buf (Elt Ideal) ℓ) : Prop :=
  True

def Pre_Branches (m : (ℓ : Loc Cert.Branches.nD Cert.Branches.τ Cert.Branches.sig) → Buf (Elt Bits) ℓ) : Prop :=
  True

def Pre_BranchesIdeal (m : (ℓ : Loc Cert.BranchesIdeal.nD Cert.BranchesIdeal.τ Cert.BranchesIdeal.sig) → Buf (Elt Ideal) ℓ) : Prop :=
  True

def Pre_BranchesReferenceIdeal (m : (ℓ : Loc Cert.BranchesReferenceIdeal.nD Cert.BranchesReferenceIdeal.τ Cert.BranchesReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_BranchesPrompt (m : (ℓ : Loc Cert.BranchesPrompt.nD Cert.BranchesPrompt.τ Cert.BranchesPrompt.sig) → Buf (Elt Bits) ℓ) : Prop :=
  True

def Pre_BranchesPromptIdeal (m : (ℓ : Loc Cert.BranchesPromptIdeal.nD Cert.BranchesPromptIdeal.τ Cert.BranchesPromptIdeal.sig) → Buf (Elt Ideal) ℓ) : Prop :=
  True

def Pre_BranchesPromptReferenceIdeal (m : (ℓ : Loc Cert.BranchesPromptReferenceIdeal.nD Cert.BranchesPromptReferenceIdeal.τ Cert.BranchesPromptReferenceIdeal.sig) → Buf (Elt Ideal) ℓ) : Prop :=
  True

def Pre_OutProjPrompt (m : (ℓ : Loc Cert.OutProjPrompt.nD Cert.OutProjPrompt.τ Cert.OutProjPrompt.sig) → Buf (Elt Bits) ℓ) : Prop :=
  True

def Pre_OutProjPromptIdeal (m : (ℓ : Loc Cert.OutProjPromptIdeal.nD Cert.OutProjPromptIdeal.τ Cert.OutProjPromptIdeal.sig) → Buf (Elt Ideal) ℓ) : Prop :=
  True

def Pre_OutProjPromptReferenceIdeal (m : (ℓ : Loc Cert.OutProjPromptReferenceIdeal.nD Cert.OutProjPromptReferenceIdeal.τ Cert.OutProjPromptReferenceIdeal.sig) → Buf (Elt Ideal) ℓ) : Prop :=
  True

def Pre_FfnMid (m : (ℓ : Loc Cert.FfnMid.nD Cert.FfnMid.τ Cert.FfnMid.sig) → Buf (Elt Bits) ℓ) : Prop :=
  True

def Pre_FfnMidIdeal (m : (ℓ : Loc Cert.FfnMidIdeal.nD Cert.FfnMidIdeal.τ Cert.FfnMidIdeal.sig) → Buf (Elt Ideal) ℓ) : Prop :=
  True

def Pre_FfnMidReferenceIdeal (m : (ℓ : Loc Cert.FfnMidReferenceIdeal.nD Cert.FfnMidReferenceIdeal.τ Cert.FfnMidReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_FfnPrompt (m : (ℓ : Loc Cert.FfnPrompt.nD Cert.FfnPrompt.τ Cert.FfnPrompt.sig) → Buf (Elt Bits) ℓ) : Prop :=
  True

def Pre_FfnPromptIdeal (m : (ℓ : Loc Cert.FfnPromptIdeal.nD Cert.FfnPromptIdeal.τ Cert.FfnPromptIdeal.sig) → Buf (Elt Ideal) ℓ) : Prop :=
  True

def Pre_FfnPromptReferenceIdeal (m : (ℓ : Loc Cert.FfnPromptReferenceIdeal.nD Cert.FfnPromptReferenceIdeal.τ Cert.FfnPromptReferenceIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationReferenceIdeal (m : (ℓ : Loc Cert.ModulationReferenceIdeal.nD Cert.ModulationReferenceIdeal.τ Cert.ModulationReferenceIdeal.sig) → Buf (Elt Ideal) ℓ) : Prop :=
  True

def Pre_LowerBounds (m : (ℓ : Loc Cert.LowerBounds.nD Cert.LowerBounds.τ Cert.LowerBounds.sig) → Buf (Elt Bits) ℓ) : Prop :=
  True

def Pre_LowerBoundsIdeal (m : (ℓ : Loc Cert.LowerBoundsIdeal.nD Cert.LowerBoundsIdeal.τ Cert.LowerBoundsIdeal.sig) → Buf (Elt Ideal) ℓ) : Prop :=
  True

def Pre_LowerBoundsReferenceIdeal (m : (ℓ : Loc Cert.LowerBoundsReferenceIdeal.nD Cert.LowerBoundsReferenceIdeal.τ Cert.LowerBoundsReferenceIdeal.sig) → Buf (Elt Ideal) ℓ) : Prop :=
  True

def Pre_NormGatesPrompt (m : (ℓ : Loc Cert.NormGatesPrompt.nD Cert.NormGatesPrompt.τ Cert.NormGatesPrompt.sig) → Buf (Elt Bits) ℓ) : Prop :=
  True

def Pre_NormGatesPromptIdeal (m : (ℓ : Loc Cert.NormGatesPromptIdeal.nD Cert.NormGatesPromptIdeal.τ Cert.NormGatesPromptIdeal.sig) → Buf (Elt Ideal) ℓ) : Prop :=
  True

def Pre_NormGatesPromptReferenceIdeal (m : (ℓ : Loc Cert.NormGatesPromptReferenceIdeal.nD Cert.NormGatesPromptReferenceIdeal.τ Cert.NormGatesPromptReferenceIdeal.sig) → Buf (Elt Ideal) ℓ) : Prop :=
  True

def Pre_NormGates (m : (ℓ : Loc Cert.NormGates.nD Cert.NormGates.τ Cert.NormGates.sig) → Buf (Elt Bits) ℓ) : Prop :=
  True

def Pre_NormGatesIdeal (m : (ℓ : Loc Cert.NormGatesIdeal.nD Cert.NormGatesIdeal.τ Cert.NormGatesIdeal.sig) → Buf (Elt Ideal) ℓ) : Prop :=
  True

def Pre_NormGatesReferenceIdeal (m : (ℓ : Loc Cert.NormGatesReferenceIdeal.nD Cert.NormGatesReferenceIdeal.τ Cert.NormGatesReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2))
      ∧ r.2.sem = fun _ => 0)

def quiescent_InProjPrompt [hInProjPrompt : Cert.InProjPrompt.Facts] : Prop :=
  ∀ (m : (ℓ : Loc Cert.InProjPrompt.nD Cert.InProjPrompt.τ Cert.InProjPrompt.sig) → Buf (Elt Bits) ℓ) (g : Dev Cert.InProjPrompt.nD → PrngReg), Pre_InProjPrompt m →
    θ_run (Cert.InProjPrompt.defs (F := Bits)) (onTc (τ := Cert.InProjPrompt.τ) (Cert.InProjPrompt.main (F := Bits))) ⟨m, fun _ => 0, g⟩ (fun r => (∀ c : Dev Cert.InProjPrompt.nD,
      r.2.mem ((c.tc : Thread Cert.InProjPrompt.nD Cert.InProjPrompt.τ).loc Cert.InProjPrompt.main_arg0) = m ((c.tc : Thread Cert.InProjPrompt.nD Cert.InProjPrompt.τ).loc Cert.InProjPrompt.main_arg0)
      ∧ r.2.mem ((c.tc : Thread Cert.InProjPrompt.nD Cert.InProjPrompt.τ).loc Cert.InProjPrompt.main_arg1) = m ((c.tc : Thread Cert.InProjPrompt.nD Cert.InProjPrompt.τ).loc Cert.InProjPrompt.main_arg1)
      ∧ r.2.mem ((c.tc : Thread Cert.InProjPrompt.nD Cert.InProjPrompt.τ).loc Cert.InProjPrompt.main_arg2) = m ((c.tc : Thread Cert.InProjPrompt.nD Cert.InProjPrompt.τ).loc Cert.InProjPrompt.main_arg2)
      ∧ r.2.mem ((c.tc : Thread Cert.InProjPrompt.nD Cert.InProjPrompt.τ).loc Cert.InProjPrompt.main_arg3) = m ((c.tc : Thread Cert.InProjPrompt.nD Cert.InProjPrompt.τ).loc Cert.InProjPrompt.main_arg3)
      ∧ r.2.mem ((c.tc : Thread Cert.InProjPrompt.nD Cert.InProjPrompt.τ).loc Cert.InProjPrompt.main_arg4) = m ((c.tc : Thread Cert.InProjPrompt.nD Cert.InProjPrompt.τ).loc Cert.InProjPrompt.main_arg4)
      ∧ r.2.mem ((c.tc : Thread Cert.InProjPrompt.nD Cert.InProjPrompt.τ).loc Cert.InProjPrompt.main_arg5) = m ((c.tc : Thread Cert.InProjPrompt.nD Cert.InProjPrompt.τ).loc Cert.InProjPrompt.main_arg5)
      ∧ r.2.mem ((c.tc : Thread Cert.InProjPrompt.nD Cert.InProjPrompt.τ).loc Cert.InProjPrompt.main_arg6) = m ((c.tc : Thread Cert.InProjPrompt.nD Cert.InProjPrompt.τ).loc Cert.InProjPrompt.main_arg6)
      ∧ r.2.mem ((c.tc : Thread Cert.InProjPrompt.nD Cert.InProjPrompt.τ).loc Cert.InProjPrompt.main_arg7) = m ((c.tc : Thread Cert.InProjPrompt.nD Cert.InProjPrompt.τ).loc Cert.InProjPrompt.main_arg7))
      ∧ r.2.sem = fun _ => 0)

def quiescent_InProjPromptIdeal [hInProjPromptIdeal : Cert.InProjPromptIdeal.Facts] : Prop :=
  ∀ (m : (ℓ : Loc Cert.InProjPromptIdeal.nD Cert.InProjPromptIdeal.τ Cert.InProjPromptIdeal.sig) → Buf (Elt Ideal) ℓ) (g : Dev Cert.InProjPromptIdeal.nD → PrngReg), Pre_InProjPromptIdeal m →
    θ_run (Cert.InProjPromptIdeal.defs (F := Ideal)) (onTc (τ := Cert.InProjPromptIdeal.τ) (Cert.InProjPromptIdeal.main (F := Ideal))) ⟨m, fun _ => 0, g⟩ (fun r => (∀ c : Dev Cert.InProjPromptIdeal.nD,
      r.2.mem ((c.tc : Thread Cert.InProjPromptIdeal.nD Cert.InProjPromptIdeal.τ).loc Cert.InProjPromptIdeal.main_arg0) = m ((c.tc : Thread Cert.InProjPromptIdeal.nD Cert.InProjPromptIdeal.τ).loc Cert.InProjPromptIdeal.main_arg0)
      ∧ r.2.mem ((c.tc : Thread Cert.InProjPromptIdeal.nD Cert.InProjPromptIdeal.τ).loc Cert.InProjPromptIdeal.main_arg1) = m ((c.tc : Thread Cert.InProjPromptIdeal.nD Cert.InProjPromptIdeal.τ).loc Cert.InProjPromptIdeal.main_arg1)
      ∧ r.2.mem ((c.tc : Thread Cert.InProjPromptIdeal.nD Cert.InProjPromptIdeal.τ).loc Cert.InProjPromptIdeal.main_arg2) = m ((c.tc : Thread Cert.InProjPromptIdeal.nD Cert.InProjPromptIdeal.τ).loc Cert.InProjPromptIdeal.main_arg2)
      ∧ r.2.mem ((c.tc : Thread Cert.InProjPromptIdeal.nD Cert.InProjPromptIdeal.τ).loc Cert.InProjPromptIdeal.main_arg3) = m ((c.tc : Thread Cert.InProjPromptIdeal.nD Cert.InProjPromptIdeal.τ).loc Cert.InProjPromptIdeal.main_arg3)
      ∧ r.2.mem ((c.tc : Thread Cert.InProjPromptIdeal.nD Cert.InProjPromptIdeal.τ).loc Cert.InProjPromptIdeal.main_arg4) = m ((c.tc : Thread Cert.InProjPromptIdeal.nD Cert.InProjPromptIdeal.τ).loc Cert.InProjPromptIdeal.main_arg4)
      ∧ r.2.mem ((c.tc : Thread Cert.InProjPromptIdeal.nD Cert.InProjPromptIdeal.τ).loc Cert.InProjPromptIdeal.main_arg5) = m ((c.tc : Thread Cert.InProjPromptIdeal.nD Cert.InProjPromptIdeal.τ).loc Cert.InProjPromptIdeal.main_arg5)
      ∧ r.2.mem ((c.tc : Thread Cert.InProjPromptIdeal.nD Cert.InProjPromptIdeal.τ).loc Cert.InProjPromptIdeal.main_arg6) = m ((c.tc : Thread Cert.InProjPromptIdeal.nD Cert.InProjPromptIdeal.τ).loc Cert.InProjPromptIdeal.main_arg6)
      ∧ r.2.mem ((c.tc : Thread Cert.InProjPromptIdeal.nD Cert.InProjPromptIdeal.τ).loc Cert.InProjPromptIdeal.main_arg7) = m ((c.tc : Thread Cert.InProjPromptIdeal.nD Cert.InProjPromptIdeal.τ).loc Cert.InProjPromptIdeal.main_arg7))
      ∧ r.2.sem = fun _ => 0)

def quiescent_InProjPromptReferenceIdeal [hInProjPromptReferenceIdeal : Cert.InProjPromptReferenceIdeal.Facts] : Prop :=
  ∀ (m : (ℓ : Loc Cert.InProjPromptReferenceIdeal.nD Cert.InProjPromptReferenceIdeal.τ Cert.InProjPromptReferenceIdeal.sig) → Buf (Elt Ideal) ℓ) (g : Dev Cert.InProjPromptReferenceIdeal.nD → PrngReg), Pre_InProjPromptReferenceIdeal m →
    θ_run (Cert.InProjPromptReferenceIdeal.defs (F := Ideal)) (onTc (τ := Cert.InProjPromptReferenceIdeal.τ) (Cert.InProjPromptReferenceIdeal.main (F := Ideal))) ⟨m, fun _ => 0, g⟩ (fun r => (∀ c : Dev Cert.InProjPromptReferenceIdeal.nD,
      r.2.mem ((c.tc : Thread Cert.InProjPromptReferenceIdeal.nD Cert.InProjPromptReferenceIdeal.τ).loc Cert.InProjPromptReferenceIdeal.main_arg0) = m ((c.tc : Thread Cert.InProjPromptReferenceIdeal.nD Cert.InProjPromptReferenceIdeal.τ).loc Cert.InProjPromptReferenceIdeal.main_arg0)
      ∧ r.2.mem ((c.tc : Thread Cert.InProjPromptReferenceIdeal.nD Cert.InProjPromptReferenceIdeal.τ).loc Cert.InProjPromptReferenceIdeal.main_arg1) = m ((c.tc : Thread Cert.InProjPromptReferenceIdeal.nD Cert.InProjPromptReferenceIdeal.τ).loc Cert.InProjPromptReferenceIdeal.main_arg1)
      ∧ r.2.mem ((c.tc : Thread Cert.InProjPromptReferenceIdeal.nD Cert.InProjPromptReferenceIdeal.τ).loc Cert.InProjPromptReferenceIdeal.main_arg2) = m ((c.tc : Thread Cert.InProjPromptReferenceIdeal.nD Cert.InProjPromptReferenceIdeal.τ).loc Cert.InProjPromptReferenceIdeal.main_arg2)
      ∧ r.2.mem ((c.tc : Thread Cert.InProjPromptReferenceIdeal.nD Cert.InProjPromptReferenceIdeal.τ).loc Cert.InProjPromptReferenceIdeal.main_arg3) = m ((c.tc : Thread Cert.InProjPromptReferenceIdeal.nD Cert.InProjPromptReferenceIdeal.τ).loc Cert.InProjPromptReferenceIdeal.main_arg3)
      ∧ r.2.mem ((c.tc : Thread Cert.InProjPromptReferenceIdeal.nD Cert.InProjPromptReferenceIdeal.τ).loc Cert.InProjPromptReferenceIdeal.main_arg4) = m ((c.tc : Thread Cert.InProjPromptReferenceIdeal.nD Cert.InProjPromptReferenceIdeal.τ).loc Cert.InProjPromptReferenceIdeal.main_arg4)
      ∧ r.2.mem ((c.tc : Thread Cert.InProjPromptReferenceIdeal.nD Cert.InProjPromptReferenceIdeal.τ).loc Cert.InProjPromptReferenceIdeal.main_arg5) = m ((c.tc : Thread Cert.InProjPromptReferenceIdeal.nD Cert.InProjPromptReferenceIdeal.τ).loc Cert.InProjPromptReferenceIdeal.main_arg5)
      ∧ r.2.mem ((c.tc : Thread Cert.InProjPromptReferenceIdeal.nD Cert.InProjPromptReferenceIdeal.τ).loc Cert.InProjPromptReferenceIdeal.main_arg6) = m ((c.tc : Thread Cert.InProjPromptReferenceIdeal.nD Cert.InProjPromptReferenceIdeal.τ).loc Cert.InProjPromptReferenceIdeal.main_arg6)
      ∧ r.2.mem ((c.tc : Thread Cert.InProjPromptReferenceIdeal.nD Cert.InProjPromptReferenceIdeal.τ).loc Cert.InProjPromptReferenceIdeal.main_arg7) = m ((c.tc : Thread Cert.InProjPromptReferenceIdeal.nD Cert.InProjPromptReferenceIdeal.τ).loc Cert.InProjPromptReferenceIdeal.main_arg7))
      ∧ r.2.sem = fun _ => 0)

def quiescent_Branches [hBranches : Cert.Branches.Facts] : Prop :=
  ∀ (m : (ℓ : Loc Cert.Branches.nD Cert.Branches.τ Cert.Branches.sig) → Buf (Elt Bits) ℓ) (g : Dev Cert.Branches.nD → PrngReg), Pre_Branches m →
    θ_run (Cert.Branches.defs (F := Bits)) (onTc (τ := Cert.Branches.τ) (Cert.Branches.main (F := Bits))) ⟨m, fun _ => 0, g⟩ (fun r => (∀ c : Dev Cert.Branches.nD,
      r.2.mem ((c.tc : Thread Cert.Branches.nD Cert.Branches.τ).loc Cert.Branches.main_arg0) = m ((c.tc : Thread Cert.Branches.nD Cert.Branches.τ).loc Cert.Branches.main_arg0)
      ∧ r.2.mem ((c.tc : Thread Cert.Branches.nD Cert.Branches.τ).loc Cert.Branches.main_arg1) = m ((c.tc : Thread Cert.Branches.nD Cert.Branches.τ).loc Cert.Branches.main_arg1)
      ∧ r.2.mem ((c.tc : Thread Cert.Branches.nD Cert.Branches.τ).loc Cert.Branches.main_arg2) = m ((c.tc : Thread Cert.Branches.nD Cert.Branches.τ).loc Cert.Branches.main_arg2)
      ∧ r.2.mem ((c.tc : Thread Cert.Branches.nD Cert.Branches.τ).loc Cert.Branches.main_arg3) = m ((c.tc : Thread Cert.Branches.nD Cert.Branches.τ).loc Cert.Branches.main_arg3)
      ∧ r.2.mem ((c.tc : Thread Cert.Branches.nD Cert.Branches.τ).loc Cert.Branches.main_arg4) = m ((c.tc : Thread Cert.Branches.nD Cert.Branches.τ).loc Cert.Branches.main_arg4))
      ∧ r.2.sem = fun _ => 0)

def quiescent_BranchesIdeal [hBranchesIdeal : Cert.BranchesIdeal.Facts] : Prop :=
  ∀ (m : (ℓ : Loc Cert.BranchesIdeal.nD Cert.BranchesIdeal.τ Cert.BranchesIdeal.sig) → Buf (Elt Ideal) ℓ) (g : Dev Cert.BranchesIdeal.nD → PrngReg), Pre_BranchesIdeal m →
    θ_run (Cert.BranchesIdeal.defs (F := Ideal)) (onTc (τ := Cert.BranchesIdeal.τ) (Cert.BranchesIdeal.main (F := Ideal))) ⟨m, fun _ => 0, g⟩ (fun r => (∀ c : Dev Cert.BranchesIdeal.nD,
      r.2.mem ((c.tc : Thread Cert.BranchesIdeal.nD Cert.BranchesIdeal.τ).loc Cert.BranchesIdeal.main_arg0) = m ((c.tc : Thread Cert.BranchesIdeal.nD Cert.BranchesIdeal.τ).loc Cert.BranchesIdeal.main_arg0)
      ∧ r.2.mem ((c.tc : Thread Cert.BranchesIdeal.nD Cert.BranchesIdeal.τ).loc Cert.BranchesIdeal.main_arg1) = m ((c.tc : Thread Cert.BranchesIdeal.nD Cert.BranchesIdeal.τ).loc Cert.BranchesIdeal.main_arg1)
      ∧ r.2.mem ((c.tc : Thread Cert.BranchesIdeal.nD Cert.BranchesIdeal.τ).loc Cert.BranchesIdeal.main_arg2) = m ((c.tc : Thread Cert.BranchesIdeal.nD Cert.BranchesIdeal.τ).loc Cert.BranchesIdeal.main_arg2)
      ∧ r.2.mem ((c.tc : Thread Cert.BranchesIdeal.nD Cert.BranchesIdeal.τ).loc Cert.BranchesIdeal.main_arg3) = m ((c.tc : Thread Cert.BranchesIdeal.nD Cert.BranchesIdeal.τ).loc Cert.BranchesIdeal.main_arg3)
      ∧ r.2.mem ((c.tc : Thread Cert.BranchesIdeal.nD Cert.BranchesIdeal.τ).loc Cert.BranchesIdeal.main_arg4) = m ((c.tc : Thread Cert.BranchesIdeal.nD Cert.BranchesIdeal.τ).loc Cert.BranchesIdeal.main_arg4))
      ∧ r.2.sem = fun _ => 0)

def quiescent_BranchesReferenceIdeal [hBranchesReferenceIdeal : Cert.BranchesReferenceIdeal.Facts] : Prop :=
  ∀ (m : (ℓ : Loc Cert.BranchesReferenceIdeal.nD Cert.BranchesReferenceIdeal.τ Cert.BranchesReferenceIdeal.sig) → Buf (Elt Ideal) ℓ) (g : Dev Cert.BranchesReferenceIdeal.nD → PrngReg), Pre_BranchesReferenceIdeal m →
    θ_run (Cert.BranchesReferenceIdeal.defs (F := Ideal)) (onTc (τ := Cert.BranchesReferenceIdeal.τ) (Cert.BranchesReferenceIdeal.main (F := Ideal))) ⟨m, fun _ => 0, g⟩ (fun r => (∀ c : Dev Cert.BranchesReferenceIdeal.nD,
      r.2.mem ((c.tc : Thread Cert.BranchesReferenceIdeal.nD Cert.BranchesReferenceIdeal.τ).loc Cert.BranchesReferenceIdeal.main_arg0) = m ((c.tc : Thread Cert.BranchesReferenceIdeal.nD Cert.BranchesReferenceIdeal.τ).loc Cert.BranchesReferenceIdeal.main_arg0)
      ∧ r.2.mem ((c.tc : Thread Cert.BranchesReferenceIdeal.nD Cert.BranchesReferenceIdeal.τ).loc Cert.BranchesReferenceIdeal.main_arg1) = m ((c.tc : Thread Cert.BranchesReferenceIdeal.nD Cert.BranchesReferenceIdeal.τ).loc Cert.BranchesReferenceIdeal.main_arg1)
      ∧ r.2.mem ((c.tc : Thread Cert.BranchesReferenceIdeal.nD Cert.BranchesReferenceIdeal.τ).loc Cert.BranchesReferenceIdeal.main_arg2) = m ((c.tc : Thread Cert.BranchesReferenceIdeal.nD Cert.BranchesReferenceIdeal.τ).loc Cert.BranchesReferenceIdeal.main_arg2)
      ∧ r.2.mem ((c.tc : Thread Cert.BranchesReferenceIdeal.nD Cert.BranchesReferenceIdeal.τ).loc Cert.BranchesReferenceIdeal.main_arg3) = m ((c.tc : Thread Cert.BranchesReferenceIdeal.nD Cert.BranchesReferenceIdeal.τ).loc Cert.BranchesReferenceIdeal.main_arg3)
      ∧ r.2.mem ((c.tc : Thread Cert.BranchesReferenceIdeal.nD Cert.BranchesReferenceIdeal.τ).loc Cert.BranchesReferenceIdeal.main_arg4) = m ((c.tc : Thread Cert.BranchesReferenceIdeal.nD Cert.BranchesReferenceIdeal.τ).loc Cert.BranchesReferenceIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3))
      ∧ r.2.sem = fun _ => 0)

def quiescent_BranchesPrompt [hBranchesPrompt : Cert.BranchesPrompt.Facts] : Prop :=
  ∀ (m : (ℓ : Loc Cert.BranchesPrompt.nD Cert.BranchesPrompt.τ Cert.BranchesPrompt.sig) → Buf (Elt Bits) ℓ) (g : Dev Cert.BranchesPrompt.nD → PrngReg), Pre_BranchesPrompt m →
    θ_run (Cert.BranchesPrompt.defs (F := Bits)) (onTc (τ := Cert.BranchesPrompt.τ) (Cert.BranchesPrompt.main (F := Bits))) ⟨m, fun _ => 0, g⟩ (fun r => (∀ c : Dev Cert.BranchesPrompt.nD,
      r.2.mem ((c.tc : Thread Cert.BranchesPrompt.nD Cert.BranchesPrompt.τ).loc Cert.BranchesPrompt.main_arg0) = m ((c.tc : Thread Cert.BranchesPrompt.nD Cert.BranchesPrompt.τ).loc Cert.BranchesPrompt.main_arg0)
      ∧ r.2.mem ((c.tc : Thread Cert.BranchesPrompt.nD Cert.BranchesPrompt.τ).loc Cert.BranchesPrompt.main_arg1) = m ((c.tc : Thread Cert.BranchesPrompt.nD Cert.BranchesPrompt.τ).loc Cert.BranchesPrompt.main_arg1)
      ∧ r.2.mem ((c.tc : Thread Cert.BranchesPrompt.nD Cert.BranchesPrompt.τ).loc Cert.BranchesPrompt.main_arg2) = m ((c.tc : Thread Cert.BranchesPrompt.nD Cert.BranchesPrompt.τ).loc Cert.BranchesPrompt.main_arg2)
      ∧ r.2.mem ((c.tc : Thread Cert.BranchesPrompt.nD Cert.BranchesPrompt.τ).loc Cert.BranchesPrompt.main_arg3) = m ((c.tc : Thread Cert.BranchesPrompt.nD Cert.BranchesPrompt.τ).loc Cert.BranchesPrompt.main_arg3)
      ∧ r.2.mem ((c.tc : Thread Cert.BranchesPrompt.nD Cert.BranchesPrompt.τ).loc Cert.BranchesPrompt.main_arg4) = m ((c.tc : Thread Cert.BranchesPrompt.nD Cert.BranchesPrompt.τ).loc Cert.BranchesPrompt.main_arg4))
      ∧ r.2.sem = fun _ => 0)

def quiescent_BranchesPromptIdeal [hBranchesPromptIdeal : Cert.BranchesPromptIdeal.Facts] : Prop :=
  ∀ (m : (ℓ : Loc Cert.BranchesPromptIdeal.nD Cert.BranchesPromptIdeal.τ Cert.BranchesPromptIdeal.sig) → Buf (Elt Ideal) ℓ) (g : Dev Cert.BranchesPromptIdeal.nD → PrngReg), Pre_BranchesPromptIdeal m →
    θ_run (Cert.BranchesPromptIdeal.defs (F := Ideal)) (onTc (τ := Cert.BranchesPromptIdeal.τ) (Cert.BranchesPromptIdeal.main (F := Ideal))) ⟨m, fun _ => 0, g⟩ (fun r => (∀ c : Dev Cert.BranchesPromptIdeal.nD,
      r.2.mem ((c.tc : Thread Cert.BranchesPromptIdeal.nD Cert.BranchesPromptIdeal.τ).loc Cert.BranchesPromptIdeal.main_arg0) = m ((c.tc : Thread Cert.BranchesPromptIdeal.nD Cert.BranchesPromptIdeal.τ).loc Cert.BranchesPromptIdeal.main_arg0)
      ∧ r.2.mem ((c.tc : Thread Cert.BranchesPromptIdeal.nD Cert.BranchesPromptIdeal.τ).loc Cert.BranchesPromptIdeal.main_arg1) = m ((c.tc : Thread Cert.BranchesPromptIdeal.nD Cert.BranchesPromptIdeal.τ).loc Cert.BranchesPromptIdeal.main_arg1)
      ∧ r.2.mem ((c.tc : Thread Cert.BranchesPromptIdeal.nD Cert.BranchesPromptIdeal.τ).loc Cert.BranchesPromptIdeal.main_arg2) = m ((c.tc : Thread Cert.BranchesPromptIdeal.nD Cert.BranchesPromptIdeal.τ).loc Cert.BranchesPromptIdeal.main_arg2)
      ∧ r.2.mem ((c.tc : Thread Cert.BranchesPromptIdeal.nD Cert.BranchesPromptIdeal.τ).loc Cert.BranchesPromptIdeal.main_arg3) = m ((c.tc : Thread Cert.BranchesPromptIdeal.nD Cert.BranchesPromptIdeal.τ).loc Cert.BranchesPromptIdeal.main_arg3)
      ∧ r.2.mem ((c.tc : Thread Cert.BranchesPromptIdeal.nD Cert.BranchesPromptIdeal.τ).loc Cert.BranchesPromptIdeal.main_arg4) = m ((c.tc : Thread Cert.BranchesPromptIdeal.nD Cert.BranchesPromptIdeal.τ).loc Cert.BranchesPromptIdeal.main_arg4))
      ∧ r.2.sem = fun _ => 0)

def quiescent_BranchesPromptReferenceIdeal [hBranchesPromptReferenceIdeal : Cert.BranchesPromptReferenceIdeal.Facts] : Prop :=
  ∀ (m : (ℓ : Loc Cert.BranchesPromptReferenceIdeal.nD Cert.BranchesPromptReferenceIdeal.τ Cert.BranchesPromptReferenceIdeal.sig) → Buf (Elt Ideal) ℓ) (g : Dev Cert.BranchesPromptReferenceIdeal.nD → PrngReg), Pre_BranchesPromptReferenceIdeal m →
    θ_run (Cert.BranchesPromptReferenceIdeal.defs (F := Ideal)) (onTc (τ := Cert.BranchesPromptReferenceIdeal.τ) (Cert.BranchesPromptReferenceIdeal.main (F := Ideal))) ⟨m, fun _ => 0, g⟩ (fun r => (∀ c : Dev Cert.BranchesPromptReferenceIdeal.nD,
      r.2.mem ((c.tc : Thread Cert.BranchesPromptReferenceIdeal.nD Cert.BranchesPromptReferenceIdeal.τ).loc Cert.BranchesPromptReferenceIdeal.main_arg0) = m ((c.tc : Thread Cert.BranchesPromptReferenceIdeal.nD Cert.BranchesPromptReferenceIdeal.τ).loc Cert.BranchesPromptReferenceIdeal.main_arg0)
      ∧ r.2.mem ((c.tc : Thread Cert.BranchesPromptReferenceIdeal.nD Cert.BranchesPromptReferenceIdeal.τ).loc Cert.BranchesPromptReferenceIdeal.main_arg1) = m ((c.tc : Thread Cert.BranchesPromptReferenceIdeal.nD Cert.BranchesPromptReferenceIdeal.τ).loc Cert.BranchesPromptReferenceIdeal.main_arg1)
      ∧ r.2.mem ((c.tc : Thread Cert.BranchesPromptReferenceIdeal.nD Cert.BranchesPromptReferenceIdeal.τ).loc Cert.BranchesPromptReferenceIdeal.main_arg2) = m ((c.tc : Thread Cert.BranchesPromptReferenceIdeal.nD Cert.BranchesPromptReferenceIdeal.τ).loc Cert.BranchesPromptReferenceIdeal.main_arg2)
      ∧ r.2.mem ((c.tc : Thread Cert.BranchesPromptReferenceIdeal.nD Cert.BranchesPromptReferenceIdeal.τ).loc Cert.BranchesPromptReferenceIdeal.main_arg3) = m ((c.tc : Thread Cert.BranchesPromptReferenceIdeal.nD Cert.BranchesPromptReferenceIdeal.τ).loc Cert.BranchesPromptReferenceIdeal.main_arg3)
      ∧ r.2.mem ((c.tc : Thread Cert.BranchesPromptReferenceIdeal.nD Cert.BranchesPromptReferenceIdeal.τ).loc Cert.BranchesPromptReferenceIdeal.main_arg4) = m ((c.tc : Thread Cert.BranchesPromptReferenceIdeal.nD Cert.BranchesPromptReferenceIdeal.τ).loc Cert.BranchesPromptReferenceIdeal.main_arg4))
      ∧ r.2.sem = fun _ => 0)

def quiescent_OutProjPrompt [hOutProjPrompt : Cert.OutProjPrompt.Facts] : Prop :=
  ∀ (m : (ℓ : Loc Cert.OutProjPrompt.nD Cert.OutProjPrompt.τ Cert.OutProjPrompt.sig) → Buf (Elt Bits) ℓ) (g : Dev Cert.OutProjPrompt.nD → PrngReg), Pre_OutProjPrompt m →
    θ_run (Cert.OutProjPrompt.defs (F := Bits)) (onTc (τ := Cert.OutProjPrompt.τ) (Cert.OutProjPrompt.main (F := Bits))) ⟨m, fun _ => 0, g⟩ (fun r => (∀ c : Dev Cert.OutProjPrompt.nD,
      r.2.mem ((c.tc : Thread Cert.OutProjPrompt.nD Cert.OutProjPrompt.τ).loc Cert.OutProjPrompt.main_arg0) = m ((c.tc : Thread Cert.OutProjPrompt.nD Cert.OutProjPrompt.τ).loc Cert.OutProjPrompt.main_arg0)
      ∧ r.2.mem ((c.tc : Thread Cert.OutProjPrompt.nD Cert.OutProjPrompt.τ).loc Cert.OutProjPrompt.main_arg1) = m ((c.tc : Thread Cert.OutProjPrompt.nD Cert.OutProjPrompt.τ).loc Cert.OutProjPrompt.main_arg1)
      ∧ r.2.mem ((c.tc : Thread Cert.OutProjPrompt.nD Cert.OutProjPrompt.τ).loc Cert.OutProjPrompt.main_arg2) = m ((c.tc : Thread Cert.OutProjPrompt.nD Cert.OutProjPrompt.τ).loc Cert.OutProjPrompt.main_arg2)
      ∧ r.2.mem ((c.tc : Thread Cert.OutProjPrompt.nD Cert.OutProjPrompt.τ).loc Cert.OutProjPrompt.main_arg3) = m ((c.tc : Thread Cert.OutProjPrompt.nD Cert.OutProjPrompt.τ).loc Cert.OutProjPrompt.main_arg3))
      ∧ r.2.sem = fun _ => 0)

def quiescent_OutProjPromptIdeal [hOutProjPromptIdeal : Cert.OutProjPromptIdeal.Facts] : Prop :=
  ∀ (m : (ℓ : Loc Cert.OutProjPromptIdeal.nD Cert.OutProjPromptIdeal.τ Cert.OutProjPromptIdeal.sig) → Buf (Elt Ideal) ℓ) (g : Dev Cert.OutProjPromptIdeal.nD → PrngReg), Pre_OutProjPromptIdeal m →
    θ_run (Cert.OutProjPromptIdeal.defs (F := Ideal)) (onTc (τ := Cert.OutProjPromptIdeal.τ) (Cert.OutProjPromptIdeal.main (F := Ideal))) ⟨m, fun _ => 0, g⟩ (fun r => (∀ c : Dev Cert.OutProjPromptIdeal.nD,
      r.2.mem ((c.tc : Thread Cert.OutProjPromptIdeal.nD Cert.OutProjPromptIdeal.τ).loc Cert.OutProjPromptIdeal.main_arg0) = m ((c.tc : Thread Cert.OutProjPromptIdeal.nD Cert.OutProjPromptIdeal.τ).loc Cert.OutProjPromptIdeal.main_arg0)
      ∧ r.2.mem ((c.tc : Thread Cert.OutProjPromptIdeal.nD Cert.OutProjPromptIdeal.τ).loc Cert.OutProjPromptIdeal.main_arg1) = m ((c.tc : Thread Cert.OutProjPromptIdeal.nD Cert.OutProjPromptIdeal.τ).loc Cert.OutProjPromptIdeal.main_arg1)
      ∧ r.2.mem ((c.tc : Thread Cert.OutProjPromptIdeal.nD Cert.OutProjPromptIdeal.τ).loc Cert.OutProjPromptIdeal.main_arg2) = m ((c.tc : Thread Cert.OutProjPromptIdeal.nD Cert.OutProjPromptIdeal.τ).loc Cert.OutProjPromptIdeal.main_arg2)
      ∧ r.2.mem ((c.tc : Thread Cert.OutProjPromptIdeal.nD Cert.OutProjPromptIdeal.τ).loc Cert.OutProjPromptIdeal.main_arg3) = m ((c.tc : Thread Cert.OutProjPromptIdeal.nD Cert.OutProjPromptIdeal.τ).loc Cert.OutProjPromptIdeal.main_arg3))
      ∧ r.2.sem = fun _ => 0)

def quiescent_OutProjPromptReferenceIdeal [hOutProjPromptReferenceIdeal : Cert.OutProjPromptReferenceIdeal.Facts] : Prop :=
  ∀ (m : (ℓ : Loc Cert.OutProjPromptReferenceIdeal.nD Cert.OutProjPromptReferenceIdeal.τ Cert.OutProjPromptReferenceIdeal.sig) → Buf (Elt Ideal) ℓ) (g : Dev Cert.OutProjPromptReferenceIdeal.nD → PrngReg), Pre_OutProjPromptReferenceIdeal m →
    θ_run (Cert.OutProjPromptReferenceIdeal.defs (F := Ideal)) (onTc (τ := Cert.OutProjPromptReferenceIdeal.τ) (Cert.OutProjPromptReferenceIdeal.main (F := Ideal))) ⟨m, fun _ => 0, g⟩ (fun r => (∀ c : Dev Cert.OutProjPromptReferenceIdeal.nD,
      r.2.mem ((c.tc : Thread Cert.OutProjPromptReferenceIdeal.nD Cert.OutProjPromptReferenceIdeal.τ).loc Cert.OutProjPromptReferenceIdeal.main_arg0) = m ((c.tc : Thread Cert.OutProjPromptReferenceIdeal.nD Cert.OutProjPromptReferenceIdeal.τ).loc Cert.OutProjPromptReferenceIdeal.main_arg0)
      ∧ r.2.mem ((c.tc : Thread Cert.OutProjPromptReferenceIdeal.nD Cert.OutProjPromptReferenceIdeal.τ).loc Cert.OutProjPromptReferenceIdeal.main_arg1) = m ((c.tc : Thread Cert.OutProjPromptReferenceIdeal.nD Cert.OutProjPromptReferenceIdeal.τ).loc Cert.OutProjPromptReferenceIdeal.main_arg1)
      ∧ r.2.mem ((c.tc : Thread Cert.OutProjPromptReferenceIdeal.nD Cert.OutProjPromptReferenceIdeal.τ).loc Cert.OutProjPromptReferenceIdeal.main_arg2) = m ((c.tc : Thread Cert.OutProjPromptReferenceIdeal.nD Cert.OutProjPromptReferenceIdeal.τ).loc Cert.OutProjPromptReferenceIdeal.main_arg2)
      ∧ r.2.mem ((c.tc : Thread Cert.OutProjPromptReferenceIdeal.nD Cert.OutProjPromptReferenceIdeal.τ).loc Cert.OutProjPromptReferenceIdeal.main_arg3) = m ((c.tc : Thread Cert.OutProjPromptReferenceIdeal.nD Cert.OutProjPromptReferenceIdeal.τ).loc Cert.OutProjPromptReferenceIdeal.main_arg3))
      ∧ r.2.sem = fun _ => 0)

def quiescent_FfnMid [hFfnMid : Cert.FfnMid.Facts] : Prop :=
  ∀ (m : (ℓ : Loc Cert.FfnMid.nD Cert.FfnMid.τ Cert.FfnMid.sig) → Buf (Elt Bits) ℓ) (g : Dev Cert.FfnMid.nD → PrngReg), Pre_FfnMid m →
    θ_run (Cert.FfnMid.defs (F := Bits)) (onTc (τ := Cert.FfnMid.τ) (Cert.FfnMid.main (F := Bits))) ⟨m, fun _ => 0, g⟩ (fun r => (∀ c : Dev Cert.FfnMid.nD,
      r.2.mem ((c.tc : Thread Cert.FfnMid.nD Cert.FfnMid.τ).loc Cert.FfnMid.main_arg0) = m ((c.tc : Thread Cert.FfnMid.nD Cert.FfnMid.τ).loc Cert.FfnMid.main_arg0)
      ∧ r.2.mem ((c.tc : Thread Cert.FfnMid.nD Cert.FfnMid.τ).loc Cert.FfnMid.main_arg1) = m ((c.tc : Thread Cert.FfnMid.nD Cert.FfnMid.τ).loc Cert.FfnMid.main_arg1)
      ∧ r.2.mem ((c.tc : Thread Cert.FfnMid.nD Cert.FfnMid.τ).loc Cert.FfnMid.main_arg2) = m ((c.tc : Thread Cert.FfnMid.nD Cert.FfnMid.τ).loc Cert.FfnMid.main_arg2)
      ∧ r.2.mem ((c.tc : Thread Cert.FfnMid.nD Cert.FfnMid.τ).loc Cert.FfnMid.main_arg3) = m ((c.tc : Thread Cert.FfnMid.nD Cert.FfnMid.τ).loc Cert.FfnMid.main_arg3)
      ∧ r.2.mem ((c.tc : Thread Cert.FfnMid.nD Cert.FfnMid.τ).loc Cert.FfnMid.main_arg4) = m ((c.tc : Thread Cert.FfnMid.nD Cert.FfnMid.τ).loc Cert.FfnMid.main_arg4)
      ∧ r.2.mem ((c.tc : Thread Cert.FfnMid.nD Cert.FfnMid.τ).loc Cert.FfnMid.main_arg5) = m ((c.tc : Thread Cert.FfnMid.nD Cert.FfnMid.τ).loc Cert.FfnMid.main_arg5))
      ∧ r.2.sem = fun _ => 0)

def quiescent_FfnMidIdeal [hFfnMidIdeal : Cert.FfnMidIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg), Pre_FfnMidIdeal m →
    θ_run (Cert.FfnMidIdeal.defs (F := Ideal)) (onTc (τ := Cert.FfnMidIdeal.τ) (Cert.FfnMidIdeal.main (F := Ideal))) ⟨m, fun _ => 0, g⟩ (fun r => (∀ c : Dev Cert.FfnMidIdeal.nD,
      r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
      ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
      ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
      ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
      ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4)
      ∧ r.2.mem ((c.tc : Thread Cert.FfnMidIdeal.nD Cert.FfnMidIdeal.τ).loc Cert.FfnMidIdeal.main_arg5) = m ((c.tc : Thread Cert.FfnMidIdeal.nD Cert.FfnMidIdeal.τ).loc Cert.FfnMidIdeal.main_arg5))
      ∧ r.2.sem = fun _ => 0)

def quiescent_FfnMidReferenceIdeal [hFfnMidReferenceIdeal : Cert.FfnMidReferenceIdeal.Facts] : Prop :=
  ∀ (m : (ℓ : Loc Cert.FfnMidReferenceIdeal.nD Cert.FfnMidReferenceIdeal.τ Cert.FfnMidReferenceIdeal.sig) → Buf (Elt Ideal) ℓ) (g : Dev Cert.FfnMidReferenceIdeal.nD → PrngReg), Pre_FfnMidReferenceIdeal m →
    θ_run (Cert.FfnMidReferenceIdeal.defs (F := Ideal)) (onTc (τ := Cert.FfnMidReferenceIdeal.τ) (Cert.FfnMidReferenceIdeal.main (F := Ideal))) ⟨m, fun _ => 0, g⟩ (fun r => (∀ c : Dev Cert.FfnMidReferenceIdeal.nD,
      r.2.mem ((c.tc : Thread Cert.FfnMidReferenceIdeal.nD Cert.FfnMidReferenceIdeal.τ).loc Cert.FfnMidReferenceIdeal.main_arg0) = m ((c.tc : Thread Cert.FfnMidReferenceIdeal.nD Cert.FfnMidReferenceIdeal.τ).loc Cert.FfnMidReferenceIdeal.main_arg0)
      ∧ r.2.mem ((c.tc : Thread Cert.FfnMidReferenceIdeal.nD Cert.FfnMidReferenceIdeal.τ).loc Cert.FfnMidReferenceIdeal.main_arg1) = m ((c.tc : Thread Cert.FfnMidReferenceIdeal.nD Cert.FfnMidReferenceIdeal.τ).loc Cert.FfnMidReferenceIdeal.main_arg1)
      ∧ r.2.mem ((c.tc : Thread Cert.FfnMidReferenceIdeal.nD Cert.FfnMidReferenceIdeal.τ).loc Cert.FfnMidReferenceIdeal.main_arg2) = m ((c.tc : Thread Cert.FfnMidReferenceIdeal.nD Cert.FfnMidReferenceIdeal.τ).loc Cert.FfnMidReferenceIdeal.main_arg2)
      ∧ r.2.mem ((c.tc : Thread Cert.FfnMidReferenceIdeal.nD Cert.FfnMidReferenceIdeal.τ).loc Cert.FfnMidReferenceIdeal.main_arg3) = m ((c.tc : Thread Cert.FfnMidReferenceIdeal.nD Cert.FfnMidReferenceIdeal.τ).loc Cert.FfnMidReferenceIdeal.main_arg3)
      ∧ r.2.mem ((c.tc : Thread Cert.FfnMidReferenceIdeal.nD Cert.FfnMidReferenceIdeal.τ).loc Cert.FfnMidReferenceIdeal.main_arg4) = m ((c.tc : Thread Cert.FfnMidReferenceIdeal.nD Cert.FfnMidReferenceIdeal.τ).loc Cert.FfnMidReferenceIdeal.main_arg4)
      ∧ r.2.mem ((c.tc : Thread Cert.FfnMidReferenceIdeal.nD Cert.FfnMidReferenceIdeal.τ).loc Cert.FfnMidReferenceIdeal.main_arg5) = m ((c.tc : Thread Cert.FfnMidReferenceIdeal.nD Cert.FfnMidReferenceIdeal.τ).loc Cert.FfnMidReferenceIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_FfnPrompt [hFfnPrompt : Cert.FfnPrompt.Facts] : Prop :=
  ∀ (m : (ℓ : Loc Cert.FfnPrompt.nD Cert.FfnPrompt.τ Cert.FfnPrompt.sig) → Buf (Elt Bits) ℓ) (g : Dev Cert.FfnPrompt.nD → PrngReg), Pre_FfnPrompt m →
    θ_run (Cert.FfnPrompt.defs (F := Bits)) (onTc (τ := Cert.FfnPrompt.τ) (Cert.FfnPrompt.main (F := Bits))) ⟨m, fun _ => 0, g⟩ (fun r => (∀ c : Dev Cert.FfnPrompt.nD,
      r.2.mem ((c.tc : Thread Cert.FfnPrompt.nD Cert.FfnPrompt.τ).loc Cert.FfnPrompt.main_arg0) = m ((c.tc : Thread Cert.FfnPrompt.nD Cert.FfnPrompt.τ).loc Cert.FfnPrompt.main_arg0)
      ∧ r.2.mem ((c.tc : Thread Cert.FfnPrompt.nD Cert.FfnPrompt.τ).loc Cert.FfnPrompt.main_arg1) = m ((c.tc : Thread Cert.FfnPrompt.nD Cert.FfnPrompt.τ).loc Cert.FfnPrompt.main_arg1)
      ∧ r.2.mem ((c.tc : Thread Cert.FfnPrompt.nD Cert.FfnPrompt.τ).loc Cert.FfnPrompt.main_arg2) = m ((c.tc : Thread Cert.FfnPrompt.nD Cert.FfnPrompt.τ).loc Cert.FfnPrompt.main_arg2)
      ∧ r.2.mem ((c.tc : Thread Cert.FfnPrompt.nD Cert.FfnPrompt.τ).loc Cert.FfnPrompt.main_arg3) = m ((c.tc : Thread Cert.FfnPrompt.nD Cert.FfnPrompt.τ).loc Cert.FfnPrompt.main_arg3)
      ∧ r.2.mem ((c.tc : Thread Cert.FfnPrompt.nD Cert.FfnPrompt.τ).loc Cert.FfnPrompt.main_arg4) = m ((c.tc : Thread Cert.FfnPrompt.nD Cert.FfnPrompt.τ).loc Cert.FfnPrompt.main_arg4)
      ∧ r.2.mem ((c.tc : Thread Cert.FfnPrompt.nD Cert.FfnPrompt.τ).loc Cert.FfnPrompt.main_arg5) = m ((c.tc : Thread Cert.FfnPrompt.nD Cert.FfnPrompt.τ).loc Cert.FfnPrompt.main_arg5))
      ∧ r.2.sem = fun _ => 0)

def quiescent_FfnPromptIdeal [hFfnPromptIdeal : Cert.FfnPromptIdeal.Facts] : Prop :=
  ∀ (m : (ℓ : Loc Cert.FfnPromptIdeal.nD Cert.FfnPromptIdeal.τ Cert.FfnPromptIdeal.sig) → Buf (Elt Ideal) ℓ) (g : Dev Cert.FfnPromptIdeal.nD → PrngReg), Pre_FfnPromptIdeal m →
    θ_run (Cert.FfnPromptIdeal.defs (F := Ideal)) (onTc (τ := Cert.FfnPromptIdeal.τ) (Cert.FfnPromptIdeal.main (F := Ideal))) ⟨m, fun _ => 0, g⟩ (fun r => (∀ c : Dev Cert.FfnPromptIdeal.nD,
      r.2.mem ((c.tc : Thread Cert.FfnPromptIdeal.nD Cert.FfnPromptIdeal.τ).loc Cert.FfnPromptIdeal.main_arg0) = m ((c.tc : Thread Cert.FfnPromptIdeal.nD Cert.FfnPromptIdeal.τ).loc Cert.FfnPromptIdeal.main_arg0)
      ∧ r.2.mem ((c.tc : Thread Cert.FfnPromptIdeal.nD Cert.FfnPromptIdeal.τ).loc Cert.FfnPromptIdeal.main_arg1) = m ((c.tc : Thread Cert.FfnPromptIdeal.nD Cert.FfnPromptIdeal.τ).loc Cert.FfnPromptIdeal.main_arg1)
      ∧ r.2.mem ((c.tc : Thread Cert.FfnPromptIdeal.nD Cert.FfnPromptIdeal.τ).loc Cert.FfnPromptIdeal.main_arg2) = m ((c.tc : Thread Cert.FfnPromptIdeal.nD Cert.FfnPromptIdeal.τ).loc Cert.FfnPromptIdeal.main_arg2)
      ∧ r.2.mem ((c.tc : Thread Cert.FfnPromptIdeal.nD Cert.FfnPromptIdeal.τ).loc Cert.FfnPromptIdeal.main_arg3) = m ((c.tc : Thread Cert.FfnPromptIdeal.nD Cert.FfnPromptIdeal.τ).loc Cert.FfnPromptIdeal.main_arg3)
      ∧ r.2.mem ((c.tc : Thread Cert.FfnPromptIdeal.nD Cert.FfnPromptIdeal.τ).loc Cert.FfnPromptIdeal.main_arg4) = m ((c.tc : Thread Cert.FfnPromptIdeal.nD Cert.FfnPromptIdeal.τ).loc Cert.FfnPromptIdeal.main_arg4)
      ∧ r.2.mem ((c.tc : Thread Cert.FfnPromptIdeal.nD Cert.FfnPromptIdeal.τ).loc Cert.FfnPromptIdeal.main_arg5) = m ((c.tc : Thread Cert.FfnPromptIdeal.nD Cert.FfnPromptIdeal.τ).loc Cert.FfnPromptIdeal.main_arg5))
      ∧ r.2.sem = fun _ => 0)

def quiescent_FfnPromptReferenceIdeal [hFfnPromptReferenceIdeal : Cert.FfnPromptReferenceIdeal.Facts] : Prop :=
  ∀ (m : (ℓ : Loc Cert.FfnPromptReferenceIdeal.nD Cert.FfnPromptReferenceIdeal.τ Cert.FfnPromptReferenceIdeal.sig) → Buf (Elt Ideal) ℓ) (g : Dev Cert.FfnPromptReferenceIdeal.nD → PrngReg), Pre_FfnPromptReferenceIdeal m →
    θ_run (Cert.FfnPromptReferenceIdeal.defs (F := Ideal)) (onTc (τ := Cert.FfnPromptReferenceIdeal.τ) (Cert.FfnPromptReferenceIdeal.main (F := Ideal))) ⟨m, fun _ => 0, g⟩ (fun r => (∀ c : Dev Cert.FfnPromptReferenceIdeal.nD,
      r.2.mem ((c.tc : Thread Cert.FfnPromptReferenceIdeal.nD Cert.FfnPromptReferenceIdeal.τ).loc Cert.FfnPromptReferenceIdeal.main_arg0) = m ((c.tc : Thread Cert.FfnPromptReferenceIdeal.nD Cert.FfnPromptReferenceIdeal.τ).loc Cert.FfnPromptReferenceIdeal.main_arg0)
      ∧ r.2.mem ((c.tc : Thread Cert.FfnPromptReferenceIdeal.nD Cert.FfnPromptReferenceIdeal.τ).loc Cert.FfnPromptReferenceIdeal.main_arg1) = m ((c.tc : Thread Cert.FfnPromptReferenceIdeal.nD Cert.FfnPromptReferenceIdeal.τ).loc Cert.FfnPromptReferenceIdeal.main_arg1)
      ∧ r.2.mem ((c.tc : Thread Cert.FfnPromptReferenceIdeal.nD Cert.FfnPromptReferenceIdeal.τ).loc Cert.FfnPromptReferenceIdeal.main_arg2) = m ((c.tc : Thread Cert.FfnPromptReferenceIdeal.nD Cert.FfnPromptReferenceIdeal.τ).loc Cert.FfnPromptReferenceIdeal.main_arg2)
      ∧ r.2.mem ((c.tc : Thread Cert.FfnPromptReferenceIdeal.nD Cert.FfnPromptReferenceIdeal.τ).loc Cert.FfnPromptReferenceIdeal.main_arg3) = m ((c.tc : Thread Cert.FfnPromptReferenceIdeal.nD Cert.FfnPromptReferenceIdeal.τ).loc Cert.FfnPromptReferenceIdeal.main_arg3)
      ∧ r.2.mem ((c.tc : Thread Cert.FfnPromptReferenceIdeal.nD Cert.FfnPromptReferenceIdeal.τ).loc Cert.FfnPromptReferenceIdeal.main_arg4) = m ((c.tc : Thread Cert.FfnPromptReferenceIdeal.nD Cert.FfnPromptReferenceIdeal.τ).loc Cert.FfnPromptReferenceIdeal.main_arg4)
      ∧ r.2.mem ((c.tc : Thread Cert.FfnPromptReferenceIdeal.nD Cert.FfnPromptReferenceIdeal.τ).loc Cert.FfnPromptReferenceIdeal.main_arg5) = m ((c.tc : Thread Cert.FfnPromptReferenceIdeal.nD Cert.FfnPromptReferenceIdeal.τ).loc Cert.FfnPromptReferenceIdeal.main_arg5))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2)
      ∧ r.2.mem ((c.tc : Thread Cert.Modulation.nD Cert.Modulation.τ).loc Cert.Modulation.main_arg3) = m ((c.tc : Thread Cert.Modulation.nD Cert.Modulation.τ).loc Cert.Modulation.main_arg3))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
      ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3))
      ∧ r.2.sem = fun _ => 0)

def quiescent_ModulationReferenceIdeal [hModulationReferenceIdeal : Cert.ModulationReferenceIdeal.Facts] : Prop :=
  ∀ (m : (ℓ : Loc Cert.ModulationReferenceIdeal.nD Cert.ModulationReferenceIdeal.τ Cert.ModulationReferenceIdeal.sig) → Buf (Elt Ideal) ℓ) (g : Dev Cert.ModulationReferenceIdeal.nD → PrngReg), Pre_ModulationReferenceIdeal m →
    θ_run (Cert.ModulationReferenceIdeal.defs (F := Ideal)) (onTc (τ := Cert.ModulationReferenceIdeal.τ) (Cert.ModulationReferenceIdeal.main (F := Ideal))) ⟨m, fun _ => 0, g⟩ (fun r => (∀ c : Dev Cert.ModulationReferenceIdeal.nD,
      r.2.mem ((c.tc : Thread Cert.ModulationReferenceIdeal.nD Cert.ModulationReferenceIdeal.τ).loc Cert.ModulationReferenceIdeal.main_arg0) = m ((c.tc : Thread Cert.ModulationReferenceIdeal.nD Cert.ModulationReferenceIdeal.τ).loc Cert.ModulationReferenceIdeal.main_arg0)
      ∧ r.2.mem ((c.tc : Thread Cert.ModulationReferenceIdeal.nD Cert.ModulationReferenceIdeal.τ).loc Cert.ModulationReferenceIdeal.main_arg1) = m ((c.tc : Thread Cert.ModulationReferenceIdeal.nD Cert.ModulationReferenceIdeal.τ).loc Cert.ModulationReferenceIdeal.main_arg1)
      ∧ r.2.mem ((c.tc : Thread Cert.ModulationReferenceIdeal.nD Cert.ModulationReferenceIdeal.τ).loc Cert.ModulationReferenceIdeal.main_arg2) = m ((c.tc : Thread Cert.ModulationReferenceIdeal.nD Cert.ModulationReferenceIdeal.τ).loc Cert.ModulationReferenceIdeal.main_arg2)
      ∧ r.2.mem ((c.tc : Thread Cert.ModulationReferenceIdeal.nD Cert.ModulationReferenceIdeal.τ).loc Cert.ModulationReferenceIdeal.main_arg3) = m ((c.tc : Thread Cert.ModulationReferenceIdeal.nD Cert.ModulationReferenceIdeal.τ).loc Cert.ModulationReferenceIdeal.main_arg3))
      ∧ r.2.sem = fun _ => 0)

def quiescent_LowerBounds [hLowerBounds : Cert.LowerBounds.Facts] : Prop :=
  ∀ (m : (ℓ : Loc Cert.LowerBounds.nD Cert.LowerBounds.τ Cert.LowerBounds.sig) → Buf (Elt Bits) ℓ) (g : Dev Cert.LowerBounds.nD → PrngReg), Pre_LowerBounds m →
    θ_run (Cert.LowerBounds.defs (F := Bits)) (onTc (τ := Cert.LowerBounds.τ) (Cert.LowerBounds.main (F := Bits))) ⟨m, fun _ => 0, g⟩ (fun r => (∀ c : Dev Cert.LowerBounds.nD,
      r.2.mem ((c.tc : Thread Cert.LowerBounds.nD Cert.LowerBounds.τ).loc Cert.LowerBounds.main_arg0) = m ((c.tc : Thread Cert.LowerBounds.nD Cert.LowerBounds.τ).loc Cert.LowerBounds.main_arg0))
      ∧ r.2.sem = fun _ => 0)

def quiescent_LowerBoundsIdeal [hLowerBoundsIdeal : Cert.LowerBoundsIdeal.Facts] : Prop :=
  ∀ (m : (ℓ : Loc Cert.LowerBoundsIdeal.nD Cert.LowerBoundsIdeal.τ Cert.LowerBoundsIdeal.sig) → Buf (Elt Ideal) ℓ) (g : Dev Cert.LowerBoundsIdeal.nD → PrngReg), Pre_LowerBoundsIdeal m →
    θ_run (Cert.LowerBoundsIdeal.defs (F := Ideal)) (onTc (τ := Cert.LowerBoundsIdeal.τ) (Cert.LowerBoundsIdeal.main (F := Ideal))) ⟨m, fun _ => 0, g⟩ (fun r => (∀ c : Dev Cert.LowerBoundsIdeal.nD,
      r.2.mem ((c.tc : Thread Cert.LowerBoundsIdeal.nD Cert.LowerBoundsIdeal.τ).loc Cert.LowerBoundsIdeal.main_arg0) = m ((c.tc : Thread Cert.LowerBoundsIdeal.nD Cert.LowerBoundsIdeal.τ).loc Cert.LowerBoundsIdeal.main_arg0))
      ∧ r.2.sem = fun _ => 0)

def quiescent_LowerBoundsReferenceIdeal [hLowerBoundsReferenceIdeal : Cert.LowerBoundsReferenceIdeal.Facts] : Prop :=
  ∀ (m : (ℓ : Loc Cert.LowerBoundsReferenceIdeal.nD Cert.LowerBoundsReferenceIdeal.τ Cert.LowerBoundsReferenceIdeal.sig) → Buf (Elt Ideal) ℓ) (g : Dev Cert.LowerBoundsReferenceIdeal.nD → PrngReg), Pre_LowerBoundsReferenceIdeal m →
    θ_run (Cert.LowerBoundsReferenceIdeal.defs (F := Ideal)) (onTc (τ := Cert.LowerBoundsReferenceIdeal.τ) (Cert.LowerBoundsReferenceIdeal.main (F := Ideal))) ⟨m, fun _ => 0, g⟩ (fun r => (∀ c : Dev Cert.LowerBoundsReferenceIdeal.nD,
      r.2.mem ((c.tc : Thread Cert.LowerBoundsReferenceIdeal.nD Cert.LowerBoundsReferenceIdeal.τ).loc Cert.LowerBoundsReferenceIdeal.main_arg0) = m ((c.tc : Thread Cert.LowerBoundsReferenceIdeal.nD Cert.LowerBoundsReferenceIdeal.τ).loc Cert.LowerBoundsReferenceIdeal.main_arg0))
      ∧ r.2.sem = fun _ => 0)

def quiescent_NormGatesPrompt [hNormGatesPrompt : Cert.NormGatesPrompt.Facts] : Prop :=
  ∀ (m : (ℓ : Loc Cert.NormGatesPrompt.nD Cert.NormGatesPrompt.τ Cert.NormGatesPrompt.sig) → Buf (Elt Bits) ℓ) (g : Dev Cert.NormGatesPrompt.nD → PrngReg), Pre_NormGatesPrompt m →
    θ_run (Cert.NormGatesPrompt.defs (F := Bits)) (onTc (τ := Cert.NormGatesPrompt.τ) (Cert.NormGatesPrompt.main (F := Bits))) ⟨m, fun _ => 0, g⟩ (fun r => (∀ c : Dev Cert.NormGatesPrompt.nD,
      r.2.mem ((c.tc : Thread Cert.NormGatesPrompt.nD Cert.NormGatesPrompt.τ).loc Cert.NormGatesPrompt.main_arg0) = m ((c.tc : Thread Cert.NormGatesPrompt.nD Cert.NormGatesPrompt.τ).loc Cert.NormGatesPrompt.main_arg0)
      ∧ r.2.mem ((c.tc : Thread Cert.NormGatesPrompt.nD Cert.NormGatesPrompt.τ).loc Cert.NormGatesPrompt.main_arg1) = m ((c.tc : Thread Cert.NormGatesPrompt.nD Cert.NormGatesPrompt.τ).loc Cert.NormGatesPrompt.main_arg1)
      ∧ r.2.mem ((c.tc : Thread Cert.NormGatesPrompt.nD Cert.NormGatesPrompt.τ).loc Cert.NormGatesPrompt.main_arg2) = m ((c.tc : Thread Cert.NormGatesPrompt.nD Cert.NormGatesPrompt.τ).loc Cert.NormGatesPrompt.main_arg2)
      ∧ r.2.mem ((c.tc : Thread Cert.NormGatesPrompt.nD Cert.NormGatesPrompt.τ).loc Cert.NormGatesPrompt.main_arg3) = m ((c.tc : Thread Cert.NormGatesPrompt.nD Cert.NormGatesPrompt.τ).loc Cert.NormGatesPrompt.main_arg3)
      ∧ r.2.mem ((c.tc : Thread Cert.NormGatesPrompt.nD Cert.NormGatesPrompt.τ).loc Cert.NormGatesPrompt.main_arg4) = m ((c.tc : Thread Cert.NormGatesPrompt.nD Cert.NormGatesPrompt.τ).loc Cert.NormGatesPrompt.main_arg4))
      ∧ r.2.sem = fun _ => 0)

def quiescent_NormGatesPromptIdeal [hNormGatesPromptIdeal : Cert.NormGatesPromptIdeal.Facts] : Prop :=
  ∀ (m : (ℓ : Loc Cert.NormGatesPromptIdeal.nD Cert.NormGatesPromptIdeal.τ Cert.NormGatesPromptIdeal.sig) → Buf (Elt Ideal) ℓ) (g : Dev Cert.NormGatesPromptIdeal.nD → PrngReg), Pre_NormGatesPromptIdeal m →
    θ_run (Cert.NormGatesPromptIdeal.defs (F := Ideal)) (onTc (τ := Cert.NormGatesPromptIdeal.τ) (Cert.NormGatesPromptIdeal.main (F := Ideal))) ⟨m, fun _ => 0, g⟩ (fun r => (∀ c : Dev Cert.NormGatesPromptIdeal.nD,
      r.2.mem ((c.tc : Thread Cert.NormGatesPromptIdeal.nD Cert.NormGatesPromptIdeal.τ).loc Cert.NormGatesPromptIdeal.main_arg0) = m ((c.tc : Thread Cert.NormGatesPromptIdeal.nD Cert.NormGatesPromptIdeal.τ).loc Cert.NormGatesPromptIdeal.main_arg0)
      ∧ r.2.mem ((c.tc : Thread Cert.NormGatesPromptIdeal.nD Cert.NormGatesPromptIdeal.τ).loc Cert.NormGatesPromptIdeal.main_arg1) = m ((c.tc : Thread Cert.NormGatesPromptIdeal.nD Cert.NormGatesPromptIdeal.τ).loc Cert.NormGatesPromptIdeal.main_arg1)
      ∧ r.2.mem ((c.tc : Thread Cert.NormGatesPromptIdeal.nD Cert.NormGatesPromptIdeal.τ).loc Cert.NormGatesPromptIdeal.main_arg2) = m ((c.tc : Thread Cert.NormGatesPromptIdeal.nD Cert.NormGatesPromptIdeal.τ).loc Cert.NormGatesPromptIdeal.main_arg2)
      ∧ r.2.mem ((c.tc : Thread Cert.NormGatesPromptIdeal.nD Cert.NormGatesPromptIdeal.τ).loc Cert.NormGatesPromptIdeal.main_arg3) = m ((c.tc : Thread Cert.NormGatesPromptIdeal.nD Cert.NormGatesPromptIdeal.τ).loc Cert.NormGatesPromptIdeal.main_arg3)
      ∧ r.2.mem ((c.tc : Thread Cert.NormGatesPromptIdeal.nD Cert.NormGatesPromptIdeal.τ).loc Cert.NormGatesPromptIdeal.main_arg4) = m ((c.tc : Thread Cert.NormGatesPromptIdeal.nD Cert.NormGatesPromptIdeal.τ).loc Cert.NormGatesPromptIdeal.main_arg4))
      ∧ r.2.sem = fun _ => 0)

def quiescent_NormGatesPromptReferenceIdeal [hNormGatesPromptReferenceIdeal : Cert.NormGatesPromptReferenceIdeal.Facts] : Prop :=
  ∀ (m : (ℓ : Loc Cert.NormGatesPromptReferenceIdeal.nD Cert.NormGatesPromptReferenceIdeal.τ Cert.NormGatesPromptReferenceIdeal.sig) → Buf (Elt Ideal) ℓ) (g : Dev Cert.NormGatesPromptReferenceIdeal.nD → PrngReg), Pre_NormGatesPromptReferenceIdeal m →
    θ_run (Cert.NormGatesPromptReferenceIdeal.defs (F := Ideal)) (onTc (τ := Cert.NormGatesPromptReferenceIdeal.τ) (Cert.NormGatesPromptReferenceIdeal.main (F := Ideal))) ⟨m, fun _ => 0, g⟩ (fun r => (∀ c : Dev Cert.NormGatesPromptReferenceIdeal.nD,
      r.2.mem ((c.tc : Thread Cert.NormGatesPromptReferenceIdeal.nD Cert.NormGatesPromptReferenceIdeal.τ).loc Cert.NormGatesPromptReferenceIdeal.main_arg0) = m ((c.tc : Thread Cert.NormGatesPromptReferenceIdeal.nD Cert.NormGatesPromptReferenceIdeal.τ).loc Cert.NormGatesPromptReferenceIdeal.main_arg0)
      ∧ r.2.mem ((c.tc : Thread Cert.NormGatesPromptReferenceIdeal.nD Cert.NormGatesPromptReferenceIdeal.τ).loc Cert.NormGatesPromptReferenceIdeal.main_arg1) = m ((c.tc : Thread Cert.NormGatesPromptReferenceIdeal.nD Cert.NormGatesPromptReferenceIdeal.τ).loc Cert.NormGatesPromptReferenceIdeal.main_arg1)
      ∧ r.2.mem ((c.tc : Thread Cert.NormGatesPromptReferenceIdeal.nD Cert.NormGatesPromptReferenceIdeal.τ).loc Cert.NormGatesPromptReferenceIdeal.main_arg2) = m ((c.tc : Thread Cert.NormGatesPromptReferenceIdeal.nD Cert.NormGatesPromptReferenceIdeal.τ).loc Cert.NormGatesPromptReferenceIdeal.main_arg2)
      ∧ r.2.mem ((c.tc : Thread Cert.NormGatesPromptReferenceIdeal.nD Cert.NormGatesPromptReferenceIdeal.τ).loc Cert.NormGatesPromptReferenceIdeal.main_arg3) = m ((c.tc : Thread Cert.NormGatesPromptReferenceIdeal.nD Cert.NormGatesPromptReferenceIdeal.τ).loc Cert.NormGatesPromptReferenceIdeal.main_arg3)
      ∧ r.2.mem ((c.tc : Thread Cert.NormGatesPromptReferenceIdeal.nD Cert.NormGatesPromptReferenceIdeal.τ).loc Cert.NormGatesPromptReferenceIdeal.main_arg4) = m ((c.tc : Thread Cert.NormGatesPromptReferenceIdeal.nD Cert.NormGatesPromptReferenceIdeal.τ).loc Cert.NormGatesPromptReferenceIdeal.main_arg4))
      ∧ r.2.sem = fun _ => 0)

def quiescent_NormGates [hNormGates : Cert.NormGates.Facts] : Prop :=
  ∀ (m : (ℓ : Loc Cert.NormGates.nD Cert.NormGates.τ Cert.NormGates.sig) → Buf (Elt Bits) ℓ) (g : Dev Cert.NormGates.nD → PrngReg), Pre_NormGates m →
    θ_run (Cert.NormGates.defs (F := Bits)) (onTc (τ := Cert.NormGates.τ) (Cert.NormGates.main (F := Bits))) ⟨m, fun _ => 0, g⟩ (fun r => (∀ c : Dev Cert.NormGates.nD,
      r.2.mem ((c.tc : Thread Cert.NormGates.nD Cert.NormGates.τ).loc Cert.NormGates.main_arg0) = m ((c.tc : Thread Cert.NormGates.nD Cert.NormGates.τ).loc Cert.NormGates.main_arg0)
      ∧ r.2.mem ((c.tc : Thread Cert.NormGates.nD Cert.NormGates.τ).loc Cert.NormGates.main_arg1) = m ((c.tc : Thread Cert.NormGates.nD Cert.NormGates.τ).loc Cert.NormGates.main_arg1)
      ∧ r.2.mem ((c.tc : Thread Cert.NormGates.nD Cert.NormGates.τ).loc Cert.NormGates.main_arg2) = m ((c.tc : Thread Cert.NormGates.nD Cert.NormGates.τ).loc Cert.NormGates.main_arg2)
      ∧ r.2.mem ((c.tc : Thread Cert.NormGates.nD Cert.NormGates.τ).loc Cert.NormGates.main_arg3) = m ((c.tc : Thread Cert.NormGates.nD Cert.NormGates.τ).loc Cert.NormGates.main_arg3)
      ∧ r.2.mem ((c.tc : Thread Cert.NormGates.nD Cert.NormGates.τ).loc Cert.NormGates.main_arg4) = m ((c.tc : Thread Cert.NormGates.nD Cert.NormGates.τ).loc Cert.NormGates.main_arg4))
      ∧ r.2.sem = fun _ => 0)

def quiescent_NormGatesIdeal [hNormGatesIdeal : Cert.NormGatesIdeal.Facts] : Prop :=
  ∀ (m : (ℓ : Loc Cert.NormGatesIdeal.nD Cert.NormGatesIdeal.τ Cert.NormGatesIdeal.sig) → Buf (Elt Ideal) ℓ) (g : Dev Cert.NormGatesIdeal.nD → PrngReg), Pre_NormGatesIdeal m →
    θ_run (Cert.NormGatesIdeal.defs (F := Ideal)) (onTc (τ := Cert.NormGatesIdeal.τ) (Cert.NormGatesIdeal.main (F := Ideal))) ⟨m, fun _ => 0, g⟩ (fun r => (∀ c : Dev Cert.NormGatesIdeal.nD,
      r.2.mem ((c.tc : Thread Cert.NormGatesIdeal.nD Cert.NormGatesIdeal.τ).loc Cert.NormGatesIdeal.main_arg0) = m ((c.tc : Thread Cert.NormGatesIdeal.nD Cert.NormGatesIdeal.τ).loc Cert.NormGatesIdeal.main_arg0)
      ∧ r.2.mem ((c.tc : Thread Cert.NormGatesIdeal.nD Cert.NormGatesIdeal.τ).loc Cert.NormGatesIdeal.main_arg1) = m ((c.tc : Thread Cert.NormGatesIdeal.nD Cert.NormGatesIdeal.τ).loc Cert.NormGatesIdeal.main_arg1)
      ∧ r.2.mem ((c.tc : Thread Cert.NormGatesIdeal.nD Cert.NormGatesIdeal.τ).loc Cert.NormGatesIdeal.main_arg2) = m ((c.tc : Thread Cert.NormGatesIdeal.nD Cert.NormGatesIdeal.τ).loc Cert.NormGatesIdeal.main_arg2)
      ∧ r.2.mem ((c.tc : Thread Cert.NormGatesIdeal.nD Cert.NormGatesIdeal.τ).loc Cert.NormGatesIdeal.main_arg3) = m ((c.tc : Thread Cert.NormGatesIdeal.nD Cert.NormGatesIdeal.τ).loc Cert.NormGatesIdeal.main_arg3)
      ∧ r.2.mem ((c.tc : Thread Cert.NormGatesIdeal.nD Cert.NormGatesIdeal.τ).loc Cert.NormGatesIdeal.main_arg4) = m ((c.tc : Thread Cert.NormGatesIdeal.nD Cert.NormGatesIdeal.τ).loc Cert.NormGatesIdeal.main_arg4))
      ∧ r.2.sem = fun _ => 0)

def quiescent_NormGatesReferenceIdeal [hNormGatesReferenceIdeal : Cert.NormGatesReferenceIdeal.Facts] : Prop :=
  ∀ (m : (ℓ : Loc Cert.NormGatesReferenceIdeal.nD Cert.NormGatesReferenceIdeal.τ Cert.NormGatesReferenceIdeal.sig) → Buf (Elt Ideal) ℓ) (g : Dev Cert.NormGatesReferenceIdeal.nD → PrngReg), Pre_NormGatesReferenceIdeal m →
    θ_run (Cert.NormGatesReferenceIdeal.defs (F := Ideal)) (onTc (τ := Cert.NormGatesReferenceIdeal.τ) (Cert.NormGatesReferenceIdeal.main (F := Ideal))) ⟨m, fun _ => 0, g⟩ (fun r => (∀ c : Dev Cert.NormGatesReferenceIdeal.nD,
      r.2.mem ((c.tc : Thread Cert.NormGatesReferenceIdeal.nD Cert.NormGatesReferenceIdeal.τ).loc Cert.NormGatesReferenceIdeal.main_arg0) = m ((c.tc : Thread Cert.NormGatesReferenceIdeal.nD Cert.NormGatesReferenceIdeal.τ).loc Cert.NormGatesReferenceIdeal.main_arg0)
      ∧ r.2.mem ((c.tc : Thread Cert.NormGatesReferenceIdeal.nD Cert.NormGatesReferenceIdeal.τ).loc Cert.NormGatesReferenceIdeal.main_arg1) = m ((c.tc : Thread Cert.NormGatesReferenceIdeal.nD Cert.NormGatesReferenceIdeal.τ).loc Cert.NormGatesReferenceIdeal.main_arg1)
      ∧ r.2.mem ((c.tc : Thread Cert.NormGatesReferenceIdeal.nD Cert.NormGatesReferenceIdeal.τ).loc Cert.NormGatesReferenceIdeal.main_arg2) = m ((c.tc : Thread Cert.NormGatesReferenceIdeal.nD Cert.NormGatesReferenceIdeal.τ).loc Cert.NormGatesReferenceIdeal.main_arg2)
      ∧ r.2.mem ((c.tc : Thread Cert.NormGatesReferenceIdeal.nD Cert.NormGatesReferenceIdeal.τ).loc Cert.NormGatesReferenceIdeal.main_arg3) = m ((c.tc : Thread Cert.NormGatesReferenceIdeal.nD Cert.NormGatesReferenceIdeal.τ).loc Cert.NormGatesReferenceIdeal.main_arg3)
      ∧ r.2.mem ((c.tc : Thread Cert.NormGatesReferenceIdeal.nD Cert.NormGatesReferenceIdeal.τ).loc Cert.NormGatesReferenceIdeal.main_arg4) = m ((c.tc : Thread Cert.NormGatesReferenceIdeal.nD Cert.NormGatesReferenceIdeal.τ).loc Cert.NormGatesReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v12_2)) (v3 : (c : Dev Cert.KernelIdeal.nD) → Buf (Elt Ideal) ((c.tc : Thread Cert.KernelIdeal.nD Cert.KernelIdeal.τ).loc Cert.KernelIdeal.main_v12_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v12_2) = v2 c
          ∧ r.2.mem ((c.tc : Thread Cert.KernelIdeal.nD Cert.KernelIdeal.τ).loc Cert.KernelIdeal.main_v12_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_v117) = v1 c
          ∧ r.2.mem ((c.tc : Thread Cert.ReferenceIdeal.nD Cert.ReferenceIdeal.τ).loc Cert.ReferenceIdeal.main_v124) = v2 c
          ∧ r.2.mem ((c.tc : Thread Cert.ReferenceIdeal.nD Cert.ReferenceIdeal.τ).loc Cert.ReferenceIdeal.main_v153) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v4)) (v1 : (c : Dev Cert.InProjIdeal.nD) → Buf (Elt Ideal) ((c.tc : Thread Cert.InProjIdeal.nD Cert.InProjIdeal.τ).loc Cert.InProjIdeal.main_v6)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v4) = v0 c
          ∧ r.2.mem ((c.tc : Thread Cert.InProjIdeal.nD Cert.InProjIdeal.τ).loc Cert.InProjIdeal.main_v6) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v9) = v0 c
          ∧ r.2.mem ((c.tc : Thread Cert.InProjReferenceIdeal.nD Cert.InProjReferenceIdeal.τ).loc Cert.InProjReferenceIdeal.main_v11) = v1 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2))

def preserves_InProjPrompt_InProjPromptIdeal : Prop :=
  True

def algebraic_InProjPromptIdeal_InProjPromptReferenceIdeal [hInProjPromptIdeal : Cert.InProjPromptIdeal.Facts] [hInProjPromptReferenceIdeal : Cert.InProjPromptReferenceIdeal.Facts] : Prop :=
  ∀ (m : (ℓ : Loc Cert.InProjPromptIdeal.nD Cert.InProjPromptIdeal.τ Cert.InProjPromptIdeal.sig) → Buf (Elt Ideal) ℓ) (g : Dev Cert.InProjPromptIdeal.nD → PrngReg)
    (m' : (ℓ : Loc Cert.InProjPromptReferenceIdeal.nD Cert.InProjPromptReferenceIdeal.τ Cert.InProjPromptReferenceIdeal.sig) → Buf (Elt Ideal) ℓ) (g' : Dev Cert.InProjPromptReferenceIdeal.nD → PrngReg), Pre_InProjPromptIdeal m →
    (∀ c : Dev Cert.InProjPromptIdeal.nD,
      m' ((c.tc : Thread Cert.InProjPromptReferenceIdeal.nD Cert.InProjPromptReferenceIdeal.τ).loc Cert.InProjPromptReferenceIdeal.main_arg0) = m ((c.tc : Thread Cert.InProjPromptIdeal.nD Cert.InProjPromptIdeal.τ).loc Cert.InProjPromptIdeal.main_arg0)
      ∧ m' ((c.tc : Thread Cert.InProjPromptReferenceIdeal.nD Cert.InProjPromptReferenceIdeal.τ).loc Cert.InProjPromptReferenceIdeal.main_arg1) = m ((c.tc : Thread Cert.InProjPromptIdeal.nD Cert.InProjPromptIdeal.τ).loc Cert.InProjPromptIdeal.main_arg1)
      ∧ m' ((c.tc : Thread Cert.InProjPromptReferenceIdeal.nD Cert.InProjPromptReferenceIdeal.τ).loc Cert.InProjPromptReferenceIdeal.main_arg2) = m ((c.tc : Thread Cert.InProjPromptIdeal.nD Cert.InProjPromptIdeal.τ).loc Cert.InProjPromptIdeal.main_arg2)
      ∧ m' ((c.tc : Thread Cert.InProjPromptReferenceIdeal.nD Cert.InProjPromptReferenceIdeal.τ).loc Cert.InProjPromptReferenceIdeal.main_arg3) = m ((c.tc : Thread Cert.InProjPromptIdeal.nD Cert.InProjPromptIdeal.τ).loc Cert.InProjPromptIdeal.main_arg3)
      ∧ m' ((c.tc : Thread Cert.InProjPromptReferenceIdeal.nD Cert.InProjPromptReferenceIdeal.τ).loc Cert.InProjPromptReferenceIdeal.main_arg4) = m ((c.tc : Thread Cert.InProjPromptIdeal.nD Cert.InProjPromptIdeal.τ).loc Cert.InProjPromptIdeal.main_arg4)
      ∧ m' ((c.tc : Thread Cert.InProjPromptReferenceIdeal.nD Cert.InProjPromptReferenceIdeal.τ).loc Cert.InProjPromptReferenceIdeal.main_arg5) = m ((c.tc : Thread Cert.InProjPromptIdeal.nD Cert.InProjPromptIdeal.τ).loc Cert.InProjPromptIdeal.main_arg5)
      ∧ m' ((c.tc : Thread Cert.InProjPromptReferenceIdeal.nD Cert.InProjPromptReferenceIdeal.τ).loc Cert.InProjPromptReferenceIdeal.main_arg6) = m ((c.tc : Thread Cert.InProjPromptIdeal.nD Cert.InProjPromptIdeal.τ).loc Cert.InProjPromptIdeal.main_arg6)
      ∧ m' ((c.tc : Thread Cert.InProjPromptReferenceIdeal.nD Cert.InProjPromptReferenceIdeal.τ).loc Cert.InProjPromptReferenceIdeal.main_arg7) = m ((c.tc : Thread Cert.InProjPromptIdeal.nD Cert.InProjPromptIdeal.τ).loc Cert.InProjPromptIdeal.main_arg7)) →
    ∃ (v0 : (c : Dev Cert.InProjPromptIdeal.nD) → Buf (Elt Ideal) ((c.tc : Thread Cert.InProjPromptIdeal.nD Cert.InProjPromptIdeal.τ).loc Cert.InProjPromptIdeal.main_v4_0)) (v1 : (c : Dev Cert.InProjPromptIdeal.nD) → Buf (Elt Ideal) ((c.tc : Thread Cert.InProjPromptIdeal.nD Cert.InProjPromptIdeal.τ).loc Cert.InProjPromptIdeal.main_v4_1)) (v2 : (c : Dev Cert.InProjPromptIdeal.nD) → Buf (Elt Ideal) ((c.tc : Thread Cert.InProjPromptIdeal.nD Cert.InProjPromptIdeal.τ).loc Cert.InProjPromptIdeal.main_v4_2)) (v3 : (c : Dev Cert.InProjPromptIdeal.nD) → Buf (Elt Ideal) ((c.tc : Thread Cert.InProjPromptIdeal.nD Cert.InProjPromptIdeal.τ).loc Cert.InProjPromptIdeal.main_v4_3)) (v4 : (c : Dev Cert.InProjPromptIdeal.nD) → Buf (Elt Ideal) ((c.tc : Thread Cert.InProjPromptIdeal.nD Cert.InProjPromptIdeal.τ).loc Cert.InProjPromptIdeal.main_v4_4)) (v5 : (c : Dev Cert.InProjPromptIdeal.nD) → Buf (Elt Ideal) ((c.tc : Thread Cert.InProjPromptIdeal.nD Cert.InProjPromptIdeal.τ).loc Cert.InProjPromptIdeal.main_v4_5)) (v6 : (c : Dev Cert.InProjPromptIdeal.nD) → Buf (Elt Ideal) ((c.tc : Thread Cert.InProjPromptIdeal.nD Cert.InProjPromptIdeal.τ).loc Cert.InProjPromptIdeal.main_v6)),
      θ_run (Cert.InProjPromptIdeal.defs (F := Ideal)) (onTc (τ := Cert.InProjPromptIdeal.τ) (Cert.InProjPromptIdeal.main (F := Ideal))) ⟨m, fun _ => 0, g⟩ (fun r => ∀ c : Dev Cert.InProjPromptIdeal.nD,
          r.2.mem ((c.tc : Thread Cert.InProjPromptIdeal.nD Cert.InProjPromptIdeal.τ).loc Cert.InProjPromptIdeal.main_v4_0) = v0 c
          ∧ r.2.mem ((c.tc : Thread Cert.InProjPromptIdeal.nD Cert.InProjPromptIdeal.τ).loc Cert.InProjPromptIdeal.main_v4_1) = v1 c
          ∧ r.2.mem ((c.tc : Thread Cert.InProjPromptIdeal.nD Cert.InProjPromptIdeal.τ).loc Cert.InProjPromptIdeal.main_v4_2) = v2 c
          ∧ r.2.mem ((c.tc : Thread Cert.InProjPromptIdeal.nD Cert.InProjPromptIdeal.τ).loc Cert.InProjPromptIdeal.main_v4_3) = v3 c
          ∧ r.2.mem ((c.tc : Thread Cert.InProjPromptIdeal.nD Cert.InProjPromptIdeal.τ).loc Cert.InProjPromptIdeal.main_v4_4) = v4 c
          ∧ r.2.mem ((c.tc : Thread Cert.InProjPromptIdeal.nD Cert.InProjPromptIdeal.τ).loc Cert.InProjPromptIdeal.main_v4_5) = v5 c
          ∧ r.2.mem ((c.tc : Thread Cert.InProjPromptIdeal.nD Cert.InProjPromptIdeal.τ).loc Cert.InProjPromptIdeal.main_v6) = v6 c
          ∧ r.2.mem ((c.tc : Thread Cert.InProjPromptIdeal.nD Cert.InProjPromptIdeal.τ).loc Cert.InProjPromptIdeal.main_arg0) = m ((c.tc : Thread Cert.InProjPromptIdeal.nD Cert.InProjPromptIdeal.τ).loc Cert.InProjPromptIdeal.main_arg0)
          ∧ r.2.mem ((c.tc : Thread Cert.InProjPromptIdeal.nD Cert.InProjPromptIdeal.τ).loc Cert.InProjPromptIdeal.main_arg1) = m ((c.tc : Thread Cert.InProjPromptIdeal.nD Cert.InProjPromptIdeal.τ).loc Cert.InProjPromptIdeal.main_arg1)
          ∧ r.2.mem ((c.tc : Thread Cert.InProjPromptIdeal.nD Cert.InProjPromptIdeal.τ).loc Cert.InProjPromptIdeal.main_arg2) = m ((c.tc : Thread Cert.InProjPromptIdeal.nD Cert.InProjPromptIdeal.τ).loc Cert.InProjPromptIdeal.main_arg2)
          ∧ r.2.mem ((c.tc : Thread Cert.InProjPromptIdeal.nD Cert.InProjPromptIdeal.τ).loc Cert.InProjPromptIdeal.main_arg3) = m ((c.tc : Thread Cert.InProjPromptIdeal.nD Cert.InProjPromptIdeal.τ).loc Cert.InProjPromptIdeal.main_arg3)
          ∧ r.2.mem ((c.tc : Thread Cert.InProjPromptIdeal.nD Cert.InProjPromptIdeal.τ).loc Cert.InProjPromptIdeal.main_arg4) = m ((c.tc : Thread Cert.InProjPromptIdeal.nD Cert.InProjPromptIdeal.τ).loc Cert.InProjPromptIdeal.main_arg4)
          ∧ r.2.mem ((c.tc : Thread Cert.InProjPromptIdeal.nD Cert.InProjPromptIdeal.τ).loc Cert.InProjPromptIdeal.main_arg5) = m ((c.tc : Thread Cert.InProjPromptIdeal.nD Cert.InProjPromptIdeal.τ).loc Cert.InProjPromptIdeal.main_arg5)
          ∧ r.2.mem ((c.tc : Thread Cert.InProjPromptIdeal.nD Cert.InProjPromptIdeal.τ).loc Cert.InProjPromptIdeal.main_arg6) = m ((c.tc : Thread Cert.InProjPromptIdeal.nD Cert.InProjPromptIdeal.τ).loc Cert.InProjPromptIdeal.main_arg6)
          ∧ r.2.mem ((c.tc : Thread Cert.InProjPromptIdeal.nD Cert.InProjPromptIdeal.τ).loc Cert.InProjPromptIdeal.main_arg7) = m ((c.tc : Thread Cert.InProjPromptIdeal.nD Cert.InProjPromptIdeal.τ).loc Cert.InProjPromptIdeal.main_arg7))
      ∧ θ_run (Cert.InProjPromptReferenceIdeal.defs (F := Ideal)) (onTc (τ := Cert.InProjPromptReferenceIdeal.τ) (Cert.InProjPromptReferenceIdeal.main (F := Ideal))) ⟨m', fun _ => 0, g'⟩ (fun r => ∀ c : Dev Cert.InProjPromptReferenceIdeal.nD,
          r.2.mem ((c.tc : Thread Cert.InProjPromptReferenceIdeal.nD Cert.InProjPromptReferenceIdeal.τ).loc Cert.InProjPromptReferenceIdeal.main_v9) = v0 c
          ∧ r.2.mem ((c.tc : Thread Cert.InProjPromptReferenceIdeal.nD Cert.InProjPromptReferenceIdeal.τ).loc Cert.InProjPromptReferenceIdeal.main_v12) = v1 c
          ∧ r.2.mem ((c.tc : Thread Cert.InProjPromptReferenceIdeal.nD Cert.InProjPromptReferenceIdeal.τ).loc Cert.InProjPromptReferenceIdeal.main_v15) = v2 c
          ∧ r.2.mem ((c.tc : Thread Cert.InProjPromptReferenceIdeal.nD Cert.InProjPromptReferenceIdeal.τ).loc Cert.InProjPromptReferenceIdeal.main_v18) = v3 c
          ∧ r.2.mem ((c.tc : Thread Cert.InProjPromptReferenceIdeal.nD Cert.InProjPromptReferenceIdeal.τ).loc Cert.InProjPromptReferenceIdeal.main_v21) = v4 c
          ∧ r.2.mem ((c.tc : Thread Cert.InProjPromptReferenceIdeal.nD Cert.InProjPromptReferenceIdeal.τ).loc Cert.InProjPromptReferenceIdeal.main_v24) = v5 c
          ∧ r.2.mem ((c.tc : Thread Cert.InProjPromptReferenceIdeal.nD Cert.InProjPromptReferenceIdeal.τ).loc Cert.InProjPromptReferenceIdeal.main_v26) = v6 c
          ∧ r.2.mem ((c.tc : Thread Cert.InProjPromptReferenceIdeal.nD Cert.InProjPromptReferenceIdeal.τ).loc Cert.InProjPromptReferenceIdeal.main_arg0) = m' ((c.tc : Thread Cert.InProjPromptReferenceIdeal.nD Cert.InProjPromptReferenceIdeal.τ).loc Cert.InProjPromptReferenceIdeal.main_arg0)
          ∧ r.2.mem ((c.tc : Thread Cert.InProjPromptReferenceIdeal.nD Cert.InProjPromptReferenceIdeal.τ).loc Cert.InProjPromptReferenceIdeal.main_arg1) = m' ((c.tc : Thread Cert.InProjPromptReferenceIdeal.nD Cert.InProjPromptReferenceIdeal.τ).loc Cert.InProjPromptReferenceIdeal.main_arg1)
          ∧ r.2.mem ((c.tc : Thread Cert.InProjPromptReferenceIdeal.nD Cert.InProjPromptReferenceIdeal.τ).loc Cert.InProjPromptReferenceIdeal.main_arg2) = m' ((c.tc : Thread Cert.InProjPromptReferenceIdeal.nD Cert.InProjPromptReferenceIdeal.τ).loc Cert.InProjPromptReferenceIdeal.main_arg2)
          ∧ r.2.mem ((c.tc : Thread Cert.InProjPromptReferenceIdeal.nD Cert.InProjPromptReferenceIdeal.τ).loc Cert.InProjPromptReferenceIdeal.main_arg3) = m' ((c.tc : Thread Cert.InProjPromptReferenceIdeal.nD Cert.InProjPromptReferenceIdeal.τ).loc Cert.InProjPromptReferenceIdeal.main_arg3)
          ∧ r.2.mem ((c.tc : Thread Cert.InProjPromptReferenceIdeal.nD Cert.InProjPromptReferenceIdeal.τ).loc Cert.InProjPromptReferenceIdeal.main_arg4) = m' ((c.tc : Thread Cert.InProjPromptReferenceIdeal.nD Cert.InProjPromptReferenceIdeal.τ).loc Cert.InProjPromptReferenceIdeal.main_arg4)
          ∧ r.2.mem ((c.tc : Thread Cert.InProjPromptReferenceIdeal.nD Cert.InProjPromptReferenceIdeal.τ).loc Cert.InProjPromptReferenceIdeal.main_arg5) = m' ((c.tc : Thread Cert.InProjPromptReferenceIdeal.nD Cert.InProjPromptReferenceIdeal.τ).loc Cert.InProjPromptReferenceIdeal.main_arg5)
          ∧ r.2.mem ((c.tc : Thread Cert.InProjPromptReferenceIdeal.nD Cert.InProjPromptReferenceIdeal.τ).loc Cert.InProjPromptReferenceIdeal.main_arg6) = m' ((c.tc : Thread Cert.InProjPromptReferenceIdeal.nD Cert.InProjPromptReferenceIdeal.τ).loc Cert.InProjPromptReferenceIdeal.main_arg6)
          ∧ r.2.mem ((c.tc : Thread Cert.InProjPromptReferenceIdeal.nD Cert.InProjPromptReferenceIdeal.τ).loc Cert.InProjPromptReferenceIdeal.main_arg7) = m' ((c.tc : Thread Cert.InProjPromptReferenceIdeal.nD Cert.InProjPromptReferenceIdeal.τ).loc Cert.InProjPromptReferenceIdeal.main_arg7))

def preserves_Branches_BranchesIdeal : Prop :=
  True

def algebraic_BranchesIdeal_BranchesReferenceIdeal [hBranchesIdeal : Cert.BranchesIdeal.Facts] [hBranchesReferenceIdeal : Cert.BranchesReferenceIdeal.Facts] : Prop :=
  ∀ (m : (ℓ : Loc Cert.BranchesIdeal.nD Cert.BranchesIdeal.τ Cert.BranchesIdeal.sig) → Buf (Elt Ideal) ℓ) (g : Dev Cert.BranchesIdeal.nD → PrngReg)
    (m' : (ℓ : Loc Cert.BranchesReferenceIdeal.nD Cert.BranchesReferenceIdeal.τ Cert.BranchesReferenceIdeal.sig) → Buf (Elt Ideal) ℓ) (g' : Dev Cert.BranchesReferenceIdeal.nD → PrngReg), Pre_BranchesIdeal m →
    (∀ c : Dev Cert.BranchesIdeal.nD,
      m' ((c.tc : Thread Cert.BranchesReferenceIdeal.nD Cert.BranchesReferenceIdeal.τ).loc Cert.BranchesReferenceIdeal.main_arg0) = m ((c.tc : Thread Cert.BranchesIdeal.nD Cert.BranchesIdeal.τ).loc Cert.BranchesIdeal.main_arg0)
      ∧ m' ((c.tc : Thread Cert.BranchesReferenceIdeal.nD Cert.BranchesReferenceIdeal.τ).loc Cert.BranchesReferenceIdeal.main_arg1) = m ((c.tc : Thread Cert.BranchesIdeal.nD Cert.BranchesIdeal.τ).loc Cert.BranchesIdeal.main_arg1)
      ∧ m' ((c.tc : Thread Cert.BranchesReferenceIdeal.nD Cert.BranchesReferenceIdeal.τ).loc Cert.BranchesReferenceIdeal.main_arg2) = m ((c.tc : Thread Cert.BranchesIdeal.nD Cert.BranchesIdeal.τ).loc Cert.BranchesIdeal.main_arg2)
      ∧ m' ((c.tc : Thread Cert.BranchesReferenceIdeal.nD Cert.BranchesReferenceIdeal.τ).loc Cert.BranchesReferenceIdeal.main_arg3) = m ((c.tc : Thread Cert.BranchesIdeal.nD Cert.BranchesIdeal.τ).loc Cert.BranchesIdeal.main_arg3)
      ∧ m' ((c.tc : Thread Cert.BranchesReferenceIdeal.nD Cert.BranchesReferenceIdeal.τ).loc Cert.BranchesReferenceIdeal.main_arg4) = m ((c.tc : Thread Cert.BranchesIdeal.nD Cert.BranchesIdeal.τ).loc Cert.BranchesIdeal.main_arg4)) →
    ∃ (v0 : (c : Dev Cert.BranchesIdeal.nD) → Buf (Elt Ideal) ((c.tc : Thread Cert.BranchesIdeal.nD Cert.BranchesIdeal.τ).loc Cert.BranchesIdeal.main_v0)),
      θ_run (Cert.BranchesIdeal.defs (F := Ideal)) (onTc (τ := Cert.BranchesIdeal.τ) (Cert.BranchesIdeal.main (F := Ideal))) ⟨m, fun _ => 0, g⟩ (fun r => ∀ c : Dev Cert.BranchesIdeal.nD,
          r.2.mem ((c.tc : Thread Cert.BranchesIdeal.nD Cert.BranchesIdeal.τ).loc Cert.BranchesIdeal.main_v0) = v0 c
          ∧ r.2.mem ((c.tc : Thread Cert.BranchesIdeal.nD Cert.BranchesIdeal.τ).loc Cert.BranchesIdeal.main_arg0) = m ((c.tc : Thread Cert.BranchesIdeal.nD Cert.BranchesIdeal.τ).loc Cert.BranchesIdeal.main_arg0)
          ∧ r.2.mem ((c.tc : Thread Cert.BranchesIdeal.nD Cert.BranchesIdeal.τ).loc Cert.BranchesIdeal.main_arg1) = m ((c.tc : Thread Cert.BranchesIdeal.nD Cert.BranchesIdeal.τ).loc Cert.BranchesIdeal.main_arg1)
          ∧ r.2.mem ((c.tc : Thread Cert.BranchesIdeal.nD Cert.BranchesIdeal.τ).loc Cert.BranchesIdeal.main_arg2) = m ((c.tc : Thread Cert.BranchesIdeal.nD Cert.BranchesIdeal.τ).loc Cert.BranchesIdeal.main_arg2)
          ∧ r.2.mem ((c.tc : Thread Cert.BranchesIdeal.nD Cert.BranchesIdeal.τ).loc Cert.BranchesIdeal.main_arg3) = m ((c.tc : Thread Cert.BranchesIdeal.nD Cert.BranchesIdeal.τ).loc Cert.BranchesIdeal.main_arg3)
          ∧ r.2.mem ((c.tc : Thread Cert.BranchesIdeal.nD Cert.BranchesIdeal.τ).loc Cert.BranchesIdeal.main_arg4) = m ((c.tc : Thread Cert.BranchesIdeal.nD Cert.BranchesIdeal.τ).loc Cert.BranchesIdeal.main_arg4))
      ∧ θ_run (Cert.BranchesReferenceIdeal.defs (F := Ideal)) (onTc (τ := Cert.BranchesReferenceIdeal.τ) (Cert.BranchesReferenceIdeal.main (F := Ideal))) ⟨m', fun _ => 0, g'⟩ (fun r => ∀ c : Dev Cert.BranchesReferenceIdeal.nD,
          r.2.mem ((c.tc : Thread Cert.BranchesReferenceIdeal.nD Cert.BranchesReferenceIdeal.τ).loc Cert.BranchesReferenceIdeal.main_v23) = v0 c
          ∧ r.2.mem ((c.tc : Thread Cert.BranchesReferenceIdeal.nD Cert.BranchesReferenceIdeal.τ).loc Cert.BranchesReferenceIdeal.main_arg0) = m' ((c.tc : Thread Cert.BranchesReferenceIdeal.nD Cert.BranchesReferenceIdeal.τ).loc Cert.BranchesReferenceIdeal.main_arg0)
          ∧ r.2.mem ((c.tc : Thread Cert.BranchesReferenceIdeal.nD Cert.BranchesReferenceIdeal.τ).loc Cert.BranchesReferenceIdeal.main_arg1) = m' ((c.tc : Thread Cert.BranchesReferenceIdeal.nD Cert.BranchesReferenceIdeal.τ).loc Cert.BranchesReferenceIdeal.main_arg1)
          ∧ r.2.mem ((c.tc : Thread Cert.BranchesReferenceIdeal.nD Cert.BranchesReferenceIdeal.τ).loc Cert.BranchesReferenceIdeal.main_arg2) = m' ((c.tc : Thread Cert.BranchesReferenceIdeal.nD Cert.BranchesReferenceIdeal.τ).loc Cert.BranchesReferenceIdeal.main_arg2)
          ∧ r.2.mem ((c.tc : Thread Cert.BranchesReferenceIdeal.nD Cert.BranchesReferenceIdeal.τ).loc Cert.BranchesReferenceIdeal.main_arg3) = m' ((c.tc : Thread Cert.BranchesReferenceIdeal.nD Cert.BranchesReferenceIdeal.τ).loc Cert.BranchesReferenceIdeal.main_arg3)
          ∧ r.2.mem ((c.tc : Thread Cert.BranchesReferenceIdeal.nD Cert.BranchesReferenceIdeal.τ).loc Cert.BranchesReferenceIdeal.main_arg4) = m' ((c.tc : Thread Cert.BranchesReferenceIdeal.nD Cert.BranchesReferenceIdeal.τ).loc Cert.BranchesReferenceIdeal.main_arg4))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v5) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3))

def preserves_BranchesPrompt_BranchesPromptIdeal : Prop :=
  True

def algebraic_BranchesPromptIdeal_BranchesPromptReferenceIdeal [hBranchesPromptIdeal : Cert.BranchesPromptIdeal.Facts] [hBranchesPromptReferenceIdeal : Cert.BranchesPromptReferenceIdeal.Facts] : Prop :=
  ∀ (m : (ℓ : Loc Cert.BranchesPromptIdeal.nD Cert.BranchesPromptIdeal.τ Cert.BranchesPromptIdeal.sig) → Buf (Elt Ideal) ℓ) (g : Dev Cert.BranchesPromptIdeal.nD → PrngReg)
    (m' : (ℓ : Loc Cert.BranchesPromptReferenceIdeal.nD Cert.BranchesPromptReferenceIdeal.τ Cert.BranchesPromptReferenceIdeal.sig) → Buf (Elt Ideal) ℓ) (g' : Dev Cert.BranchesPromptReferenceIdeal.nD → PrngReg), Pre_BranchesPromptIdeal m →
    (∀ c : Dev Cert.BranchesPromptIdeal.nD,
      m' ((c.tc : Thread Cert.BranchesPromptReferenceIdeal.nD Cert.BranchesPromptReferenceIdeal.τ).loc Cert.BranchesPromptReferenceIdeal.main_arg0) = m ((c.tc : Thread Cert.BranchesPromptIdeal.nD Cert.BranchesPromptIdeal.τ).loc Cert.BranchesPromptIdeal.main_arg0)
      ∧ m' ((c.tc : Thread Cert.BranchesPromptReferenceIdeal.nD Cert.BranchesPromptReferenceIdeal.τ).loc Cert.BranchesPromptReferenceIdeal.main_arg1) = m ((c.tc : Thread Cert.BranchesPromptIdeal.nD Cert.BranchesPromptIdeal.τ).loc Cert.BranchesPromptIdeal.main_arg1)
      ∧ m' ((c.tc : Thread Cert.BranchesPromptReferenceIdeal.nD Cert.BranchesPromptReferenceIdeal.τ).loc Cert.BranchesPromptReferenceIdeal.main_arg2) = m ((c.tc : Thread Cert.BranchesPromptIdeal.nD Cert.BranchesPromptIdeal.τ).loc Cert.BranchesPromptIdeal.main_arg2)
      ∧ m' ((c.tc : Thread Cert.BranchesPromptReferenceIdeal.nD Cert.BranchesPromptReferenceIdeal.τ).loc Cert.BranchesPromptReferenceIdeal.main_arg3) = m ((c.tc : Thread Cert.BranchesPromptIdeal.nD Cert.BranchesPromptIdeal.τ).loc Cert.BranchesPromptIdeal.main_arg3)
      ∧ m' ((c.tc : Thread Cert.BranchesPromptReferenceIdeal.nD Cert.BranchesPromptReferenceIdeal.τ).loc Cert.BranchesPromptReferenceIdeal.main_arg4) = m ((c.tc : Thread Cert.BranchesPromptIdeal.nD Cert.BranchesPromptIdeal.τ).loc Cert.BranchesPromptIdeal.main_arg4)) →
    ∃ (v0 : (c : Dev Cert.BranchesPromptIdeal.nD) → Buf (Elt Ideal) ((c.tc : Thread Cert.BranchesPromptIdeal.nD Cert.BranchesPromptIdeal.τ).loc Cert.BranchesPromptIdeal.main_v0)),
      θ_run (Cert.BranchesPromptIdeal.defs (F := Ideal)) (onTc (τ := Cert.BranchesPromptIdeal.τ) (Cert.BranchesPromptIdeal.main (F := Ideal))) ⟨m, fun _ => 0, g⟩ (fun r => ∀ c : Dev Cert.BranchesPromptIdeal.nD,
          r.2.mem ((c.tc : Thread Cert.BranchesPromptIdeal.nD Cert.BranchesPromptIdeal.τ).loc Cert.BranchesPromptIdeal.main_v0) = v0 c
          ∧ r.2.mem ((c.tc : Thread Cert.BranchesPromptIdeal.nD Cert.BranchesPromptIdeal.τ).loc Cert.BranchesPromptIdeal.main_arg0) = m ((c.tc : Thread Cert.BranchesPromptIdeal.nD Cert.BranchesPromptIdeal.τ).loc Cert.BranchesPromptIdeal.main_arg0)
          ∧ r.2.mem ((c.tc : Thread Cert.BranchesPromptIdeal.nD Cert.BranchesPromptIdeal.τ).loc Cert.BranchesPromptIdeal.main_arg1) = m ((c.tc : Thread Cert.BranchesPromptIdeal.nD Cert.BranchesPromptIdeal.τ).loc Cert.BranchesPromptIdeal.main_arg1)
          ∧ r.2.mem ((c.tc : Thread Cert.BranchesPromptIdeal.nD Cert.BranchesPromptIdeal.τ).loc Cert.BranchesPromptIdeal.main_arg2) = m ((c.tc : Thread Cert.BranchesPromptIdeal.nD Cert.BranchesPromptIdeal.τ).loc Cert.BranchesPromptIdeal.main_arg2)
          ∧ r.2.mem ((c.tc : Thread Cert.BranchesPromptIdeal.nD Cert.BranchesPromptIdeal.τ).loc Cert.BranchesPromptIdeal.main_arg3) = m ((c.tc : Thread Cert.BranchesPromptIdeal.nD Cert.BranchesPromptIdeal.τ).loc Cert.BranchesPromptIdeal.main_arg3)
          ∧ r.2.mem ((c.tc : Thread Cert.BranchesPromptIdeal.nD Cert.BranchesPromptIdeal.τ).loc Cert.BranchesPromptIdeal.main_arg4) = m ((c.tc : Thread Cert.BranchesPromptIdeal.nD Cert.BranchesPromptIdeal.τ).loc Cert.BranchesPromptIdeal.main_arg4))
      ∧ θ_run (Cert.BranchesPromptReferenceIdeal.defs (F := Ideal)) (onTc (τ := Cert.BranchesPromptReferenceIdeal.τ) (Cert.BranchesPromptReferenceIdeal.main (F := Ideal))) ⟨m', fun _ => 0, g'⟩ (fun r => ∀ c : Dev Cert.BranchesPromptReferenceIdeal.nD,
          r.2.mem ((c.tc : Thread Cert.BranchesPromptReferenceIdeal.nD Cert.BranchesPromptReferenceIdeal.τ).loc Cert.BranchesPromptReferenceIdeal.main_v23) = v0 c
          ∧ r.2.mem ((c.tc : Thread Cert.BranchesPromptReferenceIdeal.nD Cert.BranchesPromptReferenceIdeal.τ).loc Cert.BranchesPromptReferenceIdeal.main_arg0) = m' ((c.tc : Thread Cert.BranchesPromptReferenceIdeal.nD Cert.BranchesPromptReferenceIdeal.τ).loc Cert.BranchesPromptReferenceIdeal.main_arg0)
          ∧ r.2.mem ((c.tc : Thread Cert.BranchesPromptReferenceIdeal.nD Cert.BranchesPromptReferenceIdeal.τ).loc Cert.BranchesPromptReferenceIdeal.main_arg1) = m' ((c.tc : Thread Cert.BranchesPromptReferenceIdeal.nD Cert.BranchesPromptReferenceIdeal.τ).loc Cert.BranchesPromptReferenceIdeal.main_arg1)
          ∧ r.2.mem ((c.tc : Thread Cert.BranchesPromptReferenceIdeal.nD Cert.BranchesPromptReferenceIdeal.τ).loc Cert.BranchesPromptReferenceIdeal.main_arg2) = m' ((c.tc : Thread Cert.BranchesPromptReferenceIdeal.nD Cert.BranchesPromptReferenceIdeal.τ).loc Cert.BranchesPromptReferenceIdeal.main_arg2)
          ∧ r.2.mem ((c.tc : Thread Cert.BranchesPromptReferenceIdeal.nD Cert.BranchesPromptReferenceIdeal.τ).loc Cert.BranchesPromptReferenceIdeal.main_arg3) = m' ((c.tc : Thread Cert.BranchesPromptReferenceIdeal.nD Cert.BranchesPromptReferenceIdeal.τ).loc Cert.BranchesPromptReferenceIdeal.main_arg3)
          ∧ r.2.mem ((c.tc : Thread Cert.BranchesPromptReferenceIdeal.nD Cert.BranchesPromptReferenceIdeal.τ).loc Cert.BranchesPromptReferenceIdeal.main_arg4) = m' ((c.tc : Thread Cert.BranchesPromptReferenceIdeal.nD Cert.BranchesPromptReferenceIdeal.τ).loc Cert.BranchesPromptReferenceIdeal.main_arg4))

def preserves_OutProjPrompt_OutProjPromptIdeal : Prop :=
  True

def algebraic_OutProjPromptIdeal_OutProjPromptReferenceIdeal [hOutProjPromptIdeal : Cert.OutProjPromptIdeal.Facts] [hOutProjPromptReferenceIdeal : Cert.OutProjPromptReferenceIdeal.Facts] : Prop :=
  ∀ (m : (ℓ : Loc Cert.OutProjPromptIdeal.nD Cert.OutProjPromptIdeal.τ Cert.OutProjPromptIdeal.sig) → Buf (Elt Ideal) ℓ) (g : Dev Cert.OutProjPromptIdeal.nD → PrngReg)
    (m' : (ℓ : Loc Cert.OutProjPromptReferenceIdeal.nD Cert.OutProjPromptReferenceIdeal.τ Cert.OutProjPromptReferenceIdeal.sig) → Buf (Elt Ideal) ℓ) (g' : Dev Cert.OutProjPromptReferenceIdeal.nD → PrngReg), Pre_OutProjPromptIdeal m →
    (∀ c : Dev Cert.OutProjPromptIdeal.nD,
      m' ((c.tc : Thread Cert.OutProjPromptReferenceIdeal.nD Cert.OutProjPromptReferenceIdeal.τ).loc Cert.OutProjPromptReferenceIdeal.main_arg0) = m ((c.tc : Thread Cert.OutProjPromptIdeal.nD Cert.OutProjPromptIdeal.τ).loc Cert.OutProjPromptIdeal.main_arg0)
      ∧ m' ((c.tc : Thread Cert.OutProjPromptReferenceIdeal.nD Cert.OutProjPromptReferenceIdeal.τ).loc Cert.OutProjPromptReferenceIdeal.main_arg1) = m ((c.tc : Thread Cert.OutProjPromptIdeal.nD Cert.OutProjPromptIdeal.τ).loc Cert.OutProjPromptIdeal.main_arg1)
      ∧ m' ((c.tc : Thread Cert.OutProjPromptReferenceIdeal.nD Cert.OutProjPromptReferenceIdeal.τ).loc Cert.OutProjPromptReferenceIdeal.main_arg2) = m ((c.tc : Thread Cert.OutProjPromptIdeal.nD Cert.OutProjPromptIdeal.τ).loc Cert.OutProjPromptIdeal.main_arg2)
      ∧ m' ((c.tc : Thread Cert.OutProjPromptReferenceIdeal.nD Cert.OutProjPromptReferenceIdeal.τ).loc Cert.OutProjPromptReferenceIdeal.main_arg3) = m ((c.tc : Thread Cert.OutProjPromptIdeal.nD Cert.OutProjPromptIdeal.τ).loc Cert.OutProjPromptIdeal.main_arg3)) →
    ∃ (v0 : (c : Dev Cert.OutProjPromptIdeal.nD) → Buf (Elt Ideal) ((c.tc : Thread Cert.OutProjPromptIdeal.nD Cert.OutProjPromptIdeal.τ).loc Cert.OutProjPromptIdeal.main_v1)),
      θ_run (Cert.OutProjPromptIdeal.defs (F := Ideal)) (onTc (τ := Cert.OutProjPromptIdeal.τ) (Cert.OutProjPromptIdeal.main (F := Ideal))) ⟨m, fun _ => 0, g⟩ (fun r => ∀ c : Dev Cert.OutProjPromptIdeal.nD,
          r.2.mem ((c.tc : Thread Cert.OutProjPromptIdeal.nD Cert.OutProjPromptIdeal.τ).loc Cert.OutProjPromptIdeal.main_v1) = v0 c
          ∧ r.2.mem ((c.tc : Thread Cert.OutProjPromptIdeal.nD Cert.OutProjPromptIdeal.τ).loc Cert.OutProjPromptIdeal.main_arg0) = m ((c.tc : Thread Cert.OutProjPromptIdeal.nD Cert.OutProjPromptIdeal.τ).loc Cert.OutProjPromptIdeal.main_arg0)
          ∧ r.2.mem ((c.tc : Thread Cert.OutProjPromptIdeal.nD Cert.OutProjPromptIdeal.τ).loc Cert.OutProjPromptIdeal.main_arg1) = m ((c.tc : Thread Cert.OutProjPromptIdeal.nD Cert.OutProjPromptIdeal.τ).loc Cert.OutProjPromptIdeal.main_arg1)
          ∧ r.2.mem ((c.tc : Thread Cert.OutProjPromptIdeal.nD Cert.OutProjPromptIdeal.τ).loc Cert.OutProjPromptIdeal.main_arg2) = m ((c.tc : Thread Cert.OutProjPromptIdeal.nD Cert.OutProjPromptIdeal.τ).loc Cert.OutProjPromptIdeal.main_arg2)
          ∧ r.2.mem ((c.tc : Thread Cert.OutProjPromptIdeal.nD Cert.OutProjPromptIdeal.τ).loc Cert.OutProjPromptIdeal.main_arg3) = m ((c.tc : Thread Cert.OutProjPromptIdeal.nD Cert.OutProjPromptIdeal.τ).loc Cert.OutProjPromptIdeal.main_arg3))
      ∧ θ_run (Cert.OutProjPromptReferenceIdeal.defs (F := Ideal)) (onTc (τ := Cert.OutProjPromptReferenceIdeal.τ) (Cert.OutProjPromptReferenceIdeal.main (F := Ideal))) ⟨m', fun _ => 0, g'⟩ (fun r => ∀ c : Dev Cert.OutProjPromptReferenceIdeal.nD,
          r.2.mem ((c.tc : Thread Cert.OutProjPromptReferenceIdeal.nD Cert.OutProjPromptReferenceIdeal.τ).loc Cert.OutProjPromptReferenceIdeal.main_v7) = v0 c
          ∧ r.2.mem ((c.tc : Thread Cert.OutProjPromptReferenceIdeal.nD Cert.OutProjPromptReferenceIdeal.τ).loc Cert.OutProjPromptReferenceIdeal.main_arg0) = m' ((c.tc : Thread Cert.OutProjPromptReferenceIdeal.nD Cert.OutProjPromptReferenceIdeal.τ).loc Cert.OutProjPromptReferenceIdeal.main_arg0)
          ∧ r.2.mem ((c.tc : Thread Cert.OutProjPromptReferenceIdeal.nD Cert.OutProjPromptReferenceIdeal.τ).loc Cert.OutProjPromptReferenceIdeal.main_arg1) = m' ((c.tc : Thread Cert.OutProjPromptReferenceIdeal.nD Cert.OutProjPromptReferenceIdeal.τ).loc Cert.OutProjPromptReferenceIdeal.main_arg1)
          ∧ r.2.mem ((c.tc : Thread Cert.OutProjPromptReferenceIdeal.nD Cert.OutProjPromptReferenceIdeal.τ).loc Cert.OutProjPromptReferenceIdeal.main_arg2) = m' ((c.tc : Thread Cert.OutProjPromptReferenceIdeal.nD Cert.OutProjPromptReferenceIdeal.τ).loc Cert.OutProjPromptReferenceIdeal.main_arg2)
          ∧ r.2.mem ((c.tc : Thread Cert.OutProjPromptReferenceIdeal.nD Cert.OutProjPromptReferenceIdeal.τ).loc Cert.OutProjPromptReferenceIdeal.main_arg3) = m' ((c.tc : Thread Cert.OutProjPromptReferenceIdeal.nD Cert.OutProjPromptReferenceIdeal.τ).loc Cert.OutProjPromptReferenceIdeal.main_arg3))

def preserves_FfnMid_FfnMidIdeal : Prop :=
  True

def algebraic_FfnMidIdeal_FfnMidReferenceIdeal [hFfnMidIdeal : Cert.FfnMidIdeal.Facts] [hFfnMidReferenceIdeal : Cert.FfnMidReferenceIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg)
    (m' : (ℓ : Loc Cert.FfnMidReferenceIdeal.nD Cert.FfnMidReferenceIdeal.τ Cert.FfnMidReferenceIdeal.sig) → Buf (Elt Ideal) ℓ) (g' : Dev Cert.FfnMidReferenceIdeal.nD → PrngReg), Pre_FfnMidIdeal m →
    (∀ c : Dev Cert.FfnMidIdeal.nD,
      m' ((c.tc : Thread Cert.FfnMidReferenceIdeal.nD Cert.FfnMidReferenceIdeal.τ).loc Cert.FfnMidReferenceIdeal.main_arg0) = m ((c.tc : Thread Cert.FfnMidIdeal.nD Cert.FfnMidIdeal.τ).loc Cert.FfnMidIdeal.main_arg0)
      ∧ m' ((c.tc : Thread Cert.FfnMidReferenceIdeal.nD Cert.FfnMidReferenceIdeal.τ).loc Cert.FfnMidReferenceIdeal.main_arg1) = m ((c.tc : Thread Cert.FfnMidIdeal.nD Cert.FfnMidIdeal.τ).loc Cert.FfnMidIdeal.main_arg1)
      ∧ m' ((c.tc : Thread Cert.FfnMidReferenceIdeal.nD Cert.FfnMidReferenceIdeal.τ).loc Cert.FfnMidReferenceIdeal.main_arg2) = m ((c.tc : Thread Cert.FfnMidIdeal.nD Cert.FfnMidIdeal.τ).loc Cert.FfnMidIdeal.main_arg2)
      ∧ m' ((c.tc : Thread Cert.FfnMidReferenceIdeal.nD Cert.FfnMidReferenceIdeal.τ).loc Cert.FfnMidReferenceIdeal.main_arg3) = m ((c.tc : Thread Cert.FfnMidIdeal.nD Cert.FfnMidIdeal.τ).loc Cert.FfnMidIdeal.main_arg3)
      ∧ m' ((c.tc : Thread Cert.FfnMidReferenceIdeal.nD Cert.FfnMidReferenceIdeal.τ).loc Cert.FfnMidReferenceIdeal.main_arg4) = m ((c.tc : Thread Cert.FfnMidIdeal.nD Cert.FfnMidIdeal.τ).loc Cert.FfnMidIdeal.main_arg4)
      ∧ m' ((c.tc : Thread Cert.FfnMidReferenceIdeal.nD Cert.FfnMidReferenceIdeal.τ).loc Cert.FfnMidReferenceIdeal.main_arg5) = m ((c.tc : Thread Cert.FfnMidIdeal.nD Cert.FfnMidIdeal.τ).loc Cert.FfnMidIdeal.main_arg5)) →
    ∃ (v0 : (c : Dev Cert.FfnMidIdeal.nD) → Buf (Elt Ideal) ((c.tc : Thread Cert.FfnMidIdeal.nD Cert.FfnMidIdeal.τ).loc Cert.FfnMidIdeal.main_v2)),
      θ_run (Cert.FfnMidIdeal.defs (F := Ideal)) (onTc (τ := Cert.FfnMidIdeal.τ) (Cert.FfnMidIdeal.main (F := Ideal))) ⟨m, fun _ => 0, g⟩ (fun r => ∀ c : Dev Cert.FfnMidIdeal.nD,
          r.2.mem ((c.tc : Thread Cert.FfnMidIdeal.nD Cert.FfnMidIdeal.τ).loc Cert.FfnMidIdeal.main_v2) = v0 c
          ∧ r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
          ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
          ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
          ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
          ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4)
          ∧ r.2.mem ((c.tc : Thread Cert.FfnMidIdeal.nD Cert.FfnMidIdeal.τ).loc Cert.FfnMidIdeal.main_arg5) = m ((c.tc : Thread Cert.FfnMidIdeal.nD Cert.FfnMidIdeal.τ).loc Cert.FfnMidIdeal.main_arg5))
      ∧ θ_run (Cert.FfnMidReferenceIdeal.defs (F := Ideal)) (onTc (τ := Cert.FfnMidReferenceIdeal.τ) (Cert.FfnMidReferenceIdeal.main (F := Ideal))) ⟨m', fun _ => 0, g'⟩ (fun r => ∀ c : Dev Cert.FfnMidReferenceIdeal.nD,
          r.2.mem ((c.tc : Thread Cert.FfnMidReferenceIdeal.nD Cert.FfnMidReferenceIdeal.τ).loc Cert.FfnMidReferenceIdeal.main_v29) = v0 c
          ∧ r.2.mem ((c.tc : Thread Cert.FfnMidReferenceIdeal.nD Cert.FfnMidReferenceIdeal.τ).loc Cert.FfnMidReferenceIdeal.main_arg0) = m' ((c.tc : Thread Cert.FfnMidReferenceIdeal.nD Cert.FfnMidReferenceIdeal.τ).loc Cert.FfnMidReferenceIdeal.main_arg0)
          ∧ r.2.mem ((c.tc : Thread Cert.FfnMidReferenceIdeal.nD Cert.FfnMidReferenceIdeal.τ).loc Cert.FfnMidReferenceIdeal.main_arg1) = m' ((c.tc : Thread Cert.FfnMidReferenceIdeal.nD Cert.FfnMidReferenceIdeal.τ).loc Cert.FfnMidReferenceIdeal.main_arg1)
          ∧ r.2.mem ((c.tc : Thread Cert.FfnMidReferenceIdeal.nD Cert.FfnMidReferenceIdeal.τ).loc Cert.FfnMidReferenceIdeal.main_arg2) = m' ((c.tc : Thread Cert.FfnMidReferenceIdeal.nD Cert.FfnMidReferenceIdeal.τ).loc Cert.FfnMidReferenceIdeal.main_arg2)
          ∧ r.2.mem ((c.tc : Thread Cert.FfnMidReferenceIdeal.nD Cert.FfnMidReferenceIdeal.τ).loc Cert.FfnMidReferenceIdeal.main_arg3) = m' ((c.tc : Thread Cert.FfnMidReferenceIdeal.nD Cert.FfnMidReferenceIdeal.τ).loc Cert.FfnMidReferenceIdeal.main_arg3)
          ∧ r.2.mem ((c.tc : Thread Cert.FfnMidReferenceIdeal.nD Cert.FfnMidReferenceIdeal.τ).loc Cert.FfnMidReferenceIdeal.main_arg4) = m' ((c.tc : Thread Cert.FfnMidReferenceIdeal.nD Cert.FfnMidReferenceIdeal.τ).loc Cert.FfnMidReferenceIdeal.main_arg4)
          ∧ r.2.mem ((c.tc : Thread Cert.FfnMidReferenceIdeal.nD Cert.FfnMidReferenceIdeal.τ).loc Cert.FfnMidReferenceIdeal.main_arg5) = m' ((c.tc : Thread Cert.FfnMidReferenceIdeal.nD Cert.FfnMidReferenceIdeal.τ).loc Cert.FfnMidReferenceIdeal.main_arg5))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v2) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v42) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_FfnPrompt_FfnPromptIdeal : Prop :=
  True

def algebraic_FfnPromptIdeal_FfnPromptReferenceIdeal [hFfnPromptIdeal : Cert.FfnPromptIdeal.Facts] [hFfnPromptReferenceIdeal : Cert.FfnPromptReferenceIdeal.Facts] : Prop :=
  ∀ (m : (ℓ : Loc Cert.FfnPromptIdeal.nD Cert.FfnPromptIdeal.τ Cert.FfnPromptIdeal.sig) → Buf (Elt Ideal) ℓ) (g : Dev Cert.FfnPromptIdeal.nD → PrngReg)
    (m' : (ℓ : Loc Cert.FfnPromptReferenceIdeal.nD Cert.FfnPromptReferenceIdeal.τ Cert.FfnPromptReferenceIdeal.sig) → Buf (Elt Ideal) ℓ) (g' : Dev Cert.FfnPromptReferenceIdeal.nD → PrngReg), Pre_FfnPromptIdeal m →
    (∀ c : Dev Cert.FfnPromptIdeal.nD,
      m' ((c.tc : Thread Cert.FfnPromptReferenceIdeal.nD Cert.FfnPromptReferenceIdeal.τ).loc Cert.FfnPromptReferenceIdeal.main_arg0) = m ((c.tc : Thread Cert.FfnPromptIdeal.nD Cert.FfnPromptIdeal.τ).loc Cert.FfnPromptIdeal.main_arg0)
      ∧ m' ((c.tc : Thread Cert.FfnPromptReferenceIdeal.nD Cert.FfnPromptReferenceIdeal.τ).loc Cert.FfnPromptReferenceIdeal.main_arg1) = m ((c.tc : Thread Cert.FfnPromptIdeal.nD Cert.FfnPromptIdeal.τ).loc Cert.FfnPromptIdeal.main_arg1)
      ∧ m' ((c.tc : Thread Cert.FfnPromptReferenceIdeal.nD Cert.FfnPromptReferenceIdeal.τ).loc Cert.FfnPromptReferenceIdeal.main_arg2) = m ((c.tc : Thread Cert.FfnPromptIdeal.nD Cert.FfnPromptIdeal.τ).loc Cert.FfnPromptIdeal.main_arg2)
      ∧ m' ((c.tc : Thread Cert.FfnPromptReferenceIdeal.nD Cert.FfnPromptReferenceIdeal.τ).loc Cert.FfnPromptReferenceIdeal.main_arg3) = m ((c.tc : Thread Cert.FfnPromptIdeal.nD Cert.FfnPromptIdeal.τ).loc Cert.FfnPromptIdeal.main_arg3)
      ∧ m' ((c.tc : Thread Cert.FfnPromptReferenceIdeal.nD Cert.FfnPromptReferenceIdeal.τ).loc Cert.FfnPromptReferenceIdeal.main_arg4) = m ((c.tc : Thread Cert.FfnPromptIdeal.nD Cert.FfnPromptIdeal.τ).loc Cert.FfnPromptIdeal.main_arg4)
      ∧ m' ((c.tc : Thread Cert.FfnPromptReferenceIdeal.nD Cert.FfnPromptReferenceIdeal.τ).loc Cert.FfnPromptReferenceIdeal.main_arg5) = m ((c.tc : Thread Cert.FfnPromptIdeal.nD Cert.FfnPromptIdeal.τ).loc Cert.FfnPromptIdeal.main_arg5)) →
    ∃ (v0 : (c : Dev Cert.FfnPromptIdeal.nD) → Buf (Elt Ideal) ((c.tc : Thread Cert.FfnPromptIdeal.nD Cert.FfnPromptIdeal.τ).loc Cert.FfnPromptIdeal.main_v3)),
      θ_run (Cert.FfnPromptIdeal.defs (F := Ideal)) (onTc (τ := Cert.FfnPromptIdeal.τ) (Cert.FfnPromptIdeal.main (F := Ideal))) ⟨m, fun _ => 0, g⟩ (fun r => ∀ c : Dev Cert.FfnPromptIdeal.nD,
          r.2.mem ((c.tc : Thread Cert.FfnPromptIdeal.nD Cert.FfnPromptIdeal.τ).loc Cert.FfnPromptIdeal.main_v3) = v0 c
          ∧ r.2.mem ((c.tc : Thread Cert.FfnPromptIdeal.nD Cert.FfnPromptIdeal.τ).loc Cert.FfnPromptIdeal.main_arg0) = m ((c.tc : Thread Cert.FfnPromptIdeal.nD Cert.FfnPromptIdeal.τ).loc Cert.FfnPromptIdeal.main_arg0)
          ∧ r.2.mem ((c.tc : Thread Cert.FfnPromptIdeal.nD Cert.FfnPromptIdeal.τ).loc Cert.FfnPromptIdeal.main_arg1) = m ((c.tc : Thread Cert.FfnPromptIdeal.nD Cert.FfnPromptIdeal.τ).loc Cert.FfnPromptIdeal.main_arg1)
          ∧ r.2.mem ((c.tc : Thread Cert.FfnPromptIdeal.nD Cert.FfnPromptIdeal.τ).loc Cert.FfnPromptIdeal.main_arg2) = m ((c.tc : Thread Cert.FfnPromptIdeal.nD Cert.FfnPromptIdeal.τ).loc Cert.FfnPromptIdeal.main_arg2)
          ∧ r.2.mem ((c.tc : Thread Cert.FfnPromptIdeal.nD Cert.FfnPromptIdeal.τ).loc Cert.FfnPromptIdeal.main_arg3) = m ((c.tc : Thread Cert.FfnPromptIdeal.nD Cert.FfnPromptIdeal.τ).loc Cert.FfnPromptIdeal.main_arg3)
          ∧ r.2.mem ((c.tc : Thread Cert.FfnPromptIdeal.nD Cert.FfnPromptIdeal.τ).loc Cert.FfnPromptIdeal.main_arg4) = m ((c.tc : Thread Cert.FfnPromptIdeal.nD Cert.FfnPromptIdeal.τ).loc Cert.FfnPromptIdeal.main_arg4)
          ∧ r.2.mem ((c.tc : Thread Cert.FfnPromptIdeal.nD Cert.FfnPromptIdeal.τ).loc Cert.FfnPromptIdeal.main_arg5) = m ((c.tc : Thread Cert.FfnPromptIdeal.nD Cert.FfnPromptIdeal.τ).loc Cert.FfnPromptIdeal.main_arg5))
      ∧ θ_run (Cert.FfnPromptReferenceIdeal.defs (F := Ideal)) (onTc (τ := Cert.FfnPromptReferenceIdeal.τ) (Cert.FfnPromptReferenceIdeal.main (F := Ideal))) ⟨m', fun _ => 0, g'⟩ (fun r => ∀ c : Dev Cert.FfnPromptReferenceIdeal.nD,
          r.2.mem ((c.tc : Thread Cert.FfnPromptReferenceIdeal.nD Cert.FfnPromptReferenceIdeal.τ).loc Cert.FfnPromptReferenceIdeal.main_v44) = v0 c
          ∧ r.2.mem ((c.tc : Thread Cert.FfnPromptReferenceIdeal.nD Cert.FfnPromptReferenceIdeal.τ).loc Cert.FfnPromptReferenceIdeal.main_arg0) = m' ((c.tc : Thread Cert.FfnPromptReferenceIdeal.nD Cert.FfnPromptReferenceIdeal.τ).loc Cert.FfnPromptReferenceIdeal.main_arg0)
          ∧ r.2.mem ((c.tc : Thread Cert.FfnPromptReferenceIdeal.nD Cert.FfnPromptReferenceIdeal.τ).loc Cert.FfnPromptReferenceIdeal.main_arg1) = m' ((c.tc : Thread Cert.FfnPromptReferenceIdeal.nD Cert.FfnPromptReferenceIdeal.τ).loc Cert.FfnPromptReferenceIdeal.main_arg1)
          ∧ r.2.mem ((c.tc : Thread Cert.FfnPromptReferenceIdeal.nD Cert.FfnPromptReferenceIdeal.τ).loc Cert.FfnPromptReferenceIdeal.main_arg2) = m' ((c.tc : Thread Cert.FfnPromptReferenceIdeal.nD Cert.FfnPromptReferenceIdeal.τ).loc Cert.FfnPromptReferenceIdeal.main_arg2)
          ∧ r.2.mem ((c.tc : Thread Cert.FfnPromptReferenceIdeal.nD Cert.FfnPromptReferenceIdeal.τ).loc Cert.FfnPromptReferenceIdeal.main_arg3) = m' ((c.tc : Thread Cert.FfnPromptReferenceIdeal.nD Cert.FfnPromptReferenceIdeal.τ).loc Cert.FfnPromptReferenceIdeal.main_arg3)
          ∧ r.2.mem ((c.tc : Thread Cert.FfnPromptReferenceIdeal.nD Cert.FfnPromptReferenceIdeal.τ).loc Cert.FfnPromptReferenceIdeal.main_arg4) = m' ((c.tc : Thread Cert.FfnPromptReferenceIdeal.nD Cert.FfnPromptReferenceIdeal.τ).loc Cert.FfnPromptReferenceIdeal.main_arg4)
          ∧ r.2.mem ((c.tc : Thread Cert.FfnPromptReferenceIdeal.nD Cert.FfnPromptReferenceIdeal.τ).loc Cert.FfnPromptReferenceIdeal.main_arg5) = m' ((c.tc : Thread Cert.FfnPromptReferenceIdeal.nD Cert.FfnPromptReferenceIdeal.τ).loc Cert.FfnPromptReferenceIdeal.main_arg5))

def preserves_Modulation_ModulationIdeal : Prop :=
  True

def algebraic_ModulationIdeal_ModulationReferenceIdeal [hModulationIdeal : Cert.ModulationIdeal.Facts] [hModulationReferenceIdeal : Cert.ModulationReferenceIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationReferenceIdeal.nD Cert.ModulationReferenceIdeal.τ Cert.ModulationReferenceIdeal.sig) → Buf (Elt Ideal) ℓ) (g' : Dev Cert.ModulationReferenceIdeal.nD → PrngReg), Pre_ModulationIdeal m →
    (∀ c : Dev Cert.ModulationIdeal.nD,
      m' ((c.tc : Thread Cert.ModulationReferenceIdeal.nD Cert.ModulationReferenceIdeal.τ).loc Cert.ModulationReferenceIdeal.main_arg0) = m ((c.tc : Thread Cert.ModulationIdeal.nD Cert.ModulationIdeal.τ).loc Cert.ModulationIdeal.main_arg0)
      ∧ m' ((c.tc : Thread Cert.ModulationReferenceIdeal.nD Cert.ModulationReferenceIdeal.τ).loc Cert.ModulationReferenceIdeal.main_arg1) = m ((c.tc : Thread Cert.ModulationIdeal.nD Cert.ModulationIdeal.τ).loc Cert.ModulationIdeal.main_arg1)
      ∧ m' ((c.tc : Thread Cert.ModulationReferenceIdeal.nD Cert.ModulationReferenceIdeal.τ).loc Cert.ModulationReferenceIdeal.main_arg2) = m ((c.tc : Thread Cert.ModulationIdeal.nD Cert.ModulationIdeal.τ).loc Cert.ModulationIdeal.main_arg2)
      ∧ m' ((c.tc : Thread Cert.ModulationReferenceIdeal.nD Cert.ModulationReferenceIdeal.τ).loc Cert.ModulationReferenceIdeal.main_arg3) = m ((c.tc : Thread Cert.ModulationIdeal.nD Cert.ModulationIdeal.τ).loc Cert.ModulationIdeal.main_arg3)) →
    ∃ (v0 : (c : Dev Cert.ModulationIdeal.nD) → Buf (Elt Ideal) ((c.tc : Thread Cert.ModulationIdeal.nD Cert.ModulationIdeal.τ).loc Cert.ModulationIdeal.main_v4)) (v1 : (c : Dev Cert.ModulationIdeal.nD) → Buf (Elt Ideal) ((c.tc : Thread Cert.ModulationIdeal.nD Cert.ModulationIdeal.τ).loc Cert.ModulationIdeal.main_v5)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v4) = v0 c
          ∧ r.2.mem ((c.tc : Thread Cert.ModulationIdeal.nD Cert.ModulationIdeal.τ).loc Cert.ModulationIdeal.main_v5) = v1 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
          ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3))
      ∧ θ_run (Cert.ModulationReferenceIdeal.defs (F := Ideal)) (onTc (τ := Cert.ModulationReferenceIdeal.τ) (Cert.ModulationReferenceIdeal.main (F := Ideal))) ⟨m', fun _ => 0, g'⟩ (fun r => ∀ c : Dev Cert.ModulationReferenceIdeal.nD,
          r.2.mem ((c.tc : Thread Cert.ModulationReferenceIdeal.nD Cert.ModulationReferenceIdeal.τ).loc Cert.ModulationReferenceIdeal.main_v5) = v0 c
          ∧ r.2.mem ((c.tc : Thread Cert.ModulationReferenceIdeal.nD Cert.ModulationReferenceIdeal.τ).loc Cert.ModulationReferenceIdeal.main_v11) = v1 c
          ∧ r.2.mem ((c.tc : Thread Cert.ModulationReferenceIdeal.nD Cert.ModulationReferenceIdeal.τ).loc Cert.ModulationReferenceIdeal.main_arg0) = m' ((c.tc : Thread Cert.ModulationReferenceIdeal.nD Cert.ModulationReferenceIdeal.τ).loc Cert.ModulationReferenceIdeal.main_arg0)
          ∧ r.2.mem ((c.tc : Thread Cert.ModulationReferenceIdeal.nD Cert.ModulationReferenceIdeal.τ).loc Cert.ModulationReferenceIdeal.main_arg1) = m' ((c.tc : Thread Cert.ModulationReferenceIdeal.nD Cert.ModulationReferenceIdeal.τ).loc Cert.ModulationReferenceIdeal.main_arg1)
          ∧ r.2.mem ((c.tc : Thread Cert.ModulationReferenceIdeal.nD Cert.ModulationReferenceIdeal.τ).loc Cert.ModulationReferenceIdeal.main_arg2) = m' ((c.tc : Thread Cert.ModulationReferenceIdeal.nD Cert.ModulationReferenceIdeal.τ).loc Cert.ModulationReferenceIdeal.main_arg2)
          ∧ r.2.mem ((c.tc : Thread Cert.ModulationReferenceIdeal.nD Cert.ModulationReferenceIdeal.τ).loc Cert.ModulationReferenceIdeal.main_arg3) = m' ((c.tc : Thread Cert.ModulationReferenceIdeal.nD Cert.ModulationReferenceIdeal.τ).loc Cert.ModulationReferenceIdeal.main_arg3))

def preserves_LowerBounds_LowerBoundsIdeal : Prop :=
  True

def algebraic_LowerBoundsIdeal_LowerBoundsReferenceIdeal [hLowerBoundsIdeal : Cert.LowerBoundsIdeal.Facts] [hLowerBoundsReferenceIdeal : Cert.LowerBoundsReferenceIdeal.Facts] : Prop :=
  ∀ (m : (ℓ : Loc Cert.LowerBoundsIdeal.nD Cert.LowerBoundsIdeal.τ Cert.LowerBoundsIdeal.sig) → Buf (Elt Ideal) ℓ) (g : Dev Cert.LowerBoundsIdeal.nD → PrngReg)
    (m' : (ℓ : Loc Cert.LowerBoundsReferenceIdeal.nD Cert.LowerBoundsReferenceIdeal.τ Cert.LowerBoundsReferenceIdeal.sig) → Buf (Elt Ideal) ℓ) (g' : Dev Cert.LowerBoundsReferenceIdeal.nD → PrngReg), Pre_LowerBoundsIdeal m →
    (∀ c : Dev Cert.LowerBoundsIdeal.nD,
      m' ((c.tc : Thread Cert.LowerBoundsReferenceIdeal.nD Cert.LowerBoundsReferenceIdeal.τ).loc Cert.LowerBoundsReferenceIdeal.main_arg0) = m ((c.tc : Thread Cert.LowerBoundsIdeal.nD Cert.LowerBoundsIdeal.τ).loc Cert.LowerBoundsIdeal.main_arg0)) →
    ∃ (v0 : (c : Dev Cert.LowerBoundsIdeal.nD) → Buf (Elt Ideal) ((c.tc : Thread Cert.LowerBoundsIdeal.nD Cert.LowerBoundsIdeal.τ).loc Cert.LowerBoundsIdeal.main_v0)),
      θ_run (Cert.LowerBoundsIdeal.defs (F := Ideal)) (onTc (τ := Cert.LowerBoundsIdeal.τ) (Cert.LowerBoundsIdeal.main (F := Ideal))) ⟨m, fun _ => 0, g⟩ (fun r => ∀ c : Dev Cert.LowerBoundsIdeal.nD,
          r.2.mem ((c.tc : Thread Cert.LowerBoundsIdeal.nD Cert.LowerBoundsIdeal.τ).loc Cert.LowerBoundsIdeal.main_v0) = v0 c
          ∧ r.2.mem ((c.tc : Thread Cert.LowerBoundsIdeal.nD Cert.LowerBoundsIdeal.τ).loc Cert.LowerBoundsIdeal.main_arg0) = m ((c.tc : Thread Cert.LowerBoundsIdeal.nD Cert.LowerBoundsIdeal.τ).loc Cert.LowerBoundsIdeal.main_arg0))
      ∧ θ_run (Cert.LowerBoundsReferenceIdeal.defs (F := Ideal)) (onTc (τ := Cert.LowerBoundsReferenceIdeal.τ) (Cert.LowerBoundsReferenceIdeal.main (F := Ideal))) ⟨m', fun _ => 0, g'⟩ (fun r => ∀ c : Dev Cert.LowerBoundsReferenceIdeal.nD,
          r.2.mem ((c.tc : Thread Cert.LowerBoundsReferenceIdeal.nD Cert.LowerBoundsReferenceIdeal.τ).loc Cert.LowerBoundsReferenceIdeal.main_v16) = v0 c
          ∧ r.2.mem ((c.tc : Thread Cert.LowerBoundsReferenceIdeal.nD Cert.LowerBoundsReferenceIdeal.τ).loc Cert.LowerBoundsReferenceIdeal.main_arg0) = m' ((c.tc : Thread Cert.LowerBoundsReferenceIdeal.nD Cert.LowerBoundsReferenceIdeal.τ).loc Cert.LowerBoundsReferenceIdeal.main_arg0))

def preserves_NormGatesPrompt_NormGatesPromptIdeal : Prop :=
  True

def algebraic_NormGatesPromptIdeal_NormGatesPromptReferenceIdeal [hNormGatesPromptIdeal : Cert.NormGatesPromptIdeal.Facts] [hNormGatesPromptReferenceIdeal : Cert.NormGatesPromptReferenceIdeal.Facts] : Prop :=
  ∀ (m : (ℓ : Loc Cert.NormGatesPromptIdeal.nD Cert.NormGatesPromptIdeal.τ Cert.NormGatesPromptIdeal.sig) → Buf (Elt Ideal) ℓ) (g : Dev Cert.NormGatesPromptIdeal.nD → PrngReg)
    (m' : (ℓ : Loc Cert.NormGatesPromptReferenceIdeal.nD Cert.NormGatesPromptReferenceIdeal.τ Cert.NormGatesPromptReferenceIdeal.sig) → Buf (Elt Ideal) ℓ) (g' : Dev Cert.NormGatesPromptReferenceIdeal.nD → PrngReg), Pre_NormGatesPromptIdeal m →
    (∀ c : Dev Cert.NormGatesPromptIdeal.nD,
      m' ((c.tc : Thread Cert.NormGatesPromptReferenceIdeal.nD Cert.NormGatesPromptReferenceIdeal.τ).loc Cert.NormGatesPromptReferenceIdeal.main_arg0) = m ((c.tc : Thread Cert.NormGatesPromptIdeal.nD Cert.NormGatesPromptIdeal.τ).loc Cert.NormGatesPromptIdeal.main_arg0)
      ∧ m' ((c.tc : Thread Cert.NormGatesPromptReferenceIdeal.nD Cert.NormGatesPromptReferenceIdeal.τ).loc Cert.NormGatesPromptReferenceIdeal.main_arg1) = m ((c.tc : Thread Cert.NormGatesPromptIdeal.nD Cert.NormGatesPromptIdeal.τ).loc Cert.NormGatesPromptIdeal.main_arg1)
      ∧ m' ((c.tc : Thread Cert.NormGatesPromptReferenceIdeal.nD Cert.NormGatesPromptReferenceIdeal.τ).loc Cert.NormGatesPromptReferenceIdeal.main_arg2) = m ((c.tc : Thread Cert.NormGatesPromptIdeal.nD Cert.NormGatesPromptIdeal.τ).loc Cert.NormGatesPromptIdeal.main_arg2)
      ∧ m' ((c.tc : Thread Cert.NormGatesPromptReferenceIdeal.nD Cert.NormGatesPromptReferenceIdeal.τ).loc Cert.NormGatesPromptReferenceIdeal.main_arg3) = m ((c.tc : Thread Cert.NormGatesPromptIdeal.nD Cert.NormGatesPromptIdeal.τ).loc Cert.NormGatesPromptIdeal.main_arg3)
      ∧ m' ((c.tc : Thread Cert.NormGatesPromptReferenceIdeal.nD Cert.NormGatesPromptReferenceIdeal.τ).loc Cert.NormGatesPromptReferenceIdeal.main_arg4) = m ((c.tc : Thread Cert.NormGatesPromptIdeal.nD Cert.NormGatesPromptIdeal.τ).loc Cert.NormGatesPromptIdeal.main_arg4)) →
    ∃ (v0 : (c : Dev Cert.NormGatesPromptIdeal.nD) → Buf (Elt Ideal) ((c.tc : Thread Cert.NormGatesPromptIdeal.nD Cert.NormGatesPromptIdeal.τ).loc Cert.NormGatesPromptIdeal.main_v10_0)) (v1 : (c : Dev Cert.NormGatesPromptIdeal.nD) → Buf (Elt Ideal) ((c.tc : Thread Cert.NormGatesPromptIdeal.nD Cert.NormGatesPromptIdeal.τ).loc Cert.NormGatesPromptIdeal.main_v10_1)),
      θ_run (Cert.NormGatesPromptIdeal.defs (F := Ideal)) (onTc (τ := Cert.NormGatesPromptIdeal.τ) (Cert.NormGatesPromptIdeal.main (F := Ideal))) ⟨m, fun _ => 0, g⟩ (fun r => ∀ c : Dev Cert.NormGatesPromptIdeal.nD,
          r.2.mem ((c.tc : Thread Cert.NormGatesPromptIdeal.nD Cert.NormGatesPromptIdeal.τ).loc Cert.NormGatesPromptIdeal.main_v10_0) = v0 c
          ∧ r.2.mem ((c.tc : Thread Cert.NormGatesPromptIdeal.nD Cert.NormGatesPromptIdeal.τ).loc Cert.NormGatesPromptIdeal.main_v10_1) = v1 c
          ∧ r.2.mem ((c.tc : Thread Cert.NormGatesPromptIdeal.nD Cert.NormGatesPromptIdeal.τ).loc Cert.NormGatesPromptIdeal.main_arg0) = m ((c.tc : Thread Cert.NormGatesPromptIdeal.nD Cert.NormGatesPromptIdeal.τ).loc Cert.NormGatesPromptIdeal.main_arg0)
          ∧ r.2.mem ((c.tc : Thread Cert.NormGatesPromptIdeal.nD Cert.NormGatesPromptIdeal.τ).loc Cert.NormGatesPromptIdeal.main_arg1) = m ((c.tc : Thread Cert.NormGatesPromptIdeal.nD Cert.NormGatesPromptIdeal.τ).loc Cert.NormGatesPromptIdeal.main_arg1)
          ∧ r.2.mem ((c.tc : Thread Cert.NormGatesPromptIdeal.nD Cert.NormGatesPromptIdeal.τ).loc Cert.NormGatesPromptIdeal.main_arg2) = m ((c.tc : Thread Cert.NormGatesPromptIdeal.nD Cert.NormGatesPromptIdeal.τ).loc Cert.NormGatesPromptIdeal.main_arg2)
          ∧ r.2.mem ((c.tc : Thread Cert.NormGatesPromptIdeal.nD Cert.NormGatesPromptIdeal.τ).loc Cert.NormGatesPromptIdeal.main_arg3) = m ((c.tc : Thread Cert.NormGatesPromptIdeal.nD Cert.NormGatesPromptIdeal.τ).loc Cert.NormGatesPromptIdeal.main_arg3)
          ∧ r.2.mem ((c.tc : Thread Cert.NormGatesPromptIdeal.nD Cert.NormGatesPromptIdeal.τ).loc Cert.NormGatesPromptIdeal.main_arg4) = m ((c.tc : Thread Cert.NormGatesPromptIdeal.nD Cert.NormGatesPromptIdeal.τ).loc Cert.NormGatesPromptIdeal.main_arg4))
      ∧ θ_run (Cert.NormGatesPromptReferenceIdeal.defs (F := Ideal)) (onTc (τ := Cert.NormGatesPromptReferenceIdeal.τ) (Cert.NormGatesPromptReferenceIdeal.main (F := Ideal))) ⟨m', fun _ => 0, g'⟩ (fun r => ∀ c : Dev Cert.NormGatesPromptReferenceIdeal.nD,
          r.2.mem ((c.tc : Thread Cert.NormGatesPromptReferenceIdeal.nD Cert.NormGatesPromptReferenceIdeal.τ).loc Cert.NormGatesPromptReferenceIdeal.main_v32) = v0 c
          ∧ r.2.mem ((c.tc : Thread Cert.NormGatesPromptReferenceIdeal.nD Cert.NormGatesPromptReferenceIdeal.τ).loc Cert.NormGatesPromptReferenceIdeal.main_v33) = v1 c
          ∧ r.2.mem ((c.tc : Thread Cert.NormGatesPromptReferenceIdeal.nD Cert.NormGatesPromptReferenceIdeal.τ).loc Cert.NormGatesPromptReferenceIdeal.main_arg0) = m' ((c.tc : Thread Cert.NormGatesPromptReferenceIdeal.nD Cert.NormGatesPromptReferenceIdeal.τ).loc Cert.NormGatesPromptReferenceIdeal.main_arg0)
          ∧ r.2.mem ((c.tc : Thread Cert.NormGatesPromptReferenceIdeal.nD Cert.NormGatesPromptReferenceIdeal.τ).loc Cert.NormGatesPromptReferenceIdeal.main_arg1) = m' ((c.tc : Thread Cert.NormGatesPromptReferenceIdeal.nD Cert.NormGatesPromptReferenceIdeal.τ).loc Cert.NormGatesPromptReferenceIdeal.main_arg1)
          ∧ r.2.mem ((c.tc : Thread Cert.NormGatesPromptReferenceIdeal.nD Cert.NormGatesPromptReferenceIdeal.τ).loc Cert.NormGatesPromptReferenceIdeal.main_arg2) = m' ((c.tc : Thread Cert.NormGatesPromptReferenceIdeal.nD Cert.NormGatesPromptReferenceIdeal.τ).loc Cert.NormGatesPromptReferenceIdeal.main_arg2)
          ∧ r.2.mem ((c.tc : Thread Cert.NormGatesPromptReferenceIdeal.nD Cert.NormGatesPromptReferenceIdeal.τ).loc Cert.NormGatesPromptReferenceIdeal.main_arg3) = m' ((c.tc : Thread Cert.NormGatesPromptReferenceIdeal.nD Cert.NormGatesPromptReferenceIdeal.τ).loc Cert.NormGatesPromptReferenceIdeal.main_arg3)
          ∧ r.2.mem ((c.tc : Thread Cert.NormGatesPromptReferenceIdeal.nD Cert.NormGatesPromptReferenceIdeal.τ).loc Cert.NormGatesPromptReferenceIdeal.main_arg4) = m' ((c.tc : Thread Cert.NormGatesPromptReferenceIdeal.nD Cert.NormGatesPromptReferenceIdeal.τ).loc Cert.NormGatesPromptReferenceIdeal.main_arg4))

def preserves_NormGates_NormGatesIdeal : Prop :=
  True

def algebraic_NormGatesIdeal_NormGatesReferenceIdeal [hNormGatesIdeal : Cert.NormGatesIdeal.Facts] [hNormGatesReferenceIdeal : Cert.NormGatesReferenceIdeal.Facts] : Prop :=
  ∀ (m : (ℓ : Loc Cert.NormGatesIdeal.nD Cert.NormGatesIdeal.τ Cert.NormGatesIdeal.sig) → Buf (Elt Ideal) ℓ) (g : Dev Cert.NormGatesIdeal.nD → PrngReg)
    (m' : (ℓ : Loc Cert.NormGatesReferenceIdeal.nD Cert.NormGatesReferenceIdeal.τ Cert.NormGatesReferenceIdeal.sig) → Buf (Elt Ideal) ℓ) (g' : Dev Cert.NormGatesReferenceIdeal.nD → PrngReg), Pre_NormGatesIdeal m →
    (∀ c : Dev Cert.NormGatesIdeal.nD,
      m' ((c.tc : Thread Cert.NormGatesReferenceIdeal.nD Cert.NormGatesReferenceIdeal.τ).loc Cert.NormGatesReferenceIdeal.main_arg0) = m ((c.tc : Thread Cert.NormGatesIdeal.nD Cert.NormGatesIdeal.τ).loc Cert.NormGatesIdeal.main_arg0)
      ∧ m' ((c.tc : Thread Cert.NormGatesReferenceIdeal.nD Cert.NormGatesReferenceIdeal.τ).loc Cert.NormGatesReferenceIdeal.main_arg1) = m ((c.tc : Thread Cert.NormGatesIdeal.nD Cert.NormGatesIdeal.τ).loc Cert.NormGatesIdeal.main_arg1)
      ∧ m' ((c.tc : Thread Cert.NormGatesReferenceIdeal.nD Cert.NormGatesReferenceIdeal.τ).loc Cert.NormGatesReferenceIdeal.main_arg2) = m ((c.tc : Thread Cert.NormGatesIdeal.nD Cert.NormGatesIdeal.τ).loc Cert.NormGatesIdeal.main_arg2)
      ∧ m' ((c.tc : Thread Cert.NormGatesReferenceIdeal.nD Cert.NormGatesReferenceIdeal.τ).loc Cert.NormGatesReferenceIdeal.main_arg3) = m ((c.tc : Thread Cert.NormGatesIdeal.nD Cert.NormGatesIdeal.τ).loc Cert.NormGatesIdeal.main_arg3)
      ∧ m' ((c.tc : Thread Cert.NormGatesReferenceIdeal.nD Cert.NormGatesReferenceIdeal.τ).loc Cert.NormGatesReferenceIdeal.main_arg4) = m ((c.tc : Thread Cert.NormGatesIdeal.nD Cert.NormGatesIdeal.τ).loc Cert.NormGatesIdeal.main_arg4)) →
    ∃ (v0 : (c : Dev Cert.NormGatesIdeal.nD) → Buf (Elt Ideal) ((c.tc : Thread Cert.NormGatesIdeal.nD Cert.NormGatesIdeal.τ).loc Cert.NormGatesIdeal.main_v9_0)) (v1 : (c : Dev Cert.NormGatesIdeal.nD) → Buf (Elt Ideal) ((c.tc : Thread Cert.NormGatesIdeal.nD Cert.NormGatesIdeal.τ).loc Cert.NormGatesIdeal.main_v9_1)),
      θ_run (Cert.NormGatesIdeal.defs (F := Ideal)) (onTc (τ := Cert.NormGatesIdeal.τ) (Cert.NormGatesIdeal.main (F := Ideal))) ⟨m, fun _ => 0, g⟩ (fun r => ∀ c : Dev Cert.NormGatesIdeal.nD,
          r.2.mem ((c.tc : Thread Cert.NormGatesIdeal.nD Cert.NormGatesIdeal.τ).loc Cert.NormGatesIdeal.main_v9_0) = v0 c
          ∧ r.2.mem ((c.tc : Thread Cert.NormGatesIdeal.nD Cert.NormGatesIdeal.τ).loc Cert.NormGatesIdeal.main_v9_1) = v1 c
          ∧ r.2.mem ((c.tc : Thread Cert.NormGatesIdeal.nD Cert.NormGatesIdeal.τ).loc Cert.NormGatesIdeal.main_arg0) = m ((c.tc : Thread Cert.NormGatesIdeal.nD Cert.NormGatesIdeal.τ).loc Cert.NormGatesIdeal.main_arg0)
          ∧ r.2.mem ((c.tc : Thread Cert.NormGatesIdeal.nD Cert.NormGatesIdeal.τ).loc Cert.NormGatesIdeal.main_arg1) = m ((c.tc : Thread Cert.NormGatesIdeal.nD Cert.NormGatesIdeal.τ).loc Cert.NormGatesIdeal.main_arg1)
          ∧ r.2.mem ((c.tc : Thread Cert.NormGatesIdeal.nD Cert.NormGatesIdeal.τ).loc Cert.NormGatesIdeal.main_arg2) = m ((c.tc : Thread Cert.NormGatesIdeal.nD Cert.NormGatesIdeal.τ).loc Cert.NormGatesIdeal.main_arg2)
          ∧ r.2.mem ((c.tc : Thread Cert.NormGatesIdeal.nD Cert.NormGatesIdeal.τ).loc Cert.NormGatesIdeal.main_arg3) = m ((c.tc : Thread Cert.NormGatesIdeal.nD Cert.NormGatesIdeal.τ).loc Cert.NormGatesIdeal.main_arg3)
          ∧ r.2.mem ((c.tc : Thread Cert.NormGatesIdeal.nD Cert.NormGatesIdeal.τ).loc Cert.NormGatesIdeal.main_arg4) = m ((c.tc : Thread Cert.NormGatesIdeal.nD Cert.NormGatesIdeal.τ).loc Cert.NormGatesIdeal.main_arg4))
      ∧ θ_run (Cert.NormGatesReferenceIdeal.defs (F := Ideal)) (onTc (τ := Cert.NormGatesReferenceIdeal.τ) (Cert.NormGatesReferenceIdeal.main (F := Ideal))) ⟨m', fun _ => 0, g'⟩ (fun r => ∀ c : Dev Cert.NormGatesReferenceIdeal.nD,
          r.2.mem ((c.tc : Thread Cert.NormGatesReferenceIdeal.nD Cert.NormGatesReferenceIdeal.τ).loc Cert.NormGatesReferenceIdeal.main_v30) = v0 c
          ∧ r.2.mem ((c.tc : Thread Cert.NormGatesReferenceIdeal.nD Cert.NormGatesReferenceIdeal.τ).loc Cert.NormGatesReferenceIdeal.main_v31) = v1 c
          ∧ r.2.mem ((c.tc : Thread Cert.NormGatesReferenceIdeal.nD Cert.NormGatesReferenceIdeal.τ).loc Cert.NormGatesReferenceIdeal.main_arg0) = m' ((c.tc : Thread Cert.NormGatesReferenceIdeal.nD Cert.NormGatesReferenceIdeal.τ).loc Cert.NormGatesReferenceIdeal.main_arg0)
          ∧ r.2.mem ((c.tc : Thread Cert.NormGatesReferenceIdeal.nD Cert.NormGatesReferenceIdeal.τ).loc Cert.NormGatesReferenceIdeal.main_arg1) = m' ((c.tc : Thread Cert.NormGatesReferenceIdeal.nD Cert.NormGatesReferenceIdeal.τ).loc Cert.NormGatesReferenceIdeal.main_arg1)
          ∧ r.2.mem ((c.tc : Thread Cert.NormGatesReferenceIdeal.nD Cert.NormGatesReferenceIdeal.τ).loc Cert.NormGatesReferenceIdeal.main_arg2) = m' ((c.tc : Thread Cert.NormGatesReferenceIdeal.nD Cert.NormGatesReferenceIdeal.τ).loc Cert.NormGatesReferenceIdeal.main_arg2)
          ∧ r.2.mem ((c.tc : Thread Cert.NormGatesReferenceIdeal.nD Cert.NormGatesReferenceIdeal.τ).loc Cert.NormGatesReferenceIdeal.main_arg3) = m' ((c.tc : Thread Cert.NormGatesReferenceIdeal.nD Cert.NormGatesReferenceIdeal.τ).loc Cert.NormGatesReferenceIdeal.main_arg3)
          ∧ r.2.mem ((c.tc : Thread Cert.NormGatesReferenceIdeal.nD Cert.NormGatesReferenceIdeal.τ).loc Cert.NormGatesReferenceIdeal.main_arg4) = m' ((c.tc : Thread Cert.NormGatesReferenceIdeal.nD Cert.NormGatesReferenceIdeal.τ).loc Cert.NormGatesReferenceIdeal.main_arg4))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjReferenceIdeal : Cert.InProjReferenceIdeal.Facts) (hInProjPrompt : Cert.InProjPrompt.Facts) (hInProjPromptIdeal : Cert.InProjPromptIdeal.Facts) (hInProjPromptReferenceIdeal : Cert.InProjPromptReferenceIdeal.Facts) (hBranches : Cert.Branches.Facts) (hBranchesIdeal : Cert.BranchesIdeal.Facts) (hBranchesReferenceIdeal : Cert.BranchesReferenceIdeal.Facts) (hOutProj : Cert.OutProj.Facts) (hOutProjIdeal : Cert.OutProjIdeal.Facts) (hOutProjReferenceIdeal : Cert.OutProjReferenceIdeal.Facts) (hBranchesPrompt : Cert.BranchesPrompt.Facts) (hBranchesPromptIdeal : Cert.BranchesPromptIdeal.Facts) (hBranchesPromptReferenceIdeal : Cert.BranchesPromptReferenceIdeal.Facts) (hOutProjPrompt : Cert.OutProjPrompt.Facts) (hOutProjPromptIdeal : Cert.OutProjPromptIdeal.Facts) (hOutProjPromptReferenceIdeal : Cert.OutProjPromptReferenceIdeal.Facts) (hFfnMid : Cert.FfnMid.Facts) (hFfnMidIdeal : Cert.FfnMidIdeal.Facts) (hFfnMidReferenceIdeal : Cert.FfnMidReferenceIdeal.Facts) (hFfn : Cert.Ffn.Facts) (hFfnIdeal : Cert.FfnIdeal.Facts) (hFfnReferenceIdeal : Cert.FfnReferenceIdeal.Facts) (hFfnPrompt : Cert.FfnPrompt.Facts) (hFfnPromptIdeal : Cert.FfnPromptIdeal.Facts) (hFfnPromptReferenceIdeal : Cert.FfnPromptReferenceIdeal.Facts) (hModulation : Cert.Modulation.Facts) (hModulationIdeal : Cert.ModulationIdeal.Facts) (hModulationReferenceIdeal : Cert.ModulationReferenceIdeal.Facts) (hLowerBounds : Cert.LowerBounds.Facts) (hLowerBoundsIdeal : Cert.LowerBoundsIdeal.Facts) (hLowerBoundsReferenceIdeal : Cert.LowerBoundsReferenceIdeal.Facts) (hNormGatesPrompt : Cert.NormGatesPrompt.Facts) (hNormGatesPromptIdeal : Cert.NormGatesPromptIdeal.Facts) (hNormGatesPromptReferenceIdeal : Cert.NormGatesPromptReferenceIdeal.Facts) (hNormGates : Cert.NormGates.Facts) (hNormGatesIdeal : Cert.NormGatesIdeal.Facts) (hNormGatesReferenceIdeal : Cert.NormGatesReferenceIdeal.Facts),
    quiescent_Kernel (hKernel := hKernel)
    ∧ quiescent_KernelIdeal (hKernelIdeal := hKernelIdeal)
    ∧ quiescent_ReferenceIdeal (hReferenceIdeal := hReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_InProjPrompt (hInProjPrompt := hInProjPrompt)
    ∧ quiescent_InProjPromptIdeal (hInProjPromptIdeal := hInProjPromptIdeal)
    ∧ quiescent_InProjPromptReferenceIdeal (hInProjPromptReferenceIdeal := hInProjPromptReferenceIdeal)
    ∧ quiescent_Branches (hBranches := hBranches)
    ∧ quiescent_BranchesIdeal (hBranchesIdeal := hBranchesIdeal)
    ∧ quiescent_BranchesReferenceIdeal (hBranchesReferenceIdeal := hBranchesReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_BranchesPrompt (hBranchesPrompt := hBranchesPrompt)
    ∧ quiescent_BranchesPromptIdeal (hBranchesPromptIdeal := hBranchesPromptIdeal)
    ∧ quiescent_BranchesPromptReferenceIdeal (hBranchesPromptReferenceIdeal := hBranchesPromptReferenceIdeal)
    ∧ quiescent_OutProjPrompt (hOutProjPrompt := hOutProjPrompt)
    ∧ quiescent_OutProjPromptIdeal (hOutProjPromptIdeal := hOutProjPromptIdeal)
    ∧ quiescent_OutProjPromptReferenceIdeal (hOutProjPromptReferenceIdeal := hOutProjPromptReferenceIdeal)
    ∧ quiescent_FfnMid (hFfnMid := hFfnMid)
    ∧ quiescent_FfnMidIdeal (hFfnMidIdeal := hFfnMidIdeal)
    ∧ quiescent_FfnMidReferenceIdeal (hFfnMidReferenceIdeal := hFfnMidReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_FfnPrompt (hFfnPrompt := hFfnPrompt)
    ∧ quiescent_FfnPromptIdeal (hFfnPromptIdeal := hFfnPromptIdeal)
    ∧ quiescent_FfnPromptReferenceIdeal (hFfnPromptReferenceIdeal := hFfnPromptReferenceIdeal)
    ∧ quiescent_Modulation (hModulation := hModulation)
    ∧ quiescent_ModulationIdeal (hModulationIdeal := hModulationIdeal)
    ∧ quiescent_ModulationReferenceIdeal (hModulationReferenceIdeal := hModulationReferenceIdeal)
    ∧ quiescent_LowerBounds (hLowerBounds := hLowerBounds)
    ∧ quiescent_LowerBoundsIdeal (hLowerBoundsIdeal := hLowerBoundsIdeal)
    ∧ quiescent_LowerBoundsReferenceIdeal (hLowerBoundsReferenceIdeal := hLowerBoundsReferenceIdeal)
    ∧ quiescent_NormGatesPrompt (hNormGatesPrompt := hNormGatesPrompt)
    ∧ quiescent_NormGatesPromptIdeal (hNormGatesPromptIdeal := hNormGatesPromptIdeal)
    ∧ quiescent_NormGatesPromptReferenceIdeal (hNormGatesPromptReferenceIdeal := hNormGatesPromptReferenceIdeal)
    ∧ quiescent_NormGates (hNormGates := hNormGates)
    ∧ quiescent_NormGatesIdeal (hNormGatesIdeal := hNormGatesIdeal)
    ∧ quiescent_NormGatesReferenceIdeal (hNormGatesReferenceIdeal := hNormGatesReferenceIdeal)
    ∧ preserves_Kernel_KernelIdeal
    ∧ algebraic_KernelIdeal_ReferenceIdeal (hKernelIdeal := hKernelIdeal) (hReferenceIdeal := hReferenceIdeal)
    ∧ preserves_InProj_InProjIdeal
    ∧ algebraic_InProjIdeal_InProjReferenceIdeal (hInProjIdeal := hInProjIdeal) (hInProjReferenceIdeal := hInProjReferenceIdeal)
    ∧ preserves_InProjPrompt_InProjPromptIdeal
    ∧ algebraic_InProjPromptIdeal_InProjPromptReferenceIdeal (hInProjPromptIdeal := hInProjPromptIdeal) (hInProjPromptReferenceIdeal := hInProjPromptReferenceIdeal)
    ∧ preserves_Branches_BranchesIdeal
    ∧ algebraic_BranchesIdeal_BranchesReferenceIdeal (hBranchesIdeal := hBranchesIdeal) (hBranchesReferenceIdeal := hBranchesReferenceIdeal)
    ∧ preserves_OutProj_OutProjIdeal
    ∧ algebraic_OutProjIdeal_OutProjReferenceIdeal (hOutProjIdeal := hOutProjIdeal) (hOutProjReferenceIdeal := hOutProjReferenceIdeal)
    ∧ preserves_BranchesPrompt_BranchesPromptIdeal
    ∧ algebraic_BranchesPromptIdeal_BranchesPromptReferenceIdeal (hBranchesPromptIdeal := hBranchesPromptIdeal) (hBranchesPromptReferenceIdeal := hBranchesPromptReferenceIdeal)
    ∧ preserves_OutProjPrompt_OutProjPromptIdeal
    ∧ algebraic_OutProjPromptIdeal_OutProjPromptReferenceIdeal (hOutProjPromptIdeal := hOutProjPromptIdeal) (hOutProjPromptReferenceIdeal := hOutProjPromptReferenceIdeal)
    ∧ preserves_FfnMid_FfnMidIdeal
    ∧ algebraic_FfnMidIdeal_FfnMidReferenceIdeal (hFfnMidIdeal := hFfnMidIdeal) (hFfnMidReferenceIdeal := hFfnMidReferenceIdeal)
    ∧ preserves_Ffn_FfnIdeal
    ∧ algebraic_FfnIdeal_FfnReferenceIdeal (hFfnIdeal := hFfnIdeal) (hFfnReferenceIdeal := hFfnReferenceIdeal)
    ∧ preserves_FfnPrompt_FfnPromptIdeal
    ∧ algebraic_FfnPromptIdeal_FfnPromptReferenceIdeal (hFfnPromptIdeal := hFfnPromptIdeal) (hFfnPromptReferenceIdeal := hFfnPromptReferenceIdeal)
    ∧ preserves_Modulation_ModulationIdeal
    ∧ algebraic_ModulationIdeal_ModulationReferenceIdeal (hModulationIdeal := hModulationIdeal) (hModulationReferenceIdeal := hModulationReferenceIdeal)
    ∧ preserves_LowerBounds_LowerBoundsIdeal
    ∧ algebraic_LowerBoundsIdeal_LowerBoundsReferenceIdeal (hLowerBoundsIdeal := hLowerBoundsIdeal) (hLowerBoundsReferenceIdeal := hLowerBoundsReferenceIdeal)
    ∧ preserves_NormGatesPrompt_NormGatesPromptIdeal
    ∧ algebraic_NormGatesPromptIdeal_NormGatesPromptReferenceIdeal (hNormGatesPromptIdeal := hNormGatesPromptIdeal) (hNormGatesPromptReferenceIdeal := hNormGatesPromptReferenceIdeal)
    ∧ preserves_NormGates_NormGatesIdeal
    ∧ algebraic_NormGatesIdeal_NormGatesReferenceIdeal (hNormGatesIdeal := hNormGatesIdeal) (hNormGatesReferenceIdeal := hNormGatesReferenceIdeal)
-- ==== Kernel.lean ====
abbrev S128x20480 : Shape := ⟨2, ![128, 20480]⟩
abbrev S128x128 : Shape := ⟨2, ![128, 128]⟩
abbrev S4x4x4096 : Shape := ⟨3, ![4, 4, 4096]⟩
abbrev S4x4096 : Shape := ⟨2, ![4, 4096]⟩
abbrev S4x2048 : Shape := ⟨2, ![4, 2048]⟩
abbrev S4x8x3x4096 : Shape := ⟨4, ![4, 8, 3, 4096]⟩
abbrev S4x8x8x256x256 : Shape := ⟨5, ![4, 8, 8, 256, 256]⟩
abbrev S4x8x8x256 : Shape := ⟨4, ![4, 8, 8, 256]⟩
abbrev S4x8x8 : Shape := ⟨3, ![4, 8, 8]⟩
abbrev S128x16 : Shape := ⟨2, ![128, 16]⟩
abbrev S8x1x16x16 : Shape := ⟨4, ![8, 1, 16, 16]⟩
abbrev S1x8x3x4096 : Shape := ⟨4, ![1, 8, 3, 4096]⟩
abbrev S8x3x4096 : Shape := ⟨3, ![8, 3, 4096]⟩
abbrev S_ : Shape := ⟨0, ![]⟩
abbrev S8x8x4096 : Shape := ⟨3, ![8, 8, 4096]⟩
abbrev S1x8x8 : Shape := ⟨3, ![1, 8, 8]⟩
abbrev S8x8 : Shape := ⟨2, ![8, 8]⟩
abbrev S8x8x1 : Shape := ⟨3, ![8, 8, 1]⟩
abbrev S8x8x128 : Shape := ⟨3, ![8, 8, 128]⟩
abbrev S4x1x4096 : Shape := ⟨3, ![4, 1, 4096]⟩
abbrev S4x1x2048 : Shape := ⟨3, ![4, 1, 2048]⟩
abbrev S128x2048 : Shape := ⟨2, ![128, 2048]⟩
abbrev S8x8x256x256 : Shape := ⟨4, ![8, 8, 256, 256]⟩
abbrev S8x8x256 : Shape := ⟨3, ![8, 8, 256]⟩
abbrev S16x2048 : Shape := ⟨2, ![16, 2048]⟩
abbrev S16x128 : Shape := ⟨2, ![16, 128]⟩
abbrev S1x1x16x16 : Shape := ⟨4, ![1, 1, 16, 16]⟩
abbrev S1x4x4096 : Shape := ⟨3, ![1, 4, 4096]⟩
abbrev S1x1x4096 : Shape := ⟨3, ![1, 1, 4096]⟩
abbrev S1x1x2048 : Shape := ⟨3, ![1, 1, 2048]⟩
abbrev S1x8x4096 : Shape := ⟨3, ![1, 8, 4096]⟩
abbrev S1x1x8x256x256 : Shape := ⟨5, ![1, 1, 8, 256, 256]⟩
abbrev S1x1x8x256 : Shape := ⟨4, ![1, 1, 8, 256]⟩
abbrev S1x8x128 : Shape := ⟨3, ![1, 8, 128]⟩
abbrev S1x8x256x256 : Shape := ⟨4, ![1, 8, 256, 256]⟩
abbrev S1x8x256 : Shape := ⟨3, ![1, 8, 256]⟩
abbrev S8x2048 : Shape := ⟨2, ![8, 2048]⟩
abbrev S1x8x2048 : Shape := ⟨3, ![1, 8, 2048]⟩
abbrev S24x2048 : Shape := ⟨2, ![24, 2048]⟩
abbrev S1x2048 : Shape := ⟨2, ![1, 2048]⟩
abbrev S16x16 : Shape := ⟨2, ![16, 16]⟩
abbrev S16x1 : Shape := ⟨2, ![16, 1]⟩
abbrev S1x16 : Shape := ⟨2, ![1, 16]⟩
abbrev S1x1x1 : Shape := ⟨3, ![1, 1, 1]⟩
abbrev S1x1 : Shape := ⟨2, ![1, 1]⟩
abbrev S16 : Shape := ⟨1, ![16]⟩
abbrev S16x256 : Shape := ⟨2, ![16, 256]⟩
abbrev S1x1x256x256 : Shape := ⟨4, ![1, 1, 256, 256]⟩
abbrev S256x256 : Shape := ⟨2, ![256, 256]⟩
abbrev S1x1x256 : Shape := ⟨3, ![1, 1, 256]⟩
abbrev S1x256 : Shape := ⟨2, ![1, 256]⟩
abbrev S256 : Shape := ⟨1, ![256]⟩
abbrev S1x128 : Shape := ⟨2, ![1, 128]⟩
abbrev S1x1x128 : Shape := ⟨3, ![1, 1, 128]⟩

abbrev nBuf : Space → Nat
  | .hbm => 27
  | .vmem => 33
  | .smem => 0
  | _ => 0

abbrev bufTy : (tb : Table) → Fin (tcTables nBuf tb) → BufTy
  | .hbm, ⟨0, _⟩ => ⟨S128x20480, .f32⟩
  | .hbm, ⟨1, _⟩ => ⟨S128x128, .f32⟩
  | .hbm, ⟨2, _⟩ => ⟨S4x4x4096, .f32⟩
  | .hbm, ⟨3, _⟩ => ⟨S4x4096, .f32⟩
  | .hbm, ⟨4, _⟩ => ⟨S4x2048, .f32⟩
  | .hbm, ⟨5, _⟩ => ⟨S4x8x3x4096, .f32⟩
  | .hbm, ⟨6, _⟩ => ⟨S4x8x8x256x256, .f32⟩
  | .hbm, ⟨7, _⟩ => ⟨S4x8x8x256, .f32⟩
  | .hbm, ⟨8, _⟩ => ⟨S4x8x8, .f32⟩
  | .hbm, ⟨9, _⟩ => ⟨S128x16, .f32⟩
  | .hbm, ⟨10, _⟩ => ⟨S8x1x16x16, .f32⟩
  | .hbm, ⟨11, _⟩ => ⟨S8x1x16x16, .f32⟩
  | .hbm, ⟨12, _⟩ => ⟨S1x8x3x4096, .f32⟩
  | .hbm, ⟨13, _⟩ => ⟨S8x3x4096, .f32⟩
  | .hbm, ⟨14, _⟩ => ⟨S_, .i32⟩
  | .hbm, ⟨15, _⟩ => ⟨S_, .f32⟩
  | .hbm, ⟨16, _⟩ => ⟨S8x8x4096, .f32⟩
  | .hbm, ⟨17, _⟩ => ⟨S1x8x8, .f32⟩
  | .hbm, ⟨18, _⟩ => ⟨S8x8, .f32⟩
  | .hbm, ⟨19, _⟩ => ⟨S8x8x1, .f32⟩
  | .hbm, ⟨20, _⟩ => ⟨S8x8x128, .f32⟩
  | .hbm, ⟨21, _⟩ => ⟨S4x1x4096, .f32⟩
  | .hbm, ⟨22, _⟩ => ⟨S4x1x2048, .f32⟩
  | .hbm, ⟨23, _⟩ => ⟨S128x2048, .bf16⟩
  | .hbm, ⟨24, _⟩ => ⟨S8x8x256x256, .f32⟩
  | .hbm, ⟨25, _⟩ => ⟨S8x8x256, .f32⟩
  | .hbm, ⟨26, _⟩ => ⟨S8x8x128, .f32⟩
  | .local _ .vmem, ⟨0, _⟩ => ⟨S16x2048, .f32⟩
  | .local _ .vmem, ⟨1, _⟩ => ⟨S16x2048, .f32⟩
  | .local _ .vmem, ⟨2, _⟩ => ⟨S16x2048, .f32⟩
  | .local _ .vmem, ⟨3, _⟩ => ⟨S16x2048, .f32⟩
  | .local _ .vmem, ⟨4, _⟩ => ⟨S16x2048, .f32⟩
  | .local _ .vmem, ⟨5, _⟩ => ⟨S16x2048, .f32⟩
  | .local _ .vmem, ⟨6, _⟩ => ⟨S16x2048, .f32⟩
  | .local _ .vmem, ⟨7, _⟩ => ⟨S16x2048, .f32⟩
  | .local _ .vmem, ⟨8, _⟩ => ⟨S16x128, .f32⟩
  | .local _ .vmem, ⟨9, _⟩ => ⟨S16x128, .f32⟩
  | .local _ .vmem, ⟨10, _⟩ => ⟨S1x1x16x16, .f32⟩
  | .local _ .vmem, ⟨11, _⟩ => ⟨S1x1x16x16, .f32⟩
  | .local _ .vmem, ⟨12, _⟩ => ⟨S1x4x4096, .f32⟩
  | .local _ .vmem, ⟨13, _⟩ => ⟨S1x1x4096, .f32⟩
  | .local _ .vmem, ⟨14, _⟩ => ⟨S1x1x2048, .f32⟩
  | .local _ .vmem, ⟨15, _⟩ => ⟨S1x8x4096, .f32⟩
  | .local _ .vmem, ⟨16, _⟩ => ⟨S1x8x4096, .f32⟩
  | .local _ .vmem, ⟨17, _⟩ => ⟨S1x1x8x256x256, .f32⟩
  | .local _ .vmem, ⟨18, _⟩ => ⟨S1x1x8x256x256, .f32⟩
  | .local _ .vmem, ⟨19, _⟩ => ⟨S1x1x8x256, .f32⟩
  | .local _ .vmem, ⟨20, _⟩ => ⟨S1x1x8x256, .f32⟩
  | .local _ .vmem, ⟨21, _⟩ => ⟨S1x8x128, .f32⟩
  | .local _ .vmem, ⟨22, _⟩ => ⟨S1x8x128, .f32⟩
  | .local _ .vmem, ⟨23, _⟩ => ⟨S16x2048, .bf16⟩
  | .local _ .vmem, ⟨24, _⟩ => ⟨S16x2048, .bf16⟩
  | .local _ .vmem, ⟨25, _⟩ => ⟨S1x8x256x256, .f32⟩
  | .local _ .vmem, ⟨26, _⟩ => ⟨S1x8x256x256, .f32⟩
  | .local _ .vmem, ⟨27, _⟩ => ⟨S1x8x256, .f32⟩
  | .local _ .vmem, ⟨28, _⟩ => ⟨S1x8x256, .f32⟩
  | .local _ .vmem, ⟨29, _⟩ => ⟨S1x8x128, .f32⟩
  | .local _ .vmem, ⟨30, _⟩ => ⟨S1x8x128, .f32⟩
  | .local _ .vmem, ⟨31, _⟩ => ⟨S8x2048, .f32⟩
  | .local _ .vmem, ⟨32, _⟩ => ⟨S8x2048, .f32⟩
  | _, _ => ⟨S128x20480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v12_2 : Ref sig .tc := ⟨.hbm, 25, rfl⟩
abbrev main_v12_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_scratch0 : Ref sig .tc := ⟨.vmem, 31, rfl⟩
abbrev cc0_scratch1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  ![v1.toNat, c1_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c3_i32 : BitVec 32 := 3#32
  let c0_i32 : BitVec 32 := 0#32
  ![v1.toNat, c3_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x16x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x4x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x8x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x8x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x8x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S16x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x8x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x8x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== ReferenceIdeal.lean ====
abbrev S128x20480 : Shape := ⟨2, ![128, 20480]⟩
abbrev S128x128 : Shape := ⟨2, ![128, 128]⟩
abbrev S4x4x4096 : Shape := ⟨3, ![4, 4, 4096]⟩
abbrev S4x4096 : Shape := ⟨2, ![4, 4096]⟩
abbrev S4x2048 : Shape := ⟨2, ![4, 2048]⟩
abbrev S4x8x3x4096 : Shape := ⟨4, ![4, 8, 3, 4096]⟩
abbrev S4x8x8x256x256 : Shape := ⟨5, ![4, 8, 8, 256, 256]⟩
abbrev S4x8x8x256 : Shape := ⟨4, ![4, 8, 8, 256]⟩
abbrev S4x8x8 : Shape := ⟨3, ![4, 8, 8]⟩
abbrev S8x16x20480 : Shape := ⟨3, ![8, 16, 20480]⟩
abbrev S8x16x128 : Shape := ⟨3, ![8, 16, 128]⟩
abbrev S8x16x4096 : Shape := ⟨3, ![8, 16, 4096]⟩
abbrev S8x16x2048 : Shape := ⟨3, ![8, 16, 2048]⟩
abbrev S8x16x8 : Shape := ⟨3, ![8, 16, 8]⟩
abbrev S1x8x3x4096 : Shape := ⟨4, ![1, 8, 3, 4096]⟩
abbrev S8x3x4096 : Shape := ⟨3, ![8, 3, 4096]⟩
abbrev S8x19x4096 : Shape := ⟨3, ![8, 19, 4096]⟩
abbrev S1x4096 : Shape := ⟨2, ![1, 4096]⟩
abbrev S4096 : Shape := ⟨1, ![4096]⟩
abbrev S1x1x4096 : Shape := ⟨3, ![1, 1, 4096]⟩
abbrev S_ : Shape := ⟨0, ![]⟩
abbrev S8x16x8x256 : Shape := ⟨4, ![8, 16, 8, 256]⟩
abbrev S1x8x8x256x256 : Shape := ⟨5, ![1, 8, 8, 256, 256]⟩
abbrev S8x8x256x256 : Shape := ⟨4, ![8, 8, 256, 256]⟩
abbrev S1x8x8x256 : Shape := ⟨4, ![1, 8, 8, 256]⟩
abbrev S8x8x256 : Shape := ⟨3, ![8, 8, 256]⟩
abbrev S1x8x8 : Shape := ⟨3, ![1, 8, 8]⟩
abbrev S8x8 : Shape := ⟨2, ![8, 8]⟩
abbrev S16x16 : Shape := ⟨2, ![16, 16]⟩
abbrev S8x8x16 : Shape := ⟨3, ![8, 8, 16]⟩
abbrev S8x8x16x1 : Shape := ⟨4, ![8, 8, 16, 1]⟩
abbrev S8x8x1x16 : Shape := ⟨4, ![8, 8, 1, 16]⟩
abbrev S8x8x16x16 : Shape := ⟨4, ![8, 8, 16, 16]⟩
abbrev S8x8x1 : Shape := ⟨3, ![8, 8, 1]⟩
abbrev S8x8x256x16 : Shape := ⟨4, ![8, 8, 256, 16]⟩
abbrev S8x16x8x1 : Shape := ⟨4, ![8, 16, 8, 1]⟩
abbrev S8x8x1x1 : Shape := ⟨4, ![8, 8, 1, 1]⟩
abbrev S1x2048 : Shape := ⟨2, ![1, 2048]⟩
abbrev S2048 : Shape := ⟨1, ![2048]⟩
abbrev S1x1x2048 : Shape := ⟨3, ![1, 1, 2048]⟩
abbrev S128x2048 : Shape := ⟨2, ![128, 2048]⟩
abbrev S8x8x128 : Shape := ⟨3, ![8, 8, 128]⟩

abbrev nBuf : Space → Nat
  | .hbm => 210
  | .vmem => 0
  | .smem => 0
  | _ => 0

abbrev hbmTy0_0 (i : Nat) : BufTy := match i % 128 with
  | 0 => ⟨S128x20480, .f32⟩
  | 1 => ⟨S128x128, .f32⟩
  | 2 => ⟨S4x4x4096, .f32⟩
  | 3 => ⟨S4x4096, .f32⟩
  | 4 => ⟨S4x2048, .f32⟩
  | 5 => ⟨S4x8x3x4096, .f32⟩
  | 6 => ⟨S4x8x8x256x256, .f32⟩
  | 7 => ⟨S4x8x8x256, .f32⟩
  | 8 => ⟨S4x8x8, .f32⟩
  | 9 => ⟨S8x16x20480, .f32⟩
  | 10 => ⟨S8x16x128, .f32⟩
  | 11 => ⟨S8x16x4096, .f32⟩
  | 12 => ⟨S8x16x2048, .f32⟩
  | 13 => ⟨S8x16x2048, .f32⟩
  | 14 => ⟨S8x16x8, .f32⟩
  | 15 => ⟨S8x16x8, .f32⟩
  | 16 => ⟨S1x8x3x4096, .f32⟩
  | 17 => ⟨S8x3x4096, .f32⟩
  | 18 => ⟨S8x19x4096, .f32⟩
  | 19 => ⟨S1x4096, .f32⟩
  | 20 => ⟨S4096, .f32⟩
  | 21 => ⟨S8x16x4096, .f32⟩
  | 22 => ⟨S1x1x4096, .f32⟩
  | 23 => ⟨S4096, .f32⟩
  | 24 => ⟨S1x1x4096, .f32⟩
  | 25 => ⟨S8x16x4096, .f32⟩
  | 26 => ⟨S8x16x4096, .f32⟩
  | 27 => ⟨S1x1x4096, .f32⟩
  | 28 => ⟨S8x16x4096, .f32⟩
  | 29 => ⟨S8x16x4096, .f32⟩
  | 30 => ⟨S8x16x4096, .f32⟩
  | 31 => ⟨S1x1x4096, .f32⟩
  | 32 => ⟨S4096, .f32⟩
  | 33 => ⟨S1x1x4096, .f32⟩
  | 34 => ⟨S8x16x4096, .f32⟩
  | 35 => ⟨S8x16x4096, .f32⟩
  | 36 => ⟨S8x16x4096, .f32⟩
  | 37 => ⟨S8x16x4096, .f32⟩
  | 38 => ⟨S1x1x4096, .f32⟩
  | 39 => ⟨S4096, .f32⟩
  | 40 => ⟨S1x1x4096, .f32⟩
  | 41 => ⟨S8x16x4096, .f32⟩
  | 42 => ⟨S8x16x4096, .f32⟩
  | 43 => ⟨S8x16x4096, .f32⟩
  | 44 => ⟨S8x16x4096, .f32⟩
  | 45 => ⟨S1x1x4096, .f32⟩
  | 46 => ⟨S4096, .f32⟩
  | 47 => ⟨S1x1x4096, .f32⟩
  | 48 => ⟨S8x16x4096, .f32⟩
  | 49 => ⟨S8x16x4096, .f32⟩
  | 50 => ⟨S8x16x4096, .f32⟩
  | 51 => ⟨S8x16x4096, .f32⟩
  | 52 => ⟨S8x16x4096, .f32⟩
  | 53 => ⟨S_, .f32⟩
  | 54 => ⟨S8x16x4096, .f32⟩
  | 55 => ⟨S8x16x4096, .f32⟩
  | 56 => ⟨S_, .f32⟩
  | 57 => ⟨S8x16x4096, .f32⟩
  | 58 => ⟨S8x16x4096, .f32⟩
  | 59 => ⟨S8x16x4096, .f32⟩
  | 60 => ⟨S8x16x2048, .f32⟩
  | 61 => ⟨S8x16x8x256, .f32⟩
  | 62 => ⟨S8x16x2048, .f32⟩
  | 63 => ⟨S8x16x8x256, .f32⟩
  | 64 => ⟨S_, .f32⟩
  | 65 => ⟨S8x16x8x256, .f32⟩
  | 66 => ⟨S8x16x8x256, .f32⟩
  | 67 => ⟨S8x16x8x256, .f32⟩
  | 68 => ⟨S8x16x8, .f32⟩
  | 69 => ⟨S_, .f32⟩
  | 70 => ⟨S8x16x8, .f32⟩
  | 71 => ⟨S8x16x8, .f32⟩
  | 72 => ⟨S8x16x8, .f32⟩
  | 73 => ⟨S8x16x8, .f32⟩
  | 74 => ⟨S8x16x8, .i1⟩
  | 75 => ⟨S8x16x8, .f32⟩
  | 76 => ⟨S8x16x8, .f32⟩
  | 77 => ⟨S8x16x8, .f32⟩
  | 78 => ⟨S8x16x8, .f32⟩
  | 79 => ⟨S8x16x8, .f32⟩
  | 80 => ⟨S8x16x8, .f32⟩
  | 81 => ⟨S8x16x8, .f32⟩
  | 82 => ⟨S8x16x8, .f32⟩
  | 83 => ⟨S8x16x8, .f32⟩
  | 84 => ⟨S1x8x8x256x256, .f32⟩
  | 85 => ⟨S8x8x256x256, .f32⟩
  | 86 => ⟨S1x8x8x256, .f32⟩
  | 87 => ⟨S8x8x256, .f32⟩
  | 88 => ⟨S1x8x8, .f32⟩
  | 89 => ⟨S8x8, .f32⟩
  | 90 => ⟨S_, .i1⟩
  | 91 => ⟨S16x16, .i1⟩
  | 92 => ⟨S16x16, .i32⟩
  | 93 => ⟨S_, .i32⟩
  | 94 => ⟨S16x16, .i32⟩
  | 95 => ⟨S16x16, .i32⟩
  | 96 => ⟨S16x16, .i32⟩
  | 97 => ⟨S16x16, .i1⟩
  | 98 => ⟨S_, .i1⟩
  | 99 => ⟨S16x16, .i1⟩
  | 100 => ⟨S16x16, .i1⟩
  | 101 => ⟨S_, .f32⟩
  | 102 => ⟨S_, .f32⟩
  | 103 => ⟨S8x16x8, .f32⟩
  | 104 => ⟨S8x8x16, .f32⟩
  | 105 => ⟨S8x8x16, .f32⟩
  | 106 => ⟨S8x8x16x1, .f32⟩
  | 107 => ⟨S8x8x1x16, .f32⟩
  | 108 => ⟨S8x8x16x16, .f32⟩
  | 109 => ⟨S8x8x16x16, .f32⟩
  | 110 => ⟨S8x8x16x16, .f32⟩
  | 111 => ⟨S8x8x1x16, .f32⟩
  | 112 => ⟨S8x8x16x16, .f32⟩
  | 113 => ⟨S8x8x16x16, .f32⟩
  | 114 => ⟨S_, .f32⟩
  | 115 => ⟨S_, .f32⟩
  | 116 => ⟨S8x8x16x16, .i1⟩
  | 117 => ⟨S8x8x16x16, .f32⟩
  | 118 => ⟨S8x8x16x16, .f32⟩
  | 119 => ⟨S8x8x1, .f32⟩
  | 120 => ⟨S8x8x16, .f32⟩
  | 121 => ⟨S8x8x16, .f32⟩
  | 122 => ⟨S_, .f32⟩
  | 123 => ⟨S8x8x16, .f32⟩
  | 124 => ⟨S8x8x16, .f32⟩
  | 125 => ⟨S8x8x16x1, .f32⟩
  | 126 => ⟨S8x8x16x16, .f32⟩
  | 127 => ⟨S8x8x16x16, .f32⟩
  | _ => ⟨S128x20480, .f32⟩

abbrev hbmTy0_1 (i : Nat) : BufTy := match i % 128 with
  | 0 => ⟨S8x8x16x16, .f32⟩
  | 1 => ⟨S8x8x16, .f32⟩
  | 2 => ⟨S8x8x16, .f32⟩
  | 3 => ⟨S8x8x16x16, .f32⟩
  | 4 => ⟨S8x8x16x16, .f32⟩
  | 5 => ⟨S8x8x256x16, .f32⟩
  | 6 => ⟨S8x16x8x256, .f32⟩
  | 7 => ⟨S8x16x8, .f32⟩
  | 8 => ⟨S8x16x8x1, .f32⟩
  | 9 => ⟨S8x8x256x16, .f32⟩
  | 10 => ⟨S8x16x8x256, .f32⟩
  | 11 => ⟨S8x16x8x256, .f32⟩
  | 12 => ⟨S8x16x8x256, .f32⟩
  | 13 => ⟨S8x16x8x256, .f32⟩
  | 14 => ⟨S_, .f32⟩
  | 15 => ⟨S8x8x16, .f32⟩
  | 16 => ⟨S8x8x16, .f32⟩
  | 17 => ⟨S8x8x16, .f32⟩
  | 18 => ⟨S8x8x16, .f32⟩
  | 19 => ⟨S8x8x16, .f32⟩
  | 20 => ⟨S8x8x16, .f32⟩
  | 21 => ⟨S8x8x16, .f32⟩
  | 22 => ⟨S8x8x16, .f32⟩
  | 23 => ⟨S8x16x8, .f32⟩
  | 24 => ⟨S8x16x8x1, .f32⟩
  | 25 => ⟨S8x16x8x256, .f32⟩
  | 26 => ⟨S8x16x8x256, .f32⟩
  | 27 => ⟨S8x8x1x16, .f32⟩
  | 28 => ⟨S8x8x16, .f32⟩
  | 29 => ⟨S8x16x8, .f32⟩
  | 30 => ⟨S8x16x8x1, .f32⟩
  | 31 => ⟨S8x8x1, .f32⟩
  | 32 => ⟨S8x8, .f32⟩
  | 33 => ⟨S8x8x1x1, .f32⟩
  | 34 => ⟨S8x8x256x256, .f32⟩
  | 35 => ⟨S8x8x256x256, .f32⟩
  | 36 => ⟨S8x16x8x256, .f32⟩
  | 37 => ⟨S8x16x8x256, .f32⟩
  | 38 => ⟨S8x8x256x256, .f32⟩
  | 39 => ⟨S8x8x256x256, .f32⟩
  | 40 => ⟨S8x8x1, .f32⟩
  | 41 => ⟨S8x8x256, .f32⟩
  | 42 => ⟨S8x8x256, .f32⟩
  | 43 => ⟨S8x16x8x256, .f32⟩
  | 44 => ⟨S8x16x8x256, .f32⟩
  | 45 => ⟨S_, .f32⟩
  | 46 => ⟨S8x8x256, .f32⟩
  | 47 => ⟨S8x8x256, .f32⟩
  | 48 => ⟨S8x8x1, .f32⟩
  | 49 => ⟨S8x8, .f32⟩
  | 50 => ⟨S8x16x8x256, .f32⟩
  | 51 => ⟨S_, .f32⟩
  | 52 => ⟨S8x16x8, .f32⟩
  | 53 => ⟨S8x16x8x1, .f32⟩
  | 54 => ⟨S_, .f32⟩
  | 55 => ⟨S8x16x8x1, .f32⟩
  | 56 => ⟨S8x16x8x1, .f32⟩
  | 57 => ⟨S_, .f32⟩
  | 58 => ⟨S8x16x8x1, .f32⟩
  | 59 => ⟨S8x16x8x1, .f32⟩
  | 60 => ⟨S8x16x8x1, .f32⟩
  | 61 => ⟨S8x16x8x256, .f32⟩
  | 62 => ⟨S8x16x8x256, .f32⟩
  | 63 => ⟨S8x16x2048, .f32⟩
  | 64 => ⟨S1x2048, .f32⟩
  | 65 => ⟨S2048, .f32⟩
  | 66 => ⟨S1x1x2048, .f32⟩
  | 67 => ⟨S8x16x2048, .f32⟩
  | 68 => ⟨S8x16x2048, .f32⟩
  | 69 => ⟨S8x16x2048, .f32⟩
  | 70 => ⟨S8x16x2048, .f32⟩
  | 71 => ⟨S_, .f32⟩
  | 72 => ⟨S8x16x2048, .f32⟩
  | 73 => ⟨S8x16x2048, .f32⟩
  | 74 => ⟨S_, .f32⟩
  | 75 => ⟨S8x16x2048, .f32⟩
  | 76 => ⟨S8x16x2048, .f32⟩
  | 77 => ⟨S8x16x2048, .f32⟩
  | 78 => ⟨S128x2048, .f32⟩
  | 79 => ⟨S128x2048, .bf16⟩
  | 80 => ⟨S8x8x1, .f32⟩
  | 81 => ⟨S8x8x128, .f32⟩
  | _ => ⟨S128x20480, .f32⟩

abbrev hbmTy (i : Nat) : BufTy := match i / 128 with
  | 0 => hbmTy0_0 i
  | 1 => hbmTy0_1 i
  | _ => ⟨S128x20480, .f32⟩

abbrev bufTy : (tb : Table) → Fin (tcTables nBuf tb) → BufTy
  | .hbm, ⟨i, _⟩ => hbmTy i
  | _, _ => ⟨S128x20480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_call1_v0 : Ref sig .tc := ⟨.hbm, 68, rfl⟩
abbrev main_call1_call0_cst : Ref sig .tc := ⟨.hbm, 69, rfl⟩
abbrev main_call1_call0_v0 : Ref sig .tc := ⟨.hbm, 70, rfl⟩
abbrev main_call1_call0_v1 : Ref sig .tc := ⟨.hbm, 71, rfl⟩
abbrev main_call1_call0_v2 : Ref sig .tc := ⟨.hbm, 72, rfl⟩
abbrev main_call1_call0_v3 : Ref sig .tc := ⟨.hbm, 73, rfl⟩
abbrev main_call1_call0_v4 : Ref sig .tc := ⟨.hbm, 74, rfl⟩
abbrev main_call1_call0_v5 : Ref sig .tc := ⟨.hbm, 75, rfl⟩
abbrev main_call1_call0_v6 : Ref sig .tc := ⟨.hbm, 76, rfl⟩
abbrev main_call1_call0_v7 : Ref sig .tc := ⟨.hbm, 77, rfl⟩
abbrev main_call1_call0_v8 : Ref sig .tc := ⟨.hbm, 78, rfl⟩
abbrev main_call1_call0_v9 : Ref sig .tc := ⟨.hbm, 79, rfl⟩
abbrev main_call1_call0_v10 : Ref sig .tc := ⟨.hbm, 80, rfl⟩
abbrev main_call1_call0_v11 : Ref sig .tc := ⟨.hbm, 81, rfl⟩
abbrev main_call1_v1 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_c : Ref sig .tc := ⟨.hbm, 90, rfl⟩
abbrev main_v57 : Ref sig .tc := ⟨.hbm, 91, rfl⟩
abbrev main_call2_v0 : Ref sig .tc := ⟨.hbm, 92, rfl⟩
abbrev main_call2_c : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_c_0 : Ref sig .tc := ⟨.hbm, 98, rfl⟩
abbrev main_call2_v5 : Ref sig .tc := ⟨.hbm, 99, rfl⟩
abbrev main_v58 : Ref sig .tc := ⟨.hbm, 100, rfl⟩
abbrev main_call3_call0_cst : Ref sig .tc := ⟨.hbm, 101, rfl⟩
abbrev main_call3_call0_v0 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_cst_0 : Ref sig .tc := ⟨.hbm, 114, rfl⟩
abbrev main_call4_v0 : Ref sig .tc := ⟨.hbm, 115, rfl⟩
abbrev main_call4_v1 : Ref sig .tc := ⟨.hbm, 116, rfl⟩
abbrev main_call4_v2 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_cst_1 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_cst_2 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_cst_3 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_cst_4 : Ref sig .tc := ⟨.hbm, 179, rfl⟩
abbrev main_v128 : Ref sig .tc := ⟨.hbm, 180, rfl⟩
abbrev main_v129 : Ref sig .tc := ⟨.hbm, 181, rfl⟩
abbrev main_cst_5 : Ref sig .tc := ⟨.hbm, 182, rfl⟩
abbrev main_v130 : Ref sig .tc := ⟨.hbm, 183, rfl⟩
abbrev main_v131 : Ref sig .tc := ⟨.hbm, 184, rfl⟩
abbrev main_cst_6 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_cst_7 : Ref sig .tc := ⟨.hbm, 199, rfl⟩
abbrev main_v145 : Ref sig .tc := ⟨.hbm, 200, rfl⟩
abbrev main_v146 : Ref sig .tc := ⟨.hbm, 201, rfl⟩
abbrev main_cst_8 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩

abbrev nD : Nat := 1
abbrev τ : Topo := Topo.v7x

variable {F : FTy → Type} [FloatOps F]
-- ==== InProj.lean ====
abbrev S128x2048 : Shape := ⟨2, ![128, 2048]⟩
abbrev S4x2048x20496 : Shape := ⟨3, ![4, 2048, 20496]⟩
abbrev S4x20496 : Shape := ⟨2, ![4, 20496]⟩
abbrev S4x20496x2048 : Shape := ⟨3, ![4, 20496, 2048]⟩
abbrev S4x20480 : Shape := ⟨2, ![4, 20480]⟩
abbrev S4x1x20480 : Shape := ⟨3, ![4, 1, 20480]⟩
abbrev S128x20480 : Shape := ⟨2, ![128, 20480]⟩
abbrev S1x4096x2048 : Shape := ⟨3, ![1, 4096, 2048]⟩
abbrev S1x1x4096 : Shape := ⟨3, ![1, 1, 4096]⟩
abbrev S128x4096 : Shape := ⟨2, ![128, 4096]⟩
abbrev S4096x2048 : Shape := ⟨2, ![4096, 2048]⟩
abbrev S1x4096 : Shape := ⟨2, ![1, 4096]⟩
abbrev S8x16x20480 : Shape := ⟨3, ![8, 16, 20480]⟩
abbrev S8x3x4096 : Shape := ⟨3, ![8, 3, 4096]⟩

abbrev nBuf : Space → Nat
  | .hbm => 10
  | .vmem => 7
  | .smem => 0
  | _ => 0

abbrev bufTy : (tb : Table) → Fin (tcTables nBuf tb) → BufTy
  | .hbm, ⟨0, _⟩ => ⟨S128x2048, .bf16⟩
  | .hbm, ⟨1, _⟩ => ⟨S4x2048x20496, .f32⟩
  | .hbm, ⟨2, _⟩ => ⟨S4x20496, .f32⟩
  | .hbm, ⟨3, _⟩ => ⟨S4x20496x2048, .f32⟩
  | .hbm, ⟨4, _⟩ => ⟨S4x20496x2048, .bf16⟩
  | .hbm, ⟨5, _⟩ => ⟨S4x20480, .f32⟩
  | .hbm, ⟨6, _⟩ => ⟨S4x1x20480, .f32⟩
  | .hbm, ⟨7, _⟩ => ⟨S128x20480, .f32⟩
  | .hbm, ⟨8, _⟩ => ⟨S8x16x20480, .f32⟩
  | .hbm, ⟨9, _⟩ => ⟨S8x3x4096, .f32⟩
  | .local _ .vmem, ⟨0, _⟩ => ⟨S128x2048, .bf16⟩
  | .local _ .vmem, ⟨1, _⟩ => ⟨S1x4096x2048, .bf16⟩
  | .local _ .vmem, ⟨2, _⟩ => ⟨S1x4096x2048, .bf16⟩
  | .local _ .vmem, ⟨3, _⟩ => ⟨S1x1x4096, .f32⟩
  | .local _ .vmem, ⟨4, _⟩ => ⟨S1x1x4096, .f32⟩
  | .local _ .vmem, ⟨5, _⟩ => ⟨S128x4096, .f32⟩
  | .local _ .vmem, ⟨6, _⟩ => ⟨S128x4096, .f32⟩
  | _, _ => ⟨S128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjReferenceIdeal.lean ====
abbrev S128x2048 : Shape := ⟨2, ![128, 2048]⟩
abbrev S4x2048x20496 : Shape := ⟨3, ![4, 2048, 20496]⟩
abbrev S4x20496 : Shape := ⟨2, ![4, 20496]⟩
abbrev S1x2048x20496 : Shape := ⟨3, ![1, 2048, 20496]⟩
abbrev S2048x20496 : Shape := ⟨2, ![2048, 20496]⟩
abbrev S128x20496 : Shape := ⟨2, ![128, 20496]⟩
abbrev S1x20496 : Shape := ⟨2, ![1, 20496]⟩
abbrev S20496 : Shape := ⟨1, ![20496]⟩
abbrev S128x20480 : Shape := ⟨2, ![128, 20480]⟩
abbrev S8x16x20480 : Shape := ⟨3, ![8, 16, 20480]⟩
abbrev S8x3x4096 : Shape := ⟨3, ![8, 3, 4096]⟩

abbrev nBuf : Space → Nat
  | .hbm => 15
  | .vmem => 0
  | .smem => 0
  | _ => 0

abbrev bufTy : (tb : Table) → Fin (tcTables nBuf tb) → BufTy
  | .hbm, ⟨0, _⟩ => ⟨S128x2048, .bf16⟩
  | .hbm, ⟨1, _⟩ => ⟨S4x2048x20496, .f32⟩
  | .hbm, ⟨2, _⟩ => ⟨S4x20496, .f32⟩
  | .hbm, ⟨3, _⟩ => ⟨S128x2048, .f32⟩
  | .hbm, ⟨4, _⟩ => ⟨S1x2048x20496, .f32⟩
  | .hbm, ⟨5, _⟩ => ⟨S2048x20496, .f32⟩
  | .hbm, ⟨6, _⟩ => ⟨S128x20496, .f32⟩
  | .hbm, ⟨7, _⟩ => ⟨S1x20496, .f32⟩
  | .hbm, ⟨8, _⟩ => ⟨S20496, .f32⟩
  | .hbm, ⟨9, _⟩ => ⟨S1x20496, .f32⟩
  | .hbm, ⟨10, _⟩ => ⟨S128x20496, .f32⟩
  | .hbm, ⟨11, _⟩ => ⟨S128x20496, .f32⟩
  | .hbm, ⟨12, _⟩ => ⟨S128x20480, .f32⟩
  | .hbm, ⟨13, _⟩ => ⟨S8x16x20480, .f32⟩
  | .hbm, ⟨14, _⟩ => ⟨S8x3x4096, .f32⟩
  | _, _ => ⟨S128x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== InProjPrompt.lean ====
abbrev S16384x2048 : Shape := ⟨2, ![16384, 2048]⟩
abbrev S4x2048x20496 : Shape := ⟨3, ![4, 2048, 20496]⟩
abbrev S4x20496 : Shape := ⟨2, ![4, 20496]⟩
abbrev S4x2048x2048 : Shape := ⟨3, ![4, 2048, 2048]⟩
abbrev S4x2048x8192 : Shape := ⟨3, ![4, 2048, 8192]⟩
abbrev S4x8192x2048 : Shape := ⟨3, ![4, 8192, 2048]⟩
abbrev S4x20496x2048 : Shape := ⟨3, ![4, 20496, 2048]⟩
abbrev S4x20480 : Shape := ⟨2, ![4, 20480]⟩
abbrev S4x1x20480 : Shape := ⟨3, ![4, 1, 20480]⟩
abbrev S16384x20480 : Shape := ⟨2, ![16384, 20480]⟩
abbrev S2048x2048 : Shape := ⟨2, ![2048, 2048]⟩
abbrev S2048x8192 : Shape := ⟨2, ![2048, 8192]⟩
abbrev S8192x2048 : Shape := ⟨2, ![8192, 2048]⟩
abbrev S1024x2048 : Shape := ⟨2, ![1024, 2048]⟩
abbrev S1x2048x2048 : Shape := ⟨3, ![1, 2048, 2048]⟩
abbrev S1x1x2048 : Shape := ⟨3, ![1, 1, 2048]⟩
abbrev S1x16x2048 : Shape := ⟨3, ![1, 16, 2048]⟩
abbrev S1x16x8192 : Shape := ⟨3, ![1, 16, 8192]⟩
abbrev S1x64x2048 : Shape := ⟨3, ![1, 64, 2048]⟩
abbrev S16x2048 : Shape := ⟨2, ![16, 2048]⟩
abbrev S16x8192 : Shape := ⟨2, ![16, 8192]⟩
abbrev S64x2048 : Shape := ⟨2, ![64, 2048]⟩
abbrev S1x2048 : Shape := ⟨2, ![1, 2048]⟩
abbrev S4x4096x20480 : Shape := ⟨3, ![4, 4096, 20480]⟩
abbrev S4x3x4096 : Shape := ⟨3, ![4, 3, 4096]⟩

abbrev nBuf : Space → Nat
  | .hbm => 20
  | .vmem => 28
  | .smem => 0
  | _ => 0

abbrev bufTy : (tb : Table) → Fin (tcTables nBuf tb) → BufTy
  | .hbm, ⟨0, _⟩ => ⟨S16384x2048, .bf16⟩
  | .hbm, ⟨1, _⟩ => ⟨S4x2048x20496, .f32⟩
  | .hbm, ⟨2, _⟩ => ⟨S4x20496, .f32⟩
  | .hbm, ⟨3, _⟩ => ⟨S4x2048x2048, .f32⟩
  | .hbm, ⟨4, _⟩ => ⟨S4x2048x2048, .f32⟩
  | .hbm, ⟨5, _⟩ => ⟨S4x2048x2048, .f32⟩
  | .hbm, ⟨6, _⟩ => ⟨S4x2048x8192, .f32⟩
  | .hbm, ⟨7, _⟩ => ⟨S4x8192x2048, .f32⟩
  | .hbm, ⟨8, _⟩ => ⟨S4x20496x2048, .f32⟩
  | .hbm, ⟨9, _⟩ => ⟨S4x20496x2048, .bf16⟩
  | .hbm, ⟨10, _⟩ => ⟨S4x20480, .f32⟩
  | .hbm, ⟨11, _⟩ => ⟨S4x1x20480, .f32⟩
  | .hbm, ⟨12, _⟩ => ⟨S16384x20480, .f32⟩
  | .hbm, ⟨13, _⟩ => ⟨S2048x2048, .bf16⟩
  | .hbm, ⟨14, _⟩ => ⟨S2048x2048, .bf16⟩
  | .hbm, ⟨15, _⟩ => ⟨S2048x2048, .bf16⟩
  | .hbm, ⟨16, _⟩ => ⟨S2048x8192, .bf16⟩
  | .hbm, ⟨17, _⟩ => ⟨S8192x2048, .bf16⟩
  | .hbm, ⟨18, _⟩ => ⟨S4x4096x20480, .f32⟩
  | .hbm, ⟨19, _⟩ => ⟨S4x3x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S1x1x2048, .f32⟩
  | .local _ .vmem, ⟨5, _⟩ => ⟨S1x1x2048, .f32⟩
  | .local _ .vmem, ⟨6, _⟩ => ⟨S1x16x2048, .f32⟩
  | .local _ .vmem, ⟨7, _⟩ => ⟨S1x16x2048, .f32⟩
  | .local _ .vmem, ⟨8, _⟩ => ⟨S1x16x2048, .f32⟩
  | .local _ .vmem, ⟨9, _⟩ => ⟨S1x16x2048, .f32⟩
  | .local _ .vmem, ⟨10, _⟩ => ⟨S1x16x2048, .f32⟩
  | .local _ .vmem, ⟨11, _⟩ => ⟨S1x16x2048, .f32⟩
  | .local _ .vmem, ⟨12, _⟩ => ⟨S1x16x8192, .f32⟩
  | .local _ .vmem, ⟨13, _⟩ => ⟨S1x16x8192, .f32⟩
  | .local _ .vmem, ⟨14, _⟩ => ⟨S1x64x2048, .f32⟩
  | .local _ .vmem, ⟨15, _⟩ => ⟨S1x64x2048, .f32⟩
  | .local _ .vmem, ⟨16, _⟩ => ⟨S1024x2048, .f32⟩
  | .local _ .vmem, ⟨17, _⟩ => ⟨S1024x2048, .f32⟩
  | .local _ .vmem, ⟨18, _⟩ => ⟨S16x2048, .bf16⟩
  | .local _ .vmem, ⟨19, _⟩ => ⟨S16x2048, .bf16⟩
  | .local _ .vmem, ⟨20, _⟩ => ⟨S16x2048, .bf16⟩
  | .local _ .vmem, ⟨21, _⟩ => ⟨S16x2048, .bf16⟩
  | .local _ .vmem, ⟨22, _⟩ => ⟨S16x2048, .bf16⟩
  | .local _ .vmem, ⟨23, _⟩ => ⟨S16x2048, .bf16⟩
  | .local _ .vmem, ⟨24, _⟩ => ⟨S16x8192, .bf16⟩
  | .local _ .vmem, ⟨25, _⟩ => ⟨S16x8192, .bf16⟩
  | .local _ .vmem, ⟨26, _⟩ => ⟨S64x2048, .bf16⟩
  | .local _ .vmem, ⟨27, _⟩ => ⟨S64x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_v4_5 : Ref sig .tc := ⟨.hbm, 17, rfl⟩
abbrev main_v5 : Ref sig .tc := ⟨.hbm, 18, rfl⟩
abbrev main_v6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![16, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_6 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_7 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_11 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_12 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_13 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x16x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S16x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S16x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S16x8192 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S64x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== InProjPromptReferenceIdeal.lean ====
abbrev S16384x2048 : Shape := ⟨2, ![16384, 2048]⟩
abbrev S4x2048x20496 : Shape := ⟨3, ![4, 2048, 20496]⟩
abbrev S4x20496 : Shape := ⟨2, ![4, 20496]⟩
abbrev S4x2048x2048 : Shape := ⟨3, ![4, 2048, 2048]⟩
abbrev S4x2048x8192 : Shape := ⟨3, ![4, 2048, 8192]⟩
abbrev S4x8192x2048 : Shape := ⟨3, ![4, 8192, 2048]⟩
abbrev S1x2048x20496 : Shape := ⟨3, ![1, 2048, 20496]⟩
abbrev S2048x20496 : Shape := ⟨2, ![2048, 20496]⟩
abbrev S16384x20496 : Shape := ⟨2, ![16384, 20496]⟩
abbrev S1x20496 : Shape := ⟨2, ![1, 20496]⟩
abbrev S20496 : Shape := ⟨1, ![20496]⟩
abbrev S16384x20480 : Shape := ⟨2, ![16384, 20480]⟩
abbrev S1x2048x2048 : Shape := ⟨3, ![1, 2048, 2048]⟩
abbrev S2048x2048 : Shape := ⟨2, ![2048, 2048]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩
abbrev S4x4096x20480 : Shape := ⟨3, ![4, 4096, 20480]⟩
abbrev S4x3x4096 : Shape := ⟨3, ![4, 3, 4096]⟩

abbrev nBuf : Space → Nat
  | .hbm => 35
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S4x2048x20496, .f32⟩
  | .hbm, ⟨2, _⟩ => ⟨S4x20496, .f32⟩
  | .hbm, ⟨3, _⟩ => ⟨S4x2048x2048, .f32⟩
  | .hbm, ⟨4, _⟩ => ⟨S4x2048x2048, .f32⟩
  | .hbm, ⟨5, _⟩ => ⟨S4x2048x2048, .f32⟩
  | .hbm, ⟨6, _⟩ => ⟨S4x2048x8192, .f32⟩
  | .hbm, ⟨7, _⟩ => ⟨S4x8192x2048, .f32⟩
  | .hbm, ⟨8, _⟩ => ⟨S16384x2048, .f32⟩
  | .hbm, ⟨9, _⟩ => ⟨S1x2048x20496, .f32⟩
  | .hbm, ⟨10, _⟩ => ⟨S2048x20496, .f32⟩
  | .hbm, ⟨11, _⟩ => ⟨S16384x20496, .f32⟩
  | .hbm, ⟨12, _⟩ => ⟨S1x20496, .f32⟩
  | .hbm, ⟨13, _⟩ => ⟨S20496, .f32⟩
  | .hbm, ⟨14, _⟩ => ⟨S1x20496, .f32⟩
  | .hbm, ⟨15, _⟩ => ⟨S16384x20496, .f32⟩
  | .hbm, ⟨16, _⟩ => ⟨S16384x20496, .f32⟩
  | .hbm, ⟨17, _⟩ => ⟨S16384x20480, .f32⟩
  | .hbm, ⟨18, _⟩ => ⟨S1x2048x2048, .f32⟩
  | .hbm, ⟨19, _⟩ => ⟨S2048x2048, .f32⟩
  | .hbm, ⟨20, _⟩ => ⟨S2048x2048, .bf16⟩
  | .hbm, ⟨21, _⟩ => ⟨S1x2048x2048, .f32⟩
  | .hbm, ⟨22, _⟩ => ⟨S2048x2048, .f32⟩
  | .hbm, ⟨23, _⟩ => ⟨S2048x2048, .bf16⟩
  | .hbm, ⟨24, _⟩ => ⟨S1x2048x2048, .f32⟩
  | .hbm, ⟨25, _⟩ => ⟨S2048x2048, .f32⟩
  | .hbm, ⟨26, _⟩ => ⟨S2048x2048, .bf16⟩
  | .hbm, ⟨27, _⟩ => ⟨S1x2048x8192, .f32⟩
  | .hbm, ⟨28, _⟩ => ⟨S2048x8192, .f32⟩
  | .hbm, ⟨29, _⟩ => ⟨S2048x8192, .bf16⟩
  | .hbm, ⟨30, _⟩ => ⟨S1x8192x2048, .f32⟩
  | .hbm, ⟨31, _⟩ => ⟨S8192x2048, .f32⟩
  | .hbm, ⟨32, _⟩ => ⟨S8192x2048, .bf16⟩
  | .hbm, ⟨33, _⟩ => ⟨S4x4096x20480, .f32⟩
  | .hbm, ⟨34, _⟩ => ⟨S4x3x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Branches.lean ====
abbrev S128x2048 : Shape := ⟨2, ![128, 2048]⟩
abbrev S2048x2048 : Shape := ⟨2, ![2048, 2048]⟩
abbrev S128x20480 : Shape := ⟨2, ![128, 20480]⟩

abbrev nBuf : Space → Nat
  | .hbm => 6
  | .vmem => 7
  | .smem => 0
  | _ => 0

abbrev bufTy : (tb : Table) → Fin (tcTables nBuf tb) → BufTy
  | .hbm, ⟨0, _⟩ => ⟨S128x2048, .bf16⟩
  | .hbm, ⟨1, _⟩ => ⟨S128x2048, .bf16⟩
  | .hbm, ⟨2, _⟩ => ⟨S2048x2048, .bf16⟩
  | .hbm, ⟨3, _⟩ => ⟨S2048x2048, .bf16⟩
  | .hbm, ⟨4, _⟩ => ⟨S128x20480, .f32⟩
  | .hbm, ⟨5, _⟩ => ⟨S128x2048, .bf16⟩
  | .local _ .vmem, ⟨0, _⟩ => ⟨S128x2048, .bf16⟩
  | .local _ .vmem, ⟨1, _⟩ => ⟨S128x2048, .bf16⟩
  | .local _ .vmem, ⟨2, _⟩ => ⟨S2048x2048, .bf16⟩
  | .local _ .vmem, ⟨3, _⟩ => ⟨S2048x2048, .bf16⟩
  | .local _ .vmem, ⟨4, _⟩ => ⟨S128x2048, .f32⟩
  | .local _ .vmem, ⟨5, _⟩ => ⟨S128x2048, .f32⟩
  | .local _ .vmem, ⟨6, _⟩ => ⟨S128x2048, .bf16⟩
  | _, _ => ⟨S128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S128x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== BranchesIdeal.lean ====
abbrev S128x2048 : Shape := ⟨2, ![128, 2048]⟩
abbrev S2048x2048 : Shape := ⟨2, ![2048, 2048]⟩
abbrev S128x20480 : Shape := ⟨2, ![128, 20480]⟩

abbrev nBuf : Space → Nat
  | .hbm => 6
  | .vmem => 7
  | .smem => 0
  | _ => 0

abbrev bufTy : (tb : Table) → Fin (tcTables nBuf tb) → BufTy
  | .hbm, ⟨0, _⟩ => ⟨S128x2048, .bf16⟩
  | .hbm, ⟨1, _⟩ => ⟨S128x2048, .bf16⟩
  | .hbm, ⟨2, _⟩ => ⟨S2048x2048, .bf16⟩
  | .hbm, ⟨3, _⟩ => ⟨S2048x2048, .bf16⟩
  | .hbm, ⟨4, _⟩ => ⟨S128x20480, .f32⟩
  | .hbm, ⟨5, _⟩ => ⟨S128x2048, .bf16⟩
  | .local _ .vmem, ⟨0, _⟩ => ⟨S128x2048, .bf16⟩
  | .local _ .vmem, ⟨1, _⟩ => ⟨S128x2048, .bf16⟩
  | .local _ .vmem, ⟨2, _⟩ => ⟨S2048x2048, .bf16⟩
  | .local _ .vmem, ⟨3, _⟩ => ⟨S2048x2048, .bf16⟩
  | .local _ .vmem, ⟨4, _⟩ => ⟨S128x2048, .f32⟩
  | .local _ .vmem, ⟨5, _⟩ => ⟨S128x2048, .f32⟩
  | .local _ .vmem, ⟨6, _⟩ => ⟨S128x2048, .bf16⟩
  | _, _ => ⟨S128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S128x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== BranchesReferenceIdeal.lean ====
abbrev S128x2048 : Shape := ⟨2, ![128, 2048]⟩
abbrev S2048x2048 : Shape := ⟨2, ![2048, 2048]⟩
abbrev S128x20480 : Shape := ⟨2, ![128, 20480]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S128x2048, .bf16⟩
  | .hbm, ⟨1, _⟩ => ⟨S128x2048, .bf16⟩
  | .hbm, ⟨2, _⟩ => ⟨S2048x2048, .bf16⟩
  | .hbm, ⟨3, _⟩ => ⟨S2048x2048, .bf16⟩
  | .hbm, ⟨4, _⟩ => ⟨S128x20480, .f32⟩
  | .hbm, ⟨5, _⟩ => ⟨S128x2048, .f32⟩
  | .hbm, ⟨6, _⟩ => ⟨S128x2048, .f32⟩
  | .hbm, ⟨7, _⟩ => ⟨S128x2048, .f32⟩
  | .hbm, ⟨8, _⟩ => ⟨S128x2048, .f32⟩
  | .hbm, ⟨9, _⟩ => ⟨S_, .f32⟩
  | .hbm, ⟨10, _⟩ => ⟨S128x2048, .f32⟩
  | .hbm, ⟨11, _⟩ => ⟨S128x2048, .f32⟩
  | .hbm, ⟨12, _⟩ => ⟨S_, .f32⟩
  | .hbm, ⟨13, _⟩ => ⟨S128x2048, .f32⟩
  | .hbm, ⟨14, _⟩ => ⟨S128x2048, .f32⟩
  | .hbm, ⟨15, _⟩ => ⟨S128x2048, .f32⟩
  | .hbm, ⟨16, _⟩ => ⟨S2048x2048, .f32⟩
  | .hbm, ⟨17, _⟩ => ⟨S128x2048, .f32⟩
  | .hbm, ⟨18, _⟩ => ⟨S128x2048, .f32⟩
  | .hbm, ⟨19, _⟩ => ⟨S128x2048, .f32⟩
  | .hbm, ⟨20, _⟩ => ⟨S128x2048, .f32⟩
  | .hbm, ⟨21, _⟩ => ⟨S_, .f32⟩
  | .hbm, ⟨22, _⟩ => ⟨S128x2048, .f32⟩
  | .hbm, ⟨23, _⟩ => ⟨S128x2048, .f32⟩
  | .hbm, ⟨24, _⟩ => ⟨S_, .f32⟩
  | .hbm, ⟨25, _⟩ => ⟨S128x2048, .f32⟩
  | .hbm, ⟨26, _⟩ => ⟨S128x2048, .f32⟩
  | .hbm, ⟨27, _⟩ => ⟨S128x2048, .f32⟩
  | .hbm, ⟨28, _⟩ => ⟨S2048x2048, .f32⟩
  | .hbm, ⟨29, _⟩ => ⟨S128x2048, .f32⟩
  | .hbm, ⟨30, _⟩ => ⟨S128x2048, .f32⟩
  | .hbm, ⟨31, _⟩ => ⟨S128x2048, .f32⟩
  | .hbm, ⟨32, _⟩ => ⟨S128x2048, .bf16⟩
  | _, _ => ⟨S128x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== OutProj.lean ====
abbrev S128x2048 : Shape := ⟨2, ![128, 2048]⟩
abbrev S2048x2048 : Shape := ⟨2, ![2048, 2048]⟩
abbrev S128x12288 : Shape := ⟨2, ![128, 12288]⟩

abbrev nBuf : Space → Nat
  | .hbm => 5
  | .vmem => 5
  | .smem => 0
  | _ => 0

abbrev bufTy : (tb : Table) → Fin (tcTables nBuf tb) → BufTy
  | .hbm, ⟨0, _⟩ => ⟨S128x2048, .bf16⟩
  | .hbm, ⟨1, _⟩ => ⟨S2048x2048, .bf16⟩
  | .hbm, ⟨2, _⟩ => ⟨S128x2048, .f32⟩
  | .hbm, ⟨3, _⟩ => ⟨S128x12288, .f32⟩
  | .hbm, ⟨4, _⟩ => ⟨S128x2048, .f32⟩
  | .local _ .vmem, ⟨0, _⟩ => ⟨S128x2048, .bf16⟩
  | .local _ .vmem, ⟨1, _⟩ => ⟨S2048x2048, .bf16⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | _, _ => ⟨S128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]
-- ==== OutProjReferenceIdeal.lean ====
abbrev S128x2048 : Shape := ⟨2, ![128, 2048]⟩
abbrev S2048x2048 : Shape := ⟨2, ![2048, 2048]⟩
abbrev S128x12288 : Shape := ⟨2, ![128, 12288]⟩

abbrev nBuf : Space → Nat
  | .hbm => 10
  | .vmem => 0
  | .smem => 0
  | _ => 0

abbrev bufTy : (tb : Table) → Fin (tcTables nBuf tb) → BufTy
  | .hbm, ⟨0, _⟩ => ⟨S128x2048, .bf16⟩
  | .hbm, ⟨1, _⟩ => ⟨S2048x2048, .bf16⟩
  | .hbm, ⟨2, _⟩ => ⟨S128x2048, .f32⟩
  | .hbm, ⟨3, _⟩ => ⟨S128x12288, .f32⟩
  | .hbm, ⟨4, _⟩ => ⟨S128x2048, .f32⟩
  | .hbm, ⟨5, _⟩ => ⟨S128x2048, .f32⟩
  | .hbm, ⟨6, _⟩ => ⟨S2048x2048, .f32⟩
  | .hbm, ⟨7, _⟩ => ⟨S128x2048, .f32⟩
  | .hbm, ⟨8, _⟩ => ⟨S128x2048, .f32⟩
  | .hbm, ⟨9, _⟩ => ⟨S128x2048, .f32⟩
  | _, _ => ⟨S128x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== BranchesPrompt.lean ====
abbrev S16384x2048 : Shape := ⟨2, ![16384, 2048]⟩
abbrev S2048x2048 : Shape := ⟨2, ![2048, 2048]⟩
abbrev S16384x20480 : Shape := ⟨2, ![16384, 20480]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 14
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S2048x2048, .bf16⟩
  | .hbm, ⟨3, _⟩ => ⟨S2048x2048, .bf16⟩
  | .hbm, ⟨4, _⟩ => ⟨S16384x20480, .f32⟩
  | .hbm, ⟨5, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== BranchesPromptReferenceIdeal.lean ====
abbrev S16384x2048 : Shape := ⟨2, ![16384, 2048]⟩
abbrev S2048x2048 : Shape := ⟨2, ![2048, 2048]⟩
abbrev S16384x20480 : Shape := ⟨2, ![16384, 20480]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S2048x2048, .bf16⟩
  | .hbm, ⟨3, _⟩ => ⟨S2048x2048, .bf16⟩
  | .hbm, ⟨4, _⟩ => ⟨S16384x20480, .f32⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S_, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S2048x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S_, .f32⟩
  | .hbm, ⟨22, _⟩ => ⟨S16384x2048, .f32⟩
  | .hbm, ⟨23, _⟩ => ⟨S16384x2048, .f32⟩
  | .hbm, ⟨24, _⟩ => ⟨S_, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S2048x2048, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== OutProjPrompt.lean ====
abbrev S16384x2048 : Shape := ⟨2, ![16384, 2048]⟩
abbrev S2048x2048 : Shape := ⟨2, ![2048, 2048]⟩
abbrev S4x12288 : Shape := ⟨2, ![4, 12288]⟩
abbrev S4x1x12288 : Shape := ⟨3, ![4, 1, 12288]⟩
abbrev S2048x512 : Shape := ⟨2, ![2048, 512]⟩
abbrev S1x1x512 : Shape := ⟨3, ![1, 1, 512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .bf16⟩
  | .hbm, ⟨2, _⟩ => ⟨S16384x2048, .f32⟩
  | .hbm, ⟨3, _⟩ => ⟨S4x12288, .f32⟩
  | .hbm, ⟨4, _⟩ => ⟨S4x1x12288, .f32⟩
  | .hbm, ⟨5, _⟩ => ⟨S16384x2048, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .f32⟩
  | .local _ .vmem, ⟨5, _⟩ => ⟨S2048x512, .f32⟩
  | .local _ .vmem, ⟨6, _⟩ => ⟨S1x1x512, .f32⟩
  | .local _ .vmem, ⟨7, _⟩ => ⟨S1x1x512, .f32⟩
  | .local _ .vmem, ⟨8, _⟩ => ⟨S2048x512, .f32⟩
  | .local _ .vmem, ⟨9, _⟩ => ⟨S2048x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.addi c8_i32 arg1
  let c0_i32_4 : BitVec 32 := 0#32
  let c0_i32_5 : BitVec 32 := 0#32
  ![v16.toNat, c0_i32_4.toNat, v17.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutProjPromptReferenceIdeal.lean ====
abbrev S16384x2048 : Shape := ⟨2, ![16384, 2048]⟩
abbrev S2048x2048 : Shape := ⟨2, ![2048, 2048]⟩
abbrev S4x12288 : Shape := ⟨2, ![4, 12288]⟩
abbrev S4x4096x12288 : Shape := ⟨3, ![4, 4096, 12288]⟩
abbrev S16384x12288 : Shape := ⟨2, ![16384, 12288]⟩

abbrev nBuf : Space → Nat
  | .hbm => 12
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .bf16⟩
  | .hbm, ⟨2, _⟩ => ⟨S16384x2048, .f32⟩
  | .hbm, ⟨3, _⟩ => ⟨S4x12288, .f32⟩
  | .hbm, ⟨4, _⟩ => ⟨S4x4096x12288, .f32⟩
  | .hbm, ⟨5, _⟩ => ⟨S16384x12288, .f32⟩
  | .hbm, ⟨6, _⟩ => ⟨S16384x2048, .f32⟩
  | .hbm, ⟨7, _⟩ => ⟨S16384x2048, .f32⟩
  | .hbm, ⟨8, _⟩ => ⟨S2048x2048, .f32⟩
  | .hbm, ⟨9, _⟩ => ⟨S16384x2048, .f32⟩
  | .hbm, ⟨10, _⟩ => ⟨S16384x2048, .f32⟩
  | .hbm, ⟨11, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== FfnMid.lean ====
abbrev S128x2048 : Shape := ⟨2, ![128, 2048]⟩
abbrev S4x2048 : Shape := ⟨2, ![4, 2048]⟩
abbrev S128x12288 : Shape := ⟨2, ![128, 12288]⟩
abbrev S2048x8192 : Shape := ⟨2, ![2048, 8192]⟩
abbrev S8192x2048 : Shape := ⟨2, ![8192, 2048]⟩
abbrev S2048 : Shape := ⟨1, ![2048]⟩
abbrev S4x1x2048 : Shape := ⟨3, ![4, 1, 2048]⟩
abbrev S1x2048 : Shape := ⟨2, ![1, 2048]⟩
abbrev S1x1x2048 : Shape := ⟨3, ![1, 1, 2048]⟩
abbrev S2048x2048 : Shape := ⟨2, ![2048, 2048]⟩
abbrev S128x1 : Shape := ⟨2, ![128, 1]⟩
abbrev S128 : Shape := ⟨1, ![128]⟩

abbrev nBuf : Space → Nat
  | .hbm => 9
  | .vmem => 13
  | .smem => 0
  | _ => 0

abbrev bufTy : (tb : Table) → Fin (tcTables nBuf tb) → BufTy
  | .hbm, ⟨0, _⟩ => ⟨S128x2048, .f32⟩
  | .hbm, ⟨1, _⟩ => ⟨S4x2048, .f32⟩
  | .hbm, ⟨2, _⟩ => ⟨S128x12288, .f32⟩
  | .hbm, ⟨3, _⟩ => ⟨S2048x8192, .bf16⟩
  | .hbm, ⟨4, _⟩ => ⟨S8192x2048, .bf16⟩
  | .hbm, ⟨5, _⟩ => ⟨S2048, .f32⟩
  | .hbm, ⟨6, _⟩ => ⟨S4x1x2048, .f32⟩
  | .hbm, ⟨7, _⟩ => ⟨S1x2048, .f32⟩
  | .hbm, ⟨8, _⟩ => ⟨S128x2048, .f32⟩
  | .local _ .vmem, ⟨0, _⟩ => ⟨S128x2048, .f32⟩
  | .local _ .vmem, ⟨1, _⟩ => ⟨S1x1x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S2048x2048, .bf16⟩
  | .local _ .vmem, ⟨6, _⟩ => ⟨S2048x2048, .bf16⟩
  | .local _ .vmem, ⟨7, _⟩ => ⟨S2048x2048, .bf16⟩
  | .local _ .vmem, ⟨8, _⟩ => ⟨S2048x2048, .bf16⟩
  | .local _ .vmem, ⟨9, _⟩ => ⟨S1x2048, .f32⟩
  | .local _ .vmem, ⟨10, _⟩ => ⟨S128x2048, .f32⟩
  | .local _ .vmem, ⟨11, _⟩ => ⟨S128x2048, .bf16⟩
  | .local _ .vmem, ⟨12, _⟩ => ⟨S128x1, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem8_0 : DmaSem sig := 10

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 : BitVec 32 :=
  let c0_i32_13 : BitVec 32 := 0#32
  let c128_i32 : BitVec 32 := 128#32
  let v19 : BitVec 32 := Scalar.muli c0_i32_13 c128_i32
  v19
def k0_off1 : Fin 2 → Nat :=
  let c0_i32_13 : BitVec 32 := 0#32
  let c128_i32 : BitVec 32 := 128#32
  let v19 : BitVec 32 := Scalar.muli c0_i32_13 c128_i32
  let v20 : BitVec 32 := v19
  let v21 : Index := Scalar.indexCast v20
  let c0_14 : Index := 0#32
  ![v21.toNat, 0]
def k0_off2 : Fin 2 → Nat :=
  let c0_i32_13 : BitVec 32 := 0#32
  let c128_i32 : BitVec 32 := 128#32
  let v19 : BitVec 32 := Scalar.muli c0_i32_13 c128_i32
  let v20 : BitVec 32 := v19
  let v31 : Index := Scalar.indexCast v20
  let c0_18 : Index := 0#32
  ![v31.toNat, 0]
def k0_mult2 : BitVec 32 :=
  let c0_i32_19 : BitVec 32 := 0#32
  let c128_i32_20 : BitVec 32 := 128#32
  let v35 : BitVec 32 := Scalar.muli c0_i32_19 c128_i32_20
  v35
def k0_cond2 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_12 : BitVec 32 := 0#32
  let v18 : BitVec 1 := Scalar.cmpi .ne v17 c0_i32_12
  v18

def k0_mult3 : BitVec 32 :=
  let c0_i32_13 : BitVec 32 := 0#32
  let c128_i32 : BitVec 32 := 128#32
  let v19 : BitVec 32 := Scalar.muli c0_i32_13 c128_i32
  v19
def k0_off3 : Fin 2 → Nat :=
  let c0_i32_13 : BitVec 32 := 0#32
  let c128_i32 : BitVec 32 := 128#32
  let v19 : BitVec 32 := Scalar.muli c0_i32_13 c128_i32
  let v20 : BitVec 32 := v19
  let v21 : Index := Scalar.indexCast v20
  let c0_14 : Index := 0#32
  ![v21.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S2048x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== FfnMidReferenceIdeal.lean ====
abbrev S128x2048 : Shape := ⟨2, ![128, 2048]⟩
abbrev S4x2048 : Shape := ⟨2, ![4, 2048]⟩
abbrev S128x12288 : Shape := ⟨2, ![128, 12288]⟩
abbrev S2048x8192 : Shape := ⟨2, ![2048, 8192]⟩
abbrev S8192x2048 : Shape := ⟨2, ![8192, 2048]⟩
abbrev S2048 : Shape := ⟨1, ![2048]⟩
abbrev S1x2048 : Shape := ⟨2, ![1, 2048]⟩
abbrev S_ : Shape := ⟨0, ![]⟩
abbrev S128 : Shape := ⟨1, ![128]⟩
abbrev S128x1 : Shape := ⟨2, ![128, 1]⟩
abbrev S128x8192 : Shape := ⟨2, ![128, 8192]⟩

abbrev nBuf : Space → Nat
  | .hbm => 42
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S4x2048, .f32⟩
  | .hbm, ⟨2, _⟩ => ⟨S128x12288, .f32⟩
  | .hbm, ⟨3, _⟩ => ⟨S2048x8192, .bf16⟩
  | .hbm, ⟨4, _⟩ => ⟨S8192x2048, .bf16⟩
  | .hbm, ⟨5, _⟩ => ⟨S2048, .f32⟩
  | .hbm, ⟨6, _⟩ => ⟨S128x2048, .f32⟩
  | .hbm, ⟨7, _⟩ => ⟨S128x2048, .f32⟩
  | .hbm, ⟨8, _⟩ => ⟨S128x2048, .f32⟩
  | .hbm, ⟨9, _⟩ => ⟨S1x2048, .f32⟩
  | .hbm, ⟨10, _⟩ => ⟨S2048, .f32⟩
  | .hbm, ⟨11, _⟩ => ⟨S128x2048, .f32⟩
  | .hbm, ⟨12, _⟩ => ⟨S_, .f32⟩
  | .hbm, ⟨13, _⟩ => ⟨S128, .f32⟩
  | .hbm, ⟨14, _⟩ => ⟨S128x1, .f32⟩
  | .hbm, ⟨15, _⟩ => ⟨S_, .f32⟩
  | .hbm, ⟨16, _⟩ => ⟨S128x1, .f32⟩
  | .hbm, ⟨17, _⟩ => ⟨S128x1, .f32⟩
  | .hbm, ⟨18, _⟩ => ⟨S_, .f32⟩
  | .hbm, ⟨19, _⟩ => ⟨S128x1, .f32⟩
  | .hbm, ⟨20, _⟩ => ⟨S128x1, .f32⟩
  | .hbm, ⟨21, _⟩ => ⟨S128x1, .f32⟩
  | .hbm, ⟨22, _⟩ => ⟨S128x2048, .f32⟩
  | .hbm, ⟨23, _⟩ => ⟨S128x2048, .f32⟩
  | .hbm, ⟨24, _⟩ => ⟨S1x2048, .f32⟩
  | .hbm, ⟨25, _⟩ => ⟨S128x2048, .f32⟩
  | .hbm, ⟨26, _⟩ => ⟨S128x2048, .f32⟩
  | .hbm, ⟨27, _⟩ => ⟨S_, .f32⟩
  | .hbm, ⟨28, _⟩ => ⟨S128x2048, .f32⟩
  | .hbm, ⟨29, _⟩ => ⟨S128x2048, .f32⟩
  | .hbm, ⟨30, _⟩ => ⟨S128x2048, .f32⟩
  | .hbm, ⟨31, _⟩ => ⟨S128x2048, .f32⟩
  | .hbm, ⟨32, _⟩ => ⟨S2048x8192, .f32⟩
  | .hbm, ⟨33, _⟩ => ⟨S128x8192, .f32⟩
  | .hbm, ⟨34, _⟩ => ⟨S_, .f32⟩
  | .hbm, ⟨35, _⟩ => ⟨S128x8192, .f32⟩
  | .hbm, ⟨36, _⟩ => ⟨S128x8192, .f32⟩
  | .hbm, ⟨37, _⟩ => ⟨S128x8192, .f32⟩
  | .hbm, ⟨38, _⟩ => ⟨S8192x2048, .f32⟩
  | .hbm, ⟨39, _⟩ => ⟨S128x2048, .f32⟩
  | .hbm, ⟨40, _⟩ => ⟨S128x2048, .f32⟩
  | .hbm, ⟨41, _⟩ => ⟨S128x2048, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call0_cst : Ref sig .tc := ⟨.hbm, 34, rfl⟩
abbrev main_call0_v0 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Ffn.lean ====
abbrev S128x2048 : Shape := ⟨2, ![128, 2048]⟩
abbrev S4x2048 : Shape := ⟨2, ![4, 2048]⟩
abbrev S128x12288 : Shape := ⟨2, ![128, 12288]⟩
abbrev S2048x8192 : Shape := ⟨2, ![2048, 8192]⟩
abbrev S8192x2048 : Shape := ⟨2, ![8192, 2048]⟩
abbrev S2048 : Shape := ⟨1, ![2048]⟩
abbrev S4x1x2048 : Shape := ⟨3, ![4, 1, 2048]⟩
abbrev S1x2048 : Shape := ⟨2, ![1, 2048]⟩
abbrev S1x1x2048 : Shape := ⟨3, ![1, 1, 2048]⟩
abbrev S2048x2048 : Shape := ⟨2, ![2048, 2048]⟩
abbrev S128x1 : Shape := ⟨2, ![128, 1]⟩
abbrev S128 : Shape := ⟨1, ![128]⟩

abbrev nBuf : Space → Nat
  | .hbm => 9
  | .vmem => 13
  | .smem => 0
  | _ => 0

abbrev bufTy : (tb : Table) → Fin (tcTables nBuf tb) → BufTy
  | .hbm, ⟨0, _⟩ => ⟨S128x2048, .f32⟩
  | .hbm, ⟨1, _⟩ => ⟨S4x2048, .f32⟩
  | .hbm, ⟨2, _⟩ => ⟨S128x12288, .f32⟩
  | .hbm, ⟨3, _⟩ => ⟨S2048x8192, .bf16⟩
  | .hbm, ⟨4, _⟩ => ⟨S8192x2048, .bf16⟩
  | .hbm, ⟨5, _⟩ => ⟨S2048, .f32⟩
  | .hbm, ⟨6, _⟩ => ⟨S4x1x2048, .f32⟩
  | .hbm, ⟨7, _⟩ => ⟨S1x2048, .f32⟩
  | .hbm, ⟨8, _⟩ => ⟨S128x2048, .f32⟩
  | .local _ .vmem, ⟨0, _⟩ => ⟨S128x2048, .f32⟩
  | .local _ .vmem, ⟨1, _⟩ => ⟨S1x1x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S2048x2048, .bf16⟩
  | .local _ .vmem, ⟨6, _⟩ => ⟨S2048x2048, .bf16⟩
  | .local _ .vmem, ⟨7, _⟩ => ⟨S2048x2048, .bf16⟩
  | .local _ .vmem, ⟨8, _⟩ => ⟨S2048x2048, .bf16⟩
  | .local _ .vmem, ⟨9, _⟩ => ⟨S1x2048, .f32⟩
  | .local _ .vmem, ⟨10, _⟩ => ⟨S128x2048, .f32⟩
  | .local _ .vmem, ⟨11, _⟩ => ⟨S128x2048, .bf16⟩
  | .local _ .vmem, ⟨12, _⟩ => ⟨S128x1, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem8_0 : DmaSem sig := 10

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 : BitVec 32 :=
  let c0_i32_13 : BitVec 32 := 0#32
  let c128_i32 : BitVec 32 := 128#32
  let v19 : BitVec 32 := Scalar.muli c0_i32_13 c128_i32
  v19
def k0_off1 : Fin 2 → Nat :=
  let c0_i32_13 : BitVec 32 := 0#32
  let c128_i32 : BitVec 32 := 128#32
  let v19 : BitVec 32 := Scalar.muli c0_i32_13 c128_i32
  let v20 : BitVec 32 := v19
  let v21 : Index := Scalar.indexCast v20
  let c0_14 : Index := 0#32
  ![v21.toNat, 0]
def k0_off2 : Fin 2 → Nat :=
  let c0_i32_13 : BitVec 32 := 0#32
  let c128_i32 : BitVec 32 := 128#32
  let v19 : BitVec 32 := Scalar.muli c0_i32_13 c128_i32
  let v20 : BitVec 32 := v19
  let v31 : Index := Scalar.indexCast v20
  let c0_18 : Index := 0#32
  ![v31.toNat, 0]
def k0_mult2 : BitVec 32 :=
  let c0_i32_19 : BitVec 32 := 0#32
  let c128_i32_20 : BitVec 32 := 128#32
  let v35 : BitVec 32 := Scalar.muli c0_i32_19 c128_i32_20
  v35
def k0_cond2 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_12 : BitVec 32 := 0#32
  let v18 : BitVec 1 := Scalar.cmpi .ne v17 c0_i32_12
  v18

def k0_mult3 : BitVec 32 :=
  let c0_i32_13 : BitVec 32 := 0#32
  let c128_i32 : BitVec 32 := 128#32
  let v19 : BitVec 32 := Scalar.muli c0_i32_13 c128_i32
  v19
def k0_off3 : Fin 2 → Nat :=
  let c0_i32_13 : BitVec 32 := 0#32
  let c128_i32 : BitVec 32 := 128#32
  let v19 : BitVec 32 := Scalar.muli c0_i32_13 c128_i32
  let v20 : BitVec 32 := v19
  let v21 : Index := Scalar.indexCast v20
  let c0_14 : Index := 0#32
  ![v21.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S2048x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== FfnReferenceIdeal.lean ====
abbrev S128x2048 : Shape := ⟨2, ![128, 2048]⟩
abbrev S4x2048 : Shape := ⟨2, ![4, 2048]⟩
abbrev S128x12288 : Shape := ⟨2, ![128, 12288]⟩
abbrev S2048x8192 : Shape := ⟨2, ![2048, 8192]⟩
abbrev S8192x2048 : Shape := ⟨2, ![8192, 2048]⟩
abbrev S2048 : Shape := ⟨1, ![2048]⟩
abbrev S1x2048 : Shape := ⟨2, ![1, 2048]⟩
abbrev S_ : Shape := ⟨0, ![]⟩
abbrev S128 : Shape := ⟨1, ![128]⟩
abbrev S128x1 : Shape := ⟨2, ![128, 1]⟩
abbrev S128x8192 : Shape := ⟨2, ![128, 8192]⟩

abbrev nBuf : Space → Nat
  | .hbm => 58
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S4x2048, .f32⟩
  | .hbm, ⟨2, _⟩ => ⟨S128x12288, .f32⟩
  | .hbm, ⟨3, _⟩ => ⟨S2048x8192, .bf16⟩
  | .hbm, ⟨4, _⟩ => ⟨S8192x2048, .bf16⟩
  | .hbm, ⟨5, _⟩ => ⟨S2048, .f32⟩
  | .hbm, ⟨6, _⟩ => ⟨S128x2048, .f32⟩
  | .hbm, ⟨7, _⟩ => ⟨S128x2048, .f32⟩
  | .hbm, ⟨8, _⟩ => ⟨S128x2048, .f32⟩
  | .hbm, ⟨9, _⟩ => ⟨S1x2048, .f32⟩
  | .hbm, ⟨10, _⟩ => ⟨S2048, .f32⟩
  | .hbm, ⟨11, _⟩ => ⟨S128x2048, .f32⟩
  | .hbm, ⟨12, _⟩ => ⟨S_, .f32⟩
  | .hbm, ⟨13, _⟩ => ⟨S128, .f32⟩
  | .hbm, ⟨14, _⟩ => ⟨S128x1, .f32⟩
  | .hbm, ⟨15, _⟩ => ⟨S_, .f32⟩
  | .hbm, ⟨16, _⟩ => ⟨S128x1, .f32⟩
  | .hbm, ⟨17, _⟩ => ⟨S128x1, .f32⟩
  | .hbm, ⟨18, _⟩ => ⟨S_, .f32⟩
  | .hbm, ⟨19, _⟩ => ⟨S128x1, .f32⟩
  | .hbm, ⟨20, _⟩ => ⟨S128x1, .f32⟩
  | .hbm, ⟨21, _⟩ => ⟨S128x1, .f32⟩
  | .hbm, ⟨22, _⟩ => ⟨S128x2048, .f32⟩
  | .hbm, ⟨23, _⟩ => ⟨S128x2048, .f32⟩
  | .hbm, ⟨24, _⟩ => ⟨S1x2048, .f32⟩
  | .hbm, ⟨25, _⟩ => ⟨S128x2048, .f32⟩
  | .hbm, ⟨26, _⟩ => ⟨S128x2048, .f32⟩
  | .hbm, ⟨27, _⟩ => ⟨S_, .f32⟩
  | .hbm, ⟨28, _⟩ => ⟨S128x2048, .f32⟩
  | .hbm, ⟨29, _⟩ => ⟨S128x2048, .f32⟩
  | .hbm, ⟨30, _⟩ => ⟨S128x2048, .f32⟩
  | .hbm, ⟨31, _⟩ => ⟨S128x2048, .f32⟩
  | .hbm, ⟨32, _⟩ => ⟨S2048x8192, .f32⟩
  | .hbm, ⟨33, _⟩ => ⟨S128x8192, .f32⟩
  | .hbm, ⟨34, _⟩ => ⟨S_, .f32⟩
  | .hbm, ⟨35, _⟩ => ⟨S128x8192, .f32⟩
  | .hbm, ⟨36, _⟩ => ⟨S128x8192, .f32⟩
  | .hbm, ⟨37, _⟩ => ⟨S128x8192, .f32⟩
  | .hbm, ⟨38, _⟩ => ⟨S8192x2048, .f32⟩
  | .hbm, ⟨39, _⟩ => ⟨S128x2048, .f32⟩
  | .hbm, ⟨40, _⟩ => ⟨S128x2048, .f32⟩
  | .hbm, ⟨41, _⟩ => ⟨S128x2048, .f32⟩
  | .hbm, ⟨42, _⟩ => ⟨S128x2048, .f32⟩
  | .hbm, ⟨43, _⟩ => ⟨S_, .f32⟩
  | .hbm, ⟨44, _⟩ => ⟨S128, .f32⟩
  | .hbm, ⟨45, _⟩ => ⟨S128x1, .f32⟩
  | .hbm, ⟨46, _⟩ => ⟨S_, .f32⟩
  | .hbm, ⟨47, _⟩ => ⟨S128x1, .f32⟩
  | .hbm, ⟨48, _⟩ => ⟨S128x1, .f32⟩
  | .hbm, ⟨49, _⟩ => ⟨S_, .f32⟩
  | .hbm, ⟨50, _⟩ => ⟨S128x1, .f32⟩
  | .hbm, ⟨51, _⟩ => ⟨S128x1, .f32⟩
  | .hbm, ⟨52, _⟩ => ⟨S128x1, .f32⟩
  | .hbm, ⟨53, _⟩ => ⟨S128x2048, .f32⟩
  | .hbm, ⟨54, _⟩ => ⟨S128x2048, .f32⟩
  | .hbm, ⟨55, _⟩ => ⟨S1x2048, .f32⟩
  | .hbm, ⟨56, _⟩ => ⟨S128x2048, .f32⟩
  | .hbm, ⟨57, _⟩ => ⟨S128x2048, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call0_cst : Ref sig .tc := ⟨.hbm, 34, rfl⟩
abbrev main_call0_v0 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== FfnPrompt.lean ====
abbrev S16384x2048 : Shape := ⟨2, ![16384, 2048]⟩
abbrev S4x2048 : Shape := ⟨2, ![4, 2048]⟩
abbrev S4x12288 : Shape := ⟨2, ![4, 12288]⟩
abbrev S2048x8192 : Shape := ⟨2, ![2048, 8192]⟩
abbrev S8192x2048 : Shape := ⟨2, ![8192, 2048]⟩
abbrev S2048 : Shape := ⟨1, ![2048]⟩
abbrev S4x1x2048 : Shape := ⟨3, ![4, 1, 2048]⟩
abbrev S4x1x12288 : Shape := ⟨3, ![4, 1, 12288]⟩
abbrev S1x2048 : Shape := ⟨2, ![1, 2048]⟩
abbrev S512x2048 : Shape := ⟨2, ![512, 2048]⟩
abbrev S1x1x2048 : Shape := ⟨3, ![1, 1, 2048]⟩
abbrev S2048x2048 : Shape := ⟨2, ![2048, 2048]⟩
abbrev S512x1 : Shape := ⟨2, ![512, 1]⟩
abbrev S256x2048 : Shape := ⟨2, ![256, 2048]⟩
abbrev S256 : Shape := ⟨1, ![256]⟩
abbrev S256x1 : Shape := ⟨2, ![256, 1]⟩

abbrev nBuf : Space → Nat
  | .hbm => 10
  | .vmem => 18
  | .smem => 0
  | _ => 0

abbrev bufTy : (tb : Table) → Fin (tcTables nBuf tb) → BufTy
  | .hbm, ⟨0, _⟩ => ⟨S16384x2048, .f32⟩
  | .hbm, ⟨1, _⟩ => ⟨S4x2048, .f32⟩
  | .hbm, ⟨2, _⟩ => ⟨S4x12288, .f32⟩
  | .hbm, ⟨3, _⟩ => ⟨S2048x8192, .bf16⟩
  | .hbm, ⟨4, _⟩ => ⟨S8192x2048, .bf16⟩
  | .hbm, ⟨5, _⟩ => ⟨S2048, .f32⟩
  | .hbm, ⟨6, _⟩ => ⟨S4x1x2048, .f32⟩
  | .hbm, ⟨7, _⟩ => ⟨S4x1x12288, .f32⟩
  | .hbm, ⟨8, _⟩ => ⟨S1x2048, .f32⟩
  | .hbm, ⟨9, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S2048x2048, .bf16⟩
  | .local _ .vmem, ⟨10, _⟩ => ⟨S2048x2048, .bf16⟩
  | .local _ .vmem, ⟨11, _⟩ => ⟨S2048x2048, .bf16⟩
  | .local _ .vmem, ⟨12, _⟩ => ⟨S2048x2048, .bf16⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | .local _ .vmem, ⟨17, _⟩ => ⟨S512x1, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![32, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_13 : BitVec 32 := 0#32
  let c2_i32 : BitVec 32 := 2#32
  let v19 : BitVec 32 := Scalar.addi c0_i32_13 c2_i32
  let c1_i32 : BitVec 32 := 1#32
  ⟨c0_i32_13, v19, c1_i32⟩
def k0_mult1 (k0_t1 : Fin k0_t1_loop.trips) : BitVec 32 :=
  let c0_i32_13 : BitVec 32 := 0#32
  let c1_i32 : BitVec 32 := 1#32
  let arg13 : BitVec 32 := Scf.iv c0_i32_13 c1_i32 k0_t1
  let c256_i32 : BitVec 32 := 256#32
  let v23 : BitVec 32 := Scalar.muli arg13 c256_i32
  v23
def k0_off1 (k0_t1 : Fin k0_t1_loop.trips) : Fin 2 → Nat :=
  let c0_i32_13 : BitVec 32 := 0#32
  let c1_i32 : BitVec 32 := 1#32
  let arg13 : BitVec 32 := Scf.iv c0_i32_13 c1_i32 k0_t1
  let c256_i32 : BitVec 32 := 256#32
  let v23 : BitVec 32 := Scalar.muli arg13 c256_i32
  let v24 : BitVec 32 := v23
  let v25 : Index := Scalar.indexCast v24
  let c0_22 : Index := 0#32
  ![v25.toNat, 0]
def k0_off2 (k0_t1 : Fin k0_t1_loop.trips) : Fin 2 → Nat :=
  let c0_i32_13 : BitVec 32 := 0#32
  let c1_i32 : BitVec 32 := 1#32
  let arg13 : BitVec 32 := Scf.iv c0_i32_13 c1_i32 k0_t1
  let c256_i32 : BitVec 32 := 256#32
  let v23 : BitVec 32 := Scalar.muli arg13 c256_i32
  let v24 : BitVec 32 := v23
  let v35 : Index := Scalar.indexCast v24
  let c0_26 : Index := 0#32
  ![v35.toNat, 0]
@[reducible] def k0_t2_loop : Scf.Loop 32 :=
  let c0_i32_15 : BitVec 32 := 0#32
  let c2_i32_16 : BitVec 32 := 2#32
  let v20 : BitVec 32 := Scalar.addi c0_i32_15 c2_i32_16
  let c1_i32_17 : BitVec 32 := 1#32
  ⟨c0_i32_15, v20, c1_i32_17⟩
def k0_mult2 (k0_t2 : Fin k0_t2_loop.trips) : BitVec 32 :=
  let c0_i32_15 : BitVec 32 := 0#32
  let c1_i32_17 : BitVec 32 := 1#32
  let arg13 : BitVec 32 := Scf.iv c0_i32_15 c1_i32_17 k0_t2
  let c256_i32 : BitVec 32 := 256#32
  let v23 : BitVec 32 := Scalar.muli arg13 c256_i32
  v23
def k0_off3 (k0_t2 : Fin k0_t2_loop.trips) : Fin 2 → Nat :=
  let c0_i32_15 : BitVec 32 := 0#32
  let c1_i32_17 : BitVec 32 := 1#32
  let arg13 : BitVec 32 := Scf.iv c0_i32_15 c1_i32_17 k0_t2
  let c256_i32 : BitVec 32 := 256#32
  let v23 : BitVec 32 := Scalar.muli arg13 c256_i32
  let v24 : BitVec 32 := v23
  let v25 : Index := Scalar.indexCast v24
  let c0_22 : Index := 0#32
  ![v25.toNat, 0]
def k0_off4 (k0_t2 : Fin k0_t2_loop.trips) : Fin 2 → Nat :=
  let c0_i32_15 : BitVec 32 := 0#32
  let c1_i32_17 : BitVec 32 := 1#32
  let arg13 : BitVec 32 := Scf.iv c0_i32_15 c1_i32_17 k0_t2
  let c256_i32 : BitVec 32 := 256#32
  let v23 : BitVec 32 := Scalar.muli arg13 c256_i32
  let v24 : BitVec 32 := v23
  let v27 : Index := Scalar.indexCast v24
  let c0_23 : Index := 0#32
  ![v27.toNat, 0]
def k0_cond2 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_12 : BitVec 32 := 0#32
  let v18 : BitVec 1 := Scalar.cmpi .ne v17 c0_i32_12
  v18

@[reducible] def k0_t3_loop : Scf.Loop 32 :=
  let c0_i32_13 : BitVec 32 := 0#32
  let c2_i32 : BitVec 32 := 2#32
  let v19 : BitVec 32 := Scalar.addi c0_i32_13 c2_i32
  let c1_i32 : BitVec 32 := 1#32
  ⟨c0_i32_13, v19, c1_i32⟩
def k0_mult3 (k0_t3 : Fin k0_t3_loop.trips) : BitVec 32 :=
  let c0_i32_13 : BitVec 32 := 0#32
  let c1_i32 : BitVec 32 := 1#32
  let arg13 : BitVec 32 := Scf.iv c0_i32_13 c1_i32 k0_t3
  let c256_i32 : BitVec 32 := 256#32
  let v20 : BitVec 32 := Scalar.muli arg13 c256_i32
  v20
def k0_off5 (k0_t3 : Fin k0_t3_loop.trips) : Fin 2 → Nat :=
  let c0_i32_13 : BitVec 32 := 0#32
  let c1_i32 : BitVec 32 := 1#32
  let arg13 : BitVec 32 := Scf.iv c0_i32_13 c1_i32 k0_t3
  let c256_i32 : BitVec 32 := 256#32
  let v20 : BitVec 32 := Scalar.muli arg13 c256_i32
  let v21 : BitVec 32 := v20
  let v24 : Index := Scalar.indexCast v21
  let c0_18 : Index := 0#32
  ![v24.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c4_i32 : BitVec 32 := 4#32
  let c0_i32_5 : BitVec 32 := 0#32
  ![v16.toNat, c0_i32_4.toNat, c4_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c3_i32 : BitVec 32 := 3#32
  let c0_i32_5 : BitVec 32 := 0#32
  ![v16.toNat, c0_i32_4.toNat, c3_i32.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c5_i32 : BitVec 32 := 5#32
  let c0_i32_5 : BitVec 32 := 0#32
  ![v16.toNat, c0_i32_4.toNat, c5_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnPromptReferenceIdeal.lean ====
abbrev S16384x2048 : Shape := ⟨2, ![16384, 2048]⟩
abbrev S4x2048 : Shape := ⟨2, ![4, 2048]⟩
abbrev S4x12288 : Shape := ⟨2, ![4, 12288]⟩
abbrev S2048x8192 : Shape := ⟨2, ![2048, 8192]⟩
abbrev S8192x2048 : Shape := ⟨2, ![8192, 2048]⟩
abbrev S2048 : Shape := ⟨1, ![2048]⟩
abbrev S4x4096x12288 : Shape := ⟨3, ![4, 4096, 12288]⟩
abbrev S16384x12288 : Shape := ⟨2, ![16384, 12288]⟩
abbrev S1x2048 : Shape := ⟨2, ![1, 2048]⟩
abbrev S_ : Shape := ⟨0, ![]⟩
abbrev S16384 : Shape := ⟨1, ![16384]⟩
abbrev S16384x1 : Shape := ⟨2, ![16384, 1]⟩
abbrev S16384x8192 : Shape := ⟨2, ![16384, 8192]⟩

abbrev nBuf : Space → Nat
  | .hbm => 60
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S4x2048, .f32⟩
  | .hbm, ⟨2, _⟩ => ⟨S4x12288, .f32⟩
  | .hbm, ⟨3, _⟩ => ⟨S2048x8192, .bf16⟩
  | .hbm, ⟨4, _⟩ => ⟨S8192x2048, .bf16⟩
  | .hbm, ⟨5, _⟩ => ⟨S2048, .f32⟩
  | .hbm, ⟨6, _⟩ => ⟨S4x4096x12288, .f32⟩
  | .hbm, ⟨7, _⟩ => ⟨S16384x12288, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S1x2048, .f32⟩
  | .hbm, ⟨12, _⟩ => ⟨S2048, .f32⟩
  | .hbm, ⟨13, _⟩ => ⟨S16384x2048, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x2048, .f32⟩
  | .hbm, ⟨25, _⟩ => ⟨S16384x2048, .f32⟩
  | .hbm, ⟨26, _⟩ => ⟨S1x2048, .f32⟩
  | .hbm, ⟨27, _⟩ => ⟨S16384x2048, .f32⟩
  | .hbm, ⟨28, _⟩ => ⟨S16384x2048, .f32⟩
  | .hbm, ⟨29, _⟩ => ⟨S_, .f32⟩
  | .hbm, ⟨30, _⟩ => ⟨S16384x2048, .f32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S2048x8192, .f32⟩
  | .hbm, ⟨35, _⟩ => ⟨S16384x8192, .f32⟩
  | .hbm, ⟨36, _⟩ => ⟨S_, .f32⟩
  | .hbm, ⟨37, _⟩ => ⟨S16384x8192, .f32⟩
  | .hbm, ⟨38, _⟩ => ⟨S16384x8192, .f32⟩
  | .hbm, ⟨39, _⟩ => ⟨S16384x8192, .f32⟩
  | .hbm, ⟨40, _⟩ => ⟨S8192x2048, .f32⟩
  | .hbm, ⟨41, _⟩ => ⟨S16384x2048, .f32⟩
  | .hbm, ⟨42, _⟩ => ⟨S16384x2048, .f32⟩
  | .hbm, ⟨43, _⟩ => ⟨S16384x2048, .f32⟩
  | .hbm, ⟨44, _⟩ => ⟨S16384x2048, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x1, .f32⟩
  | .hbm, ⟨55, _⟩ => ⟨S16384x2048, .f32⟩
  | .hbm, ⟨56, _⟩ => ⟨S16384x2048, .f32⟩
  | .hbm, ⟨57, _⟩ => ⟨S1x2048, .f32⟩
  | .hbm, ⟨58, _⟩ => ⟨S16384x2048, .f32⟩
  | .hbm, ⟨59, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_cst : Ref sig .tc := ⟨.hbm, 36, rfl⟩
abbrev main_call0_v0 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Modulation.lean ====
abbrev S4x2048 : Shape := ⟨2, ![4, 2048]⟩
abbrev S8x2048 : Shape := ⟨2, ![8, 2048]⟩
abbrev S4x2048x12288 : Shape := ⟨3, ![4, 2048, 12288]⟩
abbrev S4x12288 : Shape := ⟨2, ![4, 12288]⟩
abbrev S12x2048 : Shape := ⟨2, ![12, 2048]⟩
abbrev S_ : Shape := ⟨0, ![]⟩
abbrev S16x2048 : Shape := ⟨2, ![16, 2048]⟩
abbrev S4x1x12288 : Shape := ⟨3, ![4, 1, 12288]⟩
abbrev S4x16x12288 : Shape := ⟨3, ![4, 16, 12288]⟩
abbrev S1x2048x1024 : Shape := ⟨3, ![1, 2048, 1024]⟩
abbrev S1x1x1024 : Shape := ⟨3, ![1, 1, 1024]⟩
abbrev S1x16x1024 : Shape := ⟨3, ![1, 16, 1024]⟩
abbrev S2048x1024 : Shape := ⟨2, ![2048, 1024]⟩
abbrev S16x1024 : Shape := ⟨2, ![16, 1024]⟩
abbrev S1x1024 : Shape := ⟨2, ![1, 1024]⟩
abbrev S4x4x12288 : Shape := ⟨3, ![4, 4, 12288]⟩
abbrev S4x8x12288 : Shape := ⟨3, ![4, 8, 12288]⟩

abbrev nBuf : Space → Nat
  | .hbm => 12
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S8x2048, .f32⟩
  | .hbm, ⟨2, _⟩ => ⟨S4x2048x12288, .f32⟩
  | .hbm, ⟨3, _⟩ => ⟨S4x12288, .f32⟩
  | .hbm, ⟨4, _⟩ => ⟨S12x2048, .f32⟩
  | .hbm, ⟨5, _⟩ => ⟨S_, .i32⟩
  | .hbm, ⟨6, _⟩ => ⟨S_, .f32⟩
  | .hbm, ⟨7, _⟩ => ⟨S16x2048, .f32⟩
  | .hbm, ⟨8, _⟩ => ⟨S4x1x12288, .f32⟩
  | .hbm, ⟨9, _⟩ => ⟨S4x16x12288, .f32⟩
  | .hbm, ⟨10, _⟩ => ⟨S4x4x12288, .f32⟩
  | .hbm, ⟨11, _⟩ => ⟨S4x8x12288, .f32⟩
  | .local _ .vmem, ⟨0, _⟩ => ⟨S16x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModulationReferenceIdeal.lean ====
abbrev S4x2048 : Shape := ⟨2, ![4, 2048]⟩
abbrev S8x2048 : Shape := ⟨2, ![8, 2048]⟩
abbrev S4x2048x12288 : Shape := ⟨3, ![4, 2048, 12288]⟩
abbrev S4x12288 : Shape := ⟨2, ![4, 12288]⟩
abbrev S_ : Shape := ⟨0, ![]⟩
abbrev S4x12288x4 : Shape := ⟨3, ![4, 12288, 4]⟩
abbrev S4x4x12288 : Shape := ⟨3, ![4, 4, 12288]⟩
abbrev S4x1x12288 : Shape := ⟨3, ![4, 1, 12288]⟩
abbrev S4x12288x8 : Shape := ⟨3, ![4, 12288, 8]⟩
abbrev S4x8x12288 : Shape := ⟨3, ![4, 8, 12288]⟩

abbrev nBuf : Space → Nat
  | .hbm => 32
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S8x2048, .f32⟩
  | .hbm, ⟨2, _⟩ => ⟨S4x2048x12288, .f32⟩
  | .hbm, ⟨3, _⟩ => ⟨S4x12288, .f32⟩
  | .hbm, ⟨4, _⟩ => ⟨S4x2048, .f32⟩
  | .hbm, ⟨5, _⟩ => ⟨S4x2048, .f32⟩
  | .hbm, ⟨6, _⟩ => ⟨S_, .f32⟩
  | .hbm, ⟨7, _⟩ => ⟨S4x2048, .f32⟩
  | .hbm, ⟨8, _⟩ => ⟨S4x2048, .f32⟩
  | .hbm, ⟨9, _⟩ => ⟨S_, .f32⟩
  | .hbm, ⟨10, _⟩ => ⟨S4x2048, .f32⟩
  | .hbm, ⟨11, _⟩ => ⟨S4x2048, .f32⟩
  | .hbm, ⟨12, _⟩ => ⟨S4x2048, .f32⟩
  | .hbm, ⟨13, _⟩ => ⟨S4x12288x4, .f32⟩
  | .hbm, ⟨14, _⟩ => ⟨S4x4x12288, .f32⟩
  | .hbm, ⟨15, _⟩ => ⟨S4x1x12288, .f32⟩
  | .hbm, ⟨16, _⟩ => ⟨S4x4x12288, .f32⟩
  | .hbm, ⟨17, _⟩ => ⟨S4x4x12288, .f32⟩
  | .hbm, ⟨18, _⟩ => ⟨S8x2048, .f32⟩
  | .hbm, ⟨19, _⟩ => ⟨S8x2048, .f32⟩
  | .hbm, ⟨20, _⟩ => ⟨S_, .f32⟩
  | .hbm, ⟨21, _⟩ => ⟨S8x2048, .f32⟩
  | .hbm, ⟨22, _⟩ => ⟨S8x2048, .f32⟩
  | .hbm, ⟨23, _⟩ => ⟨S_, .f32⟩
  | .hbm, ⟨24, _⟩ => ⟨S8x2048, .f32⟩
  | .hbm, ⟨25, _⟩ => ⟨S8x2048, .f32⟩
  | .hbm, ⟨26, _⟩ => ⟨S8x2048, .f32⟩
  | .hbm, ⟨27, _⟩ => ⟨S4x12288x8, .f32⟩
  | .hbm, ⟨28, _⟩ => ⟨S4x8x12288, .f32⟩
  | .hbm, ⟨29, _⟩ => ⟨S4x1x12288, .f32⟩
  | .hbm, ⟨30, _⟩ => ⟨S4x8x12288, .f32⟩
  | .hbm, ⟨31, _⟩ => ⟨S4x8x12288, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call1_v0 : Ref sig .tc := ⟨.hbm, 18, rfl⟩
abbrev main_call1_v1 : Ref sig .tc := ⟨.hbm, 19, rfl⟩
abbrev main_call1_cst : Ref sig .tc := ⟨.hbm, 20, rfl⟩
abbrev main_call1_v2 : Ref sig .tc := ⟨.hbm, 21, rfl⟩
abbrev main_call1_v3 : Ref sig .tc := ⟨.hbm, 22, rfl⟩
abbrev main_call1_cst_0 : Ref sig .tc := ⟨.hbm, 23, rfl⟩
abbrev main_call1_v4 : Ref sig .tc := ⟨.hbm, 24, rfl⟩
abbrev main_call1_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩

abbrev nD : Nat := 1
abbrev τ : Topo := Topo.v7x

variable {F : FTy → Type} [FloatOps F]
-- ==== LowerBounds.lean ====
abbrev S4x2048 : Shape := ⟨2, ![4, 2048]⟩
abbrev S2048 : Shape := ⟨1, ![2048]⟩
abbrev S1x2048 : Shape := ⟨2, ![1, 2048]⟩

abbrev nBuf : Space → Nat
  | .hbm => 2
  | .vmem => 2
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .local _ .vmem, ⟨0, _⟩ => ⟨S4x2048, .f32⟩
  | .local _ .vmem, ⟨1, _⟩ => ⟨S4x2048, .f32⟩
  | _, _ => ⟨S4x2048, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== LowerBoundsReferenceIdeal.lean ====
abbrev S4x2048 : Shape := ⟨2, ![4, 2048]⟩
abbrev S_ : Shape := ⟨0, ![]⟩
abbrev S2048 : Shape := ⟨1, ![2048]⟩
abbrev S1x2048 : Shape := ⟨2, ![1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S_, .f32⟩
  | .hbm, ⟨2, _⟩ => ⟨S2048, .f32⟩
  | .hbm, ⟨3, _⟩ => ⟨S_, .f32⟩
  | .hbm, ⟨4, _⟩ => ⟨S2048, .f32⟩
  | .hbm, ⟨5, _⟩ => ⟨S2048, .f32⟩
  | .hbm, ⟨6, _⟩ => ⟨S1x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S_, .f32⟩
  | .hbm, ⟨11, _⟩ => ⟨S2048, .f32⟩
  | .hbm, ⟨12, _⟩ => ⟨S1x2048, .f32⟩
  | .hbm, ⟨13, _⟩ => ⟨S4x2048, .f32⟩
  | .hbm, ⟨14, _⟩ => ⟨S4x2048, .f32⟩
  | .hbm, ⟨15, _⟩ => ⟨S_, .f32⟩
  | .hbm, ⟨16, _⟩ => ⟨S_, .f32⟩
  | .hbm, ⟨17, _⟩ => ⟨S4x2048, .f32⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S4x2048, .f32⟩
  | .hbm, ⟨22, _⟩ => ⟨S4x2048, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_call0_cst : Ref sig .tc := ⟨.hbm, 15, rfl⟩
abbrev main_call0_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== NormGatesPrompt.lean ====
abbrev S16384x2048 : Shape := ⟨2, ![16384, 2048]⟩
abbrev S4x2048 : Shape := ⟨2, ![4, 2048]⟩
abbrev S4x12288 : Shape := ⟨2, ![4, 12288]⟩
abbrev S4x2048x20496 : Shape := ⟨3, ![4, 2048, 20496]⟩
abbrev S4x20496 : Shape := ⟨2, ![4, 20496]⟩
abbrev S4x20496x2048 : Shape := ⟨3, ![4, 20496, 2048]⟩
abbrev S4x16x2048 : Shape := ⟨3, ![4, 16, 2048]⟩
abbrev S4x2048x16 : Shape := ⟨3, ![4, 2048, 16]⟩
abbrev S_ : Shape := ⟨0, ![]⟩
abbrev S4x2048x128 : Shape := ⟨3, ![4, 2048, 128]⟩
abbrev S4x16 : Shape := ⟨2, ![4, 16]⟩
abbrev S4x128 : Shape := ⟨2, ![4, 128]⟩
abbrev S4x1x128 : Shape := ⟨3, ![4, 1, 128]⟩
abbrev S4x1x2048 : Shape := ⟨3, ![4, 1, 2048]⟩
abbrev S4x1x12288 : Shape := ⟨3, ![4, 1, 12288]⟩
abbrev S16384x128 : Shape := ⟨2, ![16384, 128]⟩
abbrev S1024x2048 : Shape := ⟨2, ![1024, 2048]⟩
abbrev S1x1x2048 : Shape := ⟨3, ![1, 1, 2048]⟩
abbrev S1x2048x128 : Shape := ⟨3, ![1, 2048, 128]⟩
abbrev S1x1x128 : Shape := ⟨3, ![1, 1, 128]⟩
abbrev S1024x128 : Shape := ⟨2, ![1024, 128]⟩
abbrev S1024x1 : Shape := ⟨2, ![1024, 1]⟩
abbrev S256x2048 : Shape := ⟨2, ![256, 2048]⟩
abbrev S256 : Shape := ⟨1, ![256]⟩
abbrev S256x1 : Shape := ⟨2, ![256, 1]⟩
abbrev S1x2048 : Shape := ⟨2, ![1, 2048]⟩
abbrev S2048x128 : Shape := ⟨2, ![2048, 128]⟩
abbrev S1x128 : Shape := ⟨2, ![1, 128]⟩

abbrev nBuf : Space → Nat
  | .hbm => 21
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S4x2048, .f32⟩
  | .hbm, ⟨2, _⟩ => ⟨S4x12288, .f32⟩
  | .hbm, ⟨3, _⟩ => ⟨S4x2048x20496, .f32⟩
  | .hbm, ⟨4, _⟩ => ⟨S4x20496, .f32⟩
  | .hbm, ⟨5, _⟩ => ⟨S4x20496x2048, .f32⟩
  | .hbm, ⟨6, _⟩ => ⟨S4x16x2048, .f32⟩
  | .hbm, ⟨7, _⟩ => ⟨S4x2048x16, .f32⟩
  | .hbm, ⟨8, _⟩ => ⟨S_, .i32⟩
  | .hbm, ⟨9, _⟩ => ⟨S_, .f32⟩
  | .hbm, ⟨10, _⟩ => ⟨S4x2048x128, .f32⟩
  | .hbm, ⟨11, _⟩ => ⟨S4x2048x128, .bf16⟩
  | .hbm, ⟨12, _⟩ => ⟨S4x16, .f32⟩
  | .hbm, ⟨13, _⟩ => ⟨S_, .i32⟩
  | .hbm, ⟨14, _⟩ => ⟨S_, .f32⟩
  | .hbm, ⟨15, _⟩ => ⟨S4x128, .f32⟩
  | .hbm, ⟨16, _⟩ => ⟨S4x1x128, .f32⟩
  | .hbm, ⟨17, _⟩ => ⟨S4x1x2048, .f32⟩
  | .hbm, ⟨18, _⟩ => ⟨S4x1x12288, .f32⟩
  | .hbm, ⟨19, _⟩ => ⟨S16384x2048, .bf16⟩
  | .hbm, ⟨20, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048x128, .bf16⟩
  | .local _ .vmem, ⟨8, _⟩ => ⟨S1x1x128, .f32⟩
  | .local _ .vmem, ⟨9, _⟩ => ⟨S1024x2048, .bf16⟩
  | .local _ .vmem, ⟨10, _⟩ => ⟨S1024x2048, .bf16⟩
  | .local _ .vmem, ⟨11, _⟩ => ⟨S1024x128, .f32⟩
  | .local _ .vmem, ⟨12, _⟩ => ⟨S1024x128, .f32⟩
  | .local _ .vmem, ⟨13, _⟩ => ⟨S1024x1, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 1], ![false, false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32 : BitVec 32 := 256#32
  let v12 : BitVec 32 := Scalar.muli arg11 c256_i32
  v12
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v12 : BitVec 32 := Scalar.muli arg11 c256_i32
  let v13 : BitVec 32 := v12
  let v14 : Index := Scalar.indexCast v13
  let c0_14 : Index := 0#32
  ![v14.toNat, 0]
def k0_off2 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v12 : BitVec 32 := Scalar.muli arg11 c256_i32
  let v13 : BitVec 32 := v12
  let v24 : Index := Scalar.indexCast v13
  let c0_18 : Index := 0#32
  ![v24.toNat, 0]
@[reducible] def k0_t2_loop : Scf.Loop 32 :=
  let c0_i32_1 : BitVec 32 := 0#32
  let c4_i32_2 : BitVec 32 := 4#32
  let v1 : BitVec 32 := Scalar.addi c0_i32_1 c4_i32_2
  let c1_i32_3 : BitVec 32 := 1#32
  ⟨c0_i32_1, v1, c1_i32_3⟩
def k0_mult2 (k0_t2 : Fin k0_t2_loop.trips) : BitVec 32 :=
  let c0_i32_1 : BitVec 32 := 0#32
  let c1_i32_3 : BitVec 32 := 1#32
  let arg11 : BitVec 32 := Scf.iv c0_i32_1 c1_i32_3 k0_t2
  let c256_i32 : BitVec 32 := 256#32
  let v12 : BitVec 32 := Scalar.muli arg11 c256_i32
  v12
def k0_off3 (k0_t2 : Fin k0_t2_loop.trips) : Fin 2 → Nat :=
  let c0_i32_1 : BitVec 32 := 0#32
  let c1_i32_3 : BitVec 32 := 1#32
  let arg11 : BitVec 32 := Scf.iv c0_i32_1 c1_i32_3 k0_t2
  let c256_i32 : BitVec 32 := 256#32
  let v12 : BitVec 32 := Scalar.muli arg11 c256_i32
  let v13 : BitVec 32 := v12
  let v14 : Index := Scalar.indexCast v13
  let c0_14 : Index := 0#32
  ![v14.toNat, 0]
def k0_off4 (k0_t2 : Fin k0_t2_loop.trips) : Fin 2 → Nat :=
  let c0_i32_1 : BitVec 32 := 0#32
  let c1_i32_3 : BitVec 32 := 1#32
  let arg11 : BitVec 32 := Scf.iv c0_i32_1 c1_i32_3 k0_t2
  let c256_i32 : BitVec 32 := 256#32
  let v12 : BitVec 32 := Scalar.muli arg11 c256_i32
  let v13 : BitVec 32 := v12
  let v16 : Index := Scalar.indexCast v13
  let c0_15 : Index := 0#32
  ![v16.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== NormGatesPromptReferenceIdeal.lean ====
abbrev S16384x2048 : Shape := ⟨2, ![16384, 2048]⟩
abbrev S4x2048 : Shape := ⟨2, ![4, 2048]⟩
abbrev S4x12288 : Shape := ⟨2, ![4, 12288]⟩
abbrev S4x2048x20496 : Shape := ⟨3, ![4, 2048, 20496]⟩
abbrev S4x20496 : Shape := ⟨2, ![4, 20496]⟩
abbrev S4x4096x12288 : Shape := ⟨3, ![4, 4096, 12288]⟩
abbrev S16384x12288 : Shape := ⟨2, ![16384, 12288]⟩
abbrev S1x2048 : Shape := ⟨2, ![1, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048x20496 : Shape := ⟨3, ![1, 2048, 20496]⟩
abbrev S2048x20496 : Shape := ⟨2, ![2048, 20496]⟩
abbrev S16384x20496 : Shape := ⟨2, ![16384, 20496]⟩
abbrev S1x20496 : Shape := ⟨2, ![1, 20496]⟩
abbrev S20496 : Shape := ⟨1, ![20496]⟩
abbrev S16384x16 : Shape := ⟨2, ![16384, 16]⟩
abbrev S16384x128 : Shape := ⟨2, ![16384, 128]⟩

abbrev nBuf : Space → Nat
  | .hbm => 45
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S4x2048, .f32⟩
  | .hbm, ⟨2, _⟩ => ⟨S4x12288, .f32⟩
  | .hbm, ⟨3, _⟩ => ⟨S4x2048x20496, .f32⟩
  | .hbm, ⟨4, _⟩ => ⟨S4x20496, .f32⟩
  | .hbm, ⟨5, _⟩ => ⟨S4x4096x12288, .f32⟩
  | .hbm, ⟨6, _⟩ => ⟨S16384x12288, .f32⟩
  | .hbm, ⟨7, _⟩ => ⟨S16384x2048, .f32⟩
  | .hbm, ⟨8, _⟩ => ⟨S16384x2048, .f32⟩
  | .hbm, ⟨9, _⟩ => ⟨S1x2048, .f32⟩
  | .hbm, ⟨10, _⟩ => ⟨S2048, .f32⟩
  | .hbm, ⟨11, _⟩ => ⟨S16384x2048, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x2048, .f32⟩
  | .hbm, ⟨23, _⟩ => ⟨S16384x2048, .f32⟩
  | .hbm, ⟨24, _⟩ => ⟨S1x2048, .f32⟩
  | .hbm, ⟨25, _⟩ => ⟨S16384x2048, .f32⟩
  | .hbm, ⟨26, _⟩ => ⟨S16384x2048, .f32⟩
  | .hbm, ⟨27, _⟩ => ⟨S_, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S1x2048x20496, .f32⟩
  | .hbm, ⟨33, _⟩ => ⟨S2048x20496, .f32⟩
  | .hbm, ⟨34, _⟩ => ⟨S16384x20496, .f32⟩
  | .hbm, ⟨35, _⟩ => ⟨S1x20496, .f32⟩
  | .hbm, ⟨36, _⟩ => ⟨S20496, .f32⟩
  | .hbm, ⟨37, _⟩ => ⟨S1x20496, .f32⟩
  | .hbm, ⟨38, _⟩ => ⟨S16384x20496, .f32⟩
  | .hbm, ⟨39, _⟩ => ⟨S16384x20496, .f32⟩
  | .hbm, ⟨40, _⟩ => ⟨S16384x16, .f32⟩
  | .hbm, ⟨41, _⟩ => ⟨S16384x2048, .bf16⟩
  | .hbm, ⟨42, _⟩ => ⟨S_, .i32⟩
  | .hbm, ⟨43, _⟩ => ⟨S_, .f32⟩
  | .hbm, ⟨44, _⟩ => ⟨S16384x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c : Ref sig .tc := ⟨.hbm, 42, rfl⟩
abbrev main_call0_v0 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== NormGates.lean ====
abbrev S128x2048 : Shape := ⟨2, ![128, 2048]⟩
abbrev S4x2048 : Shape := ⟨2, ![4, 2048]⟩
abbrev S128x12288 : Shape := ⟨2, ![128, 12288]⟩
abbrev S4x2048x20496 : Shape := ⟨3, ![4, 2048, 20496]⟩
abbrev S4x20496 : Shape := ⟨2, ![4, 20496]⟩
abbrev S4x20496x2048 : Shape := ⟨3, ![4, 20496, 2048]⟩
abbrev S4x16x2048 : Shape := ⟨3, ![4, 16, 2048]⟩
abbrev S4x2048x16 : Shape := ⟨3, ![4, 2048, 16]⟩
abbrev S_ : Shape := ⟨0, ![]⟩
abbrev S4x2048x128 : Shape := ⟨3, ![4, 2048, 128]⟩
abbrev S4x16 : Shape := ⟨2, ![4, 16]⟩
abbrev S4x128 : Shape := ⟨2, ![4, 128]⟩
abbrev S4x1x128 : Shape := ⟨3, ![4, 1, 128]⟩
abbrev S4x1x2048 : Shape := ⟨3, ![4, 1, 2048]⟩
abbrev S128x128 : Shape := ⟨2, ![128, 128]⟩
abbrev S1x1x2048 : Shape := ⟨3, ![1, 1, 2048]⟩
abbrev S1x2048x128 : Shape := ⟨3, ![1, 2048, 128]⟩
abbrev S1x1x128 : Shape := ⟨3, ![1, 1, 128]⟩
abbrev S128x1 : Shape := ⟨2, ![128, 1]⟩
abbrev S128 : Shape := ⟨1, ![128]⟩
abbrev S1x2048 : Shape := ⟨2, ![1, 2048]⟩
abbrev S2048x128 : Shape := ⟨2, ![2048, 128]⟩
abbrev S1x128 : Shape := ⟨2, ![1, 128]⟩

abbrev nBuf : Space → Nat
  | .hbm => 20
  | .vmem => 9
  | .smem => 0
  | _ => 0

abbrev bufTy : (tb : Table) → Fin (tcTables nBuf tb) → BufTy
  | .hbm, ⟨0, _⟩ => ⟨S128x2048, .f32⟩
  | .hbm, ⟨1, _⟩ => ⟨S4x2048, .f32⟩
  | .hbm, ⟨2, _⟩ => ⟨S128x12288, .f32⟩
  | .hbm, ⟨3, _⟩ => ⟨S4x2048x20496, .f32⟩
  | .hbm, ⟨4, _⟩ => ⟨S4x20496, .f32⟩
  | .hbm, ⟨5, _⟩ => ⟨S4x20496x2048, .f32⟩
  | .hbm, ⟨6, _⟩ => ⟨S4x16x2048, .f32⟩
  | .hbm, ⟨7, _⟩ => ⟨S4x2048x16, .f32⟩
  | .hbm, ⟨8, _⟩ => ⟨S_, .i32⟩
  | .hbm, ⟨9, _⟩ => ⟨S_, .f32⟩
  | .hbm, ⟨10, _⟩ => ⟨S4x2048x128, .f32⟩
  | .hbm, ⟨11, _⟩ => ⟨S4x2048x128, .bf16⟩
  | .hbm, ⟨12, _⟩ => ⟨S4x16, .f32⟩
  | .hbm, ⟨13, _⟩ => ⟨S_, .i32⟩
  | .hbm, ⟨14, _⟩ => ⟨S_, .f32⟩
  | .hbm, ⟨15, _⟩ => ⟨S4x128, .f32⟩
  | .hbm, ⟨16, _⟩ => ⟨S4x1x128, .f32⟩
  | .hbm, ⟨17, _⟩ => ⟨S4x1x2048, .f32⟩
  | .hbm, ⟨18, _⟩ => ⟨S128x2048, .bf16⟩
  | .hbm, ⟨19, _⟩ => ⟨S128x128, .f32⟩
  | .local _ .vmem, ⟨0, _⟩ => ⟨S128x2048, .f32⟩
  | .local _ .vmem, ⟨1, _⟩ => ⟨S1x1x2048, .f32⟩
  | .local _ .vmem, ⟨2, _⟩ => ⟨S128x2048, .f32⟩
  | .local _ .vmem, ⟨3, _⟩ => ⟨S128x2048, .f32⟩
  | .local _ .vmem, ⟨4, _⟩ => ⟨S1x2048x128, .bf16⟩
  | .local _ .vmem, ⟨5, _⟩ => ⟨S1x1x128, .f32⟩
  | .local _ .vmem, ⟨6, _⟩ => ⟨S128x2048, .bf16⟩
  | .local _ .vmem, ⟨7, _⟩ => ⟨S128x128, .f32⟩
  | .local _ .vmem, ⟨8, _⟩ => ⟨S128x1, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_mult1 : BitVec 32 :=
  let c0_i32 : BitVec 32 := 0#32
  let c128_i32 : BitVec 32 := 128#32
  let v0 : BitVec 32 := Scalar.muli c0_i32 c128_i32
  v0
def k0_off1 : Fin 2 → Nat :=
  let c0_i32 : BitVec 32 := 0#32
  let c128_i32 : BitVec 32 := 128#32
  let v0 : BitVec 32 := Scalar.muli c0_i32 c128_i32
  let v1 : BitVec 32 := v0
  let v2 : Index := Scalar.indexCast v1
  let c0 : Index := 0#32
  ![v2.toNat, 0]
def k0_off2 : Fin 2 → Nat :=
  let c0_i32 : BitVec 32 := 0#32
  let c128_i32 : BitVec 32 := 128#32
  let v0 : BitVec 32 := Scalar.muli c0_i32 c128_i32
  let v1 : BitVec 32 := v0
  let v12 : Index := Scalar.indexCast v1
  let c0_2 : Index := 0#32
  ![v12.toNat, 0]
def k0_mult2 : BitVec 32 :=
  let c0_i32_3 : BitVec 32 := 0#32
  let c128_i32_4 : BitVec 32 := 128#32
  let v16 : BitVec 32 := Scalar.muli c0_i32_3 c128_i32_4
  v16
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== NormGatesReferenceIdeal.lean ====
abbrev S128x2048 : Shape := ⟨2, ![128, 2048]⟩
abbrev S4x2048 : Shape := ⟨2, ![4, 2048]⟩
abbrev S128x12288 : Shape := ⟨2, ![128, 12288]⟩
abbrev S4x2048x20496 : Shape := ⟨3, ![4, 2048, 20496]⟩
abbrev S4x20496 : Shape := ⟨2, ![4, 20496]⟩
abbrev S1x2048 : Shape := ⟨2, ![1, 2048]⟩
abbrev S2048 : Shape := ⟨1, ![2048]⟩
abbrev S_ : Shape := ⟨0, ![]⟩
abbrev S128 : Shape := ⟨1, ![128]⟩
abbrev S128x1 : Shape := ⟨2, ![128, 1]⟩
abbrev S1x2048x20496 : Shape := ⟨3, ![1, 2048, 20496]⟩
abbrev S2048x20496 : Shape := ⟨2, ![2048, 20496]⟩
abbrev S128x20496 : Shape := ⟨2, ![128, 20496]⟩
abbrev S1x20496 : Shape := ⟨2, ![1, 20496]⟩
abbrev S20496 : Shape := ⟨1, ![20496]⟩
abbrev S128x16 : Shape := ⟨2, ![128, 16]⟩
abbrev S128x128 : Shape := ⟨2, ![128, 128]⟩

abbrev nBuf : Space → Nat
  | .hbm => 43
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S4x2048, .f32⟩
  | .hbm, ⟨2, _⟩ => ⟨S128x12288, .f32⟩
  | .hbm, ⟨3, _⟩ => ⟨S4x2048x20496, .f32⟩
  | .hbm, ⟨4, _⟩ => ⟨S4x20496, .f32⟩
  | .hbm, ⟨5, _⟩ => ⟨S128x2048, .f32⟩
  | .hbm, ⟨6, _⟩ => ⟨S128x2048, .f32⟩
  | .hbm, ⟨7, _⟩ => ⟨S1x2048, .f32⟩
  | .hbm, ⟨8, _⟩ => ⟨S2048, .f32⟩
  | .hbm, ⟨9, _⟩ => ⟨S128x2048, .f32⟩
  | .hbm, ⟨10, _⟩ => ⟨S_, .f32⟩
  | .hbm, ⟨11, _⟩ => ⟨S128, .f32⟩
  | .hbm, ⟨12, _⟩ => ⟨S128x1, .f32⟩
  | .hbm, ⟨13, _⟩ => ⟨S_, .f32⟩
  | .hbm, ⟨14, _⟩ => ⟨S128x1, .f32⟩
  | .hbm, ⟨15, _⟩ => ⟨S128x1, .f32⟩
  | .hbm, ⟨16, _⟩ => ⟨S_, .f32⟩
  | .hbm, ⟨17, _⟩ => ⟨S128x1, .f32⟩
  | .hbm, ⟨18, _⟩ => ⟨S128x1, .f32⟩
  | .hbm, ⟨19, _⟩ => ⟨S128x1, .f32⟩
  | .hbm, ⟨20, _⟩ => ⟨S128x2048, .f32⟩
  | .hbm, ⟨21, _⟩ => ⟨S128x2048, .f32⟩
  | .hbm, ⟨22, _⟩ => ⟨S1x2048, .f32⟩
  | .hbm, ⟨23, _⟩ => ⟨S128x2048, .f32⟩
  | .hbm, ⟨24, _⟩ => ⟨S128x2048, .f32⟩
  | .hbm, ⟨25, _⟩ => ⟨S_, .f32⟩
  | .hbm, ⟨26, _⟩ => ⟨S128x2048, .f32⟩
  | .hbm, ⟨27, _⟩ => ⟨S128x2048, .f32⟩
  | .hbm, ⟨28, _⟩ => ⟨S128x2048, .f32⟩
  | .hbm, ⟨29, _⟩ => ⟨S128x2048, .f32⟩
  | .hbm, ⟨30, _⟩ => ⟨S1x2048x20496, .f32⟩
  | .hbm, ⟨31, _⟩ => ⟨S2048x20496, .f32⟩
  | .hbm, ⟨32, _⟩ => ⟨S128x20496, .f32⟩
  | .hbm, ⟨33, _⟩ => ⟨S1x20496, .f32⟩
  | .hbm, ⟨34, _⟩ => ⟨S20496, .f32⟩
  | .hbm, ⟨35, _⟩ => ⟨S1x20496, .f32⟩
  | .hbm, ⟨36, _⟩ => ⟨S128x20496, .f32⟩
  | .hbm, ⟨37, _⟩ => ⟨S128x20496, .f32⟩
  | .hbm, ⟨38, _⟩ => ⟨S128x16, .f32⟩
  | .hbm, ⟨39, _⟩ => ⟨S128x2048, .bf16⟩
  | .hbm, ⟨40, _⟩ => ⟨S_, .i32⟩
  | .hbm, ⟨41, _⟩ => ⟨S_, .f32⟩
  | .hbm, ⟨42, _⟩ => ⟨S128x128, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c : Ref sig .tc := ⟨.hbm, 40, rfl⟩
abbrev main_call0_v0 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Proof.M.Scalar.lean ====
/- Facts about single extended reals and finite sums of them: the logarithm of the sigmoid in its two spellings,
   a value cut in three parts, and the root-mean-square normalisation with the divisor moved inside. -/
module
public import Idealize.ShloMosaic.Lib.Pointwise
@[expose] public section
noncomputable section
namespace Cert.M
open Idealize.ShloMosaic

theorem div_pos_real (x : EReal) {r : ℝ} (hr : 0 < r) : Ideal.div x (r : EReal) = x * ((r⁻¹ : ℝ) : EReal) := by
  unfold Ideal.div
  rw [if_neg (by exact_mod_cast hr.ne'), EReal.coe_inv]

theorem div_top (x : EReal) : Ideal.div x ⊤ = 0 := by
  unfold Ideal.div
  rw [if_neg (by simp), EReal.inv_top, mul_zero]

theorem coe_sum' {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sq_nonneg' (x : EReal) : 0 ≤ x * x := by
  induction x with
  | bot => simp
  | top => simp
  | coe r => rw [← EReal.coe_mul]; exact_mod_cast mul_self_nonneg r

theorem sum_top {ι : Type} (s : Finset ι) (f : ι → EReal) (h : ∀ i ∈ s, 0 ≤ f i) {a : ι} (ha : a ∈ s) (ht : f a = ⊤) :
    ∑ i ∈ s, f i = ⊤ :=
  top_le_iff.mp (ht ▸ Finset.single_le_sum h ha)

theorem add_top' {x : EReal} (h : 0 ≤ x) : x + ⊤ = ⊤ :=
  EReal.add_top_of_ne_bot (fun h' => by rw [h'] at h; simp at h)

theorem top_add' {x : EReal} (h : 0 ≤ x) : ⊤ + x = ⊤ := by rw [add_comm]; exact add_top' h

/-- Dividing every entry by `d` before the root mean square, or scaling the constant under the root by `d²` after it. -/
theorem norm_eq {n : ℕ} (N : Fin n → EReal) (d : EReal) {c e : ℝ} (hc : 0 < c) (he : 0 < e) (hd : 0 ≤ d)
    (h0 : d = 0 → ∀ i, N i = 0) (j : Fin n) :
    N j * Ideal.rsqrt (Ideal.div (∑ i, N i * N i) c + (e : EReal) * d * d)
      = Ideal.div (N j) d * Ideal.rsqrt (Ideal.div (∑ i, Ideal.div (N i) d * Ideal.div (N i) d) c + (e : EReal)) := by
  have hci : (0 : EReal) ≤ ((c⁻¹ : ℝ) : EReal) := by exact_mod_cast (inv_pos.mpr hc).le
  have hci' : (0 : EReal) < ((c⁻¹ : ℝ) : EReal) := by exact_mod_cast (inv_pos.mpr hc)
  have hm : ∀ f : Fin n → EReal, 0 ≤ Ideal.div (∑ i, f i * f i) c := fun f => by
    rw [div_pos_real _ hc]
    exact mul_nonneg (Finset.sum_nonneg fun i _ => sq_nonneg' _) hci
  have htop : ∀ f : Fin n → EReal, ∀ i, f i * f i = ⊤ → Ideal.div (∑ i, f i * f i) c = ⊤ := fun f i hi => by
    rw [div_pos_real _ hc, sum_top Finset.univ _ (fun i _ => sq_nonneg' _) (Finset.mem_univ i) hi, EReal.top_mul_of_pos hci']
  induction d with
  | bot => simp at hd
  | top =>
    have h1 : (e : EReal) * ⊤ * ⊤ = ⊤ := by
      rw [EReal.coe_mul_top_of_pos he]; simp
    rw [h1, add_top' (hm N), div_top, Ideal.rsqrt_top, mul_zero, zero_mul]
  | coe r =>
    rcases (show (0 : ℝ) ≤ r from by exact_mod_cast hd).eq_or_lt with hr | hr
    · subst hr
      have hN := h0 (by simp)
      have hdiv : Ideal.div (N j) ((0 : ℝ) : EReal) = ⊥ := by
        rw [hN j]; simp [Ideal.div]
      have hq : ∀ i, Ideal.div (N i) ((0 : ℝ) : EReal) * Ideal.div (N i) ((0 : ℝ) : EReal) = ⊤ := fun i => by
        rw [hN i]; simp [Ideal.div]
      rw [htop (fun i => Ideal.div (N i) ((0 : ℝ) : EReal)) j (hq j), top_add' (by exact_mod_cast he.le), Ideal.rsqrt_top, hN j, zero_mul, mul_zero]
    · have hri : 0 < r⁻¹ := inv_pos.mpr hr
      by_cases hfin : ∃ i, N i = ⊤ ∨ N i = ⊥
      · obtain ⟨i, hi⟩ := hfin
        have h1 : N i * N i = ⊤ := by rcases hi with h | h <;> rw [h] <;> simp
        have h2 : Ideal.div (N i) r * Ideal.div (N i) r = ⊤ := by
          rw [div_pos_real _ hr]
          rcases hi with h | h <;> rw [h]
          · rw [EReal.top_mul_of_pos (by exact_mod_cast hri)]; simp
          · rw [EReal.bot_mul_of_pos (by exact_mod_cast hri)]; simp
        have h3 : (0 : EReal) ≤ (e : EReal) * r * r := by
          rw [← EReal.coe_mul, ← EReal.coe_mul]; exact_mod_cast (by positivity : (0 : ℝ) ≤ e * r * r)
        rw [htop N i h1, htop (fun i => Ideal.div (N i) r) i h2, top_add' h3, top_add' (by exact_mod_cast he.le)]
        simp
      · push Not at hfin
        have hx : ∀ i, ∃ x : ℝ, N i = x := fun i => ⟨(N i).toReal, (EReal.coe_toReal (hfin i).1 (hfin i).2).symm⟩
        choose f hf using hx
        simp only [hf, div_pos_real _ hr, div_pos_real _ hc, ← EReal.coe_mul, ← coe_sum', ← EReal.coe_add]
        have hs : ∑ i, f i * r⁻¹ * (f i * r⁻¹) = (∑ i, f i * f i) * (r⁻¹ * r⁻¹) := by
          rw [Finset.sum_mul]; exact Finset.sum_congr rfl fun i _ => by ring
        have hS : 0 ≤ ∑ i, f i * f i := Finset.sum_nonneg fun i _ => mul_self_nonneg _
        have e1 : (∑ i, f i * f i) * c⁻¹ + e * r * r = ((∑ i, f i * r⁻¹ * (f i * r⁻¹)) * c⁻¹ + e) * (r * r) := by
          rw [hs]; field_simp
        set A := (∑ i, f i * r⁻¹ * (f i * r⁻¹)) * c⁻¹ + e with hA
        have hApos : 0 < A := by
          have : 0 ≤ (∑ i, f i * r⁻¹ * (f i * r⁻¹)) * c⁻¹ :=
            mul_nonneg (Finset.sum_nonneg fun i _ => mul_self_nonneg _) (inv_pos.mpr hc).le
          linarith
        have hp : 0 < A * (r * r) := by positivity
        rw [e1, Ideal.rsqrt_coe, Ideal.rsqrt_coe, if_neg (not_lt.mpr hp.le), if_neg hp.ne', if_neg (not_lt.mpr hApos.le), if_neg hApos.ne',
          ← EReal.coe_mul, ← EReal.coe_mul, Real.sqrt_mul hApos.le, Real.sqrt_mul_self hr.le, mul_inv]
        congr 1; ring

/-- `log (1 + exp (-|x|))` is a real, at least 0. -/
theorem log1p_exp_real (x : EReal) : ∃ r : ℝ, 0 ≤ r ∧ Ideal.log1p (Ideal.exp (-(max x (-x)))) = (r : EReal) := by
  have key : ∀ y : EReal, 0 ≤ y → ∃ r : ℝ, 0 ≤ r ∧ Ideal.log1p (Ideal.exp (-y)) = (r : EReal) := fun y hy => by
    induction y with
    | bot => simp at hy
    | top => exact ⟨0, le_rfl, by
        have : Ideal.exp (-⊤) = 0 := by rw [EReal.neg_top]; rfl
        rw [this, Ideal.log1p, add_zero]
        show (if (1 : ℝ) ≤ 0 then ⊥ else ((Real.log 1 : ℝ) : EReal)) = _
        rw [if_neg (by norm_num), Real.log_one]⟩
    | coe r =>
      refine ⟨Real.log (1 + Real.exp (-r)), Real.log_nonneg (by linarith [Real.exp_pos (-r)]), ?_⟩
      have h1 : Ideal.exp (-(r : EReal)) = ((Real.exp (-r) : ℝ) : EReal) := by rw [← EReal.coe_neg]; rfl
      rw [h1, Ideal.log1p, show (1 : EReal) = ((1 : ℝ) : EReal) from rfl, ← EReal.coe_add]
      show (if 1 + Real.exp (-r) ≤ 0 then ⊥ else ((Real.log (1 + Real.exp (-r)) : ℝ) : EReal)) = _
      rw [if_neg (by linarith [Real.exp_pos (-r)])]
  refine key _ ?_
  rcases le_total 0 x with h | h
  · exact le_max_of_le_left h
  · exact le_max_of_le_right (by rw [EReal.neg_nonneg]; exact h)

/-- The logarithm of the sigmoid, as the kernel spells it. -/
def lsig (x : EReal) : EReal := min x 0 - Ideal.log1p (Ideal.exp (0 - max x (-x)))

theorem lsig_ne_top (x : EReal) : lsig x ≠ ⊤ := by
  obtain ⟨r, hr, h⟩ := log1p_exp_real x
  unfold lsig
  rw [zero_sub, h]
  have hm : min x 0 ≤ (0 : EReal) := min_le_right _ _
  have : min x 0 - (r : EReal) ≤ 0 := by
    rw [sub_eq_add_neg, ← EReal.coe_neg]
    exact add_nonpos hm (by exact_mod_cast (neg_nonpos.mpr hr))
  intro ht
  rw [ht] at this
  simp at this

/-- The negated softplus of the negated argument. -/
theorem lsig_eq (x : EReal) : -(max (-x) 0 + Ideal.log1p (Ideal.exp (-(max (-x) x)))) = lsig x := by
  obtain ⟨r, _, h⟩ := log1p_exp_real x
  unfold lsig
  rw [max_comm (-x) x, zero_sub, h, EReal.neg_add (Or.inr (EReal.coe_ne_top r)) (Or.inr (EReal.coe_ne_bot r))]
  congr 1
  rcases le_total x 0 with hx | hx
  · rw [max_eq_left (by rw [EReal.neg_nonneg]; exact hx), neg_neg, min_eq_left hx]
  · rw [max_eq_right (by rw [← EReal.neg_le_neg_iff]; simpa using hx), neg_zero, min_eq_right hx]

/-- A value is the sum of its three parts, each scaled by the same `a` in `{0, 1}`; a value of `⊥` stays `⊥`. -/
theorem split3 (a x : EReal) (ha : a = 0 ∨ a = 1) (hx : x ≠ ⊤) : a * x + a * (x - x) + a * (x - x - (x - x)) = a * x := by
  rcases ha with rfl | rfl
  · simp
  · induction x with
    | bot => simp
    | top => exact absurd rfl hx
    | coe r => simp only [one_mul, ← EReal.coe_sub, sub_self, EReal.coe_zero, add_zero, sub_zero]

/-- A sum of such parts. -/
theorem sum_split3 {n : ℕ} (a x : Fin n → EReal) (ha : ∀ i, a i = 0 ∨ a i = 1) (hx : ∀ i, x i ≠ ⊤) :
    ∑ i, a i * x i + ∑ i, a i * (x i - x i) + ∑ i, a i * (x i - x i - (x i - x i)) = ∑ i, a i * x i := by
  rw [← Finset.sum_add_distrib, ← Finset.sum_add_distrib]
  exact Finset.sum_congr rfl fun i _ => split3 _ _ (ha i) (hx i)

theorem foldl_sum {N : ℕ} (f : Fin N → EReal) (v : EReal) : (List.finRange N).foldl (fun r n => r + f n) v = v + ∑ n, f n := by
  have h : ∀ (l : List (Fin N)) (v : EReal), l.foldl (fun r n => r + f n) v = v + (l.map f).sum := fun l => by
    induction l with
    | nil => intro v; simp
    | cons a l ih => intro v; rw [List.foldl_cons, ih, List.map_cons, List.sum_cons, add_assoc]
  rw [h, Fin.sum_univ_def]

/-- The running sum over axis 1 as a window of 16 padded 15 low. -/
theorem cumsum_apply {B H : ℕ} (x : FVec Ideal ⟨3, ![B, 16, H]⟩ .f32) (init : (⟨0, ![]⟩ : Shape).Idx → Ideal .f32)
    (h : (⟨3, ![B, 16, H]⟩ : Shape).ReduceWindows ![1, 16, 1] ![1, 1, 1] ![0, 15, 0] ![0, 0, 0] ⟨3, ![B, 16, H]⟩)
    (hu : 0 < (⟨0, ![]⟩ : Shape).numel) (b : Fin B) (t : Fin 16) (g : Fin H) (hi : init (Shape.Idx.first hu) = 0) :
    Host.reduceWindowAdd ![1, 16, 1] ![1, 1, 1] ![0, 15, 0] ![0, 0, 0] x init h hu (ix3 b t g)
      = ∑ s : Fin 16, if s ≤ t then x (ix3 b s g) else 0 := by
  show Host.reduceWindow (· + ·) ![1, 16, 1] ![1, 1, 1] ![0, 15, 0] ![0, 0, 0] x (fun _ : (⟨0, ![]⟩ : Shape).Idx => init (Shape.Idx.first hu)) h hu (ix3 b t g) = _
  rw [hi]
  unfold Host.reduceWindow
  have hw : ∀ n : Fin 16, (((⟨3, ![1, 16, 1]⟩ : Shape).rowMajor.symm n 0).val = 0 ∧ ((⟨3, ![1, 16, 1]⟩ : Shape).rowMajor.symm n 1).val = n.val)
      ∧ ((⟨3, ![1, 16, 1]⟩ : Shape).rowMajor.symm n 2).val = 0 := by decide +kernel
  simp only
  rw [foldl_sum, zero_add]
  show ∑ n : Fin 16, _ = _
  rw [← Equiv.sum_comp (Equiv.addRight (15 - t))]
  refine Finset.sum_congr rfl fun s _ => ?_
  have hst : ∀ s t : Fin 16, (s ≤ t ↔ 15 ≤ t.val + (s + (15 - t)).val) ∧ (s ≤ t → t.val + (s + (15 - t)).val - 15 = s.val) := by decide +kernel
  have w0 := (hw (s + (15 - t))).1.1
  have w1 := (hw (s + (15 - t))).1.2
  have w2 := (hw (s + (15 - t))).2
  have key : ∀ (p : Fin 3 → ℕ) (_ : p 0 = b.val) (_ : p 1 = t.val + (s + (15 - t)).val) (_ : p 2 = g.val),
      (if hin : ∀ a, (![0, 15, 0] : Fin 3 → ℕ) a ≤ p a ∧ p a - (![0, 15, 0] : Fin 3 → ℕ) a < (⟨3, ![B, 16, H]⟩ : Shape).size a then
        x (fun a => ⟨p a - (![0, 15, 0] : Fin 3 → ℕ) a, (hin a).2⟩) else 0) = if s ≤ t then x (ix3 b s g) else 0 := by
    intro p p0 p1 p2
    by_cases hs : s ≤ t
    · have h1 := (hst s t).1.mp hs
      have h2 := (hst s t).2 hs
      rw [if_pos hs, dif_pos ?_]
      · congr 1
        funext a
        apply Fin.ext
        fin_cases a <;> simp [ix3, p0, p1, p2, h2]
      · intro a
        fin_cases a
        · simp [p0]
        · simp [p1]; omega
        · simp [p2]
    · rw [if_neg hs, dif_neg ?_]
      intro hh
      have h1 := (hh 1).1
      rw [p1] at h1
      exact hs ((hst s t).1.mpr h1)
  refine key _ ?_ ?_ ?_
  · show b.val * 1 + _ = b.val
    rw [mul_one]; exact congrArg (b.val + ·) w0
  · show t.val * 1 + _ = _
    rw [mul_one]; exact congrArg (t.val + ·) w1
  · show g.val * 1 + _ = g.val
    rw [mul_one]; exact congrArg (g.val + ·) w2

end Cert.M
-- ==== Proof.M.Spec.lean ====
/- One head of the matrix memory over a chunk of sixteen positions, written entry by entry: the decay exponents, the
   stabiliser, the intra-chunk scores, the outputs before normalisation and the states after the chunk. -/
module
public import proofs.«01_k».proof.Proof.M.Scalar
@[expose] public section
noncomputable section
namespace Cert.M
open Idealize.ShloMosaic

/-- The stand-in for minus infinity that both programs write. -/
def neg : EReal := Ideal.ofBits .f32 0xF149F2CA#32
/-- The start of a maximum. -/
def ninf : EReal := Ideal.ofBits .f32 0xFF800000#32
def one16 : EReal := Ideal.ofBits .f32 0x3D800000#32
def c256 : EReal := Ideal.ofBits .f32 0x43800000#32
def epsE : EReal := Ideal.ofBits .f32 0x358637BD#32

/-- The running sum. -/
def csum (f : Fin 16 → EReal) (t : Fin 16) : EReal := ∑ s : Fin 16, if s ≤ t then f s else 0

/-- `x · sigmoid x`. -/
def silu (x : EReal) : EReal := x * Ideal.div 1 (1 + Ideal.exp (-x))

/-- The causal convolution of width 4 over three earlier rows and the chunk's own. -/
def conv (w : Fin 4 → EReal) (bias : EReal) (x : Fin 19 → EReal) (t : Fin 16) : EReal :=
  bias + x ⟨t.val, by omega⟩ * w 0 + x ⟨1 + t.val, by omega⟩ * w 1 + x ⟨2 + t.val, by omega⟩ * w 2 + x ⟨3 + t.val, by omega⟩ * w 3

variable (b i : Fin 16 → EReal) (m0 : EReal) (q k v : Fin 16 → Fin 256 → EReal) (C0 : Fin 256 → Fin 256 → EReal) (n0 : Fin 256 → EReal)

def logD (t s : Fin 16) : EReal := if s ≤ t then b t - b s + i s else neg
def logI (t : Fin 16) : EReal := b t + m0
def stab (t : Fin 16) : EReal := max (logI b m0 t) (Finset.univ.fold max ninf fun s => logD b i t s)
def dec (t s : Fin 16) : EReal := Ideal.exp (logD b i t s - stab b i m0 t)
def wInt (t : Fin 16) : EReal := Ideal.exp (logI b m0 t - stab b i m0 t)
def wLast (s : Fin 16) : EReal := Ideal.exp (b 15 - b s + i s - stab b i m0 15)
def score (t s : Fin 16) : EReal := (∑ j, q t j * k s j) * dec b i m0 t s
def num (t : Fin 16) (j : Fin 256) : EReal :=
  (∑ s, score b i m0 q k t s * v s j) + wInt b i m0 t * ∑ a, q t a * C0 a j
def qn (t : Fin 16) : EReal := (∑ s, score b i m0 q k t s) + wInt b i m0 t * ∑ a, q t a * n0 a
def den (t : Fin 16) : EReal := max (max (qn b i m0 q k n0 t) (-(qn b i m0 q k n0 t))) (Ideal.exp (-(stab b i m0 t)))
/-- The normalised output, the divisor inside the root. -/
def outK (t : Fin 16) (j : Fin 256) : EReal :=
  num b i m0 q k v C0 t j * Ideal.rsqrt (Ideal.div (∑ a, num b i m0 q k v C0 t a * num b i m0 q k v C0 t a) c256
    + epsE * den b i m0 q k n0 t * den b i m0 q k n0 t)
/-- The normalised output, the division first. -/
def outR (t : Fin 16) (j : Fin 256) : EReal :=
  Ideal.div (num b i m0 q k v C0 t j) (den b i m0 q k n0 t)
    * Ideal.rsqrt (Ideal.div (∑ a, Ideal.div (num b i m0 q k v C0 t a) (den b i m0 q k n0 t)
        * Ideal.div (num b i m0 q k v C0 t a) (den b i m0 q k n0 t)) c256 + epsE)
def newC (a j : Fin 256) : EReal := wInt b i m0 15 * C0 a j + ∑ s, k s a * wLast b i m0 s * v s j
def newN (a : Fin 256) : EReal := wInt b i m0 15 * n0 a + ∑ s, k s a * wLast b i m0 s

theorem c256_eq : ∃ r : ℝ, 0 < r ∧ c256 = (r : EReal) := by
  refine ⟨256, by norm_num, ?_⟩
  unfold c256
  simp [Ideal.ofBits, Ideal.ieee]
  rw [← EReal.coe_mul]
  norm_num

theorem eps_eq : ∃ r : ℝ, 0 < r ∧ epsE = (r : EReal) := by
  unfold epsE
  simp [Ideal.ofBits, Ideal.ieee]
  refine ⟨_, ?_, (EReal.coe_mul _ _).symm⟩
  norm_num

theorem exp_nonneg' (x : EReal) : 0 ≤ Ideal.exp x := by
  induction x with
  | bot => exact le_rfl
  | top => exact le_top
  | coe r =>
    show (0 : EReal) ≤ ((Real.exp r : ℝ) : EReal)
    exact_mod_cast (Real.exp_pos r).le

theorem exp_eq_zero {x : EReal} (h : Ideal.exp (-x) = 0) : x = ⊤ := by
  induction x with
  | bot => exact absurd h (by rw [EReal.neg_bot]; exact EReal.top_ne_zero)
  | top => rfl
  | coe r =>
    exfalso
    rw [← EReal.coe_neg] at h
    have h' : ((Real.exp (-r) : ℝ) : EReal) = ((0 : ℝ) : EReal) := h
    exact (Real.exp_pos (-r)).ne' (EReal.coe_injective h')

/-- The two normalised outputs agree: the divisor is 0 only where the stabiliser is `⊤`, and there every weight is 0. -/
theorem outK_eq_outR (t : Fin 16) (j : Fin 256) : outK b i m0 q k v C0 n0 t j = outR b i m0 q k v C0 n0 t j := by
  obtain ⟨c, hc, hc'⟩ := c256_eq
  obtain ⟨e, he, he'⟩ := eps_eq
  unfold outK outR
  rw [hc', he']
  refine norm_eq (fun a => num b i m0 q k v C0 t a) _ hc he ?_ ?_ j
  · exact le_max_of_le_right (exp_nonneg' _)
  · intro h a
    have h1 : Ideal.exp (-(stab b i m0 t)) = 0 := le_antisymm (by rw [← h]; exact le_max_right _ _) (exp_nonneg' _)
    have h2 := exp_eq_zero h1
    have hx : ∀ x : EReal, x - ⊤ = ⊥ := fun x => by rw [sub_eq_add_neg, EReal.neg_top, EReal.add_bot]
    have h3 : ∀ x : EReal, Ideal.exp (x - ⊤) = 0 := fun x => by rw [hx]; rfl
    simp only [num, score, dec, wInt, h2, h3, mul_zero, zero_mul, Finset.sum_const_zero, add_zero]

end Cert.M
-- ==== Proof.M.Args.lean ====
/- The layer's matrix memory over one chunk, as functions of the program's nine arguments: for batch element `B` and head `h`
   the gates, the convolved queries and keys, the values and the states, and from them the four results. -/
module
public import proofs.«01_k».proof.Proof.M.Spec
@[expose] public section
noncomputable section
namespace Cert.M
open Idealize.ShloMosaic Idealize.ShloMosaic.TcCoe

variable (z : FVec Ideal ⟨2, ![128, 20480]⟩ .f32) (zg : FVec Ideal ⟨2, ![128, 128]⟩ .f32) (cw : FVec Ideal ⟨3, ![4, 4, 4096]⟩ .f32)
  (cb : FVec Ideal ⟨2, ![4, 4096]⟩ .f32) (nrm : FVec Ideal ⟨2, ![4, 2048]⟩ .f32) (cc : FVec Ideal ⟨4, ![4, 8, 3, 4096]⟩ .f32)
  (c0 : FVec Ideal ⟨5, ![4, 8, 8, 256, 256]⟩ .f32) (n0 : FVec Ideal ⟨4, ![4, 8, 8, 256]⟩ .f32) (mr : FVec Ideal ⟨3, ![4, 8, 8]⟩ .f32)
  (B h : Fin 8)

/-- The input gate. -/
def aI (t : Fin 16) : EReal := zg (ix2 ⟨16 * B.val + t.val, by omega⟩ ⟨h.val, by omega⟩)
/-- The running sum of the logarithms of the forget gate. -/
def aB (t : Fin 16) : EReal := csum (fun s => lsig (zg (ix2 ⟨16 * B.val + s.val, by omega⟩ ⟨8 + h.val, by omega⟩))) t
/-- The rows the convolution reads: three held from before, then the chunk's. -/
def aX (l : Fin 4096) (r : Fin 19) : EReal :=
  if hr : r.val < 3 then cc (ix4 0 B ⟨r.val, hr⟩ l) else z (ix2 ⟨16 * B.val + (r.val - 3), by omega⟩ ⟨l.val, by omega⟩)
/-- The convolution followed by the gating. -/
def aConv (l : Fin 4096) (t : Fin 16) : EReal := silu (conv (fun j => cw (ix3 0 j l)) (cb (ix2 0 l)) (aX z cc B l) t)
def aQ (t : Fin 16) (j : Fin 256) : EReal := aConv z cw cb cc B ⟨256 * h.val + j.val, by omega⟩ t
def aK (t : Fin 16) (j : Fin 256) : EReal := aConv z cw cb cc B ⟨2048 + (256 * h.val + j.val), by omega⟩ t * one16
def aV (t : Fin 16) (j : Fin 256) : EReal := z (ix2 ⟨16 * B.val + t.val, by omega⟩ ⟨4096 + (256 * h.val + j.val), by omega⟩)
def aM : EReal := mr (ix3 0 B h)
def aC (a j : Fin 256) : EReal := c0 (ix5 0 B h a j)
def aN (a : Fin 256) : EReal := n0 (ix4 0 B h a)

/-- The weights of the norm. -/
def aNrm (j : Fin 256) : EReal := nrm (ix2 0 ⟨256 * h.val + j.val, by omega⟩)
/-- The output gate before its sigmoid. -/
def aZo (t : Fin 16) (j : Fin 256) : EReal := z (ix2 ⟨16 * B.val + t.val, by omega⟩ ⟨6144 + (256 * h.val + j.val), by omega⟩)

def resY (t : Fin 16) (j : Fin 256) : EReal :=
  outK (aB zg B h) (aI zg B h) (aM mr B h) (aQ z cw cb cc B h) (aK z cw cb cc B h) (aV z B h) (aC c0 B h) (aN n0 B h) t j
    * aNrm nrm h j * Ideal.div 1 (1 + Ideal.exp (-(aZo z B h t j)))
def resC (a j : Fin 256) : EReal :=
  newC (aB zg B h) (aI zg B h) (aM mr B h) (aK z cw cb cc B h) (aV z B h) (aC c0 B h) a j
def resN (a : Fin 256) : EReal := newN (aB zg B h) (aI zg B h) (aM mr B h) (aK z cw cb cc B h) (aN n0 B h) a
def resM : EReal := stab (aB zg B h) (aI zg B h) (aM mr B h) 15

end Cert.M
-- ==== Proof.M.Head.lean ====
/- One head of the kernel's body, with the head's number a variable: the body's own chains of operations at that head's
   slices, each read entry by entry as the corresponding entry of the written-out head. -/
module
public import proofs.«01_k».proof.Proof.M.Spec
public import proofs.«01_k».proof.Proof.Gen.KernelIdeal.Skeleton
@[expose] public section
set_option maxRecDepth 16384
noncomputable section
namespace Cert.M
open Cert.KernelIdeal Cert.KernelIdeal.Gen Idealize.ShloMosaic Idealize.ShloMosaic.TcCoe

theorem lt1 (h : Fin 8) : 8 + h.val < 128 := by omega
theorem lt2 (h : Fin 8) : 8 + h.val < 16 := by omega
theorem lt3 (h : Fin 8) : h.val < 16 := by omega
theorem lt4 (h : Fin 8) : h.val < 128 := by omega
theorem lt5 (h : Fin 8) (j : Fin 256) : 256 * h.val + j.val < 2048 := by omega

theorem slIcol (h : Fin 8) : S16x128.Slices ![0, h.val] S16x1 := by revert h; decide
theorem slBcol (h : Fin 8) : S16x128.Slices ![0, 8 + h.val] S16x1 := by revert h; decide
theorem slIrow (h : Fin 8) : S16x16.Slices ![h.val, 0] S1x16 := by revert h; decide
theorem slBrow (h : Fin 8) : S16x16.Slices ![8 + h.val, 0] S1x16 := by revert h; decide
theorem slW (h : Fin 8) : S16x2048.Slices ![0, 256 * h.val] S16x256 := by revert h; decide

/-- The mask of the positions up to `t`. -/
theorem mask_apply (t s : Fin 16) : k0_pay19 (ix2 t s) = if s ≤ t then 1#1 else 0#1 := by
  unfold k0_pay19
  pointwise
  revert t s; decide +kernel

theorem tril_apply (t s : Fin 16) : k0_pay20 (F := Ideal) (ix2 t s) = if s ≤ t then (1 : EReal) else 0 := by
  unfold k0_pay20
  pointwise
  rw [mask_apply]
  by_cases hs : s ≤ t
  · rw [if_pos hs, if_pos hs]
    show (((BitVec.setWidth 32 1#1).toInt : ℝ) : EReal) = 1
    simp
  · rw [if_neg hs, if_neg hs]
    show (((BitVec.setWidth 32 0#1).toInt : ℝ) : EReal) = 0
    simp

theorem tril_cases (t s : Fin 16) : k0_pay20 (F := Ideal) (ix2 t s) = 0 ∨ k0_pay20 (F := Ideal) (ix2 t s) = 1 := by
  rw [tril_apply]; by_cases hs : s ≤ t <;> simp [hs]

theorem csum_eq (f : Fin 16 → EReal) (t : Fin 16) : ∑ s, k0_pay20 (F := Ideal) (ix2 t s) * f s = csum f t := by
  unfold csum
  refine Finset.sum_congr rfl fun s _ => ?_
  rw [tril_apply]; by_cases hs : s ≤ t <;> simp [hs]

/-- The kernel's running sums of the forget gates, one column per gate. -/
theorem bcols_apply (zg : FVec Ideal S16x128 .f32) (t : Fin 16) (g : Fin 128) :
    k0_pay23 (F := Ideal) k0_pay20 (k0_pay21 zg) (k0_pay22 zg) (ix2 t g) = csum (fun s => lsig (zg (ix2 s g))) t := by
  rw [← csum_eq, ← sum_split3 _ _ (tril_cases t) (fun s => lsig_ne_top (zg (ix2 s g)))]
  unfold k0_pay23 k0_pay21 k0_pay22
  pointwise
  rfl

/-- The same, one row per gate. -/
theorem brows_apply (gt : FVec Ideal S16x16 .f32) (g t : Fin 16) :
    k0_pay24 (F := Ideal) gt k0_pay20 (ix2 g t) = csum (fun s => lsig (gt (ix2 g s))) t := by
  rw [← csum_eq, ← sum_split3 _ _ (tril_cases t) (fun s => lsig_ne_top (gt (ix2 g s)))]
  unfold k0_pay24
  pointwise
  simp only [mul_comm (k0_pay20 (F := Ideal) _)]
  rfl

/-- The rows a convolution reads: the last three of the eight held from before, then the chunk's sixteen. -/
def rows (hist : FVec Ideal S8x2048 .f32) (x : FVec Ideal S16x2048 .f32) (l : Fin 2048) (r : Fin 19) : EReal :=
  if hr : r.val < 3 then hist (ix2 ⟨5 + r.val, by omega⟩ l) else x (ix2 ⟨r.val - 3, by omega⟩ l)

theorem cat_apply (hist : FVec Ideal S8x2048 .f32) (x : FVec Ideal S16x2048 .f32) (l : Fin 2048) (n : ℕ) (r : Fin 19) (hn : n < 24) (e : n = 5 + r.val) :
    concatenate S24x2048 0 [⟨S8x2048, hist⟩, ⟨S16x2048, x⟩] concatenates_S8x2048_S16x2048_S24x2048_d0 (ix2 ⟨n, hn⟩ l) = rows hist x l r := by
  subst e
  unfold rows
  pointwise
  by_cases hr : r.val < 3
  · rw [dif_pos hr, dif_pos (by omega)]
  · rw [dif_neg hr, dif_neg (by omega)]
    congr 2
    apply Fin.ext
    show 5 + r.val - 8 = r.val - 3
    omega

variable (h : Fin 8)

def gBcol (bc : FVec Ideal S16x128 .f32) : FVec Ideal S16x1 .f32 := extractStridedSlice S16x1 ![0, 8 + h.val] bc (slBcol h)
def gLogD (gt br : FVec Ideal S16x16 .f32) (bc : FVec Ideal S16x128 .f32) : FVec Ideal S16x16 .f32 :=
  select k0_pay19 (addf (subf (broadcastTo S16x16 (gBcol h bc) broadcasts_S16x1_S16x16)
      (broadcastTo S16x16 (extractStridedSlice S1x16 ![8 + h.val, 0] br (slBrow h)) broadcasts_S1x16_S16x16))
    (broadcastTo S16x16 (extractStridedSlice S1x16 ![h.val, 0] gt (slIrow h)) broadcasts_S1x16_S16x16))
    (broadcast S16x16 (Scalar.ofBits .f32 0xF149F2CA#32))
def gLogI (bc : FVec Ideal S16x128 .f32) (m1 : FVec Ideal S1x1x1 .f32) : FVec Ideal S16x1 .f32 :=
  addf (gBcol h bc) (broadcastTo S16x1 (shapeCast S1x1 m1 shapeCasts_S1x1x1_S1x1) broadcasts_S1x1_S16x1)
def gM (gt br : FVec Ideal S16x16 .f32) (bc : FVec Ideal S16x128 .f32) (m1 : FVec Ideal S1x1x1 .f32) : FVec Ideal S16x1 .f32 :=
  maximumf (gLogI h bc m1) (shapeCast S16x1 (multiReduction .maximumf [1] S16 (gLogD h gt br bc) 0xFF800000#32 reduces_S16x16_S16 (.inl rfl) rfl) shapeCasts_S16_S16x1)
def gD (gt br : FVec Ideal S16x16 .f32) (bc : FVec Ideal S16x128 .f32) (m1 : FVec Ideal S1x1x1 .f32) : FVec Ideal S16x16 .f32 :=
  exp (subf (gLogD h gt br bc) (broadcastTo S16x16 (gM h gt br bc m1) broadcasts_S16x1_S16x16))
def gW (gt br : FVec Ideal S16x16 .f32) (bc : FVec Ideal S16x128 .f32) (m1 : FVec Ideal S1x1x1 .f32) : FVec Ideal S16x1 .f32 :=
  exp (subf (gLogI h bc m1) (gM h gt br bc m1))
def gWl (zg : FVec Ideal S16x128 .f32) (gt br : FVec Ideal S16x16 .f32) (bc : FVec Ideal S16x128 .f32) (m1 : FVec Ideal S1x1x1 .f32) : FVec Ideal S16x1 .f32 :=
  exp (subf (addf (subf (broadcastTo S16x1 (extractStridedSlice S1x1 ![15, 0] (gBcol h bc) slices_S16x1_o15_0_S1x1) broadcasts_S1x1_S16x1) (gBcol h bc))
      (extractStridedSlice S16x1 ![0, h.val] zg (slIcol h)))
    (broadcastTo S16x1 (extractStridedSlice S1x1 ![15, 0] (gM h gt br bc m1) slices_S16x1_o15_0_S1x1) broadcasts_S1x1_S16x1))
def gS (gt br : FVec Ideal S16x16 .f32) (bc : FVec Ideal S16x128 .f32) (m1 : FVec Ideal S1x1x1 .f32) (Q K : FVec Ideal S16x2048 .f32) : FVec Ideal S16x16 .f32 :=
  mulf (matmul dot_S16x256_S16x256_S16x16_1_1_0_0_n_n none (extractStridedSlice S16x256 ![0, 256 * h.val] (truncf .bf16 Q bitsLt_bf16_f32) (slW h))
    (extractStridedSlice S16x256 ![0, 256 * h.val] (truncf .bf16 K bitsLt_bf16_f32) (slW h)) (constant S16x16 .f32 0x00000000#32)) (gD h gt br bc m1)
def gNum (gt br : FVec Ideal S16x16 .f32) (bc : FVec Ideal S16x128 .f32) (m1 : FVec Ideal S1x1x1 .f32) (Q K : FVec Ideal S16x2048 .f32) (V : FVec Ideal S16x2048 .bf16)
    (C1 : FVec Ideal S1x1x256x256 .f32) : FVec Ideal S16x256 .f32 :=
  addf (matmul dot_S16x16_S16x256_S16x256_1_0_0_1_n_n none (truncf .bf16 (gS h gt br bc m1 Q K) bitsLt_bf16_f32)
      (extractStridedSlice S16x256 ![0, 256 * h.val] V (slW h)) (constant S16x256 .f32 0x00000000#32))
    (mulf (broadcastTo S16x256 (gW h gt br bc m1) broadcasts_S16x1_S16x256)
      (matmul dot_S16x256_S256x256_S16x256_1_0_0_1_n_n none (extractStridedSlice S16x256 ![0, 256 * h.val] (truncf .bf16 Q bitsLt_bf16_f32) (slW h))
        (truncf .bf16 (shapeCast S256x256 C1 shapeCasts_S1x1x256x256_S256x256) bitsLt_bf16_f32) (constant S16x256 .f32 0x00000000#32)))
def gQn (gt br : FVec Ideal S16x16 .f32) (bc : FVec Ideal S16x128 .f32) (m1 : FVec Ideal S1x1x1 .f32) (Q K : FVec Ideal S16x2048 .f32)
    (n1 : FVec Ideal S1x1x256 .f32) : FVec Ideal S16x1 .f32 :=
  addf (shapeCast S16x1 (multiReduction .add [1] S16 (gS h gt br bc m1 Q K) 0x00000000#32 reduces_S16x16_S16 (.inl rfl) rfl) shapeCasts_S16_S16x1)
    (mulf (gW h gt br bc m1) (shapeCast S16x1 (multiReduction .add [1] S16 (mulf (extractStridedSlice S16x256 ![0, 256 * h.val] Q (slW h))
      (broadcastTo S16x256 (shapeCast S1x256 n1 shapeCasts_S1x1x256_S1x256) broadcasts_S1x256_S16x256)) 0x00000000#32 reduces_S16x256_S16 (.inl rfl) rfl) shapeCasts_S16_S16x1))
def gDen (gt br : FVec Ideal S16x16 .f32) (bc : FVec Ideal S16x128 .f32) (m1 : FVec Ideal S1x1x1 .f32) (Q K : FVec Ideal S16x2048 .f32)
    (n1 : FVec Ideal S1x1x256 .f32) : FVec Ideal S16x1 .f32 :=
  maximumf (absf (gQn h gt br bc m1 Q K n1)) (exp (subf (broadcast S16x1 (Scalar.ofBits .f32 0x00000000#32)) (gM h gt br bc m1)))
/-- The normalised output from the numerator and the divisor. -/
def gOut (N : FVec Ideal S16x256 .f32) (D : FVec Ideal S16x1 .f32) : FVec Ideal S16x256 .f32 :=
  mulf N (broadcastTo S16x256 (rsqrt (addf
    (divf (shapeCast S16x1 (multiReduction .add [1] S16 (mulf N N) 0x00000000#32 reduces_S16x256_S16 (.inl rfl) rfl) shapeCasts_S16_S16x1)
      (broadcast S16x1 (Scalar.ofBits .f32 0x43800000#32)))
    (mulf (mulf (broadcast S16x1 (Scalar.ofBits .f32 0x358637BD#32)) D) D))) broadcasts_S16x1_S16x256)
def gY (N : FVec Ideal S16x256 .f32) (D : FVec Ideal S16x1 .f32) (nrm : FVec Ideal S1x1x256 .f32) (zo : FVec Ideal S16x256 .f32) : FVec Ideal S16x256 .bf16 :=
  truncf .bf16 (mulf (mulf (gOut N D) (broadcastTo S16x256 (shapeCast S1x256 nrm shapeCasts_S1x1x256_S1x256) broadcasts_S1x256_S16x256))
    (divf (broadcast S16x256 (Scalar.ofBits .f32 0x3F800000#32)) (addf (broadcast S16x256 (Scalar.ofBits .f32 0x3F800000#32))
      (exp (subf (broadcast S16x256 (Scalar.ofBits .f32 0x00000000#32)) zo))))) bitsLt_bf16_f32
def gKw (zg : FVec Ideal S16x128 .f32) (gt br : FVec Ideal S16x16 .f32) (bc : FVec Ideal S16x128 .f32) (m1 : FVec Ideal S1x1x1 .f32) (K : FVec Ideal S16x2048 .f32) :
    FVec Ideal S16x256 .f32 :=
  mulf (extractStridedSlice S16x256 ![0, 256 * h.val] K (slW h)) (broadcastTo S16x256 (gWl h zg gt br bc m1) broadcasts_S16x1_S16x256)
def gC (zg : FVec Ideal S16x128 .f32) (gt br : FVec Ideal S16x16 .f32) (bc : FVec Ideal S16x128 .f32) (m1 : FVec Ideal S1x1x1 .f32) (K : FVec Ideal S16x2048 .f32)
    (V : FVec Ideal S16x2048 .bf16) (C1 : FVec Ideal S1x1x256x256 .f32) : FVec Ideal S1x1x256x256 .f32 :=
  shapeCast S1x1x256x256 (addf (mulf (broadcastTo S256x256 (extractStridedSlice S1x1 ![15, 0] (gW h gt br bc m1) slices_S16x1_o15_0_S1x1) broadcasts_S1x1_S256x256)
      (shapeCast S256x256 C1 shapeCasts_S1x1x256x256_S256x256))
    (matmul dot_S16x256_S16x256_S256x256_0_0_1_1_n_n none (truncf .bf16 (gKw h zg gt br bc m1 K) bitsLt_bf16_f32)
      (extractStridedSlice S16x256 ![0, 256 * h.val] V (slW h)) (constant S256x256 .f32 0x00000000#32))) shapeCasts_S256x256_S1x1x256x256
def gN (zg : FVec Ideal S16x128 .f32) (gt br : FVec Ideal S16x16 .f32) (bc : FVec Ideal S16x128 .f32) (m1 : FVec Ideal S1x1x1 .f32) (K : FVec Ideal S16x2048 .f32)
    (n1 : FVec Ideal S1x1x256 .f32) : FVec Ideal S1x1x256 .f32 :=
  shapeCast S1x1x256 (addf (mulf (broadcastTo S1x256 (extractStridedSlice S1x1 ![15, 0] (gW h gt br bc m1) slices_S16x1_o15_0_S1x1) broadcasts_S1x1_S1x256)
      (shapeCast S1x256 n1 shapeCasts_S1x1x256_S1x256))
    (shapeCast S1x256 (multiReduction .add [0] S256 (gKw h zg gt br bc m1 K) 0x00000000#32 reduces_S16x256_S256 (.inl rfl) rfl) shapeCasts_S256_S1x256)) shapeCasts_S1x256_S1x1x256
def gMl (gt br : FVec Ideal S16x16 .f32) (bc : FVec Ideal S16x128 .f32) (m1 : FVec Ideal S1x1x1 .f32) : FVec Ideal S1x1x128 .f32 :=
  shapeCast S1x1x128 (broadcastTo S1x128 (shapeCast S1x1 (extractStridedSlice S1x1 ![15, 0] (gM h gt br bc m1) slices_S16x1_o15_0_S1x1) shapeCasts_S1x1_S1x1)
    broadcasts_S1x1_S1x128) shapeCasts_S1x128_S1x1x128

section Entries
variable {h}
variable {zg : FVec Ideal S16x128 .f32} {gt br : FVec Ideal S16x16 .f32} {bc : FVec Ideal S16x128 .f32} {m1 : FVec Ideal S1x1x1 .f32} {Q K : FVec Ideal S16x2048 .f32}
  {V : FVec Ideal S16x2048 .bf16} {C1 : FVec Ideal S1x1x256x256 .f32} {n1 : FVec Ideal S1x1x256 .f32}
variable {b i : Fin 16 → EReal} {m0 : EReal} {q k v : Fin 16 → Fin 256 → EReal} {C0 : Fin 256 → Fin 256 → EReal} {n0 : Fin 256 → EReal}
variable (hbc : ∀ t, bc (ix2 t ⟨8 + h.val, lt1 h⟩) = b t) (hbr : ∀ t, br (ix2 ⟨8 + h.val, lt2 h⟩ t) = b t)
  (hgt : ∀ t, gt (ix2 ⟨h.val, lt3 h⟩ t) = i t) (hzg : ∀ t, zg (ix2 t ⟨h.val, lt4 h⟩) = i t) (hm : m1 (ix3 0 0 0) = m0)
  (hQ : ∀ t (j : Fin 256), Q (ix2 t ⟨256 * h.val + j.val, lt5 h j⟩) = q t j) (hK : ∀ t (j : Fin 256), K (ix2 t ⟨256 * h.val + j.val, lt5 h j⟩) = k t j)
  (hV : ∀ t (j : Fin 256), V (ix2 t ⟨256 * h.val + j.val, lt5 h j⟩) = v t j)
  (hC : ∀ a j, C1 (ix4 0 0 a j) = C0 a j) (hn : ∀ a, n1 (ix3 0 0 a) = n0 a)
include hbc hbr hgt

theorem gLogD_apply (t s : Fin 16) : gLogD h gt br bc (ix2 t s) = logD b i t s := by
  unfold gLogD gBcol
  pointwise
  rw [mask_apply, hbc, hbr, hgt]
  unfold logD
  by_cases hs : s ≤ t
  · rw [if_pos hs, if_pos hs]; rfl
  · rw [if_neg hs, if_neg hs]; rfl
include hm
theorem gM_apply (t : Fin 16) : gM h gt br bc m1 (ix2 t 0) = stab b i m0 t := by
  unfold gM gLogI gBcol
  pointwise
  simp only [hbc, hm, gLogD_apply hbc hbr hgt]
  rfl
theorem gD_apply (t s : Fin 16) : gD h gt br bc m1 (ix2 t s) = dec b i m0 t s := by
  unfold gD
  pointwise
  rw [gLogD_apply hbc hbr hgt, gM_apply hbc hbr hgt hm]
  rfl
theorem gW_apply (t : Fin 16) : gW h gt br bc m1 (ix2 t 0) = wInt b i m0 t := by
  unfold gW gLogI gBcol
  pointwise
  rw [hbc, hm, gM_apply hbc hbr hgt hm]
  rfl
include hzg in
theorem gWl_apply (s : Fin 16) : gWl h zg gt br bc m1 (ix2 s 0) = wLast b i m0 s := by
  unfold gWl gBcol
  pointwise
  rw [hzg, gM_apply hbc hbr hgt hm, hbc, hbc]
  rfl
include hQ hK
theorem gS_apply (t s : Fin 16) : gS h gt br bc m1 Q K (ix2 t s) = score b i m0 q k t s := by
  unfold gS
  pointwise
  simp only [gD_apply hbc hbr hgt hm, hQ, hK]
  rfl
include hV hC in
theorem gNum_apply (t : Fin 16) (j : Fin 256) : gNum h gt br bc m1 Q K V C1 (ix2 t j) = num b i m0 q k v C0 t j := by
  unfold gNum
  pointwise
  simp only [gS_apply hbc hbr hgt hm hQ hK, gW_apply hbc hbr hgt hm, hQ, hV, hC]
  rfl
include hn
theorem gQn_apply (t : Fin 16) : gQn h gt br bc m1 Q K n1 (ix2 t 0) = qn b i m0 q k n0 t := by
  unfold gQn
  pointwise
  simp only [gS_apply hbc hbr hgt hm hQ hK, gW_apply hbc hbr hgt hm, hQ, hn]
  rfl
theorem gDen_apply (t : Fin 16) : gDen h gt br bc m1 Q K n1 (ix2 t 0) = den b i m0 q k n0 t := by
  unfold gDen
  pointwise
  rw [gQn_apply hbc hbr hgt hm hQ hK hn, gM_apply hbc hbr hgt hm, zero_sub]
  rfl
include hV hC
theorem gY_apply (nrm : FVec Ideal S1x1x256 .f32) (zo : FVec Ideal S16x256 .f32) (t : Fin 16) (j : Fin 256) :
    gY (gNum h gt br bc m1 Q K V C1) (gDen h gt br bc m1 Q K n1) nrm zo (ix2 t j)
      = outK b i m0 q k v C0 n0 t j * nrm (ix3 0 0 j) * Ideal.div 1 (1 + Ideal.exp (-(zo (ix2 t j)))) := by
  unfold gY gOut
  pointwise
  simp only [gNum_apply hbc hbr hgt hm hQ hK hV hC, gDen_apply hbc hbr hgt hm hQ hK hn, zero_sub]
  rfl
omit hQ hn
include hzg
omit hV hC in
theorem gKw_apply (s : Fin 16) (a : Fin 256) : gKw h zg gt br bc m1 K (ix2 s a) = k s a * wLast b i m0 s := by
  unfold gKw
  pointwise
  rw [hK, gWl_apply hbc hbr hgt hzg hm]
theorem gC_apply (a j : Fin 256) : gC h zg gt br bc m1 K V C1 (ix4 0 0 a j) = newC b i m0 k v C0 a j := by
  unfold gC
  pointwise
  simp only [gKw_apply hbc hbr hgt hzg hm hK, hV, hC]
  exact congrArg (fun x => x * C0 a j + _) (gW_apply hbc hbr hgt hm 15)
omit hV hC
include hn in
theorem gN_apply (a : Fin 256) : gN h zg gt br bc m1 K n1 (ix3 0 0 a) = newN b i m0 k n0 a := by
  unfold gN
  pointwise
  simp only [gKw_apply hbc hbr hgt hzg hm hK, hn]
  exact congrArg (fun x => x * n0 a + _) (gW_apply hbc hbr hgt hm 15)
omit hzg hK
theorem gMl_apply (l : Fin 128) : gMl h gt br bc m1 (ix3 0 0 l) = stab b i m0 15 := by
  unfold gMl
  pointwise
  exact gM_apply hbc hbr hgt hm 15
end Entries

end Cert.M
-- ==== Proof.M.Conv.lean ====
/- The kernel's convolution, entry by entry. -/
module
public import proofs.«01_k».proof.Proof.M.Head
@[expose] public section
set_option maxRecDepth 16384
noncomputable section
namespace Cert.M
open Cert.KernelIdeal Cert.KernelIdeal.Gen Idealize.ShloMosaic Idealize.ShloMosaic.TcCoe

variable (hist : FVec Ideal S8x2048 .f32) (x : FVec Ideal S16x2048 .f32) (w0 w1 w2 w3 bias : FVec Ideal S1x1x2048 .f32)

theorem rows_eq (l : Fin 2048) (n : ℕ) (hn : n < 24) (r : Fin 19) (e : n = 5 + r.val) :
    (if h : n < 8 then hist (ix2 ⟨n, h⟩ l) else x (ix2 ⟨n - 8, by omega⟩ l)) = rows hist x l r := by
  subst e
  unfold rows
  by_cases hr : r.val < 3
  · rw [dif_pos hr, dif_pos (by omega)]
  · rw [dif_neg hr, dif_neg (by omega)]
    congr 2
    apply Fin.ext
    show 5 + r.val - 8 = r.val - 3
    omega

theorem rows_last (l : Fin 2048) (t : Fin 16) : x (ix2 t l) = rows hist x l ⟨3 + t.val, by omega⟩ := by
  unfold rows
  rw [dif_neg (by show ¬ 3 + t.val < 3; omega)]
  congr 2
  apply Fin.ext
  show t.val = 3 + t.val - 3
  omega

/-- Four numbers, one per tap. -/
def taps (a0 a1 a2 a3 : EReal) (j : Fin 4) : EReal := if j = 0 then a0 else if j = 1 then a1 else if j = 2 then a2 else a3

theorem conv_assoc (a0 a1 a2 a3 bias : EReal) (X : Fin 19 → EReal) (t : Fin 16) :
    X ⟨t.val, by omega⟩ * a0 + X ⟨1 + t.val, by omega⟩ * a1 + X ⟨2 + t.val, by omega⟩ * a2 + X ⟨3 + t.val, by omega⟩ * a3 + bias
      = conv (taps a0 a1 a2 a3) bias X t := by
  unfold conv taps
  simp only [reduceIte, Fin.isValue, Fin.reduceEq]
  rw [add_comm _ bias]; simp only [add_assoc]

theorem silu_eq (y : EReal) : y * Ideal.div 1 (1 + Ideal.exp (0 - y)) = silu y := by
  unfold silu; rw [zero_sub]

theorem convq_apply (t : Fin 16) (l : Fin 2048) :
    k0_pay10 (F := Ideal) (k0_pay8 hist x w0 w1 w2 w3 bias) (ix2 t l)
      = silu (conv (taps (w0 (ix3 0 0 l)) (w1 (ix3 0 0 l)) (w2 (ix3 0 0 l)) (w3 (ix3 0 0 l))) (bias (ix3 0 0 l)) (rows hist x l) t) := by
  unfold k0_pay10 k0_pay8
  pointwise
  rw [silu_eq, rows_eq hist x l _ _ ⟨t.val, by omega⟩ (by show _ = 5 + t.val; omega), rows_eq hist x l _ _ ⟨1 + t.val, by omega⟩ (by show _ = 5 + (1 + t.val); omega),
    rows_eq hist x l _ _ ⟨2 + t.val, by omega⟩ (by show _ = 5 + (2 + t.val); omega), rows_last hist x, conv_assoc] <;> omega

theorem convk_apply (t : Fin 16) (l : Fin 2048) :
    k0_pay14 (F := Ideal) (k0_pay11 hist x) (k0_pay12 hist x w0 w1 w2) w3 bias (ix2 t l)
      = silu (conv (taps (w0 (ix3 0 0 l)) (w1 (ix3 0 0 l)) (w2 (ix3 0 0 l)) (w3 (ix3 0 0 l))) (bias (ix3 0 0 l)) (rows hist x l) t) * one16 := by
  unfold k0_pay14 k0_pay12 k0_pay11
  pointwise
  rw [silu_eq, rows_eq hist x l _ _ ⟨t.val, by omega⟩ (by show _ = 5 + t.val; omega), rows_eq hist x l _ _ ⟨1 + t.val, by omega⟩ (by show _ = 5 + (1 + t.val); omega),
    rows_eq hist x l _ _ ⟨2 + t.val, by omega⟩ (by show _ = 5 + (2 + t.val); omega), rows_last hist x, conv_assoc]
  · rfl
  all_goals omega
end Cert.M
-- ==== Proof.M.Blocks.lean ====
/- What each block of the region holds, entry by entry, as entries of the program's arguments. -/
module
public import proofs.«01_k».proof.Proof.Gen.KernelIdeal.Value
public import Idealize.ShloMosaic.Lib.Pipeline.ValueKit
public import Idealize.ShloMosaic.Lib.Pointwise
@[expose] public section
set_option maxRecDepth 16384
noncomputable section
namespace Cert.M
open Cert.KernelIdeal Cert.KernelIdeal.Gen Idealize.ShloMosaic Idealize.ShloMosaic.TcCoe Idealize.SL.Sem
variable (m : (ℓ : Loc nD τ sig) → Buf (Elt Ideal) ℓ) (c : Dev nD)

theorem entry2 (a : Fin 8) (g s : Fin 16) : V m c main_v2 (ix4 a 0 g s) = m ((c : Thread nD τ).loc main_arg1) (ix2 ⟨16 * a.val + s.val, by omega⟩ ⟨g.val, by omega⟩) := by
  simp only [V, List.flatten_cons, List.flatten_nil, List.append_nil, List.cons_append, List.nil_append]
  entry_read
  pointwise
  blk_ext
theorem entry5 (a : Fin 8) (j : Fin 3) (l : Fin 4096) : V m c main_v5 (ix3 a ⟨5 + j.val, by omega⟩ l) = m ((c : Thread nD τ).loc main_arg5) (ix4 0 a j l) := by
  simp only [V, List.flatten_cons, List.flatten_nil, List.append_nil, List.cons_append, List.nil_append]
  entry_read
  generalize (StableHlo.TRef.of main_call0_v0 _ _ _).ofBuf _ = z
  show pad S8x8x4096 ![0, 5, 0] ![0, 0, 0] ![0, 0, 0] (shapeCast S8x3x4096 (extractStridedSlice S1x8x3x4096 ![0, 0, 0, 0] (m ((c : Thread nD τ).loc main_arg5))
    slices_S4x8x3x4096_S1x8x3x4096_0_0_0_0) shapeCasts_S1x8x3x4096_S8x3x4096) z pads_S8x3x4096_S8x8x4096_000_500_000 h_S_ _ = _
  pointwise
theorem entry9 (a : Fin 8) (h : Fin 8) (l : Fin 128) : V m c main_v9 (ix3 a h l) = m ((c : Thread nD τ).loc main_arg8) (ix3 0 a h) := by
  simp only [V, List.flatten_cons, List.flatten_nil, List.append_nil, List.cons_append, List.nil_append]
  entry_read
  pointwise
  blk_ext
theorem entry10 (a : Fin 4) (l : Fin 4096) : V m c main_v10 (ix3 a 0 l) = m ((c : Thread nD τ).loc main_arg3) (ix2 a l) := by
  simp only [V, List.flatten_cons, List.flatten_nil, List.append_nil, List.cons_append, List.nil_append]
  entry_read
  pointwise
  blk_ext
theorem entry11 (a : Fin 4) (l : Fin 2048) : V m c main_v11 (ix3 a 0 l) = m ((c : Thread nD τ).loc main_arg4) (ix2 a l) := by
  simp only [V, List.flatten_cons, List.flatten_nil, List.append_nil, List.cons_append, List.nil_append]
  entry_read
  pointwise
  blk_ext

variable (t : Fin cfg0.N)

/-- The batch a grid point works on. -/
def bt (t : Fin cfg0.N) : Fin 8 := ⟨t.val, t.isLt⟩
theorem bt_val : (bt t).val = t.val := rfl

theorem blk0 (r : Fin 16) (l : Fin 2048) : iblk m c 0 t (ix2 r l) = m ((c : Thread nD τ).loc main_arg0) (ix2 ⟨16 * (bt t).val + r.val, by omega⟩ ⟨0 + l.val, by omega⟩) := by
  have idx : win0_0.index t = ![t.val, 0] := (by decide +kernel : ∀ t : Fin grid0.N, win0_0.index t = ![t.val, 0]) t
  have hb := bt_val t
  have hl := (bt t).isLt
  blk_ext [iblk, V_main_arg0, idx]
theorem blk1 (r : Fin 16) (l : Fin 2048) : iblk m c 1 t (ix2 r l) = m ((c : Thread nD τ).loc main_arg0) (ix2 ⟨16 * (bt t).val + r.val, by omega⟩ ⟨2048 + l.val, by omega⟩) := by
  have idx : win0_1.index t = ![t.val, 1] := (by decide +kernel : ∀ t : Fin grid0.N, win0_1.index t = ![t.val, 1]) t
  have hb := bt_val t
  have hl := (bt t).isLt
  blk_ext [iblk, V_main_arg0, idx]
theorem blk2 (r : Fin 16) (l : Fin 2048) : iblk m c 2 t (ix2 r l) = m ((c : Thread nD τ).loc main_arg0) (ix2 ⟨16 * (bt t).val + r.val, by omega⟩ ⟨4096 + l.val, by omega⟩) := by
  have idx : win0_2.index t = ![t.val, 2] := (by decide +kernel : ∀ t : Fin grid0.N, win0_2.index t = ![t.val, 2]) t
  have hb := bt_val t
  have hl := (bt t).isLt
  blk_ext [iblk, V_main_arg0, idx]
theorem blk3 (r : Fin 16) (l : Fin 2048) : iblk m c 3 t (ix2 r l) = m ((c : Thread nD τ).loc main_arg0) (ix2 ⟨16 * (bt t).val + r.val, by omega⟩ ⟨6144 + l.val, by omega⟩) := by
  have idx : win0_3.index t = ![t.val, 3] := (by decide +kernel : ∀ t : Fin grid0.N, win0_3.index t = ![t.val, 3]) t
  have hb := bt_val t
  have hl := (bt t).isLt
  blk_ext [iblk, V_main_arg0, idx]
theorem blk4 (r : Fin 16) (g : Fin 128) : iblk m c 4 t (ix2 r g) = m ((c : Thread nD τ).loc main_arg1) (ix2 ⟨16 * (bt t).val + r.val, by omega⟩ g) := by
  have idx : win0_4.index t = ![t.val, 0] := (by decide +kernel : ∀ t : Fin grid0.N, win0_4.index t = ![t.val, 0]) t
  have hb := bt_val t
  have hl := (bt t).isLt
  blk_ext [iblk, V_main_arg1, idx]
theorem blk5 (g s : Fin 16) : iblk m c 5 t (ix4 0 0 g s) = V m c main_v2 (ix4 (bt t) 0 g s) := by
  have idx : win0_5.index t = ![t.val, 0, 0, 0] := (by decide +kernel : ∀ t : Fin grid0.N, win0_5.index t = ![t.val, 0, 0, 0]) t
  have hb := bt_val t
  have hl := (bt t).isLt
  blk_ext [iblk, idx]
theorem blk6 (j : Fin 4) (l : Fin 4096) : iblk m c 6 t (ix3 0 j l) = m ((c : Thread nD τ).loc main_arg2) (ix3 0 j l) := by
  have idx : win0_6.index t = ![0, 0, 0] := (by decide +kernel : ∀ t : Fin grid0.N, win0_6.index t = ![0, 0, 0]) t
  have hb := bt_val t
  have hl := (bt t).isLt
  blk_ext [iblk, V_main_arg2, idx]
theorem blk7 (l : Fin 4096) : iblk m c 7 t (ix3 0 0 l) = V m c main_v10 (ix3 0 0 l) := by
  have idx : win0_7.index t = ![0, 0, 0] := (by decide +kernel : ∀ t : Fin grid0.N, win0_7.index t = ![0, 0, 0]) t
  have hb := bt_val t
  have hl := (bt t).isLt
  blk_ext [iblk, idx]
theorem blk8 (l : Fin 2048) : iblk m c 8 t (ix3 0 0 l) = V m c main_v11 (ix3 0 0 l) := by
  have idx : win0_8.index t = ![0, 0, 0] := (by decide +kernel : ∀ t : Fin grid0.N, win0_8.index t = ![0, 0, 0]) t
  have hb := bt_val t
  have hl := (bt t).isLt
  blk_ext [iblk, idx]
theorem blk9 (j : Fin 8) (l : Fin 4096) : iblk m c 9 t (ix3 0 j l) = V m c main_v5 (ix3 (bt t) j l) := by
  have idx : win0_9.index t = ![t.val, 0, 0] := (by decide +kernel : ∀ t : Fin grid0.N, win0_9.index t = ![t.val, 0, 0]) t
  have hb := bt_val t
  have hl := (bt t).isLt
  blk_ext [iblk, idx]
theorem blk10 (h : Fin 8) (a j : Fin 256) : iblk m c 10 t (ix5 0 0 h a j) = m ((c : Thread nD τ).loc main_arg6) (ix5 0 (bt t) h a j) := by
  have idx : win0_10.index t = ![0, t.val, 0, 0, 0] := (by decide +kernel : ∀ t : Fin grid0.N, win0_10.index t = ![0, t.val, 0, 0, 0]) t
  have hb := bt_val t
  have hl := (bt t).isLt
  blk_ext [iblk, V_main_arg6, idx]
theorem blk11 (h : Fin 8) (a : Fin 256) : iblk m c 11 t (ix4 0 0 h a) = m ((c : Thread nD τ).loc main_arg7) (ix4 0 (bt t) h a) := by
  have idx : win0_11.index t = ![0, t.val, 0, 0] := (by decide +kernel : ∀ t : Fin grid0.N, win0_11.index t = ![0, t.val, 0, 0]) t
  have hb := bt_val t
  have hl := (bt t).isLt
  blk_ext [iblk, V_main_arg7, idx]
theorem blk12 (h : Fin 8) (l : Fin 128) : iblk m c 12 t (ix3 0 h l) = V m c main_v9 (ix3 (bt t) h l) := by
  have idx : win0_12.index t = ![t.val, 0, 0] := (by decide +kernel : ∀ t : Fin grid0.N, win0_12.index t = ![t.val, 0, 0]) t
  have hb := bt_val t
  have hl := (bt t).isLt
  blk_ext [iblk, idx]
end Cert.M
-- ==== Proof.M.Kernel.lean ====
/- What one grid point leaves in its four result blocks. -/
module
public import proofs.«01_k».proof.Proof.M.Args
public import proofs.«01_k».proof.Proof.M.Conv
public import proofs.«01_k».proof.Proof.M.Blocks
public import Idealize.ShloMosaic.Lib.Pipeline.ReadBack
@[expose] public section
set_option maxRecDepth 16384
noncomputable section
namespace Cert.M
open Cert.KernelIdeal Cert.KernelIdeal.Gen Idealize.ShloMosaic Idealize.ShloMosaic.TcCoe Idealize.SL.Sem
variable (m : (ℓ : Loc nD τ sig) → Buf (Elt Ideal) ℓ) (c : Dev nD) (t : Fin cfg0.N) (h : Fin 8)

/-- The running sums of a block's gates, by columns and by rows. -/
def BC : FVec Ideal S16x128 .f32 := k0_pay23 (F := Ideal) k0_pay20 (k0_pay21 (iblk m c 4 t)) (k0_pay22 (iblk m c 4 t))
def BR : FVec Ideal S16x16 .f32 := k0_pay24 (F := Ideal) (k0_pay18 (iblk m c 5 t)) k0_pay20
def GT : FVec Ideal S16x16 .f32 := k0_pay18 (F := Ideal) (iblk m c 5 t)
/-- The convolved queries and keys, and the values, of a block. -/
def QV : FVec Ideal S16x2048 .f32 :=
  k0_pay10 (F := Ideal) (k0_pay8 (k0_pay6 (View.ld (iblk m c 9 t) (Rect.unit ![0, 0, 0] ![1, 8, 2048] inb_S1x8x4096_S1x8x2048_0_0_0))) (iblk m c 0 t)
    (View.ld (iblk m c 6 t) (Rect.unit ![0, 0, 0] ![1, 1, 2048] inb_S1x4x4096_S1x1x2048_0_0_0))
    (View.ld (iblk m c 6 t) (Rect.unit ![0, 1, 0] ![1, 1, 2048] inb_S1x4x4096_S1x1x2048_0_1_0))
    (View.ld (iblk m c 6 t) (Rect.unit ![0, 2, 0] ![1, 1, 2048] inb_S1x4x4096_S1x1x2048_0_2_0))
    (View.ld (iblk m c 6 t) (Rect.unit ![0, 3, 0] ![1, 1, 2048] inb_S1x4x4096_S1x1x2048_0_3_0))
    (View.ld (iblk m c 7 t) (Rect.unit ![0, 0, 0] ![1, 1, 2048] inb_S1x1x4096_S1x1x2048_0_0_0)))
def KH : FVec Ideal S8x2048 .f32 :=
  k0_pay7 (F := Ideal) (View.ld (iblk m c 9 t) (Rect.unit ![0, 0, 2048] ![1, 8, 2048] inb_S1x8x4096_S1x8x2048_0_0_2048))
def KV : FVec Ideal S16x2048 .f32 :=
  k0_pay14 (F := Ideal) (k0_pay11 (KH m c t) (iblk m c 1 t)) (k0_pay12 (KH m c t) (iblk m c 1 t)
    (View.ld (iblk m c 6 t) (Rect.unit ![0, 0, 2048] ![1, 1, 2048] inb_S1x4x4096_S1x1x2048_0_0_2048))
    (View.ld (iblk m c 6 t) (Rect.unit ![0, 1, 2048] ![1, 1, 2048] inb_S1x4x4096_S1x1x2048_0_1_2048))
    (View.ld (iblk m c 6 t) (Rect.unit ![0, 2, 2048] ![1, 1, 2048] inb_S1x4x4096_S1x1x2048_0_2_2048)))
    (View.ld (iblk m c 6 t) (Rect.unit ![0, 3, 2048] ![1, 1, 2048] inb_S1x4x4096_S1x1x2048_0_3_2048))
    (View.ld (iblk m c 7 t) (Rect.unit ![0, 0, 2048] ![1, 1, 2048] inb_S1x1x4096_S1x1x2048_0_0_2048))
def VV : FVec Ideal S16x2048 .bf16 := k0_pay17 (F := Ideal) (iblk m c 2 t)

theorem inbM (h : Fin 8) : ∀ a, (![0, h.val, 0] : Fin 3 → ℕ) a + (![1, 1, 1] : Fin 3 → ℕ) a ≤ S1x8x128.size a := by revert h; decide
theorem inbN (h : Fin 8) : ∀ a, (![0, h.val, 0] : Fin 3 → ℕ) a + (![1, 1, 256] : Fin 3 → ℕ) a ≤ S1x8x256.size a := by revert h; decide
theorem inbC (h : Fin 8) : ∀ a, (![0, h.val, 0, 0] : Fin 4 → ℕ) a + (![1, 1, 256, 256] : Fin 4 → ℕ) a ≤ S1x8x256x256.size a := by revert h; decide
theorem inbW (h : Fin 8) : ∀ a, (![0, 0, 256 * h.val] : Fin 3 → ℕ) a + (![1, 1, 256] : Fin 3 → ℕ) a ≤ S1x1x2048.size a := by revert h; decide
theorem inbO (h : Fin 8) : ∀ a, (![0, 256 * h.val] : Fin 2 → ℕ) a + (![16, 256] : Fin 2 → ℕ) a ≤ S16x2048.size a := by revert h; decide

def M1 : FVec Ideal S1x1x1 .f32 := View.ld (Val := Elt Ideal) (e' := .f32) (k0_pay5 (F := Ideal) (iblk m c 12 t)) (Rect.unit ![0, h.val, 0] ![1, 1, 1] (inbM h))
def N1 : FVec Ideal S1x1x256 .f32 := View.ld (Val := Elt Ideal) (e' := .f32) (k0_pay4 (F := Ideal) (iblk m c 11 t)) (Rect.unit ![0, h.val, 0] ![1, 1, 256] (inbN h))
def C1 : FVec Ideal S1x1x256x256 .f32 := View.ld (Val := Elt Ideal) (e' := .f32) (k0_pay3 (F := Ideal) (iblk m c 10 t)) (Rect.unit ![0, h.val, 0, 0] ![1, 1, 256, 256] (inbC h))
def W1 : FVec Ideal S1x1x256 .f32 := View.ld (iblk m c 8 t) (Rect.unit ![0, 0, 256 * h.val] ![1, 1, 256] (inbW h))
def O1 : FVec Ideal S16x256 .f32 := View.ld (iblk m c 3 t) (Rect.unit ![0, 256 * h.val] ![16, 256] (inbO h))

theorem BC_apply (s : Fin 16) : BC m c t (ix2 s ⟨8 + h.val, by omega⟩) = aB (m ((c : Thread nD τ).loc main_arg1)) (bt t) h s := by
  unfold BC
  rw [bcols_apply]
  simp only [blk4]
  rfl
theorem gates_apply (g s : Fin 16) : k0_pay18 (F := Ideal) (iblk m c 5 t) (ix2 g s)
    = (m ((c : Thread nD τ).loc main_arg1)) (ix2 ⟨16 * (bt t).val + s.val, by omega⟩ ⟨g.val, by omega⟩) := by
  unfold k0_pay18
  pointwise
  rw [blk5, entry2]
theorem BR_apply (s : Fin 16) : BR m c t (ix2 ⟨8 + h.val, by omega⟩ s) = aB (m ((c : Thread nD τ).loc main_arg1)) (bt t) h s := by
  unfold BR
  rw [brows_apply]
  simp only [gates_apply]
  rfl
theorem GT_apply (s : Fin 16) : GT m c t (ix2 ⟨h.val, by omega⟩ s) = aI (m ((c : Thread nD τ).loc main_arg1)) (bt t) h s := by
  unfold GT
  rw [gates_apply]
  rfl
theorem ZG_apply (s : Fin 16) : iblk m c 4 t (ix2 s ⟨h.val, by omega⟩) = aI (m ((c : Thread nD τ).loc main_arg1)) (bt t) h s := by
  rw [blk4]
  rfl
theorem M1_apply : M1 m c t h (ix3 0 0 0) = aM (m ((c : Thread nD τ).loc main_arg8)) (bt t) h := by
  unfold M1 k0_pay5
  pointwise
  rw [blk12, entry9]
  rfl
theorem N1_apply (a : Fin 256) : N1 m c t h (ix3 0 0 a) = aN (m ((c : Thread nD τ).loc main_arg7)) (bt t) h a := by
  unfold N1 k0_pay4
  pointwise
  rw [blk11]
  rfl
theorem C1_apply (a j : Fin 256) : C1 m c t h (ix4 0 0 a j) = aC (m ((c : Thread nD τ).loc main_arg6)) (bt t) h a j := by
  unfold C1 k0_pay3
  pointwise
  rw [blk10]
  rfl
theorem W1_apply (j : Fin 256) : W1 m c t h (ix3 0 0 j) = aNrm (m ((c : Thread nD τ).loc main_arg4)) h j := by
  unfold W1
  pointwise
  rw [blk8, entry11]
  rfl
theorem O1_apply (s : Fin 16) (j : Fin 256) : O1 m c t h (ix2 s j) = aZo (m ((c : Thread nD τ).loc main_arg0)) (bt t) h s j := by
  unfold O1
  pointwise
  rw [blk3]
  rfl
theorem VV_apply (s : Fin 16) (j : Fin 256) : VV m c t (ix2 s ⟨256 * h.val + j.val, by omega⟩) = aV (m ((c : Thread nD τ).loc main_arg0)) (bt t) h s j := by
  unfold VV k0_pay17
  pointwise
  rw [blk2]
  rfl
theorem taps_eq (w : Fin 4 → EReal) : taps (w 0) (w 1) (w 2) (w 3) = w := by
  funext j; fin_cases j <;> rfl
theorem rowsQ (l : Fin 2048) (r : Fin 19) :
    rows (k0_pay6 (F := Ideal) (View.ld (iblk m c 9 t) (Rect.unit ![0, 0, 0] ![1, 8, 2048] inb_S1x8x4096_S1x8x2048_0_0_0))) (iblk m c 0 t) l r
      = aX (m ((c : Thread nD τ).loc main_arg0)) (m ((c : Thread nD τ).loc main_arg5)) (bt t) ⟨l.val, by omega⟩ r := by
  unfold rows aX k0_pay6
  by_cases hr : r.val < 3
  · rw [dif_pos hr, dif_pos hr]
    pointwise
    rw [blk9]
    exact entry5 m c (bt t) ⟨r.val, hr⟩ _
  · rw [dif_neg hr, dif_neg hr, blk0]
    simp only [Nat.zero_add]
theorem rowsK (l : Fin 2048) (r : Fin 19) :
    rows (KH m c t) (iblk m c 1 t) l r = aX (m ((c : Thread nD τ).loc main_arg0)) (m ((c : Thread nD τ).loc main_arg5)) (bt t) ⟨2048 + l.val, by omega⟩ r := by
  unfold rows aX KH k0_pay7
  by_cases hr : r.val < 3
  · rw [dif_pos hr, dif_pos hr]
    pointwise
    rw [blk9]
    exact entry5 m c (bt t) ⟨r.val, hr⟩ _
  · rw [dif_neg hr, dif_neg hr, blk1]
theorem conv_congr {w w' : Fin 4 → EReal} {b b' : EReal} {X X' : Fin 19 → EReal} (s : Fin 16) (hw : w = w') (hb : b = b') (hX : ∀ r, X r = X' r) :
    silu (conv w b X s) = silu (conv w' b' X' s) := by
  rw [hw, hb, funext hX]
theorem QV_apply (s : Fin 16) (j : Fin 256) : QV m c t (ix2 s ⟨256 * h.val + j.val, by omega⟩)
    = aQ (m ((c : Thread nD τ).loc main_arg0)) (m ((c : Thread nD τ).loc main_arg2)) (m ((c : Thread nD τ).loc main_arg3)) (m ((c : Thread nD τ).loc main_arg5)) (bt t) h s j := by
  unfold QV
  rw [convq_apply]
  refine conv_congr s ?_ ?_ (rowsQ m c t _)
  · pointwise
    rw [blk6, blk6, blk6, blk6]
    exact taps_eq fun j' => (m ((c : Thread nD τ).loc main_arg2)) (ix3 0 j' _)
  · pointwise
    rw [blk7, entry10]
theorem KV_apply (s : Fin 16) (j : Fin 256) : KV m c t (ix2 s ⟨256 * h.val + j.val, by omega⟩)
    = aK (m ((c : Thread nD τ).loc main_arg0)) (m ((c : Thread nD τ).loc main_arg2)) (m ((c : Thread nD τ).loc main_arg3)) (m ((c : Thread nD τ).loc main_arg5)) (bt t) h s j := by
  unfold KV
  rw [convk_apply]
  refine congrArg (· * one16) (conv_congr s ?_ ?_ (rowsK m c t _))
  · pointwise
    rw [blk6, blk6, blk6, blk6]
    exact taps_eq fun j' => (m ((c : Thread nD τ).loc main_arg2)) (ix3 0 j' _)
  · pointwise
    rw [blk7, entry10]

/-- Head `h` of the block of outputs. -/
def pY : FVec Ideal S16x256 .bf16 :=
  gY (gNum h (GT m c t) (BR m c t) (BC m c t) (M1 m c t h) (QV m c t) (KV m c t) (VV m c t) (C1 m c t h))
    (gDen h (GT m c t) (BR m c t) (BC m c t) (M1 m c t h) (QV m c t) (KV m c t) (N1 m c t h)) (W1 m c t h) (O1 m c t h)
def pC : FVec Ideal S1x1x256x256 .f32 := gC h (iblk m c 4 t) (GT m c t) (BR m c t) (BC m c t) (M1 m c t h) (KV m c t) (VV m c t) (C1 m c t h)
def pN : FVec Ideal S1x1x256 .f32 := gN h (iblk m c 4 t) (GT m c t) (BR m c t) (BC m c t) (M1 m c t h) (KV m c t) (N1 m c t h)
def pM : FVec Ideal S1x1x128 .f32 := gMl h (GT m c t) (BR m c t) (BC m c t) (M1 m c t h)

theorem pY_apply (s : Fin 16) (j : Fin 256) : pY m c t h (ix2 s j) = resY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (bt t) h s j := by
  unfold pY
  rw [gY_apply (BC_apply m c t h) (BR_apply m c t h) (GT_apply m c t h) (M1_apply m c t h) (QV_apply m c t h) (KV_apply m c t h) (VV_apply m c t h)
    (C1_apply m c t h) (N1_apply m c t h), W1_apply, O1_apply]
  rfl
theorem pC_apply (a j : Fin 256) : pC m c t h (ix4 0 0 a j) = resC (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg8)) (bt t) h a j :=
  gC_apply (BC_apply m c t h) (BR_apply m c t h) (GT_apply m c t h) (ZG_apply m c t h) (M1_apply m c t h) (KV_apply m c t h) (VV_apply m c t h)
    (C1_apply m c t h) a j
theorem pN_apply (a : Fin 256) : pN m c t h (ix3 0 0 a) = resN (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg7)) (m ((c : Thread nD τ).loc main_arg8)) (bt t) h a :=
  gN_apply (BC_apply m c t h) (BR_apply m c t h) (GT_apply m c t h) (ZG_apply m c t h) (M1_apply m c t h) (KV_apply m c t h) (N1_apply m c t h) a
theorem pM_apply (l : Fin 128) : pM m c t h (ix3 0 0 l) = resM (m ((c : Thread nD τ).loc main_arg1)) (m ((c : Thread nD τ).loc main_arg8)) (bt t) h :=
  gMl_apply (BC_apply m c t h) (BR_apply m c t h) (GT_apply m c t h) (M1_apply m c t h) l
end Cert.M
-- ==== Proof.M.Ix.lean ====
/- An index as the tuple of its coordinates. -/
module
public import Idealize.ShloMosaic.Lib.Pointwise
@[expose] public section
noncomputable section
namespace Cert.M
open Idealize.ShloMosaic

theorem ix2_of {n0 n1 : ℕ} (x : (⟨2, ![n0, n1]⟩ : Shape).Idx) : x = ix2 (x 0) (x 1) := by funext a; fin_cases a <;> rfl
theorem ix3_of {n0 n1 n2 : ℕ} (x : (⟨3, ![n0, n1, n2]⟩ : Shape).Idx) : x = ix3 (x 0) (x 1) (x 2) := by funext a; fin_cases a <;> rfl
theorem ix4_of {n0 n1 n2 n3 : ℕ} (x : (⟨4, ![n0, n1, n2, n3]⟩ : Shape).Idx) : x = ix4 (x 0) (x 1) (x 2) (x 3) := by funext a; fin_cases a <;> rfl

end Cert.M
-- ==== Proof.M.OutT.lean ====
/- What one grid point leaves in its four result blocks. -/
module
public import proofs.«01_k».proof.Proof.M.Kernel
public import proofs.«01_k».proof.Proof.M.Ix
@[expose] public section
set_option maxRecDepth 16384
noncomputable section
namespace Cert.M
open Cert.KernelIdeal Cert.KernelIdeal.Gen Idealize.ShloMosaic Idealize.ShloMosaic.TcCoe Idealize.SL.Sem
variable (m : (ℓ : Loc nD τ sig) → Buf (Elt Ideal) ℓ) (c : Dev nD) (t : Fin cfg0.N) (h : Fin 8)

theorem emb_unit {S : Shape} (off size : Fin S.rank → ℕ) (inb : ∀ a, off a + size a ≤ S.size a) (x : (Rect.unit off size inb).shape.Idx) (a : Fin S.rank) :
    ((Rect.unit off size inb).emb x a : ℕ) = off a + (x a).val := by
  rw [Rect.emb_apply]; show off a + 1 * (x a).val = _; omega

theorem emb_unit0 {S : Shape} (off size : Fin S.rank → ℕ) (inb : ∀ a, off a + size a ≤ S.size a) (x : (Rect.unit off size inb).shape.Idx) (a : Fin S.rank)
    (h0 : off a = 0) : ((Rect.unit off size inb).emb x a : ℕ) = (x a).val := by
  rw [emb_unit, h0, Nat.zero_add]

theorem pieceY (x : S16x256.Idx) (r : Fin 16) (l : Fin 2048) (e0 : r.val = (x 0).val) (e1 : l.val = 256 * h.val + (x 1).val) :
    pY m c t h x = resY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (bt t) ⟨l.val / 256, by omega⟩ r ⟨l.val % 256, by omega⟩ := by
  have hx : (x 1).val < 256 := (x 1).isLt
  refine (congrArg (pY m c t h) (ix2_of x)).trans ((pY_apply m c t h (x 0) (x 1)).trans ?_)
  exact congr (congr (congrArg (resY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (bt t)) (Fin.ext (by show h.val = l.val / 256; omega))) (Fin.ext e0.symm))
    (Fin.ext (by show (x 1).val = l.val % 256; omega))

set_option maxHeartbeats 1000000 in
theorem outY (r : Fin 16) (l : Fin 2048) :
    (outsAt0 m c t).1 (ix2 r l) = resY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (bt t) ⟨l.val / 256, by omega⟩ r ⟨l.val % 256, by omega⟩ := by
  unfold outsAt0
  frame_open
  simp (disch := decide) only [↓ View.readCov_skip, ↓ View.readCov_cons_toLoadRect, ↓ View.readCov_fill]
  frame_out
  canon_tiles x hx
  case piece0 => exact (show _ = pY m c t 7 x from rfl).trans (pieceY m c t 7 x r l hx0 hx1)
  case piece1 => exact (show _ = pY m c t 6 x from rfl).trans (pieceY m c t 6 x r l hx0 hx1)
  case piece2 => exact (show _ = pY m c t 5 x from rfl).trans (pieceY m c t 5 x r l hx0 hx1)
  case piece3 => exact (show _ = pY m c t 4 x from rfl).trans (pieceY m c t 4 x r l hx0 hx1)
  case piece4 => exact (show _ = pY m c t 3 x from rfl).trans (pieceY m c t 3 x r l hx0 hx1)
  case piece5 => exact (show _ = pY m c t 2 x from rfl).trans (pieceY m c t 2 x r l hx0 hx1)
  case piece6 => exact (show _ = pY m c t 1 x from rfl).trans (pieceY m c t 1 x r l hx0 hx1)
  case piece7 => exact (show _ = pY m c t 0 x from rfl).trans (pieceY m c t 0 x r l hx0 (hx1.trans (Nat.zero_add _).symm))

/-- The state after the chunk, as the whole block. -/
def GC (y : S1x8x256x256.Idx) : EReal := resC (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg8)) (bt t) (y 1) (y 2) (y 3)
theorem pieceC (x : S1x1x256x256.Idx) (y : S1x8x256x256.Idx) (e1 : (y 1).val = h.val + (x 1).val) (e2 : (y 2).val = (x 2).val) (e3 : (y 3).val = (x 3).val) : pC m c t h x = GC m c t y := by
  have h0 : (x 0).val < 1 := (x 0).isLt
  have h1 : (x 1).val < 1 := (x 1).isLt
  have hx : x = ix4 0 0 (x 2) (x 3) := by
    refine (ix4_of x).trans ?_
    rw [show x 0 = (0 : Fin 1) from Fin.ext (by show (x 0).val = 0; omega), show x 1 = (0 : Fin 1) from Fin.ext (by show (x 1).val = 0; omega)]
    rfl
  refine (congrArg (pC m c t h) hx).trans ((pC_apply m c t h (x 2) (x 3)).trans ?_)
  unfold GC
  rw [show h = y 1 from Fin.ext (by omega), show x 2 = y 2 from Fin.ext e2.symm, show x 3 = y 3 from Fin.ext e3.symm]
theorem rectC (x : S1x1x256x256.Idx) : pC m c t h x = GC m c t ((Rect.unit (s := S1x8x256x256) ![0, h.val, 0, 0] ![1, 1, 256, 256] (inbC h)).emb x) :=
  pieceC m c t h x _ (emb_unit (S := S1x8x256x256) ![0, h.val, 0, 0] ![1, 1, 256, 256] (inbC h) x 1) (emb_unit0 (S := S1x8x256x256) ![0, h.val, 0, 0] ![1, 1, 256, 256] (inbC h) x 2 rfl) (emb_unit0 (S := S1x8x256x256) ![0, h.val, 0, 0] ![1, 1, 256, 256] (inbC h) x 3 rfl)
set_option maxHeartbeats 1000000 in
theorem outC (y : S1x8x256x256.Idx) : (outsAt0 m c t).2.1 y = GC m c t y := by
  unfold outsAt0
  frame_open
  simp (disch := decide) only [↓ View.readCov_skip, ↓ View.readCov_cons_toLoadRect, ↓ View.readCov_fill]
  frame_out
  have hc : ∀ k : Fin 8, y 1 = k → y ∈ (Rect.unit (s := S1x8x256x256) ![0, k.val, 0, 0] ![1, 1, 256, 256] (inbC k)).set := by
    intro k hk
    rw [Rect.mem_set_unit]
    intro a
    idx_bounds_all
    fin_cases a <;> simp [← hk] <;> omega
  obtain ⟨k, hk⟩ : ∃ k : Fin 8, y 1 = k := ⟨_, rfl⟩
  replace hc := hc k hk
  refine View.canon_append_of_piecesOf (Val := Elt Ideal) (e := .f32) (GC m c t) [_] [_, _, _, _, _, _, _, _] ⟨?_, ?_, ?_, ?_, ?_, ?_, ?_, ?_, trivial⟩ y ?_
  · exact fun x => (show _ = pC m c t 7 x from rfl).trans (rectC m c t 7 x)
  · exact fun x => (show _ = pC m c t 6 x from rfl).trans (rectC m c t 6 x)
  · exact fun x => (show _ = pC m c t 5 x from rfl).trans (rectC m c t 5 x)
  · exact fun x => (show _ = pC m c t 4 x from rfl).trans (rectC m c t 4 x)
  · exact fun x => (show _ = pC m c t 3 x from rfl).trans (rectC m c t 3 x)
  · exact fun x => (show _ = pC m c t 2 x from rfl).trans (rectC m c t 2 x)
  · exact fun x => (show _ = pC m c t 1 x from rfl).trans (rectC m c t 1 x)
  · exact fun x => (show _ = pC m c t 0 x from rfl).trans (rectC m c t 0 x)
  · clear hk
    fin_cases k
    · exact ⟨_, .tail _ (.tail _ (.tail _ (.tail _ (.tail _ (.tail _ (.tail _ (.head _))))))), hc⟩
    · exact ⟨_, .tail _ (.tail _ (.tail _ (.tail _ (.tail _ (.tail _ (.head _)))))), hc⟩
    · exact ⟨_, .tail _ (.tail _ (.tail _ (.tail _ (.tail _ (.head _))))), hc⟩
    · exact ⟨_, .tail _ (.tail _ (.tail _ (.tail _ (.head _)))), hc⟩
    · exact ⟨_, .tail _ (.tail _ (.tail _ (.head _))), hc⟩
    · exact ⟨_, .tail _ (.tail _ (.head _)), hc⟩
    · exact ⟨_, .tail _ (.head _), hc⟩
    · exact ⟨_, .head _, hc⟩

/-- The state after the chunk, as the whole block. -/
def GN (y : S1x8x256.Idx) : EReal := resN (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg7)) (m ((c : Thread nD τ).loc main_arg8)) (bt t) (y 1) (y 2)
theorem pieceN (x : S1x1x256.Idx) (y : S1x8x256.Idx) (e1 : (y 1).val = h.val + (x 1).val) (e2 : (y 2).val = (x 2).val) : pN m c t h x = GN m c t y := by
  have h0 : (x 0).val < 1 := (x 0).isLt
  have h1 : (x 1).val < 1 := (x 1).isLt
  have hx : x = ix3 0 0 (x 2) := by
    refine (ix3_of x).trans ?_
    rw [show x 0 = (0 : Fin 1) from Fin.ext (by show (x 0).val = 0; omega), show x 1 = (0 : Fin 1) from Fin.ext (by show (x 1).val = 0; omega)]
    rfl
  refine (congrArg (pN m c t h) hx).trans ((pN_apply m c t h (x 2)).trans ?_)
  unfold GN
  rw [show h = y 1 from Fin.ext (by omega), show x 2 = y 2 from Fin.ext e2.symm]
theorem rectN (x : S1x1x256.Idx) : pN m c t h x = GN m c t ((Rect.unit (s := S1x8x256) ![0, h.val, 0] ![1, 1, 256] (inbN h)).emb x) :=
  pieceN m c t h x _ (emb_unit (S := S1x8x256) ![0, h.val, 0] ![1, 1, 256] (inbN h) x 1) (emb_unit0 (S := S1x8x256) ![0, h.val, 0] ![1, 1, 256] (inbN h) x 2 rfl)
set_option maxHeartbeats 1000000 in
theorem outN (y : S1x8x256.Idx) : (outsAt0 m c t).2.2.1 y = GN m c t y := by
  unfold outsAt0
  frame_open
  simp (disch := decide) only [↓ View.readCov_skip, ↓ View.readCov_cons_toLoadRect, ↓ View.readCov_fill]
  frame_out
  have hc : ∀ k : Fin 8, y 1 = k → y ∈ (Rect.unit (s := S1x8x256) ![0, k.val, 0] ![1, 1, 256] (inbN k)).set := by
    intro k hk
    rw [Rect.mem_set_unit]
    intro a
    idx_bounds_all
    fin_cases a <;> simp [← hk] <;> omega
  obtain ⟨k, hk⟩ : ∃ k : Fin 8, y 1 = k := ⟨_, rfl⟩
  replace hc := hc k hk
  refine View.canon_append_of_piecesOf (Val := Elt Ideal) (e := .f32) (GN m c t) [_] [_, _, _, _, _, _, _, _] ⟨?_, ?_, ?_, ?_, ?_, ?_, ?_, ?_, trivial⟩ y ?_
  · exact fun x => (show _ = pN m c t 7 x from rfl).trans (rectN m c t 7 x)
  · exact fun x => (show _ = pN m c t 6 x from rfl).trans (rectN m c t 6 x)
  · exact fun x => (show _ = pN m c t 5 x from rfl).trans (rectN m c t 5 x)
  · exact fun x => (show _ = pN m c t 4 x from rfl).trans (rectN m c t 4 x)
  · exact fun x => (show _ = pN m c t 3 x from rfl).trans (rectN m c t 3 x)
  · exact fun x => (show _ = pN m c t 2 x from rfl).trans (rectN m c t 2 x)
  · exact fun x => (show _ = pN m c t 1 x from rfl).trans (rectN m c t 1 x)
  · exact fun x => (show _ = pN m c t 0 x from rfl).trans (rectN m c t 0 x)
  · clear hk
    fin_cases k
    · exact ⟨_, .tail _ (.tail _ (.tail _ (.tail _ (.tail _ (.tail _ (.tail _ (.head _))))))), hc⟩
    · exact ⟨_, .tail _ (.tail _ (.tail _ (.tail _ (.tail _ (.tail _ (.head _)))))), hc⟩
    · exact ⟨_, .tail _ (.tail _ (.tail _ (.tail _ (.tail _ (.head _))))), hc⟩
    · exact ⟨_, .tail _ (.tail _ (.tail _ (.tail _ (.head _)))), hc⟩
    · exact ⟨_, .tail _ (.tail _ (.tail _ (.head _))), hc⟩
    · exact ⟨_, .tail _ (.tail _ (.head _)), hc⟩
    · exact ⟨_, .tail _ (.head _), hc⟩
    · exact ⟨_, .head _, hc⟩

theorem inbL (h : Fin 8) : ∀ a, (![0, h.val, 0] : Fin 3 → ℕ) a + (![1, 1, 128] : Fin 3 → ℕ) a ≤ S1x8x128.size a := by revert h; decide
/-- The state after the chunk, as the whole block. -/
def GM (y : S1x8x128.Idx) : EReal := resM (m ((c : Thread nD τ).loc main_arg1)) (m ((c : Thread nD τ).loc main_arg8)) (bt t) (y 1)
theorem pieceM (x : S1x1x128.Idx) (y : S1x8x128.Idx) (e1 : (y 1).val = h.val + (x 1).val) (e2 : (y 2).val = (x 2).val) : pM m c t h x = GM m c t y := by
  have h0 : (x 0).val < 1 := (x 0).isLt
  have h1 : (x 1).val < 1 := (x 1).isLt
  have hx : x = ix3 0 0 (x 2) := by
    refine (ix3_of x).trans ?_
    rw [show x 0 = (0 : Fin 1) from Fin.ext (by show (x 0).val = 0; omega), show x 1 = (0 : Fin 1) from Fin.ext (by show (x 1).val = 0; omega)]
    rfl
  refine (congrArg (pM m c t h) hx).trans ((pM_apply m c t h (x 2)).trans ?_)
  unfold GM
  rw [show h = y 1 from Fin.ext (by omega)]
theorem rectM (x : S1x1x128.Idx) : pM m c t h x = GM m c t ((Rect.unit (s := S1x8x128) ![0, h.val, 0] ![1, 1, 128] (inbL h)).emb x) :=
  pieceM m c t h x _ (emb_unit (S := S1x8x128) ![0, h.val, 0] ![1, 1, 128] (inbL h) x 1) (emb_unit0 (S := S1x8x128) ![0, h.val, 0] ![1, 1, 128] (inbL h) x 2 rfl)
set_option maxHeartbeats 1000000 in
theorem outM (y : S1x8x128.Idx) : (outsAt0 m c t).2.2.2 y = GM m c t y := by
  unfold outsAt0
  frame_open
  simp (disch := decide) only [↓ View.readCov_skip, ↓ View.readCov_cons_toLoadRect, ↓ View.readCov_fill]
  frame_out
  have hc : ∀ k : Fin 8, y 1 = k → y ∈ (Rect.unit (s := S1x8x128) ![0, k.val, 0] ![1, 1, 128] (inbL k)).set := by
    intro k hk
    rw [Rect.mem_set_unit]
    intro a
    idx_bounds_all
    fin_cases a <;> simp [← hk] <;> omega
  obtain ⟨k, hk⟩ : ∃ k : Fin 8, y 1 = k := ⟨_, rfl⟩
  replace hc := hc k hk
  refine View.canon_append_of_piecesOf (Val := Elt Ideal) (e := .f32) (GM m c t) [_] [_, _, _, _, _, _, _, _] ⟨?_, ?_, ?_, ?_, ?_, ?_, ?_, ?_, trivial⟩ y ?_
  · exact fun x => (show _ = pM m c t 7 x from rfl).trans (rectM m c t 7 x)
  · exact fun x => (show _ = pM m c t 6 x from rfl).trans (rectM m c t 6 x)
  · exact fun x => (show _ = pM m c t 5 x from rfl).trans (rectM m c t 5 x)
  · exact fun x => (show _ = pM m c t 4 x from rfl).trans (rectM m c t 4 x)
  · exact fun x => (show _ = pM m c t 3 x from rfl).trans (rectM m c t 3 x)
  · exact fun x => (show _ = pM m c t 2 x from rfl).trans (rectM m c t 2 x)
  · exact fun x => (show _ = pM m c t 1 x from rfl).trans (rectM m c t 1 x)
  · exact fun x => (show _ = pM m c t 0 x from rfl).trans (rectM m c t 0 x)
  · clear hk
    fin_cases k
    · exact ⟨_, .tail _ (.tail _ (.tail _ (.tail _ (.tail _ (.tail _ (.tail _ (.head _))))))), hc⟩
    · exact ⟨_, .tail _ (.tail _ (.tail _ (.tail _ (.tail _ (.tail _ (.head _)))))), hc⟩
    · exact ⟨_, .tail _ (.tail _ (.tail _ (.tail _ (.tail _ (.head _))))), hc⟩
    · exact ⟨_, .tail _ (.tail _ (.tail _ (.tail _ (.head _)))), hc⟩
    · exact ⟨_, .tail _ (.tail _ (.tail _ (.head _))), hc⟩
    · exact ⟨_, .tail _ (.tail _ (.head _)), hc⟩
    · exact ⟨_, .tail _ (.head _), hc⟩
    · exact ⟨_, .head _, hc⟩
end Cert.M
-- ==== Proof.M.Final.lean ====
/- The four arrays after the run of the kernel. -/
module
public import proofs.«01_k».proof.Proof.M.OutT
@[expose] public section
set_option maxRecDepth 16384
noncomputable section
namespace Cert.M
open Cert.KernelIdeal Cert.KernelIdeal.Gen Idealize.ShloMosaic Idealize.ShloMosaic.TcCoe Idealize.SL.Sem
variable (m : (ℓ : Loc nD τ sig) → Buf (Elt Ideal) ℓ) (c : Dev nD)

/-- The whole array after the run. -/
def FY : S128x2048.Idx → EReal := fun i => resY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) ⟨(i 0).val / 16, by have : (i 0).val < 128 := (i 0).isLt; omega⟩ ⟨(i 1).val / 256, by have : (i 1).val < 2048 := (i 1).isLt; omega⟩ ⟨(i 0).val % 16, by omega⟩ ⟨(i 1).val % 256, by omega⟩
theorem finalY : (dats m 0 c).arrAt 13 cfg0.N = FY m c := by
  refine (dats m 0 c).arrAt_eq_of_covers 13 (FY m c) (by decide +kernel) fun t hf y => ?_
  blk_simp
  rw [after0_13]
  have idx : win0_13.index t = ![t.val, 0] := (by decide +kernel : ∀ t : Fin grid0.N, win0_13.index t = ![t.val, 0]) t
  have e0 : (((cfg0.win 13).blk t).view.emb y 0 : ℕ) = 16 * t.val + (y 0).val := by blk_simp [idx]; try omega
  have e1 : (((cfg0.win 13).blk t).view.emb y 1 : ℕ) = (y 1).val := by blk_simp [idx]; try omega
  have h0 : (y 0).val < 16 := (y 0).isLt
  refine (congrArg (outsAt0 m c t).1 (ix2_of y)).trans ((outY m c t (y 0) (y 1)).trans ?_)
  exact congr (congr (congr (congrArg (resY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (Fin.ext ((by omega : t.val = (16 * t.val + (y 0).val) / 16).trans (congrArg (· / 16) e0.symm)))) (Fin.ext (congrArg (· / 256) e1.symm)))
    (Fin.ext ((by omega : (y 0).val = (16 * t.val + (y 0).val) % 16).trans (congrArg (· % 16) e0.symm)))) (Fin.ext (congrArg (· % 256) e1.symm))

/-- The whole array after the run. -/
def FC : S8x8x256x256.Idx → EReal := fun i => resC (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg8)) (i 0) (i 1) (i 2) (i 3)
theorem finalC : (dats m 0 c).arrAt 14 cfg0.N = FC m c := by
  refine (dats m 0 c).arrAt_eq_of_covers 14 (FC m c) (by decide +kernel) fun t hf y => ?_
  blk_simp
  rw [after0_14]
  have idx : win0_14.index t = ![t.val, 0, 0, 0] := (by decide +kernel : ∀ t : Fin grid0.N, win0_14.index t = ![t.val, 0, 0, 0]) t
  have e0 : (((cfg0.win 14).blk t).view.emb y 0 : ℕ) = t.val + (y 0).val := by blk_simp [idx]; try omega
  have e1 : (((cfg0.win 14).blk t).view.emb y 1 : ℕ) = (y 1).val := by blk_simp [idx]; try omega
  have e2 : (((cfg0.win 14).blk t).view.emb y 2 : ℕ) = (y 2).val := by blk_simp [idx]; try omega
  have e3 : (((cfg0.win 14).blk t).view.emb y 3 : ℕ) = (y 3).val := by blk_simp [idx]; try omega
  have h0 : (y 0).val < 1 := (y 0).isLt
  refine (outC m c t y).trans ?_
  exact (congr (congr (congr (congrArg (resC (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg8))) (Fin.ext ((by omega : t.val = t.val + (y 0).val).trans e0.symm))) (Fin.ext e1.symm)) (Fin.ext e2.symm)) (Fin.ext e3.symm))

/-- The whole array after the run. -/
def FN : S8x8x256.Idx → EReal := fun i => resN (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg7)) (m ((c : Thread nD τ).loc main_arg8)) (i 0) (i 1) (i 2)
theorem finalN : (dats m 0 c).arrAt 15 cfg0.N = FN m c := by
  refine (dats m 0 c).arrAt_eq_of_covers 15 (FN m c) (by decide +kernel) fun t hf y => ?_
  blk_simp
  rw [after0_15]
  have idx : win0_15.index t = ![t.val, 0, 0] := (by decide +kernel : ∀ t : Fin grid0.N, win0_15.index t = ![t.val, 0, 0]) t
  have e0 : (((cfg0.win 15).blk t).view.emb y 0 : ℕ) = t.val + (y 0).val := by blk_simp [idx]; try omega
  have e1 : (((cfg0.win 15).blk t).view.emb y 1 : ℕ) = (y 1).val := by blk_simp [idx]; try omega
  have e2 : (((cfg0.win 15).blk t).view.emb y 2 : ℕ) = (y 2).val := by blk_simp [idx]; try omega
  have h0 : (y 0).val < 1 := (y 0).isLt
  refine (outN m c t y).trans ?_
  exact (congr (congr (congrArg (resN (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg7)) (m ((c : Thread nD τ).loc main_arg8))) (Fin.ext ((by omega : t.val = t.val + (y 0).val).trans e0.symm))) (Fin.ext e1.symm)) (Fin.ext e2.symm))

/-- The whole array after the run. -/
def FM : S8x8x128.Idx → EReal := fun i => resM (m ((c : Thread nD τ).loc main_arg1)) (m ((c : Thread nD τ).loc main_arg8)) (i 0) (i 1)
theorem finalM : (dats m 0 c).arrAt 16 cfg0.N = FM m c := by
  refine (dats m 0 c).arrAt_eq_of_covers 16 (FM m c) (by decide +kernel) fun t hf y => ?_
  blk_simp
  rw [after0_16]
  have idx : win0_16.index t = ![t.val, 0, 0] := (by decide +kernel : ∀ t : Fin grid0.N, win0_16.index t = ![t.val, 0, 0]) t
  have e0 : (((cfg0.win 16).blk t).view.emb y 0 : ℕ) = t.val + (y 0).val := by blk_simp [idx]; try omega
  have e1 : (((cfg0.win 16).blk t).view.emb y 1 : ℕ) = (y 1).val := by blk_simp [idx]; try omega
  have e2 : (((cfg0.win 16).blk t).view.emb y 2 : ℕ) = (y 2).val := by blk_simp [idx]; try omega
  have h0 : (y 0).val < 1 := (y 0).isLt
  refine (outM m c t y).trans ?_
  exact (congr (congrArg (resM (m ((c : Thread nD τ).loc main_arg1)) (m ((c : Thread nD τ).loc main_arg8))) (Fin.ext ((by omega : t.val = t.val + (y 0).val).trans e0.symm))) (Fin.ext e1.symm))
end Cert.M
-- ==== Proof.M.Ref.lean ====
/- The reference's arrays, entry by entry, as the functions of the nine arguments that the kernel's results are given in. -/
module
public import proofs.«01_k».proof.Proof.M.Args
public import proofs.«01_k».proof.Proof.Gen.ReferenceIdeal.Run
public import Idealize.ShloMosaic.Lib.Pointwise
@[expose] public section
set_option maxRecDepth 16384
noncomputable section
namespace Cert.M.R
open Cert.ReferenceIdeal Cert.ReferenceIdeal.Gen Cert.ReferenceIdeal.Value Idealize.ShloMosaic Idealize.ShloMosaic.TcCoe Idealize.SL.Sem

theorem resY_eq (z : FVec Ideal ⟨2, ![128, 20480]⟩ .f32) (zg : FVec Ideal ⟨2, ![128, 128]⟩ .f32) (cw : FVec Ideal ⟨3, ![4, 4, 4096]⟩ .f32)
    (cb : FVec Ideal ⟨2, ![4, 4096]⟩ .f32) (nrm : FVec Ideal ⟨2, ![4, 2048]⟩ .f32) (cc : FVec Ideal ⟨4, ![4, 8, 3, 4096]⟩ .f32)
    (c0 : FVec Ideal ⟨5, ![4, 8, 8, 256, 256]⟩ .f32) (n0 : FVec Ideal ⟨4, ![4, 8, 8, 256]⟩ .f32) (mr : FVec Ideal ⟨3, ![4, 8, 8]⟩ .f32)
    (B h : Fin 8) (t : Fin 16) (j : Fin 256) :
    resY z zg cw cb nrm cc c0 n0 mr B h t j
      = outR (aB zg B h) (aI zg B h) (aM mr B h) (aQ z cw cb cc B h) (aK z cw cb cc B h) (aV z B h) (aC c0 B h) (aN n0 B h) t j
        * aNrm nrm h j * Ideal.div 1 (1 + Ideal.exp (-(aZo z B h t j))) :=
  congrArg (fun u => u * aNrm nrm h j * Ideal.div 1 (1 + Ideal.exp (-(aZo z B h t j)))) (outK_eq_outR _ _ _ _ _ _ _ _ t j)

variable (V : Valuation τ sig (Elt Ideal)) (B h : Fin 8)

theorem v0_apply (t : Fin 16) (l : Fin 20480) :
    res_main_v0 (F := Ideal) V (ix3 B t l) = (V (Proc.devRef .tc main_arg0)) (ix2 ⟨16 * B.val + t.val, by omega⟩ l) := by
  unfold res_main_v0
  pointwise
  exact congrArg (fun n => (V (Proc.devRef .tc main_arg0)) (ix2 n l)) (Fin.ext (by show B.val * 16 + t.val = 16 * B.val + t.val; omega))

theorem v1_apply (t : Fin 16) (l : Fin 128) :
    res_main_v1 (F := Ideal) V (ix3 B t l) = (V (Proc.devRef .tc main_arg1)) (ix2 ⟨16 * B.val + t.val, by omega⟩ l) := by
  unfold res_main_v1
  pointwise
  exact congrArg (fun n => (V (Proc.devRef .tc main_arg1)) (ix2 n l)) (Fin.ext (by show B.val * 16 + t.val = 16 * B.val + t.val; omega))

theorem v9_apply (r : Fin 19) (l : Fin 4096) :
    res_main_v9 (F := Ideal) V (ix3 B r l) = aX (V (Proc.devRef .tc main_arg0)) (V (Proc.devRef .tc main_arg5)) B l r := by
  unfold res_main_v9
  pointwise
  simp only [v0_apply]
  rfl

theorem v41_apply (t : Fin 16) (l : Fin 4096) :
    res_main_v41 (F := Ideal) V (ix3 B t l) = conv (fun j => (V (Proc.devRef .tc main_arg2)) (ix3 0 j l)) ((V (Proc.devRef .tc main_arg3)) (ix2 0 l)) (aX (V (Proc.devRef .tc main_arg0)) (V (Proc.devRef .tc main_arg5)) B l) t := by
  unfold res_main_v41
  pointwise
  simp only [v9_apply]
  rfl

theorem v42_apply (t : Fin 16) (l : Fin 4096) :
    res_main_v42 (F := Ideal) V (ix3 B t l) = aConv (V (Proc.devRef .tc main_arg0)) (V (Proc.devRef .tc main_arg2)) (V (Proc.devRef .tc main_arg3)) (V (Proc.devRef .tc main_arg5)) B l t := by
  unfold res_main_v42
  pointwise
  simp only [v41_apply]
  rfl

theorem v44_apply (t : Fin 16) (j : Fin 256) :
    res_main_v44 (F := Ideal) V (ix4 B t h j) = aQ (V (Proc.devRef .tc main_arg0)) (V (Proc.devRef .tc main_arg2)) (V (Proc.devRef .tc main_arg3)) (V (Proc.devRef .tc main_arg5)) B h t j := by
  unfold res_main_v44
  pointwise
  simp only [v42_apply]
  exact congrArg (fun l => aConv (V (Proc.devRef .tc main_arg0)) (V (Proc.devRef .tc main_arg2)) (V (Proc.devRef .tc main_arg3)) (V (Proc.devRef .tc main_arg5)) B l t) (Fin.ext (by show h.val * 256 + j.val = 256 * h.val + j.val; omega))

theorem v48_apply (t : Fin 16) (j : Fin 256) :
    res_main_v48 (F := Ideal) V (ix4 B t h j) = aK (V (Proc.devRef .tc main_arg0)) (V (Proc.devRef .tc main_arg2)) (V (Proc.devRef .tc main_arg3)) (V (Proc.devRef .tc main_arg5)) B h t j := by
  unfold res_main_v48
  pointwise
  simp only [v42_apply]
  exact congrArg (fun l => aConv (V (Proc.devRef .tc main_arg0)) (V (Proc.devRef .tc main_arg2)) (V (Proc.devRef .tc main_arg3)) (V (Proc.devRef .tc main_arg5)) B l t * one16) (Fin.ext (by show 2048 + (h.val * 256 + j.val) = 2048 + (256 * h.val + j.val); omega))

theorem v49_apply (t : Fin 16) (j : Fin 256) :
    res_main_v49 (F := Ideal) V (ix4 B t h j) = aV (V (Proc.devRef .tc main_arg0)) B h t j := by
  unfold res_main_v49
  pointwise
  simp only [v0_apply]
  exact congrArg (fun l => (V (Proc.devRef .tc main_arg0)) (ix2 _ l)) (Fin.ext (by show 4096 + (h.val * 256 + j.val) = 4096 + (256 * h.val + j.val); omega))

theorem v52_apply (a j : Fin 256) :
    res_main_v52 (F := Ideal) V (ix4 B h a j) = aC (V (Proc.devRef .tc main_arg6)) B h a j := by
  unfold res_main_v52
  pointwise
  rfl

theorem v54_apply (a : Fin 256) :
    res_main_v54 (F := Ideal) V (ix3 B h a) = aN (V (Proc.devRef .tc main_arg7)) B h a := by
  unfold res_main_v54
  pointwise
  rfl

theorem v60_apply (t : Fin 16) :
    res_main_v60 (F := Ideal) V (ix3 B h t) = aB (V (Proc.devRef .tc main_arg1)) B h t := by
  unfold res_main_v60 res_main_call1_call0_v3 res_main_call1_v0 res_main_call1_call0_cst
  pointwise
  unfold aB csum
  refine (cumsum_apply _ _ _ _ B t h ?_).trans (Finset.sum_congr rfl fun s _ => ?_)
  · pointwise
  · refine if_congr Iff.rfl ?_ rfl
    pointwise
    rw [v1_apply, ← lsig_eq, if_neg (fun hne => hne rfl)]
    exact congrArg (fun u => -(_ + Ideal.log1p (Ideal.exp (-u)))) ((Ideal.absf_def _).trans (congrArg (max _) (neg_neg _)))

theorem v70_apply (t s : Fin 16) :
    res_main_v70 (F := Ideal) V (ix4 B h t s) = logD (aB (V (Proc.devRef .tc main_arg1)) B h) (aI (V (Proc.devRef .tc main_arg1)) B h) t s := by
  unfold res_main_v70
  pointwise
  simp only [v60_apply, v1_apply]
  have hm : Scalar.select (IntOp.cmpi CmpIPredicate.sge (IntOp.addi (BitVec.ofNat 32 t.val) 0#32) (BitVec.ofNat 32 s.val)) 1#1 0#1
      = if s ≤ t then 1#1 else 0#1 := by revert t s; decide +kernel
  rw [hm]
  unfold logD
  by_cases hs : s ≤ t
  · rw [if_pos hs, if_pos hs]; rfl
  · rw [if_neg hs, if_neg hs]; rfl

theorem v73_apply (t : Fin 16) :
    res_main_v73 (F := Ideal) V (ix3 B h t) = logI (aB (V (Proc.devRef .tc main_arg1)) B h) (aM (V (Proc.devRef .tc main_arg8)) B h) t := by
  unfold res_main_v73
  pointwise
  simp only [v60_apply]
  rfl

theorem v75_apply (t : Fin 16) :
    res_main_v75 (F := Ideal) V (ix3 B h t) = stab (aB (V (Proc.devRef .tc main_arg1)) B h) (aI (V (Proc.devRef .tc main_arg1)) B h) (aM (V (Proc.devRef .tc main_arg8)) B h) t := by
  unfold res_main_v75
  pointwise
  simp only [v70_apply, v73_apply]
  refine congrArg (max (_ : EReal)) ((reducesTo_S8x8x16x16_S8x8x16_d3.fold_fiber_r4_a3 (ix3 B h t) (max : EReal → EReal → EReal) _ (res_main_v70 (F := Ideal) V)).trans ?_)
  exact congrArg (Finset.fold (max : EReal → EReal → EReal) _ · Finset.univ) (funext fun s => v70_apply V B h t s)

theorem v79_apply (t s : Fin 16) :
    res_main_v79 (F := Ideal) V (ix4 B h t s) = dec (aB (V (Proc.devRef .tc main_arg1)) B h) (aI (V (Proc.devRef .tc main_arg1)) B h) (aM (V (Proc.devRef .tc main_arg8)) B h) t s := by
  unfold res_main_v79
  pointwise
  simp only [v70_apply, v75_apply]
  rfl

theorem v81_apply (t : Fin 16) :
    res_main_v81 (F := Ideal) V (ix3 B h t) = wInt (aB (V (Proc.devRef .tc main_arg1)) B h) (aI (V (Proc.devRef .tc main_arg1)) B h) (aM (V (Proc.devRef .tc main_arg8)) B h) t := by
  unfold res_main_v81
  pointwise
  simp only [v73_apply, v75_apply]
  rfl

theorem v83_apply (t s : Fin 16) :
    res_main_v83 (F := Ideal) V (ix4 B h t s) = score (aB (V (Proc.devRef .tc main_arg1)) B h) (aI (V (Proc.devRef .tc main_arg1)) B h) (aM (V (Proc.devRef .tc main_arg8)) B h) (aQ (V (Proc.devRef .tc main_arg0)) (V (Proc.devRef .tc main_arg2)) (V (Proc.devRef .tc main_arg3)) (V (Proc.devRef .tc main_arg5)) B h) (aK (V (Proc.devRef .tc main_arg0)) (V (Proc.devRef .tc main_arg2)) (V (Proc.devRef .tc main_arg3)) (V (Proc.devRef .tc main_arg5)) B h) t s := by
  unfold res_main_v83
  pointwise
  simp only [v44_apply, v48_apply, v79_apply]
  rfl

theorem v104_apply (t : Fin 16) (j : Fin 256) :
    res_main_v104 (F := Ideal) V (ix4 B t h j) = Ideal.div (num (aB (V (Proc.devRef .tc main_arg1)) B h) (aI (V (Proc.devRef .tc main_arg1)) B h) (aM (V (Proc.devRef .tc main_arg8)) B h) (aQ (V (Proc.devRef .tc main_arg0)) (V (Proc.devRef .tc main_arg2)) (V (Proc.devRef .tc main_arg3)) (V (Proc.devRef .tc main_arg5)) B h) (aK (V (Proc.devRef .tc main_arg0)) (V (Proc.devRef .tc main_arg2)) (V (Proc.devRef .tc main_arg3)) (V (Proc.devRef .tc main_arg5)) B h) (aV (V (Proc.devRef .tc main_arg0)) B h) (aC (V (Proc.devRef .tc main_arg6)) B h) t j)
      (den (aB (V (Proc.devRef .tc main_arg1)) B h) (aI (V (Proc.devRef .tc main_arg1)) B h) (aM (V (Proc.devRef .tc main_arg8)) B h) (aQ (V (Proc.devRef .tc main_arg0)) (V (Proc.devRef .tc main_arg2)) (V (Proc.devRef .tc main_arg3)) (V (Proc.devRef .tc main_arg5)) B h) (aK (V (Proc.devRef .tc main_arg0)) (V (Proc.devRef .tc main_arg2)) (V (Proc.devRef .tc main_arg3)) (V (Proc.devRef .tc main_arg5)) B h) (aN (V (Proc.devRef .tc main_arg7)) B h) t) := by
  unfold res_main_v104
  pointwise
  simp only [v44_apply, v83_apply, v81_apply, v49_apply, v52_apply, v54_apply, v75_apply]
  simp only [num, den, mul_comm (aV _ _ _ _ _), mul_comm (aC _ _ _ _ _)]
  rfl

theorem v108_apply (s : Fin 16) :
    res_main_v108 (F := Ideal) V (ix4 B s h 0) = wLast (aB (V (Proc.devRef .tc main_arg1)) B h) (aI (V (Proc.devRef .tc main_arg1)) B h) (aM (V (Proc.devRef .tc main_arg8)) B h) s := by
  unfold res_main_v108
  pointwise
  simp only [v79_apply]
  unfold dec wLast logD
  rw [if_pos (by omega)]

theorem v110_apply :
    res_main_v110 (F := Ideal) V (ix2 B h) = wInt (aB (V (Proc.devRef .tc main_arg1)) B h) (aI (V (Proc.devRef .tc main_arg1)) B h) (aM (V (Proc.devRef .tc main_arg8)) B h) 15 := by
  unfold res_main_v110
  pointwise
  simp only [v81_apply]

theorem y_apply (r : Fin 128) (l : Fin 2048) :
    val3 (F := Ideal) V (Proc.devRef .tc main_v151) (ix2 r l) = resY (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) ⟨r.val / 16, by omega⟩ ⟨l.val / 256, by omega⟩ ⟨r.val % 16, by omega⟩ ⟨l.val % 256, by omega⟩ := by
  rw [val3_main_v151]
  pointwise
  simp only [v104_apply, v0_apply]
  refine Eq.trans ?_ (resY_eq (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) ⟨r.val / 16, by omega⟩ ⟨l.val / 256, by omega⟩ ⟨r.val % 16, by omega⟩ ⟨l.val % 256, by omega⟩).symm
  refine congr (congrArg HMul.hMul (congr (congrArg HMul.hMul rfl) ?_)) ?_
  · exact congrArg (fun l => (V (Proc.devRef .tc main_arg4)) (ix2 0 l)) (Fin.ext (by show l.val = 256 * (l.val / 256) + l.val % 256; omega))
  · exact congrArg (fun l => Ideal.div (1 : EReal) (1 + Ideal.exp (-(show EReal from (V (Proc.devRef .tc main_arg0)) (ix2 ⟨16 * (r.val / 16) + r.val % 16, by omega⟩ l)))))
      (Fin.ext (by show 6144 + l.val = 6144 + (256 * (l.val / 256) + l.val % 256); omega))

theorem c_apply (a j : Fin 256) :
    val3 (F := Ideal) V (Proc.devRef .tc main_v117) (ix4 B h a j) = resC (V (Proc.devRef .tc main_arg0)) (V (Proc.devRef .tc main_arg1)) (V (Proc.devRef .tc main_arg2)) (V (Proc.devRef .tc main_arg3)) (V (Proc.devRef .tc main_arg5)) (V (Proc.devRef .tc main_arg6)) (V (Proc.devRef .tc main_arg8)) B h a j := by
  rw [val3_main_v117]
  pointwise
  simp only [v110_apply, v52_apply, v48_apply, v108_apply, v49_apply]
  rfl

theorem n_apply (a : Fin 256) :
    val3 (F := Ideal) V (Proc.devRef .tc main_v124) (ix3 B h a) = resN (V (Proc.devRef .tc main_arg0)) (V (Proc.devRef .tc main_arg1)) (V (Proc.devRef .tc main_arg2)) (V (Proc.devRef .tc main_arg3)) (V (Proc.devRef .tc main_arg5)) (V (Proc.devRef .tc main_arg7)) (V (Proc.devRef .tc main_arg8)) B h a := by
  rw [val3_main_v124]
  pointwise
  simp only [v110_apply, v54_apply, v48_apply, v108_apply]
  rfl

theorem m_apply (l : Fin 128) :
    val3 (F := Ideal) V (Proc.devRef .tc main_v153) (ix3 B h l) = resM (V (Proc.devRef .tc main_arg1)) (V (Proc.devRef .tc main_arg8)) B h := by
  rw [val3_main_v153]
  pointwise
  simp only [v75_apply]
  rfl

end Cert.M.R
-- ==== Proof.M.Algebraic.lean ====
/- The kernel's four results beside the reference's. -/
module
public import proofs.«01_k».proof.Defs
public import proofs.«01_k».proof.Proof.M.Final
public import proofs.«01_k».proof.Proof.M.Ref
public import Idealize.ShloMosaic.Lib.Claim
@[expose] public section
set_option maxRecDepth 16384
noncomputable section
namespace Cert.M
open Idealize.ShloMosaic Idealize.ShloMosaic.TcCoe Idealize.SL.Sem

section
variable (m : (ℓ : Loc Cert.KernelIdeal.nD Cert.KernelIdeal.τ Cert.KernelIdeal.sig) → Buf (Elt Ideal) ℓ) (c : Dev Cert.KernelIdeal.nD)
  (V : Valuation Cert.ReferenceIdeal.τ Cert.ReferenceIdeal.sig (Elt Ideal))
  (h0 : V (Proc.devRef .tc Cert.ReferenceIdeal.main_arg0) = m ((c : Thread Cert.KernelIdeal.nD Cert.KernelIdeal.τ).loc Cert.KernelIdeal.main_arg0))
  (h1 : V (Proc.devRef .tc Cert.ReferenceIdeal.main_arg1) = m ((c : Thread Cert.KernelIdeal.nD Cert.KernelIdeal.τ).loc Cert.KernelIdeal.main_arg1))
  (h2 : V (Proc.devRef .tc Cert.ReferenceIdeal.main_arg2) = m ((c : Thread Cert.KernelIdeal.nD Cert.KernelIdeal.τ).loc Cert.KernelIdeal.main_arg2))
  (h3 : V (Proc.devRef .tc Cert.ReferenceIdeal.main_arg3) = m ((c : Thread Cert.KernelIdeal.nD Cert.KernelIdeal.τ).loc Cert.KernelIdeal.main_arg3))
  (h4 : V (Proc.devRef .tc Cert.ReferenceIdeal.main_arg4) = m ((c : Thread Cert.KernelIdeal.nD Cert.KernelIdeal.τ).loc Cert.KernelIdeal.main_arg4))
  (h5 : V (Proc.devRef .tc Cert.ReferenceIdeal.main_arg5) = m ((c : Thread Cert.KernelIdeal.nD Cert.KernelIdeal.τ).loc Cert.KernelIdeal.main_arg5))
  (h6 : V (Proc.devRef .tc Cert.ReferenceIdeal.main_arg6) = m ((c : Thread Cert.KernelIdeal.nD Cert.KernelIdeal.τ).loc Cert.KernelIdeal.main_arg6))
  (h7 : V (Proc.devRef .tc Cert.ReferenceIdeal.main_arg7) = m ((c : Thread Cert.KernelIdeal.nD Cert.KernelIdeal.τ).loc Cert.KernelIdeal.main_arg7))
  (h8 : V (Proc.devRef .tc Cert.ReferenceIdeal.main_arg8) = m ((c : Thread Cert.KernelIdeal.nD Cert.KernelIdeal.τ).loc Cert.KernelIdeal.main_arg8))
include h0 h1 h2 h3 h4 h5 h6 h7 h8

theorem eqY : Cert.ReferenceIdeal.Value.val3 (F := Ideal) V (Proc.devRef .tc Cert.ReferenceIdeal.main_v151) = FY m c := by
  funext i
  refine (congrArg (Cert.ReferenceIdeal.Value.val3 (F := Ideal) V (Proc.devRef .tc Cert.ReferenceIdeal.main_v151)) (ix2_of i)).trans ?_
  refine (R.y_apply V (i 0) (i 1)).trans ?_
  rw [h0, h1, h2, h3, h4, h5, h6, h7, h8]
  rfl

theorem eqC : Cert.ReferenceIdeal.Value.val3 (F := Ideal) V (Proc.devRef .tc Cert.ReferenceIdeal.main_v117) = FC m c := by
  funext i
  refine (congrArg (Cert.ReferenceIdeal.Value.val3 (F := Ideal) V (Proc.devRef .tc Cert.ReferenceIdeal.main_v117)) (ix4_of i)).trans ?_
  refine (R.c_apply V (i 0) (i 1) (i 2) (i 3)).trans ?_
  rw [h0, h1, h2, h3, h5, h6, h8]
  rfl

theorem eqN : Cert.ReferenceIdeal.Value.val3 (F := Ideal) V (Proc.devRef .tc Cert.ReferenceIdeal.main_v124) = FN m c := by
  funext i
  refine (congrArg (Cert.ReferenceIdeal.Value.val3 (F := Ideal) V (Proc.devRef .tc Cert.ReferenceIdeal.main_v124)) (ix3_of i)).trans ?_
  refine (R.n_apply V (i 0) (i 1) (i 2)).trans ?_
  rw [h0, h1, h2, h3, h5, h7, h8]
  rfl

theorem eqM : Cert.ReferenceIdeal.Value.val3 (F := Ideal) V (Proc.devRef .tc Cert.ReferenceIdeal.main_v153) = FM m c := by
  funext i
  refine (congrArg (Cert.ReferenceIdeal.Value.val3 (F := Ideal) V (Proc.devRef .tc Cert.ReferenceIdeal.main_v153)) (ix3_of i)).trans ?_
  refine (R.m_apply V (i 0) (i 1) (i 2)).trans ?_
  rw [h1, h8]
  rfl

end

theorem algebraic : Cert.algebraic_KernelIdeal_ReferenceIdeal := by
  intro m g m' g' _ hag
  refine ⟨FY m, FC m, FN m, FM m, ?_, ?_⟩
  · refine (θ_run _ _ _).mono (fun r h c => ?_) (Cert.KernelIdeal.Value.run_blocks m g)
    obtain ⟨r0, r1, r2, r3, rest⟩ := h c
    exact ⟨r0.trans (finalY m c), r1.trans (finalC m c), r2.trans (finalN m c), r3.trans (finalM m c), rest⟩
  · refine (θ_run _ _ _).mono (fun r h c => ?_) (Cert.ReferenceIdeal.Value.run m' g')
    obtain ⟨r0, r1, r2, r3, rest⟩ := h c
    obtain ⟨h0, h1, h2, h3, h4, h5, h6, h7, h8⟩ := hag c
    exact ⟨r0.trans ((Cert.ReferenceIdeal.Value.val3_main_v151 _).symm.trans (eqY m c _ h0 h1 h2 h3 h4 h5 h6 h7 h8)),
      r1.trans ((Cert.ReferenceIdeal.Value.val3_main_v117 _).symm.trans (eqC m c _ h0 h1 h2 h3 h4 h5 h6 h7 h8)),
      r2.trans ((Cert.ReferenceIdeal.Value.val3_main_v124 _).symm.trans (eqN m c _ h0 h1 h2 h3 h4 h5 h6 h7 h8)),
      r3.trans ((Cert.ReferenceIdeal.Value.val3_main_v153 _).symm.trans (eqM m c _ h0 h1 h2 h3 h4 h5 h6 h7 h8)), rest⟩

end Cert.M
-- ==== Proof.M.InProj.lean ====
/- The input projection: the kernel's column tiles of the projected rows beside the whole product. -/
module
public import proofs.«01_k».proof.Defs
public import proofs.«01_k».proof.Proof.Gen.InProjIdeal.Frame
public import proofs.«01_k».proof.Proof.Gen.InProjReferenceIdeal.Run
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.M.Ix
@[expose] public section
set_option maxRecDepth 16384
noncomputable section
namespace Cert.M.In
open Idealize.ShloMosaic Idealize.ShloMosaic.TcCoe Idealize.SL.Sem

/-- One row of the activations times one column of the weights, and the bias. -/
def lin (h : FVec Ideal ⟨2, ![128, 2048]⟩ .bf16) (w : FVec Ideal ⟨3, ![4, 2048, 20496]⟩ .f32) (b : FVec Ideal ⟨2, ![4, 20496]⟩ .f32)
    (r : Fin 128) (l : Fin 20480) : EReal :=
  (∑ k : Fin 2048, (h (ix2 r k) : EReal) * w (ix3 0 k ⟨l.val, by omega⟩)) + b (ix2 0 ⟨l.val, by omega⟩)

section
open Cert.InProjIdeal Cert.InProjIdeal.Gen
variable (m : (ℓ : Loc nD τ sig) → Buf (Elt Ideal) ℓ) (c : Dev nD)

theorem entryW (l : Fin 20496) (k : Fin 2048) : V m c main_v1 (ix3 0 l k) = m ((c : Thread nD τ).loc main_arg1) (ix3 0 k l) := by
  simp only [V, V0, List.flatten_cons, List.flatten_nil, List.append_nil, List.cons_append, List.nil_append]
  entry_read
  pointwise
theorem entryB (l : Fin 20480) : V m c main_v3 (ix3 0 0 l) = m ((c : Thread nD τ).loc main_arg2) (ix2 0 ⟨l.val, by omega⟩) := by
  simp only [V, V0, List.flatten_cons, List.flatten_nil, List.append_nil, List.cons_append, List.nil_append]
  entry_read
  pointwise

variable (t : Fin cfg0.N)

/-- The column tile a grid point works on. -/
def ct (t : Fin cfg0.N) : Fin 5 := ⟨t.val, t.isLt⟩
theorem ct_val : (ct t).val = t.val := rfl

theorem blkH (r : Fin 128) (k : Fin 2048) : iblk m c 0 t (ix2 r k) = m ((c : Thread nD τ).loc main_arg0) (ix2 r k) := by
  have idx : win0_0.index t = ![0, 0] := (by decide +kernel : ∀ t : Fin grid0.N, win0_0.index t = ![0, 0]) t
  blk_ext [iblk, V_main_arg0, idx]
theorem blkW (l : Fin 4096) (k : Fin 2048) : X0_1 m c t (ix3 0 l k) = m ((c : Thread nD τ).loc main_arg1) (ix3 0 k ⟨4096 * (ct t).val + l.val, by omega⟩) := by
  refine Eq.trans ?_ (entryW m c ⟨4096 * (ct t).val + l.val, by omega⟩ k)
  have idx : win0_1.index t = ![0, t.val, 0] := (by decide +kernel : ∀ t : Fin grid0.N, win0_1.index t = ![0, t.val, 0]) t
  have hb := ct_val t
  have hl := (ct t).isLt
  unfold X0_1 Pipeline.Window.fill
  rw [dif_pos (moved0_1 t _)]
  blk_ext [iblk, idx]
theorem blkB (l : Fin 4096) : iblk m c 2 t (ix3 0 0 l) = m ((c : Thread nD τ).loc main_arg2) (ix2 0 ⟨4096 * (ct t).val + l.val, by omega⟩) := by
  refine Eq.trans ?_ (entryB m c ⟨4096 * (ct t).val + l.val, by omega⟩)
  have idx : win0_2.index t = ![0, 0, t.val] := (by decide +kernel : ∀ t : Fin grid0.N, win0_2.index t = ![0, 0, t.val]) t
  have hb := ct_val t
  have hl := (ct t).isLt
  blk_ext [iblk, idx]

theorem tile (r : Fin 128) (l : Fin 4096) :
    outsAt0 m c t (ix2 r l) = lin (m ((c : Thread nD τ).loc main_arg0)) (m ((c : Thread nD τ).loc main_arg1)) (m ((c : Thread nD τ).loc main_arg2)) r ⟨4096 * (ct t).val + l.val, by omega⟩ := by
  unfold outsAt0
  frame_open
  simp (disch := decide) only [↓ View.readCov_skip, ↓ View.readCov_cons_toLoadRect, ↓ View.readCov_fill]
  frame_out
  unfold k0_pay1
  pointwise
  simp only [blkH, blkW, blkB]
  rfl

/-- The whole array after the run. -/
def FZ : S128x20480.Idx → EReal := fun i => lin (m ((c : Thread nD τ).loc main_arg0)) (m ((c : Thread nD τ).loc main_arg1)) (m ((c : Thread nD τ).loc main_arg2)) (i 0) (i 1)
/-- The rows kept for the next convolution: the last three frames of each stream. -/
def FC : S8x3x4096.Idx → EReal := fun i => lin (m ((c : Thread nD τ).loc main_arg0)) (m ((c : Thread nD τ).loc main_arg1)) (m ((c : Thread nD τ).loc main_arg2))
  ⟨(i 0).val * 16 + (13 + (i 1).val), by have h0 : (i 0).val < 8 := (i 0).isLt; have h1 : (i 1).val < 3 := (i 1).isLt; omega⟩ ⟨(i 2).val, by have h2 : (i 2).val < 4096 := (i 2).isLt; omega⟩
theorem finalZ : (dats m 0 c).arrAt 3 cfg0.N = FZ m c := by
  refine (dats m 0 c).arrAt_eq_of_covers 3 (FZ m c) (by decide +kernel) fun t hf y => ?_
  blk_simp
  rw [after0_3]
  have idx : win0_3.index t = ![0, t.val] := (by decide +kernel : ∀ t : Fin grid0.N, win0_3.index t = ![0, t.val]) t
  have e0 : (((cfg0.win 3).blk t).view.emb y 0 : ℕ) = (y 0).val := by blk_simp [idx]; try omega
  have e1 : (((cfg0.win 3).blk t).view.emb y 1 : ℕ) = 4096 * t.val + (y 1).val := by blk_simp [idx]; try omega
  refine (congrArg (outsAt0 m c t) (ix2_of y)).trans ((tile m c t (y 0) (y 1)).trans ?_)
  exact congr (congrArg (lin (m ((c : Thread nD τ).loc main_arg0)) (m ((c : Thread nD τ).loc main_arg1)) (m ((c : Thread nD τ).loc main_arg2))) (Fin.ext e0.symm)) (Fin.ext e1.symm)
/-- What the lines after the call leave in the second result. -/
theorem finalC : Pipeline.afterTail₀ cfgs (dats m) 0 (V0 m) [hostOps1] c main_v6 = FC m c := by
  unfold Pipeline.afterTail₀
  have hv : Pipeline.withArrays (cfgs 0).spec c (V0 m c) (fun w => (dats m 0 c).arrAt w (cfgs 0).N) (Proc.devRef .tc main_v4) = FZ m c :=
    (Pipeline.withArrays_arr (cfgs 0).spec (by decide) c (V0 m c) (fun w => (dats m 0 c).arrAt w (cfgs 0).N) 3).trans (finalZ m c)
  revert hv
  generalize Pipeline.withArrays (cfgs 0).spec c (V0 m c) (fun w => (dats m 0 c).arrAt w (cfgs 0).N) = X
  intro hv
  simp only [hostOps1, List.flatten_cons, List.flatten_nil, List.append_nil, List.cons_append, List.nil_append]
  after_results
  rw [hv]
  funext i
  obtain ⟨a, b, d, rfl⟩ : ∃ a b d, i = ix3 a b d := ⟨_, _, _, ix3_of i⟩
  pointwise
  rfl
end

theorem frameR : Cert.quiescent_InProjReferenceIdeal := by
  intro m g _
  refine (θ_run _ _ _).mono (fun r h => ⟨fun c => (h c).2.2, sem_eq_zero_of_no_sems (by decide) r.2⟩) (Cert.InProjReferenceIdeal.Value.run m g)

theorem algebraic : Cert.algebraic_InProjIdeal_InProjReferenceIdeal := by
  intro m g m' g' _ hag
  refine ⟨FZ m, FC m, ?_, ?_⟩
  · run_from (Cert.InProjIdeal.Gen.run_main m g) & (Cert.InProjIdeal.Gen.unchanged m g)
    · exact finalZ m c
    · exact finalC m c
  · refine (θ_run _ _ _).mono (fun r h c => ?_) (Cert.InProjReferenceIdeal.Value.run m' g')
    obtain ⟨r0, r1, rest⟩ := h c
    obtain ⟨h0, h1, h2⟩ := hag c
    refine ⟨r0.trans ?_, r1.trans ?_, rest⟩
    · rw [h0, h1, h2]
      funext i
      obtain ⟨a, b, rfl⟩ : ∃ a b, i = ix2 a b := ⟨_, _, ix2_of i⟩
      pointwise
      rfl
    · rw [h0, h1, h2]
      funext i
      obtain ⟨a, b, d, rfl⟩ : ∃ a b d, i = ix3 a b d := ⟨_, _, _, ix3_of i⟩
      pointwise
      rfl

end Cert.M.In
-- ==== Proof.M.InProjPrompt.lean ====
/- The input projection of the first batch, one layer: the tiles of the projected rows beside the whole product,
   and the weights of the later calls handed out in the narrow format. -/
module
public import proofs.«01_k».proof.Defs
public import proofs.«01_k».proof.Proof.Gen.InProjPromptIdeal.Frame
public import proofs.«01_k».proof.Proof.Gen.InProjPromptReferenceIdeal.Run
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.M.Ix
@[expose] public section
set_option maxRecDepth 16384
noncomputable section
namespace Cert.M.Pin
open Idealize.ShloMosaic Idealize.ShloMosaic.TcCoe Idealize.SL.Sem

/-- One row of the activations times one column of the weights, and the bias. -/
def lin (h : FVec Ideal ⟨2, ![16384, 2048]⟩ .bf16) (w : FVec Ideal ⟨3, ![4, 2048, 20496]⟩ .f32) (b : FVec Ideal ⟨2, ![4, 20496]⟩ .f32)
    (r : Fin 16384) (l : Fin 20480) : EReal :=
  (∑ k : Fin 2048, (h (ix2 r k) : EReal) * w (ix3 0 k ⟨l.val, by omega⟩)) + b (ix2 0 ⟨l.val, by omega⟩)
/-- The first layer's matrix of a stack. -/
def first {p q : ℕ} (w : FVec Ideal ⟨3, ![4, p, q]⟩ .f32) (r : Fin p) (l : Fin q) : EReal := w (ix3 0 r l)

section
open Cert.InProjPromptIdeal Cert.InProjPromptIdeal.Gen
variable (m : (ℓ : Loc nD τ sig) → Buf (Elt Ideal) ℓ) (c : Dev nD)

theorem entryW (l : Fin 20496) (k : Fin 2048) : V m c main_v1 (ix3 0 l k) = m ((c : Thread nD τ).loc main_arg1) (ix3 0 k l) := by
  simp only [V, V0, List.flatten_cons, List.flatten_nil, List.append_nil, List.cons_append, List.nil_append]
  entry_read
  pointwise
theorem entryB (l : Fin 20480) : V m c main_v3 (ix3 0 0 l) = m ((c : Thread nD τ).loc main_arg2) (ix2 0 ⟨l.val, by omega⟩) := by
  simp only [V, V0, List.flatten_cons, List.flatten_nil, List.append_nil, List.cons_append, List.nil_append]
  entry_read
  pointwise

variable (t : Fin cfg0.N)

/-- The row tile, the column tile and the slab of the weights a grid point works on. -/
def rt (t : Fin cfg0.N) : Fin 16 := ⟨t.val / 10, by have h : t.val < 160 := t.isLt; omega⟩
def ct (t : Fin cfg0.N) : Fin 10 := ⟨t.val % 10, by omega⟩
def sl (t : Fin cfg0.N) : Fin 128 := ⟨min t.val 127, by omega⟩
theorem rt_val : (rt t).val = t.val / 10 := rfl
theorem ct_val : (ct t).val = t.val % 10 := rfl
theorem sl_val : (sl t).val = min t.val 127 := rfl

theorem blkH (r : Fin 1024) (k : Fin 2048) : iblk m c 0 t (ix2 r k) = m ((c : Thread nD τ).loc main_arg0) (ix2 ⟨1024 * (rt t).val + r.val, by omega⟩ k) := by
  have idx : win0_0.index t = ![t.val / 10, 0] := (by decide +kernel : ∀ t : Fin grid0.N, win0_0.index t = ![t.val / 10, 0]) t
  have ha := rt_val t
  blk_ext [iblk, V_main_arg0, idx]
theorem blkW (l : Fin 2048) (k : Fin 2048) : X0_1 m c t (ix3 0 l k) = m ((c : Thread nD τ).loc main_arg1) (ix3 0 k ⟨2048 * (ct t).val + l.val, by omega⟩) := by
  refine Eq.trans ?_ (entryW m c ⟨2048 * (ct t).val + l.val, by omega⟩ k)
  have idx : win0_1.index t = ![0, t.val % 10, 0] := (by decide +kernel : ∀ t : Fin grid0.N, win0_1.index t = ![0, t.val % 10, 0]) t
  have hb := ct_val t
  have hl := (ct t).isLt
  unfold X0_1 Pipeline.Window.fill
  rw [dif_pos (moved0_1 t _)]
  blk_ext [iblk, idx]
theorem blkB (l : Fin 2048) : iblk m c 2 t (ix3 0 0 l) = m ((c : Thread nD τ).loc main_arg2) (ix2 0 ⟨2048 * (ct t).val + l.val, by omega⟩) := by
  refine Eq.trans ?_ (entryB m c ⟨2048 * (ct t).val + l.val, by omega⟩)
  have idx : win0_2.index t = ![0, 0, t.val % 10] := (by decide +kernel : ∀ t : Fin grid0.N, win0_2.index t = ![0, 0, t.val % 10]) t
  have hb := ct_val t
  have hl := (ct t).isLt
  blk_ext [iblk, idx]
theorem blk3 (r : Fin 16) (l : Fin 2048) : iblk m c 3 t (ix3 0 r l) = first (m ((c : Thread nD τ).loc main_arg3)) ⟨16 * (sl t).val + r.val, by omega⟩ l := by
  have idx : win0_3.index t = ![0, min t.val 127, 0] := (by decide +kernel : ∀ t : Fin grid0.N, win0_3.index t = ![0, min t.val 127, 0]) t
  have hs := sl_val t
  unfold first
  blk_ext [iblk, V_main_arg3, idx]
theorem blk4 (r : Fin 16) (l : Fin 2048) : iblk m c 4 t (ix3 0 r l) = first (m ((c : Thread nD τ).loc main_arg4)) ⟨16 * (sl t).val + r.val, by omega⟩ l := by
  have idx : win0_4.index t = ![0, min t.val 127, 0] := (by decide +kernel : ∀ t : Fin grid0.N, win0_4.index t = ![0, min t.val 127, 0]) t
  have hs := sl_val t
  unfold first
  blk_ext [iblk, V_main_arg4, idx]
theorem blk5 (r : Fin 16) (l : Fin 2048) : iblk m c 5 t (ix3 0 r l) = first (m ((c : Thread nD τ).loc main_arg5)) ⟨16 * (sl t).val + r.val, by omega⟩ l := by
  have idx : win0_5.index t = ![0, min t.val 127, 0] := (by decide +kernel : ∀ t : Fin grid0.N, win0_5.index t = ![0, min t.val 127, 0]) t
  have hs := sl_val t
  unfold first
  blk_ext [iblk, V_main_arg5, idx]
theorem blk6 (r : Fin 16) (l : Fin 8192) : iblk m c 6 t (ix3 0 r l) = first (m ((c : Thread nD τ).loc main_arg6)) ⟨16 * (sl t).val + r.val, by omega⟩ l := by
  have idx : win0_6.index t = ![0, min t.val 127, 0] := (by decide +kernel : ∀ t : Fin grid0.N, win0_6.index t = ![0, min t.val 127, 0]) t
  have hs := sl_val t
  unfold first
  blk_ext [iblk, V_main_arg6, idx]
theorem blk7 (r : Fin 64) (l : Fin 2048) : iblk m c 7 t (ix3 0 r l) = first (m ((c : Thread nD τ).loc main_arg7)) ⟨64 * (sl t).val + r.val, by omega⟩ l := by
  have idx : win0_7.index t = ![0, min t.val 127, 0] := (by decide +kernel : ∀ t : Fin grid0.N, win0_7.index t = ![0, min t.val 127, 0]) t
  have hs := sl_val t
  unfold first
  blk_ext [iblk, V_main_arg7, idx]

theorem tile (r : Fin 1024) (l : Fin 2048) :
    (outsAt0 m c t).1 (ix2 r l) = lin (m ((c : Thread nD τ).loc main_arg0)) (m ((c : Thread nD τ).loc main_arg1)) (m ((c : Thread nD τ).loc main_arg2)) ⟨1024 * (rt t).val + r.val, by omega⟩ ⟨2048 * (ct t).val + l.val, by omega⟩ := by
  unfold outsAt0
  frame_open
  simp (disch := decide) only [↓ View.readCov_skip, ↓ View.readCov_cons_toLoadRect, ↓ View.readCov_fill]
  frame_out
  unfold k0_pay2
  pointwise
  simp only [blkH, blkW, blkB]
  rfl
theorem tile3 (r : Fin 16) (l : Fin 2048) :
    (outsAt0 m c t).2.1 (ix2 r l) = first (m ((c : Thread nD τ).loc main_arg3)) ⟨16 * (sl t).val + r.val, by omega⟩ l := by
  unfold outsAt0
  frame_open
  simp (disch := decide) only [↓ View.readCov_skip, ↓ View.readCov_cons_toLoadRect, ↓ View.readCov_fill]
  frame_out
  unfold k0_pay3
  pointwise
  exact blk3 m c t r l
theorem tile4 (r : Fin 16) (l : Fin 2048) :
    (outsAt0 m c t).2.2.1 (ix2 r l) = first (m ((c : Thread nD τ).loc main_arg4)) ⟨16 * (sl t).val + r.val, by omega⟩ l := by
  unfold outsAt0
  frame_open
  simp (disch := decide) only [↓ View.readCov_skip, ↓ View.readCov_cons_toLoadRect, ↓ View.readCov_fill]
  frame_out
  unfold k0_pay4
  pointwise
  exact blk4 m c t r l
theorem tile5 (r : Fin 16) (l : Fin 2048) :
    (outsAt0 m c t).2.2.2.1 (ix2 r l) = first (m ((c : Thread nD τ).loc main_arg5)) ⟨16 * (sl t).val + r.val, by omega⟩ l := by
  unfold outsAt0
  frame_open
  simp (disch := decide) only [↓ View.readCov_skip, ↓ View.readCov_cons_toLoadRect, ↓ View.readCov_fill]
  frame_out
  unfold k0_pay5
  pointwise
  exact blk5 m c t r l
theorem tile6 (r : Fin 16) (l : Fin 8192) :
    (outsAt0 m c t).2.2.2.2.1 (ix2 r l) = first (m ((c : Thread nD τ).loc main_arg6)) ⟨16 * (sl t).val + r.val, by omega⟩ l := by
  unfold outsAt0
  frame_open
  simp (disch := decide) only [↓ View.readCov_skip, ↓ View.readCov_cons_toLoadRect, ↓ View.readCov_fill]
  frame_out
  unfold k0_pay6
  pointwise
  exact blk6 m c t r l
theorem tile7 (r : Fin 64) (l : Fin 2048) :
    (outsAt0 m c t).2.2.2.2.2 (ix2 r l) = first (m ((c : Thread nD τ).loc main_arg7)) ⟨64 * (sl t).val + r.val, by omega⟩ l := by
  unfold outsAt0
  frame_open
  simp (disch := decide) only [↓ View.readCov_skip, ↓ View.readCov_cons_toLoadRect, ↓ View.readCov_fill]
  frame_out
  unfold k0_pay1
  pointwise
  exact blk7 m c t r l

/-- The whole array after the run. -/
def FZ : S16384x20480.Idx → EReal := fun i => lin (m ((c : Thread nD τ).loc main_arg0)) (m ((c : Thread nD τ).loc main_arg1)) (m ((c : Thread nD τ).loc main_arg2)) (i 0) (i 1)
/-- The rows kept for the next convolution: the last three frames of each stream. -/
def FC : S4x3x4096.Idx → EReal := fun i => lin (m ((c : Thread nD τ).loc main_arg0)) (m ((c : Thread nD τ).loc main_arg1)) (m ((c : Thread nD τ).loc main_arg2))
  ⟨(i 0).val * 4096 + (4093 + (i 1).val), by have h0 : (i 0).val < 4 := (i 0).isLt; have h1 : (i 1).val < 3 := (i 1).isLt; omega⟩ ⟨(i 2).val, by have h2 : (i 2).val < 4096 := (i 2).isLt; omega⟩
/-- The weights of the layer. -/
def F3 : S2048x2048.Idx → EReal := fun i => first (m ((c : Thread nD τ).loc main_arg3)) (i 0) (i 1)
def F4 : S2048x2048.Idx → EReal := fun i => first (m ((c : Thread nD τ).loc main_arg4)) (i 0) (i 1)
def F5 : S2048x2048.Idx → EReal := fun i => first (m ((c : Thread nD τ).loc main_arg5)) (i 0) (i 1)
def F6 : S2048x8192.Idx → EReal := fun i => first (m ((c : Thread nD τ).loc main_arg6)) (i 0) (i 1)
def F7 : S8192x2048.Idx → EReal := fun i => first (m ((c : Thread nD τ).loc main_arg7)) (i 0) (i 1)
theorem finalZ : (dats m 0 c).arrAt 8 cfg0.N = FZ m c := by
  refine (dats m 0 c).arrAt_eq_of_covers 8 (FZ m c) (by decide +kernel) fun t hf y => ?_
  blk_simp
  rw [after0_8]
  have idx : win0_8.index t = ![t.val / 10, t.val % 10] := (by decide +kernel : ∀ t : Fin grid0.N, win0_8.index t = ![t.val / 10, t.val % 10]) t
  have e0 : (((cfg0.win 8).blk t).view.emb y 0 : ℕ) = 1024 * (t.val / 10) + (y 0).val := by blk_simp [idx]; try omega
  have e1 : (((cfg0.win 8).blk t).view.emb y 1 : ℕ) = 2048 * (t.val % 10) + (y 1).val := by blk_simp [idx]; try omega
  refine (congrArg (outsAt0 m c t).1 (ix2_of y)).trans ((tile m c t (y 0) (y 1)).trans ?_)
  exact congr (congrArg (lin (m ((c : Thread nD τ).loc main_arg0)) (m ((c : Thread nD τ).loc main_arg1)) (m ((c : Thread nD τ).loc main_arg2))) (Fin.ext e0.symm)) (Fin.ext e1.symm)
theorem final3 : (dats m 0 c).arrAt 9 cfg0.N = F3 m c := by
  refine (dats m 0 c).arrAt_eq_of_covers 9 (F3 m c) (by decide +kernel) fun t hf y => ?_
  blk_simp
  rw [after0_9]
  have idx : win0_9.index t = ![min t.val 127, 0] := (by decide +kernel : ∀ t : Fin grid0.N, win0_9.index t = ![min t.val 127, 0]) t
  have e0 : (((cfg0.win 9).blk t).view.emb y 0 : ℕ) = 16 * (min t.val 127) + (y 0).val := by blk_simp [idx]; try omega
  have e1 : (((cfg0.win 9).blk t).view.emb y 1 : ℕ) = (y 1).val := by blk_simp [idx]; try omega
  refine (congrArg (outsAt0 m c t).2.1 (ix2_of y)).trans ((tile3 m c t (y 0) (y 1)).trans ?_)
  exact congr (congrArg (first (m ((c : Thread nD τ).loc main_arg3))) (Fin.ext e0.symm)) (Fin.ext e1.symm)
theorem final4 : (dats m 0 c).arrAt 10 cfg0.N = F4 m c := by
  refine (dats m 0 c).arrAt_eq_of_covers 10 (F4 m c) (by decide +kernel) fun t hf y => ?_
  blk_simp
  rw [after0_10]
  have idx : win0_10.index t = ![min t.val 127, 0] := (by decide +kernel : ∀ t : Fin grid0.N, win0_10.index t = ![min t.val 127, 0]) t
  have e0 : (((cfg0.win 10).blk t).view.emb y 0 : ℕ) = 16 * (min t.val 127) + (y 0).val := by blk_simp [idx]; try omega
  have e1 : (((cfg0.win 10).blk t).view.emb y 1 : ℕ) = (y 1).val := by blk_simp [idx]; try omega
  refine (congrArg (outsAt0 m c t).2.2.1 (ix2_of y)).trans ((tile4 m c t (y 0) (y 1)).trans ?_)
  exact congr (congrArg (first (m ((c : Thread nD τ).loc main_arg4))) (Fin.ext e0.symm)) (Fin.ext e1.symm)
theorem final5 : (dats m 0 c).arrAt 11 cfg0.N = F5 m c := by
  refine (dats m 0 c).arrAt_eq_of_covers 11 (F5 m c) (by decide +kernel) fun t hf y => ?_
  blk_simp
  rw [after0_11]
  have idx : win0_11.index t = ![min t.val 127, 0] := (by decide +kernel : ∀ t : Fin grid0.N, win0_11.index t = ![min t.val 127, 0]) t
  have e0 : (((cfg0.win 11).blk t).view.emb y 0 : ℕ) = 16 * (min t.val 127) + (y 0).val := by blk_simp [idx]; try omega
  have e1 : (((cfg0.win 11).blk t).view.emb y 1 : ℕ) = (y 1).val := by blk_simp [idx]; try omega
  refine (congrArg (outsAt0 m c t).2.2.2.1 (ix2_of y)).trans ((tile5 m c t (y 0) (y 1)).trans ?_)
  exact congr (congrArg (first (m ((c : Thread nD τ).loc main_arg5))) (Fin.ext e0.symm)) (Fin.ext e1.symm)
theorem final6 : (dats m 0 c).arrAt 12 cfg0.N = F6 m c := by
  refine (dats m 0 c).arrAt_eq_of_covers 12 (F6 m c) (by decide +kernel) fun t hf y => ?_
  blk_simp
  rw [after0_12]
  have idx : win0_12.index t = ![min t.val 127, 0] := (by decide +kernel : ∀ t : Fin grid0.N, win0_12.index t = ![min t.val 127, 0]) t
  have e0 : (((cfg0.win 12).blk t).view.emb y 0 : ℕ) = 16 * (min t.val 127) + (y 0).val := by blk_simp [idx]; try omega
  have e1 : (((cfg0.win 12).blk t).view.emb y 1 : ℕ) = (y 1).val := by blk_simp [idx]; try omega
  refine (congrArg (outsAt0 m c t).2.2.2.2.1 (ix2_of y)).trans ((tile6 m c t (y 0) (y 1)).trans ?_)
  exact congr (congrArg (first (m ((c : Thread nD τ).loc main_arg6))) (Fin.ext e0.symm)) (Fin.ext e1.symm)
theorem final7 : (dats m 0 c).arrAt 13 cfg0.N = F7 m c := by
  refine (dats m 0 c).arrAt_eq_of_covers 13 (F7 m c) (by decide +kernel) fun t hf y => ?_
  blk_simp
  rw [after0_13]
  have idx : win0_13.index t = ![min t.val 127, 0] := (by decide +kernel : ∀ t : Fin grid0.N, win0_13.index t = ![min t.val 127, 0]) t
  have e0 : (((cfg0.win 13).blk t).view.emb y 0 : ℕ) = 64 * (min t.val 127) + (y 0).val := by blk_simp [idx]; try omega
  have e1 : (((cfg0.win 13).blk t).view.emb y 1 : ℕ) = (y 1).val := by blk_simp [idx]; try omega
  refine (congrArg (outsAt0 m c t).2.2.2.2.2 (ix2_of y)).trans ((tile7 m c t (y 0) (y 1)).trans ?_)
  exact congr (congrArg (first (m ((c : Thread nD τ).loc main_arg7))) (Fin.ext e0.symm)) (Fin.ext e1.symm)
/-- What the lines after the call leave in the last result. -/
theorem finalC : Pipeline.afterTail₀ cfgs (dats m) 0 (V0 m) [hostOps1] c main_v6 = FC m c := by
  unfold Pipeline.afterTail₀
  have hv : Pipeline.withArrays (cfgs 0).spec c (V0 m c) (fun w => (dats m 0 c).arrAt w (cfgs 0).N) (Proc.devRef .tc main_v4_0) = FZ m c :=
    (Pipeline.withArrays_arr (cfgs 0).spec (by decide) c (V0 m c) (fun w => (dats m 0 c).arrAt w (cfgs 0).N) 8).trans (finalZ m c)
  revert hv
  generalize Pipeline.withArrays (cfgs 0).spec c (V0 m c) (fun w => (dats m 0 c).arrAt w (cfgs 0).N) = X
  intro hv
  simp only [hostOps1, List.flatten_cons, List.flatten_nil, List.append_nil, List.cons_append, List.nil_append]
  after_results
  rw [hv]
  funext i
  obtain ⟨a, b, d, rfl⟩ : ∃ a b d, i = ix3 a b d := ⟨_, _, _, ix3_of i⟩
  pointwise
  rfl
end

theorem frameR : Cert.quiescent_InProjPromptReferenceIdeal := by
  intro m g _
  refine (θ_run _ _ _).mono (fun r h => ⟨fun c => (h c).2.2.2.2.2.2.2, sem_eq_zero_of_no_sems (by decide) r.2⟩) (Cert.InProjPromptReferenceIdeal.Value.run m g)

set_option maxHeartbeats 2000000 in
theorem algebraic : Cert.algebraic_InProjPromptIdeal_InProjPromptReferenceIdeal := by
  intro m g m' g' _ hag
  refine ⟨FZ m, F3 m, F4 m, F5 m, F6 m, F7 m, FC m, ?_, ?_⟩
  · run_from (Cert.InProjPromptIdeal.Gen.run_main m g) & (Cert.InProjPromptIdeal.Gen.unchanged m g)
    · exact finalZ m c
    · exact final3 m c
    · exact final4 m c
    · exact final5 m c
    · exact final6 m c
    · exact final7 m c
    · exact finalC m c
  · refine (θ_run _ _ _).mono (fun r h c => ?_) (Cert.InProjPromptReferenceIdeal.Value.run m' g')
    obtain ⟨r0, r1, r2, r3, r4, r5, r6, rest⟩ := h c
    obtain ⟨h0, h1, h2, h3, h4, h5, h6, h7⟩ := hag c
    refine ⟨r0.trans ?_, r1.trans ?_, r2.trans ?_, r3.trans ?_, r4.trans ?_, r5.trans ?_, r6.trans ?_, rest⟩
    · rw [h0, h1, h2]
      funext i
      obtain ⟨a, b, rfl⟩ : ∃ a b, i = ix2 a b := ⟨_, _, ix2_of i⟩
      pointwise
      rfl
    · rw [h3]
      funext i
      obtain ⟨a, b, rfl⟩ : ∃ a b, i = ix2 a b := ⟨_, _, ix2_of i⟩
      pointwise
      rfl
    · rw [h4]
      funext i
      obtain ⟨a, b, rfl⟩ : ∃ a b, i = ix2 a b := ⟨_, _, ix2_of i⟩
      pointwise
      rfl
    · rw [h5]
      funext i
      obtain ⟨a, b, rfl⟩ : ∃ a b, i = ix2 a b := ⟨_, _, ix2_of i⟩
      pointwise
      rfl
    · rw [h6]
      funext i
      obtain ⟨a, b, rfl⟩ : ∃ a b, i = ix2 a b := ⟨_, _, ix2_of i⟩
      pointwise
      rfl
    · rw [h7]
      funext i
      obtain ⟨a, b, rfl⟩ : ∃ a b, i = ix2 a b := ⟨_, _, ix2_of i⟩
      pointwise
      rfl
    · rw [h0, h1, h2]
      funext i
      obtain ⟨a, b, d, rfl⟩ : ∃ a b d, i = ix3 a b d := ⟨_, _, _, ix3_of i⟩
      pointwise
      rfl

end Cert.M.Pin
-- ==== Proof.M.Branches.lean ====
/- The two branches' projections under their gates. -/
module
public import proofs.«01_k».proof.Defs
public import proofs.«01_k».proof.Proof.Gen.BranchesIdeal.Value
public import proofs.«01_k».proof.Proof.Gen.BranchesReferenceIdeal.Run
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.M.Ix
@[expose] public section
set_option maxRecDepth 16384
noncomputable section
namespace Cert.M.Br
open Idealize.ShloMosaic Idealize.ShloMosaic.TcCoe Idealize.SL.Sem

/-- The logistic function. -/
def sg (u : EReal) : EReal := Ideal.div 1 (1 + Ideal.exp (-u))
/-- Both branches' projections under their gates. -/
def merge (ya yb : FVec Ideal ⟨2, ![128, 2048]⟩ .bf16) (wa wb : FVec Ideal ⟨2, ![2048, 2048]⟩ .bf16)
    (z : FVec Ideal ⟨2, ![128, 20480]⟩ .f32) (r : Fin 128) (l : Fin 2048) : EReal :=
  sg (z (ix2 r ⟨16384 + l.val, by omega⟩)) * (∑ k : Fin 2048, (ya (ix2 r k) : EReal) * wa (ix2 k l))
    + sg (z (ix2 r ⟨18432 + l.val, by omega⟩)) * (∑ k : Fin 2048, (yb (ix2 r k) : EReal) * wb (ix2 k l))

section
open Cert.BranchesIdeal Cert.BranchesIdeal.Gen
variable (m : (ℓ : Loc nD τ sig) → Buf (Elt Ideal) ℓ) (c : Dev nD) (t : Fin cfg0.N)

theorem blk0 (r : Fin 128) (k : Fin 2048) : iblk m c 0 t (ix2 r k) = m ((c : Thread nD τ).loc main_arg0) (ix2 r k) := by
  have idx : win0_0.index t = ![0, 0] := (by decide +kernel : ∀ t : Fin grid0.N, win0_0.index t = ![0, 0]) t
  blk_ext [iblk, V_main_arg0, idx]
theorem blk1 (r : Fin 128) (k : Fin 2048) : iblk m c 1 t (ix2 r k) = m ((c : Thread nD τ).loc main_arg1) (ix2 r k) := by
  have idx : win0_1.index t = ![0, 0] := (by decide +kernel : ∀ t : Fin grid0.N, win0_1.index t = ![0, 0]) t
  blk_ext [iblk, V_main_arg1, idx]
theorem blk2 (k l : Fin 2048) : iblk m c 2 t (ix2 k l) = m ((c : Thread nD τ).loc main_arg2) (ix2 k l) := by
  have idx : win0_2.index t = ![0, 0] := (by decide +kernel : ∀ t : Fin grid0.N, win0_2.index t = ![0, 0]) t
  blk_ext [iblk, V_main_arg2, idx]
theorem blk3 (k l : Fin 2048) : iblk m c 3 t (ix2 k l) = m ((c : Thread nD τ).loc main_arg3) (ix2 k l) := by
  have idx : win0_3.index t = ![0, 0] := (by decide +kernel : ∀ t : Fin grid0.N, win0_3.index t = ![0, 0]) t
  blk_ext [iblk, V_main_arg3, idx]
theorem blk4 (r : Fin 128) (l : Fin 2048) : iblk m c 4 t (ix2 r l) = m ((c : Thread nD τ).loc main_arg4) (ix2 r ⟨16384 + l.val, by omega⟩) := by
  have idx : win0_4.index t = ![0, 8] := (by decide +kernel : ∀ t : Fin grid0.N, win0_4.index t = ![0, 8]) t
  blk_ext [iblk, V_main_arg4, idx]
theorem blk5 (r : Fin 128) (l : Fin 2048) : iblk m c 5 t (ix2 r l) = m ((c : Thread nD τ).loc main_arg4) (ix2 r ⟨18432 + l.val, by omega⟩) := by
  have idx : win0_5.index t = ![0, 9] := (by decide +kernel : ∀ t : Fin grid0.N, win0_5.index t = ![0, 9]) t
  blk_ext [iblk, V_main_arg4, idx]

theorem tile (r : Fin 128) (l : Fin 2048) :
    out0_6 (iblk m c 0 t) (iblk m c 1 t) (iblk m c 2 t) (iblk m c 3 t) (iblk m c 4 t) (iblk m c 5 t) (ix2 r l) = merge (m ((c : Thread nD τ).loc main_arg0)) (m ((c : Thread nD τ).loc main_arg1)) (m ((c : Thread nD τ).loc main_arg2)) (m ((c : Thread nD τ).loc main_arg3)) (m ((c : Thread nD τ).loc main_arg4)) r l := by
  unfold out0_6 r0_0 r0_1
  rw [View.canon_cons_unit_lit (h := by decide)]
  unfold k0_pay1
  pointwise
  simp only [blk0, blk1, blk2, blk3, blk4, blk5, sub_eq_add_neg, zero_add]
  rfl

/-- The whole array after the run. -/
def FM : S128x2048.Idx → EReal := fun i => merge (m ((c : Thread nD τ).loc main_arg0)) (m ((c : Thread nD τ).loc main_arg1)) (m ((c : Thread nD τ).loc main_arg2)) (m ((c : Thread nD τ).loc main_arg3)) (m ((c : Thread nD τ).loc main_arg4)) (i 0) (i 1)
theorem finalM : (dats m 0 c).arrAt 6 cfg0.N = FM m c := by
  refine (dats m 0 c).arrAt_eq_of_covers 6 (FM m c) (by decide +kernel) fun t hf y => ?_
  blk_simp
  rw [after0_6]
  have idx : win0_6.index t = ![0, 0] := (by decide +kernel : ∀ t : Fin grid0.N, win0_6.index t = ![0, 0]) t
  have e0 : (((cfg0.win 6).blk t).view.emb y 0 : ℕ) = (y 0).val := by blk_simp [idx]; try omega
  have e1 : (((cfg0.win 6).blk t).view.emb y 1 : ℕ) = (y 1).val := by blk_simp [idx]; try omega
  refine (congrArg (out0_6 (iblk m c 0 t) (iblk m c 1 t) (iblk m c 2 t) (iblk m c 3 t) (iblk m c 4 t) (iblk m c 5 t)) (ix2_of y)).trans ((tile m c t (y 0) (y 1)).trans ?_)
  exact congr (congrArg (merge (m ((c : Thread nD τ).loc main_arg0)) (m ((c : Thread nD τ).loc main_arg1)) (m ((c : Thread nD τ).loc main_arg2)) (m ((c : Thread nD τ).loc main_arg3)) (m ((c : Thread nD τ).loc main_arg4))) (Fin.ext e0.symm)) (Fin.ext e1.symm)
end

theorem frameR : Cert.quiescent_BranchesReferenceIdeal := by
  intro m g _
  refine (θ_run _ _ _).mono (fun r h => ⟨fun c => (h c).2, sem_eq_zero_of_no_sems (by decide) r.2⟩) (Cert.BranchesReferenceIdeal.Value.run m g)

theorem algebraic : Cert.algebraic_BranchesIdeal_BranchesReferenceIdeal := by
  intro m g m' g' _ hag
  refine ⟨FM m, ?_, ?_⟩
  · refine (θ_run _ _ _).mono (fun r h c => ?_) (Cert.BranchesIdeal.Value.run_blocks m g)
    exact ⟨(h c).1.trans (finalM m c), (h c).2⟩
  · refine (θ_run _ _ _).mono (fun r h c => ?_) (Cert.BranchesReferenceIdeal.Value.run m' g')
    obtain ⟨r0, rest⟩ := h c
    obtain ⟨h0, h1, h2, h3, h4⟩ := hag c
    refine ⟨r0.trans ?_, rest⟩
    rw [h0, h1, h2, h3, h4]
    funext i
    obtain ⟨a, b, rfl⟩ : ∃ a b, i = ix2 a b := ⟨_, _, ix2_of i⟩
    pointwise
    rfl

end Cert.M.Br
-- ==== Proof.M.OutProj.lean ====
/- The output projection added to the residual stream. -/
module
public import proofs.«01_k».proof.Defs
public import proofs.«01_k».proof.Proof.Gen.OutProjIdeal.Value
public import proofs.«01_k».proof.Proof.Gen.OutProjReferenceIdeal.Run
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.M.Ix
@[expose] public section
set_option maxRecDepth 16384
noncomputable section
namespace Cert.M.Out
open Idealize.ShloMosaic Idealize.ShloMosaic.TcCoe Idealize.SL.Sem

/-- The residual stream and the gated projection of the merged branches. -/
def res (a : FVec Ideal ⟨2, ![128, 2048]⟩ .bf16) (w : FVec Ideal ⟨2, ![2048, 2048]⟩ .bf16) (x : FVec Ideal ⟨2, ![128, 2048]⟩ .f32)
    (md : FVec Ideal ⟨2, ![128, 12288]⟩ .f32) (r : Fin 128) (l : Fin 2048) : EReal :=
  (x (ix2 r l) : EReal) + md (ix2 r ⟨4096 + l.val, by omega⟩) * ∑ k : Fin 2048, (a (ix2 r k) : EReal) * w (ix2 k l)

section
open Cert.OutProjIdeal Cert.OutProjIdeal.Gen
variable (m : (ℓ : Loc nD τ sig) → Buf (Elt Ideal) ℓ) (c : Dev nD) (t : Fin cfg0.N)

theorem blkA (r : Fin 128) (k : Fin 2048) : iblk m c 0 t (ix2 r k) = m ((c : Thread nD τ).loc main_arg0) (ix2 r k) := by
  have idx : win0_0.index t = ![0, 0] := (by decide +kernel : ∀ t : Fin grid0.N, win0_0.index t = ![0, 0]) t
  blk_ext [iblk, V_main_arg0, idx]
theorem blkW (k l : Fin 2048) : iblk m c 1 t (ix2 k l) = m ((c : Thread nD τ).loc main_arg1) (ix2 k l) := by
  have idx : win0_1.index t = ![0, 0] := (by decide +kernel : ∀ t : Fin grid0.N, win0_1.index t = ![0, 0]) t
  blk_ext [iblk, V_main_arg1, idx]
theorem blkX (r : Fin 128) (l : Fin 2048) : iblk m c 2 t (ix2 r l) = m ((c : Thread nD τ).loc main_arg2) (ix2 r l) := by
  have idx : win0_2.index t = ![0, 0] := (by decide +kernel : ∀ t : Fin grid0.N, win0_2.index t = ![0, 0]) t
  blk_ext [iblk, V_main_arg2, idx]
theorem blkM (r : Fin 128) (l : Fin 2048) : iblk m c 3 t (ix2 r l) = m ((c : Thread nD τ).loc main_arg3) (ix2 r ⟨4096 + l.val, by omega⟩) := by
  have idx : win0_3.index t = ![0, 2] := (by decide +kernel : ∀ t : Fin grid0.N, win0_3.index t = ![0, 2]) t
  blk_ext [iblk, V_main_arg3, idx]

theorem tile (r : Fin 128) (l : Fin 2048) :
    out0_4 (iblk m c 0 t) (iblk m c 1 t) (iblk m c 2 t) (iblk m c 3 t) (ix2 r l) = res (m ((c : Thread nD τ).loc main_arg0)) (m ((c : Thread nD τ).loc main_arg1)) (m ((c : Thread nD τ).loc main_arg2)) (m ((c : Thread nD τ).loc main_arg3)) r l := by
  unfold out0_4 r0_0 r0_1
  rw [View.canon_cons_unit_lit (h := by decide)]
  unfold k0_pay1
  pointwise
  simp only [blkA, blkW, blkX, blkM]
  rfl

/-- The whole array after the run. -/
def FX : S128x2048.Idx → EReal := fun i => res (m ((c : Thread nD τ).loc main_arg0)) (m ((c : Thread nD τ).loc main_arg1)) (m ((c : Thread nD τ).loc main_arg2)) (m ((c : Thread nD τ).loc main_arg3)) (i 0) (i 1)
theorem finalX : (dats m 0 c).arrAt 4 cfg0.N = FX m c := by
  refine (dats m 0 c).arrAt_eq_of_covers 4 (FX m c) (by decide +kernel) fun t hf y => ?_
  blk_simp
  rw [after0_4]
  have idx : win0_4.index t = ![0, 0] := (by decide +kernel : ∀ t : Fin grid0.N, win0_4.index t = ![0, 0]) t
  have e0 : (((cfg0.win 4).blk t).view.emb y 0 : ℕ) = (y 0).val := by blk_simp [idx]; try omega
  have e1 : (((cfg0.win 4).blk t).view.emb y 1 : ℕ) = (y 1).val := by blk_simp [idx]; try omega
  refine (congrArg (out0_4 (iblk m c 0 t) (iblk m c 1 t) (iblk m c 2 t) (iblk m c 3 t)) (ix2_of y)).trans ((tile m c t (y 0) (y 1)).trans ?_)
  exact congr (congrArg (res (m ((c : Thread nD τ).loc main_arg0)) (m ((c : Thread nD τ).loc main_arg1)) (m ((c : Thread nD τ).loc main_arg2)) (m ((c : Thread nD τ).loc main_arg3))) (Fin.ext e0.symm)) (Fin.ext e1.symm)
end

theorem frameR : Cert.quiescent_OutProjReferenceIdeal := by
  intro m g _
  refine (θ_run _ _ _).mono (fun r h => ⟨fun c => (h c).2, sem_eq_zero_of_no_sems (by decide) r.2⟩) (Cert.OutProjReferenceIdeal.Value.run m g)

theorem algebraic : Cert.algebraic_OutProjIdeal_OutProjReferenceIdeal := by
  intro m g m' g' _ hag
  refine ⟨FX m, ?_, ?_⟩
  · refine (θ_run _ _ _).mono (fun r h c => ?_) (Cert.OutProjIdeal.Value.run_blocks m g)
    exact ⟨(h c).1.trans (finalX m c), (h c).2⟩
  · refine (θ_run _ _ _).mono (fun r h c => ?_) (Cert.OutProjReferenceIdeal.Value.run m' g')
    obtain ⟨r0, rest⟩ := h c
    obtain ⟨h0, h1, h2, h3⟩ := hag c
    refine ⟨r0.trans ?_, rest⟩
    rw [h0, h1, h2, h3]
    funext i
    obtain ⟨a, b, rfl⟩ : ∃ a b, i = ix2 a b := ⟨_, _, ix2_of i⟩
    pointwise
    rfl

end Cert.M.Out
-- ==== Proof.M.BranchesPrompt.lean ====
/- The two branches' projections under their gates, at the first batch: row tiles of 1024 and two column tiles. -/
module
public import proofs.«01_k».proof.Defs
public import proofs.«01_k».proof.Proof.Gen.BranchesPromptIdeal.Value
public import proofs.«01_k».proof.Proof.Gen.BranchesPromptReferenceIdeal.Run
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.M.Ix
@[expose] public section
set_option maxRecDepth 16384
noncomputable section
namespace Cert.M.Bp
open Idealize.ShloMosaic Idealize.ShloMosaic.TcCoe Idealize.SL.Sem

/-- The logistic function. -/
def sg (u : EReal) : EReal := Ideal.div 1 (1 + Ideal.exp (-u))
/-- Both branches' projections under their gates. -/
def merge (ya yb : FVec Ideal ⟨2, ![16384, 2048]⟩ .bf16) (wa wb : FVec Ideal ⟨2, ![2048, 2048]⟩ .bf16)
    (z : FVec Ideal ⟨2, ![16384, 20480]⟩ .f32) (r : Fin 16384) (l : Fin 2048) : EReal :=
  sg (z (ix2 r ⟨16384 + l.val, by omega⟩)) * (∑ k : Fin 2048, (ya (ix2 r k) : EReal) * wa (ix2 k l))
    + sg (z (ix2 r ⟨18432 + l.val, by omega⟩)) * (∑ k : Fin 2048, (yb (ix2 r k) : EReal) * wb (ix2 k l))

section
open Cert.BranchesPromptIdeal Cert.BranchesPromptIdeal.Gen
variable (m : (ℓ : Loc nD τ sig) → Buf (Elt Ideal) ℓ) (c : Dev nD) (t : Fin cfg0.N)

/-- The row and the column of the arrays that a tile's row and column are. -/
def gr (r : Fin 1024) : Fin 16384 := ⟨1024 * (t.val / 2) + r.val, by have h : t.val < 32 := t.isLt; omega⟩
def gl (l : Fin 1024) : Fin 2048 := ⟨1024 * (t.val % 2) + l.val, by omega⟩
theorem gr_val (r : Fin 1024) : (gr t r).val = 1024 * (t.val / 2) + r.val := rfl
theorem gl_val (l : Fin 1024) : (gl t l).val = 1024 * (t.val % 2) + l.val := rfl

theorem blk0 (r : Fin 1024) (k : Fin 2048) : iblk m c 0 t (ix2 r k) = m ((c : Thread nD τ).loc main_arg0) (ix2 (gr t r) k) := by
  have idx : win0_0.index t = ![t.val / 2, 0] := (by decide +kernel : ∀ t : Fin grid0.N, win0_0.index t = ![t.val / 2, 0]) t
  have hr := gr_val t r
  blk_ext [iblk, V_main_arg0, idx]
theorem blk1 (r : Fin 1024) (k : Fin 2048) : iblk m c 1 t (ix2 r k) = m ((c : Thread nD τ).loc main_arg1) (ix2 (gr t r) k) := by
  have idx : win0_1.index t = ![t.val / 2, 0] := (by decide +kernel : ∀ t : Fin grid0.N, win0_1.index t = ![t.val / 2, 0]) t
  have hr := gr_val t r
  blk_ext [iblk, V_main_arg1, idx]
theorem blk2 (k : Fin 2048) (l : Fin 1024) : iblk m c 2 t (ix2 k l) = m ((c : Thread nD τ).loc main_arg2) (ix2 k (gl t l)) := by
  have idx : win0_2.index t = ![0, t.val % 2] := (by decide +kernel : ∀ t : Fin grid0.N, win0_2.index t = ![0, t.val % 2]) t
  have hl := gl_val t l
  blk_ext [iblk, V_main_arg2, idx]
theorem blk3 (k : Fin 2048) (l : Fin 1024) : iblk m c 3 t (ix2 k l) = m ((c : Thread nD τ).loc main_arg3) (ix2 k (gl t l)) := by
  have idx : win0_3.index t = ![0, t.val % 2] := (by decide +kernel : ∀ t : Fin grid0.N, win0_3.index t = ![0, t.val % 2]) t
  have hl := gl_val t l
  blk_ext [iblk, V_main_arg3, idx]
theorem blk4 (r : Fin 1024) (l : Fin 1024) : iblk m c 4 t (ix2 r l) = m ((c : Thread nD τ).loc main_arg4) (ix2 (gr t r) ⟨16384 + (gl t l).val, by omega⟩) := by
  have idx : win0_4.index t = ![t.val / 2, 16 + t.val % 2] := (by decide +kernel : ∀ t : Fin grid0.N, win0_4.index t = ![t.val / 2, 16 + t.val % 2]) t
  have hr := gr_val t r
  have hl := gl_val t l
  blk_ext [iblk, V_main_arg4, idx]
theorem blk5 (r : Fin 1024) (l : Fin 1024) : iblk m c 5 t (ix2 r l) = m ((c : Thread nD τ).loc main_arg4) (ix2 (gr t r) ⟨18432 + (gl t l).val, by omega⟩) := by
  have idx : win0_5.index t = ![t.val / 2, 18 + t.val % 2] := (by decide +kernel : ∀ t : Fin grid0.N, win0_5.index t = ![t.val / 2, 18 + t.val % 2]) t
  have hr := gr_val t r
  have hl := gl_val t l
  blk_ext [iblk, V_main_arg4, idx]

theorem tile (r : Fin 1024) (l : Fin 1024) :
    out0_6 (iblk m c 0 t) (iblk m c 1 t) (iblk m c 2 t) (iblk m c 3 t) (iblk m c 4 t) (iblk m c 5 t) (ix2 r l) = merge (m ((c : Thread nD τ).loc main_arg0)) (m ((c : Thread nD τ).loc main_arg1)) (m ((c : Thread nD τ).loc main_arg2)) (m ((c : Thread nD τ).loc main_arg3)) (m ((c : Thread nD τ).loc main_arg4)) (gr t r) (gl t l) := by
  unfold out0_6 r0_0 r0_1
  rw [View.canon_cons_unit_lit (h := by decide)]
  unfold k0_pay1
  pointwise
  simp only [blk0, blk1, blk2, blk3, blk4, blk5, sub_eq_add_neg, zero_add]
  rfl

/-- The whole array after the run. -/
def FM : S16384x2048.Idx → EReal := fun i => merge (m ((c : Thread nD τ).loc main_arg0)) (m ((c : Thread nD τ).loc main_arg1)) (m ((c : Thread nD τ).loc main_arg2)) (m ((c : Thread nD τ).loc main_arg3)) (m ((c : Thread nD τ).loc main_arg4)) (i 0) (i 1)
theorem finalM : (dats m 0 c).arrAt 6 cfg0.N = FM m c := by
  refine (dats m 0 c).arrAt_eq_of_covers 6 (FM m c) (by decide +kernel) fun t hf y => ?_
  blk_simp
  rw [after0_6]
  have idx : win0_6.index t = ![t.val / 2, t.val % 2] := (by decide +kernel : ∀ t : Fin grid0.N, win0_6.index t = ![t.val / 2, t.val % 2]) t
  have e0 : (((cfg0.win 6).blk t).view.emb y 0 : ℕ) = 1024 * (t.val / 2) + (y 0).val := by blk_simp [idx]; try omega
  have e1 : (((cfg0.win 6).blk t).view.emb y 1 : ℕ) = 1024 * (t.val % 2) + (y 1).val := by blk_simp [idx]; try omega
  refine (congrArg (out0_6 (iblk m c 0 t) (iblk m c 1 t) (iblk m c 2 t) (iblk m c 3 t) (iblk m c 4 t) (iblk m c 5 t)) (ix2_of y)).trans ((tile m c t (y 0) (y 1)).trans ?_)
  exact congr (congrArg (merge (m ((c : Thread nD τ).loc main_arg0)) (m ((c : Thread nD τ).loc main_arg1)) (m ((c : Thread nD τ).loc main_arg2)) (m ((c : Thread nD τ).loc main_arg3)) (m ((c : Thread nD τ).loc main_arg4))) (Fin.ext e0.symm)) (Fin.ext e1.symm)
end

theorem frameR : Cert.quiescent_BranchesPromptReferenceIdeal := by
  intro m g _
  refine (θ_run _ _ _).mono (fun r h => ⟨fun c => (h c).2, sem_eq_zero_of_no_sems (by decide) r.2⟩) (Cert.BranchesPromptReferenceIdeal.Value.run m g)

theorem algebraic : Cert.algebraic_BranchesPromptIdeal_BranchesPromptReferenceIdeal := by
  intro m g m' g' _ hag
  refine ⟨FM m, ?_, ?_⟩
  · refine (θ_run _ _ _).mono (fun r h c => ?_) (Cert.BranchesPromptIdeal.Value.run_blocks m g)
    exact ⟨(h c).1.trans (finalM m c), (h c).2⟩
  · refine (θ_run _ _ _).mono (fun r h c => ?_) (Cert.BranchesPromptReferenceIdeal.Value.run m' g')
    obtain ⟨r0, rest⟩ := h c
    obtain ⟨h0, h1, h2, h3, h4⟩ := hag c
    refine ⟨r0.trans ?_, rest⟩
    rw [h0, h1, h2, h3, h4]
    funext i
    obtain ⟨a, b, rfl⟩ : ∃ a b, i = ix2 a b := ⟨_, _, ix2_of i⟩
    pointwise
    rfl

end Cert.M.Bp
-- ==== Proof.M.OutProjPrompt.lean ====
/- The output projection added to the residual stream, at the first batch: row tiles of 2048, four column tiles, and one
   row of modulation per stream. -/
module
public import proofs.«01_k».proof.Defs
public import proofs.«01_k».proof.Proof.Gen.OutProjPromptIdeal.Value
public import proofs.«01_k».proof.Proof.Gen.OutProjPromptReferenceIdeal.Run
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.M.Ix
@[expose] public section
set_option maxRecDepth 16384
noncomputable section
namespace Cert.M.Op
open Idealize.ShloMosaic Idealize.ShloMosaic.TcCoe Idealize.SL.Sem

/-- The residual stream and the gated projection of the merged branches. -/
def res (a : FVec Ideal ⟨2, ![16384, 2048]⟩ .bf16) (w : FVec Ideal ⟨2, ![2048, 2048]⟩ .bf16) (x : FVec Ideal ⟨2, ![16384, 2048]⟩ .f32)
    (md : FVec Ideal ⟨2, ![4, 12288]⟩ .f32) (r : Fin 16384) (l : Fin 2048) : EReal :=
  (x (ix2 r l) : EReal) + md (ix2 ⟨r.val / 4096, by omega⟩ ⟨4096 + l.val, by omega⟩) * ∑ k : Fin 2048, (a (ix2 r k) : EReal) * w (ix2 k l)

section
open Cert.OutProjPromptIdeal Cert.OutProjPromptIdeal.Gen
variable (m : (ℓ : Loc nD τ sig) → Buf (Elt Ideal) ℓ) (c : Dev nD)

theorem entryM (b : Fin 4) (l : Fin 12288) : V m c main_v0 (ix3 b 0 l) = m ((c : Thread nD τ).loc main_arg3) (ix2 b l) := by
  simp only [V, List.flatten_cons, List.flatten_nil, List.append_nil, List.cons_append, List.nil_append]
  entry_read
  pointwise

variable (t : Fin cfg0.N)

/-- The row and the column of the arrays that a tile's row and column are, and the stream the row belongs to. -/
def gr (r : Fin 2048) : Fin 16384 := ⟨2048 * (t.val / 4) + r.val, by have h : t.val < 32 := t.isLt; omega⟩
def gl (l : Fin 512) : Fin 2048 := ⟨512 * (t.val % 4) + l.val, by omega⟩
def gs : Fin 4 := ⟨t.val / 8, by have h : t.val < 32 := t.isLt; omega⟩
theorem gr_val (r : Fin 2048) : (gr t r).val = 2048 * (t.val / 4) + r.val := rfl
theorem gl_val (l : Fin 512) : (gl t l).val = 512 * (t.val % 4) + l.val := rfl
theorem gs_val : (gs t).val = t.val / 8 := rfl
theorem gs_gr (r : Fin 2048) : (⟨(gr t r).val / 4096, by omega⟩ : Fin 4) = gs t := Fin.ext (by show (2048 * (t.val / 4) + r.val) / 4096 = t.val / 8; omega)

theorem blkA (r : Fin 2048) (k : Fin 2048) : iblk m c 0 t (ix2 r k) = m ((c : Thread nD τ).loc main_arg0) (ix2 (gr t r) k) := by
  have idx : win0_0.index t = ![t.val / 4, 0] := (by decide +kernel : ∀ t : Fin grid0.N, win0_0.index t = ![t.val / 4, 0]) t
  have hr := gr_val t r
  blk_ext [iblk, V_main_arg0, idx]
theorem blkW (k : Fin 2048) (l : Fin 512) : iblk m c 1 t (ix2 k l) = m ((c : Thread nD τ).loc main_arg1) (ix2 k (gl t l)) := by
  have idx : win0_1.index t = ![0, t.val % 4] := (by decide +kernel : ∀ t : Fin grid0.N, win0_1.index t = ![0, t.val % 4]) t
  have hl := gl_val t l
  blk_ext [iblk, V_main_arg1, idx]
theorem blkX (r : Fin 2048) (l : Fin 512) : iblk m c 2 t (ix2 r l) = m ((c : Thread nD τ).loc main_arg2) (ix2 (gr t r) (gl t l)) := by
  have idx : win0_2.index t = ![t.val / 4, t.val % 4] := (by decide +kernel : ∀ t : Fin grid0.N, win0_2.index t = ![t.val / 4, t.val % 4]) t
  have hr := gr_val t r
  have hl := gl_val t l
  blk_ext [iblk, V_main_arg2, idx]
theorem blkM (l : Fin 512) : iblk m c 3 t (ix3 0 0 l) = m ((c : Thread nD τ).loc main_arg3) (ix2 (gs t) ⟨4096 + (gl t l).val, by omega⟩) := by
  refine Eq.trans ?_ (entryM m c _ _)
  have idx : win0_3.index t = ![t.val / 8, 0, 8 + t.val % 4] := (by decide +kernel : ∀ t : Fin grid0.N, win0_3.index t = ![t.val / 8, 0, 8 + t.val % 4]) t
  have hs := gs_val t
  have hl := gl_val t l
  blk_ext [iblk, idx]

theorem tile (r : Fin 2048) (l : Fin 512) :
    out0_4 (iblk m c 0 t) (iblk m c 1 t) (iblk m c 2 t) (iblk m c 3 t) (ix2 r l) = res (m ((c : Thread nD τ).loc main_arg0)) (m ((c : Thread nD τ).loc main_arg1)) (m ((c : Thread nD τ).loc main_arg2)) (m ((c : Thread nD τ).loc main_arg3)) (gr t r) (gl t l) := by
  unfold out0_4 r0_0 r0_1
  rw [View.canon_cons_unit_lit (h := by decide)]
  unfold k0_pay1
  pointwise
  simp only [blkA, blkW, blkX, blkM, ← gs_gr t r]
  rfl

/-- The whole array after the run. -/
def FX : S16384x2048.Idx → EReal := fun i => res (m ((c : Thread nD τ).loc main_arg0)) (m ((c : Thread nD τ).loc main_arg1)) (m ((c : Thread nD τ).loc main_arg2)) (m ((c : Thread nD τ).loc main_arg3)) (i 0) (i 1)
theorem finalX : (dats m 0 c).arrAt 4 cfg0.N = FX m c := by
  refine (dats m 0 c).arrAt_eq_of_covers 4 (FX m c) (by decide +kernel) fun t hf y => ?_
  blk_simp
  rw [after0_4]
  have idx : win0_4.index t = ![t.val / 4, t.val % 4] := (by decide +kernel : ∀ t : Fin grid0.N, win0_4.index t = ![t.val / 4, t.val % 4]) t
  have e0 : (((cfg0.win 4).blk t).view.emb y 0 : ℕ) = 2048 * (t.val / 4) + (y 0).val := by blk_simp [idx]; try omega
  have e1 : (((cfg0.win 4).blk t).view.emb y 1 : ℕ) = 512 * (t.val % 4) + (y 1).val := by blk_simp [idx]; try omega
  refine (congrArg (out0_4 (iblk m c 0 t) (iblk m c 1 t) (iblk m c 2 t) (iblk m c 3 t)) (ix2_of y)).trans ((tile m c t (y 0) (y 1)).trans ?_)
  exact congr (congrArg (res (m ((c : Thread nD τ).loc main_arg0)) (m ((c : Thread nD τ).loc main_arg1)) (m ((c : Thread nD τ).loc main_arg2)) (m ((c : Thread nD τ).loc main_arg3))) (Fin.ext e0.symm)) (Fin.ext e1.symm)
end

theorem frameR : Cert.quiescent_OutProjPromptReferenceIdeal := by
  intro m g _
  refine (θ_run _ _ _).mono (fun r h => ⟨fun c => (h c).2, sem_eq_zero_of_no_sems (by decide) r.2⟩) (Cert.OutProjPromptReferenceIdeal.Value.run m g)

theorem algebraic : Cert.algebraic_OutProjPromptIdeal_OutProjPromptReferenceIdeal := by
  intro m g m' g' _ hag
  refine ⟨FX m, ?_, ?_⟩
  · refine (θ_run _ _ _).mono (fun r h c => ?_) (Cert.OutProjPromptIdeal.Value.run_blocks m g)
    exact ⟨(h c).1.trans (finalX m c), (h c).2⟩
  · refine (θ_run _ _ _).mono (fun r h c => ?_) (Cert.OutProjPromptReferenceIdeal.Value.run m' g')
    obtain ⟨r0, rest⟩ := h c
    obtain ⟨h0, h1, h2, h3⟩ := hag c
    refine ⟨r0.trans ?_, rest⟩
    rw [h0, h1, h2, h3]
    funext i
    obtain ⟨a, b, rfl⟩ : ∃ a b, i = ix2 a b := ⟨_, _, ix2_of i⟩
    pointwise
    rfl

end Cert.M.Op
-- ==== Proof.M.FfnMid.Body.lean ====
/- The feed-forward call's body with its offsets written out. -/
module

public import proofs.«01_k».proof.Proof.Gen.FfnMidIdeal.Skeleton

@[expose] public section

set_option synthInstance.maxSize 4096

noncomputable section

namespace Cert.FfnMidIdeal.Gen

open Idealize.ShloMosaic Idealize.SL.Sem

variable {F : FTy → Type} [FloatOps F]

theorem inb_S128x1_S128x1_0_0 : ∀ a, (![0, 0] : Fin 2 → Nat) a + S128x1.size a ≤ S128x1.size a := by decide
theorem packedbf16_S128x2048_S128x2048_0_0 : (Rect.unit (s := S128x2048) ![0, 0] S128x2048.size inb_S128x2048_S128x2048_0_0).PackedRows (EltTy.packing .bf16) := by decide

/-- The normalised and modulated rows, as the body stores them. -/
noncomputable def payH (x : Vec F S128x2048 .f32) (r : Vec F S128x1 .f32) (g : Vec F S1x1x2048 .f32) (sc : Vec F S128x2048 .f32) (sh : Vec F S128x2048 .f32) : FVec F S128x2048 .bf16 :=
  k0_pay1 (k0_pay6 x r g sc sh)

/-- The body with every offset written out: both loops over the rows run once, from row 0. -/
noncomputable def body (i : grid0.Coords) (arg2 : Memref sig .tc .vmem S128x2048 .f32) (harg2 : arg2.IsWhole) (arg3 : Memref sig .tc .vmem S1x1x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S2048x2048 .bf16) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S128x2048 .f32) (harg10 : arg10.IsWhole) (arg11 : Memref sig .tc .vmem S128x2048 .bf16) (harg11 : arg11.IsWhole) (arg12 : Memref sig .tc .vmem S128x1 .f32) (harg12 : arg12.IsWhole) :
    Prog (TpuEff nD τ sig (Elt F) Λ₀ .tc) PUnit := do
  let arg1 : BitVec 32 := BitVec.ofNat 32 (i 1).val
  let v0 : BitVec 1 := Scalar.cmpi .eq arg1 0#32
  let v1 : BitVec 32 := Scalar.extui v0
  let v2 : BitVec 1 := Scalar.cmpi .ne v1 0#32
  if k0_h1 : v2 = 1#1 then do
    let v19 : Vec F S128x2048 .f32 ← Prog.lift (.load arg2 (Rect.unit (s := S128x2048) ![0, 0] S128x2048.size inb_S128x2048_S128x2048_0_0).toLoadRect (View.loadsAt_vmem h_S128x2048))
    let v28 : Vec F S128x1 .f32 ← Prog.lift (.load arg12 (Rect.unit (s := S128x1) ![0, 0] S128x1.size inb_S128x1_S128x1_0_0).toLoadRect (View.loadsAt_vmem h_S128x1))
    Prog.lift (.store arg12 (Rect.unit (s := S128x1) ![0, 0] S128x1.size inb_S128x1_S128x1_0_0) (k0_pay5 v19) Finset.univ (View.stores_vmem_bits_univ h_S128x1 rfl) (.inl rfl))
    let v31 : Vec F S128x2048 .f32 ← Prog.lift (.load arg2 (Rect.unit (s := S128x2048) ![0, 0] S128x2048.size inb_S128x2048_S128x2048_0_0).toLoadRect (View.loadsAt_vmem h_S128x2048))
    let v32 : Vec F S128x1 .f32 ← Prog.lift (.load arg12 (Rect.unit (s := S128x1) ![0, 0] S128x1.size inb_S128x1_S128x1_0_0).toLoadRect (View.loadsAt_vmem h_S128x1))
    let v35 : Vec F S1x1x2048 .f32 ← Prog.lift (.load arg3 (Rect.unit (s := S1x1x2048) ![0, 0, 0] S1x1x2048.size inb_S1x1x2048_S1x1x2048_0_0_0).toLoadRect (View.loadsAt_vmem h_S1x1x2048))
    let v39 : Vec F S128x2048 .f32 ← Prog.lift (.load arg4 (Rect.unit (s := S128x2048) ![0, 0] S128x2048.size inb_S128x2048_S128x2048_0_0).toLoadRect (View.loadsAt_vmem h_S128x2048))
    let v40 : Vec F S128x2048 .f32 ← Prog.lift (.load arg5 (Rect.unit (s := S128x2048) ![0, 0] S128x2048.size inb_S128x2048_S128x2048_0_0).toLoadRect (View.loadsAt_vmem h_S128x2048))
    let v46 : Vec F S128x2048 .bf16 ← Prog.lift (.load arg11 (Rect.unit (s := S128x2048) ![0, 0] S128x2048.size inb_S128x2048_S128x2048_0_0).toLoadRect (View.loadsAt_vmem h_S128x2048))
    Prog.lift (.store arg11 (Rect.unit (s := S128x2048) ![0, 0] S128x2048.size inb_S128x2048_S128x2048_0_0) (payH v31 v32 v35 v39 v40) Finset.univ (View.stores_vmem h_S128x2048 (harg11.storeExact_slice rfl _ packedbf16_S128x2048_S128x2048_0_0) (fun _ => rfl)) (.inl rfl))
    let v50 : Vec F S128x2048 .f32 ← Prog.lift (.load arg10 (Rect.unit (s := S128x2048) ![0, 0] S128x2048.size inb_S128x2048_S128x2048_0_0).toLoadRect (View.loadsAt_vmem h_S128x2048))
    Prog.lift (.store arg10 (Rect.unit (s := S128x2048) ![0, 0] S128x2048.size inb_S128x2048_S128x2048_0_0) (k0_pay2 (F := F)) Finset.univ (View.stores_vmem_bits_univ h_S128x2048 rfl) (.inl rfl))
    pure ⟨⟩
  else do                                                               -- } else {
    pure ⟨⟩
  let v3 : Vec F S128x2048 .bf16 ← Prog.lift (.load arg11 (Rect.unit (s := S128x2048) ![0, 0] S128x2048.size inb_S128x2048_S128x2048_0_0).toLoadRect (View.loadsAt_vmem h_S128x2048))
  let v4 : Vec F S2048x2048 .bf16 ← Prog.lift (.load arg7 (Rect.unit (s := S2048x2048) ![0, 0] S2048x2048.size inb_S2048x2048_S2048x2048_0_0).toLoadRect (View.loadsAt_vmem h_S2048x2048))
  let v9 : Vec F S128x2048 .f32 ← Prog.lift (.load arg10 (Rect.unit (s := S128x2048) ![0, 0] S128x2048.size inb_S128x2048_S128x2048_0_0).toLoadRect (View.loadsAt_vmem h_S128x2048))
  let v12 : Vec F S2048x2048 .bf16 ← Prog.lift (.load arg8 (Rect.unit (s := S2048x2048) ![0, 0] S2048x2048.size inb_S2048x2048_S2048x2048_0_0).toLoadRect (View.loadsAt_vmem h_S2048x2048))
  let v15 : Vec F S128x2048 .f32 ← Prog.lift (.load arg10 (Rect.unit (s := S128x2048) ![0, 0] S128x2048.size inb_S128x2048_S128x2048_0_0).toLoadRect (View.loadsAt_vmem h_S128x2048))
  Prog.lift (.store arg10 (Rect.unit (s := S128x2048) ![0, 0] S128x2048.size inb_S128x2048_S128x2048_0_0) (k0_pay3 v3 v4 v9 v12) Finset.univ (View.stores_vmem_bits_univ h_S128x2048 rfl) (.inl rfl))
  let v16 : BitVec 1 := Scalar.cmpi .eq arg1 3#32
  let v17 : BitVec 32 := Scalar.extui v16
  let v18 : BitVec 1 := Scalar.cmpi .ne v17 0#32
  if k0_h2 : v18 = 1#1 then do
    let v19 : Vec F S128x2048 .f32 ← Prog.lift (.load arg6 (Rect.unit (s := S128x2048) ![0, 0] S128x2048.size inb_S128x2048_S128x2048_0_0).toLoadRect (View.loadsAt_vmem h_S128x2048))
    let v20 : Vec F S128x2048 .f32 ← Prog.lift (.load arg2 (Rect.unit (s := S128x2048) ![0, 0] S128x2048.size inb_S128x2048_S128x2048_0_0).toLoadRect (View.loadsAt_vmem h_S128x2048))
    let v21 : Vec F S128x2048 .f32 ← Prog.lift (.load arg10 (Rect.unit (s := S128x2048) ![0, 0] S128x2048.size inb_S128x2048_S128x2048_0_0).toLoadRect (View.loadsAt_vmem h_S128x2048))
    let v25 : Vec F S128x2048 .f32 ← Prog.lift (.load arg10 (Rect.unit (s := S128x2048) ![0, 0] S128x2048.size inb_S128x2048_S128x2048_0_0).toLoadRect (View.loadsAt_vmem h_S128x2048))
    Prog.lift (.store arg10 (Rect.unit (s := S128x2048) ![0, 0] S128x2048.size inb_S128x2048_S128x2048_0_0) (k0_pay4 v19 v20 v21) Finset.univ (View.stores_vmem_bits_univ h_S128x2048 rfl) (.inl rfl))
    pure ⟨⟩
  else do                                                               -- } else {
    pure ⟨⟩
  pure ⟨⟩

set_option maxRecDepth 65536 in
theorem body_eq : cc0_ffn_residual (F := F) = body (F := F) := rfl

end Cert.FfnMidIdeal.Gen

end
-- ==== Proof.M.FfnMid.Runs.lean ====
/- The feed-forward call without the final norm: what the runs of its body share. The window blocks as the region finds them, the branch conditions over the
   four points, and the staging and scratch buffers. -/
module

public import proofs.«01_k».proof.Proof.Gen.FfnMidIdeal.Launch
public import proofs.«01_k».proof.Proof.M.FfnMid.Body
public import proofs.«01_k».proof.Proof.Gen.FfnMidIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.FfnMidIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof data whose array is `V`'s. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof data whose array is `V`'s. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof data whose array is `V`'s. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof data whose array is `V`'s. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof data whose array is `V`'s. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof data whose array is `V`'s. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof data whose array is `V`'s. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof data whose array is `V`'s. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).1 4).trans (((dats 0 c).arrAt_in 4 rfl _).trans ((hA c 4).trans (V_main_arg2 m c))),
      ((h c).1 5).trans (((dats 0 c).arrAt_in 5 rfl _).trans ((hA c 5).trans (V_main_arg3 m c))),
      ((h c).1 6).trans (((dats 0 c).arrAt_in 6 rfl _).trans ((hA c 6).trans (V_main_arg4 m c))),
      ((h c).2 main_arg5 (Pipeline.mem_restRefs_of main_arg5 (by decide) (by decide))).trans (V_main_arg5 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the first point only — by arithmetic of the point. -/
theorem hcond0_0 : ∀ t : Fin cfg0.N, cond0_0 (grid0.coords t) ↔ t.val % 4 = 0 :=
  (fun t => by
    have ht : t.val < 4 := Nat.lt_of_lt_of_eq t.isLt N_0
    have e0 : (grid0.coords t 0).val = t.val / 4 % 1 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 4 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 3#32)) 0#32) = 1#1
/-- It holds at the last point only — by arithmetic of the point. -/
theorem hcond0_1 : ∀ t : Fin cfg0.N, cond0_1 (grid0.coords t) ↔ t.val % 4 = 3 :=
  (fun t => by
    have ht : t.val < 4 := Nat.lt_of_lt_of_eq t.isLt N_0
    have e0 : (grid0.coords t 0).val = t.val / 4 % 1 := Pipeline.Grid.coords_val t 0 (by decide) rfl
    have e1 : (grid0.coords t 1).val = t.val / 1 % 4 := Pipeline.Grid.coords_val t 1 (by decide) rfl
    simp only [cond0_1, e0, e1]
    word_cmp
   : ∀ t : Fin grid0.N, cond0_1 (grid0.coords t) ↔ t.val % 4 = 3)

/-! ## The kernel body on any staging memrefs: a subtype the run finds -/

/-- One staging buffer of output window 8, through which its contents are stated (`View.read_writes_of_cover`: the
    choice does not matter). -/
abbrev VO0_8 : View sig .tc .vmem S128x2048 .f32 := (Memref.whole cc0_stg8_0 : Memref sig .tc .vmem S128x2048 .f32).view
/-- Each window's current staging memref at point `t`, spelled as the pipeline passes it (`bodyAt0`), and its wholeness. -/
abbrev ms0_0 (t : Fin cfg0.N) : Memref sig .tc .vmem S128x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x2048 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x2048 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x2048 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S128x2048 .bf16 := Memref.whole cc0_scratch0
abbrev scM0_1 : Memref sig .tc .vmem S128x1 .f32 := Memref.whole cc0_scratch1
/-- The scratch `arg11` the kernel carries between points, as a view: what it holds is stated through it. -/
abbrev VS0_0 : View sig .tc .vmem S128x2048 .bf16 := scM0_0.view

/-- The frame kit's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.FfnMidIdeal.Gen

end
-- ==== Proof.M.FfnMid.RunA.lean ====
/- The body's run at the first point: the rows are normalised, the output is cleared, one block of the hidden axis is added. -/
module

public import proofs.«01_k».proof.Proof.M.FfnMid.Runs

@[expose] public section

-- membership in a rectangle of production extents (`View.cover_of_tiled`): the elaborator's structural look
-- recurses once per coordinate of the long axes
set_option maxRecDepth 16384

noncomputable section

namespace Cert.FfnMidIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S128x2048 .f32) (harg2 : arg2.IsWhole) (arg3 : Memref sig .tc .vmem S1x1x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S2048x2048 .bf16) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S128x2048 .f32) (harg10 : arg10.IsWhole) (arg11 : Memref sig .tc .vmem S128x2048 .bf16) (harg11 : arg11.IsWhole) (arg12 : Memref sig .tc .vmem S128x1 .f32) (harg12 : arg12.IsWhole) (hc0 : cond0_0 i) (hc1 : ¬cond0_1 i)
    (x0 : Vec F S128x2048 .f32) (x1 : Vec F S1x1x2048 .f32) (x2 : Vec F S128x2048 .f32) (x3 : Vec F S128x2048 .f32) (x4 : Vec F S128x2048 .f32) (x5 : Vec F S2048x2048 .bf16) (x6 : Vec F S2048x2048 .bf16) (x7 : Vec F S1x2048 .f32) :
    Σ' (L8 : List (View.Piece (Elt F) S128x2048 .f32)), Σ' (LS0 : List (View.Piece (Elt F) S128x2048 .bf16)), { LT1 : List (View.Piece (Elt F) S128x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LT1)) -∗ K ⟨⟩))
          ⊢ wp frame (wpE (defs₀ (F := F)) Variants.none c none) E (cc0_ffn_residual i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [body_eq]; unfold body
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS0]; · iexists _; iexact HS0
    iexists _; iexact HS1

end Cert.FfnMidIdeal.Gen

end
-- ==== Proof.M.FfnMid.RunB.lean ====
/- The body's run at the middle points: one block of the hidden axis is added. -/
module

public import proofs.«01_k».proof.Proof.M.FfnMid.RunA

@[expose] public section

-- membership in a rectangle of production extents (`View.cover_of_tiled`): the elaborator's structural look
-- recurses once per coordinate of the long axes
set_option maxRecDepth 16384

noncomputable section

namespace Cert.FfnMidIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2), WITH the
    proof that on whole staging memrefs — the inputs' at their contents, the outputs it reads before covering (8) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S128x2048 .f32) (harg2 : arg2.IsWhole) (arg3 : Memref sig .tc .vmem S1x1x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S2048x2048 .bf16) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S128x2048 .f32) (harg10 : arg10.IsWhole) (arg11 : Memref sig .tc .vmem S128x2048 .bf16) (harg11 : arg11.IsWhole) (arg12 : Memref sig .tc .vmem S128x1 .f32) (harg12 : arg12.IsWhole) (hc0 : ¬cond0_0 i) (hc1 : ¬cond0_1 i)
    (x0 : Vec F S128x2048 .f32) (x1 : Vec F S1x1x2048 .f32) (x2 : Vec F S128x2048 .f32) (x3 : Vec F S128x2048 .f32) (x4 : Vec F S128x2048 .f32) (x5 : Vec F S2048x2048 .bf16) (x6 : Vec F S2048x2048 .bf16) (x7 : Vec F S1x2048 .f32) (xo8 : Vec F S128x2048 .f32) (xs0 : Vec F S128x2048 .bf16) :
    Σ' (L8 : List (View.Piece (Elt F) S128x2048 .f32)), Σ' (LS0 : List (View.Piece (Elt F) S128x2048 .bf16)), { LT1 : List (View.Piece (Elt F) S128x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo8 ∗ owns (c : Thread nD τ) arg11 fullShare xs0 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare xs0 ∗ (∃ d, owns (c : Thread nD τ) arg12 fullShare d)) -∗ K ⟨⟩))
          ⊢ wp frame (wpE (defs₀ (F := F)) Variants.none c none) E (cc0_ffn_residual i arg2 harg2 arg3 harg3 arg4 harg4 arg5 harg5 arg6 harg6 arg7 harg7 arg8 harg8 arg9 harg9 arg10 harg10 arg11 harg11 arg12 harg12) K } := by
  refine ⟨?_, [], [], fun E K => ?run⟩
  case run =>
    simp only [body_eq]; unfold body
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS0]
    · iexists _; isplitr; · ipureintro; exact harg11.read_unread _
      iexact HS0
    iexists _, _; isplitr; swap; · iexact HS1
    ipureintro; rfl

end Cert.FfnMidIdeal.Gen

end
-- ==== Proof.M.FfnMid.RunC.lean ====
/- The body's run at the last point: one block of the hidden axis is added, and the output is finished. -/
module

public import proofs.«01_k».proof.Proof.M.FfnMid.RunB

@[expose] public section

-- membership in a rectangle of production extents (`View.cover_of_tiled`): the elaborator's structural look
-- recurses once per coordinate of the long axes
set_option maxRecDepth 16384

noncomputable section

namespace Cert.FfnMidIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 3), WITH the
    proof that on whole staging memrefs — the inputs' at their contents, the outputs it reads before covering (8) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .vmem S128x2048 .f32) (harg2 : arg2.IsWhole) (arg3 : Memref sig .tc .vmem S1x1x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S2048x2048 .bf16) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S128x2048 .f32) (harg10 : arg10.IsWhole) (arg11 : Memref sig .tc .vmem S128x2048 .bf16) (harg11 : arg11.IsWhole) (arg12 : Memref sig .tc .vmem S128x1 .f32) (harg12 : arg12.IsWhole) (hc0 : ¬cond0_0 i) (hc1 : cond0_1 i)
    (x0 : Vec F S128x2048 .f32) (x1 : Vec F S1x1x2048 .f32) (x2 : Vec F S128x2048 .f32) (x3 : Vec F S128x2048 .f32) (x4 : Vec F S128x2048 .f32) (x5 : Vec F S2048x2048 .bf16) (x6 : Vec F S2048x2048 .bf16) (x7 : Vec F S1x2048 .f32) (xo8 : Vec F S128x2048 .f32) (xs0 : Vec F S128x2048 .bf16) :
    Σ' (L8 : List (View.Piece (Elt F) S128x2048 .f32)), Σ' (LS0 : List (View.Piece (Elt F) S128x2048 .bf16)), { LT1 : List (View.Piece (Elt F) S128x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo8 ∗ owns (c : Thread nD τ) arg11 fullShare xs0 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare xs0 ∗ (∃ d, owns (c : Thread nD τ) arg12 fullShare d)) -∗ K ⟨⟩))
          ⊢ wp frame (wpE (defs₀ (F := F)) Variants.none c none) E (cc0_ffn_residual i arg2 harg2 arg3 harg3 arg4 harg4 arg5 harg5 arg6 harg6 arg7 harg7 arg8 harg8 arg9 harg9 arg10 harg10 arg11 harg11 arg12 harg12) K } := by
  refine ⟨?_, [], [], fun E K => ?run⟩
  case run =>
    simp only [body_eq]; unfold body
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS0]
    · iexists _; isplitr; · ipureintro; exact harg11.read_unread _
      iexact HS0
    iexists _, _; isplitr; swap; · iexact HS1
    ipureintro; rfl

end Cert.FfnMidIdeal.Gen

end
-- ==== Proof.M.FfnMid.Frame.lean ====
/- The frame of the feed-forward call: what the output and the carried rows hold after each point, the body's obligation at
   every point, and the frame itself. -/
module

public import proofs.«01_k».proof.Proof.M.FfnMid.RunC
public import Idealize.ShloMosaic.Lib.Claim

@[expose] public section

-- membership in a rectangle of production extents (`View.cover_of_tiled`): the elaborator's structural look
-- recurses once per coordinate of the long axes
set_option maxRecDepth 16384

noncomputable section

namespace Cert.FfnMidIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section
variable (c : Dev nD) (i : grid0.Coords) (arg2 : Memref sig .tc .vmem S128x2048 .f32) (harg2 : arg2.IsWhole) (arg3 : Memref sig .tc .vmem S1x1x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S2048x2048 .bf16) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S128x2048 .f32) (harg10 : arg10.IsWhole) (arg11 : Memref sig .tc .vmem S128x2048 .bf16) (harg11 : arg11.IsWhole) (arg12 : Memref sig .tc .vmem S128x1 .f32) (harg12 : arg12.IsWhole)
/-- Case A's pieces for output 8 tile its block. -/
theorem cover0_A_8 (hc0 : cond0_0 i) (hc1 : ¬cond0_1 i)
    (x0 : Vec F S128x2048 .f32) (x1 : Vec F S1x1x2048 .f32) (x2 : Vec F S128x2048 .f32) (x3 : Vec F S128x2048 .f32) (x4 : Vec F S128x2048 .f32) (x5 : Vec F S2048x2048 .bf16) (x6 : Vec F S2048x2048 .bf16) (x7 : Vec F S1x2048 .f32) (y : S128x2048.Idx) :
    ∃ pc ∈ (kernelRun0_A c i _ harg2 _ harg3 _ harg4 _ harg5 _ harg6 _ harg7 _ harg8 _ harg9 _ harg10 _ harg11 _ harg12 hc0 hc1 x0 x1 x2 x3 x4 x5 x6 x7).1, y ∈ pc.1.set :=
  View.cover_of_tiledL (kernelRun0_A c i _ harg2 _ harg3 _ harg4 _ harg5 _ harg6 _ harg7 _ harg8 _ harg9 _ harg10 _ harg11 _ harg12 hc0 hc1 x0 x1 x2 x3 x4 x5 x6 x7).1 S128x2048.size (by sl_kernel_rfl) y

/-- What case A leaves in output 8's staging buffer: its pieces read back over junk. -/
def out0_A_8 (hc0 : cond0_0 i) (hc1 : ¬cond0_1 i)
    (x0 : Vec F S128x2048 .f32) (x1 : Vec F S1x1x2048 .f32) (x2 : Vec F S128x2048 .f32) (x3 : Vec F S128x2048 .f32) (x4 : Vec F S128x2048 .f32) (x5 : Vec F S2048x2048 .bf16) (x6 : Vec F S2048x2048 .bf16) (x7 : Vec F S1x2048 .f32) : Vec F S128x2048 .f32 :=
  VO0_8.read (Elt F) (VO0_8.writes (Elt F) VO0_8.junk (kernelRun0_A c i _ harg2 _ harg3 _ harg4 _ harg5 _ harg6 _ harg7 _ harg8 _ harg9 _ harg10 _ harg11 _ harg12 hc0 hc1 x0 x1 x2 x3 x4 x5 x6 x7).1)

/-- Case A's pieces for scratch `arg11`, which the kernel carries between points, cover it. -/
theorem scover0_A_0 (hc0 : cond0_0 i) (hc1 : ¬cond0_1 i)
    (x0 : Vec F S128x2048 .f32) (x1 : Vec F S1x1x2048 .f32) (x2 : Vec F S128x2048 .f32) (x3 : Vec F S128x2048 .f32) (x4 : Vec F S128x2048 .f32) (x5 : Vec F S2048x2048 .bf16) (x6 : Vec F S2048x2048 .bf16) (x7 : Vec F S1x2048 .f32) (y : S128x2048.Idx) :
    ∃ pc ∈ (kernelRun0_A c i _ harg2 _ harg3 _ harg4 _ harg5 _ harg6 _ harg7 _ harg8 _ harg9 _ harg10 _ harg11 _ harg12 hc0 hc1 x0 x1 x2 x3 x4 x5 x6 x7).2.1, y ∈ pc.1.set :=
  View.cover_of_tiledL (kernelRun0_A c i _ harg2 _ harg3 _ harg4 _ harg5 _ harg6 _ harg7 _ harg8 _ harg9 _ harg10 _ harg11 _ harg12 hc0 hc1 x0 x1 x2 x3 x4 x5 x6 x7).2.1 S128x2048.size (by sl_kernel_rfl) y

/-- What case A leaves in scratch `arg11`: its pieces read back over junk. -/
def sout0_A_0 (hc0 : cond0_0 i) (hc1 : ¬cond0_1 i)
    (x0 : Vec F S128x2048 .f32) (x1 : Vec F S1x1x2048 .f32) (x2 : Vec F S128x2048 .f32) (x3 : Vec F S128x2048 .f32) (x4 : Vec F S128x2048 .f32) (x5 : Vec F S2048x2048 .bf16) (x6 : Vec F S2048x2048 .bf16) (x7 : Vec F S1x2048 .f32) : Vec F S128x2048 .bf16 :=
  VS0_0.read (Elt F) (VS0_0.writes (Elt F) VS0_0.junk (kernelRun0_A c i _ harg2 _ harg3 _ harg4 _ harg5 _ harg6 _ harg7 _ harg8 _ harg9 _ harg10 _ harg11 _ harg12 hc0 hc1 x0 x1 x2 x3 x4 x5 x6 x7).2.1)

/-- Case B's pieces for output 8 tile its block. -/
theorem cover0_B_8 (hc0 : ¬cond0_0 i) (hc1 : ¬cond0_1 i)
    (x0 : Vec F S128x2048 .f32) (x1 : Vec F S1x1x2048 .f32) (x2 : Vec F S128x2048 .f32) (x3 : Vec F S128x2048 .f32) (x4 : Vec F S128x2048 .f32) (x5 : Vec F S2048x2048 .bf16) (x6 : Vec F S2048x2048 .bf16) (x7 : Vec F S1x2048 .f32) (xo8 : Vec F S128x2048 .f32) (xs0 : Vec F S128x2048 .bf16) (y : S128x2048.Idx) :
    ∃ pc ∈ (kernelRun0_B c i _ harg2 _ harg3 _ harg4 _ harg5 _ harg6 _ harg7 _ harg8 _ harg9 _ harg10 _ harg11 _ harg12 hc0 hc1 x0 x1 x2 x3 x4 x5 x6 x7 xo8 xs0).1, y ∈ pc.1.set :=
  View.cover_of_tiledL (kernelRun0_B c i _ harg2 _ harg3 _ harg4 _ harg5 _ harg6 _ harg7 _ harg8 _ harg9 _ harg10 _ harg11 _ harg12 hc0 hc1 x0 x1 x2 x3 x4 x5 x6 x7 xo8 xs0).1 S128x2048.size (by sl_kernel_rfl) y

/-- What case B leaves in output 8's staging buffer: its pieces read back over junk. -/
def out0_B_8 (hc0 : ¬cond0_0 i) (hc1 : ¬cond0_1 i)
    (x0 : Vec F S128x2048 .f32) (x1 : Vec F S1x1x2048 .f32) (x2 : Vec F S128x2048 .f32) (x3 : Vec F S128x2048 .f32) (x4 : Vec F S128x2048 .f32) (x5 : Vec F S2048x2048 .bf16) (x6 : Vec F S2048x2048 .bf16) (x7 : Vec F S1x2048 .f32) (xo8 : Vec F S128x2048 .f32) (xs0 : Vec F S128x2048 .bf16) : Vec F S128x2048 .f32 :=
  VO0_8.read (Elt F) (VO0_8.writes (Elt F) VO0_8.junk (kernelRun0_B c i _ harg2 _ harg3 _ harg4 _ harg5 _ harg6 _ harg7 _ harg8 _ harg9 _ harg10 _ harg11 _ harg12 hc0 hc1 x0 x1 x2 x3 x4 x5 x6 x7 xo8 xs0).1)

/-- Case C's pieces for output 8 tile its block. -/
theorem cover0_C_8 (hc0 : ¬cond0_0 i) (hc1 : cond0_1 i)
    (x0 : Vec F S128x2048 .f32) (x1 : Vec F S1x1x2048 .f32) (x2 : Vec F S128x2048 .f32) (x3 : Vec F S128x2048 .f32) (x4 : Vec F S128x2048 .f32) (x5 : Vec F S2048x2048 .bf16) (x6 : Vec F S2048x2048 .bf16) (x7 : Vec F S1x2048 .f32) (xo8 : Vec F S128x2048 .f32) (xs0 : Vec F S128x2048 .bf16) (y : S128x2048.Idx) :
    ∃ pc ∈ (kernelRun0_C c i _ harg2 _ harg3 _ harg4 _ harg5 _ harg6 _ harg7 _ harg8 _ harg9 _ harg10 _ harg11 _ harg12 hc0 hc1 x0 x1 x2 x3 x4 x5 x6 x7 xo8 xs0).1, y ∈ pc.1.set :=
  View.cover_of_tiledL (kernelRun0_C c i _ harg2 _ harg3 _ harg4 _ harg5 _ harg6 _ harg7 _ harg8 _ harg9 _ harg10 _ harg11 _ harg12 hc0 hc1 x0 x1 x2 x3 x4 x5 x6 x7 xo8 xs0).1 S128x2048.size (by sl_kernel_rfl) y

/-- What case C leaves in output 8's staging buffer: its pieces read back over junk. -/
def out0_C_8 (hc0 : ¬cond0_0 i) (hc1 : cond0_1 i)
    (x0 : Vec F S128x2048 .f32) (x1 : Vec F S1x1x2048 .f32) (x2 : Vec F S128x2048 .f32) (x3 : Vec F S128x2048 .f32) (x4 : Vec F S128x2048 .f32) (x5 : Vec F S2048x2048 .bf16) (x6 : Vec F S2048x2048 .bf16) (x7 : Vec F S1x2048 .f32) (xo8 : Vec F S128x2048 .f32) (xs0 : Vec F S128x2048 .bf16) : Vec F S128x2048 .f32 :=
  VO0_8.read (Elt F) (VO0_8.writes (Elt F) VO0_8.junk (kernelRun0_C c i _ harg2 _ harg3 _ harg4 _ harg5 _ harg6 _ harg7 _ harg8 _ harg9 _ harg10 _ harg11 _ harg12 hc0 hc1 x0 x1 x2 x3 x4 x5 x6 x7 xo8 xs0).1)

end

/-! ## What the outputs hold after each point -/

/-- THE ACCUMULATION. -/
def outsAt0 (c : Dev nD) : (n : ℕ) → n < cfg0.N → Vec F S128x2048 .f32 × Vec F S128x2048 .bf16
  | 0, hn => (out0_A_8 c (grid0.coords ⟨0, hn⟩) _ (hs0_0 ⟨0, hn⟩) _ (hs0_1 ⟨0, hn⟩) _ (hs0_2 ⟨0, hn⟩) _ (hs0_3 ⟨0, hn⟩) _ (hs0_4 ⟨0, hn⟩) _ (hs0_5 ⟨0, hn⟩) _ (hs0_6 ⟨0, hn⟩) _ (hs0_7 ⟨0, hn⟩) _ (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_0 c (grid0.coords ⟨0, hn⟩) _ (hs0_0 ⟨0, hn⟩) _ (hs0_1 ⟨0, hn⟩) _ (hs0_2 ⟨0, hn⟩) _ (hs0_3 ⟨0, hn⟩) _ (hs0_4 ⟨0, hn⟩) _ (hs0_5 ⟨0, hn⟩) _ (hs0_6 ⟨0, hn⟩) _ (hs0_7 ⟨0, hn⟩) _ (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 4 = 0 then
      if h1 : (n + 1) % 4 = 3 then
        False.elim (by have hN : n + 1 < 4 := lt_of_lt_of_eq hn (show cfg0.N = 4 from N_0); omega)
      else
        (out0_A_8 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_0 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      if h1 : (n + 1) % 4 = 3 then
        (out0_C_8 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2, (outsAt0 c n (Nat.lt_of_succ_lt hn)).2)
      else
        (out0_B_8 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2, (outsAt0 c n (Nat.lt_of_succ_lt hn)).2)

/-- `outsAt0` at a point of case A: that case's contents. -/
theorem outsAt0_A (c : Dev nD) (t : Fin cfg0.N) (h0 : t.val % 4 = 0) (h1 : ¬t.val % 4 = 3) :
    outsAt0 m c t.val t.isLt = (out0_A_8 c (grid0.coords t) _ (hs0_0 t) _ (hs0_1 t) _ (hs0_2 t) _ (hs0_3 t) _ (hs0_4 t) _ (hs0_5 t) _ (hs0_6 t) _ (hs0_7 t) _ (hs0_8 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), sout0_A_0 c (grid0.coords t) _ (hs0_0 t) _ (hs0_1 t) _ (hs0_2 t) _ (hs0_3 t) _ (hs0_4 t) _ (hs0_5 t) _ (hs0_6 t) _ (hs0_7 t) _ (hs0_8 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 4 = 0) (h1 : ¬t.val % 4 = 3) :
    outsAt0 m c t.val t.isLt = (out0_B_8 c (grid0.coords t) _ (hs0_0 t) _ (hs0_1 t) _ (hs0_2 t) _ (hs0_3 t) _ (hs0_4 t) _ (hs0_5 t) _ (hs0_6 t) _ (hs0_7 t) _ (hs0_8 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2, (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 4 = 0) (h1 : t.val % 4 = 3) :
    outsAt0 m c t.val t.isLt = (out0_C_8 c (grid0.coords t) _ (hs0_0 t) _ (hs0_1 t) _ (hs0_2 t) _ (hs0_3 t) _ (hs0_4 t) _ (hs0_5 t) _ (hs0_6 t) _ (hs0_7 t) _ (hs0_8 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2, (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2) ∗ (∃ d, owns (c : Thread nD τ) scM0_1 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2) ∗ (∃ d, owns (c : Thread nD τ) scM0_1 fullShare d)) ∗ (∃ r, prngReg c r)) := by
  cases n with
  | zero => exact absurd rfl hz
  | succ n => rfl

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
  Φ t := PhiS m c t.val (Nat.le_of_lt_succ t.isLt)
  q w := Pipeline.shareOf spec0 w
  owed _ := 0

/-- The proof data's arrays are the region-entry contents. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
/-- At a point of case B output 8's current staging buffer holds what the body left at the point before. -/
theorem before0_8_B (c : Dev nD) (t : Fin cfg0.N) (h0 : ¬t.val % 4 = 0) (h1 : ¬t.val % 4 = 3) (d) :
    (dats m 0 c).before 8 t d = (outsAt0 m c (t.val - 1) (Nat.lt_of_le_of_lt (Nat.sub_le _ _) t.isLt)).1 := by
  have hN : t.val < 4 := lt_of_lt_of_eq t.isLt (show cfg0.N = 4 from N_0)
  rw [Dat.before_out_kept _ 8 rfl t (by omega) (Bool.eq_false_iff.mpr fun h => by have := (flush0_8 _).mp h; dsimp only at this; omega)
    (fun _ => rfl) (fun _ _ => rfl)]
  dsimp only [dats]
/-- At a point of case C output 8's current staging buffer holds what the body left at the point before. -/
theorem before0_8_C (c : Dev nD) (t : Fin cfg0.N) (h0 : ¬t.val % 4 = 0) (h1 : t.val % 4 = 3) (d) :
    (dats m 0 c).before 8 t d = (outsAt0 m c (t.val - 1) (Nat.lt_of_le_of_lt (Nat.sub_le _ _) t.isLt)).1 := by
  have hN : t.val < 4 := lt_of_lt_of_eq t.isLt (show cfg0.N = 4 from N_0)
  rw [Dat.before_out_kept _ 8 rfl t (by omega) (Bool.eq_false_iff.mpr fun h => by have := (flush0_8 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 9600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8]
  rw [show (dats m 0 c).Φ t.succ = PhiS m c (t.val + 1) t.isLt from rfl, PhiS_succ]
  have hN : t.val < 4 := lt_of_lt_of_eq t.isLt (show cfg0.N = 4 from N_0)
  by_cases h0 : t.val % 4 = 0
  · by_cases h1 : t.val % 4 = 3
    · exfalso; omega
    · by_cases hz : t.val = 0
      · rw [PhiS_castSucc m c t, PhiS_zero m c _ _ hz, PhiA0_eq]
        rw [outsAt0_A m c t h0 h1]
        unfold out0_A_8 sout0_A_0; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [HS0]; · iexact HS0
        isplitl [HS1]; · iexact HS1
        iintro ⟨H0, H1, H2, H3, H4, H5, H6, H7, ⟨%e8, H8⟩, ⟨%es0, HS0⟩, ⟨%fT1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _)
            iexists _; unfold owns; iexists _; isplitr
            swap; · iexact HS1
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _)
      · exfalso; have hN : t.val < 4 := lt_of_lt_of_eq t.isLt (show cfg0.N = 4 from N_0); omega
  · by_cases h1 : t.val % 4 = 3
    · by_cases hz : t.val = 0
      · exfalso; have hN : t.val < 4 := lt_of_lt_of_eq t.isLt (show cfg0.N = 4 from N_0); omega
      · rw [PhiS_castSucc m c t, PhiS_pos m c _ _ hz]
        rw [outsAt0_C m c t h0 h1]
        simp only [before0_8_C m c t h0 h1]
        unfold out0_C_8; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_C c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) _ _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexact HS1
        iintro ⟨H0, H1, H2, H3, H4, H5, H6, H7, ⟨%e8, H8⟩, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        unfold owns; iexists _; isplitr
        swap; · iexact H8
        ipureintro; exact View.read_writes_of_cover _ _ _ _ _ (cover0_C_8 c _ _ _ _ _ _ _ _ _ _ _ _ _ _ _ _ _ _ _ _ _ _ _ _ _ _ _ _ _ _ _ _ _ _ _)
    · by_cases hz : t.val = 0
      · exfalso; have hN : t.val < 4 := lt_of_lt_of_eq t.isLt (show cfg0.N = 4 from N_0); omega
      · rw [PhiS_castSucc m c t, PhiS_pos m c _ _ hz]
        rw [outsAt0_B m c t h0 h1]
        simp only [before0_8_B m c t h0 h1]
        unfold out0_B_8; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_B c (grid0.coords t) _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) _ _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexact HS1
        iintro ⟨H0, H1, H2, H3, H4, H5, H6, H7, ⟨%e8, H8⟩, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 4 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.FfnMidIdeal.Gen

end
-- ==== Proof.M.FfnMid.Value.lean ====
/- The run's post-condition with the output array named. -/
module

public import proofs.«01_k».proof.Proof.M.FfnMid.Frame
public import Idealize.ShloMosaic.Lib.Pipeline.Value

@[expose] public section

noncomputable section

namespace Cert.FfnMidIdeal.Value

open Cert.FfnMidIdeal Cert.FfnMidIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v2) = (dats m 0 c).arrAt 8 cfg0.N :=
  (h c).1 8

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 4 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 4).trans (((dats m 0 c).arrAt_in 4 rfl _).trans ((A_eq m c 4).trans (V_main_arg2 m c)))

/-- After the frame run, argument `main_arg3` is as launched: input window 5 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 5).trans (((dats m 0 c).arrAt_in 5 rfl _).trans ((A_eq m c 5).trans (V_main_arg3 m c)))

/-- After the frame run, argument `main_arg4` is as launched: input window 6 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 6).trans (((dats m 0 c).arrAt_in 6 rfl _).trans ((A_eq m c 6).trans (V_main_arg4 m c)))

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v2) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post8 m r h c,
      kept_main_arg0 m r h c,
      kept_main_arg1 m r h c,
      kept_main_arg2 m r h c,
      kept_main_arg3 m r h c,
      kept_main_arg4 m r h c,
      kept_main_arg5 m r h c⟩)
    (run_main m ρ)

end Cert.FfnMidIdeal.Value

end
-- ==== Proof.M.FfnMid.lean ====
/- The feed-forward block of a layer before the last, without the final norm: the four blocks of the hidden axis accumulated beside the whole product. -/
module
public import proofs.«01_k».proof.Defs
public import proofs.«01_k».proof.Proof.Gen.FfnMid
public import proofs.«01_k».proof.Proof.M.FfnMid.Value
public import proofs.«01_k».proof.Proof.Gen.FfnMidReferenceIdeal.Run
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.M.Ix
@[expose] public section
set_option maxRecDepth 65536
set_option maxHeartbeats 2000000
noncomputable section
namespace Cert.M.Ffm
open Idealize.ShloMosaic Idealize.ShloMosaic.TcCoe Idealize.SL.Sem

section
open Cert.FfnMidIdeal Cert.FfnMidIdeal.Gen
variable (m : (ℓ : Loc nD τ sig) → Buf (Elt Ideal) ℓ) (c : Dev nD)

theorem entryG (l : Fin 2048) : V m c main_v0 (ix3 0 0 l) = m ((c : Thread nD τ).loc main_arg1) (ix2 0 l) := by
  simp only [V, List.flatten_cons, List.flatten_nil, List.append_nil, List.cons_append, List.nil_append]
  entry_read
  pointwise

variable (t : Fin cfg0.N)

theorem blkX (r : Fin 128) (k : Fin 2048) : iblk m c 0 t (ix2 r k) = m ((c : Thread nD τ).loc main_arg0) (ix2 r k) := by
  have idx : win0_0.index t = ![0, 0] := (by decide +kernel : ∀ t : Fin grid0.N, win0_0.index t = ![0, 0]) t
  blk_ext [iblk, V_main_arg0, idx]
theorem blkG (l : Fin 2048) : iblk m c 1 t (ix3 0 0 l) = m ((c : Thread nD τ).loc main_arg1) (ix2 0 l) := by
  refine Eq.trans ?_ (entryG m c l)
  have idx : win0_1.index t = ![0, 0, 0] := (by decide +kernel : ∀ t : Fin grid0.N, win0_1.index t = ![0, 0, 0]) t
  blk_ext [iblk, idx]
theorem blkS (r : Fin 128) (l : Fin 2048) : iblk m c 2 t (ix2 r l) = m ((c : Thread nD τ).loc main_arg2) (ix2 r ⟨8192 + l.val, by omega⟩) := by
  have idx : win0_2.index t = ![0, 4] := (by decide +kernel : ∀ t : Fin grid0.N, win0_2.index t = ![0, 4]) t
  blk_ext [iblk, V_main_arg2, idx]
theorem blkH (r : Fin 128) (l : Fin 2048) : iblk m c 3 t (ix2 r l) = m ((c : Thread nD τ).loc main_arg2) (ix2 r ⟨6144 + l.val, by omega⟩) := by
  have idx : win0_3.index t = ![0, 3] := (by decide +kernel : ∀ t : Fin grid0.N, win0_3.index t = ![0, 3]) t
  blk_ext [iblk, V_main_arg2, idx]
theorem blkT (r : Fin 128) (l : Fin 2048) : iblk m c 4 t (ix2 r l) = m ((c : Thread nD τ).loc main_arg2) (ix2 r ⟨10240 + l.val, by omega⟩) := by
  have idx : win0_4.index t = ![0, 5] := (by decide +kernel : ∀ t : Fin grid0.N, win0_4.index t = ![0, 5]) t
  blk_ext [iblk, V_main_arg2, idx]
theorem lt4 : t.val < 4 := lt_of_lt_of_eq t.isLt N_0
theorem blkU (k f : Fin 2048) : iblk m c 5 t (ix2 k f) = m ((c : Thread nD τ).loc main_arg3) (ix2 k ⟨t.val * 2048 + f.val, by have := lt4 t; omega⟩) := by
  have idx : win0_5.index t = ![0, t.val] := (by decide +kernel : ∀ t : Fin grid0.N, win0_5.index t = ![0, t.val]) t
  blk_ext [iblk, V_main_arg3, idx]
theorem blkD (f j : Fin 2048) : iblk m c 6 t (ix2 f j) = m ((c : Thread nD τ).loc main_arg4) (ix2 ⟨t.val * 2048 + f.val, by have := lt4 t; omega⟩ j) := by
  have idx : win0_6.index t = ![t.val, 0] := (by decide +kernel : ∀ t : Fin grid0.N, win0_6.index t = ![t.val, 0]) t
  blk_ext [iblk, V_main_arg4, idx]

/-- What the first point leaves: the rows for all points, and the first block's part of the product. -/
theorem first_rows (h0 : t.val % 4 = 0) (h1 : ¬t.val % 4 = 3) (r : Fin 128) (l : Fin 2048) :
    (outsAt0 m c t.val t.isLt).2 (ix2 r l) = payH (iblk m c 0 t) (k0_pay5 (iblk m c 0 t)) (iblk m c 1 t) (iblk m c 2 t) (iblk m c 3 t) (ix2 r l) := by
  rw [outsAt0_A m c t h0 h1]
  unfold sout0_A_0
  frame_open
  simp (disch := decide) only [↓ View.readCov_skip, ↓ View.readCov_cons_toLoadRect, ↓ View.readCov_fill]
  frame_out
theorem first_acc (h0 : t.val % 4 = 0) (h1 : ¬t.val % 4 = 3) (r : Fin 128) (l : Fin 2048) :
    (outsAt0 m c t.val t.isLt).1 (ix2 r l) = k0_pay3 (payH (iblk m c 0 t) (k0_pay5 (iblk m c 0 t)) (iblk m c 1 t) (iblk m c 2 t) (iblk m c 3 t)) (iblk m c 5 t) (k0_pay2 (F := Ideal)) (iblk m c 6 t) (ix2 r l) := by
  rw [outsAt0_A m c t h0 h1]
  unfold out0_A_8
  frame_open
  simp (disch := decide) only [↓ View.readCov_skip, ↓ View.readCov_cons_toLoadRect, ↓ View.readCov_fill]
  frame_out
/-- What a middle point leaves, over what the point before left. -/
theorem mid_acc (h0 : ¬t.val % 4 = 0) (h1 : ¬t.val % 4 = 3) (r : Fin 128) (l : Fin 2048) :
    (outsAt0 m c t.val t.isLt).1 (ix2 r l) = k0_pay3 (outsAt0 m c (t.val - 1) (by omega)).2 (iblk m c 5 t) (outsAt0 m c (t.val - 1) (by omega)).1 (iblk m c 6 t) (ix2 r l) := by
  rw [outsAt0_B m c t h0 h1]
  unfold out0_B_8
  frame_open
  simp (disch := decide) only [↓ View.readCov_skip, ↓ View.readCov_cons_toLoadRect, ↓ View.readCov_fill]
  frame_out
  rw [read_unread_whole]
/-- What the last point leaves, over what the point before left. -/
theorem last_acc (h0 : ¬t.val % 4 = 0) (h1 : t.val % 4 = 3) (r : Fin 128) (l : Fin 2048) :
    (outsAt0 m c t.val t.isLt).1 (ix2 r l) = k0_pay4 (iblk m c 4 t) (iblk m c 0 t) (k0_pay3 (outsAt0 m c (t.val - 1) (by omega)).2 (iblk m c 5 t) (outsAt0 m c (t.val - 1) (by omega)).1 (iblk m c 6 t)) (ix2 r l) := by
  rw [outsAt0_C m c t h0 h1]
  unfold out0_C_8
  frame_open
  simp (disch := decide) only [↓ View.readCov_skip, ↓ View.readCov_cons_toLoadRect, ↓ View.readCov_fill]
  frame_out
  rw [read_unread_whole]
theorem rows_kept (h0 : ¬t.val % 4 = 0) : (outsAt0 m c t.val t.isLt).2 = (outsAt0 m c (t.val - 1) (by omega)).2 := by
  by_cases h1 : t.val % 4 = 3
  · rw [outsAt0_C m c t h0 h1]
  · rw [outsAt0_B m c t h0 h1]

/-- The literals for the width of a row and for the norm's offset. -/
def width : EReal := Ideal.ofBits .f32 0x45000000#32
def eps : EReal := Ideal.ofBits .f32 0x358637BD#32
/-- The reciprocal root of a row's mean square. -/
def inv (x : Fin 2048 → EReal) : EReal := Ideal.rsqrt (Ideal.div (∑ k : Fin 2048, x k * x k) width + eps)

section
variable (x : FVec Ideal ⟨2, ![128, 2048]⟩ .f32) (g : FVec Ideal ⟨2, ![4, 2048]⟩ .f32) (md : FVec Ideal ⟨2, ![128, 12288]⟩ .f32)
  (wu : FVec Ideal ⟨2, ![2048, 8192]⟩ .bf16) (wd : FVec Ideal ⟨2, ![8192, 2048]⟩ .bf16)
/-- A row under its norm, scaled and shifted by the modulation. -/
def hrow (r : Fin 128) (l : Fin 2048) : EReal :=
  x (ix2 r l) * inv (fun k => x (ix2 r k)) * g (ix2 0 l) * (1 + md (ix2 r ⟨8192 + l.val, by omega⟩)) + md (ix2 r ⟨6144 + l.val, by omega⟩)
/-- The hidden unit: the rectified projection. -/
def hid (r : Fin 128) (f : Fin 8192) : EReal := max (∑ k : Fin 2048, hrow x g md r k * wu (ix2 k f)) 0
/-- A hidden unit's part of an output. -/
def term (r : Fin 128) (l : Fin 2048) (f : Fin 8192) : EReal := hid x g md wu r f * hid x g md wu r f * wd (ix2 f l)
/-- One block's part of an output. -/
def part (r : Fin 128) (l : Fin 2048) (q : Fin 4) : EReal := ∑ f : Fin 2048, term x g md wu wd r l ⟨q.val * 2048 + f.val, by omega⟩
/-- The residual stream after the block, for a given product. -/
def res (p : Fin 2048 → EReal) (r : Fin 128) (l : Fin 2048) : EReal := x (ix2 r l) + md (ix2 r ⟨10240 + l.val, by omega⟩) * p l
end

theorem pay_rows (r : Fin 128) (l : Fin 2048) :
    payH (iblk m c 0 t) (k0_pay5 (iblk m c 0 t)) (iblk m c 1 t) (iblk m c 2 t) (iblk m c 3 t) (ix2 r l)
      = hrow (m ((c : Thread nD τ).loc main_arg0)) (m ((c : Thread nD τ).loc main_arg1)) (m ((c : Thread nD τ).loc main_arg2)) r l := by
  unfold payH k0_pay1 k0_pay6 k0_pay5
  pointwise
  simp only [blkX, blkS, blkH, blkG]
  rfl
theorem pay_acc (h : Vec Ideal S128x2048 .bf16) (a : Vec Ideal S128x2048 .f32)
    (hh : ∀ r l, h (ix2 r l) = hrow (m ((c : Thread nD τ).loc main_arg0)) (m ((c : Thread nD τ).loc main_arg1)) (m ((c : Thread nD τ).loc main_arg2)) r l)
    (r : Fin 128) (l : Fin 2048) :
    k0_pay3 h (iblk m c 5 t) a (iblk m c 6 t) (ix2 r l)
      = a (ix2 r l) + part (m ((c : Thread nD τ).loc main_arg0)) (m ((c : Thread nD τ).loc main_arg1)) (m ((c : Thread nD τ).loc main_arg2)) (m ((c : Thread nD τ).loc main_arg3)) (m ((c : Thread nD τ).loc main_arg4)) r l ⟨t.val, lt4 t⟩ := by
  unfold k0_pay3
  pointwise
  simp only [blkU, blkD, hh]
  rfl
theorem pay_fin (a : Vec Ideal S128x2048 .f32) (r : Fin 128) (l : Fin 2048) :
    k0_pay4 (iblk m c 4 t) (iblk m c 0 t) a (ix2 r l)
      = res (m ((c : Thread nD τ).loc main_arg0)) (m ((c : Thread nD τ).loc main_arg2)) (fun k => a (ix2 r k)) r l := by
  unfold k0_pay4
  pointwise
  simp only [blkX, blkT]
  rfl

/-- The rows the first point leaves stay for all points. -/
theorem rows_at : ∀ (n : ℕ) (hn : n < cfg0.N) (r : Fin 128) (l : Fin 2048), (outsAt0 m c n hn).2 (ix2 r l) = hrow (m ((c : Thread nD τ).loc main_arg0)) (m ((c : Thread nD τ).loc main_arg1)) (m ((c : Thread nD τ).loc main_arg2)) r l
  | 0, hn, r, l => (first_rows m c ⟨0, hn⟩ rfl (by show ¬0 % 4 = 3; decide) r l).trans (pay_rows m c ⟨0, hn⟩ r l)
  | n + 1, hn, r, l => by
    have h4 := lt4 ⟨n + 1, hn⟩
    have h := rows_kept m c ⟨n + 1, hn⟩ (by dsimp only at h4 ⊢; omega)
    exact (congrFun h _).trans (rows_at n (by omega) r l)
theorem zero_at (r : Fin 128) (l : Fin 2048) : k0_pay2 (F := Ideal) (ix2 r l) = (0 : EReal) := by
  unfold k0_pay2
  pointwise
theorem acc_0 (hn : 0 < cfg0.N) (r : Fin 128) (l : Fin 2048) : (outsAt0 m c 0 hn).1 (ix2 r l) = part (m ((c : Thread nD τ).loc main_arg0)) (m ((c : Thread nD τ).loc main_arg1)) (m ((c : Thread nD τ).loc main_arg2)) (m ((c : Thread nD τ).loc main_arg3)) (m ((c : Thread nD τ).loc main_arg4)) r l 0 := by
  refine (first_acc m c ⟨0, hn⟩ rfl (by show ¬0 % 4 = 3; decide) r l).trans ((pay_acc m c ⟨0, hn⟩ _ _ (pay_rows m c ⟨0, hn⟩) r l).trans ?_)
  rw [zero_at, zero_add]
  rfl
theorem acc_mid (n : ℕ) (hn : n + 1 < cfg0.N) (h3 : n + 1 < 3) (r : Fin 128) (l : Fin 2048) :
    (outsAt0 m c (n + 1) hn).1 (ix2 r l) = (outsAt0 m c n (by omega)).1 (ix2 r l) + part (m ((c : Thread nD τ).loc main_arg0)) (m ((c : Thread nD τ).loc main_arg1)) (m ((c : Thread nD τ).loc main_arg2)) (m ((c : Thread nD τ).loc main_arg3)) (m ((c : Thread nD τ).loc main_arg4)) r l ⟨n + 1, by omega⟩ :=
  (mid_acc m c ⟨n + 1, hn⟩ (by dsimp only; omega) (by dsimp only; omega) r l).trans (pay_acc m c ⟨n + 1, hn⟩ _ _ (rows_at m c n (by omega)) r l)

theorem blk_lt {n k : ℕ} (q : Fin n) (j : Fin k) : q.val * k + j.val < n * k :=
  calc q.val * k + j.val < q.val * k + k := by omega
    _ = (q.val + 1) * k := (Nat.succ_mul _ _).symm
    _ ≤ n * k := Nat.mul_le_mul_right _ q.isLt
/-- A sum over the hidden axis is the sum of its blocks' sums. -/
theorem sum_blk {n k N : ℕ} (h : n * k = N) (f : Fin N → EReal) :
    ∑ i, f i = ∑ q : Fin n, ∑ j : Fin k, f ⟨q.val * k + j.val, h ▸ blk_lt q j⟩ := by
  subst h
  rw [← finProdFinEquiv.sum_comp, Fintype.sum_prod_type]
  refine Finset.sum_congr rfl fun q _ => Finset.sum_congr rfl fun j _ => congrArg f (Fin.ext ?_)
  show j.val + k * q.val = q.val * k + j.val
  rw [Nat.mul_comm, Nat.add_comm]

/-- The whole array after the run. -/
def FO : S128x2048.Idx → EReal := fun i =>
  res (m ((c : Thread nD τ).loc main_arg0)) (m ((c : Thread nD τ).loc main_arg2)) (fun k => ∑ f : Fin 8192, term (m ((c : Thread nD τ).loc main_arg0)) (m ((c : Thread nD τ).loc main_arg1)) (m ((c : Thread nD τ).loc main_arg2)) (m ((c : Thread nD τ).loc main_arg3)) (m ((c : Thread nD τ).loc main_arg4)) (i 0) k f) (i 0) (i 1)
theorem acc_3 (hn : 3 < cfg0.N) (r : Fin 128) (l : Fin 2048) : (outsAt0 m c 3 hn).1 (ix2 r l) = FO m c (ix2 r l) := by
  refine (last_acc m c ⟨3, hn⟩ (by show ¬3 % 4 = 0; decide) rfl r l).trans ((pay_fin m c ⟨3, hn⟩ _ r l).trans ?_)
  show _ = res _ _ _ r l
  refine congrArg (fun p => res _ _ p r l) (funext fun k => ?_)
  refine (pay_acc m c ⟨3, hn⟩ _ _ (rows_at m c 2 (by omega)) r k).trans ?_
  show (outsAt0 m c 2 _).1 (ix2 r k) + _ = _
  rw [acc_mid m c 1 (by omega) (by omega), acc_mid m c 0 (by omega) (by omega), acc_0 m c (by omega), sum_blk (n := 4) (k := 2048) rfl, Fin.sum_univ_four]
  rfl

theorem acc_last (ht : t.val = 3) (r : Fin 128) (l : Fin 2048) : (outsAt0 m c t.val t.isLt).1 (ix2 r l) = FO m c (ix2 r l) := by
  obtain ⟨n, hn⟩ := t
  dsimp only at ht
  subst ht
  exact acc_3 m c hn r l
theorem finalO : (dats m 0 c).arrAt 8 cfg0.N = FO m c := by
  refine (dats m 0 c).arrAt_eq_of_covers 8 (FO m c) (by decide +kernel) fun t hf y => ?_
  have ht : t.val = 3 := (by decide +kernel : ∀ t : Fin cfg0.N, (cfg0.win 8).flush t = true → t.val = 3) t hf
  blk_simp
  rw [after0_8]
  have idx : win0_8.index t = ![0, 0] := (by decide +kernel : ∀ t : Fin grid0.N, win0_8.index t = ![0, 0]) t
  have e0 : (((cfg0.win 8).blk t).view.emb y 0 : ℕ) = (y 0).val := by blk_simp [idx]; try omega
  have e1 : (((cfg0.win 8).blk t).view.emb y 1 : ℕ) = (y 1).val := by blk_simp [idx]; try omega
  refine (congrArg (outsAt0 m c t.val t.isLt).1 (ix2_of y)).trans ((acc_last m c t ht (y 0) (y 1)).trans ?_)
  refine congrArg (FO m c) ?_
  rw [ix2_of (((cfg0.win 8).blk t).view.emb y)]
  exact congr (congrArg ix2 (Fin.ext e0.symm)) (Fin.ext e1.symm)
end

section
attribute [local instance] Cert.FfnMid.Gen.facts Cert.FfnMidIdeal.Gen.facts
/-- The two programs run the same bodies. -/
theorem same₀ : (Cert.FfnMid.defs₀ : Defs Cert.FfnMid.nD Cert.FfnMid.τ Cert.FfnMid.sig (Elt Bits) Cert.FfnMid.Λ₀) = (Cert.FfnMidIdeal.defs₀ (F := Bits)) := by
  unfold Cert.FfnMid.defs₀ Cert.FfnMidIdeal.defs₀
  refine congrArg Defs.onTc ?_
  funext p
  funext x
  match p, x with
  | 0, (t, s) => rfl
theorem same : (Cert.FfnMid.defs (F := Bits)) = (Cert.FfnMidIdeal.defs (F := Bits)) := congrArg (Pipeline.defs _) same₀
theorem frameK : Cert.quiescent_FfnMid (hFfnMid := Cert.FfnMid.Gen.facts) := by
  intro m ρ h
  rw [same]
  exact Cert.FfnMidIdeal.Gen.frame (F := Bits) m ρ
end
theorem frameI : Cert.quiescent_FfnMidIdeal := fun m ρ _ => Cert.FfnMidIdeal.Gen.frame m ρ
theorem frameR : Cert.quiescent_FfnMidReferenceIdeal := by
  intro m g _
  refine (θ_run _ _ _).mono (fun r h => ⟨fun c => (h c).2, sem_eq_zero_of_no_sems (by decide) r.2⟩) (Cert.FfnMidReferenceIdeal.Value.run m g)

theorem algebraic : Cert.algebraic_FfnMidIdeal_FfnMidReferenceIdeal := by
  intro m g m' g' _ hag
  refine ⟨FO m, ?_, ?_⟩
  · refine (θ_run _ _ _).mono (fun r h c => ?_) (Cert.FfnMidIdeal.Value.run_blocks m g)
    exact ⟨(h c).1.trans (finalO m c), (h c).2⟩
  · refine (θ_run _ _ _).mono (fun r h c => ?_) (Cert.FfnMidReferenceIdeal.Value.run m' g')
    obtain ⟨r0, rest⟩ := h c
    obtain ⟨h0, h1, h2, h3, h4, -⟩ := hag c
    refine ⟨r0.trans ?_, rest⟩
    rw [h0, h1, h2, h3, h4]
    funext i
    obtain ⟨a, b, rfl⟩ : ∃ a b, i = ix2 a b := ⟨_, _, ix2_of i⟩
    pointwise
    rfl
end Cert.M.Ffm
-- ==== Proof.M.Ffn.Body.lean ====
/- The feed-forward call's body with its offsets written out. -/
module

public import proofs.«01_k».proof.Proof.Gen.FfnIdeal.Skeleton

@[expose] public section

set_option synthInstance.maxSize 4096

noncomputable section

namespace Cert.FfnIdeal.Gen

open Idealize.ShloMosaic Idealize.SL.Sem

variable {F : FTy → Type} [FloatOps F]

theorem inb_S128x1_S128x1_0_0 : ∀ a, (![0, 0] : Fin 2 → Nat) a + S128x1.size a ≤ S128x1.size a := by decide
theorem packedbf16_S128x2048_S128x2048_0_0 : (Rect.unit (s := S128x2048) ![0, 0] S128x2048.size inb_S128x2048_S128x2048_0_0).PackedRows (EltTy.packing .bf16) := by decide

/-- The normalised and modulated rows, as the body stores them. -/
noncomputable def payH (x : Vec F S128x2048 .f32) (r : Vec F S128x1 .f32) (g : Vec F S1x1x2048 .f32) (sc : Vec F S128x2048 .f32) (sh : Vec F S128x2048 .f32) : FVec F S128x2048 .bf16 :=
  k0_pay1 (k0_pay6 x r g sc sh)

/-- The body with every offset written out: both loops over the rows run once, from row 0. -/
noncomputable def body (i : grid0.Coords) (arg2 : Memref sig .tc .vmem S128x2048 .f32) (harg2 : arg2.IsWhole) (arg3 : Memref sig .tc .vmem S1x1x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S2048x2048 .bf16) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S128x2048 .f32) (harg10 : arg10.IsWhole) (arg11 : Memref sig .tc .vmem S128x2048 .bf16) (harg11 : arg11.IsWhole) (arg12 : Memref sig .tc .vmem S128x1 .f32) (harg12 : arg12.IsWhole) :
    Prog (TpuEff nD τ sig (Elt F) Λ₀ .tc) PUnit := do
  let arg1 : BitVec 32 := BitVec.ofNat 32 (i 1).val
  let v0 : BitVec 1 := Scalar.cmpi .eq arg1 0#32
  let v1 : BitVec 32 := Scalar.extui v0
  let v2 : BitVec 1 := Scalar.cmpi .ne v1 0#32
  if k0_h1 : v2 = 1#1 then do
    let v19 : Vec F S128x2048 .f32 ← Prog.lift (.load arg2 (Rect.unit (s := S128x2048) ![0, 0] S128x2048.size inb_S128x2048_S128x2048_0_0).toLoadRect (View.loadsAt_vmem h_S128x2048))
    let v28 : Vec F S128x1 .f32 ← Prog.lift (.load arg12 (Rect.unit (s := S128x1) ![0, 0] S128x1.size inb_S128x1_S128x1_0_0).toLoadRect (View.loadsAt_vmem h_S128x1))
    Prog.lift (.store arg12 (Rect.unit (s := S128x1) ![0, 0] S128x1.size inb_S128x1_S128x1_0_0) (k0_pay5 v19) Finset.univ (View.stores_vmem_bits_univ h_S128x1 rfl) (.inl rfl))
    let v31 : Vec F S128x2048 .f32 ← Prog.lift (.load arg2 (Rect.unit (s := S128x2048) ![0, 0] S128x2048.size inb_S128x2048_S128x2048_0_0).toLoadRect (View.loadsAt_vmem h_S128x2048))
    let v32 : Vec F S128x1 .f32 ← Prog.lift (.load arg12 (Rect.unit (s := S128x1) ![0, 0] S128x1.size inb_S128x1_S128x1_0_0).toLoadRect (View.loadsAt_vmem h_S128x1))
    let v35 : Vec F S1x1x2048 .f32 ← Prog.lift (.load arg3 (Rect.unit (s := S1x1x2048) ![0, 0, 0] S1x1x2048.size inb_S1x1x2048_S1x1x2048_0_0_0).toLoadRect (View.loadsAt_vmem h_S1x1x2048))
    let v39 : Vec F S128x2048 .f32 ← Prog.lift (.load arg4 (Rect.unit (s := S128x2048) ![0, 0] S128x2048.size inb_S128x2048_S128x2048_0_0).toLoadRect (View.loadsAt_vmem h_S128x2048))
    let v40 : Vec F S128x2048 .f32 ← Prog.lift (.load arg5 (Rect.unit (s := S128x2048) ![0, 0] S128x2048.size inb_S128x2048_S128x2048_0_0).toLoadRect (View.loadsAt_vmem h_S128x2048))
    let v46 : Vec F S128x2048 .bf16 ← Prog.lift (.load arg11 (Rect.unit (s := S128x2048) ![0, 0] S128x2048.size inb_S128x2048_S128x2048_0_0).toLoadRect (View.loadsAt_vmem h_S128x2048))
    Prog.lift (.store arg11 (Rect.unit (s := S128x2048) ![0, 0] S128x2048.size inb_S128x2048_S128x2048_0_0) (payH v31 v32 v35 v39 v40) Finset.univ (View.stores_vmem h_S128x2048 (harg11.storeExact_slice rfl _ packedbf16_S128x2048_S128x2048_0_0) (fun _ => rfl)) (.inl rfl))
    let v50 : Vec F S128x2048 .f32 ← Prog.lift (.load arg10 (Rect.unit (s := S128x2048) ![0, 0] S128x2048.size inb_S128x2048_S128x2048_0_0).toLoadRect (View.loadsAt_vmem h_S128x2048))
    Prog.lift (.store arg10 (Rect.unit (s := S128x2048) ![0, 0] S128x2048.size inb_S128x2048_S128x2048_0_0) (k0_pay2 (F := F)) Finset.univ (View.stores_vmem_bits_univ h_S128x2048 rfl) (.inl rfl))
    pure ⟨⟩
  else do                                                               -- } else {
    pure ⟨⟩
  let v3 : Vec F S128x2048 .bf16 ← Prog.lift (.load arg11 (Rect.unit (s := S128x2048) ![0, 0] S128x2048.size inb_S128x2048_S128x2048_0_0).toLoadRect (View.loadsAt_vmem h_S128x2048))
  let v4 : Vec F S2048x2048 .bf16 ← Prog.lift (.load arg7 (Rect.unit (s := S2048x2048) ![0, 0] S2048x2048.size inb_S2048x2048_S2048x2048_0_0).toLoadRect (View.loadsAt_vmem h_S2048x2048))
  let v9 : Vec F S128x2048 .f32 ← Prog.lift (.load arg10 (Rect.unit (s := S128x2048) ![0, 0] S128x2048.size inb_S128x2048_S128x2048_0_0).toLoadRect (View.loadsAt_vmem h_S128x2048))
  let v12 : Vec F S2048x2048 .bf16 ← Prog.lift (.load arg8 (Rect.unit (s := S2048x2048) ![0, 0] S2048x2048.size inb_S2048x2048_S2048x2048_0_0).toLoadRect (View.loadsAt_vmem h_S2048x2048))
  let v15 : Vec F S128x2048 .f32 ← Prog.lift (.load arg10 (Rect.unit (s := S128x2048) ![0, 0] S128x2048.size inb_S128x2048_S128x2048_0_0).toLoadRect (View.loadsAt_vmem h_S128x2048))
  Prog.lift (.store arg10 (Rect.unit (s := S128x2048) ![0, 0] S128x2048.size inb_S128x2048_S128x2048_0_0) (k0_pay3 v3 v4 v9 v12) Finset.univ (View.stores_vmem_bits_univ h_S128x2048 rfl) (.inl rfl))
  let v16 : BitVec 1 := Scalar.cmpi .eq arg1 3#32
  let v17 : BitVec 32 := Scalar.extui v16
  let v18 : BitVec 1 := Scalar.cmpi .ne v17 0#32
  if k0_h2 : v18 = 1#1 then do
    let v19 : Vec F S128x2048 .f32 ← Prog.lift (.load arg6 (Rect.unit (s := S128x2048) ![0, 0] S128x2048.size inb_S128x2048_S128x2048_0_0).toLoadRect (View.loadsAt_vmem h_S128x2048))
    let v20 : Vec F S128x2048 .f32 ← Prog.lift (.load arg2 (Rect.unit (s := S128x2048) ![0, 0] S128x2048.size inb_S128x2048_S128x2048_0_0).toLoadRect (View.loadsAt_vmem h_S128x2048))
    let v21 : Vec F S128x2048 .f32 ← Prog.lift (.load arg10 (Rect.unit (s := S128x2048) ![0, 0] S128x2048.size inb_S128x2048_S128x2048_0_0).toLoadRect (View.loadsAt_vmem h_S128x2048))
    let v35 : Vec F S1x2048 .f32 ← Prog.lift (.load arg9 (Rect.unit (s := S1x2048) ![0, 0] S1x2048.size inb_S1x2048_S1x2048_0_0).toLoadRect (View.loadsAt_vmem h_S1x2048))
    let v39 : Vec F S128x2048 .f32 ← Prog.lift (.load arg10 (Rect.unit (s := S128x2048) ![0, 0] S128x2048.size inb_S128x2048_S128x2048_0_0).toLoadRect (View.loadsAt_vmem h_S128x2048))
    Prog.lift (.store arg10 (Rect.unit (s := S128x2048) ![0, 0] S128x2048.size inb_S128x2048_S128x2048_0_0) (k0_pay4 v19 v20 v21 v35) Finset.univ (View.stores_vmem_bits_univ h_S128x2048 rfl) (.inl rfl))
    pure ⟨⟩
  else do                                                               -- } else {
    pure ⟨⟩
  pure ⟨⟩

set_option maxRecDepth 65536 in
theorem body_eq : cc0_ffn_residual (F := F) = body (F := F) := rfl

end Cert.FfnIdeal.Gen

end
-- ==== Proof.M.Ffn.Runs.lean ====
/- The second feed-forward call: what the runs of its body share. The window blocks as the region finds them, the branch conditions over the
   four points, and the staging and scratch buffers. -/
module

public import proofs.«01_k».proof.Proof.Gen.FfnIdeal.Launch
public import proofs.«01_k».proof.Proof.M.Ffn.Body
public import proofs.«01_k».proof.Proof.Gen.FfnIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof data whose array is `V`'s. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof data whose array is `V`'s. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof data whose array is `V`'s. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof data whose array is `V`'s. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof data whose array is `V`'s. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof data whose array is `V`'s. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof data whose array is `V`'s. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof data whose array is `V`'s. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).1 4).trans (((dats 0 c).arrAt_in 4 rfl _).trans ((hA c 4).trans (V_main_arg2 m c))),
      ((h c).1 5).trans (((dats 0 c).arrAt_in 5 rfl _).trans ((hA c 5).trans (V_main_arg3 m c))),
      ((h c).1 6).trans (((dats 0 c).arrAt_in 6 rfl _).trans ((hA c 6).trans (V_main_arg4 m c))),
      ((h c).2 main_arg5 (Pipeline.mem_restRefs_of main_arg5 (by decide) (by decide))).trans (V_main_arg5 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the first point only — by arithmetic of the point. -/
theorem hcond0_0 : ∀ t : Fin cfg0.N, cond0_0 (grid0.coords t) ↔ t.val % 4 = 0 :=
  (fun t => by
    have ht : t.val < 4 := Nat.lt_of_lt_of_eq t.isLt N_0
    have e0 : (grid0.coords t 0).val = t.val / 4 % 1 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 4 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 3#32)) 0#32) = 1#1
/-- It holds at the last point only — by arithmetic of the point. -/
theorem hcond0_1 : ∀ t : Fin cfg0.N, cond0_1 (grid0.coords t) ↔ t.val % 4 = 3 :=
  (fun t => by
    have ht : t.val < 4 := Nat.lt_of_lt_of_eq t.isLt N_0
    have e0 : (grid0.coords t 0).val = t.val / 4 % 1 := Pipeline.Grid.coords_val t 0 (by decide) rfl
    have e1 : (grid0.coords t 1).val = t.val / 1 % 4 := Pipeline.Grid.coords_val t 1 (by decide) rfl
    simp only [cond0_1, e0, e1]
    word_cmp
   : ∀ t : Fin grid0.N, cond0_1 (grid0.coords t) ↔ t.val % 4 = 3)

/-! ## The kernel body on any staging memrefs: a subtype the run finds -/

/-- One staging buffer of output window 8, through which its contents are stated (`View.read_writes_of_cover`: the
    choice does not matter). -/
abbrev VO0_8 : View sig .tc .vmem S128x2048 .f32 := (Memref.whole cc0_stg8_0 : Memref sig .tc .vmem S128x2048 .f32).view
/-- Each window's current staging memref at point `t`, spelled as the pipeline passes it (`bodyAt0`), and its wholeness. -/
abbrev ms0_0 (t : Fin cfg0.N) : Memref sig .tc .vmem S128x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x2048 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x2048 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x2048 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S128x2048 .bf16 := Memref.whole cc0_scratch0
abbrev scM0_1 : Memref sig .tc .vmem S128x1 .f32 := Memref.whole cc0_scratch1
/-- The scratch `arg11` the kernel carries between points, as a view: what it holds is stated through it. -/
abbrev VS0_0 : View sig .tc .vmem S128x2048 .bf16 := scM0_0.view

/-- The frame kit's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.FfnIdeal.Gen

end
-- ==== Proof.M.Ffn.RunA.lean ====
/- The body's run at the first point: the rows are normalised, the output is cleared, one block of the hidden axis is added. -/
module

public import proofs.«01_k».proof.Proof.M.Ffn.Runs

@[expose] public section

-- membership in a rectangle of production extents (`View.cover_of_tiled`): the elaborator's structural look
-- recurses once per coordinate of the long axes
set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S128x2048 .f32) (harg2 : arg2.IsWhole) (arg3 : Memref sig .tc .vmem S1x1x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S2048x2048 .bf16) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S128x2048 .f32) (harg10 : arg10.IsWhole) (arg11 : Memref sig .tc .vmem S128x2048 .bf16) (harg11 : arg11.IsWhole) (arg12 : Memref sig .tc .vmem S128x1 .f32) (harg12 : arg12.IsWhole) (hc0 : cond0_0 i) (hc1 : ¬cond0_1 i)
    (x0 : Vec F S128x2048 .f32) (x1 : Vec F S1x1x2048 .f32) (x2 : Vec F S128x2048 .f32) (x3 : Vec F S128x2048 .f32) (x4 : Vec F S128x2048 .f32) (x5 : Vec F S2048x2048 .bf16) (x6 : Vec F S2048x2048 .bf16) (x7 : Vec F S1x2048 .f32) :
    Σ' (L8 : List (View.Piece (Elt F) S128x2048 .f32)), Σ' (LS0 : List (View.Piece (Elt F) S128x2048 .bf16)), { LT1 : List (View.Piece (Elt F) S128x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LT1)) -∗ K ⟨⟩))
          ⊢ wp frame (wpE (defs₀ (F := F)) Variants.none c none) E (cc0_ffn_residual i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [body_eq]; unfold body
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS0]; · iexists _; iexact HS0
    iexists _; iexact HS1

end Cert.FfnIdeal.Gen

end
-- ==== Proof.M.Ffn.RunB.lean ====
/- The body's run at the middle points: one block of the hidden axis is added. -/
module

public import proofs.«01_k».proof.Proof.M.Ffn.RunA

@[expose] public section

-- membership in a rectangle of production extents (`View.cover_of_tiled`): the elaborator's structural look
-- recurses once per coordinate of the long axes
set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2), WITH the
    proof that on whole staging memrefs — the inputs' at their contents, the outputs it reads before covering (8) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S128x2048 .f32) (harg2 : arg2.IsWhole) (arg3 : Memref sig .tc .vmem S1x1x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S2048x2048 .bf16) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S128x2048 .f32) (harg10 : arg10.IsWhole) (arg11 : Memref sig .tc .vmem S128x2048 .bf16) (harg11 : arg11.IsWhole) (arg12 : Memref sig .tc .vmem S128x1 .f32) (harg12 : arg12.IsWhole) (hc0 : ¬cond0_0 i) (hc1 : ¬cond0_1 i)
    (x0 : Vec F S128x2048 .f32) (x1 : Vec F S1x1x2048 .f32) (x2 : Vec F S128x2048 .f32) (x3 : Vec F S128x2048 .f32) (x4 : Vec F S128x2048 .f32) (x5 : Vec F S2048x2048 .bf16) (x6 : Vec F S2048x2048 .bf16) (x7 : Vec F S1x2048 .f32) (xo8 : Vec F S128x2048 .f32) (xs0 : Vec F S128x2048 .bf16) :
    Σ' (L8 : List (View.Piece (Elt F) S128x2048 .f32)), Σ' (LS0 : List (View.Piece (Elt F) S128x2048 .bf16)), { LT1 : List (View.Piece (Elt F) S128x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo8 ∗ owns (c : Thread nD τ) arg11 fullShare xs0 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare xs0 ∗ (∃ d, owns (c : Thread nD τ) arg12 fullShare d)) -∗ K ⟨⟩))
          ⊢ wp frame (wpE (defs₀ (F := F)) Variants.none c none) E (cc0_ffn_residual i arg2 harg2 arg3 harg3 arg4 harg4 arg5 harg5 arg6 harg6 arg7 harg7 arg8 harg8 arg9 harg9 arg10 harg10 arg11 harg11 arg12 harg12) K } := by
  refine ⟨?_, [], [], fun E K => ?run⟩
  case run =>
    simp only [body_eq]; unfold body
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS0]
    · iexists _; isplitr; · ipureintro; exact harg11.read_unread _
      iexact HS0
    iexists _, _; isplitr; swap; · iexact HS1
    ipureintro; rfl

end Cert.FfnIdeal.Gen

end
-- ==== Proof.M.Ffn.RunC.lean ====
/- The body's run at the last point: one block of the hidden axis is added, and the output is finished. -/
module

public import proofs.«01_k».proof.Proof.M.Ffn.RunB

@[expose] public section

-- membership in a rectangle of production extents (`View.cover_of_tiled`): the elaborator's structural look
-- recurses once per coordinate of the long axes
set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 3), WITH the
    proof that on whole staging memrefs — the inputs' at their contents, the outputs it reads before covering (8) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .vmem S128x2048 .f32) (harg2 : arg2.IsWhole) (arg3 : Memref sig .tc .vmem S1x1x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S2048x2048 .bf16) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S128x2048 .f32) (harg10 : arg10.IsWhole) (arg11 : Memref sig .tc .vmem S128x2048 .bf16) (harg11 : arg11.IsWhole) (arg12 : Memref sig .tc .vmem S128x1 .f32) (harg12 : arg12.IsWhole) (hc0 : ¬cond0_0 i) (hc1 : cond0_1 i)
    (x0 : Vec F S128x2048 .f32) (x1 : Vec F S1x1x2048 .f32) (x2 : Vec F S128x2048 .f32) (x3 : Vec F S128x2048 .f32) (x4 : Vec F S128x2048 .f32) (x5 : Vec F S2048x2048 .bf16) (x6 : Vec F S2048x2048 .bf16) (x7 : Vec F S1x2048 .f32) (xo8 : Vec F S128x2048 .f32) (xs0 : Vec F S128x2048 .bf16) :
    Σ' (L8 : List (View.Piece (Elt F) S128x2048 .f32)), Σ' (LS0 : List (View.Piece (Elt F) S128x2048 .bf16)), { LT1 : List (View.Piece (Elt F) S128x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo8 ∗ owns (c : Thread nD τ) arg11 fullShare xs0 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare xs0 ∗ (∃ d, owns (c : Thread nD τ) arg12 fullShare d)) -∗ K ⟨⟩))
          ⊢ wp frame (wpE (defs₀ (F := F)) Variants.none c none) E (cc0_ffn_residual i arg2 harg2 arg3 harg3 arg4 harg4 arg5 harg5 arg6 harg6 arg7 harg7 arg8 harg8 arg9 harg9 arg10 harg10 arg11 harg11 arg12 harg12) K } := by
  refine ⟨?_, [], [], fun E K => ?run⟩
  case run =>
    simp only [body_eq]; unfold body
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS0]
    · iexists _; isplitr; · ipureintro; exact harg11.read_unread _
      iexact HS0
    iexists _, _; isplitr; swap; · iexact HS1
    ipureintro; rfl

end Cert.FfnIdeal.Gen

end
-- ==== Proof.M.Ffn.Frame.lean ====
/- The frame of the feed-forward call: what the output and the carried rows hold after each point, the body's obligation at
   every point, and the frame itself. -/
module

public import proofs.«01_k».proof.Proof.M.Ffn.RunC
public import Idealize.ShloMosaic.Lib.Claim

@[expose] public section

-- membership in a rectangle of production extents (`View.cover_of_tiled`): the elaborator's structural look
-- recurses once per coordinate of the long axes
set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section
variable (c : Dev nD) (i : grid0.Coords) (arg2 : Memref sig .tc .vmem S128x2048 .f32) (harg2 : arg2.IsWhole) (arg3 : Memref sig .tc .vmem S1x1x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S2048x2048 .bf16) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S128x2048 .f32) (harg10 : arg10.IsWhole) (arg11 : Memref sig .tc .vmem S128x2048 .bf16) (harg11 : arg11.IsWhole) (arg12 : Memref sig .tc .vmem S128x1 .f32) (harg12 : arg12.IsWhole)
/-- Case A's pieces for output 8 tile its block. -/
theorem cover0_A_8 (hc0 : cond0_0 i) (hc1 : ¬cond0_1 i)
    (x0 : Vec F S128x2048 .f32) (x1 : Vec F S1x1x2048 .f32) (x2 : Vec F S128x2048 .f32) (x3 : Vec F S128x2048 .f32) (x4 : Vec F S128x2048 .f32) (x5 : Vec F S2048x2048 .bf16) (x6 : Vec F S2048x2048 .bf16) (x7 : Vec F S1x2048 .f32) (y : S128x2048.Idx) :
    ∃ pc ∈ (kernelRun0_A c i _ harg2 _ harg3 _ harg4 _ harg5 _ harg6 _ harg7 _ harg8 _ harg9 _ harg10 _ harg11 _ harg12 hc0 hc1 x0 x1 x2 x3 x4 x5 x6 x7).1, y ∈ pc.1.set :=
  View.cover_of_tiledL (kernelRun0_A c i _ harg2 _ harg3 _ harg4 _ harg5 _ harg6 _ harg7 _ harg8 _ harg9 _ harg10 _ harg11 _ harg12 hc0 hc1 x0 x1 x2 x3 x4 x5 x6 x7).1 S128x2048.size (by sl_kernel_rfl) y

/-- What case A leaves in output 8's staging buffer: its pieces read back over junk. -/
def out0_A_8 (hc0 : cond0_0 i) (hc1 : ¬cond0_1 i)
    (x0 : Vec F S128x2048 .f32) (x1 : Vec F S1x1x2048 .f32) (x2 : Vec F S128x2048 .f32) (x3 : Vec F S128x2048 .f32) (x4 : Vec F S128x2048 .f32) (x5 : Vec F S2048x2048 .bf16) (x6 : Vec F S2048x2048 .bf16) (x7 : Vec F S1x2048 .f32) : Vec F S128x2048 .f32 :=
  VO0_8.read (Elt F) (VO0_8.writes (Elt F) VO0_8.junk (kernelRun0_A c i _ harg2 _ harg3 _ harg4 _ harg5 _ harg6 _ harg7 _ harg8 _ harg9 _ harg10 _ harg11 _ harg12 hc0 hc1 x0 x1 x2 x3 x4 x5 x6 x7).1)

/-- Case A's pieces for scratch `arg11`, which the kernel carries between points, cover it. -/
theorem scover0_A_0 (hc0 : cond0_0 i) (hc1 : ¬cond0_1 i)
    (x0 : Vec F S128x2048 .f32) (x1 : Vec F S1x1x2048 .f32) (x2 : Vec F S128x2048 .f32) (x3 : Vec F S128x2048 .f32) (x4 : Vec F S128x2048 .f32) (x5 : Vec F S2048x2048 .bf16) (x6 : Vec F S2048x2048 .bf16) (x7 : Vec F S1x2048 .f32) (y : S128x2048.Idx) :
    ∃ pc ∈ (kernelRun0_A c i _ harg2 _ harg3 _ harg4 _ harg5 _ harg6 _ harg7 _ harg8 _ harg9 _ harg10 _ harg11 _ harg12 hc0 hc1 x0 x1 x2 x3 x4 x5 x6 x7).2.1, y ∈ pc.1.set :=
  View.cover_of_tiledL (kernelRun0_A c i _ harg2 _ harg3 _ harg4 _ harg5 _ harg6 _ harg7 _ harg8 _ harg9 _ harg10 _ harg11 _ harg12 hc0 hc1 x0 x1 x2 x3 x4 x5 x6 x7).2.1 S128x2048.size (by sl_kernel_rfl) y

/-- What case A leaves in scratch `arg11`: its pieces read back over junk. -/
def sout0_A_0 (hc0 : cond0_0 i) (hc1 : ¬cond0_1 i)
    (x0 : Vec F S128x2048 .f32) (x1 : Vec F S1x1x2048 .f32) (x2 : Vec F S128x2048 .f32) (x3 : Vec F S128x2048 .f32) (x4 : Vec F S128x2048 .f32) (x5 : Vec F S2048x2048 .bf16) (x6 : Vec F S2048x2048 .bf16) (x7 : Vec F S1x2048 .f32) : Vec F S128x2048 .bf16 :=
  VS0_0.read (Elt F) (VS0_0.writes (Elt F) VS0_0.junk (kernelRun0_A c i _ harg2 _ harg3 _ harg4 _ harg5 _ harg6 _ harg7 _ harg8 _ harg9 _ harg10 _ harg11 _ harg12 hc0 hc1 x0 x1 x2 x3 x4 x5 x6 x7).2.1)

/-- Case B's pieces for output 8 tile its block. -/
theorem cover0_B_8 (hc0 : ¬cond0_0 i) (hc1 : ¬cond0_1 i)
    (x0 : Vec F S128x2048 .f32) (x1 : Vec F S1x1x2048 .f32) (x2 : Vec F S128x2048 .f32) (x3 : Vec F S128x2048 .f32) (x4 : Vec F S128x2048 .f32) (x5 : Vec F S2048x2048 .bf16) (x6 : Vec F S2048x2048 .bf16) (x7 : Vec F S1x2048 .f32) (xo8 : Vec F S128x2048 .f32) (xs0 : Vec F S128x2048 .bf16) (y : S128x2048.Idx) :
    ∃ pc ∈ (kernelRun0_B c i _ harg2 _ harg3 _ harg4 _ harg5 _ harg6 _ harg7 _ harg8 _ harg9 _ harg10 _ harg11 _ harg12 hc0 hc1 x0 x1 x2 x3 x4 x5 x6 x7 xo8 xs0).1, y ∈ pc.1.set :=
  View.cover_of_tiledL (kernelRun0_B c i _ harg2 _ harg3 _ harg4 _ harg5 _ harg6 _ harg7 _ harg8 _ harg9 _ harg10 _ harg11 _ harg12 hc0 hc1 x0 x1 x2 x3 x4 x5 x6 x7 xo8 xs0).1 S128x2048.size (by sl_kernel_rfl) y

/-- What case B leaves in output 8's staging buffer: its pieces read back over junk. -/
def out0_B_8 (hc0 : ¬cond0_0 i) (hc1 : ¬cond0_1 i)
    (x0 : Vec F S128x2048 .f32) (x1 : Vec F S1x1x2048 .f32) (x2 : Vec F S128x2048 .f32) (x3 : Vec F S128x2048 .f32) (x4 : Vec F S128x2048 .f32) (x5 : Vec F S2048x2048 .bf16) (x6 : Vec F S2048x2048 .bf16) (x7 : Vec F S1x2048 .f32) (xo8 : Vec F S128x2048 .f32) (xs0 : Vec F S128x2048 .bf16) : Vec F S128x2048 .f32 :=
  VO0_8.read (Elt F) (VO0_8.writes (Elt F) VO0_8.junk (kernelRun0_B c i _ harg2 _ harg3 _ harg4 _ harg5 _ harg6 _ harg7 _ harg8 _ harg9 _ harg10 _ harg11 _ harg12 hc0 hc1 x0 x1 x2 x3 x4 x5 x6 x7 xo8 xs0).1)

/-- Case C's pieces for output 8 tile its block. -/
theorem cover0_C_8 (hc0 : ¬cond0_0 i) (hc1 : cond0_1 i)
    (x0 : Vec F S128x2048 .f32) (x1 : Vec F S1x1x2048 .f32) (x2 : Vec F S128x2048 .f32) (x3 : Vec F S128x2048 .f32) (x4 : Vec F S128x2048 .f32) (x5 : Vec F S2048x2048 .bf16) (x6 : Vec F S2048x2048 .bf16) (x7 : Vec F S1x2048 .f32) (xo8 : Vec F S128x2048 .f32) (xs0 : Vec F S128x2048 .bf16) (y : S128x2048.Idx) :
    ∃ pc ∈ (kernelRun0_C c i _ harg2 _ harg3 _ harg4 _ harg5 _ harg6 _ harg7 _ harg8 _ harg9 _ harg10 _ harg11 _ harg12 hc0 hc1 x0 x1 x2 x3 x4 x5 x6 x7 xo8 xs0).1, y ∈ pc.1.set :=
  View.cover_of_tiledL (kernelRun0_C c i _ harg2 _ harg3 _ harg4 _ harg5 _ harg6 _ harg7 _ harg8 _ harg9 _ harg10 _ harg11 _ harg12 hc0 hc1 x0 x1 x2 x3 x4 x5 x6 x7 xo8 xs0).1 S128x2048.size (by sl_kernel_rfl) y

/-- What case C leaves in output 8's staging buffer: its pieces read back over junk. -/
def out0_C_8 (hc0 : ¬cond0_0 i) (hc1 : cond0_1 i)
    (x0 : Vec F S128x2048 .f32) (x1 : Vec F S1x1x2048 .f32) (x2 : Vec F S128x2048 .f32) (x3 : Vec F S128x2048 .f32) (x4 : Vec F S128x2048 .f32) (x5 : Vec F S2048x2048 .bf16) (x6 : Vec F S2048x2048 .bf16) (x7 : Vec F S1x2048 .f32) (xo8 : Vec F S128x2048 .f32) (xs0 : Vec F S128x2048 .bf16) : Vec F S128x2048 .f32 :=
  VO0_8.read (Elt F) (VO0_8.writes (Elt F) VO0_8.junk (kernelRun0_C c i _ harg2 _ harg3 _ harg4 _ harg5 _ harg6 _ harg7 _ harg8 _ harg9 _ harg10 _ harg11 _ harg12 hc0 hc1 x0 x1 x2 x3 x4 x5 x6 x7 xo8 xs0).1)

end

/-! ## What the outputs hold after each point -/

/-- THE ACCUMULATION. -/
def outsAt0 (c : Dev nD) : (n : ℕ) → n < cfg0.N → Vec F S128x2048 .f32 × Vec F S128x2048 .bf16
  | 0, hn => (out0_A_8 c (grid0.coords ⟨0, hn⟩) _ (hs0_0 ⟨0, hn⟩) _ (hs0_1 ⟨0, hn⟩) _ (hs0_2 ⟨0, hn⟩) _ (hs0_3 ⟨0, hn⟩) _ (hs0_4 ⟨0, hn⟩) _ (hs0_5 ⟨0, hn⟩) _ (hs0_6 ⟨0, hn⟩) _ (hs0_7 ⟨0, hn⟩) _ (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_0 c (grid0.coords ⟨0, hn⟩) _ (hs0_0 ⟨0, hn⟩) _ (hs0_1 ⟨0, hn⟩) _ (hs0_2 ⟨0, hn⟩) _ (hs0_3 ⟨0, hn⟩) _ (hs0_4 ⟨0, hn⟩) _ (hs0_5 ⟨0, hn⟩) _ (hs0_6 ⟨0, hn⟩) _ (hs0_7 ⟨0, hn⟩) _ (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 4 = 0 then
      if h1 : (n + 1) % 4 = 3 then
        False.elim (by have hN : n + 1 < 4 := lt_of_lt_of_eq hn (show cfg0.N = 4 from N_0); omega)
      else
        (out0_A_8 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_0 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      if h1 : (n + 1) % 4 = 3 then
        (out0_C_8 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2, (outsAt0 c n (Nat.lt_of_succ_lt hn)).2)
      else
        (out0_B_8 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2, (outsAt0 c n (Nat.lt_of_succ_lt hn)).2)

/-- `outsAt0` at a point of case A: that case's contents. -/
theorem outsAt0_A (c : Dev nD) (t : Fin cfg0.N) (h0 : t.val % 4 = 0) (h1 : ¬t.val % 4 = 3) :
    outsAt0 m c t.val t.isLt = (out0_A_8 c (grid0.coords t) _ (hs0_0 t) _ (hs0_1 t) _ (hs0_2 t) _ (hs0_3 t) _ (hs0_4 t) _ (hs0_5 t) _ (hs0_6 t) _ (hs0_7 t) _ (hs0_8 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), sout0_A_0 c (grid0.coords t) _ (hs0_0 t) _ (hs0_1 t) _ (hs0_2 t) _ (hs0_3 t) _ (hs0_4 t) _ (hs0_5 t) _ (hs0_6 t) _ (hs0_7 t) _ (hs0_8 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 4 = 0) (h1 : ¬t.val % 4 = 3) :
    outsAt0 m c t.val t.isLt = (out0_B_8 c (grid0.coords t) _ (hs0_0 t) _ (hs0_1 t) _ (hs0_2 t) _ (hs0_3 t) _ (hs0_4 t) _ (hs0_5 t) _ (hs0_6 t) _ (hs0_7 t) _ (hs0_8 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2, (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 4 = 0) (h1 : t.val % 4 = 3) :
    outsAt0 m c t.val t.isLt = (out0_C_8 c (grid0.coords t) _ (hs0_0 t) _ (hs0_1 t) _ (hs0_2 t) _ (hs0_3 t) _ (hs0_4 t) _ (hs0_5 t) _ (hs0_6 t) _ (hs0_7 t) _ (hs0_8 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2, (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2) ∗ (∃ d, owns (c : Thread nD τ) scM0_1 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2) ∗ (∃ d, owns (c : Thread nD τ) scM0_1 fullShare d)) ∗ (∃ r, prngReg c r)) := by
  cases n with
  | zero => exact absurd rfl hz
  | succ n => rfl

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
  Φ t := PhiS m c t.val (Nat.le_of_lt_succ t.isLt)
  q w := Pipeline.shareOf spec0 w
  owed _ := 0

/-- The proof data's arrays are the region-entry contents. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
/-- At a point of case B output 8's current staging buffer holds what the body left at the point before. -/
theorem before0_8_B (c : Dev nD) (t : Fin cfg0.N) (h0 : ¬t.val % 4 = 0) (h1 : ¬t.val % 4 = 3) (d) :
    (dats m 0 c).before 8 t d = (outsAt0 m c (t.val - 1) (Nat.lt_of_le_of_lt (Nat.sub_le _ _) t.isLt)).1 := by
  have hN : t.val < 4 := lt_of_lt_of_eq t.isLt (show cfg0.N = 4 from N_0)
  rw [Dat.before_out_kept _ 8 rfl t (by omega) (Bool.eq_false_iff.mpr fun h => by have := (flush0_8 _).mp h; dsimp only at this; omega)
    (fun _ => rfl) (fun _ _ => rfl)]
  dsimp only [dats]
/-- At a point of case C output 8's current staging buffer holds what the body left at the point before. -/
theorem before0_8_C (c : Dev nD) (t : Fin cfg0.N) (h0 : ¬t.val % 4 = 0) (h1 : t.val % 4 = 3) (d) :
    (dats m 0 c).before 8 t d = (outsAt0 m c (t.val - 1) (Nat.lt_of_le_of_lt (Nat.sub_le _ _) t.isLt)).1 := by
  have hN : t.val < 4 := lt_of_lt_of_eq t.isLt (show cfg0.N = 4 from N_0)
  rw [Dat.before_out_kept _ 8 rfl t (by omega) (Bool.eq_false_iff.mpr fun h => by have := (flush0_8 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 9600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8]
  rw [show (dats m 0 c).Φ t.succ = PhiS m c (t.val + 1) t.isLt from rfl, PhiS_succ]
  have hN : t.val < 4 := lt_of_lt_of_eq t.isLt (show cfg0.N = 4 from N_0)
  by_cases h0 : t.val % 4 = 0
  · by_cases h1 : t.val % 4 = 3
    · exfalso; omega
    · by_cases hz : t.val = 0
      · rw [PhiS_castSucc m c t, PhiS_zero m c _ _ hz, PhiA0_eq]
        rw [outsAt0_A m c t h0 h1]
        unfold out0_A_8 sout0_A_0; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [HS0]; · iexact HS0
        isplitl [HS1]; · iexact HS1
        iintro ⟨H0, H1, H2, H3, H4, H5, H6, H7, ⟨%e8, H8⟩, ⟨%es0, HS0⟩, ⟨%fT1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _)
            iexists _; unfold owns; iexists _; isplitr
            swap; · iexact HS1
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _)
      · exfalso; have hN : t.val < 4 := lt_of_lt_of_eq t.isLt (show cfg0.N = 4 from N_0); omega
  · by_cases h1 : t.val % 4 = 3
    · by_cases hz : t.val = 0
      · exfalso; have hN : t.val < 4 := lt_of_lt_of_eq t.isLt (show cfg0.N = 4 from N_0); omega
      · rw [PhiS_castSucc m c t, PhiS_pos m c _ _ hz]
        rw [outsAt0_C m c t h0 h1]
        simp only [before0_8_C m c t h0 h1]
        unfold out0_C_8; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_C c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) _ _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexact HS1
        iintro ⟨H0, H1, H2, H3, H4, H5, H6, H7, ⟨%e8, H8⟩, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        unfold owns; iexists _; isplitr
        swap; · iexact H8
        ipureintro; exact View.read_writes_of_cover _ _ _ _ _ (cover0_C_8 c _ _ _ _ _ _ _ _ _ _ _ _ _ _ _ _ _ _ _ _ _ _ _ _ _ _ _ _ _ _ _ _ _ _ _)
    · by_cases hz : t.val = 0
      · exfalso; have hN : t.val < 4 := lt_of_lt_of_eq t.isLt (show cfg0.N = 4 from N_0); omega
      · rw [PhiS_castSucc m c t, PhiS_pos m c _ _ hz]
        rw [outsAt0_B m c t h0 h1]
        simp only [before0_8_B m c t h0 h1]
        unfold out0_B_8; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_B c (grid0.coords t) _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) _ _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexact HS1
        iintro ⟨H0, H1, H2, H3, H4, H5, H6, H7, ⟨%e8, H8⟩, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 4 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.FfnIdeal.Gen

end
-- ==== Proof.M.Ffn.Value.lean ====
/- The run's post-condition with the output array named. -/
module

public import proofs.«01_k».proof.Proof.M.Ffn.Frame
public import Idealize.ShloMosaic.Lib.Pipeline.Value

@[expose] public section

noncomputable section

namespace Cert.FfnIdeal.Value

open Cert.FfnIdeal Cert.FfnIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v2) = (dats m 0 c).arrAt 8 cfg0.N :=
  (h c).1 8

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 4 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 4).trans (((dats m 0 c).arrAt_in 4 rfl _).trans ((A_eq m c 4).trans (V_main_arg2 m c)))

/-- After the frame run, argument `main_arg3` is as launched: input window 5 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 5).trans (((dats m 0 c).arrAt_in 5 rfl _).trans ((A_eq m c 5).trans (V_main_arg3 m c)))

/-- After the frame run, argument `main_arg4` is as launched: input window 6 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 6).trans (((dats m 0 c).arrAt_in 6 rfl _).trans ((A_eq m c 6).trans (V_main_arg4 m c)))

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v2) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post8 m r h c,
      kept_main_arg0 m r h c,
      kept_main_arg1 m r h c,
      kept_main_arg2 m r h c,
      kept_main_arg3 m r h c,
      kept_main_arg4 m r h c,
      kept_main_arg5 m r h c⟩)
    (run_main m ρ)

end Cert.FfnIdeal.Value

end
-- ==== Proof.M.Ffn.lean ====
/- The feed-forward block of the last layer: the four blocks of the hidden axis accumulated beside the whole product. -/
module
public import proofs.«01_k».proof.Defs
public import proofs.«01_k».proof.Proof.Gen.Ffn
public import proofs.«01_k».proof.Proof.M.Ffn.Value
public import proofs.«01_k».proof.Proof.Gen.FfnReferenceIdeal.Run
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.M.Ix
@[expose] public section
set_option maxRecDepth 65536
set_option maxHeartbeats 2000000
noncomputable section
namespace Cert.M.Ffn
open Idealize.ShloMosaic Idealize.ShloMosaic.TcCoe Idealize.SL.Sem

section
open Cert.FfnIdeal Cert.FfnIdeal.Gen
variable (m : (ℓ : Loc nD τ sig) → Buf (Elt Ideal) ℓ) (c : Dev nD)

theorem entryG (l : Fin 2048) : V m c main_v0 (ix3 3 0 l) = m ((c : Thread nD τ).loc main_arg1) (ix2 3 l) := by
  simp only [V, List.flatten_cons, List.flatten_nil, List.append_nil, List.cons_append, List.nil_append]
  entry_read
  pointwise
theorem entryF (l : Fin 2048) : V m c main_v1 (ix2 0 l) = m ((c : Thread nD τ).loc main_arg5) (ix1 l) := by
  simp only [V, List.flatten_cons, List.flatten_nil, List.append_nil, List.cons_append, List.nil_append]
  entry_read
  pointwise

variable (t : Fin cfg0.N)

theorem blkX (r : Fin 128) (k : Fin 2048) : iblk m c 0 t (ix2 r k) = m ((c : Thread nD τ).loc main_arg0) (ix2 r k) := by
  have idx : win0_0.index t = ![0, 0] := (by decide +kernel : ∀ t : Fin grid0.N, win0_0.index t = ![0, 0]) t
  blk_ext [iblk, V_main_arg0, idx]
theorem blkG (l : Fin 2048) : iblk m c 1 t (ix3 0 0 l) = m ((c : Thread nD τ).loc main_arg1) (ix2 3 l) := by
  refine Eq.trans ?_ (entryG m c l)
  have idx : win0_1.index t = ![3, 0, 0] := (by decide +kernel : ∀ t : Fin grid0.N, win0_1.index t = ![3, 0, 0]) t
  blk_ext [iblk, idx]
theorem blkS (r : Fin 128) (l : Fin 2048) : iblk m c 2 t (ix2 r l) = m ((c : Thread nD τ).loc main_arg2) (ix2 r ⟨8192 + l.val, by omega⟩) := by
  have idx : win0_2.index t = ![0, 4] := (by decide +kernel : ∀ t : Fin grid0.N, win0_2.index t = ![0, 4]) t
  blk_ext [iblk, V_main_arg2, idx]
theorem blkH (r : Fin 128) (l : Fin 2048) : iblk m c 3 t (ix2 r l) = m ((c : Thread nD τ).loc main_arg2) (ix2 r ⟨6144 + l.val, by omega⟩) := by
  have idx : win0_3.index t = ![0, 3] := (by decide +kernel : ∀ t : Fin grid0.N, win0_3.index t = ![0, 3]) t
  blk_ext [iblk, V_main_arg2, idx]
theorem blkT (r : Fin 128) (l : Fin 2048) : iblk m c 4 t (ix2 r l) = m ((c : Thread nD τ).loc main_arg2) (ix2 r ⟨10240 + l.val, by omega⟩) := by
  have idx : win0_4.index t = ![0, 5] := (by decide +kernel : ∀ t : Fin grid0.N, win0_4.index t = ![0, 5]) t
  blk_ext [iblk, V_main_arg2, idx]
theorem lt4 : t.val < 4 := lt_of_lt_of_eq t.isLt N_0
theorem blkU (k f : Fin 2048) : iblk m c 5 t (ix2 k f) = m ((c : Thread nD τ).loc main_arg3) (ix2 k ⟨t.val * 2048 + f.val, by have := lt4 t; omega⟩) := by
  have idx : win0_5.index t = ![0, t.val] := (by decide +kernel : ∀ t : Fin grid0.N, win0_5.index t = ![0, t.val]) t
  blk_ext [iblk, V_main_arg3, idx]
theorem blkD (f j : Fin 2048) : iblk m c 6 t (ix2 f j) = m ((c : Thread nD τ).loc main_arg4) (ix2 ⟨t.val * 2048 + f.val, by have := lt4 t; omega⟩ j) := by
  have idx : win0_6.index t = ![t.val, 0] := (by decide +kernel : ∀ t : Fin grid0.N, win0_6.index t = ![t.val, 0]) t
  blk_ext [iblk, V_main_arg4, idx]
theorem blkF (l : Fin 2048) : iblk m c 7 t (ix2 0 l) = m ((c : Thread nD τ).loc main_arg5) (ix1 l) := by
  refine Eq.trans ?_ (entryF m c l)
  have idx : win0_7.index t = ![0, 0] := (by decide +kernel : ∀ t : Fin grid0.N, win0_7.index t = ![0, 0]) t
  blk_ext [iblk, idx]

/-- What the first point leaves: the rows for all points, and the first block's part of the product. -/
theorem first_rows (h0 : t.val % 4 = 0) (h1 : ¬t.val % 4 = 3) (r : Fin 128) (l : Fin 2048) :
    (outsAt0 m c t.val t.isLt).2 (ix2 r l) = payH (iblk m c 0 t) (k0_pay5 (iblk m c 0 t)) (iblk m c 1 t) (iblk m c 2 t) (iblk m c 3 t) (ix2 r l) := by
  rw [outsAt0_A m c t h0 h1]
  unfold sout0_A_0
  frame_open
  simp (disch := decide) only [↓ View.readCov_skip, ↓ View.readCov_cons_toLoadRect, ↓ View.readCov_fill]
  frame_out
theorem first_acc (h0 : t.val % 4 = 0) (h1 : ¬t.val % 4 = 3) (r : Fin 128) (l : Fin 2048) :
    (outsAt0 m c t.val t.isLt).1 (ix2 r l) = k0_pay3 (payH (iblk m c 0 t) (k0_pay5 (iblk m c 0 t)) (iblk m c 1 t) (iblk m c 2 t) (iblk m c 3 t)) (iblk m c 5 t) (k0_pay2 (F := Ideal)) (iblk m c 6 t) (ix2 r l) := by
  rw [outsAt0_A m c t h0 h1]
  unfold out0_A_8
  frame_open
  simp (disch := decide) only [↓ View.readCov_skip, ↓ View.readCov_cons_toLoadRect, ↓ View.readCov_fill]
  frame_out
/-- What a middle point leaves, over what the point before left. -/
theorem mid_acc (h0 : ¬t.val % 4 = 0) (h1 : ¬t.val % 4 = 3) (r : Fin 128) (l : Fin 2048) :
    (outsAt0 m c t.val t.isLt).1 (ix2 r l) = k0_pay3 (outsAt0 m c (t.val - 1) (by omega)).2 (iblk m c 5 t) (outsAt0 m c (t.val - 1) (by omega)).1 (iblk m c 6 t) (ix2 r l) := by
  rw [outsAt0_B m c t h0 h1]
  unfold out0_B_8
  frame_open
  simp (disch := decide) only [↓ View.readCov_skip, ↓ View.readCov_cons_toLoadRect, ↓ View.readCov_fill]
  frame_out
  rw [read_unread_whole]
/-- What the last point leaves, over what the point before left. -/
theorem last_acc (h0 : ¬t.val % 4 = 0) (h1 : t.val % 4 = 3) (r : Fin 128) (l : Fin 2048) :
    (outsAt0 m c t.val t.isLt).1 (ix2 r l) = k0_pay4 (iblk m c 4 t) (iblk m c 0 t) (k0_pay3 (outsAt0 m c (t.val - 1) (by omega)).2 (iblk m c 5 t) (outsAt0 m c (t.val - 1) (by omega)).1 (iblk m c 6 t)) (iblk m c 7 t) (ix2 r l) := by
  rw [outsAt0_C m c t h0 h1]
  unfold out0_C_8
  frame_open
  simp (disch := decide) only [↓ View.readCov_skip, ↓ View.readCov_cons_toLoadRect, ↓ View.readCov_fill]
  frame_out
  rw [read_unread_whole]
theorem rows_kept (h0 : ¬t.val % 4 = 0) : (outsAt0 m c t.val t.isLt).2 = (outsAt0 m c (t.val - 1) (by omega)).2 := by
  by_cases h1 : t.val % 4 = 3
  · rw [outsAt0_C m c t h0 h1]
  · rw [outsAt0_B m c t h0 h1]

/-- The literals for the width of a row and for the norm's offset. -/
def width : EReal := Ideal.ofBits .f32 0x45000000#32
def eps : EReal := Ideal.ofBits .f32 0x358637BD#32
/-- The reciprocal root of a row's mean square. -/
def inv (x : Fin 2048 → EReal) : EReal := Ideal.rsqrt (Ideal.div (∑ k : Fin 2048, x k * x k) width + eps)

section
variable (x : FVec Ideal ⟨2, ![128, 2048]⟩ .f32) (g : FVec Ideal ⟨2, ![4, 2048]⟩ .f32) (md : FVec Ideal ⟨2, ![128, 12288]⟩ .f32)
  (wu : FVec Ideal ⟨2, ![2048, 8192]⟩ .bf16) (wd : FVec Ideal ⟨2, ![8192, 2048]⟩ .bf16) (fg : FVec Ideal ⟨1, ![2048]⟩ .f32)
/-- A row under its norm, scaled and shifted by the modulation. -/
def hrow (r : Fin 128) (l : Fin 2048) : EReal :=
  x (ix2 r l) * inv (fun k => x (ix2 r k)) * g (ix2 3 l) * (1 + md (ix2 r ⟨8192 + l.val, by omega⟩)) + md (ix2 r ⟨6144 + l.val, by omega⟩)
/-- The hidden unit: the rectified projection. -/
def hid (r : Fin 128) (f : Fin 8192) : EReal := max (∑ k : Fin 2048, hrow x g md r k * wu (ix2 k f)) 0
/-- A hidden unit's part of an output. -/
def term (r : Fin 128) (l : Fin 2048) (f : Fin 8192) : EReal := hid x g md wu r f * hid x g md wu r f * wd (ix2 f l)
/-- One block's part of an output. -/
def part (r : Fin 128) (l : Fin 2048) (q : Fin 4) : EReal := ∑ f : Fin 2048, term x g md wu wd r l ⟨q.val * 2048 + f.val, by omega⟩
/-- The residual stream after the block, for a given product. -/
def res (p : Fin 2048 → EReal) (r : Fin 128) (l : Fin 2048) : EReal := x (ix2 r l) + md (ix2 r ⟨10240 + l.val, by omega⟩) * p l
/-- The result: the residual stream under the final norm. -/
def out (p : Fin 2048 → EReal) (r : Fin 128) (l : Fin 2048) : EReal := res x md p r l * inv (res x md p r) * fg (ix1 l)
end

theorem pay_rows (r : Fin 128) (l : Fin 2048) :
    payH (iblk m c 0 t) (k0_pay5 (iblk m c 0 t)) (iblk m c 1 t) (iblk m c 2 t) (iblk m c 3 t) (ix2 r l)
      = hrow (m ((c : Thread nD τ).loc main_arg0)) (m ((c : Thread nD τ).loc main_arg1)) (m ((c : Thread nD τ).loc main_arg2)) r l := by
  unfold payH k0_pay1 k0_pay6 k0_pay5
  pointwise
  simp only [blkX, blkS, blkH, blkG]
  rfl
theorem pay_acc (h : Vec Ideal S128x2048 .bf16) (a : Vec Ideal S128x2048 .f32)
    (hh : ∀ r l, h (ix2 r l) = hrow (m ((c : Thread nD τ).loc main_arg0)) (m ((c : Thread nD τ).loc main_arg1)) (m ((c : Thread nD τ).loc main_arg2)) r l)
    (r : Fin 128) (l : Fin 2048) :
    k0_pay3 h (iblk m c 5 t) a (iblk m c 6 t) (ix2 r l)
      = a (ix2 r l) + part (m ((c : Thread nD τ).loc main_arg0)) (m ((c : Thread nD τ).loc main_arg1)) (m ((c : Thread nD τ).loc main_arg2)) (m ((c : Thread nD τ).loc main_arg3)) (m ((c : Thread nD τ).loc main_arg4)) r l ⟨t.val, lt4 t⟩ := by
  unfold k0_pay3
  pointwise
  simp only [blkU, blkD, hh]
  rfl
theorem pay_fin (a : Vec Ideal S128x2048 .f32) (r : Fin 128) (l : Fin 2048) :
    k0_pay4 (iblk m c 4 t) (iblk m c 0 t) a (iblk m c 7 t) (ix2 r l)
      = out (m ((c : Thread nD τ).loc main_arg0)) (m ((c : Thread nD τ).loc main_arg2)) (m ((c : Thread nD τ).loc main_arg5)) (fun k => a (ix2 r k)) r l := by
  unfold k0_pay4
  pointwise
  simp only [blkX, blkT, blkF]
  rfl

/-- The rows the first point leaves stay for all points. -/
theorem rows_at : ∀ (n : ℕ) (hn : n < cfg0.N) (r : Fin 128) (l : Fin 2048), (outsAt0 m c n hn).2 (ix2 r l) = hrow (m ((c : Thread nD τ).loc main_arg0)) (m ((c : Thread nD τ).loc main_arg1)) (m ((c : Thread nD τ).loc main_arg2)) r l
  | 0, hn, r, l => (first_rows m c ⟨0, hn⟩ rfl (by show ¬0 % 4 = 3; decide) r l).trans (pay_rows m c ⟨0, hn⟩ r l)
  | n + 1, hn, r, l => by
    have h4 := lt4 ⟨n + 1, hn⟩
    have h := rows_kept m c ⟨n + 1, hn⟩ (by dsimp only at h4 ⊢; omega)
    exact (congrFun h _).trans (rows_at n (by omega) r l)
theorem zero_at (r : Fin 128) (l : Fin 2048) : k0_pay2 (F := Ideal) (ix2 r l) = (0 : EReal) := by
  unfold k0_pay2
  pointwise
theorem acc_0 (hn : 0 < cfg0.N) (r : Fin 128) (l : Fin 2048) : (outsAt0 m c 0 hn).1 (ix2 r l) = part (m ((c : Thread nD τ).loc main_arg0)) (m ((c : Thread nD τ).loc main_arg1)) (m ((c : Thread nD τ).loc main_arg2)) (m ((c : Thread nD τ).loc main_arg3)) (m ((c : Thread nD τ).loc main_arg4)) r l 0 := by
  refine (first_acc m c ⟨0, hn⟩ rfl (by show ¬0 % 4 = 3; decide) r l).trans ((pay_acc m c ⟨0, hn⟩ _ _ (pay_rows m c ⟨0, hn⟩) r l).trans ?_)
  rw [zero_at, zero_add]
  rfl
theorem acc_mid (n : ℕ) (hn : n + 1 < cfg0.N) (h3 : n + 1 < 3) (r : Fin 128) (l : Fin 2048) :
    (outsAt0 m c (n + 1) hn).1 (ix2 r l) = (outsAt0 m c n (by omega)).1 (ix2 r l) + part (m ((c : Thread nD τ).loc main_arg0)) (m ((c : Thread nD τ).loc main_arg1)) (m ((c : Thread nD τ).loc main_arg2)) (m ((c : Thread nD τ).loc main_arg3)) (m ((c : Thread nD τ).loc main_arg4)) r l ⟨n + 1, by omega⟩ :=
  (mid_acc m c ⟨n + 1, hn⟩ (by dsimp only; omega) (by dsimp only; omega) r l).trans (pay_acc m c ⟨n + 1, hn⟩ _ _ (rows_at m c n (by omega)) r l)

theorem blk_lt {n k : ℕ} (q : Fin n) (j : Fin k) : q.val * k + j.val < n * k :=
  calc q.val * k + j.val < q.val * k + k := by omega
    _ = (q.val + 1) * k := (Nat.succ_mul _ _).symm
    _ ≤ n * k := Nat.mul_le_mul_right _ q.isLt
/-- A sum over the hidden axis is the sum of its blocks' sums. -/
theorem sum_blk {n k N : ℕ} (h : n * k = N) (f : Fin N → EReal) :
    ∑ i, f i = ∑ q : Fin n, ∑ j : Fin k, f ⟨q.val * k + j.val, h ▸ blk_lt q j⟩ := by
  subst h
  rw [← finProdFinEquiv.sum_comp, Fintype.sum_prod_type]
  refine Finset.sum_congr rfl fun q _ => Finset.sum_congr rfl fun j _ => congrArg f (Fin.ext ?_)
  show j.val + k * q.val = q.val * k + j.val
  rw [Nat.mul_comm, Nat.add_comm]

/-- The whole array after the run. -/
def FO : S128x2048.Idx → EReal := fun i =>
  out (m ((c : Thread nD τ).loc main_arg0)) (m ((c : Thread nD τ).loc main_arg2)) (m ((c : Thread nD τ).loc main_arg5)) (fun k => ∑ f : Fin 8192, term (m ((c : Thread nD τ).loc main_arg0)) (m ((c : Thread nD τ).loc main_arg1)) (m ((c : Thread nD τ).loc main_arg2)) (m ((c : Thread nD τ).loc main_arg3)) (m ((c : Thread nD τ).loc main_arg4)) (i 0) k f) (i 0) (i 1)
theorem acc_3 (hn : 3 < cfg0.N) (r : Fin 128) (l : Fin 2048) : (outsAt0 m c 3 hn).1 (ix2 r l) = FO m c (ix2 r l) := by
  refine (last_acc m c ⟨3, hn⟩ (by show ¬3 % 4 = 0; decide) rfl r l).trans ((pay_fin m c ⟨3, hn⟩ _ r l).trans ?_)
  show _ = out _ _ _ _ r l
  refine congrArg (fun p => out _ _ _ p r l) (funext fun k => ?_)
  refine (pay_acc m c ⟨3, hn⟩ _ _ (rows_at m c 2 (by omega)) r k).trans ?_
  show (outsAt0 m c 2 _).1 (ix2 r k) + _ = _
  rw [acc_mid m c 1 (by omega) (by omega), acc_mid m c 0 (by omega) (by omega), acc_0 m c (by omega), sum_blk (n := 4) (k := 2048) rfl, Fin.sum_univ_four]
  rfl

theorem acc_last (ht : t.val = 3) (r : Fin 128) (l : Fin 2048) : (outsAt0 m c t.val t.isLt).1 (ix2 r l) = FO m c (ix2 r l) := by
  obtain ⟨n, hn⟩ := t
  dsimp only at ht
  subst ht
  exact acc_3 m c hn r l
theorem finalO : (dats m 0 c).arrAt 8 cfg0.N = FO m c := by
  refine (dats m 0 c).arrAt_eq_of_covers 8 (FO m c) (by decide +kernel) fun t hf y => ?_
  have ht : t.val = 3 := (by decide +kernel : ∀ t : Fin cfg0.N, (cfg0.win 8).flush t = true → t.val = 3) t hf
  blk_simp
  rw [after0_8]
  have idx : win0_8.index t = ![0, 0] := (by decide +kernel : ∀ t : Fin grid0.N, win0_8.index t = ![0, 0]) t
  have e0 : (((cfg0.win 8).blk t).view.emb y 0 : ℕ) = (y 0).val := by blk_simp [idx]; try omega
  have e1 : (((cfg0.win 8).blk t).view.emb y 1 : ℕ) = (y 1).val := by blk_simp [idx]; try omega
  refine (congrArg (outsAt0 m c t.val t.isLt).1 (ix2_of y)).trans ((acc_last m c t ht (y 0) (y 1)).trans ?_)
  refine congrArg (FO m c) ?_
  rw [ix2_of (((cfg0.win 8).blk t).view.emb y)]
  exact congr (congrArg ix2 (Fin.ext e0.symm)) (Fin.ext e1.symm)
end

section
attribute [local instance] Cert.Ffn.Gen.facts Cert.FfnIdeal.Gen.facts
/-- The two programs run the same bodies. -/
theorem same₀ : (Cert.Ffn.defs₀ : Defs Cert.Ffn.nD Cert.Ffn.τ Cert.Ffn.sig (Elt Bits) Cert.Ffn.Λ₀) = (Cert.FfnIdeal.defs₀ (F := Bits)) := by
  unfold Cert.Ffn.defs₀ Cert.FfnIdeal.defs₀
  refine congrArg Defs.onTc ?_
  funext p
  funext x
  match p, x with
  | 0, (t, s) => rfl
theorem same : (Cert.Ffn.defs (F := Bits)) = (Cert.FfnIdeal.defs (F := Bits)) := congrArg (Pipeline.defs _) same₀
theorem frameK : Cert.quiescent_Ffn (hFfn := Cert.Ffn.Gen.facts) := by
  intro m ρ h
  rw [same]
  exact Cert.FfnIdeal.Gen.frame (F := Bits) m ρ
end
theorem frameI : Cert.quiescent_FfnIdeal := fun m ρ _ => Cert.FfnIdeal.Gen.frame m ρ
theorem frameR : Cert.quiescent_FfnReferenceIdeal := by
  intro m g _
  refine (θ_run _ _ _).mono (fun r h => ⟨fun c => (h c).2, sem_eq_zero_of_no_sems (by decide) r.2⟩) (Cert.FfnReferenceIdeal.Value.run m g)

theorem algebraic : Cert.algebraic_FfnIdeal_FfnReferenceIdeal := by
  intro m g m' g' _ hag
  refine ⟨FO m, ?_, ?_⟩
  · refine (θ_run _ _ _).mono (fun r h c => ?_) (Cert.FfnIdeal.Value.run_blocks m g)
    exact ⟨(h c).1.trans (finalO m c), (h c).2⟩
  · refine (θ_run _ _ _).mono (fun r h c => ?_) (Cert.FfnReferenceIdeal.Value.run m' g')
    obtain ⟨r0, rest⟩ := h c
    obtain ⟨h0, h1, h2, h3, h4, h5⟩ := hag c
    refine ⟨r0.trans ?_, rest⟩
    unfold Cert.FfnReferenceIdeal.Value.res_main_v42
    rw [h0, h1, h2, h3, h4, h5]
    funext i
    obtain ⟨a, b, rfl⟩ : ∃ a b, i = ix2 a b := ⟨_, _, ix2_of i⟩
    pointwise
    rfl
end Cert.M.Ffn
-- ==== Proof.M.FfnPrompt.Body.lean ====
/- The call's body with its offsets written out. -/
module

public import proofs.«01_k».proof.Proof.Gen.FfnPromptIdeal.Skeleton
public import Mathlib.Tactic.IntervalCases

@[expose] public section

set_option synthInstance.maxSize 4096

noncomputable section

namespace Cert.FfnPromptIdeal.Gen

open Idealize.ShloMosaic Idealize.SL.Sem

variable {F : FTy → Type} [FloatOps F]

theorem inb_S512x2048_S256x2048_0_0 : ∀ a, (![0, 0] : Fin 2 → Nat) a + S256x2048.size a ≤ S512x2048.size a := by decide
theorem inb_S512x2048_S256x2048_256_0 : ∀ a, (![256, 0] : Fin 2 → Nat) a + S256x2048.size a ≤ S512x2048.size a := by decide
theorem inb_S512x1_S256x1_0_0 : ∀ a, (![0, 0] : Fin 2 → Nat) a + S256x1.size a ≤ S512x1.size a := by decide
theorem inb_S512x1_S256x1_256_0 : ∀ a, (![256, 0] : Fin 2 → Nat) a + S256x1.size a ≤ S512x1.size a := by decide
theorem packedbf16_S512x2048_S256x2048_0_0 : (Rect.unit (s := S512x2048) ![0, 0] S256x2048.size inb_S512x2048_S256x2048_0_0).PackedRows (EltTy.packing .bf16) := by decide
theorem packedbf16_S512x2048_S256x2048_256_0 : (Rect.unit (s := S512x2048) ![256, 0] S256x2048.size inb_S512x2048_S256x2048_256_0).PackedRows (EltTy.packing .bf16) := by decide

/-- The body with every offset written out: the loops over the rows run twice each, from row 0 and from row 256. -/
noncomputable def body (i : grid0.Coords) (arg2 : Memref sig .tc .vmem S512x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x2048 .bf16) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .bf16) (harg11 : arg11.IsWhole) (arg12 : Memref sig .tc .vmem S512x1 .f32) (harg12 : arg12.IsWhole) :
    Prog (TpuEff nD τ sig (Elt F) Λ₀ .tc) PUnit := do
  let arg1 : BitVec 32 := BitVec.ofNat 32 (i 1).val
  let v0 : BitVec 1 := Scalar.cmpi .eq arg1 0#32
  let v1 : BitVec 32 := Scalar.extui v0
  let v2 : BitVec 1 := Scalar.cmpi .ne v1 0#32
  if k0_h1 : v2 = 1#1 then do
    let x0 : Vec F S256x2048 .f32 ← Prog.lift (.load arg2 (Rect.unit (s := S512x2048) ![0, 0] S256x2048.size inb_S512x2048_S256x2048_0_0).toLoadRect (View.loadsAt_vmem h_S256x2048))
    let y0 : Vec F S256x1 .f32 ← Prog.lift (.load arg12 (Rect.unit (s := S512x1) ![0, 0] S256x1.size inb_S512x1_S256x1_0_0).toLoadRect (View.loadsAt_vmem h_S256x1))
    Prog.lift (.store arg12 (Rect.unit (s := S512x1) ![0, 0] S256x1.size inb_S512x1_S256x1_0_0) (k0_pay1 x0) Finset.univ (View.stores_vmem_bits_univ h_S256x1 rfl) (.inl rfl))
    let x256 : Vec F S256x2048 .f32 ← Prog.lift (.load arg2 (Rect.unit (s := S512x2048) ![256, 0] S256x2048.size inb_S512x2048_S256x2048_256_0).toLoadRect (View.loadsAt_vmem h_S256x2048))
    let y256 : Vec F S256x1 .f32 ← Prog.lift (.load arg12 (Rect.unit (s := S512x1) ![256, 0] S256x1.size inb_S512x1_S256x1_256_0).toLoadRect (View.loadsAt_vmem h_S256x1))
    Prog.lift (.store arg12 (Rect.unit (s := S512x1) ![256, 0] S256x1.size inb_S512x1_S256x1_256_0) (k0_pay1 x256) Finset.univ (View.stores_vmem_bits_univ h_S256x1 rfl) (.inl rfl))
    let u0 : Vec F S256x2048 .f32 ← Prog.lift (.load arg2 (Rect.unit (s := S512x2048) ![0, 0] S256x2048.size inb_S512x2048_S256x2048_0_0).toLoadRect (View.loadsAt_vmem h_S256x2048))
    let n0 : Vec F S256x1 .f32 ← Prog.lift (.load arg12 (Rect.unit (s := S512x1) ![0, 0] S256x1.size inb_S512x1_S256x1_0_0).toLoadRect (View.loadsAt_vmem h_S256x1))
    let g0 : Vec F S1x1x2048 .f32 ← Prog.lift (.load arg3 (Rect.unit (s := S1x1x2048) ![0, 0, 0] S1x1x2048.size inb_S1x1x2048_S1x1x2048_0_0_0).toLoadRect (View.loadsAt_vmem h_S1x1x2048))
    let a0 : Vec F S1x1x2048 .f32 ← Prog.lift (.load arg4 (Rect.unit (s := S1x1x2048) ![0, 0, 0] S1x1x2048.size inb_S1x1x2048_S1x1x2048_0_0_0).toLoadRect (View.loadsAt_vmem h_S1x1x2048))
    let b0 : Vec F S1x1x2048 .f32 ← Prog.lift (.load arg5 (Rect.unit (s := S1x1x2048) ![0, 0, 0] S1x1x2048.size inb_S1x1x2048_S1x1x2048_0_0_0).toLoadRect (View.loadsAt_vmem h_S1x1x2048))
    let h0 : Vec F S256x2048 .bf16 ← Prog.lift (.load arg11 (Rect.unit (s := S512x2048) ![0, 0] S256x2048.size inb_S512x2048_S256x2048_0_0).toLoadRect (View.loadsAt_vmem h_S256x2048))
    Prog.lift (.store arg11 (Rect.unit (s := S512x2048) ![0, 0] S256x2048.size inb_S512x2048_S256x2048_0_0) (k0_pay2 u0 n0 g0 a0 b0) Finset.univ (View.stores_vmem h_S256x2048 (harg11.storeExact_slice rfl _ packedbf16_S512x2048_S256x2048_0_0) (fun _ => rfl)) (.inl rfl))
    let u256 : Vec F S256x2048 .f32 ← Prog.lift (.load arg2 (Rect.unit (s := S512x2048) ![256, 0] S256x2048.size inb_S512x2048_S256x2048_256_0).toLoadRect (View.loadsAt_vmem h_S256x2048))
    let n256 : Vec F S256x1 .f32 ← Prog.lift (.load arg12 (Rect.unit (s := S512x1) ![256, 0] S256x1.size inb_S512x1_S256x1_256_0).toLoadRect (View.loadsAt_vmem h_S256x1))
    let g256 : Vec F S1x1x2048 .f32 ← Prog.lift (.load arg3 (Rect.unit (s := S1x1x2048) ![0, 0, 0] S1x1x2048.size inb_S1x1x2048_S1x1x2048_0_0_0).toLoadRect (View.loadsAt_vmem h_S1x1x2048))
    let a256 : Vec F S1x1x2048 .f32 ← Prog.lift (.load arg4 (Rect.unit (s := S1x1x2048) ![0, 0, 0] S1x1x2048.size inb_S1x1x2048_S1x1x2048_0_0_0).toLoadRect (View.loadsAt_vmem h_S1x1x2048))
    let b256 : Vec F S1x1x2048 .f32 ← Prog.lift (.load arg5 (Rect.unit (s := S1x1x2048) ![0, 0, 0] S1x1x2048.size inb_S1x1x2048_S1x1x2048_0_0_0).toLoadRect (View.loadsAt_vmem h_S1x1x2048))
    let h256 : Vec F S256x2048 .bf16 ← Prog.lift (.load arg11 (Rect.unit (s := S512x2048) ![256, 0] S256x2048.size inb_S512x2048_S256x2048_256_0).toLoadRect (View.loadsAt_vmem h_S256x2048))
    Prog.lift (.store arg11 (Rect.unit (s := S512x2048) ![256, 0] S256x2048.size inb_S512x2048_S256x2048_256_0) (k0_pay2 u256 n256 g256 a256 b256) Finset.univ (View.stores_vmem h_S256x2048 (harg11.storeExact_slice rfl _ packedbf16_S512x2048_S256x2048_256_0) (fun _ => rfl)) (.inl rfl))
    let z : Vec F S512x2048 .f32 ← Prog.lift (.load arg10 (Rect.unit (s := S512x2048) ![0, 0] S512x2048.size inb_S512x2048_S512x2048_0_0).toLoadRect (View.loadsAt_vmem h_S512x2048))
    Prog.lift (.store arg10 (Rect.unit (s := S512x2048) ![0, 0] S512x2048.size inb_S512x2048_S512x2048_0_0) (k0_pay3 (F := F)) Finset.univ (View.stores_vmem_bits_univ h_S512x2048 rfl) (.inl rfl))
    pure ⟨⟩
  else do
    pure ⟨⟩
  let v3 : Vec F S512x2048 .bf16 ← Prog.lift (.load arg11 (Rect.unit (s := S512x2048) ![0, 0] S512x2048.size inb_S512x2048_S512x2048_0_0).toLoadRect (View.loadsAt_vmem h_S512x2048))
  let v4 : Vec F S2048x2048 .bf16 ← Prog.lift (.load arg7 (Rect.unit (s := S2048x2048) ![0, 0] S2048x2048.size inb_S2048x2048_S2048x2048_0_0).toLoadRect (View.loadsAt_vmem h_S2048x2048))
  let v9 : Vec F S512x2048 .f32 ← Prog.lift (.load arg10 (Rect.unit (s := S512x2048) ![0, 0] S512x2048.size inb_S512x2048_S512x2048_0_0).toLoadRect (View.loadsAt_vmem h_S512x2048))
  let v12 : Vec F S2048x2048 .bf16 ← Prog.lift (.load arg8 (Rect.unit (s := S2048x2048) ![0, 0] S2048x2048.size inb_S2048x2048_S2048x2048_0_0).toLoadRect (View.loadsAt_vmem h_S2048x2048))
  let v15 : Vec F S512x2048 .f32 ← Prog.lift (.load arg10 (Rect.unit (s := S512x2048) ![0, 0] S512x2048.size inb_S512x2048_S512x2048_0_0).toLoadRect (View.loadsAt_vmem h_S512x2048))
  Prog.lift (.store arg10 (Rect.unit (s := S512x2048) ![0, 0] S512x2048.size inb_S512x2048_S512x2048_0_0) (k0_pay4 v3 v4 v9 v12) Finset.univ (View.stores_vmem_bits_univ h_S512x2048 rfl) (.inl rfl))
  let v16 : BitVec 1 := Scalar.cmpi .eq arg1 3#32
  let v17 : BitVec 32 := Scalar.extui v16
  let v18 : BitVec 1 := Scalar.cmpi .ne v17 0#32
  if k0_h2 : v18 = 1#1 then do
    let t0 : Vec F S1x1x2048 .f32 ← Prog.lift (.load arg6 (Rect.unit (s := S1x1x2048) ![0, 0, 0] S1x1x2048.size inb_S1x1x2048_S1x1x2048_0_0_0).toLoadRect (View.loadsAt_vmem h_S1x1x2048))
    let x0 : Vec F S256x2048 .f32 ← Prog.lift (.load arg2 (Rect.unit (s := S512x2048) ![0, 0] S256x2048.size inb_S512x2048_S256x2048_0_0).toLoadRect (View.loadsAt_vmem h_S256x2048))
    let o0 : Vec F S256x2048 .f32 ← Prog.lift (.load arg10 (Rect.unit (s := S512x2048) ![0, 0] S256x2048.size inb_S512x2048_S256x2048_0_0).toLoadRect (View.loadsAt_vmem h_S256x2048))
    let f0 : Vec F S1x2048 .f32 ← Prog.lift (.load arg9 (Rect.unit (s := S1x2048) ![0, 0] S1x2048.size inb_S1x2048_S1x2048_0_0).toLoadRect (View.loadsAt_vmem h_S1x2048))
    let w0 : Vec F S256x2048 .f32 ← Prog.lift (.load arg10 (Rect.unit (s := S512x2048) ![0, 0] S256x2048.size inb_S512x2048_S256x2048_0_0).toLoadRect (View.loadsAt_vmem h_S256x2048))
    Prog.lift (.store arg10 (Rect.unit (s := S512x2048) ![0, 0] S256x2048.size inb_S512x2048_S256x2048_0_0) (k0_pay5 t0 x0 o0 f0) Finset.univ (View.stores_vmem_bits_univ h_S256x2048 rfl) (.inl rfl))
    let t256 : Vec F S1x1x2048 .f32 ← Prog.lift (.load arg6 (Rect.unit (s := S1x1x2048) ![0, 0, 0] S1x1x2048.size inb_S1x1x2048_S1x1x2048_0_0_0).toLoadRect (View.loadsAt_vmem h_S1x1x2048))
    let x256 : Vec F S256x2048 .f32 ← Prog.lift (.load arg2 (Rect.unit (s := S512x2048) ![256, 0] S256x2048.size inb_S512x2048_S256x2048_256_0).toLoadRect (View.loadsAt_vmem h_S256x2048))
    let o256 : Vec F S256x2048 .f32 ← Prog.lift (.load arg10 (Rect.unit (s := S512x2048) ![256, 0] S256x2048.size inb_S512x2048_S256x2048_256_0).toLoadRect (View.loadsAt_vmem h_S256x2048))
    let f256 : Vec F S1x2048 .f32 ← Prog.lift (.load arg9 (Rect.unit (s := S1x2048) ![0, 0] S1x2048.size inb_S1x2048_S1x2048_0_0).toLoadRect (View.loadsAt_vmem h_S1x2048))
    let w256 : Vec F S256x2048 .f32 ← Prog.lift (.load arg10 (Rect.unit (s := S512x2048) ![256, 0] S256x2048.size inb_S512x2048_S256x2048_256_0).toLoadRect (View.loadsAt_vmem h_S256x2048))
    Prog.lift (.store arg10 (Rect.unit (s := S512x2048) ![256, 0] S256x2048.size inb_S512x2048_S256x2048_256_0) (k0_pay5 t256 x256 o256 f256) Finset.univ (View.stores_vmem_bits_univ h_S256x2048 rfl) (.inl rfl))
    pure ⟨⟩
  else do
    pure ⟨⟩
  pure ⟨⟩

/-- A loop of two trips from nothing carried is its first trip and then its second. -/
theorem two_trips {E : Type → Type} (l : Scf.Loop 32) (hok : l.OK) (h : l.trips = 2) (f : Fin l.trips → Unit → Prog E Unit) :
    Scf.Loop.for l hok ⟨⟩ f = (f ⟨0, by omega⟩ ⟨⟩ >>= fun a => f ⟨1, by omega⟩ a >>= fun b => .ret b) := by
  have hl : List.finRange l.trips = [⟨0, by omega⟩, ⟨1, by omega⟩] := by
    refine List.ext_getElem (by simp [h]) fun n h₁ h₂ => ?_
    have h₃ : n < 2 := by simpa using h₂
    interval_cases n <;> simp
  rw [Scf.Loop.for, Scf.for_eq, hl]; rfl

/-- The body with its three loops over the rows left open. -/
noncomputable def bodyWith(i : grid0.Coords) (arg2 : Memref sig .tc .vmem S512x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x2048 .bf16) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .bf16) (harg11 : arg11.IsWhole) (arg12 : Memref sig .tc .vmem S512x1 .f32) (harg12 : arg12.IsWhole) (L₁ L₂ : k0_cond1 i = 1#1 → Prog (TpuEff nD τ sig (Elt F) Λ₀ .tc) Unit)
    (L₃ : k0_cond2 i = 1#1 → Prog (TpuEff nD τ sig (Elt F) Λ₀ .tc) Unit) :
    Prog (TpuEff nD τ sig (Elt F) Λ₀ .tc) PUnit := do
  if k0_h1 : k0_cond1 i = 1#1 then do
    L₁ k0_h1
    L₂ k0_h1
    let z : Vec F S512x2048 .f32 ← Prog.lift (.load arg10 (Rect.unit (s := S512x2048) ![0, 0] S512x2048.size inb_S512x2048_S512x2048_0_0).toLoadRect (View.loadsAt_vmem h_S512x2048))
    Prog.lift (.store arg10 (Rect.unit (s := S512x2048) ![0, 0] S512x2048.size inb_S512x2048_S512x2048_0_0) (k0_pay3 (F := F)) Finset.univ (View.stores_vmem_bits_univ h_S512x2048 rfl) (.inl rfl))
    pure ⟨⟩
  else do
    pure ⟨⟩
  let v3 : Vec F S512x2048 .bf16 ← Prog.lift (.load arg11 (Rect.unit (s := S512x2048) ![0, 0] S512x2048.size inb_S512x2048_S512x2048_0_0).toLoadRect (View.loadsAt_vmem h_S512x2048))
  let v4 : Vec F S2048x2048 .bf16 ← Prog.lift (.load arg7 (Rect.unit (s := S2048x2048) ![0, 0] S2048x2048.size inb_S2048x2048_S2048x2048_0_0).toLoadRect (View.loadsAt_vmem h_S2048x2048))
  let v9 : Vec F S512x2048 .f32 ← Prog.lift (.load arg10 (Rect.unit (s := S512x2048) ![0, 0] S512x2048.size inb_S512x2048_S512x2048_0_0).toLoadRect (View.loadsAt_vmem h_S512x2048))
  let v12 : Vec F S2048x2048 .bf16 ← Prog.lift (.load arg8 (Rect.unit (s := S2048x2048) ![0, 0] S2048x2048.size inb_S2048x2048_S2048x2048_0_0).toLoadRect (View.loadsAt_vmem h_S2048x2048))
  let v15 : Vec F S512x2048 .f32 ← Prog.lift (.load arg10 (Rect.unit (s := S512x2048) ![0, 0] S512x2048.size inb_S512x2048_S512x2048_0_0).toLoadRect (View.loadsAt_vmem h_S512x2048))
  Prog.lift (.store arg10 (Rect.unit (s := S512x2048) ![0, 0] S512x2048.size inb_S512x2048_S512x2048_0_0) (k0_pay4 v3 v4 v9 v12) Finset.univ (View.stores_vmem_bits_univ h_S512x2048 rfl) (.inl rfl))
  if k0_h2 : k0_cond2 i = 1#1 then do
    L₃ k0_h2
    pure ⟨⟩
  else do
    pure ⟨⟩
  pure ⟨⟩

set_option maxRecDepth 65536 in
theorem body_eq : cc0_ffn_residual (F := F) = body (F := F) := by
  rw [cc0_ffn_residual_eq_skeleton]
  funext i arg2 harg2 arg3 harg3 arg4 harg4 arg5 harg5 arg6 harg6 arg7 harg7 arg8 harg8 arg9 harg9 arg10 harg10 arg11 harg11 arg12 harg12
  have e₁ : (fun h => Scf.Loop.for k0_t1_loop (k0_t1_ok i h) ⟨⟩ (k0_t1_body (F := F) i arg2 harg2 arg3 harg3 arg4 harg4 arg5 harg5 arg6 harg6 arg7 harg7 arg8 harg8 arg9 harg9 arg10 harg10 arg11 harg11 arg12 harg12 h)) = fun h => _ :=
    funext fun h => two_trips _ _ (by decide) _
  have e₂ : (fun h => Scf.Loop.for k0_t2_loop (k0_t2_ok i h) ⟨⟩ (k0_t2_body (F := F) i arg2 harg2 arg3 harg3 arg4 harg4 arg5 harg5 arg6 harg6 arg7 harg7 arg8 harg8 arg9 harg9 arg10 harg10 arg11 harg11 arg12 harg12 h)) = fun h => _ :=
    funext fun h => two_trips _ _ (by decide) _
  have e₃ : (fun h => Scf.Loop.for k0_t3_loop (k0_t3_ok i h) ⟨⟩ (k0_t3_body (F := F) i arg2 harg2 arg3 harg3 arg4 harg4 arg5 harg5 arg6 harg6 arg7 harg7 arg8 harg8 arg9 harg9 arg10 harg10 arg11 harg11 arg12 harg12 h)) = fun h => _ :=
    funext fun h => two_trips _ _ (by decide) _
  have e : cc0_ffn_residual_skel (F := F) i arg2 harg2 arg3 harg3 arg4 harg4 arg5 harg5 arg6 harg6 arg7 harg7 arg8 harg8 arg9 harg9 arg10 harg10 arg11 harg11 arg12 harg12 = bodyWith i arg2 harg2 arg3 harg3 arg4 harg4 arg5 harg5 arg6 harg6 arg7 harg7 arg8 harg8 arg9 harg9 arg10 harg10 arg11 harg11 arg12 harg12 (fun h => Scf.Loop.for k0_t1_loop (k0_t1_ok i h) ⟨⟩ (k0_t1_body (F := F) i arg2 harg2 arg3 harg3 arg4 harg4 arg5 harg5 arg6 harg6 arg7 harg7 arg8 harg8 arg9 harg9 arg10 harg10 arg11 harg11 arg12 harg12 h))
      (fun h => Scf.Loop.for k0_t2_loop (k0_t2_ok i h) ⟨⟩ (k0_t2_body (F := F) i arg2 harg2 arg3 harg3 arg4 harg4 arg5 harg5 arg6 harg6 arg7 harg7 arg8 harg8 arg9 harg9 arg10 harg10 arg11 harg11 arg12 harg12 h))
      (fun h => Scf.Loop.for k0_t3_loop (k0_t3_ok i h) ⟨⟩ (k0_t3_body (F := F) i arg2 harg2 arg3 harg3 arg4 harg4 arg5 harg5 arg6 harg6 arg7 harg7 arg8 harg8 arg9 harg9 arg10 harg10 arg11 harg11 arg12 harg12 h)) := rfl
  rw [e, e₁, e₂, e₃]
  rfl

end Cert.FfnPromptIdeal.Gen

end
-- ==== Proof.M.FfnPrompt.Runs.lean ====
/- The feed-forward call of the first batch: what the runs of its body share. The window blocks as the region finds them, the branch
   conditions over the points, and the staging and scratch buffers. -/
module

public import proofs.«01_k».proof.Proof.Gen.FfnPromptIdeal.Launch
public import proofs.«01_k».proof.Proof.M.FfnPrompt.Body
public import proofs.«01_k».proof.Proof.Gen.FfnPromptIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.FfnPromptIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof data whose array is `V`'s. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof data whose array is `V`'s. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof data whose array is `V`'s. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof data whose array is `V`'s. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof data whose array is `V`'s. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof data whose array is `V`'s. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof data whose array is `V`'s. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof data whose array is `V`'s. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 5).trans (((dats 0 c).arrAt_in 5 rfl _).trans ((hA c 5).trans (V_main_arg3 m c))),
      ((h c).1 6).trans (((dats 0 c).arrAt_in 6 rfl _).trans ((hA c 6).trans (V_main_arg4 m c))),
      ((h c).2 main_arg5 (Pipeline.mem_restRefs_of main_arg5 (by decide) (by decide))).trans (V_main_arg5 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 4) — by arithmetic of the point. -/
theorem hcond0_0 : ∀ t : Fin cfg0.N, cond0_0 (grid0.coords t) ↔ t.val % 4 = 0 :=
  (fun t => by
    have ht : t.val < 128 := Nat.lt_of_lt_of_eq t.isLt N_0
    have e0 : (grid0.coords t 0).val = t.val / 4 % 32 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 4 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 3#32)) 0#32) = 1#1
/-- It holds at the points ≡ 3 (mod 4) — by arithmetic of the point. -/
theorem hcond0_1 : ∀ t : Fin cfg0.N, cond0_1 (grid0.coords t) ↔ t.val % 4 = 3 :=
  (fun t => by
    have ht : t.val < 128 := Nat.lt_of_lt_of_eq t.isLt N_0
    have e0 : (grid0.coords t 0).val = t.val / 4 % 32 := Pipeline.Grid.coords_val t 0 (by decide) rfl
    have e1 : (grid0.coords t 1).val = t.val / 1 % 4 := Pipeline.Grid.coords_val t 1 (by decide) rfl
    simp only [cond0_1, e0, e1]
    word_cmp
   : ∀ t : Fin grid0.N, cond0_1 (grid0.coords t) ↔ t.val % 4 = 3)

/-! ## The kernel body on any staging memrefs: a subtype the run finds -/

/-- One staging buffer of output window 8, through which its contents are stated (`View.read_writes_of_cover`: the
    choice does not matter). -/
abbrev VO0_8 : View sig .tc .vmem S512x2048 .f32 := (Memref.whole cc0_stg8_0 : Memref sig .tc .vmem S512x2048 .f32).view
/-- Each window's current staging memref at point `t`, spelled as the pipeline passes it (`bodyAt0`), and its wholeness. -/
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x2048 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x2048 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x2048 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S512x2048 .bf16 := Memref.whole cc0_scratch0
abbrev scM0_1 : Memref sig .tc .vmem S512x1 .f32 := Memref.whole cc0_scratch1
/-- The scratch `arg11` the kernel carries between points, as a view: what it holds is stated through it. -/
abbrev VS0_0 : View sig .tc .vmem S512x2048 .bf16 := scM0_0.view

/-- The frame kit's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.FfnPromptIdeal.Gen

end
-- ==== Proof.M.FfnPrompt.RunA.lean ====
/- The body's run at a row tile's first point: the rows are normalised, the output is cleared, one block of the hidden axis is added. -/
module

public import proofs.«01_k».proof.Proof.M.FfnPrompt.Runs

@[expose] public section

-- membership in a rectangle of production extents (`View.cover_of_tiled`): the elaborator's structural look
-- recurses once per coordinate of the long axes
set_option maxRecDepth 16384

noncomputable section

namespace Cert.FfnPromptIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 4, … 124: 32 of 128), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S512x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x2048 .bf16) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .bf16) (harg11 : arg11.IsWhole) (arg12 : Memref sig .tc .vmem S512x1 .f32) (harg12 : arg12.IsWhole) (hc0 : cond0_0 i) (hc1 : ¬cond0_1 i)
    (x0 : Vec F S512x2048 .f32) (x1 : Vec F S1x1x2048 .f32) (x2 : Vec F S1x1x2048 .f32) (x3 : Vec F S1x1x2048 .f32) (x4 : Vec F S1x1x2048 .f32) (x5 : Vec F S2048x2048 .bf16) (x6 : Vec F S2048x2048 .bf16) (x7 : Vec F S1x2048 .f32) :
    Σ' (L8 : List (View.Piece (Elt F) S512x2048 .f32)), Σ' (LS0 : List (View.Piece (Elt F) S512x2048 .bf16)), { LT1 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LT1)) -∗ K ⟨⟩))
          ⊢ wp frame (wpE (defs₀ (F := F)) Variants.none c none) E (cc0_ffn_residual i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [body_eq]; unfold body
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS0]; · iexists _; iexact HS0
    iexists _; iexact HS1

end Cert.FfnPromptIdeal.Gen

end
-- ==== Proof.M.FfnPrompt.RunB.lean ====
/- The body's run at a row tile's middle points: one block of the hidden axis is added. -/
module

public import proofs.«01_k».proof.Proof.M.FfnPrompt.RunA

@[expose] public section

-- membership in a rectangle of production extents (`View.cover_of_tiled`): the elaborator's structural look
-- recurses once per coordinate of the long axes
set_option maxRecDepth 16384

noncomputable section

namespace Cert.FfnPromptIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 126: 64 of 128), WITH the
    proof that on whole staging memrefs — the inputs' at their contents, the outputs it reads before covering (8) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S512x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x2048 .bf16) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .bf16) (harg11 : arg11.IsWhole) (arg12 : Memref sig .tc .vmem S512x1 .f32) (harg12 : arg12.IsWhole) (hc0 : ¬cond0_0 i) (hc1 : ¬cond0_1 i)
    (x0 : Vec F S512x2048 .f32) (x1 : Vec F S1x1x2048 .f32) (x2 : Vec F S1x1x2048 .f32) (x3 : Vec F S1x1x2048 .f32) (x4 : Vec F S1x1x2048 .f32) (x5 : Vec F S2048x2048 .bf16) (x6 : Vec F S2048x2048 .bf16) (x7 : Vec F S1x2048 .f32) (xo8 : Vec F S512x2048 .f32) (xs0 : Vec F S512x2048 .bf16) :
    Σ' (L8 : List (View.Piece (Elt F) S512x2048 .f32)), Σ' (LS0 : List (View.Piece (Elt F) S512x2048 .bf16)), { LT1 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo8 ∗ owns (c : Thread nD τ) arg11 fullShare xs0 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare xs0 ∗ (∃ d, owns (c : Thread nD τ) arg12 fullShare d)) -∗ K ⟨⟩))
          ⊢ wp frame (wpE (defs₀ (F := F)) Variants.none c none) E (cc0_ffn_residual i arg2 harg2 arg3 harg3 arg4 harg4 arg5 harg5 arg6 harg6 arg7 harg7 arg8 harg8 arg9 harg9 arg10 harg10 arg11 harg11 arg12 harg12) K } := by
  refine ⟨?_, [], [], fun E K => ?run⟩
  case run =>
    simp only [body_eq]; unfold body
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS0]
    · iexists _; isplitr; · ipureintro; exact harg11.read_unread _
      iexact HS0
    iexists _, _; isplitr; swap; · iexact HS1
    ipureintro; rfl

end Cert.FfnPromptIdeal.Gen

end
-- ==== Proof.M.FfnPrompt.RunC.lean ====
/- The body's run at a row tile's last point: one block of the hidden axis is added, and the output is finished. -/
module

public import proofs.«01_k».proof.Proof.M.FfnPrompt.RunB

@[expose] public section

-- membership in a rectangle of production extents (`View.cover_of_tiled`): the elaborator's structural look
-- recurses once per coordinate of the long axes
set_option maxRecDepth 16384

noncomputable section

namespace Cert.FfnPromptIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 3, 7, … 127: 32 of 128), WITH the
    proof that on whole staging memrefs — the inputs' at their contents, the outputs it reads before covering (8) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .vmem S512x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x2048 .bf16) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .bf16) (harg11 : arg11.IsWhole) (arg12 : Memref sig .tc .vmem S512x1 .f32) (harg12 : arg12.IsWhole) (hc0 : ¬cond0_0 i) (hc1 : cond0_1 i)
    (x0 : Vec F S512x2048 .f32) (x1 : Vec F S1x1x2048 .f32) (x2 : Vec F S1x1x2048 .f32) (x3 : Vec F S1x1x2048 .f32) (x4 : Vec F S1x1x2048 .f32) (x5 : Vec F S2048x2048 .bf16) (x6 : Vec F S2048x2048 .bf16) (x7 : Vec F S1x2048 .f32) (xo8 : Vec F S512x2048 .f32) (xs0 : Vec F S512x2048 .bf16) :
    Σ' (L8 : List (View.Piece (Elt F) S512x2048 .f32)), Σ' (LS0 : List (View.Piece (Elt F) S512x2048 .bf16)), { LT1 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo8 ∗ owns (c : Thread nD τ) arg11 fullShare xs0 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare xs0 ∗ (∃ d, owns (c : Thread nD τ) arg12 fullShare d)) -∗ K ⟨⟩))
          ⊢ wp frame (wpE (defs₀ (F := F)) Variants.none c none) E (cc0_ffn_residual i arg2 harg2 arg3 harg3 arg4 harg4 arg5 harg5 arg6 harg6 arg7 harg7 arg8 harg8 arg9 harg9 arg10 harg10 arg11 harg11 arg12 harg12) K } := by
  refine ⟨?_, [], [], fun E K => ?run⟩
  case run =>
    simp only [body_eq]; unfold body
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS0]
    · iexists _; isplitr; · ipureintro; exact harg11.read_unread _
      iexact HS0
    iexists _, _; isplitr; swap; · iexact HS1
    ipureintro; rfl

end Cert.FfnPromptIdeal.Gen

end
-- ==== Proof.M.FfnPrompt.Frame.lean ====
/- The frame of the call: what the output and the carried rows hold after each point, the body's obligation at
   every point, and the frame itself. -/
module

public import proofs.«01_k».proof.Proof.M.FfnPrompt.RunC
public import Idealize.ShloMosaic.Lib.Claim

@[expose] public section

-- membership in a rectangle of production extents (`View.cover_of_tiled`): the elaborator's structural look
-- recurses once per coordinate of the long axes
set_option maxRecDepth 16384

noncomputable section

namespace Cert.FfnPromptIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section
variable (c : Dev nD) (i : grid0.Coords) (arg2 : Memref sig .tc .vmem S512x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x2048 .bf16) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .bf16) (harg11 : arg11.IsWhole) (arg12 : Memref sig .tc .vmem S512x1 .f32) (harg12 : arg12.IsWhole)
/-- Case A's pieces for output 8 tile its block. -/
theorem cover0_A_8 (hc0 : cond0_0 i) (hc1 : ¬cond0_1 i)
    (x0 : Vec F S512x2048 .f32) (x1 : Vec F S1x1x2048 .f32) (x2 : Vec F S1x1x2048 .f32) (x3 : Vec F S1x1x2048 .f32) (x4 : Vec F S1x1x2048 .f32) (x5 : Vec F S2048x2048 .bf16) (x6 : Vec F S2048x2048 .bf16) (x7 : Vec F S1x2048 .f32) (y : S512x2048.Idx) :
    ∃ pc ∈ (kernelRun0_A c i _ harg2 _ harg3 _ harg4 _ harg5 _ harg6 _ harg7 _ harg8 _ harg9 _ harg10 _ harg11 _ harg12 hc0 hc1 x0 x1 x2 x3 x4 x5 x6 x7).1, y ∈ pc.1.set :=
  View.cover_of_tiledL (kernelRun0_A c i _ harg2 _ harg3 _ harg4 _ harg5 _ harg6 _ harg7 _ harg8 _ harg9 _ harg10 _ harg11 _ harg12 hc0 hc1 x0 x1 x2 x3 x4 x5 x6 x7).1 S512x2048.size (by sl_kernel_rfl) y

/-- What case A leaves in output 8's staging buffer: its pieces read back over junk. -/
def out0_A_8 (hc0 : cond0_0 i) (hc1 : ¬cond0_1 i)
    (x0 : Vec F S512x2048 .f32) (x1 : Vec F S1x1x2048 .f32) (x2 : Vec F S1x1x2048 .f32) (x3 : Vec F S1x1x2048 .f32) (x4 : Vec F S1x1x2048 .f32) (x5 : Vec F S2048x2048 .bf16) (x6 : Vec F S2048x2048 .bf16) (x7 : Vec F S1x2048 .f32) : Vec F S512x2048 .f32 :=
  VO0_8.read (Elt F) (VO0_8.writes (Elt F) VO0_8.junk (kernelRun0_A c i _ harg2 _ harg3 _ harg4 _ harg5 _ harg6 _ harg7 _ harg8 _ harg9 _ harg10 _ harg11 _ harg12 hc0 hc1 x0 x1 x2 x3 x4 x5 x6 x7).1)

/-- Case A's pieces for scratch `arg11`, which the kernel carries between points, cover it. -/
theorem scover0_A_0 (hc0 : cond0_0 i) (hc1 : ¬cond0_1 i)
    (x0 : Vec F S512x2048 .f32) (x1 : Vec F S1x1x2048 .f32) (x2 : Vec F S1x1x2048 .f32) (x3 : Vec F S1x1x2048 .f32) (x4 : Vec F S1x1x2048 .f32) (x5 : Vec F S2048x2048 .bf16) (x6 : Vec F S2048x2048 .bf16) (x7 : Vec F S1x2048 .f32) (y : S512x2048.Idx) :
    ∃ pc ∈ (kernelRun0_A c i _ harg2 _ harg3 _ harg4 _ harg5 _ harg6 _ harg7 _ harg8 _ harg9 _ harg10 _ harg11 _ harg12 hc0 hc1 x0 x1 x2 x3 x4 x5 x6 x7).2.1, y ∈ pc.1.set :=
  View.cover_of_tiledL (kernelRun0_A c i _ harg2 _ harg3 _ harg4 _ harg5 _ harg6 _ harg7 _ harg8 _ harg9 _ harg10 _ harg11 _ harg12 hc0 hc1 x0 x1 x2 x3 x4 x5 x6 x7).2.1 S256x2048.size (by sl_kernel_rfl) y

/-- What case A leaves in scratch `arg11`: its pieces read back over junk. -/
def sout0_A_0 (hc0 : cond0_0 i) (hc1 : ¬cond0_1 i)
    (x0 : Vec F S512x2048 .f32) (x1 : Vec F S1x1x2048 .f32) (x2 : Vec F S1x1x2048 .f32) (x3 : Vec F S1x1x2048 .f32) (x4 : Vec F S1x1x2048 .f32) (x5 : Vec F S2048x2048 .bf16) (x6 : Vec F S2048x2048 .bf16) (x7 : Vec F S1x2048 .f32) : Vec F S512x2048 .bf16 :=
  VS0_0.read (Elt F) (VS0_0.writes (Elt F) VS0_0.junk (kernelRun0_A c i _ harg2 _ harg3 _ harg4 _ harg5 _ harg6 _ harg7 _ harg8 _ harg9 _ harg10 _ harg11 _ harg12 hc0 hc1 x0 x1 x2 x3 x4 x5 x6 x7).2.1)

/-- Case B's pieces for output 8 tile its block. -/
theorem cover0_B_8 (hc0 : ¬cond0_0 i) (hc1 : ¬cond0_1 i)
    (x0 : Vec F S512x2048 .f32) (x1 : Vec F S1x1x2048 .f32) (x2 : Vec F S1x1x2048 .f32) (x3 : Vec F S1x1x2048 .f32) (x4 : Vec F S1x1x2048 .f32) (x5 : Vec F S2048x2048 .bf16) (x6 : Vec F S2048x2048 .bf16) (x7 : Vec F S1x2048 .f32) (xo8 : Vec F S512x2048 .f32) (xs0 : Vec F S512x2048 .bf16) (y : S512x2048.Idx) :
    ∃ pc ∈ (kernelRun0_B c i _ harg2 _ harg3 _ harg4 _ harg5 _ harg6 _ harg7 _ harg8 _ harg9 _ harg10 _ harg11 _ harg12 hc0 hc1 x0 x1 x2 x3 x4 x5 x6 x7 xo8 xs0).1, y ∈ pc.1.set :=
  View.cover_of_tiledL (kernelRun0_B c i _ harg2 _ harg3 _ harg4 _ harg5 _ harg6 _ harg7 _ harg8 _ harg9 _ harg10 _ harg11 _ harg12 hc0 hc1 x0 x1 x2 x3 x4 x5 x6 x7 xo8 xs0).1 S512x2048.size (by sl_kernel_rfl) y

/-- What case B leaves in output 8's staging buffer: its pieces read back over junk. -/
def out0_B_8 (hc0 : ¬cond0_0 i) (hc1 : ¬cond0_1 i)
    (x0 : Vec F S512x2048 .f32) (x1 : Vec F S1x1x2048 .f32) (x2 : Vec F S1x1x2048 .f32) (x3 : Vec F S1x1x2048 .f32) (x4 : Vec F S1x1x2048 .f32) (x5 : Vec F S2048x2048 .bf16) (x6 : Vec F S2048x2048 .bf16) (x7 : Vec F S1x2048 .f32) (xo8 : Vec F S512x2048 .f32) (xs0 : Vec F S512x2048 .bf16) : Vec F S512x2048 .f32 :=
  VO0_8.read (Elt F) (VO0_8.writes (Elt F) VO0_8.junk (kernelRun0_B c i _ harg2 _ harg3 _ harg4 _ harg5 _ harg6 _ harg7 _ harg8 _ harg9 _ harg10 _ harg11 _ harg12 hc0 hc1 x0 x1 x2 x3 x4 x5 x6 x7 xo8 xs0).1)

/-- Case C's pieces for output 8 are of SEVERAL sizes. -/
theorem cover0_C_8 (hc0 : ¬cond0_0 i) (hc1 : cond0_1 i)
    (x0 : Vec F S512x2048 .f32) (x1 : Vec F S1x1x2048 .f32) (x2 : Vec F S1x1x2048 .f32) (x3 : Vec F S1x1x2048 .f32) (x4 : Vec F S1x1x2048 .f32) (x5 : Vec F S2048x2048 .bf16) (x6 : Vec F S2048x2048 .bf16) (x7 : Vec F S1x2048 .f32) (xo8 : Vec F S512x2048 .f32) (xs0 : Vec F S512x2048 .bf16) (y : S512x2048.Idx) :
    ∃ pc ∈ (kernelRun0_C c i _ harg2 _ harg3 _ harg4 _ harg5 _ harg6 _ harg7 _ harg8 _ harg9 _ harg10 _ harg11 _ harg12 hc0 hc1 x0 x1 x2 x3 x4 x5 x6 x7 xo8 xs0).1, y ∈ pc.1.set :=
  View.cover_of_tiledBy (kernelRun0_C c i _ harg2 _ harg3 _ harg4 _ harg5 _ harg6 _ harg7 _ harg8 _ harg9 _ harg10 _ harg11 _ harg12 hc0 hc1 x0 x1 x2 x3 x4 x5 x6 x7 xo8 xs0).1 ![256, 2048] (by sl_kernel_rfl) y

/-- What case C leaves in output 8's staging buffer: its pieces read back over junk. -/
def out0_C_8 (hc0 : ¬cond0_0 i) (hc1 : cond0_1 i)
    (x0 : Vec F S512x2048 .f32) (x1 : Vec F S1x1x2048 .f32) (x2 : Vec F S1x1x2048 .f32) (x3 : Vec F S1x1x2048 .f32) (x4 : Vec F S1x1x2048 .f32) (x5 : Vec F S2048x2048 .bf16) (x6 : Vec F S2048x2048 .bf16) (x7 : Vec F S1x2048 .f32) (xo8 : Vec F S512x2048 .f32) (xs0 : Vec F S512x2048 .bf16) : Vec F S512x2048 .f32 :=
  VO0_8.read (Elt F) (VO0_8.writes (Elt F) VO0_8.junk (kernelRun0_C c i _ harg2 _ harg3 _ harg4 _ harg5 _ harg6 _ harg7 _ harg8 _ harg9 _ harg10 _ harg11 _ harg12 hc0 hc1 x0 x1 x2 x3 x4 x5 x6 x7 xo8 xs0).1)

end

/-! ## What the outputs hold after each point -/

/-- THE ACCUMULATION. -/
def outsAt0 (c : Dev nD) : (n : ℕ) → n < cfg0.N → Vec F S512x2048 .f32 × Vec F S512x2048 .bf16
  | 0, hn => (out0_A_8 c (grid0.coords ⟨0, hn⟩) _ (hs0_0 ⟨0, hn⟩) _ (hs0_1 ⟨0, hn⟩) _ (hs0_2 ⟨0, hn⟩) _ (hs0_3 ⟨0, hn⟩) _ (hs0_4 ⟨0, hn⟩) _ (hs0_5 ⟨0, hn⟩) _ (hs0_6 ⟨0, hn⟩) _ (hs0_7 ⟨0, hn⟩) _ (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_0 c (grid0.coords ⟨0, hn⟩) _ (hs0_0 ⟨0, hn⟩) _ (hs0_1 ⟨0, hn⟩) _ (hs0_2 ⟨0, hn⟩) _ (hs0_3 ⟨0, hn⟩) _ (hs0_4 ⟨0, hn⟩) _ (hs0_5 ⟨0, hn⟩) _ (hs0_6 ⟨0, hn⟩) _ (hs0_7 ⟨0, hn⟩) _ (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 4 = 0 then
      if h1 : (n + 1) % 4 = 3 then
        False.elim (by have hN : n + 1 < 128 := lt_of_lt_of_eq hn (show cfg0.N = 128 from N_0); omega)
      else
        (out0_A_8 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_0 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      if h1 : (n + 1) % 4 = 3 then
        (out0_C_8 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2, (outsAt0 c n (Nat.lt_of_succ_lt hn)).2)
      else
        (out0_B_8 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2, (outsAt0 c n (Nat.lt_of_succ_lt hn)).2)

/-- `outsAt0` at a point of case A: that case's contents. -/
theorem outsAt0_A (c : Dev nD) (t : Fin cfg0.N) (h0 : t.val % 4 = 0) (h1 : ¬t.val % 4 = 3) :
    outsAt0 m c t.val t.isLt = (out0_A_8 c (grid0.coords t) _ (hs0_0 t) _ (hs0_1 t) _ (hs0_2 t) _ (hs0_3 t) _ (hs0_4 t) _ (hs0_5 t) _ (hs0_6 t) _ (hs0_7 t) _ (hs0_8 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), sout0_A_0 c (grid0.coords t) _ (hs0_0 t) _ (hs0_1 t) _ (hs0_2 t) _ (hs0_3 t) _ (hs0_4 t) _ (hs0_5 t) _ (hs0_6 t) _ (hs0_7 t) _ (hs0_8 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 4 = 0) (h1 : ¬t.val % 4 = 3) :
    outsAt0 m c t.val t.isLt = (out0_B_8 c (grid0.coords t) _ (hs0_0 t) _ (hs0_1 t) _ (hs0_2 t) _ (hs0_3 t) _ (hs0_4 t) _ (hs0_5 t) _ (hs0_6 t) _ (hs0_7 t) _ (hs0_8 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2, (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 4 = 0) (h1 : t.val % 4 = 3) :
    outsAt0 m c t.val t.isLt = (out0_C_8 c (grid0.coords t) _ (hs0_0 t) _ (hs0_1 t) _ (hs0_2 t) _ (hs0_3 t) _ (hs0_4 t) _ (hs0_5 t) _ (hs0_6 t) _ (hs0_7 t) _ (hs0_8 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2, (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2) ∗ (∃ d, owns (c : Thread nD τ) scM0_1 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2) ∗ (∃ d, owns (c : Thread nD τ) scM0_1 fullShare d)) ∗ (∃ r, prngReg c r)) := by
  cases n with
  | zero => exact absurd rfl hz
  | succ n => rfl

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
  Φ t := PhiS m c t.val (Nat.le_of_lt_succ t.isLt)
  q w := Pipeline.shareOf spec0 w
  owed _ := 0

/-- The proof data's arrays are the region-entry contents. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
/-- At a point of case B output 8's current staging buffer holds what the body left at the point before. -/
theorem before0_8_B (c : Dev nD) (t : Fin cfg0.N) (h0 : ¬t.val % 4 = 0) (h1 : ¬t.val % 4 = 3) (d) :
    (dats m 0 c).before 8 t d = (outsAt0 m c (t.val - 1) (Nat.lt_of_le_of_lt (Nat.sub_le _ _) t.isLt)).1 := by
  have hN : t.val < 128 := lt_of_lt_of_eq t.isLt (show cfg0.N = 128 from N_0)
  rw [Dat.before_out_kept _ 8 rfl t (by omega) (Bool.eq_false_iff.mpr fun h => by have := (flush0_8 _).mp h; dsimp only at this; omega)
    (fun _ => rfl) (fun _ _ => rfl)]
  dsimp only [dats]
/-- At a point of case C output 8's current staging buffer holds what the body left at the point before. -/
theorem before0_8_C (c : Dev nD) (t : Fin cfg0.N) (h0 : ¬t.val % 4 = 0) (h1 : t.val % 4 = 3) (d) :
    (dats m 0 c).before 8 t d = (outsAt0 m c (t.val - 1) (Nat.lt_of_le_of_lt (Nat.sub_le _ _) t.isLt)).1 := by
  have hN : t.val < 128 := lt_of_lt_of_eq t.isLt (show cfg0.N = 128 from N_0)
  rw [Dat.before_out_kept _ 8 rfl t (by omega) (Bool.eq_false_iff.mpr fun h => by have := (flush0_8 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 9600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8]
  rw [show (dats m 0 c).Φ t.succ = PhiS m c (t.val + 1) t.isLt from rfl, PhiS_succ]
  have hN : t.val < 128 := lt_of_lt_of_eq t.isLt (show cfg0.N = 128 from N_0)
  by_cases h0 : t.val % 4 = 0
  · by_cases h1 : t.val % 4 = 3
    · exfalso; omega
    · by_cases hz : t.val = 0
      · rw [PhiS_castSucc m c t, PhiS_zero m c _ _ hz, PhiA0_eq]
        rw [outsAt0_A m c t h0 h1]
        unfold out0_A_8 sout0_A_0; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [HS0]; · iexact HS0
        isplitl [HS1]; · iexact HS1
        iintro ⟨H0, H1, H2, H3, H4, H5, H6, H7, ⟨%e8, H8⟩, ⟨%es0, HS0⟩, ⟨%fT1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _)
            iexists _; unfold owns; iexists _; isplitr
            swap; · iexact HS1
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _)
      · rw [PhiS_castSucc m c t, PhiS_pos m c _ _ hz]
        rw [outsAt0_A m c t h0 h1]
        unfold out0_A_8 sout0_A_0; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [HS0]; · iexists _; iexact HS0
        isplitl [HS1]; · iexact HS1
        iintro ⟨H0, H1, H2, H3, H4, H5, H6, H7, ⟨%e8, H8⟩, ⟨%es0, HS0⟩, ⟨%fT1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _)
            iexists _; unfold owns; iexists _; isplitr
            swap; · iexact HS1
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _)
  · by_cases h1 : t.val % 4 = 3
    · by_cases hz : t.val = 0
      · exfalso; have hN : t.val < 128 := lt_of_lt_of_eq t.isLt (show cfg0.N = 128 from N_0); omega
      · rw [PhiS_castSucc m c t, PhiS_pos m c _ _ hz]
        rw [outsAt0_C m c t h0 h1]
        simp only [before0_8_C m c t h0 h1]
        unfold out0_C_8; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_C c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) _ _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexact HS1
        iintro ⟨H0, H1, H2, H3, H4, H5, H6, H7, ⟨%e8, H8⟩, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        unfold owns; iexists _; isplitr
        swap; · iexact H8
        ipureintro; exact View.read_writes_of_cover _ _ _ _ _ (cover0_C_8 c _ _ _ _ _ _ _ _ _ _ _ _ _ _ _ _ _ _ _ _ _ _ _ _ _ _ _ _ _ _ _ _ _ _ _)
    · by_cases hz : t.val = 0
      · exfalso; have hN : t.val < 128 := lt_of_lt_of_eq t.isLt (show cfg0.N = 128 from N_0); omega
      · rw [PhiS_castSucc m c t, PhiS_pos m c _ _ hz]
        rw [outsAt0_B m c t h0 h1]
        simp only [before0_8_B m c t h0 h1]
        unfold out0_B_8; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_B c (grid0.coords t) _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) _ _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexact HS1
        iintro ⟨H0, H1, H2, H3, H4, H5, H6, H7, ⟨%e8, H8⟩, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 128 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.FfnPromptIdeal.Gen

end
-- ==== Proof.M.FfnPrompt.Value.lean ====
/- The run's post-condition with the output array named. -/
module

public import proofs.«01_k».proof.Proof.M.FfnPrompt.Frame
public import Idealize.ShloMosaic.Lib.Pipeline.Value

@[expose] public section

noncomputable section

namespace Cert.FfnPromptIdeal.Value

open Cert.FfnPromptIdeal Cert.FfnPromptIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v3) = (dats m 0 c).arrAt 8 cfg0.N :=
  (h c).1 8

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 5 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 5).trans (((dats m 0 c).arrAt_in 5 rfl _).trans ((A_eq m c 5).trans (V_main_arg3 m c)))

/-- After the frame run, argument `main_arg4` is as launched: input window 6 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 6).trans (((dats m 0 c).arrAt_in 6 rfl _).trans ((A_eq m c 6).trans (V_main_arg4 m c)))

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v3) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post8 m r h c,
      kept_main_arg0 m r h c,
      kept_main_arg1 m r h c,
      kept_main_arg2 m r h c,
      kept_main_arg3 m r h c,
      kept_main_arg4 m r h c,
      kept_main_arg5 m r h c⟩)
    (run_main m ρ)

end Cert.FfnPromptIdeal.Value

end
-- ==== Proof.M.FfnPrompt.lean ====
/- The feed-forward block of the last layer over the first batch: the four blocks of the hidden axis accumulated beside the whole product. -/
module
public import proofs.«01_k».proof.Defs
public import proofs.«01_k».proof.Proof.Gen.FfnPrompt
public import proofs.«01_k».proof.Proof.M.FfnPrompt.Value
public import proofs.«01_k».proof.Proof.Gen.FfnPromptReferenceIdeal.Run
public import proofs.«01_k».proof.Proof.M.Ffn
@[expose] public section
set_option maxRecDepth 65536
set_option maxHeartbeats 2000000
noncomputable section
namespace Cert.M.Fp
open Idealize.ShloMosaic Idealize.ShloMosaic.TcCoe Idealize.SL.Sem
open Cert.M.Ffn (inv width eps blk_lt sum_blk)

section
open Cert.FfnPromptIdeal Cert.FfnPromptIdeal.Gen
variable (m : (ℓ : Loc nD τ sig) → Buf (Elt Ideal) ℓ) (c : Dev nD)

theorem entryG (l : Fin 2048) : V m c main_v0 (ix3 3 0 l) = m ((c : Thread nD τ).loc main_arg1) (ix2 3 l) := by
  simp only [V, List.flatten_cons, List.flatten_nil, List.append_nil, List.cons_append, List.nil_append]
  entry_read
  pointwise
theorem entryM (b : Fin 4) (l : Fin 12288) : V m c main_v1 (ix3 b 0 l) = m ((c : Thread nD τ).loc main_arg2) (ix2 b l) := by
  simp only [V, List.flatten_cons, List.flatten_nil, List.append_nil, List.cons_append, List.nil_append]
  entry_read
  pointwise
theorem entryF (l : Fin 2048) : V m c main_v2 (ix2 0 l) = m ((c : Thread nD τ).loc main_arg5) (ix1 l) := by
  simp only [V, List.flatten_cons, List.flatten_nil, List.append_nil, List.cons_append, List.nil_append]
  entry_read
  pointwise

variable (t : Fin cfg0.N)
theorem lt128 : t.val < 128 := lt_of_lt_of_eq t.isLt N_0
/-- The row of the residual stream that a tile's row is, and the batch entry it belongs to. -/
def gr (r : Fin 512) : Fin 16384 := ⟨t.val / 4 * 512 + r.val, by have := lt128 t; omega⟩
def gb : Fin 4 := ⟨t.val / 32, by have := lt128 t; omega⟩
def gq : Fin 4 := ⟨t.val % 4, by omega⟩

theorem blkX (r : Fin 512) (k : Fin 2048) : iblk m c 0 t (ix2 r k) = m ((c : Thread nD τ).loc main_arg0) (ix2 (gr t r) k) := by
  have idx : win0_0.index t = ![t.val / 4, 0] := (by decide +kernel : ∀ t : Fin grid0.N, win0_0.index t = ![t.val / 4, 0]) t
  unfold gr
  blk_ext [iblk, V_main_arg0, idx]
theorem blkG (l : Fin 2048) : iblk m c 1 t (ix3 0 0 l) = m ((c : Thread nD τ).loc main_arg1) (ix2 3 l) := by
  refine Eq.trans ?_ (entryG m c l)
  have idx : win0_1.index t = ![3, 0, 0] := (by decide +kernel : ∀ t : Fin grid0.N, win0_1.index t = ![3, 0, 0]) t
  blk_ext [iblk, idx]
theorem blkS (l : Fin 2048) : iblk m c 2 t (ix3 0 0 l) = m ((c : Thread nD τ).loc main_arg2) (ix2 (gb t) ⟨8192 + l.val, by omega⟩) := by
  refine Eq.trans ?_ (entryM m c _ _)
  have idx : win0_2.index t = ![t.val / 32, 0, 4] := (by decide +kernel : ∀ t : Fin grid0.N, win0_2.index t = ![t.val / 32, 0, 4]) t
  unfold gb
  blk_ext [iblk, idx]
theorem blkH (l : Fin 2048) : iblk m c 3 t (ix3 0 0 l) = m ((c : Thread nD τ).loc main_arg2) (ix2 (gb t) ⟨6144 + l.val, by omega⟩) := by
  refine Eq.trans ?_ (entryM m c _ _)
  have idx : win0_3.index t = ![t.val / 32, 0, 3] := (by decide +kernel : ∀ t : Fin grid0.N, win0_3.index t = ![t.val / 32, 0, 3]) t
  unfold gb
  blk_ext [iblk, idx]
theorem blkT (l : Fin 2048) : iblk m c 4 t (ix3 0 0 l) = m ((c : Thread nD τ).loc main_arg2) (ix2 (gb t) ⟨10240 + l.val, by omega⟩) := by
  refine Eq.trans ?_ (entryM m c _ _)
  have idx : win0_4.index t = ![t.val / 32, 0, 5] := (by decide +kernel : ∀ t : Fin grid0.N, win0_4.index t = ![t.val / 32, 0, 5]) t
  unfold gb
  blk_ext [iblk, idx]
theorem blkU (k f : Fin 2048) : iblk m c 5 t (ix2 k f) = m ((c : Thread nD τ).loc main_arg3) (ix2 k ⟨(gq t).val * 2048 + f.val, by omega⟩) := by
  have idx : win0_5.index t = ![0, t.val % 4] := (by decide +kernel : ∀ t : Fin grid0.N, win0_5.index t = ![0, t.val % 4]) t
  unfold gq
  blk_ext [iblk, V_main_arg3, idx]
theorem blkD (f j : Fin 2048) : iblk m c 6 t (ix2 f j) = m ((c : Thread nD τ).loc main_arg4) (ix2 ⟨(gq t).val * 2048 + f.val, by omega⟩ j) := by
  have idx : win0_6.index t = ![t.val % 4, 0] := (by decide +kernel : ∀ t : Fin grid0.N, win0_6.index t = ![t.val % 4, 0]) t
  unfold gq
  blk_ext [iblk, V_main_arg4, idx]
theorem blkF (l : Fin 2048) : iblk m c 7 t (ix2 0 l) = m ((c : Thread nD τ).loc main_arg5) (ix1 l) := by
  refine Eq.trans ?_ (entryF m c l)
  have idx : win0_7.index t = ![0, 0] := (by decide +kernel : ∀ t : Fin grid0.N, win0_7.index t = ![0, 0]) t
  blk_ext [iblk, idx]

/-- Two stores of 256 rows each, read back row by row. -/
theorem two_rows {e : EltTy} (w₁ w₀ : S256x2048.Idx → Elt Ideal e) (L : List (View.Piece (Elt Ideal) S512x2048 e)) (z : Fin 512 → Fin 2048 → Elt Ideal e)
    (h₁ : ∀ (r : Fin 256) (l : Fin 2048), w₁ (ix2 r l) = z ⟨256 + r.val, by omega⟩ l)
    (h₀ : ∀ (r : Fin 256) (l : Fin 2048), w₀ (ix2 r l) = z ⟨0 + r.val, by omega⟩ l) (r : Fin 512) (l : Fin 2048) :
    View.canon ((⟨(Rect.unit (s := S512x2048) ![256, 0] S256x2048.size inb_S512x2048_S256x2048_256_0), w₁⟩ : View.Piece (Elt Ideal) S512x2048 e) :: (⟨(Rect.unit (s := S512x2048) ![0, 0] S256x2048.size inb_S512x2048_S256x2048_0_0), w₀⟩ : View.Piece (Elt Ideal) S512x2048 e) :: L) (ix2 r l) = z r l := by
  by_cases hr : r.val < 256
  · rw [View.canon_cons_of_not_mem]
    · have e1 : (ix2 r l : S512x2048.Idx) = (Rect.unit (s := S512x2048) ![0, 0] S256x2048.size inb_S512x2048_S256x2048_0_0).emb (ix2 (⟨r.val, hr⟩ : Fin 256) l) := by
        funext a
        refine Fin.ext ?_
        rw [Rect.emb_apply]
        fin_cases a
        · show r.val = 0 + 1 * r.val; omega
        · show l.val = 0 + 1 * l.val; omega
      rw [e1]
      refine (View.canon_cons_emb _ _ _ _).trans ((h₀ _ _).trans ?_)
      exact congrArg (fun q => z q l) (Fin.ext (by show 0 + r.val = r.val; omega))
    · rw [Rect.mem_set_unit]
      intro h
      have h2 : 256 ≤ r.val := (h 0).1
      omega
  · have e1 : (ix2 r l : S512x2048.Idx) = (Rect.unit (s := S512x2048) ![256, 0] S256x2048.size inb_S512x2048_S256x2048_256_0).emb (ix2 (⟨r.val - 256, by omega⟩ : Fin 256) l) := by
      funext a
      refine Fin.ext ?_
      rw [Rect.emb_apply]
      fin_cases a
      · show r.val = 256 + 1 * (r.val - 256); omega
      · show l.val = 0 + 1 * l.val; omega
    rw [e1]
    refine (View.canon_cons_emb _ _ _ _).trans ((h₁ _ _).trans ?_)
    exact congrArg (fun q => z q l) (Fin.ext (by show 256 + (r.val - 256) = r.val; omega))
theorem ld_256 {e : EltTy} (X : S512x2048.Idx → Elt Ideal e) (r : Fin 256) (l : Fin 2048) : View.ld X (Rect.unit (s := S512x2048) ![256, 0] S256x2048.size inb_S512x2048_S256x2048_256_0) (ix2 r l) = X (ix2 (⟨256 + r.val, by omega⟩ : Fin 512) l) := by
  refine View.ld_unit_apply_of X _ _ _ _ _ fun a => ?_
  fin_cases a
  · rfl
  · exact (Nat.zero_add _).symm
theorem ld_0 {e : EltTy} (X : S512x2048.Idx → Elt Ideal e) (r : Fin 256) (l : Fin 2048) : View.ld X (Rect.unit (s := S512x2048) ![0, 0] S256x2048.size inb_S512x2048_S256x2048_0_0) (ix2 r l) = X (ix2 (⟨0 + r.val, by omega⟩ : Fin 512) l) := by
  refine View.ld_unit_apply_of X _ _ _ _ _ fun a => ?_
  fin_cases a
  · rfl
  · exact (Nat.zero_add _).symm
theorem idx_whole (j : S512x2048.Idx) : (Rect.unit (s := S512x2048) ![0, 0] S512x2048.size inb_S512x2048_S512x2048_0_0).toLoadRect.idx j = j := by
  funext a
  refine Fin.ext ((Rect.idx_unit_val _ _ _ _ a).trans ?_)
  fin_cases a <;> exact Nat.zero_add _

/-- The batch entry of a row. -/
def mrow (R : Fin 16384) : Fin 4 := ⟨R.val / 4096, by omega⟩
theorem mrow_gr (r : Fin 512) : mrow (gr t r) = gb t := Fin.ext (by show (t.val / 4 * 512 + r.val) / 4096 = t.val / 32; omega)

section
variable (x : FVec Ideal ⟨2, ![16384, 2048]⟩ .f32) (g : FVec Ideal ⟨2, ![4, 2048]⟩ .f32) (md : FVec Ideal ⟨2, ![4, 12288]⟩ .f32)
  (wu : FVec Ideal ⟨2, ![2048, 8192]⟩ .bf16) (wd : FVec Ideal ⟨2, ![8192, 2048]⟩ .bf16) (fg : FVec Ideal ⟨1, ![2048]⟩ .f32)
/-- A row under its norm, scaled and shifted by the modulation. -/
def hrow (r : Fin 16384) (l : Fin 2048) : EReal :=
  x (ix2 r l) * inv (fun k => x (ix2 r k)) * g (ix2 3 l) * (1 + md (ix2 (mrow r) ⟨8192 + l.val, by omega⟩)) + md (ix2 (mrow r) ⟨6144 + l.val, by omega⟩)
/-- The hidden unit: the rectified projection. -/
def hid (r : Fin 16384) (f : Fin 8192) : EReal := max (∑ k : Fin 2048, hrow x g md r k * wu (ix2 k f)) 0
/-- A hidden unit's part of an output. -/
def term (r : Fin 16384) (l : Fin 2048) (f : Fin 8192) : EReal := hid x g md wu r f * hid x g md wu r f * wd (ix2 f l)
/-- One block's part of an output. -/
def part (r : Fin 16384) (l : Fin 2048) (q : Fin 4) : EReal := ∑ f : Fin 2048, term x g md wu wd r l ⟨q.val * 2048 + f.val, by omega⟩
/-- The residual stream after the block, for a given product. -/
def res (p : Fin 2048 → EReal) (r : Fin 16384) (l : Fin 2048) : EReal := x (ix2 r l) + md (ix2 (mrow r) ⟨10240 + l.val, by omega⟩) * p l
/-- The result: the residual stream under the final norm. -/
def out (p : Fin 2048 → EReal) (r : Fin 16384) (l : Fin 2048) : EReal := res x md p r l * inv (res x md p r) * fg (ix1 l)
end

/-- The rows' payload, on 256 rows of a tile from any row on. -/
theorem pay_rows (X : Vec Ideal S256x2048 .f32) (d : Fin 256 → Fin 512) (hX : ∀ r k, X (ix2 r k) = iblk m c 0 t (ix2 (d r) k)) (r : Fin 256) (l : Fin 2048) :
    k0_pay2 X (k0_pay1 X) (iblk m c 1 t) (iblk m c 2 t) (iblk m c 3 t) (ix2 r l) = hrow (m ((c : Thread nD τ).loc main_arg0)) (m ((c : Thread nD τ).loc main_arg1)) (m ((c : Thread nD τ).loc main_arg2)) (gr t (d r)) l := by
  unfold k0_pay1 k0_pay2
  pointwise
  simp only [hX, blkX, blkS, blkH, blkG, hrow, mrow_gr]
  rfl
theorem pay_acc (h : Vec Ideal S512x2048 .bf16) (a : Vec Ideal S512x2048 .f32)
    (hh : ∀ r l, h (ix2 r l) = hrow (m ((c : Thread nD τ).loc main_arg0)) (m ((c : Thread nD τ).loc main_arg1)) (m ((c : Thread nD τ).loc main_arg2)) (gr t r) l)
    (r : Fin 512) (l : Fin 2048) :
    k0_pay4 h (iblk m c 5 t) a (iblk m c 6 t) (ix2 r l) = a (ix2 r l) + part (m ((c : Thread nD τ).loc main_arg0)) (m ((c : Thread nD τ).loc main_arg1)) (m ((c : Thread nD τ).loc main_arg2)) (m ((c : Thread nD τ).loc main_arg3)) (m ((c : Thread nD τ).loc main_arg4)) (gr t r) l (gq t) := by
  unfold k0_pay4
  pointwise
  simp only [blkU, blkD, hh]
  rfl
theorem pay_fin (X : Vec Ideal S256x2048 .f32) (a : Vec Ideal S256x2048 .f32) (d : Fin 256 → Fin 512) (hX : ∀ r k, X (ix2 r k) = iblk m c 0 t (ix2 (d r) k)) (r : Fin 256) (l : Fin 2048) :
    k0_pay5 (iblk m c 4 t) X a (iblk m c 7 t) (ix2 r l) = out (m ((c : Thread nD τ).loc main_arg0)) (m ((c : Thread nD τ).loc main_arg2)) (m ((c : Thread nD τ).loc main_arg5)) (fun k => a (ix2 r k)) (gr t (d r)) l := by
  unfold k0_pay5
  pointwise
  simp only [hX, blkX, blkT, blkF, ← mrow_gr t (d r)]
  rfl

/-- What a tile's first point leaves: the rows for all its points, and the first block's part of the product. -/
theorem first_rows (h0 : t.val % 4 = 0) (h1 : ¬t.val % 4 = 3) (r : Fin 512) (l : Fin 2048) :
    (outsAt0 m c t.val t.isLt).2 (ix2 r l) = hrow (m ((c : Thread nD τ).loc main_arg0)) (m ((c : Thread nD τ).loc main_arg1)) (m ((c : Thread nD τ).loc main_arg2)) (gr t r) l := by
  rw [outsAt0_A m c t h0 h1]
  unfold sout0_A_0
  frame_open
  simp (disch := decide) only [↓ View.readCov_skip, ↓ View.readCov_cons_toLoadRect, ↓ View.readCov_fill]
  frame_out
  exact two_rows (e := .bf16) _ _ _ (fun r l => hrow (m ((c : Thread nD τ).loc main_arg0)) (m ((c : Thread nD τ).loc main_arg1)) (m ((c : Thread nD τ).loc main_arg2)) (gr t r) l) (pay_rows m c t _ _ (ld_256 (e := .f32) _)) (pay_rows m c t _ _ (ld_0 (e := .f32) _)) r l
theorem zero_at (r : Fin 512) (l : Fin 2048) : k0_pay3 (F := Ideal) (ix2 r l) = (0 : EReal) := by
  unfold k0_pay3
  pointwise
theorem acc_0 (h0 : t.val % 4 = 0) (r : Fin 512) (l : Fin 2048) :
    (outsAt0 m c t.val t.isLt).1 (ix2 r l) = part (m ((c : Thread nD τ).loc main_arg0)) (m ((c : Thread nD τ).loc main_arg1)) (m ((c : Thread nD τ).loc main_arg2)) (m ((c : Thread nD τ).loc main_arg3)) (m ((c : Thread nD τ).loc main_arg4)) (gr t r) l 0 := by
  rw [outsAt0_A m c t h0 (by omega)]
  unfold out0_A_8
  frame_open
  simp (disch := decide) only [↓ View.readCov_skip, ↓ View.readCov_cons_toLoadRect, ↓ View.readCov_fill]
  frame_out
  refine (pay_acc m c t _ _ (fun r l => ?_) r l).trans ?_
  · rw [View.readCov_eq_canon']
    show View.canon _ (LoadRect.idx _ _) = _
    rw [idx_whole]
    exact two_rows (e := .bf16) _ _ _ (fun r l => hrow (m ((c : Thread nD τ).loc main_arg0)) (m ((c : Thread nD τ).loc main_arg1)) (m ((c : Thread nD τ).loc main_arg2)) (gr t r) l) (pay_rows m c t _ _ (ld_256 (e := .f32) _)) (pay_rows m c t _ _ (ld_0 (e := .f32) _)) r l
  · rw [zero_at, zero_add, show gq t = 0 from Fin.ext h0]
theorem rows_kept (h0 : ¬t.val % 4 = 0) : (outsAt0 m c t.val t.isLt).2 = (outsAt0 m c (t.val - 1) (by omega)).2 := by
  by_cases h1 : t.val % 4 = 3
  · rw [outsAt0_C m c t h0 h1]
  · rw [outsAt0_B m c t h0 h1]
/-- Within a tile the row does not depend on the point. -/
theorem gr_pred (h0 : ¬t.val % 4 = 0) (h : t.val - 1 < cfg0.N) (r : Fin 512) : gr ⟨t.val - 1, h⟩ r = gr t r :=
  Fin.ext (by show (t.val - 1) / 4 * 512 + r.val = t.val / 4 * 512 + r.val; omega)
/-- The rows a tile's first point leaves stay for all its points. -/
theorem rows_at : ∀ (n : ℕ) (hn : n < cfg0.N) (r : Fin 512) (l : Fin 2048), (outsAt0 m c n hn).2 (ix2 r l) = hrow (m ((c : Thread nD τ).loc main_arg0)) (m ((c : Thread nD τ).loc main_arg1)) (m ((c : Thread nD τ).loc main_arg2)) (gr ⟨n, hn⟩ r) l
  | 0, hn, r, l => first_rows m c ⟨0, hn⟩ rfl (by show ¬0 % 4 = 3; decide) r l
  | n + 1, hn, r, l => by
    by_cases h0 : (n + 1) % 4 = 0
    · exact first_rows m c ⟨n + 1, hn⟩ h0 (by show ¬(n + 1) % 4 = 3; omega) r l
    · refine (congrFun (rows_kept m c ⟨n + 1, hn⟩ h0) _).trans ((rows_at n (by omega) r l).trans ?_)
      exact congrArg (fun q => hrow (m ((c : Thread nD τ).loc main_arg0)) (m ((c : Thread nD τ).loc main_arg1)) (m ((c : Thread nD τ).loc main_arg2)) q l) (gr_pred ⟨n + 1, hn⟩ h0 (by show n < cfg0.N; omega) r)
theorem rows_pred (h0 : ¬t.val % 4 = 0) (r : Fin 512) (l : Fin 2048) : (outsAt0 m c (t.val - 1) (by omega)).2 (ix2 r l) = hrow (m ((c : Thread nD τ).loc main_arg0)) (m ((c : Thread nD τ).loc main_arg1)) (m ((c : Thread nD τ).loc main_arg2)) (gr t r) l :=
  (rows_at m c (t.val - 1) (by omega) r l).trans (congrArg (fun q => hrow (m ((c : Thread nD τ).loc main_arg0)) (m ((c : Thread nD τ).loc main_arg1)) (m ((c : Thread nD τ).loc main_arg2)) q l) (gr_pred t h0 _ r))
/-- What a tile's middle point leaves, over what the point before left. -/
theorem mid_acc (h0 : ¬t.val % 4 = 0) (h1 : ¬t.val % 4 = 3) (r : Fin 512) (l : Fin 2048) :
    (outsAt0 m c t.val t.isLt).1 (ix2 r l) = (outsAt0 m c (t.val - 1) (by omega)).1 (ix2 r l) + part (m ((c : Thread nD τ).loc main_arg0)) (m ((c : Thread nD τ).loc main_arg1)) (m ((c : Thread nD τ).loc main_arg2)) (m ((c : Thread nD τ).loc main_arg3)) (m ((c : Thread nD τ).loc main_arg4)) (gr t r) l (gq t) := by
  refine Eq.trans ?_ (pay_acc m c t (outsAt0 m c (t.val - 1) (by omega)).2 (outsAt0 m c (t.val - 1) (by omega)).1 (rows_pred m c t h0) r l)
  rw [outsAt0_B m c t h0 h1]
  unfold out0_B_8
  frame_open
  simp (disch := decide) only [↓ View.readCov_skip, ↓ View.readCov_cons_toLoadRect, ↓ View.readCov_fill]
  frame_out
  rw [read_unread_whole]
/-- What a tile's last point leaves: the finished rows. -/
theorem last_acc (h0 : ¬t.val % 4 = 0) (h1 : t.val % 4 = 3) (r : Fin 512) (l : Fin 2048) :
    (outsAt0 m c t.val t.isLt).1 (ix2 r l)
      = out (m ((c : Thread nD τ).loc main_arg0)) (m ((c : Thread nD τ).loc main_arg2)) (m ((c : Thread nD τ).loc main_arg5)) (fun k => (outsAt0 m c (t.val - 1) (by omega)).1 (ix2 r k) + part (m ((c : Thread nD τ).loc main_arg0)) (m ((c : Thread nD τ).loc main_arg1)) (m ((c : Thread nD τ).loc main_arg2)) (m ((c : Thread nD τ).loc main_arg3)) (m ((c : Thread nD τ).loc main_arg4)) (gr t r) k (gq t)) (gr t r) l := by
  have ha := pay_acc m c t (outsAt0 m c (t.val - 1) (by omega)).2 (outsAt0 m c (t.val - 1) (by omega)).1 (rows_pred m c t h0)
  rw [outsAt0_C m c t h0 h1]
  unfold out0_C_8
  frame_open
  simp (disch := decide) only [↓ View.readCov_skip, ↓ View.readCov_cons_toLoadRect, ↓ View.readCov_fill]
  frame_out
  simp only [read_unread_whole]
  refine two_rows (e := .f32) _ _ _ (fun r l => out (m ((c : Thread nD τ).loc main_arg0)) (m ((c : Thread nD τ).loc main_arg2)) (m ((c : Thread nD τ).loc main_arg5)) (fun k => (outsAt0 m c (t.val - 1) (by omega)).1 (ix2 r k) + part (m ((c : Thread nD τ).loc main_arg0)) (m ((c : Thread nD τ).loc main_arg1)) (m ((c : Thread nD τ).loc main_arg2)) (m ((c : Thread nD τ).loc main_arg3)) (m ((c : Thread nD τ).loc main_arg4)) (gr t r) k (gq t)) (gr t r) l) (fun r l => ?_) (fun r l => ?_) r l
  · refine (pay_fin m c t _ _ _ (ld_256 (e := .f32) _) r l).trans ?_
    exact congrArg (fun p => out (m ((c : Thread nD τ).loc main_arg0)) (m ((c : Thread nD τ).loc main_arg2)) (m ((c : Thread nD τ).loc main_arg5)) p _ l) (funext fun k => (ld_256 (e := .f32) _ r k).trans (ha _ k))
  · refine (pay_fin m c t _ _ _ (ld_0 (e := .f32) _) r l).trans ?_
    exact congrArg (fun p => out (m ((c : Thread nD τ).loc main_arg0)) (m ((c : Thread nD τ).loc main_arg2)) (m ((c : Thread nD τ).loc main_arg5)) p _ l) (funext fun k => (ld_0 (e := .f32) _ r k).trans (ha _ k))

theorem acc_1 (h : t.val % 4 = 1) (r : Fin 512) (l : Fin 2048) : (outsAt0 m c t.val t.isLt).1 (ix2 r l) = part (m ((c : Thread nD τ).loc main_arg0)) (m ((c : Thread nD τ).loc main_arg1)) (m ((c : Thread nD τ).loc main_arg2)) (m ((c : Thread nD τ).loc main_arg3)) (m ((c : Thread nD τ).loc main_arg4)) (gr t r) l 0 + part (m ((c : Thread nD τ).loc main_arg0)) (m ((c : Thread nD τ).loc main_arg1)) (m ((c : Thread nD τ).loc main_arg2)) (m ((c : Thread nD τ).loc main_arg3)) (m ((c : Thread nD τ).loc main_arg4)) (gr t r) l 1 := by
  rw [mid_acc m c t (by omega) (by omega), show gq t = 1 from Fin.ext h]
  refine congrArg (· + _) ((acc_0 m c ⟨t.val - 1, by omega⟩ (by show (t.val - 1) % 4 = 0; omega) r l).trans ?_)
  rw [gr_pred t (by omega)]
theorem acc_2 (h : t.val % 4 = 2) (r : Fin 512) (l : Fin 2048) : (outsAt0 m c t.val t.isLt).1 (ix2 r l) = part (m ((c : Thread nD τ).loc main_arg0)) (m ((c : Thread nD τ).loc main_arg1)) (m ((c : Thread nD τ).loc main_arg2)) (m ((c : Thread nD τ).loc main_arg3)) (m ((c : Thread nD τ).loc main_arg4)) (gr t r) l 0 + part (m ((c : Thread nD τ).loc main_arg0)) (m ((c : Thread nD τ).loc main_arg1)) (m ((c : Thread nD τ).loc main_arg2)) (m ((c : Thread nD τ).loc main_arg3)) (m ((c : Thread nD τ).loc main_arg4)) (gr t r) l 1 + part (m ((c : Thread nD τ).loc main_arg0)) (m ((c : Thread nD τ).loc main_arg1)) (m ((c : Thread nD τ).loc main_arg2)) (m ((c : Thread nD τ).loc main_arg3)) (m ((c : Thread nD τ).loc main_arg4)) (gr t r) l 2 := by
  rw [mid_acc m c t (by omega) (by omega), show gq t = 2 from Fin.ext h]
  refine congrArg (· + _) ((acc_1 m c ⟨t.val - 1, by omega⟩ (by show (t.val - 1) % 4 = 1; omega) r l).trans ?_)
  rw [gr_pred t (by omega)]
/-- The whole array after the run. -/
def FO : S16384x2048.Idx → EReal := fun i => out (m ((c : Thread nD τ).loc main_arg0)) (m ((c : Thread nD τ).loc main_arg2)) (m ((c : Thread nD τ).loc main_arg5)) (fun k => ∑ f : Fin 8192, term (m ((c : Thread nD τ).loc main_arg0)) (m ((c : Thread nD τ).loc main_arg1)) (m ((c : Thread nD τ).loc main_arg2)) (m ((c : Thread nD τ).loc main_arg3)) (m ((c : Thread nD τ).loc main_arg4)) (i 0) k f) (i 0) (i 1)
theorem acc_3 (h : t.val % 4 = 3) (r : Fin 512) (l : Fin 2048) : (outsAt0 m c t.val t.isLt).1 (ix2 r l) = FO m c (ix2 (gr t r) l) := by
  refine (last_acc m c t (by omega) h r l).trans ?_
  show _ = out _ _ _ _ (gr t r) l
  refine congrArg (fun p => out _ _ _ p (gr t r) l) (funext fun k => ?_)
  rw [sum_blk (n := 4) (k := 2048) rfl, Fin.sum_univ_four, show gq t = 3 from Fin.ext h]
  refine congrArg (· + _) ((acc_2 m c ⟨t.val - 1, by omega⟩ (by show (t.val - 1) % 4 = 2; omega) r k).trans ?_)
  rw [gr_pred t (by omega)]
  rfl
theorem finalO : (dats m 0 c).arrAt 8 cfg0.N = FO m c := by
  refine (dats m 0 c).arrAt_eq_of_covers 8 (FO m c) (by decide +kernel) fun t hf y => ?_
  have ht : t.val % 4 = 3 := (by decide +kernel : ∀ t : Fin cfg0.N, (cfg0.win 8).flush t = true → t.val % 4 = 3) t hf
  blk_simp
  rw [after0_8]
  have idx : win0_8.index t = ![t.val / 4, 0] := (by decide +kernel : ∀ t : Fin grid0.N, win0_8.index t = ![t.val / 4, 0]) t
  have e0 : (((cfg0.win 8).blk t).view.emb y 0 : ℕ) = t.val / 4 * 512 + (y 0).val := by blk_simp [idx]; try omega
  have e1 : (((cfg0.win 8).blk t).view.emb y 1 : ℕ) = (y 1).val := by blk_simp [idx]; try omega
  refine (congrArg (outsAt0 m c t.val t.isLt).1 (ix2_of y)).trans ((acc_3 m c t ht (y 0) (y 1)).trans ?_)
  refine congrArg (FO m c) ?_
  rw [ix2_of (((cfg0.win 8).blk t).view.emb y)]
  exact congr (congrArg ix2 (Fin.ext e0.symm)) (Fin.ext e1.symm)
end

section
attribute [local instance] Cert.FfnPrompt.Gen.facts Cert.FfnPromptIdeal.Gen.facts
/-- The two programs run the same bodies. -/
theorem same₀ : (Cert.FfnPrompt.defs₀ : Defs Cert.FfnPrompt.nD Cert.FfnPrompt.τ Cert.FfnPrompt.sig (Elt Bits) Cert.FfnPrompt.Λ₀) = (Cert.FfnPromptIdeal.defs₀ (F := Bits)) := by
  unfold Cert.FfnPrompt.defs₀ Cert.FfnPromptIdeal.defs₀
  refine congrArg Defs.onTc ?_
  funext p
  funext x
  match p, x with
  | 0, (t, s) => rfl
theorem same : (Cert.FfnPrompt.defs (F := Bits)) = (Cert.FfnPromptIdeal.defs (F := Bits)) := congrArg (Pipeline.defs _) same₀
theorem frameK : Cert.quiescent_FfnPrompt (hFfnPrompt := Cert.FfnPrompt.Gen.facts) := by
  intro m ρ h
  rw [same]
  exact Cert.FfnPromptIdeal.Gen.frame (F := Bits) m ρ
end
theorem frameI : Cert.quiescent_FfnPromptIdeal := fun m ρ _ => Cert.FfnPromptIdeal.Gen.frame m ρ
theorem frameR : Cert.quiescent_FfnPromptReferenceIdeal := by
  intro m g _
  refine (θ_run _ _ _).mono (fun r h => ⟨fun c => (h c).2, sem_eq_zero_of_no_sems (by decide) r.2⟩) (Cert.FfnPromptReferenceIdeal.Value.run m g)

theorem algebraic : Cert.algebraic_FfnPromptIdeal_FfnPromptReferenceIdeal := by
  intro m g m' g' _ hag
  refine ⟨FO m, ?_, ?_⟩
  · refine (θ_run _ _ _).mono (fun r h c => ?_) (Cert.FfnPromptIdeal.Value.run_blocks m g)
    exact ⟨(h c).1.trans (finalO m c), (h c).2⟩
  · refine (θ_run _ _ _).mono (fun r h c => ?_) (Cert.FfnPromptReferenceIdeal.Value.run m' g')
    obtain ⟨r0, rest⟩ := h c
    obtain ⟨h0, h1, h2, h3, h4, h5⟩ := hag c
    refine ⟨r0.trans ?_, rest⟩
    unfold Cert.FfnPromptReferenceIdeal.Value.res_main_v44
    rw [h0, h1, h2, h3, h4, h5]
    funext i
    obtain ⟨a, b, rfl⟩ : ∃ a b, i = ix2 a b := ⟨_, _, ix2_of i⟩
    pointwise
    rfl
end Cert.M.Fp
-- ==== Proof.M.Modulation.lean ====
/- The modulation of every layer for both batches' conditions. -/
module
public import proofs.«01_k».proof.Defs
public import proofs.«01_k».proof.Proof.Gen.ModulationIdeal.Frame
public import proofs.«01_k».proof.Proof.Gen.ModulationReferenceIdeal.Run
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.M.Ix
@[expose] public section
set_option maxRecDepth 16384
noncomputable section
namespace Cert.M.Mod
open Idealize.ShloMosaic Idealize.ShloMosaic.TcCoe Idealize.SL.Sem

/-- A condition under its logistic gate. -/
def gated (u : EReal) : EReal := u * Ideal.div 1 (1 + Ideal.exp (-u))
/-- One layer's modulation of a row of conditions. -/
def modul (x : Fin 2048 → EReal) (w : FVec Ideal ⟨3, ![4, 2048, 12288]⟩ .f32) (b : FVec Ideal ⟨2, ![4, 12288]⟩ .f32)
    (q : Fin 4) (l : Fin 12288) : EReal :=
  (∑ k : Fin 2048, gated (x k) * w (ix3 q k l)) + b (ix2 q l)
/-- The conditions of both batches one under the other, the last four rows zero. -/
def stacked (p : FVec Ideal ⟨2, ![4, 2048]⟩ .f32) (s : FVec Ideal ⟨2, ![8, 2048]⟩ .f32) (r : Fin 16) (k : Fin 2048) : EReal :=
  if hr : r.val < 12 then (if hp : r.val < 4 then p (ix2 ⟨r.val, hp⟩ k) else s (ix2 ⟨r.val - 4, by omega⟩ k)) else 0

/-- The padding is the integer zero converted. -/
theorem pad0 : ((((0#32 : BitVec 32).toInt : ℤ) : ℝ) : EReal) = 0 := by simp

section
open Cert.ModulationIdeal Cert.ModulationIdeal.Gen
variable (m : (ℓ : Loc nD τ sig) → Buf (Elt Ideal) ℓ) (c : Dev nD)

theorem entryC (r : Fin 16) (k : Fin 2048) : V m c main_v1 (ix2 r k) = stacked (m ((c : Thread nD τ).loc main_arg0)) (m ((c : Thread nD τ).loc main_arg1)) r k := by
  simp only [V, V0, List.flatten_cons, List.flatten_nil, List.append_nil, List.cons_append, List.nil_append]
  entry_read
  simp only [StableHlo.TRef.of, StableHlo.TRef.toBuf, StableHlo.TRef.ofBuf, cast_eq]
  pointwise
  simp only [FloatOps.sitofp, pad0]
  rfl
theorem entryB (q : Fin 4) (l : Fin 12288) : V m c main_v2 (ix3 q 0 l) = m ((c : Thread nD τ).loc main_arg3) (ix2 q l) := by
  simp only [V, V0, List.flatten_cons, List.flatten_nil, List.append_nil, List.cons_append, List.nil_append]
  entry_read
  pointwise

variable (t : Fin cfg0.N)

/-- The layer and the column tile a grid point works on. -/
def ly (t : Fin cfg0.N) : Fin 4 := ⟨t.val / 12, by have h : t.val < 48 := t.isLt; omega⟩
def ct (t : Fin cfg0.N) : Fin 12 := ⟨t.val % 12, by omega⟩
theorem ly_val : (ly t).val = t.val / 12 := rfl
theorem ct_val : (ct t).val = t.val % 12 := rfl

theorem blkC (r : Fin 16) (k : Fin 2048) : iblk m c 0 t (ix2 r k) = stacked (m ((c : Thread nD τ).loc main_arg0)) (m ((c : Thread nD τ).loc main_arg1)) r k := by
  refine Eq.trans ?_ (entryC m c r k)
  have idx : win0_0.index t = ![0, 0] := (by decide +kernel : ∀ t : Fin grid0.N, win0_0.index t = ![0, 0]) t
  blk_ext [iblk, idx]
theorem blkW (k : Fin 2048) (l : Fin 1024) : iblk m c 1 t (ix3 0 k l) = m ((c : Thread nD τ).loc main_arg2) (ix3 (ly t) k ⟨1024 * (ct t).val + l.val, by omega⟩) := by
  have idx : win0_1.index t = ![t.val / 12, 0, t.val % 12] := (by decide +kernel : ∀ t : Fin grid0.N, win0_1.index t = ![t.val / 12, 0, t.val % 12]) t
  have ha := ly_val t
  have hb := ct_val t
  blk_ext [iblk, V_main_arg2, idx]
theorem blkB (l : Fin 1024) : iblk m c 2 t (ix3 0 0 l) = m ((c : Thread nD τ).loc main_arg3) (ix2 (ly t) ⟨1024 * (ct t).val + l.val, by omega⟩) := by
  refine Eq.trans ?_ (entryB m c (ly t) ⟨1024 * (ct t).val + l.val, by omega⟩)
  have idx : win0_2.index t = ![t.val / 12, 0, t.val % 12] := (by decide +kernel : ∀ t : Fin grid0.N, win0_2.index t = ![t.val / 12, 0, t.val % 12]) t
  have ha := ly_val t
  have hb := ct_val t
  blk_ext [iblk, idx]

theorem tile (r : Fin 16) (l : Fin 1024) :
    out0_3 (iblk m c 0 t) (iblk m c 1 t) (iblk m c 2 t) (ix3 0 r l) = modul (stacked (m ((c : Thread nD τ).loc main_arg0)) (m ((c : Thread nD τ).loc main_arg1)) r) (m ((c : Thread nD τ).loc main_arg2)) (m ((c : Thread nD τ).loc main_arg3)) (ly t) ⟨1024 * (ct t).val + l.val, by omega⟩ := by
  unfold out0_3 r0_0 r0_1 r0_2 r0_3
  rw [View.canon_cons_unit_lit (h := by decide)]
  unfold k0_pay1
  pointwise
  simp only [blkC, blkW, blkB, sub_eq_add_neg, zero_add]
  rfl

/-- The whole array after the run, and the two batches' parts of it. -/
def FA : S4x16x12288.Idx → EReal := fun i => modul (stacked (m ((c : Thread nD τ).loc main_arg0)) (m ((c : Thread nD τ).loc main_arg1)) (i 1)) (m ((c : Thread nD τ).loc main_arg2)) (m ((c : Thread nD τ).loc main_arg3)) (i 0) (i 2)
def FP : S4x4x12288.Idx → EReal := fun i => modul (fun k => m ((c : Thread nD τ).loc main_arg0) (ix2 (i 1) k)) (m ((c : Thread nD τ).loc main_arg2)) (m ((c : Thread nD τ).loc main_arg3)) (i 0) (i 2)
def FS : S4x8x12288.Idx → EReal := fun i => modul (fun k => m ((c : Thread nD τ).loc main_arg1) (ix2 (i 1) k)) (m ((c : Thread nD τ).loc main_arg2)) (m ((c : Thread nD τ).loc main_arg3)) (i 0) (i 2)
theorem finalA : (dats m 0 c).arrAt 3 cfg0.N = FA m c := by
  refine (dats m 0 c).arrAt_eq_of_covers 3 (FA m c) (by decide +kernel) fun t hf y => ?_
  blk_simp
  rw [after0_3]
  have idx : win0_3.index t = ![t.val / 12, 0, t.val % 12] := (by decide +kernel : ∀ t : Fin grid0.N, win0_3.index t = ![t.val / 12, 0, t.val % 12]) t
  have y0 : y 0 = (0 : Fin 1) := Subsingleton.elim (α := Fin 1) _ _
  have y0v : (y 0).val = 0 := congrArg Fin.val y0
  have e0 : (((cfg0.win 3).blk t).view.emb y 0 : ℕ) = t.val / 12 := by blk_simp [idx]; try omega
  have e1 : (((cfg0.win 3).blk t).view.emb y 1 : ℕ) = (y 1).val := by blk_simp [idx]; try omega
  have e2 : (((cfg0.win 3).blk t).view.emb y 2 : ℕ) = 1024 * (t.val % 12) + (y 2).val := by blk_simp [idx]; try omega
  have hy : y = ix3 (0 : Fin 1) (y 1) (y 2) := (ix3_of y).trans (by rw [y0]; rfl)
  refine (congrArg (out0_3 (iblk m c 0 t) (iblk m c 1 t) (iblk m c 2 t)) hy).trans ((tile m c t (y 1) (y 2)).trans ?_)
  have f0 : ly t = ((cfg0.win 3).blk t).view.emb y 0 := Fin.ext e0.symm
  have f1 : (y 1 : Fin 16) = ((cfg0.win 3).blk t).view.emb y 1 := Fin.ext e1.symm
  have f2 : (⟨1024 * (ct t).val + (y 2).val, by have h2 : (y 2).val < 1024 := (y 2).isLt; omega⟩ : Fin 12288) = ((cfg0.win 3).blk t).view.emb y 2 := Fin.ext e2.symm
  unfold FA
  rw [← f0, ← f1, ← f2]

/-- The rows of the first batch, and those of the second. -/
theorem partP (q a : Fin 4) (l : Fin 12288) : FA m c (ix3 q ⟨a.val, by omega⟩ l) = FP m c (ix3 q a l) := by
  have e : stacked (m ((c : Thread nD τ).loc main_arg0)) (m ((c : Thread nD τ).loc main_arg1)) ⟨a.val, by omega⟩ = fun k => m ((c : Thread nD τ).loc main_arg0) (ix2 a k) := by
    funext k
    unfold stacked
    rw [dif_pos (by show a.val < 12; omega), dif_pos a.isLt]
  exact congrArg (fun x => modul x (m ((c : Thread nD τ).loc main_arg2)) (m ((c : Thread nD τ).loc main_arg3)) q l) e
theorem partS (q : Fin 4) (a : Fin 8) (l : Fin 12288) : FA m c (ix3 q ⟨4 + a.val, by omega⟩ l) = FS m c (ix3 q a l) := by
  have e : stacked (m ((c : Thread nD τ).loc main_arg0)) (m ((c : Thread nD τ).loc main_arg1)) ⟨4 + a.val, by omega⟩ = fun k => m ((c : Thread nD τ).loc main_arg1) (ix2 a k) := by
    funext k
    unfold stacked
    rw [dif_pos (by show 4 + a.val < 12; omega), dif_neg (by show ¬4 + a.val < 4; omega)]
    exact congrArg (fun r : Fin 8 => m ((c : Thread nD τ).loc main_arg1) (ix2 r k)) (Fin.ext (by show 4 + a.val - 4 = a.val; omega))
  exact congrArg (fun x => modul x (m ((c : Thread nD τ).loc main_arg2)) (m ((c : Thread nD τ).loc main_arg3)) q l) e

/-- What the lines after the call leave in the two results. -/
theorem finalP : Pipeline.afterTail₀ cfgs (dats m) 0 (V0 m) [hostOps1] c main_v4 = FP m c := by
  unfold Pipeline.afterTail₀
  have hv : Pipeline.withArrays (cfgs 0).spec c (V0 m c) (fun w => (dats m 0 c).arrAt w (cfgs 0).N) (Proc.devRef .tc main_v3) = FA m c :=
    (Pipeline.withArrays_arr (cfgs 0).spec (by decide) c (V0 m c) (fun w => (dats m 0 c).arrAt w (cfgs 0).N) 3).trans (finalA m c)
  revert hv
  generalize Pipeline.withArrays (cfgs 0).spec c (V0 m c) (fun w => (dats m 0 c).arrAt w (cfgs 0).N) = X
  intro hv
  simp only [hostOps1, List.flatten_cons, List.flatten_nil, List.append_nil, List.cons_append, List.nil_append]
  after_results
  rw [hv]
  funext i
  obtain ⟨a, b, d, rfl⟩ : ∃ a b d, i = ix3 a b d := ⟨_, _, _, ix3_of i⟩
  pointwise
  exact partP m c a b d
theorem finalS : Pipeline.afterTail₀ cfgs (dats m) 0 (V0 m) [hostOps1] c main_v5 = FS m c := by
  unfold Pipeline.afterTail₀
  have hv : Pipeline.withArrays (cfgs 0).spec c (V0 m c) (fun w => (dats m 0 c).arrAt w (cfgs 0).N) (Proc.devRef .tc main_v3) = FA m c :=
    (Pipeline.withArrays_arr (cfgs 0).spec (by decide) c (V0 m c) (fun w => (dats m 0 c).arrAt w (cfgs 0).N) 3).trans (finalA m c)
  revert hv
  generalize Pipeline.withArrays (cfgs 0).spec c (V0 m c) (fun w => (dats m 0 c).arrAt w (cfgs 0).N) = X
  intro hv
  simp only [hostOps1, List.flatten_cons, List.flatten_nil, List.append_nil, List.cons_append, List.nil_append]
  after_results
  rw [hv]
  funext i
  obtain ⟨a, b, d, rfl⟩ : ∃ a b d, i = ix3 a b d := ⟨_, _, _, ix3_of i⟩
  pointwise
  exact partS m c a b d
end

/-- The products of the reference stand the other way round. -/
theorem modul_comm (x : Fin 2048 → EReal) (w : FVec Ideal ⟨3, ![4, 2048, 12288]⟩ .f32) (b : FVec Ideal ⟨2, ![4, 12288]⟩ .f32)
    (q : Fin 4) (l : Fin 12288) : (∑ k : Fin 2048, (w (ix3 q k l) : EReal) * gated (x k)) + b (ix2 q l) = modul x w b q l :=
  congrArg (· + (b (ix2 q l) : EReal)) (Finset.sum_congr rfl fun k _ => mul_comm _ _)

theorem frameR : Cert.quiescent_ModulationReferenceIdeal := by
  intro m g _
  refine (θ_run _ _ _).mono (fun r h => ⟨fun c => (h c).2.2, sem_eq_zero_of_no_sems (by decide) r.2⟩) (Cert.ModulationReferenceIdeal.Value.run m g)

theorem algebraic : Cert.algebraic_ModulationIdeal_ModulationReferenceIdeal := by
  intro m g m' g' _ hag
  refine ⟨FP m, FS m, ?_, ?_⟩
  · run_from (Cert.ModulationIdeal.Gen.run_main m g) & (Cert.ModulationIdeal.Gen.unchanged m g)
    · exact finalP m c
    · exact finalS m c
  · refine (θ_run _ _ _).mono (fun r h c => ?_) (Cert.ModulationReferenceIdeal.Value.run m' g')
    obtain ⟨r0, r1, rest⟩ := h c
    obtain ⟨h0, h1, h2, h3⟩ := hag c
    refine ⟨r0.trans ?_, r1.trans ?_, rest⟩
    · rw [h0, h2, h3]
      funext i
      obtain ⟨a, b, d, rfl⟩ : ∃ a b d, i = ix3 a b d := ⟨_, _, _, ix3_of i⟩
      pointwise
      exact modul_comm _ _ _ a d
    · rw [h1, h2, h3]
      funext i
      obtain ⟨a, b, d, rfl⟩ : ∃ a b d, i = ix3 a b d := ⟨_, _, _, ix3_of i⟩
      pointwise
      exact modul_comm _ _ _ a d

end Cert.M.Mod
-- ==== Proof.M.LowerBounds.lean ====
/- The lower bounds of the forget gates: running sums over the layers of a softmax. -/
module
public import proofs.«01_k».proof.Defs
public import proofs.«01_k».proof.Proof.Gen.LowerBoundsIdeal.Value
public import proofs.«01_k».proof.Proof.Gen.LowerBoundsReferenceIdeal.Run
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.M.Ix
@[expose] public section
set_option maxRecDepth 16384
noncomputable section
namespace Cert.M.Lb
open Idealize.ShloMosaic Idealize.ShloMosaic.TcCoe Idealize.SL.Sem

/-- The greatest entry of a column, from the literal for minus infinity. -/
def top (x : FVec Ideal ⟨2, ![4, 2048]⟩ .f32) (l : Fin 2048) : EReal :=
  Finset.univ.fold max (Ideal.ofBits .f32 0xFF800000#32) (fun k : Fin 4 => (x (ix2 k l) : EReal))
/-- A layer's share of its column's softmax. -/
def part (x : FVec Ideal ⟨2, ![4, 2048]⟩ .f32) (q : Fin 4) (l : Fin 2048) : EReal :=
  Ideal.div (Ideal.exp (x (ix2 q l) - top x l)) (∑ k : Fin 4, Ideal.exp (x (ix2 k l) - top x l))
/-- The sum of the shares up to a layer's. -/
def upto (x : FVec Ideal ⟨2, ![4, 2048]⟩ .f32) (q : Fin 4) (l : Fin 2048) : EReal :=
  (![part x 0 l, part x 0 l + part x 1 l, part x 0 l + part x 1 l + part x 2 l, part x 0 l + part x 1 l + part x 2 l + part x 3 l] : Fin 4 → EReal) q

section
open Cert.LowerBoundsIdeal Cert.LowerBoundsIdeal.Gen

theorem pay1 (x : FVec Ideal S4x2048 .f32) (q : Fin 4) (l : Fin 2048) : k0_pay1 (F := Ideal) x (ix2 q l) = part x q l := by
  unfold k0_pay1
  pointwise
  rfl
theorem pay3 (x : FVec Ideal S4x2048 .f32) (l : Fin 2048) : k0_pay3 (F := Ideal) x (ix2 0 l) = upto x 0 l - part x 0 l := by
  unfold k0_pay3 k0_pay2
  pointwise
  simp only [pay1]
  rfl
theorem pay5 (x : FVec Ideal S4x2048 .f32) (l : Fin 2048) : k0_pay5 (F := Ideal) x (ix2 0 l) = upto x 1 l - part x 0 l := by
  unfold k0_pay5 k0_pay4 k0_pay2
  pointwise
  simp only [pay1]
  rfl
theorem pay7 (x : FVec Ideal S4x2048 .f32) (l : Fin 2048) : k0_pay7 (F := Ideal) x (ix2 0 l) = upto x 2 l - part x 0 l := by
  unfold k0_pay7 k0_pay6 k0_pay4 k0_pay2
  pointwise
  simp only [pay1]
  rfl
theorem pay8 (x : FVec Ideal S4x2048 .f32) (l : Fin 2048) : k0_pay8 (F := Ideal) x (ix2 0 l) = upto x 3 l - part x 0 l := by
  unfold k0_pay8 k0_pay6 k0_pay4 k0_pay2
  pointwise
  simp only [pay1]
  rfl

/-- A row stored by itself, read at its own row. -/
theorem row_at (y : S4x2048.Idx) (a : Nat) (w : S1x2048.Idx → EReal) (z : EReal) (hz : (y 0).val = a → w (ix2 0 (y 1)) = z) :
    View.TileAt (Val := Elt Ideal) (e := .f32) y ![a, 0] S1x2048.size w z := by
  intro i hi
  have i0 : i 0 = (0 : Fin 1) := Subsingleton.elim (α := Fin 1) _ _
  have h0 : (y 0).val = a + (i 0).val := hi 0
  have h1 : (y 1).val = 0 + (i 1).val := hi 1
  have i0v : (i 0).val = 0 := Nat.lt_one_iff.mp (show (i 0).val < 1 from (i 0).isLt)
  have e1 : (i 1 : Fin 2048) = y 1 := Fin.ext (by rw [h1]; exact (Nat.zero_add _).symm)
  have e : i = ix2 (0 : Fin 1) (y 1) := (ix2_of i).trans (by rw [i0, e1]; rfl)
  rw [e]
  exact hz (by rw [h0, i0v]; rfl)

variable (m : (ℓ : Loc nD τ sig) → Buf (Elt Ideal) ℓ) (c : Dev nD) (t : Fin cfg0.N)
theorem blk0 : iblk m c 0 t = m ((c : Thread nD τ).loc main_arg0) := by
  funext i
  have idx : win0_0.index t = ![0, 0] := (by decide +kernel : ∀ t : Fin grid0.N, win0_0.index t = ![0, 0]) t
  blk_ext [iblk, V_main_arg0, idx]

/-- The whole array after the run. -/
def FL : S4x2048.Idx → EReal := fun i => upto (m ((c : Thread nD τ).loc main_arg0)) (i 0) (i 1) - part (m ((c : Thread nD τ).loc main_arg0)) 0 (i 1)
theorem out_eq (x : FVec Ideal S4x2048 .f32) (y : S4x2048.Idx) : (out0_1 (F := Ideal) x y : EReal) = upto x (y 0) (y 1) - part x 0 (y 1) := by
  have ld : View.ld (Val := Elt Ideal) (e' := .f32) x r0_0 = x := by
    funext i
    exact View.ld_unit_apply_of (Val := Elt Ideal) (e := .f32) x _ _ _ i i fun a => by fin_cases a <;> exact (Nat.zero_add _).symm
  unfold out0_1
  rw [ld]
  refine View.canon_eq_of_allAt _ _ _ (cover0_1 _ _ _ _ y) ?_
  refine View.allAt_cons_unit _ _ _ _ _ (row_at y 3 _ _ fun e => ?_) (View.allAt_cons_unit _ _ _ _ _ (row_at y 2 _ _ fun e => ?_)
    (View.allAt_cons_unit _ _ _ _ _ (row_at y 1 _ _ fun e => ?_) (View.allAt_cons_unit _ _ _ _ _ (row_at y 0 _ _ fun e => ?_) (View.allAt_nil _ _))))
  · rw [show y 0 = (3 : Fin 4) from Fin.ext (n := 4) e]; exact pay8 x (y 1)
  · rw [show y 0 = (2 : Fin 4) from Fin.ext (n := 4) e]; exact pay7 x (y 1)
  · rw [show y 0 = (1 : Fin 4) from Fin.ext (n := 4) e]; exact pay5 x (y 1)
  · rw [show y 0 = (0 : Fin 4) from Fin.ext (n := 4) e]; exact pay3 x (y 1)
theorem finalL : (dats m 0 c).arrAt 1 cfg0.N = FL m c := by
  refine (dats m 0 c).arrAt_eq_of_covers 1 (FL m c) (by decide +kernel) fun t hf y => ?_
  blk_simp
  rw [after0_1, blk0]
  have idx : win0_1.index t = ![0, 0] := (by decide +kernel : ∀ t : Fin grid0.N, win0_1.index t = ![0, 0]) t
  have e0 : (((cfg0.win 1).blk t).view.emb y 0 : ℕ) = (y 0).val := by blk_simp [idx]; try omega
  have e1 : (((cfg0.win 1).blk t).view.emb y 1 : ℕ) = (y 1).val := by blk_simp [idx]; try omega
  have f0 : (y 0 : Fin 4) = ((cfg0.win 1).blk t).view.emb y 0 := Fin.ext e0.symm
  have f1 : (y 1 : Fin 2048) = ((cfg0.win 1).blk t).view.emb y 1 := Fin.ext e1.symm
  refine (out_eq _ y).trans ?_
  unfold FL
  rw [← f0, ← f1]
end

section
open Cert.LowerBoundsReferenceIdeal
variable (x : FVec Ideal S4x2048 .f32) (v : EReal) (h : S4x2048.ReduceWindows ![4, 1] ![1, 1] ![3, 0] ![0, 0] S4x2048) (q : Fin 4) (l : Fin 2048)

/-- What a window's position `n` reads at row `q`: a row of the operand, or the padding. -/
def seen (n : Fin (⟨2, ![4, 1]⟩ : Shape).numel) : EReal :=
  let p : Fin S4x2048.rank → Nat := fun a => ((ix2 q l : S4x2048.Idx) (a.cast h.1.symm)).val * (![1, 1] : Fin 2 → Nat) a + ((⟨2, ![4, 1]⟩ : Shape).rowMajor.symm n a).val
  if hin : ∀ a, (![3, 0] : Fin 2 → Nat) a ≤ p a ∧ p a - (![3, 0] : Fin 2 → Nat) a < S4x2048.size a then x (fun a => ⟨p a - (![3, 0] : Fin 2 → Nat) a, (hin a).2⟩) else v
theorem pos_row : ∀ n : Fin (⟨2, ![4, 1]⟩ : Shape).numel, (((⟨2, ![4, 1]⟩ : Shape).rowMajor.symm n) 0).val = n.val := by decide
theorem pos_col : ∀ n : Fin (⟨2, ![4, 1]⟩ : Shape).numel, (((⟨2, ![4, 1]⟩ : Shape).rowMajor.symm n) 1).val = 0 := by decide
theorem seen_pad (n : Fin (⟨2, ![4, 1]⟩ : Shape).numel) (hp : q.val + n.val < 3) : seen x v h q l n = v := by
  have hr := pos_row n
  refine dif_neg fun hin => ?_
  have h0 : 3 ≤ q.val * 1 + (((⟨2, ![4, 1]⟩ : Shape).rowMajor.symm n) 0).val := (hin 0).1
  omega
theorem seen_row (n : Fin (⟨2, ![4, 1]⟩ : Shape).numel) (r : Fin 4) (hp : q.val + n.val = 3 + r.val) : seen x v h q l n = x (ix2 r l) := by
  have hr := pos_row n
  have hc := pos_col n
  refine (dif_pos ?_).trans ?_
  · intro a
    fin_cases a
    · show 3 ≤ q.val * 1 + (((⟨2, ![4, 1]⟩ : Shape).rowMajor.symm n) 0).val ∧ q.val * 1 + (((⟨2, ![4, 1]⟩ : Shape).rowMajor.symm n) 0).val - 3 < 4
      omega
    · show 0 ≤ l.val * 1 + (((⟨2, ![4, 1]⟩ : Shape).rowMajor.symm n) 1).val ∧ l.val * 1 + (((⟨2, ![4, 1]⟩ : Shape).rowMajor.symm n) 1).val - 0 < 2048
      omega
  · refine congrArg x (funext fun a => Fin.ext ?_)
    fin_cases a
    · show q.val * 1 + (((⟨2, ![4, 1]⟩ : Shape).rowMajor.symm n) 0).val - 3 = r.val
      omega
    · show l.val * 1 + (((⟨2, ![4, 1]⟩ : Shape).rowMajor.symm n) 1).val - 0 = l.val
      omega
/-- A fold over the four positions of a window. -/
theorem fold_four (f : EReal → Fin (⟨2, ![4, 1]⟩ : Shape).numel → EReal) (e : EReal) :
    (List.finRange (⟨2, ![4, 1]⟩ : Shape).numel).foldl f e = f (f (f (f e ⟨0, by decide⟩) ⟨1, by decide⟩) ⟨2, by decide⟩) ⟨3, by decide⟩ := rfl
/-- A window's sum, position by position. -/
theorem window (w : FVec Ideal S_ .f32) (hu : 0 < S_.numel) :
    Host.reduceWindowAdd ![4, 1] ![1, 1] ![3, 0] ![0, 0] x w h hu (ix2 q l)
      = w (Shape.Idx.first hu) + seen x (w (Shape.Idx.first hu)) h q l ⟨0, by decide⟩ + seen x (w (Shape.Idx.first hu)) h q l ⟨1, by decide⟩
        + seen x (w (Shape.Idx.first hu)) h q l ⟨2, by decide⟩ + seen x (w (Shape.Idx.first hu)) h q l ⟨3, by decide⟩ := by
  show Ideal.hostReduceWindowAdd ![4, 1] ![1, 1] ![3, 0] ![0, 0] h x (w (Shape.Idx.first hu)) (ix2 q l) = _
  unfold Ideal.hostReduceWindowAdd Host.reduceWindow
  refine Eq.trans ?_ (fold_four (fun r n => r + seen x (w (Shape.Idx.first hu)) h q l n) (w (Shape.Idx.first hu)))
  refine congrArg (fun f => List.foldl f _ _) (funext fun r => funext fun n => congrArg (r + ·) ?_)
  unfold seen
  dsimp only
  congr
/-- A window of zeros and rows is the sum of the rows up to its own. -/
theorem window_eq (w : FVec Ideal S_ .f32) (hu : 0 < S_.numel) (hw : w (Shape.Idx.first hu) = 0) :
    Host.reduceWindowAdd ![4, 1] ![1, 1] ![3, 0] ![0, 0] x w h hu (ix2 q l)
      = (![x (ix2 0 l), x (ix2 0 l) + x (ix2 1 l), x (ix2 0 l) + x (ix2 1 l) + x (ix2 2 l), x (ix2 0 l) + x (ix2 1 l) + x (ix2 2 l) + x (ix2 3 l)] : Fin 4 → EReal) q := by
  rw [window, hw]
  have p := fun n hp => seen_pad x 0 h q l n hp
  have s := fun n r hp => seen_row x 0 h q l n r hp
  fin_cases q
  · rw [p ⟨0, by decide⟩ (by decide), p ⟨1, by decide⟩ (by decide), p ⟨2, by decide⟩ (by decide), s ⟨3, by decide⟩ 0 (by decide)]
    simp only [zero_add]
    rfl
  · rw [p ⟨0, by decide⟩ (by decide), p ⟨1, by decide⟩ (by decide), s ⟨2, by decide⟩ 0 (by decide), s ⟨3, by decide⟩ 1 (by decide)]
    simp only [zero_add]
    rfl
  · rw [p ⟨0, by decide⟩ (by decide), s ⟨1, by decide⟩ 0 (by decide), s ⟨2, by decide⟩ 1 (by decide), s ⟨3, by decide⟩ 2 (by decide)]
    simp only [zero_add]
    rfl
  · rw [s ⟨0, by decide⟩ 0 (by decide), s ⟨1, by decide⟩ 1 (by decide), s ⟨2, by decide⟩ 2 (by decide), s ⟨3, by decide⟩ 3 (by decide)]
    simp only [zero_add]
    rfl
end

section
open Cert.LowerBoundsReferenceIdeal Cert.LowerBoundsReferenceIdeal.Gen
/-- The greatest entry, taken against the literal once more. -/
theorem top_twice (x : FVec Ideal S4x2048 .f32) (l : Fin 2048) : max (Ideal.ofBits .f32 0xFF800000#32) (top x l) = top x l :=
  max_eq_right ((Finset.le_fold_max _).2 (Or.inl le_rfl))
/-- The reference's softmax over the layers. -/
abbrev soft (x : FVec Ideal S4x2048 .f32) : FVec Ideal S4x2048 .f32 :=
  Host.divf (Host.exp (subf x (broadcastInDim S4x2048 ![0, 1] bcast_S1x2048_S4x2048_0_1 (broadcastInDim S1x2048 ![1] bcast_S2048_S1x2048_1 (maximumf (broadcastInDim S2048 ![] bcast_S_S2048 (constant S_ .f32 0xFF800000#32)) (Host.reduce FloatOps.maximumf x (constant S_ .f32 0xFF800000#32) reducesTo_S4x2048_S2048_d0 h_S_))))))
    (broadcastInDim S4x2048 ![0, 1] bcast_S1x2048_S4x2048_0_1 (broadcastInDim S1x2048 ![1] bcast_S2048_S1x2048_1 (Host.reduceAdd (Host.exp (subf x (broadcastInDim S4x2048 ![0, 1] bcast_S1x2048_S4x2048_0_1 (broadcastInDim S1x2048 ![1] bcast_S2048_S1x2048_1 (maximumf (broadcastInDim S2048 ![] bcast_S_S2048 (constant S_ .f32 0xFF800000#32)) (Host.reduce FloatOps.maximumf x (constant S_ .f32 0xFF800000#32) reducesTo_S4x2048_S2048_d0 h_S_)))))) (constant S_ .f32 0x00000000#32) reducesTo_S4x2048_S2048_d0 h_S_)))
theorem soft_eq (x : FVec Ideal S4x2048 .f32) (q : Fin 4) (l : Fin 2048) : soft x (ix2 q l) = part x q l := by
  have e : max (Ideal.ofBits .f32 0xFF800000#32) (Finset.univ.fold max (Ideal.ofBits .f32 0xFF800000#32) (fun k : Fin 4 => (x (ix2 k l) : EReal))) = top x l := top_twice x l
  pointwise
  simp only [e]
  rfl
/-- The running sums with the first layer's share taken off, whatever the shares. -/
theorem off_eq (s : FVec Ideal S4x2048 .f32) (q : Fin 4) (l : Fin 2048) :
    subf (Host.reduceWindowAdd ![4, 1] ![1, 1] ![3, 0] ![0, 0] s (broadcastInDim S_ ![] bcast_S_S_ (constant S_ .f32 0x00000000#32)) reduceWindows_S4x2048_S4x2048_w4s1p3_0_w1s1p0_0 h_S_)
        (broadcastInDim S4x2048 ![0, 1] bcast_S1x2048_S4x2048_0_1 (broadcastInDim S1x2048 ![1] bcast_S2048_S1x2048_1 (shapeCast S2048 (extractStridedSlice S1x2048 ![0, 0] s slices_S4x2048_S1x2048_0_0) shapeCasts_S1x2048_S2048))) (ix2 q l)
      = (![s (ix2 0 l), s (ix2 0 l) + s (ix2 1 l), s (ix2 0 l) + s (ix2 1 l) + s (ix2 2 l), s (ix2 0 l) + s (ix2 1 l) + s (ix2 2 l) + s (ix2 3 l)] : Fin 4 → EReal) q - s (ix2 0 l) := by
  have hw := window_eq s reduceWindows_S4x2048_S4x2048_w4s1p3_0_w1s1p0_0 q l (broadcastInDim S_ ![] bcast_S_S_ (constant S_ .f32 0x00000000#32)) h_S_ (by pointwise)
  rw [← hw]
  pointwise
end

theorem frameR : Cert.quiescent_LowerBoundsReferenceIdeal := by
  intro m g _
  refine (θ_run _ _ _).mono (fun r h => ⟨fun c => (h c).2, sem_eq_zero_of_no_sems (by decide) r.2⟩) (Cert.LowerBoundsReferenceIdeal.Value.run m g)

theorem algebraic : Cert.algebraic_LowerBoundsIdeal_LowerBoundsReferenceIdeal := by
  intro m g m' g' _ hag
  refine ⟨FL m, ?_, ?_⟩
  · refine (θ_run _ _ _).mono (fun r h c => ?_) (Cert.LowerBoundsIdeal.Value.run_blocks m g)
    exact ⟨(h c).1.trans (finalL m c), (h c).2⟩
  · refine (θ_run _ _ _).mono (fun r h c => ?_) (Cert.LowerBoundsReferenceIdeal.Value.run m' g')
    obtain ⟨r0, rest⟩ := h c
    have h0 := hag c
    refine ⟨r0.trans ?_, rest⟩
    rw [h0]
    funext i
    obtain ⟨a, b, rfl⟩ : ∃ a b, i = ix2 a b := ⟨_, _, ix2_of i⟩
    refine (off_eq (soft (m ((c.tc : Thread Cert.LowerBoundsIdeal.nD Cert.LowerBoundsIdeal.τ).loc Cert.LowerBoundsIdeal.main_arg0))) a b).trans ?_
    simp only [soft_eq]
    rfl

end Cert.M.Lb
-- ==== Proof.M.NormGatesPrompt.Body.lean ====
/- The call's body with its offsets written out. -/
module

public import proofs.«01_k».proof.Proof.Gen.NormGatesPromptIdeal.Skeleton
public import Mathlib.Tactic.IntervalCases

@[expose] public section

set_option synthInstance.maxSize 4096

noncomputable section

namespace Cert.NormGatesPromptIdeal.Gen

open Idealize.ShloMosaic Idealize.SL.Sem

variable {F : FTy → Type} [FloatOps F]

theorem inb_S1024x2048_S256x2048_0_0 : ∀ a, (![0, 0] : Fin 2 → Nat) a + S256x2048.size a ≤ S1024x2048.size a := by decide
theorem inb_S1024x2048_S256x2048_256_0 : ∀ a, (![256, 0] : Fin 2 → Nat) a + S256x2048.size a ≤ S1024x2048.size a := by decide
theorem inb_S1024x2048_S256x2048_512_0 : ∀ a, (![512, 0] : Fin 2 → Nat) a + S256x2048.size a ≤ S1024x2048.size a := by decide
theorem inb_S1024x2048_S256x2048_768_0 : ∀ a, (![768, 0] : Fin 2 → Nat) a + S256x2048.size a ≤ S1024x2048.size a := by decide
theorem inb_S1024x1_S256x1_0_0 : ∀ a, (![0, 0] : Fin 2 → Nat) a + S256x1.size a ≤ S1024x1.size a := by decide
theorem inb_S1024x1_S256x1_256_0 : ∀ a, (![256, 0] : Fin 2 → Nat) a + S256x1.size a ≤ S1024x1.size a := by decide
theorem inb_S1024x1_S256x1_512_0 : ∀ a, (![512, 0] : Fin 2 → Nat) a + S256x1.size a ≤ S1024x1.size a := by decide
theorem inb_S1024x1_S256x1_768_0 : ∀ a, (![768, 0] : Fin 2 → Nat) a + S256x1.size a ≤ S1024x1.size a := by decide
theorem packedbf16_S1024x2048_S256x2048_0_0 : (Rect.unit (s := S1024x2048) ![0, 0] S256x2048.size inb_S1024x2048_S256x2048_0_0).PackedRows (EltTy.packing .bf16) := by decide
theorem packedbf16_S1024x2048_S256x2048_256_0 : (Rect.unit (s := S1024x2048) ![256, 0] S256x2048.size inb_S1024x2048_S256x2048_256_0).PackedRows (EltTy.packing .bf16) := by decide
theorem packedbf16_S1024x2048_S256x2048_512_0 : (Rect.unit (s := S1024x2048) ![512, 0] S256x2048.size inb_S1024x2048_S256x2048_512_0).PackedRows (EltTy.packing .bf16) := by decide
theorem packedbf16_S1024x2048_S256x2048_768_0 : (Rect.unit (s := S1024x2048) ![768, 0] S256x2048.size inb_S1024x2048_S256x2048_768_0).PackedRows (EltTy.packing .bf16) := by decide

/-- The body with every offset written out: the loops over the rows run four times each, 256 rows at a time. -/
noncomputable def body (i : grid0.Coords) (arg2 : Memref sig .tc .vmem S1024x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048x128 .bf16) (harg6 : arg6.IsWhole) (arg7 : Memref sig .tc .vmem S1x1x128 .f32) (harg7 : arg7.IsWhole) (arg8 : Memref sig .tc .vmem S1024x2048 .bf16) (harg8 : arg8.IsWhole) (arg9 : Memref sig .tc .vmem S1024x128 .f32) (harg9 : arg9.IsWhole) (arg10 : Memref sig .tc .vmem S1024x1 .f32) (harg10 : arg10.IsWhole) :
    Prog (TpuEff nD τ sig (Elt F) Λ₀ .tc) PUnit := do
  let x0 : Vec F S256x2048 .f32 ← Prog.lift (.load arg2 (Rect.unit (s := S1024x2048) ![0, 0] S256x2048.size inb_S1024x2048_S256x2048_0_0).toLoadRect (View.loadsAt_vmem h_S256x2048))
  let y0 : Vec F S256x1 .f32 ← Prog.lift (.load arg10 (Rect.unit (s := S1024x1) ![0, 0] S256x1.size inb_S1024x1_S256x1_0_0).toLoadRect (View.loadsAt_vmem h_S256x1))
  Prog.lift (.store arg10 (Rect.unit (s := S1024x1) ![0, 0] S256x1.size inb_S1024x1_S256x1_0_0) (k0_pay1 x0) Finset.univ (View.stores_vmem_bits_univ h_S256x1 rfl) (.inl rfl))
  let x256 : Vec F S256x2048 .f32 ← Prog.lift (.load arg2 (Rect.unit (s := S1024x2048) ![256, 0] S256x2048.size inb_S1024x2048_S256x2048_256_0).toLoadRect (View.loadsAt_vmem h_S256x2048))
  let y256 : Vec F S256x1 .f32 ← Prog.lift (.load arg10 (Rect.unit (s := S1024x1) ![256, 0] S256x1.size inb_S1024x1_S256x1_256_0).toLoadRect (View.loadsAt_vmem h_S256x1))
  Prog.lift (.store arg10 (Rect.unit (s := S1024x1) ![256, 0] S256x1.size inb_S1024x1_S256x1_256_0) (k0_pay1 x256) Finset.univ (View.stores_vmem_bits_univ h_S256x1 rfl) (.inl rfl))
  let x512 : Vec F S256x2048 .f32 ← Prog.lift (.load arg2 (Rect.unit (s := S1024x2048) ![512, 0] S256x2048.size inb_S1024x2048_S256x2048_512_0).toLoadRect (View.loadsAt_vmem h_S256x2048))
  let y512 : Vec F S256x1 .f32 ← Prog.lift (.load arg10 (Rect.unit (s := S1024x1) ![512, 0] S256x1.size inb_S1024x1_S256x1_512_0).toLoadRect (View.loadsAt_vmem h_S256x1))
  Prog.lift (.store arg10 (Rect.unit (s := S1024x1) ![512, 0] S256x1.size inb_S1024x1_S256x1_512_0) (k0_pay1 x512) Finset.univ (View.stores_vmem_bits_univ h_S256x1 rfl) (.inl rfl))
  let x768 : Vec F S256x2048 .f32 ← Prog.lift (.load arg2 (Rect.unit (s := S1024x2048) ![768, 0] S256x2048.size inb_S1024x2048_S256x2048_768_0).toLoadRect (View.loadsAt_vmem h_S256x2048))
  let y768 : Vec F S256x1 .f32 ← Prog.lift (.load arg10 (Rect.unit (s := S1024x1) ![768, 0] S256x1.size inb_S1024x1_S256x1_768_0).toLoadRect (View.loadsAt_vmem h_S256x1))
  Prog.lift (.store arg10 (Rect.unit (s := S1024x1) ![768, 0] S256x1.size inb_S1024x1_S256x1_768_0) (k0_pay1 x768) Finset.univ (View.stores_vmem_bits_univ h_S256x1 rfl) (.inl rfl))
  let u0 : Vec F S256x2048 .f32 ← Prog.lift (.load arg2 (Rect.unit (s := S1024x2048) ![0, 0] S256x2048.size inb_S1024x2048_S256x2048_0_0).toLoadRect (View.loadsAt_vmem h_S256x2048))
  let n0 : Vec F S256x1 .f32 ← Prog.lift (.load arg10 (Rect.unit (s := S1024x1) ![0, 0] S256x1.size inb_S1024x1_S256x1_0_0).toLoadRect (View.loadsAt_vmem h_S256x1))
  let g0 : Vec F S1x1x2048 .f32 ← Prog.lift (.load arg3 (Rect.unit (s := S1x1x2048) ![0, 0, 0] S1x1x2048.size inb_S1x1x2048_S1x1x2048_0_0_0).toLoadRect (View.loadsAt_vmem h_S1x1x2048))
  let a0 : Vec F S1x1x2048 .f32 ← Prog.lift (.load arg4 (Rect.unit (s := S1x1x2048) ![0, 0, 0] S1x1x2048.size inb_S1x1x2048_S1x1x2048_0_0_0).toLoadRect (View.loadsAt_vmem h_S1x1x2048))
  let b0 : Vec F S1x1x2048 .f32 ← Prog.lift (.load arg5 (Rect.unit (s := S1x1x2048) ![0, 0, 0] S1x1x2048.size inb_S1x1x2048_S1x1x2048_0_0_0).toLoadRect (View.loadsAt_vmem h_S1x1x2048))
  let h0 : Vec F S256x2048 .bf16 ← Prog.lift (.load arg8 (Rect.unit (s := S1024x2048) ![0, 0] S256x2048.size inb_S1024x2048_S256x2048_0_0).toLoadRect (View.loadsAt_vmem h_S256x2048))
  Prog.lift (.store arg8 (Rect.unit (s := S1024x2048) ![0, 0] S256x2048.size inb_S1024x2048_S256x2048_0_0) (k0_pay2 u0 n0 g0 a0 b0) Finset.univ (View.stores_vmem h_S256x2048 (harg8.storeExact_slice rfl _ packedbf16_S1024x2048_S256x2048_0_0) (fun _ => rfl)) (.inl rfl))
  let u256 : Vec F S256x2048 .f32 ← Prog.lift (.load arg2 (Rect.unit (s := S1024x2048) ![256, 0] S256x2048.size inb_S1024x2048_S256x2048_256_0).toLoadRect (View.loadsAt_vmem h_S256x2048))
  let n256 : Vec F S256x1 .f32 ← Prog.lift (.load arg10 (Rect.unit (s := S1024x1) ![256, 0] S256x1.size inb_S1024x1_S256x1_256_0).toLoadRect (View.loadsAt_vmem h_S256x1))
  let g256 : Vec F S1x1x2048 .f32 ← Prog.lift (.load arg3 (Rect.unit (s := S1x1x2048) ![0, 0, 0] S1x1x2048.size inb_S1x1x2048_S1x1x2048_0_0_0).toLoadRect (View.loadsAt_vmem h_S1x1x2048))
  let a256 : Vec F S1x1x2048 .f32 ← Prog.lift (.load arg4 (Rect.unit (s := S1x1x2048) ![0, 0, 0] S1x1x2048.size inb_S1x1x2048_S1x1x2048_0_0_0).toLoadRect (View.loadsAt_vmem h_S1x1x2048))
  let b256 : Vec F S1x1x2048 .f32 ← Prog.lift (.load arg5 (Rect.unit (s := S1x1x2048) ![0, 0, 0] S1x1x2048.size inb_S1x1x2048_S1x1x2048_0_0_0).toLoadRect (View.loadsAt_vmem h_S1x1x2048))
  let h256 : Vec F S256x2048 .bf16 ← Prog.lift (.load arg8 (Rect.unit (s := S1024x2048) ![256, 0] S256x2048.size inb_S1024x2048_S256x2048_256_0).toLoadRect (View.loadsAt_vmem h_S256x2048))
  Prog.lift (.store arg8 (Rect.unit (s := S1024x2048) ![256, 0] S256x2048.size inb_S1024x2048_S256x2048_256_0) (k0_pay2 u256 n256 g256 a256 b256) Finset.univ (View.stores_vmem h_S256x2048 (harg8.storeExact_slice rfl _ packedbf16_S1024x2048_S256x2048_256_0) (fun _ => rfl)) (.inl rfl))
  let u512 : Vec F S256x2048 .f32 ← Prog.lift (.load arg2 (Rect.unit (s := S1024x2048) ![512, 0] S256x2048.size inb_S1024x2048_S256x2048_512_0).toLoadRect (View.loadsAt_vmem h_S256x2048))
  let n512 : Vec F S256x1 .f32 ← Prog.lift (.load arg10 (Rect.unit (s := S1024x1) ![512, 0] S256x1.size inb_S1024x1_S256x1_512_0).toLoadRect (View.loadsAt_vmem h_S256x1))
  let g512 : Vec F S1x1x2048 .f32 ← Prog.lift (.load arg3 (Rect.unit (s := S1x1x2048) ![0, 0, 0] S1x1x2048.size inb_S1x1x2048_S1x1x2048_0_0_0).toLoadRect (View.loadsAt_vmem h_S1x1x2048))
  let a512 : Vec F S1x1x2048 .f32 ← Prog.lift (.load arg4 (Rect.unit (s := S1x1x2048) ![0, 0, 0] S1x1x2048.size inb_S1x1x2048_S1x1x2048_0_0_0).toLoadRect (View.loadsAt_vmem h_S1x1x2048))
  let b512 : Vec F S1x1x2048 .f32 ← Prog.lift (.load arg5 (Rect.unit (s := S1x1x2048) ![0, 0, 0] S1x1x2048.size inb_S1x1x2048_S1x1x2048_0_0_0).toLoadRect (View.loadsAt_vmem h_S1x1x2048))
  let h512 : Vec F S256x2048 .bf16 ← Prog.lift (.load arg8 (Rect.unit (s := S1024x2048) ![512, 0] S256x2048.size inb_S1024x2048_S256x2048_512_0).toLoadRect (View.loadsAt_vmem h_S256x2048))
  Prog.lift (.store arg8 (Rect.unit (s := S1024x2048) ![512, 0] S256x2048.size inb_S1024x2048_S256x2048_512_0) (k0_pay2 u512 n512 g512 a512 b512) Finset.univ (View.stores_vmem h_S256x2048 (harg8.storeExact_slice rfl _ packedbf16_S1024x2048_S256x2048_512_0) (fun _ => rfl)) (.inl rfl))
  let u768 : Vec F S256x2048 .f32 ← Prog.lift (.load arg2 (Rect.unit (s := S1024x2048) ![768, 0] S256x2048.size inb_S1024x2048_S256x2048_768_0).toLoadRect (View.loadsAt_vmem h_S256x2048))
  let n768 : Vec F S256x1 .f32 ← Prog.lift (.load arg10 (Rect.unit (s := S1024x1) ![768, 0] S256x1.size inb_S1024x1_S256x1_768_0).toLoadRect (View.loadsAt_vmem h_S256x1))
  let g768 : Vec F S1x1x2048 .f32 ← Prog.lift (.load arg3 (Rect.unit (s := S1x1x2048) ![0, 0, 0] S1x1x2048.size inb_S1x1x2048_S1x1x2048_0_0_0).toLoadRect (View.loadsAt_vmem h_S1x1x2048))
  let a768 : Vec F S1x1x2048 .f32 ← Prog.lift (.load arg4 (Rect.unit (s := S1x1x2048) ![0, 0, 0] S1x1x2048.size inb_S1x1x2048_S1x1x2048_0_0_0).toLoadRect (View.loadsAt_vmem h_S1x1x2048))
  let b768 : Vec F S1x1x2048 .f32 ← Prog.lift (.load arg5 (Rect.unit (s := S1x1x2048) ![0, 0, 0] S1x1x2048.size inb_S1x1x2048_S1x1x2048_0_0_0).toLoadRect (View.loadsAt_vmem h_S1x1x2048))
  let h768 : Vec F S256x2048 .bf16 ← Prog.lift (.load arg8 (Rect.unit (s := S1024x2048) ![768, 0] S256x2048.size inb_S1024x2048_S256x2048_768_0).toLoadRect (View.loadsAt_vmem h_S256x2048))
  Prog.lift (.store arg8 (Rect.unit (s := S1024x2048) ![768, 0] S256x2048.size inb_S1024x2048_S256x2048_768_0) (k0_pay2 u768 n768 g768 a768 b768) Finset.univ (View.stores_vmem h_S256x2048 (harg8.storeExact_slice rfl _ packedbf16_S1024x2048_S256x2048_768_0) (fun _ => rfl)) (.inl rfl))
  let v2 : Vec F S1024x2048 .bf16 ← Prog.lift (.load arg8 (Rect.unit (s := S1024x2048) ![0, 0] S1024x2048.size inb_S1024x2048_S1024x2048_0_0).toLoadRect (View.loadsAt_vmem h_S1024x2048))
  let v4 : Vec F S1x2048x128 .bf16 ← Prog.lift (.load arg6 (Rect.unit (s := S1x2048x128) ![0, 0, 0] S1x2048x128.size inb_S1x2048x128_S1x2048x128_0_0_0).toLoadRect (View.loadsAt_vmem h_S1x2048x128))
  let v7 : Vec F S1x1x128 .f32 ← Prog.lift (.load arg7 (Rect.unit (s := S1x1x128) ![0, 0, 0] S1x1x128.size inb_S1x1x128_S1x1x128_0_0_0).toLoadRect (View.loadsAt_vmem h_S1x1x128))
  let v11 : Vec F S1024x128 .f32 ← Prog.lift (.load arg9 (Rect.unit (s := S1024x128) ![0, 0] S1024x128.size inb_S1024x128_S1024x128_0_0).toLoadRect (View.loadsAt_vmem h_S1024x128))
  Prog.lift (.store arg9 (Rect.unit (s := S1024x128) ![0, 0] S1024x128.size inb_S1024x128_S1024x128_0_0) (k0_pay3 v2 v4 v7) Finset.univ (View.stores_vmem_bits_univ h_S1024x128 rfl) (.inl rfl))
  pure ⟨⟩

/-- A loop of four trips from nothing carried is its trips in turn. -/
theorem four_trips {E : Type → Type} (l : Scf.Loop 32) (hok : l.OK) (h : l.trips = 4) (f : Fin l.trips → Unit → Prog E Unit) :
    Scf.Loop.for l hok ⟨⟩ f = (f ⟨0, by omega⟩ ⟨⟩ >>= fun a => f ⟨1, by omega⟩ a >>= fun b => f ⟨2, by omega⟩ b >>= fun d => f ⟨3, by omega⟩ d >>= fun e => .ret e) := by
  have hl : List.finRange l.trips = [⟨0, by omega⟩, ⟨1, by omega⟩, ⟨2, by omega⟩, ⟨3, by omega⟩] := by
    refine List.ext_getElem (by simp [h]) fun n h₁ h₂ => ?_
    have h₃ : n < 4 := by simpa using h₂
    interval_cases n <;> simp
  rw [Scf.Loop.for, Scf.for_eq, hl]; rfl

/-- The body with its two loops over the rows left open. -/
noncomputable def bodyWith (i : grid0.Coords) (arg2 : Memref sig .tc .vmem S1024x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048x128 .bf16) (harg6 : arg6.IsWhole) (arg7 : Memref sig .tc .vmem S1x1x128 .f32) (harg7 : arg7.IsWhole) (arg8 : Memref sig .tc .vmem S1024x2048 .bf16) (harg8 : arg8.IsWhole) (arg9 : Memref sig .tc .vmem S1024x128 .f32) (harg9 : arg9.IsWhole) (arg10 : Memref sig .tc .vmem S1024x1 .f32) (harg10 : arg10.IsWhole) (L₁ L₂ : Prog (TpuEff nD τ sig (Elt F) Λ₀ .tc) Unit) :
    Prog (TpuEff nD τ sig (Elt F) Λ₀ .tc) PUnit := do
  L₁
  L₂
  let v2 : Vec F S1024x2048 .bf16 ← Prog.lift (.load arg8 (Rect.unit (s := S1024x2048) ![0, 0] S1024x2048.size inb_S1024x2048_S1024x2048_0_0).toLoadRect (View.loadsAt_vmem h_S1024x2048))
  let v4 : Vec F S1x2048x128 .bf16 ← Prog.lift (.load arg6 (Rect.unit (s := S1x2048x128) ![0, 0, 0] S1x2048x128.size inb_S1x2048x128_S1x2048x128_0_0_0).toLoadRect (View.loadsAt_vmem h_S1x2048x128))
  let v7 : Vec F S1x1x128 .f32 ← Prog.lift (.load arg7 (Rect.unit (s := S1x1x128) ![0, 0, 0] S1x1x128.size inb_S1x1x128_S1x1x128_0_0_0).toLoadRect (View.loadsAt_vmem h_S1x1x128))
  let v11 : Vec F S1024x128 .f32 ← Prog.lift (.load arg9 (Rect.unit (s := S1024x128) ![0, 0] S1024x128.size inb_S1024x128_S1024x128_0_0).toLoadRect (View.loadsAt_vmem h_S1024x128))
  Prog.lift (.store arg9 (Rect.unit (s := S1024x128) ![0, 0] S1024x128.size inb_S1024x128_S1024x128_0_0) (k0_pay3 v2 v4 v7) Finset.univ (View.stores_vmem_bits_univ h_S1024x128 rfl) (.inl rfl))
  pure ⟨⟩

set_option maxRecDepth 65536 in
theorem body_eq : cc0_norm_gates (F := F) = body (F := F) := by
  rw [cc0_norm_gates_eq_skeleton]
  funext i arg2 harg2 arg3 harg3 arg4 harg4 arg5 harg5 arg6 harg6 arg7 harg7 arg8 harg8 arg9 harg9 arg10 harg10
  have e₁ : Scf.Loop.for k0_t1_loop k0_t1_ok ⟨⟩ (k0_t1_body (F := F) i arg2 harg2 arg3 harg3 arg4 harg4 arg5 harg5 arg6 harg6 arg7 harg7 arg8 harg8 arg9 harg9 arg10 harg10) = _ := four_trips _ _ (by decide) _
  have e₂ : Scf.Loop.for k0_t2_loop k0_t2_ok ⟨⟩ (k0_t2_body (F := F) i arg2 harg2 arg3 harg3 arg4 harg4 arg5 harg5 arg6 harg6 arg7 harg7 arg8 harg8 arg9 harg9 arg10 harg10) = _ := four_trips _ _ (by decide) _
  have e : cc0_norm_gates_skel (F := F) i arg2 harg2 arg3 harg3 arg4 harg4 arg5 harg5 arg6 harg6 arg7 harg7 arg8 harg8 arg9 harg9 arg10 harg10 = bodyWith i arg2 harg2 arg3 harg3 arg4 harg4 arg5 harg5 arg6 harg6 arg7 harg7 arg8 harg8 arg9 harg9 arg10 harg10 (Scf.Loop.for k0_t1_loop k0_t1_ok ⟨⟩ (k0_t1_body (F := F) i arg2 harg2 arg3 harg3 arg4 harg4 arg5 harg5 arg6 harg6 arg7 harg7 arg8 harg8 arg9 harg9 arg10 harg10)) (Scf.Loop.for k0_t2_loop k0_t2_ok ⟨⟩ (k0_t2_body (F := F) i arg2 harg2 arg3 harg3 arg4 harg4 arg5 harg5 arg6 harg6 arg7 harg7 arg8 harg8 arg9 harg9 arg10 harg10)) := rfl
  rw [e, e₁, e₂]
  rfl

end Cert.NormGatesPromptIdeal.Gen

end
-- ==== Proof.M.NormGatesPrompt.Runs.lean ====
/- The norm and gates call of the first batch: what the run of its body needs. The window blocks as the region finds them, and the
   staging and scratch buffers. -/
module

public import proofs.«01_k».proof.Proof.Gen.NormGatesPromptIdeal.Launch
public import proofs.«01_k».proof.Proof.M.NormGatesPrompt.Body
public import proofs.«01_k».proof.Proof.Gen.NormGatesPromptIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.NormGatesPromptIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

set_option maxHeartbeats 800000 in
/-- @main up to the region, at the certificate's variants `𝒱₀`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof data whose array is `V`'s. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof data whose array is `V`'s. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof data whose array is `V`'s. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof data whose array is `V`'s. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof data whose array is `V`'s. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof data whose array is `V`'s. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The kernel body on any staging memrefs: a subtype the run finds -/

/-- One staging buffer of output window 6, through which its contents are stated (`View.read_writes_of_cover`: the
    choice does not matter). -/
abbrev VO0_6 : View sig .tc .vmem S1024x2048 .bf16 := (Memref.whole cc0_stg6_0 : Memref sig .tc .vmem S1024x2048 .bf16).view
/-- One staging buffer of output window 7, through which its contents are stated (`View.read_writes_of_cover`: the
    choice does not matter). -/
abbrev VO0_7 : View sig .tc .vmem S1024x128 .f32 := (Memref.whole cc0_stg7_0 : Memref sig .tc .vmem S1024x128 .f32).view
/-- Each window's current staging memref at point `t`, spelled as the pipeline passes it (`bodyAt0`), and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x2048 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x128 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1024x1 .f32 := Memref.whole cc0_scratch0

/-- The frame kit's invariant with the scratch operands as memrefs owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.NormGatesPromptIdeal.Gen

end
-- ==== Proof.M.NormGatesPrompt.RunA.lean ====
/- The body's run at a row tile: its rows are normalised, modulated and stored, and the gates' projection of them. -/
module

public import proofs.«01_k».proof.Proof.M.NormGatesPrompt.Runs

@[expose] public section

-- membership in a rectangle of production extents (`View.cover_of_tiled`): the elaborator's structural look
-- recurses once per coordinate of the long axes
set_option maxRecDepth 16384

noncomputable section

namespace Cert.NormGatesPromptIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048x128 .bf16) (harg6 : arg6.IsWhole) (arg7 : Memref sig .tc .vmem S1x1x128 .f32) (harg7 : arg7.IsWhole) (arg8 : Memref sig .tc .vmem S1024x2048 .bf16) (harg8 : arg8.IsWhole) (arg9 : Memref sig .tc .vmem S1024x128 .f32) (harg9 : arg9.IsWhole) (arg10 : Memref sig .tc .vmem S1024x1 .f32) (harg10 : arg10.IsWhole)
    (x0 : Vec F S1024x2048 .f32) (x1 : Vec F S1x1x2048 .f32) (x2 : Vec F S1x1x2048 .f32) (x3 : Vec F S1x1x2048 .f32) (x4 : Vec F S1x2048x128 .bf16) (x5 : Vec F S1x1x128 .f32) :
    Σ' (L6 : List (View.Piece (Elt F) S1024x2048 .bf16)), Σ' (L7 : List (View.Piece (Elt F) S1024x128 .f32)), { LT0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LT0)) -∗ K ⟨⟩))
          ⊢ wp frame (wpE (defs₀ (F := F)) Variants.none c none) E (cc0_norm_gates i arg2 harg2 arg3 harg3 arg4 harg4 arg5 harg5 arg6 harg6 arg7 harg7 arg8 harg8 arg9 harg9 arg10 harg10) K } := by
  refine ⟨?_, ?_, ?_, fun E K => ?run⟩
  case run =>
    simp only [body_eq]; unfold body
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact HS0

end Cert.NormGatesPromptIdeal.Gen

end
-- ==== Proof.M.NormGatesPrompt.Frame.lean ====
/- The frame of the call: what the outputs hold after each point, the body's obligation at every point, and the frame itself. -/
module

public import proofs.«01_k».proof.Proof.M.NormGatesPrompt.RunA
public import Idealize.ShloMosaic.Lib.Claim

@[expose] public section

-- membership in a rectangle of production extents (`View.cover_of_tiled`): the elaborator's structural look
-- recurses once per coordinate of the long axes
set_option maxRecDepth 16384

noncomputable section

namespace Cert.NormGatesPromptIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section
variable (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048x128 .bf16) (harg6 : arg6.IsWhole) (arg7 : Memref sig .tc .vmem S1x1x128 .f32) (harg7 : arg7.IsWhole) (arg8 : Memref sig .tc .vmem S1024x2048 .bf16) (harg8 : arg8.IsWhole) (arg9 : Memref sig .tc .vmem S1024x128 .f32) (harg9 : arg9.IsWhole) (arg10 : Memref sig .tc .vmem S1024x1 .f32) (harg10 : arg10.IsWhole)
/-- The run's pieces for output 6 tile its block. -/
theorem cover0_A_6
    (x0 : Vec F S1024x2048 .f32) (x1 : Vec F S1x1x2048 .f32) (x2 : Vec F S1x1x2048 .f32) (x3 : Vec F S1x1x2048 .f32) (x4 : Vec F S1x2048x128 .bf16) (x5 : Vec F S1x1x128 .f32) (y : S1024x2048.Idx) :
    ∃ pc ∈ (kernelRun0_A c i _ harg2 _ harg3 _ harg4 _ harg5 _ harg6 _ harg7 _ harg8 _ harg9 _ harg10 x0 x1 x2 x3 x4 x5).1, y ∈ pc.1.set :=
  View.cover_of_tiledL (kernelRun0_A c i _ harg2 _ harg3 _ harg4 _ harg5 _ harg6 _ harg7 _ harg8 _ harg9 _ harg10 x0 x1 x2 x3 x4 x5).1 S256x2048.size (by sl_kernel_rfl) y

/-- What the run leaves in output 6's staging buffer: its pieces read back over junk. -/
def out0_A_6
    (x0 : Vec F S1024x2048 .f32) (x1 : Vec F S1x1x2048 .f32) (x2 : Vec F S1x1x2048 .f32) (x3 : Vec F S1x1x2048 .f32) (x4 : Vec F S1x2048x128 .bf16) (x5 : Vec F S1x1x128 .f32) : Vec F S1024x2048 .bf16 :=
  VO0_6.read (Elt F) (VO0_6.writes (Elt F) VO0_6.junk (kernelRun0_A c i _ harg2 _ harg3 _ harg4 _ harg5 _ harg6 _ harg7 _ harg8 _ harg9 _ harg10 x0 x1 x2 x3 x4 x5).1)

/-- The run's pieces for output 7 tile its block. -/
theorem cover0_A_7
    (x0 : Vec F S1024x2048 .f32) (x1 : Vec F S1x1x2048 .f32) (x2 : Vec F S1x1x2048 .f32) (x3 : Vec F S1x1x2048 .f32) (x4 : Vec F S1x2048x128 .bf16) (x5 : Vec F S1x1x128 .f32) (y : S1024x128.Idx) :
    ∃ pc ∈ (kernelRun0_A c i _ harg2 _ harg3 _ harg4 _ harg5 _ harg6 _ harg7 _ harg8 _ harg9 _ harg10 x0 x1 x2 x3 x4 x5).2.1, y ∈ pc.1.set :=
  View.cover_of_tiledL (kernelRun0_A c i _ harg2 _ harg3 _ harg4 _ harg5 _ harg6 _ harg7 _ harg8 _ harg9 _ harg10 x0 x1 x2 x3 x4 x5).2.1 S1024x128.size (by sl_kernel_rfl) y

/-- What the run leaves in output 7's staging buffer: its pieces read back over junk. -/
def out0_A_7
    (x0 : Vec F S1024x2048 .f32) (x1 : Vec F S1x1x2048 .f32) (x2 : Vec F S1x1x2048 .f32) (x3 : Vec F S1x1x2048 .f32) (x4 : Vec F S1x2048x128 .bf16) (x5 : Vec F S1x1x128 .f32) : Vec F S1024x128 .f32 :=
  VO0_7.read (Elt F) (VO0_7.writes (Elt F) VO0_7.junk (kernelRun0_A c i _ harg2 _ harg3 _ harg4 _ harg5 _ harg6 _ harg7 _ harg8 _ harg9 _ harg10 x0 x1 x2 x3 x4 x5).2.1)
end

/-! ## What the outputs hold after each point -/

/-- What the outputs' staging buffers hold after the body at point `t`. -/
def outsAt0 (c : Dev nD) (t : Fin cfg0.N) : Vec F S1024x2048 .bf16 × Vec F S1024x128 .f32 :=
  (out0_A_6 c (grid0.coords t) _ (hs0_0 t) _ (hs0_1 t) _ (hs0_2 t) _ (hs0_3 t) _ (hs0_4 t) _ (hs0_5 t) _ (hs0_6 t) _ (hs0_7 t) scM0_0 (Memref.isWhole_whole _) (iblk m c 0 t) (iblk m c 1 t) (iblk m c 2 t) (iblk m c 3 t) (iblk m c 4 t) (iblk m c 5 t), out0_A_7 c (grid0.coords t) _ (hs0_0 t) _ (hs0_1 t) _ (hs0_2 t) _ (hs0_3 t) _ (hs0_4 t) _ (hs0_5 t) _ (hs0_6 t) _ (hs0_7 t) scM0_0 (Memref.isWhole_whole _) (iblk m c 0 t) (iblk m c 1 t) (iblk m c 2 t) (iblk m c 3 t) (iblk m c 4 t) (iblk m c 5 t))

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t).1
    | ⟨7, _⟩ => (outsAt0 m c t).2
  Φ _ := Pipeline.ΦA spec0 c
  q w := Pipeline.shareOf spec0 w
  owed _ := 0

/-- The proof data's arrays are the region-entry contents. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t).1 := by dsimp only [dats]
theorem after0_7 (c : Dev nD) (t : Fin cfg0.N) : (dats m 0 c).after 7 t = (outsAt0 m c t).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  unfold outsAt0
  unfold out0_A_6 out0_A_7; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ (iblk m c 0 t) (iblk m c 1 t) (iblk m c 2 t) (iblk m c 3 t) (iblk m c 4 t) (iblk m c 5 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  iintro ⟨H0, H1, H2, H3, H4, H5, ⟨%e6, H6⟩, ⟨%e7, H7⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover0_A_6 c _ _ _ _ _ _ _ _ _ _ _ _ _ _ _ _ _ _ _ _ _ _ _ _ _)
  unfold owns; iexists _; isplitr
  swap; · iexact H7
  ipureintro; exact View.read_writes_of_cover _ _ _ _ _ (cover0_A_7 c _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.NormGatesPromptIdeal.Gen

end
-- ==== Proof.M.NormGatesPrompt.Value.lean ====
/- The run's post-condition with the output arrays named. -/
module

public import proofs.«01_k».proof.Proof.M.NormGatesPrompt.Frame
public import Idealize.ShloMosaic.Lib.Pipeline.Value

@[expose] public section

noncomputable section

namespace Cert.NormGatesPromptIdeal.Value

open Cert.NormGatesPromptIdeal Cert.NormGatesPromptIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v10_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v10_1) = (dats m 0 c).arrAt 7 cfg0.N :=
  (h c).1 7

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v10_0) = (dats m 0 c).arrAt 6 cfg0.N
      ∧ r.2.mem ((c : Thread nD τ).loc main_v10_1) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post6 m r h c,
      post7 m r h c,
      kept_main_arg0 m r h c,
      kept_main_arg1 m r h c,
      kept_main_arg2 m r h c,
      kept_main_arg3 m r h c,
      kept_main_arg4 m r h c⟩)
    (run_main m ρ)

end Cert.NormGatesPromptIdeal.Value

end
-- ==== Proof.M.NormGatesPrompt.lean ====
/- The normalised and modulated rows and the gates' projection, at the first batch: row tiles of 1024, each in four stores of 256
   rows, and one row of modulation per stream. -/
module
public import proofs.«01_k».proof.Defs
public import proofs.«01_k».proof.Proof.Gen.NormGatesPrompt
public import proofs.«01_k».proof.Proof.M.NormGatesPrompt.Value
public import proofs.«01_k».proof.Proof.Gen.NormGatesPromptReferenceIdeal.Run
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.M.Ix
@[expose] public section
set_option maxRecDepth 65536
set_option maxHeartbeats 2000000
noncomputable section
namespace Cert.M.Np
open Idealize.ShloMosaic Idealize.ShloMosaic.TcCoe Idealize.SL.Sem

/-- The literals for the width of a row and for the norm's offset. -/
def width : EReal := Ideal.ofBits .f32 0x45000000#32
def eps : EReal := Ideal.ofBits .f32 0x358637BD#32
/-- The reciprocal root of a row's mean square. -/
def inv (x : Fin 2048 → EReal) : EReal := Ideal.rsqrt (Ideal.div (∑ k : Fin 2048, x k * x k) width + eps)
/-- The stream of a row. -/
def mrow (R : Fin 16384) : Fin 4 := ⟨R.val / 4096, by omega⟩
/-- A row under its norm, scaled and shifted by the modulation. -/
def hrow (x : FVec Ideal ⟨2, ![16384, 2048]⟩ .f32) (g : FVec Ideal ⟨2, ![4, 2048]⟩ .f32) (md : FVec Ideal ⟨2, ![4, 12288]⟩ .f32)
    (r : Fin 16384) (l : Fin 2048) : EReal :=
  x (ix2 r l) * inv (fun k => x (ix2 r k)) * g (ix2 0 l) * (1 + md (ix2 (mrow r) ⟨2048 + l.val, by omega⟩)) + md (ix2 (mrow r) ⟨l.val, by omega⟩)
/-- A gate of a row; the lanes past the sixteen gates are zero. -/
def gate (x : FVec Ideal ⟨2, ![16384, 2048]⟩ .f32) (g : FVec Ideal ⟨2, ![4, 2048]⟩ .f32) (md : FVec Ideal ⟨2, ![4, 12288]⟩ .f32)
    (w : FVec Ideal ⟨3, ![4, 2048, 20496]⟩ .f32) (b : FVec Ideal ⟨2, ![4, 20496]⟩ .f32) (r : Fin 16384) (l : Fin 128) : EReal :=
  if hl : l.val < 16 then (∑ k : Fin 2048, hrow x g md r k * w (ix3 0 k ⟨20480 + l.val, by omega⟩)) + b (ix2 0 ⟨20480 + l.val, by omega⟩) else 0

/-- The padding is the integer zero converted. -/
theorem pad0 : ((((0#32 : BitVec 32).toInt : ℤ) : ℝ) : EReal) = 0 := by simp

section
open Cert.NormGatesPromptIdeal Cert.NormGatesPromptIdeal.Gen

theorem in_0 {e : EltTy} (w : S256x2048.Idx → Elt Ideal e) (L : List (View.Piece (Elt Ideal) S1024x2048 e)) (z : Fin 1024 → Fin 2048 → Elt Ideal e)
    (hw : ∀ (r : Fin 256) (l : Fin 2048), w (ix2 r l) = z ⟨0 + r.val, by omega⟩ l) (r : Fin 1024) (l : Fin 2048) (h₁ : 0 ≤ r.val) (h₂ : r.val < 0 + 256) :
    View.canon ((⟨(Rect.unit (s := S1024x2048) ![0, 0] S256x2048.size inb_S1024x2048_S256x2048_0_0), w⟩ : View.Piece (Elt Ideal) S1024x2048 e) :: L) (ix2 r l) = z r l := by
  have e1 : (ix2 r l : S1024x2048.Idx) = (Rect.unit (s := S1024x2048) ![0, 0] S256x2048.size inb_S1024x2048_S256x2048_0_0).emb (ix2 (⟨r.val - 0, by omega⟩ : Fin 256) l) := by
    funext a
    refine Fin.ext ?_
    rw [Rect.emb_apply]
    fin_cases a
    · show r.val = 0 + 1 * (r.val - 0); omega
    · show l.val = 0 + 1 * l.val; omega
  rw [e1]
  refine (View.canon_cons_emb _ _ _ _).trans ((hw _ _).trans ?_)
  exact congrArg (fun q => z q l) (Fin.ext (by show 0 + (r.val - 0) = r.val; omega))
theorem ld_0 {e : EltTy} (X : S1024x2048.Idx → Elt Ideal e) (r : Fin 256) (l : Fin 2048) : View.ld X (Rect.unit (s := S1024x2048) ![0, 0] S256x2048.size inb_S1024x2048_S256x2048_0_0) (ix2 r l) = X (ix2 (⟨0 + r.val, by omega⟩ : Fin 1024) l) := by
  refine View.ld_unit_apply_of X _ _ _ _ _ fun a => ?_
  fin_cases a
  · rfl
  · exact (Nat.zero_add _).symm
theorem in_256 {e : EltTy} (w : S256x2048.Idx → Elt Ideal e) (L : List (View.Piece (Elt Ideal) S1024x2048 e)) (z : Fin 1024 → Fin 2048 → Elt Ideal e)
    (hw : ∀ (r : Fin 256) (l : Fin 2048), w (ix2 r l) = z ⟨256 + r.val, by omega⟩ l) (r : Fin 1024) (l : Fin 2048) (h₁ : 256 ≤ r.val) (h₂ : r.val < 256 + 256) :
    View.canon ((⟨(Rect.unit (s := S1024x2048) ![256, 0] S256x2048.size inb_S1024x2048_S256x2048_256_0), w⟩ : View.Piece (Elt Ideal) S1024x2048 e) :: L) (ix2 r l) = z r l := by
  have e1 : (ix2 r l : S1024x2048.Idx) = (Rect.unit (s := S1024x2048) ![256, 0] S256x2048.size inb_S1024x2048_S256x2048_256_0).emb (ix2 (⟨r.val - 256, by omega⟩ : Fin 256) l) := by
    funext a
    refine Fin.ext ?_
    rw [Rect.emb_apply]
    fin_cases a
    · show r.val = 256 + 1 * (r.val - 256); omega
    · show l.val = 0 + 1 * l.val; omega
  rw [e1]
  refine (View.canon_cons_emb _ _ _ _).trans ((hw _ _).trans ?_)
  exact congrArg (fun q => z q l) (Fin.ext (by show 256 + (r.val - 256) = r.val; omega))
theorem ld_256 {e : EltTy} (X : S1024x2048.Idx → Elt Ideal e) (r : Fin 256) (l : Fin 2048) : View.ld X (Rect.unit (s := S1024x2048) ![256, 0] S256x2048.size inb_S1024x2048_S256x2048_256_0) (ix2 r l) = X (ix2 (⟨256 + r.val, by omega⟩ : Fin 1024) l) := by
  refine View.ld_unit_apply_of X _ _ _ _ _ fun a => ?_
  fin_cases a
  · rfl
  · exact (Nat.zero_add _).symm
theorem out_256 {e : EltTy} (w : S256x2048.Idx → Elt Ideal e) (L : List (View.Piece (Elt Ideal) S1024x2048 e)) (r : Fin 1024) (l : Fin 2048) (h : r.val < 256) :
    View.canon ((⟨(Rect.unit (s := S1024x2048) ![256, 0] S256x2048.size inb_S1024x2048_S256x2048_256_0), w⟩ : View.Piece (Elt Ideal) S1024x2048 e) :: L) (ix2 r l) = View.canon L (ix2 r l) := by
  rw [View.canon_cons_of_not_mem]
  rw [Rect.mem_set_unit]
  intro h'
  have h2 : 256 ≤ r.val := (h' 0).1
  omega
theorem in_512 {e : EltTy} (w : S256x2048.Idx → Elt Ideal e) (L : List (View.Piece (Elt Ideal) S1024x2048 e)) (z : Fin 1024 → Fin 2048 → Elt Ideal e)
    (hw : ∀ (r : Fin 256) (l : Fin 2048), w (ix2 r l) = z ⟨512 + r.val, by omega⟩ l) (r : Fin 1024) (l : Fin 2048) (h₁ : 512 ≤ r.val) (h₂ : r.val < 512 + 256) :
    View.canon ((⟨(Rect.unit (s := S1024x2048) ![512, 0] S256x2048.size inb_S1024x2048_S256x2048_512_0), w⟩ : View.Piece (Elt Ideal) S1024x2048 e) :: L) (ix2 r l) = z r l := by
  have e1 : (ix2 r l : S1024x2048.Idx) = (Rect.unit (s := S1024x2048) ![512, 0] S256x2048.size inb_S1024x2048_S256x2048_512_0).emb (ix2 (⟨r.val - 512, by omega⟩ : Fin 256) l) := by
    funext a
    refine Fin.ext ?_
    rw [Rect.emb_apply]
    fin_cases a
    · show r.val = 512 + 1 * (r.val - 512); omega
    · show l.val = 0 + 1 * l.val; omega
  rw [e1]
  refine (View.canon_cons_emb _ _ _ _).trans ((hw _ _).trans ?_)
  exact congrArg (fun q => z q l) (Fin.ext (by show 512 + (r.val - 512) = r.val; omega))
theorem ld_512 {e : EltTy} (X : S1024x2048.Idx → Elt Ideal e) (r : Fin 256) (l : Fin 2048) : View.ld X (Rect.unit (s := S1024x2048) ![512, 0] S256x2048.size inb_S1024x2048_S256x2048_512_0) (ix2 r l) = X (ix2 (⟨512 + r.val, by omega⟩ : Fin 1024) l) := by
  refine View.ld_unit_apply_of X _ _ _ _ _ fun a => ?_
  fin_cases a
  · rfl
  · exact (Nat.zero_add _).symm
theorem out_512 {e : EltTy} (w : S256x2048.Idx → Elt Ideal e) (L : List (View.Piece (Elt Ideal) S1024x2048 e)) (r : Fin 1024) (l : Fin 2048) (h : r.val < 512) :
    View.canon ((⟨(Rect.unit (s := S1024x2048) ![512, 0] S256x2048.size inb_S1024x2048_S256x2048_512_0), w⟩ : View.Piece (Elt Ideal) S1024x2048 e) :: L) (ix2 r l) = View.canon L (ix2 r l) := by
  rw [View.canon_cons_of_not_mem]
  rw [Rect.mem_set_unit]
  intro h'
  have h2 : 512 ≤ r.val := (h' 0).1
  omega
theorem in_768 {e : EltTy} (w : S256x2048.Idx → Elt Ideal e) (L : List (View.Piece (Elt Ideal) S1024x2048 e)) (z : Fin 1024 → Fin 2048 → Elt Ideal e)
    (hw : ∀ (r : Fin 256) (l : Fin 2048), w (ix2 r l) = z ⟨768 + r.val, by omega⟩ l) (r : Fin 1024) (l : Fin 2048) (h₁ : 768 ≤ r.val) (h₂ : r.val < 768 + 256) :
    View.canon ((⟨(Rect.unit (s := S1024x2048) ![768, 0] S256x2048.size inb_S1024x2048_S256x2048_768_0), w⟩ : View.Piece (Elt Ideal) S1024x2048 e) :: L) (ix2 r l) = z r l := by
  have e1 : (ix2 r l : S1024x2048.Idx) = (Rect.unit (s := S1024x2048) ![768, 0] S256x2048.size inb_S1024x2048_S256x2048_768_0).emb (ix2 (⟨r.val - 768, by omega⟩ : Fin 256) l) := by
    funext a
    refine Fin.ext ?_
    rw [Rect.emb_apply]
    fin_cases a
    · show r.val = 768 + 1 * (r.val - 768); omega
    · show l.val = 0 + 1 * l.val; omega
  rw [e1]
  refine (View.canon_cons_emb _ _ _ _).trans ((hw _ _).trans ?_)
  exact congrArg (fun q => z q l) (Fin.ext (by show 768 + (r.val - 768) = r.val; omega))
theorem ld_768 {e : EltTy} (X : S1024x2048.Idx → Elt Ideal e) (r : Fin 256) (l : Fin 2048) : View.ld X (Rect.unit (s := S1024x2048) ![768, 0] S256x2048.size inb_S1024x2048_S256x2048_768_0) (ix2 r l) = X (ix2 (⟨768 + r.val, by omega⟩ : Fin 1024) l) := by
  refine View.ld_unit_apply_of X _ _ _ _ _ fun a => ?_
  fin_cases a
  · rfl
  · exact (Nat.zero_add _).symm
theorem out_768 {e : EltTy} (w : S256x2048.Idx → Elt Ideal e) (L : List (View.Piece (Elt Ideal) S1024x2048 e)) (r : Fin 1024) (l : Fin 2048) (h : r.val < 768) :
    View.canon ((⟨(Rect.unit (s := S1024x2048) ![768, 0] S256x2048.size inb_S1024x2048_S256x2048_768_0), w⟩ : View.Piece (Elt Ideal) S1024x2048 e) :: L) (ix2 r l) = View.canon L (ix2 r l) := by
  rw [View.canon_cons_of_not_mem]
  rw [Rect.mem_set_unit]
  intro h'
  have h2 : 768 ≤ r.val := (h' 0).1
  omega
/-- Four stores of 256 rows each, read back row by row. -/
theorem four_rows {e : EltTy} (w₃ w₂ w₁ w₀ : S256x2048.Idx → Elt Ideal e) (L : List (View.Piece (Elt Ideal) S1024x2048 e)) (z : Fin 1024 → Fin 2048 → Elt Ideal e)
    (h₃ : ∀ (r : Fin 256) (l : Fin 2048), w₃ (ix2 r l) = z ⟨768 + r.val, by omega⟩ l) (h₂ : ∀ (r : Fin 256) (l : Fin 2048), w₂ (ix2 r l) = z ⟨512 + r.val, by omega⟩ l)
    (h₁ : ∀ (r : Fin 256) (l : Fin 2048), w₁ (ix2 r l) = z ⟨256 + r.val, by omega⟩ l) (h₀ : ∀ (r : Fin 256) (l : Fin 2048), w₀ (ix2 r l) = z ⟨0 + r.val, by omega⟩ l) (r : Fin 1024) (l : Fin 2048) :
    View.canon ((⟨(Rect.unit (s := S1024x2048) ![768, 0] S256x2048.size inb_S1024x2048_S256x2048_768_0), w₃⟩ : View.Piece (Elt Ideal) S1024x2048 e) :: (⟨(Rect.unit (s := S1024x2048) ![512, 0] S256x2048.size inb_S1024x2048_S256x2048_512_0), w₂⟩ : View.Piece (Elt Ideal) S1024x2048 e) :: (⟨(Rect.unit (s := S1024x2048) ![256, 0] S256x2048.size inb_S1024x2048_S256x2048_256_0), w₁⟩ : View.Piece (Elt Ideal) S1024x2048 e) :: (⟨(Rect.unit (s := S1024x2048) ![0, 0] S256x2048.size inb_S1024x2048_S256x2048_0_0), w₀⟩ : View.Piece (Elt Ideal) S1024x2048 e) :: L) (ix2 r l) = z r l := by
  by_cases c3 : 768 ≤ r.val
  · exact in_768 _ _ z h₃ r l c3 (by omega)
  rw [out_768 _ _ r l (by omega)]
  by_cases c2 : 512 ≤ r.val
  · exact in_512 _ _ z h₂ r l c2 (by omega)
  rw [out_512 _ _ r l (by omega)]
  by_cases c1 : 256 ≤ r.val
  · exact in_256 _ _ z h₁ r l c1 (by omega)
  rw [out_256 _ _ r l (by omega)]
  exact in_0 _ _ z h₀ r l (by omega) (by omega)
theorem idx_whole (j : S1024x2048.Idx) : (Rect.unit (s := S1024x2048) ![0, 0] S1024x2048.size inb_S1024x2048_S1024x2048_0_0).toLoadRect.idx j = j := by
  funext a
  refine Fin.ext ((Rect.idx_unit_val _ _ _ _ a).trans ?_)
  fin_cases a <;> exact Nat.zero_add _

variable (m : (ℓ : Loc nD τ sig) → Buf (Elt Ideal) ℓ) (c : Dev nD)

theorem entryG (l : Fin 2048) : V m c main_v8 (ix3 0 0 l) = m ((c : Thread nD τ).loc main_arg1) (ix2 0 l) := by
  simp only [V, List.flatten_cons, List.flatten_nil, List.append_nil, List.cons_append, List.nil_append]
  entry_read
  pointwise
theorem entryW (k : Fin 2048) (l : Fin 128) : V m c main_v4 (ix3 0 k l) = if hl : l.val < 16 then m ((c : Thread nD τ).loc main_arg3) (ix3 0 k ⟨20480 + l.val, by omega⟩) else (0 : EReal) := by
  simp only [V, List.flatten_cons, List.flatten_nil, List.append_nil, List.cons_append, List.nil_append]
  entry_read
  simp only [StableHlo.TRef.of, StableHlo.TRef.toBuf, StableHlo.TRef.ofBuf, cast_eq]
  pointwise
  simp only [FloatOps.sitofp, pad0]
  try rfl
theorem entryB (l : Fin 128) : V m c main_v7 (ix3 0 0 l) = if hl : l.val < 16 then m ((c : Thread nD τ).loc main_arg4) (ix2 0 ⟨20480 + l.val, by omega⟩) else (0 : EReal) := by
  simp only [V, List.flatten_cons, List.flatten_nil, List.append_nil, List.cons_append, List.nil_append]
  entry_read
  simp only [StableHlo.TRef.of, StableHlo.TRef.toBuf, StableHlo.TRef.ofBuf, cast_eq]
  pointwise
  simp only [FloatOps.sitofp, pad0]
  try rfl

theorem entryM (b : Fin 4) (l : Fin 12288) : V m c main_v9 (ix3 b 0 l) = m ((c : Thread nD τ).loc main_arg2) (ix2 b l) := by
  simp only [V, List.flatten_cons, List.flatten_nil, List.append_nil, List.cons_append, List.nil_append]
  entry_read
  pointwise

variable (t : Fin cfg0.N)

/-- The row of the arrays that a tile's row is, and the stream it belongs to. -/
def gr (r : Fin 1024) : Fin 16384 := ⟨1024 * t.val + r.val, by have h : t.val < 16 := t.isLt; omega⟩
def gs : Fin 4 := ⟨t.val / 4, by have h : t.val < 16 := t.isLt; omega⟩
theorem gr_val (r : Fin 1024) : (gr t r).val = 1024 * t.val + r.val := rfl
theorem gs_val : (gs t).val = t.val / 4 := rfl
theorem mrow_gr (r : Fin 1024) : mrow (gr t r) = gs t := Fin.ext (by show (1024 * t.val + r.val) / 4096 = t.val / 4; omega)

theorem blkX (r : Fin 1024) (k : Fin 2048) : iblk m c 0 t (ix2 r k) = (m ((c : Thread nD τ).loc main_arg0)) (ix2 (gr t r) k) := by
  have idx : win0_0.index t = ![t.val, 0] := (by decide +kernel : ∀ t : Fin grid0.N, win0_0.index t = ![t.val, 0]) t
  have hr := gr_val t r
  blk_ext [iblk, V_main_arg0, idx]
theorem blkG (l : Fin 2048) : iblk m c 1 t (ix3 0 0 l) = m ((c : Thread nD τ).loc main_arg1) (ix2 0 l) := by
  refine Eq.trans ?_ (entryG m c l)
  have idx : win0_1.index t = ![0, 0, 0] := (by decide +kernel : ∀ t : Fin grid0.N, win0_1.index t = ![0, 0, 0]) t
  blk_ext [iblk, idx]
theorem blkW (k : Fin 2048) (l : Fin 128) : iblk m c 4 t (ix3 0 k l) = if hl : l.val < 16 then m ((c : Thread nD τ).loc main_arg3) (ix3 0 k ⟨20480 + l.val, by omega⟩) else (0 : EReal) := by
  refine Eq.trans ?_ (entryW m c k l)
  have idx : win0_4.index t = ![0, 0, 0] := (by decide +kernel : ∀ t : Fin grid0.N, win0_4.index t = ![0, 0, 0]) t
  blk_ext [iblk, idx]
theorem blkB (l : Fin 128) : iblk m c 5 t (ix3 0 0 l) = if hl : l.val < 16 then m ((c : Thread nD τ).loc main_arg4) (ix2 0 ⟨20480 + l.val, by omega⟩) else (0 : EReal) := by
  refine Eq.trans ?_ (entryB m c l)
  have idx : win0_5.index t = ![0, 0, 0] := (by decide +kernel : ∀ t : Fin grid0.N, win0_5.index t = ![0, 0, 0]) t
  blk_ext [iblk, idx]
theorem blkS (l : Fin 2048) : iblk m c 2 t (ix3 0 0 l) = (m ((c : Thread nD τ).loc main_arg2)) (ix2 (gs t) ⟨2048 + l.val, by omega⟩) := by
  refine Eq.trans ?_ (entryM m c _ _)
  have idx : win0_2.index t = ![t.val / 4, 0, 1] := (by decide +kernel : ∀ t : Fin grid0.N, win0_2.index t = ![t.val / 4, 0, 1]) t
  have hs := gs_val t
  blk_ext [iblk, idx]
theorem blkH (l : Fin 2048) : iblk m c 3 t (ix3 0 0 l) = (m ((c : Thread nD τ).loc main_arg2)) (ix2 (gs t) ⟨l.val, by omega⟩) := by
  refine Eq.trans ?_ (entryM m c _ _)
  have idx : win0_3.index t = ![t.val / 4, 0, 0] := (by decide +kernel : ∀ t : Fin grid0.N, win0_3.index t = ![t.val / 4, 0, 0]) t
  have hs := gs_val t
  blk_ext [iblk, idx]

/-- The rows' payload, on 256 rows of a tile from any row on. -/
theorem pay_rows (X : Vec Ideal S256x2048 .f32) (d : Fin 256 → Fin 1024) (hX : ∀ r k, X (ix2 r k) = iblk m c 0 t (ix2 (d r) k)) (r : Fin 256) (l : Fin 2048) :
    k0_pay2 X (k0_pay1 X) (iblk m c 1 t) (iblk m c 2 t) (iblk m c 3 t) (ix2 r l) = hrow (m ((c : Thread nD τ).loc main_arg0)) (m ((c : Thread nD τ).loc main_arg1)) (m ((c : Thread nD τ).loc main_arg2)) (gr t (d r)) l := by
  unfold k0_pay1 k0_pay2
  pointwise
  simp only [hX, blkX, blkS, blkH, blkG, ← mrow_gr t (d r)]
  rfl

theorem tileH (r : Fin 1024) (l : Fin 2048) : (outsAt0 m c t).1 (ix2 r l) = hrow (m ((c : Thread nD τ).loc main_arg0)) (m ((c : Thread nD τ).loc main_arg1)) (m ((c : Thread nD τ).loc main_arg2)) (gr t r) l := by
  unfold outsAt0 out0_A_6
  frame_open
  simp (disch := decide) only [↓ View.readCov_skip, ↓ View.readCov_cons_toLoadRect, ↓ View.readCov_fill]
  frame_out
  exact four_rows (e := .bf16) _ _ _ _ _ (fun r l => hrow (m ((c : Thread nD τ).loc main_arg0)) (m ((c : Thread nD τ).loc main_arg1)) (m ((c : Thread nD τ).loc main_arg2)) (gr t r) l) (pay_rows m c t _ _ (ld_768 (e := .f32) _)) (pay_rows m c t _ _ (ld_512 (e := .f32) _)) (pay_rows m c t _ _ (ld_256 (e := .f32) _)) (pay_rows m c t _ _ (ld_0 (e := .f32) _)) r l

theorem pay_gate (h : Vec Ideal S1024x2048 .bf16) (hh : ∀ r l, h (ix2 r l) = hrow (m ((c : Thread nD τ).loc main_arg0)) (m ((c : Thread nD τ).loc main_arg1)) (m ((c : Thread nD τ).loc main_arg2)) (gr t r) l) (r : Fin 1024) (l : Fin 128) :
    k0_pay3 h (iblk m c 4 t) (iblk m c 5 t) (ix2 r l) = gate (m ((c : Thread nD τ).loc main_arg0)) (m ((c : Thread nD τ).loc main_arg1)) (m ((c : Thread nD τ).loc main_arg2)) (m ((c : Thread nD τ).loc main_arg3)) (m ((c : Thread nD τ).loc main_arg4)) (gr t r) l := by
  unfold k0_pay3
  pointwise
  simp only [hh, blkW, blkB]
  unfold gate
  by_cases hl : l.val < 16
  · simp only [dif_pos hl]
  · simp only [dif_neg hl, mul_zero, Finset.sum_const_zero, add_zero]
theorem tileG (r : Fin 1024) (l : Fin 128) : (outsAt0 m c t).2 (ix2 r l) = gate (m ((c : Thread nD τ).loc main_arg0)) (m ((c : Thread nD τ).loc main_arg1)) (m ((c : Thread nD τ).loc main_arg2)) (m ((c : Thread nD τ).loc main_arg3)) (m ((c : Thread nD τ).loc main_arg4)) (gr t r) l := by
  unfold outsAt0 out0_A_7
  frame_open
  simp (disch := decide) only [↓ View.readCov_skip, ↓ View.readCov_cons_toLoadRect, ↓ View.readCov_fill]
  frame_out
  refine pay_gate m c t _ (fun r l => ?_) r l
  rw [View.readCov_eq_canon']
  show View.canon _ (LoadRect.idx _ _) = _
  rw [idx_whole]
  exact four_rows (e := .bf16) _ _ _ _ _ (fun r l => hrow (m ((c : Thread nD τ).loc main_arg0)) (m ((c : Thread nD τ).loc main_arg1)) (m ((c : Thread nD τ).loc main_arg2)) (gr t r) l) (pay_rows m c t _ _ (ld_768 (e := .f32) _)) (pay_rows m c t _ _ (ld_512 (e := .f32) _)) (pay_rows m c t _ _ (ld_256 (e := .f32) _)) (pay_rows m c t _ _ (ld_0 (e := .f32) _)) r l

/-- The whole arrays after the run. -/
def FH : S16384x2048.Idx → EReal := fun i => hrow (m ((c : Thread nD τ).loc main_arg0)) (m ((c : Thread nD τ).loc main_arg1)) (m ((c : Thread nD τ).loc main_arg2)) (i 0) (i 1)
def FG : S16384x128.Idx → EReal := fun i => gate (m ((c : Thread nD τ).loc main_arg0)) (m ((c : Thread nD τ).loc main_arg1)) (m ((c : Thread nD τ).loc main_arg2)) (m ((c : Thread nD τ).loc main_arg3)) (m ((c : Thread nD τ).loc main_arg4)) (i 0) (i 1)
theorem finalH : (dats m 0 c).arrAt 6 cfg0.N = FH m c := by
  refine (dats m 0 c).arrAt_eq_of_covers 6 (FH m c) (by decide +kernel) fun t hf y => ?_
  blk_simp
  rw [after0_6]
  have idx : win0_6.index t = ![t.val, 0] := (by decide +kernel : ∀ t : Fin grid0.N, win0_6.index t = ![t.val, 0]) t
  have e0 : (((cfg0.win 6).blk t).view.emb y 0 : ℕ) = 1024 * t.val + (y 0).val := by blk_simp [idx]; try omega
  have e1 : (((cfg0.win 6).blk t).view.emb y 1 : ℕ) = (y 1).val := by blk_simp [idx]; try omega
  refine (congrArg (outsAt0 m c t).1 (ix2_of y)).trans ((tileH m c t (y 0) (y 1)).trans ?_)
  exact congr (congrArg (hrow (m ((c : Thread nD τ).loc main_arg0)) (m ((c : Thread nD τ).loc main_arg1)) (m ((c : Thread nD τ).loc main_arg2))) (Fin.ext e0.symm)) (Fin.ext e1.symm)
theorem finalG : (dats m 0 c).arrAt 7 cfg0.N = FG m c := by
  refine (dats m 0 c).arrAt_eq_of_covers 7 (FG m c) (by decide +kernel) fun t hf y => ?_
  blk_simp
  rw [after0_7]
  have idx : win0_7.index t = ![t.val, 0] := (by decide +kernel : ∀ t : Fin grid0.N, win0_7.index t = ![t.val, 0]) t
  have e0 : (((cfg0.win 7).blk t).view.emb y 0 : ℕ) = 1024 * t.val + (y 0).val := by blk_simp [idx]; try omega
  have e1 : (((cfg0.win 7).blk t).view.emb y 1 : ℕ) = (y 1).val := by blk_simp [idx]; try omega
  refine (congrArg (outsAt0 m c t).2 (ix2_of y)).trans ((tileG m c t (y 0) (y 1)).trans ?_)
  exact congr (congrArg (gate (m ((c : Thread nD τ).loc main_arg0)) (m ((c : Thread nD τ).loc main_arg1)) (m ((c : Thread nD τ).loc main_arg2)) (m ((c : Thread nD τ).loc main_arg3)) (m ((c : Thread nD τ).loc main_arg4))) (Fin.ext e0.symm)) (Fin.ext e1.symm)
end

section
attribute [local instance] Cert.NormGatesPrompt.Gen.facts Cert.NormGatesPromptIdeal.Gen.facts
/-- The two programs run the same bodies. -/
theorem same₀ : (Cert.NormGatesPrompt.defs₀ : Defs Cert.NormGatesPrompt.nD Cert.NormGatesPrompt.τ Cert.NormGatesPrompt.sig (Elt Bits) Cert.NormGatesPrompt.Λ₀) = (Cert.NormGatesPromptIdeal.defs₀ (F := Bits)) := by
  unfold Cert.NormGatesPrompt.defs₀ Cert.NormGatesPromptIdeal.defs₀
  refine congrArg Defs.onTc ?_
  funext p
  funext x
  match p, x with
  | 0, (t, s) => rfl
theorem same : (Cert.NormGatesPrompt.defs (F := Bits)) = (Cert.NormGatesPromptIdeal.defs (F := Bits)) := congrArg (Pipeline.defs _) same₀
theorem frameK : Cert.quiescent_NormGatesPrompt (hNormGatesPrompt := Cert.NormGatesPrompt.Gen.facts) := by
  intro m ρ h
  rw [same]
  exact Cert.NormGatesPromptIdeal.Gen.frame (F := Bits) m ρ
end
theorem frameI : Cert.quiescent_NormGatesPromptIdeal := fun m ρ _ => Cert.NormGatesPromptIdeal.Gen.frame m ρ
theorem frameR : Cert.quiescent_NormGatesPromptReferenceIdeal := by
  intro m g _
  refine (θ_run _ _ _).mono (fun r h => ⟨fun c => (h c).2.2, sem_eq_zero_of_no_sems (by decide) r.2⟩) (Cert.NormGatesPromptReferenceIdeal.Value.run m g)

theorem algebraic : Cert.algebraic_NormGatesPromptIdeal_NormGatesPromptReferenceIdeal := by
  intro m g m' g' _ hag
  refine ⟨FH m, FG m, ?_, ?_⟩
  · refine (θ_run _ _ _).mono (fun r h c => ?_) (Cert.NormGatesPromptIdeal.Value.run_blocks m g)
    exact ⟨(h c).1.trans (finalH m c), (h c).2.1.trans (finalG m c), (h c).2.2⟩
  · refine (θ_run _ _ _).mono (fun r h c => ?_) (Cert.NormGatesPromptReferenceIdeal.Value.run m' g')
    obtain ⟨r0, r1, rest⟩ := h c
    obtain ⟨h0, h1, h2, h3, h4⟩ := hag c
    refine ⟨r0.trans ?_, r1.trans ?_, rest⟩
    · rw [h0, h1, h2]
      funext i
      obtain ⟨a, b, rfl⟩ : ∃ a b, i = ix2 a b := ⟨_, _, ix2_of i⟩
      pointwise
      rfl
    · rw [h0, h1, h2, h3, h4]
      funext i
      obtain ⟨a, b, rfl⟩ : ∃ a b, i = ix2 a b := ⟨_, _, ix2_of i⟩
      pointwise
      show _ = gate _ _ _ _ _ a b
      unfold gate
      by_cases hb : b.val < 16
      · simp only [dif_pos hb]
        rfl
      · simp only [dif_neg hb]
        exact pad0
end Cert.M.Np
-- ==== Proof.M.NormGates.lean ====
/- The normalised and modulated rows and the gates' projection. -/
module
public import proofs.«01_k».proof.Defs
public import proofs.«01_k».proof.Proof.Gen.NormGatesIdeal.Value
public import proofs.«01_k».proof.Proof.Gen.NormGatesReferenceIdeal.Run
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.M.Ix
@[expose] public section
set_option maxRecDepth 16384
noncomputable section
namespace Cert.M.Norm
open Idealize.ShloMosaic Idealize.ShloMosaic.TcCoe Idealize.SL.Sem

/-- The literals for the width of a row and for the norm's offset. -/
def width : EReal := Ideal.ofBits .f32 0x45000000#32
def eps : EReal := Ideal.ofBits .f32 0x358637BD#32
/-- The reciprocal root of a row's mean square. -/
def inv (x : Fin 2048 → EReal) : EReal := Ideal.rsqrt (Ideal.div (∑ k : Fin 2048, x k * x k) width + eps)
/-- A row under its norm, scaled and shifted by the modulation. -/
def hrow (x : FVec Ideal ⟨2, ![128, 2048]⟩ .f32) (g : FVec Ideal ⟨2, ![4, 2048]⟩ .f32) (md : FVec Ideal ⟨2, ![128, 12288]⟩ .f32)
    (r : Fin 128) (l : Fin 2048) : EReal :=
  x (ix2 r l) * inv (fun k => x (ix2 r k)) * g (ix2 0 l) * (1 + md (ix2 r ⟨2048 + l.val, by omega⟩)) + md (ix2 r ⟨l.val, by omega⟩)
/-- A gate of a row; the lanes past the sixteen gates are zero. -/
def gate (x : FVec Ideal ⟨2, ![128, 2048]⟩ .f32) (g : FVec Ideal ⟨2, ![4, 2048]⟩ .f32) (md : FVec Ideal ⟨2, ![128, 12288]⟩ .f32)
    (w : FVec Ideal ⟨3, ![4, 2048, 20496]⟩ .f32) (b : FVec Ideal ⟨2, ![4, 20496]⟩ .f32) (r : Fin 128) (l : Fin 128) : EReal :=
  if hl : l.val < 16 then (∑ k : Fin 2048, hrow x g md r k * w (ix3 0 k ⟨20480 + l.val, by omega⟩)) + b (ix2 0 ⟨20480 + l.val, by omega⟩) else 0

/-- The padding is the integer zero converted. -/
theorem pad0 : ((((0#32 : BitVec 32).toInt : ℤ) : ℝ) : EReal) = 0 := by simp

section
open Cert.NormGatesIdeal Cert.NormGatesIdeal.Gen
variable (m : (ℓ : Loc nD τ sig) → Buf (Elt Ideal) ℓ) (c : Dev nD)

theorem entryG (l : Fin 2048) : V m c main_v8 (ix3 0 0 l) = m ((c : Thread nD τ).loc main_arg1) (ix2 0 l) := by
  simp only [V, List.flatten_cons, List.flatten_nil, List.append_nil, List.cons_append, List.nil_append]
  entry_read
  pointwise
theorem entryW (k : Fin 2048) (l : Fin 128) : V m c main_v4 (ix3 0 k l) = if hl : l.val < 16 then m ((c : Thread nD τ).loc main_arg3) (ix3 0 k ⟨20480 + l.val, by omega⟩) else (0 : EReal) := by
  simp only [V, List.flatten_cons, List.flatten_nil, List.append_nil, List.cons_append, List.nil_append]
  entry_read
  simp only [StableHlo.TRef.of, StableHlo.TRef.toBuf, StableHlo.TRef.ofBuf, cast_eq]
  pointwise
  simp only [FloatOps.sitofp, pad0]
  try rfl
theorem entryB (l : Fin 128) : V m c main_v7 (ix3 0 0 l) = if hl : l.val < 16 then m ((c : Thread nD τ).loc main_arg4) (ix2 0 ⟨20480 + l.val, by omega⟩) else (0 : EReal) := by
  simp only [V, List.flatten_cons, List.flatten_nil, List.append_nil, List.cons_append, List.nil_append]
  entry_read
  simp only [StableHlo.TRef.of, StableHlo.TRef.toBuf, StableHlo.TRef.ofBuf, cast_eq]
  pointwise
  simp only [FloatOps.sitofp, pad0]
  try rfl

variable (t : Fin cfg0.N)

theorem blkX (r : Fin 128) (k : Fin 2048) : iblk m c 0 t (ix2 r k) = m ((c : Thread nD τ).loc main_arg0) (ix2 r k) := by
  have idx : win0_0.index t = ![0, 0] := (by decide +kernel : ∀ t : Fin grid0.N, win0_0.index t = ![0, 0]) t
  blk_ext [iblk, V_main_arg0, idx]
theorem blkG (l : Fin 2048) : iblk m c 1 t (ix3 0 0 l) = m ((c : Thread nD τ).loc main_arg1) (ix2 0 l) := by
  refine Eq.trans ?_ (entryG m c l)
  have idx : win0_1.index t = ![0, 0, 0] := (by decide +kernel : ∀ t : Fin grid0.N, win0_1.index t = ![0, 0, 0]) t
  blk_ext [iblk, idx]
theorem blkW (k : Fin 2048) (l : Fin 128) : iblk m c 4 t (ix3 0 k l) = if hl : l.val < 16 then m ((c : Thread nD τ).loc main_arg3) (ix3 0 k ⟨20480 + l.val, by omega⟩) else (0 : EReal) := by
  refine Eq.trans ?_ (entryW m c k l)
  have idx : win0_4.index t = ![0, 0, 0] := (by decide +kernel : ∀ t : Fin grid0.N, win0_4.index t = ![0, 0, 0]) t
  blk_ext [iblk, idx]
theorem blkB (l : Fin 128) : iblk m c 5 t (ix3 0 0 l) = if hl : l.val < 16 then m ((c : Thread nD τ).loc main_arg4) (ix2 0 ⟨20480 + l.val, by omega⟩) else (0 : EReal) := by
  refine Eq.trans ?_ (entryB m c l)
  have idx : win0_5.index t = ![0, 0, 0] := (by decide +kernel : ∀ t : Fin grid0.N, win0_5.index t = ![0, 0, 0]) t
  blk_ext [iblk, idx]
theorem blkS (r : Fin 128) (l : Fin 2048) : iblk m c 2 t (ix2 r l) = m ((c : Thread nD τ).loc main_arg2) (ix2 r ⟨2048 + l.val, by omega⟩) := by
  have idx : win0_2.index t = ![0, 1] := (by decide +kernel : ∀ t : Fin grid0.N, win0_2.index t = ![0, 1]) t
  blk_ext [iblk, V_main_arg2, idx]
theorem blkH (r : Fin 128) (l : Fin 2048) : iblk m c 3 t (ix2 r l) = m ((c : Thread nD τ).loc main_arg2) (ix2 r ⟨l.val, by omega⟩) := by
  have idx : win0_3.index t = ![0, 0] := (by decide +kernel : ∀ t : Fin grid0.N, win0_3.index t = ![0, 0]) t
  blk_ext [iblk, V_main_arg2, idx]

theorem tileH (r : Fin 128) (l : Fin 2048) :
    (outsAt0 m c t).1 (ix2 r l) = hrow (m ((c : Thread nD τ).loc main_arg0)) (m ((c : Thread nD τ).loc main_arg1)) (m ((c : Thread nD τ).loc main_arg2)) r l := by
  unfold outsAt0
  frame_open
  simp (disch := decide) only [↓ View.readCov_skip, ↓ View.readCov_cons_toLoadRect, ↓ View.readCov_fill]
  frame_out
  unfold k0_pay3 k0_pay2
  pointwise
  simp only [blkX, blkS, blkH, blkG]
  rfl

theorem tileG (r l : Fin 128) :
    (outsAt0 m c t).2 (ix2 r l) = gate (m ((c : Thread nD τ).loc main_arg0)) (m ((c : Thread nD τ).loc main_arg1)) (m ((c : Thread nD τ).loc main_arg2)) (m ((c : Thread nD τ).loc main_arg3)) (m ((c : Thread nD τ).loc main_arg4)) r l := by
  unfold outsAt0
  frame_open
  simp (disch := decide) only [↓ View.readCov_skip, ↓ View.readCov_cons_toLoadRect, ↓ View.readCov_fill]
  frame_out
  unfold k0_pay1 k0_pay3 k0_pay2
  pointwise
  simp only [blkX, blkS, blkH, blkG, blkW, blkB]
  unfold gate
  by_cases hl : l.val < 16
  · simp only [dif_pos hl]
    rfl
  · simp only [dif_neg hl, mul_zero, Finset.sum_const_zero, add_zero]

/-- The whole arrays after the run. -/
def FH : S128x2048.Idx → EReal := fun i => hrow (m ((c : Thread nD τ).loc main_arg0)) (m ((c : Thread nD τ).loc main_arg1)) (m ((c : Thread nD τ).loc main_arg2)) (i 0) (i 1)
def FG : S128x128.Idx → EReal := fun i => gate (m ((c : Thread nD τ).loc main_arg0)) (m ((c : Thread nD τ).loc main_arg1)) (m ((c : Thread nD τ).loc main_arg2)) (m ((c : Thread nD τ).loc main_arg3)) (m ((c : Thread nD τ).loc main_arg4)) (i 0) (i 1)
theorem finalH : (dats m 0 c).arrAt 6 cfg0.N = FH m c := by
  refine (dats m 0 c).arrAt_eq_of_covers 6 (FH m c) (by decide +kernel) fun t hf y => ?_
  blk_simp
  rw [after0_6]
  have idx : win0_6.index t = ![0, 0] := (by decide +kernel : ∀ t : Fin grid0.N, win0_6.index t = ![0, 0]) t
  have e0 : (((cfg0.win 6).blk t).view.emb y 0 : ℕ) = (y 0).val := by blk_simp [idx]; try omega
  have e1 : (((cfg0.win 6).blk t).view.emb y 1 : ℕ) = (y 1).val := by blk_simp [idx]; try omega
  refine (congrArg (outsAt0 m c t).1 (ix2_of y)).trans ((tileH m c t (y 0) (y 1)).trans ?_)
  exact congr (congrArg (hrow (m ((c : Thread nD τ).loc main_arg0)) (m ((c : Thread nD τ).loc main_arg1)) (m ((c : Thread nD τ).loc main_arg2))) (Fin.ext e0.symm)) (Fin.ext e1.symm)
theorem finalG : (dats m 0 c).arrAt 7 cfg0.N = FG m c := by
  refine (dats m 0 c).arrAt_eq_of_covers 7 (FG m c) (by decide +kernel) fun t hf y => ?_
  blk_simp
  rw [after0_7]
  have idx : win0_7.index t = ![0, 0] := (by decide +kernel : ∀ t : Fin grid0.N, win0_7.index t = ![0, 0]) t
  have e0 : (((cfg0.win 7).blk t).view.emb y 0 : ℕ) = (y 0).val := by blk_simp [idx]; try omega
  have e1 : (((cfg0.win 7).blk t).view.emb y 1 : ℕ) = (y 1).val := by blk_simp [idx]; try omega
  refine (congrArg (outsAt0 m c t).2 (ix2_of y)).trans ((tileG m c t (y 0) (y 1)).trans ?_)
  exact congr (congrArg (gate (m ((c : Thread nD τ).loc main_arg0)) (m ((c : Thread nD τ).loc main_arg1)) (m ((c : Thread nD τ).loc main_arg2)) (m ((c : Thread nD τ).loc main_arg3)) (m ((c : Thread nD τ).loc main_arg4))) (Fin.ext e0.symm)) (Fin.ext e1.symm)
end

theorem frameR : Cert.quiescent_NormGatesReferenceIdeal := by
  intro m g _
  refine (θ_run _ _ _).mono (fun r h => ⟨fun c => (h c).2.2, sem_eq_zero_of_no_sems (by decide) r.2⟩) (Cert.NormGatesReferenceIdeal.Value.run m g)

theorem algebraic : Cert.algebraic_NormGatesIdeal_NormGatesReferenceIdeal := by
  intro m g m' g' _ hag
  refine ⟨FH m, FG m, ?_, ?_⟩
  · refine (θ_run _ _ _).mono (fun r h c => ?_) (Cert.NormGatesIdeal.Value.run_blocks m g)
    exact ⟨(h c).1.trans (finalH m c), (h c).2.1.trans (finalG m c), (h c).2.2⟩
  · refine (θ_run _ _ _).mono (fun r h c => ?_) (Cert.NormGatesReferenceIdeal.Value.run m' g')
    obtain ⟨r0, r1, rest⟩ := h c
    obtain ⟨h0, h1, h2, h3, h4⟩ := hag c
    refine ⟨r0.trans ?_, r1.trans ?_, rest⟩
    · rw [h0, h1, h2]
      funext i
      obtain ⟨a, b, rfl⟩ : ∃ a b, i = ix2 a b := ⟨_, _, ix2_of i⟩
      pointwise
      rfl
    · rw [h0, h1, h2, h3, h4]
      funext i
      obtain ⟨a, b, rfl⟩ : ∃ a b, i = ix2 a b := ⟨_, _, ix2_of i⟩
      pointwise
      show _ = gate _ _ _ _ _ a b
      unfold gate
      by_cases hb : b.val < 16
      · simp only [dif_pos hb]
        rfl
      · simp only [dif_neg hb]
        exact pad0
end Cert.M.Norm
-- ==== Proof.lean ====
/- The certificate's claims: for each call the frames of the kernel, of its idealization and of the idealized
   reference, and the equality of the two idealizations' results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjReferenceIdeal
public import proofs.«01_k».proof.Proof.Gen.InProjReferenceIdeal.Run
public import proofs.«01_k».proof.Proof.Gen.Branches
public import proofs.«01_k».proof.Proof.Gen.Branches.Skeleton
public import proofs.«01_k».proof.Proof.Gen.Branches.Launch
public import proofs.«01_k».proof.Proof.Gen.Branches.Points
public import proofs.«01_k».proof.Proof.Gen.Branches.Frame
public import proofs.«01_k».proof.Proof.Gen.BranchesIdeal
public import proofs.«01_k».proof.Proof.Gen.BranchesIdeal.Skeleton
public import proofs.«01_k».proof.Proof.Gen.BranchesIdeal.Launch
public import proofs.«01_k».proof.Proof.Gen.BranchesIdeal.Points
public import proofs.«01_k».proof.Proof.Gen.BranchesIdeal.Frame
public import proofs.«01_k».proof.Proof.Gen.BranchesIdeal.Value
public import proofs.«01_k».proof.Proof.Gen.BranchesReferenceIdeal
public import proofs.«01_k».proof.Proof.Gen.BranchesReferenceIdeal.Run
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjReferenceIdeal
public import proofs.«01_k».proof.Proof.Gen.OutProjReferenceIdeal.Run
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnReferenceIdeal
public import proofs.«01_k».proof.Proof.Gen.FfnReferenceIdeal.Run
public import proofs.«01_k».proof.Proof.Gen.InProjPrompt
public import proofs.«01_k».proof.Proof.Gen.InProjPrompt.Skeleton
public import proofs.«01_k».proof.Proof.Gen.InProjPrompt.Launch
public import proofs.«01_k».proof.Proof.Gen.InProjPrompt.Points
public import proofs.«01_k».proof.Proof.Gen.InProjPrompt.Frame
public import proofs.«01_k».proof.Proof.Gen.InProjPromptIdeal
public import proofs.«01_k».proof.Proof.Gen.InProjPromptIdeal.Skeleton
public import proofs.«01_k».proof.Proof.Gen.InProjPromptIdeal.Launch
public import proofs.«01_k».proof.Proof.Gen.InProjPromptIdeal.Points
public import proofs.«01_k».proof.Proof.Gen.InProjPromptIdeal.Frame
public import proofs.«01_k».proof.Proof.Gen.InProjPromptReferenceIdeal
public import proofs.«01_k».proof.Proof.Gen.InProjPromptReferenceIdeal.Run
public import proofs.«01_k».proof.Proof.Gen.Modulation
public import proofs.«01_k».proof.Proof.Gen.Modulation.Skeleton
public import proofs.«01_k».proof.Proof.Gen.Modulation.Launch
public import proofs.«01_k».proof.Proof.Gen.Modulation.Points
public import proofs.«01_k».proof.Proof.Gen.Modulation.Frame
public import proofs.«01_k».proof.Proof.Gen.ModulationIdeal
public import proofs.«01_k».proof.Proof.Gen.ModulationIdeal.Skeleton
public import proofs.«01_k».proof.Proof.Gen.ModulationIdeal.Launch
public import proofs.«01_k».proof.Proof.Gen.ModulationIdeal.Points
public import proofs.«01_k».proof.Proof.Gen.ModulationIdeal.Frame
public import proofs.«01_k».proof.Proof.Gen.ModulationReferenceIdeal
public import proofs.«01_k».proof.Proof.Gen.ModulationReferenceIdeal.Run
public import proofs.«01_k».proof.Proof.Gen.LowerBounds
public import proofs.«01_k».proof.Proof.Gen.LowerBounds.Skeleton
public import proofs.«01_k».proof.Proof.Gen.LowerBounds.Launch
public import proofs.«01_k».proof.Proof.Gen.LowerBounds.Points
public import proofs.«01_k».proof.Proof.Gen.LowerBounds.Frame
public import proofs.«01_k».proof.Proof.Gen.LowerBoundsIdeal
public import proofs.«01_k».proof.Proof.Gen.LowerBoundsIdeal.Skeleton
public import proofs.«01_k».proof.Proof.Gen.LowerBoundsIdeal.Launch
public import proofs.«01_k».proof.Proof.Gen.LowerBoundsIdeal.Points
public import proofs.«01_k».proof.Proof.Gen.LowerBoundsIdeal.Frame
public import proofs.«01_k».proof.Proof.Gen.LowerBoundsReferenceIdeal
public import proofs.«01_k».proof.Proof.Gen.LowerBoundsReferenceIdeal.Run
public import proofs.«01_k».proof.Proof.Gen.FfnPrompt
public import proofs.«01_k».proof.Proof.Gen.FfnPrompt.Skeleton
public import proofs.«01_k».proof.Proof.Gen.FfnPrompt.Launch
public import proofs.«01_k».proof.Proof.Gen.FfnPrompt.Points
public import proofs.«01_k».proof.Proof.Gen.FfnPromptIdeal
public import proofs.«01_k».proof.Proof.Gen.FfnPromptIdeal.Skeleton
public import proofs.«01_k».proof.Proof.Gen.FfnPromptIdeal.Launch
public import proofs.«01_k».proof.Proof.Gen.FfnPromptIdeal.Points
public import proofs.«01_k».proof.Proof.Gen.FfnPromptReferenceIdeal
public import proofs.«01_k».proof.Proof.Gen.FfnPromptReferenceIdeal.Run
public import proofs.«01_k».proof.Proof.Gen.BranchesPrompt
public import proofs.«01_k».proof.Proof.Gen.BranchesPrompt.Skeleton
public import proofs.«01_k».proof.Proof.Gen.BranchesPrompt.Launch
public import proofs.«01_k».proof.Proof.Gen.BranchesPrompt.Points
public import proofs.«01_k».proof.Proof.Gen.BranchesPrompt.Frame
public import proofs.«01_k».proof.Proof.Gen.BranchesPromptIdeal
public import proofs.«01_k».proof.Proof.Gen.BranchesPromptIdeal.Skeleton
public import proofs.«01_k».proof.Proof.Gen.BranchesPromptIdeal.Launch
public import proofs.«01_k».proof.Proof.Gen.BranchesPromptIdeal.Points
public import proofs.«01_k».proof.Proof.Gen.BranchesPromptIdeal.Frame
public import proofs.«01_k».proof.Proof.Gen.BranchesPromptIdeal.Value
public import proofs.«01_k».proof.Proof.Gen.BranchesPromptReferenceIdeal
public import proofs.«01_k».proof.Proof.Gen.BranchesPromptReferenceIdeal.Run
public import proofs.«01_k».proof.Proof.Gen.OutProjPrompt
public import proofs.«01_k».proof.Proof.Gen.OutProjPrompt.Skeleton
public import proofs.«01_k».proof.Proof.Gen.OutProjPrompt.Launch
public import proofs.«01_k».proof.Proof.Gen.OutProjPrompt.Points
public import proofs.«01_k».proof.Proof.Gen.OutProjPrompt.Frame
public import proofs.«01_k».proof.Proof.Gen.OutProjPromptIdeal
public import proofs.«01_k».proof.Proof.Gen.OutProjPromptIdeal.Skeleton
public import proofs.«01_k».proof.Proof.Gen.OutProjPromptIdeal.Launch
public import proofs.«01_k».proof.Proof.Gen.OutProjPromptIdeal.Points
public import proofs.«01_k».proof.Proof.Gen.OutProjPromptIdeal.Frame
public import proofs.«01_k».proof.Proof.Gen.OutProjPromptIdeal.Value
public import proofs.«01_k».proof.Proof.Gen.OutProjPromptReferenceIdeal
public import proofs.«01_k».proof.Proof.Gen.OutProjPromptReferenceIdeal.Run
public import proofs.«01_k».proof.Proof.Gen.NormGates
public import proofs.«01_k».proof.Proof.Gen.NormGates.Skeleton
public import proofs.«01_k».proof.Proof.Gen.NormGates.Launch
public import proofs.«01_k».proof.Proof.Gen.NormGates.Points
public import proofs.«01_k».proof.Proof.Gen.NormGates.Frame
public import proofs.«01_k».proof.Proof.Gen.NormGatesIdeal
public import proofs.«01_k».proof.Proof.Gen.NormGatesIdeal.Skeleton
public import proofs.«01_k».proof.Proof.Gen.NormGatesIdeal.Launch
public import proofs.«01_k».proof.Proof.Gen.NormGatesIdeal.Points
public import proofs.«01_k».proof.Proof.Gen.NormGatesIdeal.Frame
public import proofs.«01_k».proof.Proof.Gen.NormGatesIdeal.Value
public import proofs.«01_k».proof.Proof.Gen.NormGatesReferenceIdeal
public import proofs.«01_k».proof.Proof.Gen.NormGatesReferenceIdeal.Run
public import proofs.«01_k».proof.Proof.Gen.FfnMid
public import proofs.«01_k».proof.Proof.Gen.FfnMid.Skeleton
public import proofs.«01_k».proof.Proof.Gen.FfnMid.Launch
public import proofs.«01_k».proof.Proof.Gen.FfnMid.Points
public import proofs.«01_k».proof.Proof.Gen.FfnMidIdeal
public import proofs.«01_k».proof.Proof.Gen.FfnMidIdeal.Skeleton
public import proofs.«01_k».proof.Proof.Gen.FfnMidIdeal.Launch
public import proofs.«01_k».proof.Proof.Gen.FfnMidIdeal.Points
public import proofs.«01_k».proof.Proof.Gen.FfnMidReferenceIdeal
public import proofs.«01_k».proof.Proof.Gen.FfnMidReferenceIdeal.Run
public import proofs.«01_k».proof.Proof.Gen.NormGatesPrompt
public import proofs.«01_k».proof.Proof.Gen.NormGatesPrompt.Skeleton
public import proofs.«01_k».proof.Proof.Gen.NormGatesPrompt.Launch
public import proofs.«01_k».proof.Proof.Gen.NormGatesPrompt.Points
public import proofs.«01_k».proof.Proof.Gen.NormGatesPromptIdeal
public import proofs.«01_k».proof.Proof.Gen.NormGatesPromptIdeal.Skeleton
public import proofs.«01_k».proof.Proof.Gen.NormGatesPromptIdeal.Launch
public import proofs.«01_k».proof.Proof.Gen.NormGatesPromptIdeal.Points
public import proofs.«01_k».proof.Proof.Gen.NormGatesPromptReferenceIdeal
public import proofs.«01_k».proof.Proof.Gen.NormGatesPromptReferenceIdeal.Run
public import proofs.«01_k».proof.Proof.M.Algebraic
public import proofs.«01_k».proof.Proof.M.InProj
public import proofs.«01_k».proof.Proof.M.InProjPrompt
public import proofs.«01_k».proof.Proof.M.Branches
public import proofs.«01_k».proof.Proof.M.OutProj
public import proofs.«01_k».proof.Proof.M.BranchesPrompt
public import proofs.«01_k».proof.Proof.M.OutProjPrompt
public import proofs.«01_k».proof.Proof.M.FfnMid
public import proofs.«01_k».proof.Proof.M.Ffn
public import proofs.«01_k».proof.Proof.M.FfnPrompt
public import proofs.«01_k».proof.Proof.M.Modulation
public import proofs.«01_k».proof.Proof.M.LowerBounds
public import proofs.«01_k».proof.Proof.M.NormGatesPrompt
public import proofs.«01_k».proof.Proof.M.NormGates

@[expose] public section

noncomputable section

namespace Cert.Proof

open Idealize.ShloMosaic Idealize.SL.Sem Cert.Kernel

/-- The reference runs and ends with its arguments unchanged; it has no semaphore. -/
theorem frameR : Cert.quiescent_ReferenceIdeal := by
  intro m g _
  refine (θ_run _ _ _).mono (fun r h => ⟨fun c => (h c).2.2.2.2, sem_eq_zero_of_no_sems (by decide) r.2⟩) (Cert.ReferenceIdeal.Value.run m g)

theorem claim : Cert.Claim := ⟨Cert.Kernel.Gen.facts, Cert.KernelIdeal.Gen.facts, Cert.ReferenceIdeal.Gen.facts,
  Cert.InProj.Gen.facts, Cert.InProjIdeal.Gen.facts, Cert.InProjReferenceIdeal.Gen.facts,
  Cert.InProjPrompt.Gen.facts, Cert.InProjPromptIdeal.Gen.facts, Cert.InProjPromptReferenceIdeal.Gen.facts,
  Cert.Branches.Gen.facts, Cert.BranchesIdeal.Gen.facts, Cert.BranchesReferenceIdeal.Gen.facts,
  Cert.OutProj.Gen.facts, Cert.OutProjIdeal.Gen.facts, Cert.OutProjReferenceIdeal.Gen.facts,
  Cert.BranchesPrompt.Gen.facts, Cert.BranchesPromptIdeal.Gen.facts, Cert.BranchesPromptReferenceIdeal.Gen.facts, Cert.OutProjPrompt.Gen.facts, Cert.OutProjPromptIdeal.Gen.facts, Cert.OutProjPromptReferenceIdeal.Gen.facts,
  Cert.FfnMid.Gen.facts, Cert.FfnMidIdeal.Gen.facts, Cert.FfnMidReferenceIdeal.Gen.facts,
  Cert.Ffn.Gen.facts, Cert.FfnIdeal.Gen.facts, Cert.FfnReferenceIdeal.Gen.facts,
  Cert.FfnPrompt.Gen.facts, Cert.FfnPromptIdeal.Gen.facts, Cert.FfnPromptReferenceIdeal.Gen.facts,
  Cert.Modulation.Gen.facts, Cert.ModulationIdeal.Gen.facts, Cert.ModulationReferenceIdeal.Gen.facts,
  Cert.LowerBounds.Gen.facts, Cert.LowerBoundsIdeal.Gen.facts, Cert.LowerBoundsReferenceIdeal.Gen.facts,
  Cert.NormGatesPrompt.Gen.facts, Cert.NormGatesPromptIdeal.Gen.facts, Cert.NormGatesPromptReferenceIdeal.Gen.facts,
  Cert.NormGates.Gen.facts, Cert.NormGatesIdeal.Gen.facts, Cert.NormGatesReferenceIdeal.Gen.facts,
  fun m ρ _ => Cert.Kernel.Gen.frame m ρ, fun m ρ _ => Cert.KernelIdeal.Gen.frame m ρ, frameR,
  fun m ρ _ => Cert.InProj.Gen.frame m ρ, fun m ρ _ => Cert.InProjIdeal.Gen.frame m ρ, Cert.M.In.frameR,
  fun m ρ _ => Cert.InProjPrompt.Gen.frame m ρ, fun m ρ _ => Cert.InProjPromptIdeal.Gen.frame m ρ, Cert.M.Pin.frameR,
  fun m ρ _ => Cert.Branches.Gen.frame m ρ, fun m ρ _ => Cert.BranchesIdeal.Gen.frame m ρ, Cert.M.Br.frameR,
  fun m ρ _ => Cert.OutProj.Gen.frame m ρ, fun m ρ _ => Cert.OutProjIdeal.Gen.frame m ρ, Cert.M.Out.frameR,
  fun m ρ _ => Cert.BranchesPrompt.Gen.frame m ρ, fun m ρ _ => Cert.BranchesPromptIdeal.Gen.frame m ρ, Cert.M.Bp.frameR,
  fun m ρ _ => Cert.OutProjPrompt.Gen.frame m ρ, fun m ρ _ => Cert.OutProjPromptIdeal.Gen.frame m ρ, Cert.M.Op.frameR,
  Cert.M.Ffm.frameK, Cert.M.Ffm.frameI, Cert.M.Ffm.frameR,
  Cert.M.Ffn.frameK, Cert.M.Ffn.frameI, Cert.M.Ffn.frameR,
  Cert.M.Fp.frameK, Cert.M.Fp.frameI, Cert.M.Fp.frameR,
  fun m ρ _ => Cert.Modulation.Gen.frame m ρ, fun m ρ _ => Cert.ModulationIdeal.Gen.frame m ρ, Cert.M.Mod.frameR,
  fun m ρ _ => Cert.LowerBounds.Gen.frame m ρ, fun m ρ _ => Cert.LowerBoundsIdeal.Gen.frame m ρ, Cert.M.Lb.frameR,
  Cert.M.Np.frameK, Cert.M.Np.frameI, Cert.M.Np.frameR,
  fun m ρ _ => Cert.NormGates.Gen.frame m ρ, fun m ρ _ => Cert.NormGatesIdeal.Gen.frame m ρ, Cert.M.Norm.frameR,
  trivial, Cert.M.algebraic,
  trivial, Cert.M.In.algebraic,
  trivial, Cert.M.Pin.algebraic,
  trivial, Cert.M.Br.algebraic,
  trivial, Cert.M.Out.algebraic, trivial, Cert.M.Bp.algebraic, trivial, Cert.M.Op.algebraic,
  trivial, Cert.M.Ffm.algebraic,
  trivial, Cert.M.Ffn.algebraic,
  trivial, Cert.M.Fp.algebraic,
  trivial, Cert.M.Mod.algebraic,
  trivial, Cert.M.Lb.algebraic,
  trivial, Cert.M.Np.algebraic,
  trivial, Cert.M.Norm.algebraic⟩

end Cert.Proof

end
